-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v127_0)) (v1 : (c : Dev Cert.KernelIdeal.nD) → Buf (Elt Ideal) ((c.tc : Thread Cert.KernelIdeal.nD Cert.KernelIdeal.τ).loc Cert.KernelIdeal.main_v127_1)) (v2 : (c : Dev Cert.KernelIdeal.nD) → Buf (Elt Ideal) ((c.tc : Thread Cert.KernelIdeal.nD Cert.KernelIdeal.τ).loc Cert.KernelIdeal.main_v127_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127_0) = v0 c
          ∧ r.2.mem ((c.tc : Thread Cert.KernelIdeal.nD Cert.KernelIdeal.τ).loc Cert.KernelIdeal.main_v127_1) = v1 c
          ∧ r.2.mem ((c.tc : Thread Cert.KernelIdeal.nD Cert.KernelIdeal.τ).loc Cert.KernelIdeal.main_v127_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_v205) = v1 c
          ∧ r.2.mem ((c.tc : Thread Cert.ReferenceIdeal.nD Cert.ReferenceIdeal.τ).loc Cert.ReferenceIdeal.main_v207) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_v38) = v2 c
          ∧ r.2.mem ((c.tc : Thread Cert.Reference2Ideal.nD Cert.Reference2Ideal.τ).loc Cert.Reference2Ideal.main_v43) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_v11) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_v10) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v11)) (v3 : (c : Dev Cert.Kernel5Ideal.nD) → Buf (Elt Ideal) ((c.tc : Thread Cert.Kernel5Ideal.nD Cert.Kernel5Ideal.τ).loc Cert.Kernel5Ideal.main_v10_3)) (v4 : (c : Dev Cert.Kernel5Ideal.nD) → Buf (Elt Ideal) ((c.tc : Thread Cert.Kernel5Ideal.nD Cert.Kernel5Ideal.τ).loc Cert.Kernel5Ideal.main_v10_4)) (v5 : (c : Dev Cert.Kernel5Ideal.nD) → Buf (Elt Ideal) ((c.tc : Thread Cert.Kernel5Ideal.nD Cert.Kernel5Ideal.τ).loc Cert.Kernel5Ideal.main_v10_5)) (v6 : (c : Dev Cert.Kernel5Ideal.nD) → Buf (Elt Ideal) ((c.tc : Thread Cert.Kernel5Ideal.nD Cert.Kernel5Ideal.τ).loc Cert.Kernel5Ideal.main_v10_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v11) = v2 c
          ∧ r.2.mem ((c.tc : Thread Cert.Kernel5Ideal.nD Cert.Kernel5Ideal.τ).loc Cert.Kernel5Ideal.main_v10_3) = v3 c
          ∧ r.2.mem ((c.tc : Thread Cert.Kernel5Ideal.nD Cert.Kernel5Ideal.τ).loc Cert.Kernel5Ideal.main_v10_4) = v4 c
          ∧ r.2.mem ((c.tc : Thread Cert.Kernel5Ideal.nD Cert.Kernel5Ideal.τ).loc Cert.Kernel5Ideal.main_v10_5) = v5 c
          ∧ r.2.mem ((c.tc : Thread Cert.Kernel5Ideal.nD Cert.Kernel5Ideal.τ).loc Cert.Kernel5Ideal.main_v10_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v57) = v0 c
          ∧ r.2.mem ((c.tc : Thread Cert.Reference5Ideal.nD Cert.Reference5Ideal.τ).loc Cert.Reference5Ideal.main_v46) = v1 c
          ∧ r.2.mem ((c.tc : Thread Cert.Reference5Ideal.nD Cert.Reference5Ideal.τ).loc Cert.Reference5Ideal.main_v69) = v2 c
          ∧ r.2.mem ((c.tc : Thread Cert.Reference5Ideal.nD Cert.Reference5Ideal.τ).loc Cert.Reference5Ideal.main_v70) = v3 c
          ∧ r.2.mem ((c.tc : Thread Cert.Reference5Ideal.nD Cert.Reference5Ideal.τ).loc Cert.Reference5Ideal.main_v67) = v4 c
          ∧ r.2.mem ((c.tc : Thread Cert.Reference5Ideal.nD Cert.Reference5Ideal.τ).loc Cert.Reference5Ideal.main_v71) = v5 c
          ∧ r.2.mem ((c.tc : Thread Cert.Reference5Ideal.nD Cert.Reference5Ideal.τ).loc Cert.Reference5Ideal.main_v53) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)) (v3 : (c : Dev Cert.Kernel7Ideal.nD) → Buf (Elt Ideal) ((c.tc : Thread Cert.Kernel7Ideal.nD Cert.Kernel7Ideal.τ).loc Cert.Kernel7Ideal.main_v1_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_v1_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v26) = v1 c
          ∧ r.2.mem ((c.tc : Thread Cert.Reference7Ideal.nD Cert.Reference7Ideal.τ).loc Cert.Reference7Ideal.main_v7) = v2 c
          ∧ r.2.mem ((c.tc : Thread Cert.Reference7Ideal.nD Cert.Reference7Ideal.τ).loc Cert.Reference7Ideal.main_v13) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v6) = v2 c
          ∧ r.2.mem ((c.tc : Thread Cert.Reference8Ideal.nD Cert.Reference8Ideal.τ).loc Cert.Reference8Ideal.main_v12) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v6) = v2 c
          ∧ r.2.mem ((c.tc : Thread Cert.Reference9Ideal.nD Cert.Reference9Ideal.τ).loc Cert.Reference9Ideal.main_v12) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v6) = v2 c
          ∧ r.2.mem ((c.tc : Thread Cert.Reference10Ideal.nD Cert.Reference10Ideal.τ).loc Cert.Reference10Ideal.main_v12) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_v5) = v2 c
          ∧ r.2.mem ((c.tc : Thread Cert.Reference11Ideal.nD Cert.Reference11Ideal.τ).loc Cert.Reference11Ideal.main_v11) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v24) = v1 c
          ∧ r.2.mem ((c.tc : Thread Cert.Reference12Ideal.nD Cert.Reference12Ideal.τ).loc Cert.Reference12Ideal.main_v5) = v2 c
          ∧ r.2.mem ((c.tc : Thread Cert.Reference12Ideal.nD Cert.Reference12Ideal.τ).loc Cert.Reference12Ideal.main_v11) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v24) = v1 c
          ∧ r.2.mem ((c.tc : Thread Cert.Reference13Ideal.nD Cert.Reference13Ideal.τ).loc Cert.Reference13Ideal.main_v5) = v2 c
          ∧ r.2.mem ((c.tc : Thread Cert.Reference13Ideal.nD Cert.Reference13Ideal.τ).loc Cert.Reference13Ideal.main_v11) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_v5) = v2 c
          ∧ r.2.mem ((c.tc : Thread Cert.Reference14Ideal.nD Cert.Reference14Ideal.τ).loc Cert.Reference14Ideal.main_v11) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_v24) = v1 c
          ∧ r.2.mem ((c.tc : Thread Cert.Reference15Ideal.nD Cert.Reference15Ideal.τ).loc Cert.Reference15Ideal.main_v5) = v2 c
          ∧ r.2.mem ((c.tc : Thread Cert.Reference15Ideal.nD Cert.Reference15Ideal.τ).loc Cert.Reference15Ideal.main_v11) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_v5) = v2 c
          ∧ r.2.mem ((c.tc : Thread Cert.Reference16Ideal.nD Cert.Reference16Ideal.τ).loc Cert.Reference16Ideal.main_v11) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S4096x4608 : Shape := ⟨2, ![4096, 4608]⟩
abbrev S16x256x8x64 : Shape := ⟨4, ![16, 256, 8, 64]⟩
abbrev S16x256x8 : Shape := ⟨3, ![16, 256, 8]⟩
abbrev S32x24 : Shape := ⟨2, ![32, 24]⟩
abbrev S4096x512 : Shape := ⟨2, ![4096, 512]⟩
abbrev S4096x1536 : Shape := ⟨2, ![4096, 1536]⟩
abbrev S_ : Shape := ⟨0, ![]⟩
abbrev S32x8 : Shape := ⟨2, ![32, 8]⟩

class Facts : Prop where
  slices_S4096x4608_S4096x1536_0_3072 : S4096x4608.Slices ![0, 3072] S4096x1536
  bitsLt_bf16_f32 : FTy.bits .bf16 < FTy.bits .f32
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S16x256x8x64 : S_.BroadcastsInDim S16x256x8x64 (![] : Fin 0 → Fin S16x256x8x64.rank)
  reducesTo_S16x256x8x64_S_d0_1_2_3 : S16x256x8x64.ReducesTo [0, 1, 2, 3] S_
  bcast_S_S16x256x8 : S_.BroadcastsInDim S16x256x8 (![] : Fin 0 → Fin S16x256x8.rank)
  reducesTo_S16x256x8_S_d0_1_2 : S16x256x8.ReducesTo [0, 1, 2] S_
  slices_S32x24_S32x8_0_16 : S32x24.Slices ![0, 16] S32x8
  bcast_S_S32x8 : S_.BroadcastsInDim S32x8 (![] : Fin 0 → Fin S32x8.rank)
  reducesTo_S32x8_S_d0_1 : S32x8.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn_part2 {F : FTy → Type} [FloatOps F] (main_v31 : IVec S_ 1) (main_v33 : FVec F S4096x512 .f32) (main_v34 : FVec F S4096x512 .f32) : IVec S_ 1 :=
  let main_v35 : IVec S4096x512 1 := cmpf .olt main_v33 main_v34
  let main_c_11 : IVec S_ 1 := constantI S_ 1 1#1
  let main_v36 : IVec S_ 1 := (fun x v => Host.reduce IntOp.andi x v reducesTo_S4096x512_S_d0_1 h_S_) main_v35 main_c_11
  let main_v37 : IVec S_ 1 := andi main_v31 main_v36
  main_v37

def fn_part1 {F : FTy → Type} [FloatOps F] (main_arg4 : FVec F S16x256x8 .f32) (main_arg5 : FVec F S32x24 .f32) (main_arg6 : FVec F S4096x512 .bf16) (main_v15 : IVec S_ 1) (main_v16 : FVec F S16x256x8 .f32) (main_cst_4 : FVec F S_ .f32) : IVec S_ 1 :=
  let main_v17 : FVec F S16x256x8 .f32 := broadcastInDim S16x256x8 ![] bcast_S_S16x256x8 main_cst_4
  let main_v18 : IVec S16x256x8 1 := cmpf .olt main_v16 main_v17
  let main_c_5 : IVec S_ 1 := constantI S_ 1 1#1
  let main_v19 : IVec S_ 1 := (fun x v => Host.reduce IntOp.andi x v reducesTo_S16x256x8_S_d0_1_2 h_S_) main_v18 main_c_5
  let main_v20 : IVec S_ 1 := andi main_v15 main_v19
  let main_v21 : FVec F S16x256x8 .f32 := Host.absf main_arg4
  let main_cst_6 : FVec F S_ .f32 := constant S_ .f32 0x7F800000#32
  let main_v22 : FVec F S16x256x8 .f32 := broadcastInDim S16x256x8 ![] bcast_S_S16x256x8 main_cst_6
  let main_v23 : IVec S16x256x8 1 := cmpf .olt main_v21 main_v22
  let main_c_7 : IVec S_ 1 := constantI S_ 1 1#1
  let main_v24 : IVec S_ 1 := (fun x v => Host.reduce IntOp.andi x v reducesTo_S16x256x8_S_d0_1_2 h_S_) main_v23 main_c_7
  let main_v25 : IVec S_ 1 := andi main_v20 main_v24
  let main_v26 : FVec F S32x8 .f32 := (extractStridedSlice S32x8 ![0, 16] · slices_S32x24_S32x8_0_16) main_arg5
  let main_v27 : FVec F S32x8 .f32 := Host.absf main_v26
  let main_cst_8 : FVec F S_ .f32 := constant S_ .f32 0x7F800000#32
  let main_v28 : FVec F S32x8 .f32 := broadcastInDim S32x8 ![] bcast_S_S32x8 main_cst_8
  let main_v29 : IVec S32x8 1 := cmpf .olt main_v27 main_v28
  let main_c_9 : IVec S_ 1 := constantI S_ 1 1#1
  let main_v30 : IVec S_ 1 := (fun x v => Host.reduce IntOp.andi x v reducesTo_S32x8_S_d0_1 h_S_) main_v29 main_c_9
  let main_v31 : IVec S_ 1 := andi main_v25 main_v30
  let main_v32 : FVec F S4096x512 .f32 := (extf .f32 · bitsLt_bf16_f32) main_arg6
  let main_v33 : FVec F S4096x512 .f32 := Host.absf main_v32
  let main_cst_10 : FVec F S_ .f32 := constant S_ .f32 0x7F800000#32
  let main_v34 : FVec F S4096x512 .f32 := broadcastInDim S4096x512 ![] bcast_S_S4096x512 main_cst_10
  fn_part2 (F := F) main_v31 main_v33 main_v34

def fn {F : FTy → Type} [FloatOps F] (main_arg0 : FVec F S4096x4608 .bf16) (main_arg1 : FVec F S16x256x8x64 .f32) (main_arg2 : FVec F S16x256x8x64 .f32) (main_arg3 : FVec F S16x256x8 .f32) (main_arg4 : FVec F S16x256x8 .f32) (main_arg5 : FVec F S32x24 .f32) (main_arg6 : FVec F S4096x512 .bf16) (main_arg7 : FVec F S4096x4608 .bf16) : IVec S_ 1 :=
  let main_v0 : FVec F S4096x1536 .bf16 := (extractStridedSlice S4096x1536 ![0, 3072] · slices_S4096x4608_S4096x1536_0_3072) main_arg0
  let main_v1 : FVec F S4096x1536 .f32 := (extf .f32 · bitsLt_bf16_f32) main_v0
  let main_v2 : FVec F S4096x1536 .f32 := Host.absf main_v1
  let main_cst : FVec F S_ .f32 := constant S_ .f32 0x7F800000#32
  let main_v3 : FVec F S4096x1536 .f32 := broadcastInDim S4096x1536 ![] bcast_S_S4096x1536 main_cst
  let main_v4 : IVec S4096x1536 1 := cmpf .olt main_v2 main_v3
  let main_c : IVec S_ 1 := constantI S_ 1 1#1
  let main_v5 : IVec S_ 1 := (fun x v => Host.reduce IntOp.andi x v reducesTo_S4096x1536_S_d0_1 h_S_) main_v4 main_c
  let main_v6 : FVec F S16x256x8x64 .f32 := Host.absf main_arg1
  let main_cst_0 : FVec F S_ .f32 := constant S_ .f32 0x7F800000#32
  let main_v7 : FVec F S16x256x8x64 .f32 := broadcastInDim S16x256x8x64 ![] bcast_S_S16x256x8x64 main_cst_0
  let main_v8 : IVec S16x256x8x64 1 := cmpf .olt main_v6 main_v7
  let main_c_1 : IVec S_ 1 := constantI S_ 1 1#1
  let main_v9 : IVec S_ 1 := (fun x v => Host.reduce IntOp.andi x v reducesTo_S16x256x8x64_S_d0_1_2_3 h_S_) main_v8 main_c_1
  let main_v10 : IVec S_ 1 := andi main_v5 main_v9
  let main_v11 : FVec F S16x256x8x64 .f32 := Host.absf main_arg2
  let main_cst_2 : FVec F S_ .f32 := constant S_ .f32 0x7F800000#32
  let main_v12 : FVec F S16x256x8x64 .f32 := broadcastInDim S16x256x8x64 ![] bcast_S_S16x256x8x64 main_cst_2
  let main_v13 : IVec S16x256x8x64 1 := cmpf .olt main_v11 main_v12
  let main_c_3 : IVec S_ 1 := constantI S_ 1 1#1
  let main_v14 : IVec S_ 1 := (fun x v => Host.reduce IntOp.andi x v reducesTo_S16x256x8x64_S_d0_1_2_3 h_S_) main_v13 main_c_3
  let main_v15 : IVec S_ 1 := andi main_v10 main_v14
  let main_v16 : FVec F S16x256x8 .f32 := Host.absf main_arg3
  let main_cst_4 : FVec F S_ .f32 := constant S_ .f32 0x7F800000#32
  fn_part1 (F := F) main_arg4 main_arg5 main_arg6 main_v15 main_v16 main_cst_4
-- ==== Pre_finite5.lean ====
abbrev S4096x1024 : Shape := ⟨2, ![4096, 1024]⟩
abbrev S1024x1024 : Shape := ⟨2, ![1024, 1024]⟩
abbrev S512x1024 : Shape := ⟨2, ![512, 1024]⟩
abbrev S4096x3584 : Shape := ⟨2, ![4096, 3584]⟩
abbrev S4096x512 : Shape := ⟨2, ![4096, 512]⟩
abbrev S1x512 : Shape := ⟨2, ![1, 512]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S4096x512 : S_.BroadcastsInDim S4096x512 (![] : Fin 0 → Fin S4096x512.rank)
  reducesTo_S4096x512_S_d0_1 : S4096x512.ReducesTo [0, 1] S_
  bcast_S_S1x512 : S_.BroadcastsInDim S1x512 (![] : Fin 0 → Fin S1x512.rank)
  reducesTo_S1x512_S_d0_1 : S1x512.ReducesTo [0, 1] S_

variable [Facts]

def fn_part2 {F : FTy → Type} [FloatOps F] (main_v32 : IVec S_ 1) (main_v33 : FVec F S1x512 .f32) (main_v34 : FVec F S1x512 .f32) : IVec S_ 1 :=
  let main_v35 : IVec S1x512 1 := cmpf .olt main_v33 main_v34
  let main_c_11 : IVec S_ 1 := constantI S_ 1 1#1
  let main_v36 : IVec S_ 1 := (fun x v => Host.reduce IntOp.andi x v reducesTo_S1x512_S_d0_1 h_S_) main_v35 main_c_11
  let main_v37 : IVec S_ 1 := andi main_v32 main_v36
  main_v37

def fn_part1 {F : FTy → Type} [FloatOps F] (main_arg5 : FVec F S4096x512 .f32) (main_arg6 : FVec F S4096x512 .f32) (main_arg7 : FVec F S1x512 .f32) (main_v16 : IVec S_ 1) (main_v17 : FVec F S512x1024 .f32) : IVec S_ 1 :=
  let main_v18 : FVec F S512x1024 .f32 := Host.absf main_v17
  let main_cst_4 : FVec F S_ .f32 := constant S_ .f32 0x7F800000#32
  let main_v19 : FVec F S512x1024 .f32 := broadcastInDim S512x1024 ![] bcast_S_S512x1024 main_cst_4
  let main_v20 : IVec S512x1024 1 := cmpf .olt main_v18 main_v19
  let main_c_5 : IVec S_ 1 := constantI S_ 1 1#1
  let main_v21 : IVec S_ 1 := (fun x v => Host.reduce IntOp.andi x v reducesTo_S512x1024_S_d0_1 h_S_) main_v20 main_c_5
  let main_v22 : IVec S_ 1 := andi main_v16 main_v21
  let main_v23 : FVec F S4096x512 .f32 := Host.absf main_arg5
  let main_cst_6 : FVec F S_ .f32 := constant S_ .f32 0x7F800000#32
  let main_v24 : FVec F S4096x512 .f32 := broadcastInDim S4096x512 ![] bcast_S_S4096x512 main_cst_6
  let main_v25 : IVec S4096x512 1 := cmpf .olt main_v23 main_v24
  let main_c_7 : IVec S_ 1 := constantI S_ 1 1#1
  let main_v26 : IVec S_ 1 := (fun x v => Host.reduce IntOp.andi x v reducesTo_S4096x512_S_d0_1 h_S_) main_v25 main_c_7
  let main_v27 : IVec S_ 1 := andi main_v22 main_v26
  let main_v28 : FVec F S4096x512 .f32 := Host.absf main_arg6
  let main_cst_8 : FVec F S_ .f32 := constant S_ .f32 0x7F800000#32
  let main_v29 : FVec F S4096x512 .f32 := broadcastInDim S4096x512 ![] bcast_S_S4096x512 main_cst_8
  let main_v30 : IVec S4096x512 1 := cmpf .olt main_v28 main_v29
  let main_c_9 : IVec S_ 1 := constantI S_ 1 1#1
  let main_v31 : IVec S_ 1 := (fun x v => Host.reduce IntOp.andi x v reducesTo_S4096x512_S_d0_1 h_S_) main_v30 main_c_9
  let main_v32 : IVec S_ 1 := andi main_v27 main_v31
  let main_v33 : FVec F S1x512 .f32 := Host.absf main_arg7
  let main_cst_10 : FVec F S_ .f32 := constant S_ .f32 0x7F800000#32
  let main_v34 : FVec F S1x512 .f32 := broadcastInDim S1x512 ![] bcast_S_S1x512 main_cst_10
  fn_part2 (F := F) main_v32 main_v33 main_v34

def fn {F : FTy → Type} [FloatOps F] (main_arg0 : FVec F S4096x1024 .bf16) (main_arg1 : FVec F S1024x1024 .bf16) (main_arg2 : FVec F S512x1024 .bf16) (main_arg3 : FVec F S512x1024 .bf16) (main_arg4 : FVec F S4096x3584 .f32) (main_arg5 : FVec F S4096x512 .f32) (main_arg6 : FVec F S4096x512 .f32) (main_arg7 : FVec F S1x512 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S512x1024 .f32 := (extf .f32 · bitsLt_bf16_f32) main_arg2
  let main_v12 : FVec F S512x1024 .f32 := Host.absf main_v11
  let main_cst_2 : FVec F S_ .f32 := constant S_ .f32 0x7F800000#32
  let main_v13 : FVec F S512x1024 .f32 := broadcastInDim S512x1024 ![] bcast_S_S512x1024 main_cst_2
  let main_v14 : IVec S512x1024 1 := cmpf .olt main_v12 main_v13
  let main_c_3 : IVec S_ 1 := constantI S_ 1 1#1
  let main_v15 : IVec S_ 1 := (fun x v => Host.reduce IntOp.andi x v reducesTo_S512x1024_S_d0_1 h_S_) main_v14 main_c_3
  let main_v16 : IVec S_ 1 := andi main_v10 main_v15
  let main_v17 : FVec F S512x1024 .f32 := (extf .f32 · bitsLt_bf16_f32) main_arg3
  fn_part1 (F := F) main_arg5 main_arg6 main_arg7 main_v16 main_v17
-- ==== Kernel.lean ====
abbrev S4096x4608 : Shape := ⟨2, ![4096, 4608]⟩
abbrev S16x256x8x64 : Shape := ⟨4, ![16, 256, 8, 64]⟩
abbrev S16x256x8 : Shape := ⟨3, ![16, 256, 8]⟩
abbrev S32x24 : Shape := ⟨2, ![32, 24]⟩
abbrev S4096x512 : Shape := ⟨2, ![4096, 512]⟩
abbrev S256x256 : Shape := ⟨2, ![256, 256]⟩
abbrev S_ : Shape := ⟨0, ![]⟩
abbrev S32x8 : Shape := ⟨2, ![32, 8]⟩
abbrev S256x256x1 : Shape := ⟨3, ![256, 256, 1]⟩
abbrev S256x256x8 : Shape := ⟨3, ![256, 256, 8]⟩
abbrev S8x256x256 : Shape := ⟨3, ![8, 256, 256]⟩
abbrev S16x8x256x256 : Shape := ⟨4, ![16, 8, 256, 256]⟩
abbrev S1x1x256x256 : Shape := ⟨4, ![1, 1, 256, 256]⟩
abbrev S1x8x256x256 : Shape := ⟨4, ![1, 8, 256, 256]⟩
abbrev S16x8x256 : Shape := ⟨3, ![16, 8, 256]⟩
abbrev S16x8x256x1 : Shape := ⟨4, ![16, 8, 256, 1]⟩
abbrev S16x8x64x256 : Shape := ⟨4, ![16, 8, 64, 256]⟩
abbrev S16x256x8x1 : Shape := ⟨4, ![16, 256, 8, 1]⟩
abbrev S1x16x256x8 : Shape := ⟨4, ![1, 16, 256, 8]⟩
abbrev S3x16x256x8 : Shape := ⟨4, ![3, 16, 256, 8]⟩
abbrev S3x16x256x8x1 : Shape := ⟨5, ![3, 16, 256, 8, 1]⟩
abbrev S1x16x256x8x64 : Shape := ⟨5, ![1, 16, 256, 8, 64]⟩
abbrev S3x16x256x8x64 : Shape := ⟨5, ![3, 16, 256, 8, 64]⟩
abbrev S1x256x256 : Shape := ⟨3, ![1, 256, 256]⟩
abbrev S8x128x256 : Shape := ⟨3, ![8, 128, 256]⟩
abbrev S16x256x4608 : Shape := ⟨3, ![16, 256, 4608]⟩
abbrev S16x256x512 : Shape := ⟨3, ![16, 256, 512]⟩
abbrev S4x256x256 : Shape := ⟨3, ![4, 256, 256]⟩
abbrev S1x256x512 : Shape := ⟨3, ![1, 256, 512]⟩
abbrev S1x256x1536 : Shape := ⟨3, ![1, 256, 1536]⟩
abbrev S256x512 : Shape := ⟨2, ![256, 512]⟩
abbrev S128x512 : Shape := ⟨2, ![128, 512]⟩
abbrev S1x128 : Shape := ⟨2, ![1, 128]⟩
abbrev S128x128 : Shape := ⟨2, ![128, 128]⟩
abbrev S256x128 : Shape := ⟨2, ![256, 128]⟩
abbrev S128x1 : Shape := ⟨2, ![128, 1]⟩
abbrev S256x1 : Shape := ⟨2, ![256, 1]⟩
abbrev S1x256x128 : Shape := ⟨3, ![1, 256, 128]⟩

abbrev nBuf : Space → Nat
  | .hbm => 173
  | .vmem => 18
  | .smem => 0
  | _ => 0

abbrev hbmTy0_0 (i : Nat) : BufTy := match i % 128 with
  | 0 => ⟨S4096x4608, .bf16⟩
  | 1 => ⟨S16x256x8x64, .f32⟩
  | 2 => ⟨S16x256x8x64, .f32⟩
  | 3 => ⟨S16x256x8, .f32⟩
  | 4 => ⟨S16x256x8, .f32⟩
  | 5 => ⟨S32x24, .f32⟩
  | 6 => ⟨S4096x512, .bf16⟩
  | 7 => ⟨S4096x4608, .bf16⟩
  | 8 => ⟨S256x256, .i32⟩
  | 9 => ⟨S256x256, .i32⟩
  | 10 => ⟨S256x256, .i32⟩
  | 11 => ⟨S_, .i32⟩
  | 12 => ⟨S256x256, .i32⟩
  | 13 => ⟨S256x256, .i1⟩
  | 14 => ⟨S_, .i32⟩
  | 15 => ⟨S256x256, .i32⟩
  | 16 => ⟨S256x256, .i1⟩
  | 17 => ⟨S256x256, .i1⟩
  | 18 => ⟨S_, .i32⟩
  | 19 => ⟨S_, .i32⟩
  | 20 => ⟨S_, .i32⟩
  | 21 => ⟨S256x256, .i32⟩
  | 22 => ⟨S256x256, .i32⟩
  | 23 => ⟨S_, .i32⟩
  | 24 => ⟨S256x256, .i32⟩
  | 25 => ⟨S256x256, .i32⟩
  | 26 => ⟨S_, .i32⟩
  | 27 => ⟨S256x256, .i32⟩
  | 28 => ⟨S256x256, .i32⟩
  | 29 => ⟨S_, .i32⟩
  | 30 => ⟨S256x256, .i32⟩
  | 31 => ⟨S256x256, .i32⟩
  | 32 => ⟨S256x256, .f32⟩
  | 33 => ⟨S_, .f32⟩
  | 34 => ⟨S256x256, .f32⟩
  | 35 => ⟨S256x256, .f32⟩
  | 36 => ⟨S256x256, .f32⟩
  | 37 => ⟨S_, .f32⟩
  | 38 => ⟨S256x256, .f32⟩
  | 39 => ⟨S256x256, .f32⟩
  | 40 => ⟨S_, .f32⟩
  | 41 => ⟨S256x256, .f32⟩
  | 42 => ⟨S256x256, .f32⟩
  | 43 => ⟨S256x256, .i32⟩
  | 44 => ⟨S_, .i32⟩
  | 45 => ⟨S256x256, .i32⟩
  | 46 => ⟨S256x256, .i32⟩
  | 47 => ⟨S_, .i32⟩
  | 48 => ⟨S256x256, .i32⟩
  | 49 => ⟨S256x256, .i32⟩
  | 50 => ⟨S_, .i32⟩
  | 51 => ⟨S256x256, .i32⟩
  | 52 => ⟨S256x256, .i1⟩
  | 53 => ⟨S256x256, .i32⟩
  | 54 => ⟨S32x8, .f32⟩
  | 55 => ⟨S_, .i32⟩
  | 56 => ⟨S256x256, .i32⟩
  | 57 => ⟨S256x256, .i1⟩
  | 58 => ⟨S_, .i32⟩
  | 59 => ⟨S256x256, .i32⟩
  | 60 => ⟨S256x256, .i32⟩
  | 61 => ⟨S256x256, .i32⟩
  | 62 => ⟨S256x256x1, .i32⟩
  | 63 => ⟨S256x256x8, .f32⟩
  | 64 => ⟨S8x256x256, .f32⟩
  | 65 => ⟨S4096x512, .bf16⟩
  | 66 => ⟨S4096x512, .f32⟩
  | 67 => ⟨S16x256x8x64, .f32⟩
  | 68 => ⟨S4096x512, .bf16⟩
  | 69 => ⟨S4096x512, .f32⟩
  | 70 => ⟨S16x256x8x64, .f32⟩
  | 71 => ⟨S4096x512, .bf16⟩
  | 72 => ⟨S4096x512, .f32⟩
  | 73 => ⟨S16x256x8x64, .f32⟩
  | 74 => ⟨S16x8x256x256, .f32⟩
  | 75 => ⟨S_, .f32⟩
  | 76 => ⟨S16x8x256x256, .f32⟩
  | 77 => ⟨S16x8x256x256, .f32⟩
  | 78 => ⟨S1x1x256x256, .i1⟩
  | 79 => ⟨S1x8x256x256, .f32⟩
  | 80 => ⟨S16x8x256x256, .f32⟩
  | 81 => ⟨S16x8x256x256, .f32⟩
  | 82 => ⟨S_, .f32⟩
  | 83 => ⟨S_, .f32⟩
  | 84 => ⟨S16x8x256x256, .i1⟩
  | 85 => ⟨S16x8x256x256, .f32⟩
  | 86 => ⟨S16x8x256x256, .f32⟩
  | 87 => ⟨S_, .f32⟩
  | 88 => ⟨S16x8x256, .f32⟩
  | 89 => ⟨S16x8x256x1, .f32⟩
  | 90 => ⟨S16x8x256x256, .f32⟩
  | 91 => ⟨S16x8x256x256, .f32⟩
  | 92 => ⟨S16x8x256x256, .f32⟩
  | 93 => ⟨S_, .f32⟩
  | 94 => ⟨S16x8x256, .f32⟩
  | 95 => ⟨S16x8x64x256, .f32⟩
  | 96 => ⟨S16x256x8x64, .f32⟩
  | 97 => ⟨S16x256x8, .f32⟩
  | 98 => ⟨S16x256x8x1, .f32⟩
  | 99 => ⟨S16x256x8x64, .f32⟩
  | 100 => ⟨S16x256x8x64, .f32⟩
  | 101 => ⟨S16x8x256, .f32⟩
  | 102 => ⟨S16x8x256, .f32⟩
  | 103 => ⟨S16x8x256, .f32⟩
  | 104 => ⟨S16x256x8, .f32⟩
  | 105 => ⟨S1x16x256x8, .f32⟩
  | 106 => ⟨S1x16x256x8, .f32⟩
  | 107 => ⟨S1x16x256x8, .f32⟩
  | 108 => ⟨S3x16x256x8, .f32⟩
  | 109 => ⟨S_, .f32⟩
  | 110 => ⟨S16x256x8, .f32⟩
  | 111 => ⟨S_, .f32⟩
  | 112 => ⟨S16x256x8, .f32⟩
  | 113 => ⟨S16x256x8, .f32⟩
  | 114 => ⟨S1x16x256x8, .f32⟩
  | 115 => ⟨S3x16x256x8, .f32⟩
  | 116 => ⟨S3x16x256x8, .f32⟩
  | 117 => ⟨S3x16x256x8, .f32⟩
  | 118 => ⟨S_, .f32⟩
  | 119 => ⟨S16x256x8, .f32⟩
  | 120 => ⟨S1x16x256x8, .f32⟩
  | 121 => ⟨S3x16x256x8, .f32⟩
  | 122 => ⟨S3x16x256x8, .f32⟩
  | 123 => ⟨S3x16x256x8x1, .f32⟩
  | 124 => ⟨S1x16x256x8x64, .f32⟩
  | 125 => ⟨S1x16x256x8x64, .f32⟩
  | 126 => ⟨S1x16x256x8x64, .f32⟩
  | 127 => ⟨S3x16x256x8x64, .f32⟩
  | _ => ⟨S4096x4608, .bf16⟩

abbrev hbmTy0_1 (i : Nat) : BufTy := match i % 128 with
  | 0 => ⟨S3x16x256x8x64, .f32⟩
  | 1 => ⟨S3x16x256x8x64, .f32⟩
  | 2 => ⟨S_, .f32⟩
  | 3 => ⟨S16x256x8x64, .f32⟩
  | 4 => ⟨S16x256x8, .f32⟩
  | 5 => ⟨S16x256x8, .f32⟩
  | 6 => ⟨S16x256x8, .f32⟩
  | 7 => ⟨S16x256x8, .f32⟩
  | 8 => ⟨S16x256x8, .f32⟩
  | 9 => ⟨S16x256x8, .f32⟩
  | 10 => ⟨S16x256x8, .f32⟩
  | 11 => ⟨S16x256x8, .f32⟩
  | 12 => ⟨S16x256x8, .f32⟩
  | 13 => ⟨S16x256x8, .f32⟩
  | 14 => ⟨S16x256x8, .f32⟩
  | 15 => ⟨S16x256x8, .f32⟩
  | 16 => ⟨S16x256x8x1, .f32⟩
  | 17 => ⟨S16x256x8x64, .f32⟩
  | 18 => ⟨S4096x512, .f32⟩
  | 19 => ⟨S4096x512, .f32⟩
  | 20 => ⟨S16x256x8x64, .f32⟩
  | 21 => ⟨S16x256x8x64, .f32⟩
  | 22 => ⟨S_, .f32⟩
  | 23 => ⟨S16x256x8, .f32⟩
  | 24 => ⟨S16x256x8x1, .f32⟩
  | 25 => ⟨S16x256x8x64, .f32⟩
  | 26 => ⟨S4096x512, .f32⟩
  | 27 => ⟨S1x256x256, .i1⟩
  | 28 => ⟨S_, .f32⟩
  | 29 => ⟨S_, .f32⟩
  | 30 => ⟨S8x256x256, .i1⟩
  | 31 => ⟨S8x256x256, .f32⟩
  | 32 => ⟨S8x256x256, .f32⟩
  | 33 => ⟨S8x128x256, .f32⟩
  | 34 => ⟨S8x128x256, .f32⟩
  | 35 => ⟨S16x256x4608, .bf16⟩
  | 36 => ⟨S16x256x512, .bf16⟩
  | 37 => ⟨S16x256x512, .f32⟩
  | 38 => ⟨S16x256x512, .f32⟩
  | 39 => ⟨S4x256x256, .f32⟩
  | 40 => ⟨S4x256x256, .f32⟩
  | 41 => ⟨S16x256x4608, .bf16⟩
  | 42 => ⟨S16x256x4608, .bf16⟩
  | 43 => ⟨S4x256x256, .f32⟩
  | 44 => ⟨S4x256x256, .f32⟩
  | _ => ⟨S4096x4608, .bf16⟩

abbrev hbmTy (i : Nat) : BufTy := match i / 128 with
  | 0 => hbmTy0_0 i
  | 1 => hbmTy0_1 i
  | _ => ⟨S4096x4608, .bf16⟩

abbrev bufTy : (tb : Table) → Fin (tcTables nBuf tb) → BufTy
  | .hbm, ⟨i, _⟩ => hbmTy i
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S4x256x256, .f32⟩
  | .local _ .vmem, ⟨13, _⟩ => ⟨S4x256x256, .f32⟩
  | .local _ .vmem, ⟨14, _⟩ => ⟨S1x256x1536, .bf16⟩
  | .local _ .vmem, ⟨15, _⟩ => ⟨S1x256x1536, .bf16⟩
  | .local _ .vmem, ⟨16, _⟩ => ⟨S4x256x256, .f32⟩
  | .local _ .vmem, ⟨17, _⟩ => ⟨S4x256x256, .f32⟩
  | _, _ => ⟨S4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v8 : Ref sig .tc := ⟨.hbm, 25, rfl⟩
abbrev main_c_3 : Ref sig .tc := ⟨.hbm, 26, rfl⟩
abbrev main_v9 : Ref sig .tc := ⟨.hbm, 27, rfl⟩
abbrev main_v10 : Ref sig .tc := ⟨.hbm, 28, rfl⟩
abbrev main_c_4 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_5 : Ref sig .tc := ⟨.hbm, 37, rfl⟩
abbrev main_v17 : Ref sig .tc := ⟨.hbm, 38, rfl⟩
abbrev main_v18 : Ref sig .tc := ⟨.hbm, 39, rfl⟩
abbrev main_cst_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_7 : Ref sig .tc := ⟨.hbm, 44, rfl⟩
abbrev main_v22 : Ref sig .tc := ⟨.hbm, 45, rfl⟩
abbrev main_v23 : Ref sig .tc := ⟨.hbm, 46, rfl⟩
abbrev main_c_8 : Ref sig .tc := ⟨.hbm, 47, rfl⟩
abbrev main_v24 : Ref sig .tc := ⟨.hbm, 48, rfl⟩
abbrev main_v25 : Ref sig .tc := ⟨.hbm, 49, rfl⟩
abbrev main_c_9 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_10 : Ref sig .tc := ⟨.hbm, 55, rfl⟩
abbrev main_v30 : Ref sig .tc := ⟨.hbm, 56, rfl⟩
abbrev main_v31 : Ref sig .tc := ⟨.hbm, 57, rfl⟩
abbrev main_c_11 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_12 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_13 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v54 : Ref sig .tc := ⟨.hbm, 86, rfl⟩
abbrev main_cst_14 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_15 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_16 : Ref sig .tc := ⟨.hbm, 109, rfl⟩
abbrev main_v75 : Ref sig .tc := ⟨.hbm, 110, rfl⟩
abbrev main_cst_17 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_18 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_19 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_20 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_21 : Ref sig .tc := ⟨.hbm, 156, rfl⟩
abbrev main_call3_v0 : Ref sig .tc := ⟨.hbm, 157, rfl⟩
abbrev main_call3_v1 : Ref sig .tc := ⟨.hbm, 158, rfl⟩
abbrev main_call3_v2 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127_0 : Ref sig .tc := ⟨.hbm, 170, rfl⟩
abbrev main_v127_1 : Ref sig .tc := ⟨.hbm, 171, rfl⟩
abbrev main_v127_2 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c6_i32 : BitVec 32 := 6#32
  let c0_i32_0 : BitVec 32 := 0#32
  ![arg0.toNat, c0_i32.toNat, c6_i32.toNat]

def cc0_transform_1 (i : grid0.Coords) : Fin 3 → Nat :=
  let arg0 : BitVec 32 := BitVec.ofNat 32 (i 0).val
  let c0_i32 : BitVec 32 := 0#32
  let c7_i32 : BitVec 32 := 7#32
  let c0_i32_0 : BitVec 32 := 0#32
  ![arg0.toNat, c0_i32.toNat, c7_i32.toNat]

def cc0_transform_2 (i : grid0.Coords) : Fin 3 → Nat :=
  let arg0 : BitVec 32 := BitVec.ofNat 32 (i 0).val
  let c0_i32 : BitVec 32 := 0#32
  let c8_i32 : BitVec 32 := 8#32
  let c0_i32_0 : BitVec 32 := 0#32
  ![arg0.toNat, c0_i32.toNat, c8_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x4608 : Shape := ⟨2, ![4096, 4608]⟩
abbrev S16x256x8x64 : Shape := ⟨4, ![16, 256, 8, 64]⟩
abbrev S16x256x8 : Shape := ⟨3, ![16, 256, 8]⟩
abbrev S32x24 : Shape := ⟨2, ![32, 24]⟩
abbrev S4096x512 : Shape := ⟨2, ![4096, 512]⟩
abbrev S256x256 : Shape := ⟨2, ![256, 256]⟩
abbrev S_ : Shape := ⟨0, ![]⟩
abbrev S32x8 : Shape := ⟨2, ![32, 8]⟩
abbrev S256x256x1 : Shape := ⟨3, ![256, 256, 1]⟩
abbrev S256x256x8 : Shape := ⟨3, ![256, 256, 8]⟩
abbrev S8x256x256 : Shape := ⟨3, ![8, 256, 256]⟩
abbrev S16x8x256x256 : Shape := ⟨4, ![16, 8, 256, 256]⟩
abbrev S1x1x256x256 : Shape := ⟨4, ![1, 1, 256, 256]⟩
abbrev S1x8x256x256 : Shape := ⟨4, ![1, 8, 256, 256]⟩
abbrev S16x8x256 : Shape := ⟨3, ![16, 8, 256]⟩
abbrev S16x8x256x1 : Shape := ⟨4, ![16, 8, 256, 1]⟩
abbrev S16x8x64x256 : Shape := ⟨4, ![16, 8, 64, 256]⟩
abbrev S16x256x8x1 : Shape := ⟨4, ![16, 256, 8, 1]⟩
abbrev S1x16x256x8 : Shape := ⟨4, ![1, 16, 256, 8]⟩
abbrev S3x16x256x8 : Shape := ⟨4, ![3, 16, 256, 8]⟩
abbrev S3x16x256x8x1 : Shape := ⟨5, ![3, 16, 256, 8, 1]⟩
abbrev S1x16x256x8x64 : Shape := ⟨5, ![1, 16, 256, 8, 64]⟩
abbrev S3x16x256x8x64 : Shape := ⟨5, ![3, 16, 256, 8, 64]⟩
abbrev S16x8x256x64 : Shape := ⟨4, ![16, 8, 256, 64]⟩
abbrev S16x256x512 : Shape := ⟨3, ![16, 256, 512]⟩
abbrev S16x256x1536 : Shape := ⟨3, ![16, 256, 1536]⟩
abbrev S16x256x4608 : Shape := ⟨3, ![16, 256, 4608]⟩
abbrev S16x256x3072 : Shape := ⟨3, ![16, 256, 3072]⟩
abbrev S8x128x256 : Shape := ⟨3, ![8, 128, 256]⟩
abbrev S4x256x256 : Shape := ⟨3, ![4, 256, 256]⟩

abbrev nBuf : Space → Nat
  | .hbm => 274
  | .vmem => 0
  | .smem => 0
  | _ => 0

abbrev hbmTy0_0 (i : Nat) : BufTy := match i % 128 with
  | 0 => ⟨S4096x4608, .bf16⟩
  | 1 => ⟨S16x256x8x64, .f32⟩
  | 2 => ⟨S16x256x8x64, .f32⟩
  | 3 => ⟨S16x256x8, .f32⟩
  | 4 => ⟨S16x256x8, .f32⟩
  | 5 => ⟨S32x24, .f32⟩
  | 6 => ⟨S4096x512, .bf16⟩
  | 7 => ⟨S4096x4608, .bf16⟩
  | 8 => ⟨S256x256, .i32⟩
  | 9 => ⟨S256x256, .i32⟩
  | 10 => ⟨S256x256, .i32⟩
  | 11 => ⟨S_, .i32⟩
  | 12 => ⟨S256x256, .i32⟩
  | 13 => ⟨S256x256, .i1⟩
  | 14 => ⟨S_, .i32⟩
  | 15 => ⟨S256x256, .i32⟩
  | 16 => ⟨S256x256, .i1⟩
  | 17 => ⟨S256x256, .i1⟩
  | 18 => ⟨S_, .i32⟩
  | 19 => ⟨S_, .i32⟩
  | 20 => ⟨S_, .i32⟩
  | 21 => ⟨S256x256, .i32⟩
  | 22 => ⟨S256x256, .i32⟩
  | 23 => ⟨S_, .i32⟩
  | 24 => ⟨S256x256, .i32⟩
  | 25 => ⟨S256x256, .i32⟩
  | 26 => ⟨S_, .i32⟩
  | 27 => ⟨S256x256, .i32⟩
  | 28 => ⟨S256x256, .i32⟩
  | 29 => ⟨S_, .i32⟩
  | 30 => ⟨S256x256, .i32⟩
  | 31 => ⟨S256x256, .i32⟩
  | 32 => ⟨S256x256, .f32⟩
  | 33 => ⟨S_, .f32⟩
  | 34 => ⟨S256x256, .f32⟩
  | 35 => ⟨S256x256, .f32⟩
  | 36 => ⟨S256x256, .f32⟩
  | 37 => ⟨S_, .f32⟩
  | 38 => ⟨S256x256, .f32⟩
  | 39 => ⟨S256x256, .f32⟩
  | 40 => ⟨S_, .f32⟩
  | 41 => ⟨S256x256, .f32⟩
  | 42 => ⟨S256x256, .f32⟩
  | 43 => ⟨S256x256, .i32⟩
  | 44 => ⟨S_, .i32⟩
  | 45 => ⟨S256x256, .i32⟩
  | 46 => ⟨S256x256, .i32⟩
  | 47 => ⟨S_, .i32⟩
  | 48 => ⟨S256x256, .i32⟩
  | 49 => ⟨S256x256, .i32⟩
  | 50 => ⟨S_, .i32⟩
  | 51 => ⟨S256x256, .i32⟩
  | 52 => ⟨S256x256, .i1⟩
  | 53 => ⟨S256x256, .i32⟩
  | 54 => ⟨S32x8, .f32⟩
  | 55 => ⟨S_, .i32⟩
  | 56 => ⟨S256x256, .i32⟩
  | 57 => ⟨S256x256, .i1⟩
  | 58 => ⟨S_, .i32⟩
  | 59 => ⟨S256x256, .i32⟩
  | 60 => ⟨S256x256, .i32⟩
  | 61 => ⟨S256x256, .i32⟩
  | 62 => ⟨S256x256x1, .i32⟩
  | 63 => ⟨S256x256x8, .f32⟩
  | 64 => ⟨S8x256x256, .f32⟩
  | 65 => ⟨S4096x512, .bf16⟩
  | 66 => ⟨S4096x512, .f32⟩
  | 67 => ⟨S16x256x8x64, .f32⟩
  | 68 => ⟨S4096x512, .bf16⟩
  | 69 => ⟨S4096x512, .f32⟩
  | 70 => ⟨S16x256x8x64, .f32⟩
  | 71 => ⟨S4096x512, .bf16⟩
  | 72 => ⟨S4096x512, .f32⟩
  | 73 => ⟨S16x256x8x64, .f32⟩
  | 74 => ⟨S16x8x256x256, .f32⟩
  | 75 => ⟨S_, .f32⟩
  | 76 => ⟨S16x8x256x256, .f32⟩
  | 77 => ⟨S16x8x256x256, .f32⟩
  | 78 => ⟨S1x1x256x256, .i1⟩
  | 79 => ⟨S1x8x256x256, .f32⟩
  | 80 => ⟨S16x8x256x256, .f32⟩
  | 81 => ⟨S16x8x256x256, .f32⟩
  | 82 => ⟨S_, .f32⟩
  | 83 => ⟨S_, .f32⟩
  | 84 => ⟨S16x8x256x256, .i1⟩
  | 85 => ⟨S16x8x256x256, .f32⟩
  | 86 => ⟨S16x8x256x256, .f32⟩
  | 87 => ⟨S_, .f32⟩
  | 88 => ⟨S16x8x256x256, .f32⟩
  | 89 => ⟨S_, .f32⟩
  | 90 => ⟨S16x8x256, .f32⟩
  | 91 => ⟨S16x8x256x1, .f32⟩
  | 92 => ⟨S16x8x256x256, .f32⟩
  | 93 => ⟨S16x8x256x256, .i1⟩
  | 94 => ⟨S16x8x256x256, .f32⟩
  | 95 => ⟨S_, .f32⟩
  | 96 => ⟨S16x8x256, .f32⟩
  | 97 => ⟨S16x8x256x1, .f32⟩
  | 98 => ⟨S16x8x256x256, .f32⟩
  | 99 => ⟨S16x8x256x256, .f32⟩
  | 100 => ⟨S16x8x256x256, .f32⟩
  | 101 => ⟨S_, .f32⟩
  | 102 => ⟨S16x8x256, .f32⟩
  | 103 => ⟨S16x8x64x256, .f32⟩
  | 104 => ⟨S16x256x8x64, .f32⟩
  | 105 => ⟨S16x256x8, .f32⟩
  | 106 => ⟨S16x256x8x1, .f32⟩
  | 107 => ⟨S16x256x8x64, .f32⟩
  | 108 => ⟨S16x256x8x64, .f32⟩
  | 109 => ⟨S16x256x8x1, .f32⟩
  | 110 => ⟨S_, .f32⟩
  | 111 => ⟨S16x256x8x1, .f32⟩
  | 112 => ⟨S16x256x8x1, .f32⟩
  | 113 => ⟨S16x8x256, .f32⟩
  | 114 => ⟨S16x8x256, .f32⟩
  | 115 => ⟨S16x8x256, .f32⟩
  | 116 => ⟨S16x256x8, .f32⟩
  | 117 => ⟨S1x16x256x8, .f32⟩
  | 118 => ⟨S1x16x256x8, .f32⟩
  | 119 => ⟨S1x16x256x8, .f32⟩
  | 120 => ⟨S3x16x256x8, .f32⟩
  | 121 => ⟨S_, .f32⟩
  | 122 => ⟨S16x256x8, .f32⟩
  | 123 => ⟨S_, .f32⟩
  | 124 => ⟨S16x256x8, .f32⟩
  | 125 => ⟨S_, .f32⟩
  | 126 => ⟨S16x256x8, .f32⟩
  | 127 => ⟨S1x16x256x8, .f32⟩
  | _ => ⟨S4096x4608, .bf16⟩

abbrev hbmTy0_1 (i : Nat) : BufTy := match i % 128 with
  | 0 => ⟨S3x16x256x8, .f32⟩
  | 1 => ⟨S3x16x256x8, .i1⟩
  | 2 => ⟨S3x16x256x8, .f32⟩
  | 3 => ⟨S_, .f32⟩
  | 4 => ⟨S16x256x8, .f32⟩
  | 5 => ⟨S_, .f32⟩
  | 6 => ⟨S16x256x8, .f32⟩
  | 7 => ⟨S16x256x8, .f32⟩
  | 8 => ⟨S_, .f32⟩
  | 9 => ⟨S16x256x8, .f32⟩
  | 10 => ⟨S16x256x8, .i1⟩
  | 11 => ⟨S_, .f32⟩
  | 12 => ⟨S16x256x8, .f32⟩
  | 13 => ⟨S16x256x8, .i1⟩
  | 14 => ⟨S_, .f32⟩
  | 15 => ⟨S16x256x8, .f32⟩
  | 16 => ⟨S_, .f32⟩
  | 17 => ⟨S16x256x8, .f32⟩
  | 18 => ⟨S_, .f32⟩
  | 19 => ⟨S16x256x8, .f32⟩
  | 20 => ⟨S16x256x8, .f32⟩
  | 21 => ⟨S16x256x8, .f32⟩
  | 22 => ⟨S1x16x256x8, .f32⟩
  | 23 => ⟨S3x16x256x8, .f32⟩
  | 24 => ⟨S3x16x256x8, .f32⟩
  | 25 => ⟨S3x16x256x8, .f32⟩
  | 26 => ⟨S_, .f32⟩
  | 27 => ⟨S16x256x8, .f32⟩
  | 28 => ⟨S1x16x256x8, .f32⟩
  | 29 => ⟨S3x16x256x8, .f32⟩
  | 30 => ⟨S3x16x256x8, .f32⟩
  | 31 => ⟨S1x16x256x8, .f32⟩
  | 32 => ⟨S_, .f32⟩
  | 33 => ⟨S1x16x256x8, .f32⟩
  | 34 => ⟨S1x16x256x8, .f32⟩
  | 35 => ⟨S3x16x256x8x1, .f32⟩
  | 36 => ⟨S1x16x256x8x64, .f32⟩
  | 37 => ⟨S1x16x256x8x64, .f32⟩
  | 38 => ⟨S1x16x256x8x64, .f32⟩
  | 39 => ⟨S3x16x256x8x64, .f32⟩
  | 40 => ⟨S_, .f32⟩
  | 41 => ⟨S16x256x8x64, .f32⟩
  | 42 => ⟨S_, .f32⟩
  | 43 => ⟨S16x256x8x64, .f32⟩
  | 44 => ⟨S3x16x256x8x64, .f32⟩
  | 45 => ⟨S3x16x256x8x64, .f32⟩
  | 46 => ⟨S_, .f32⟩
  | 47 => ⟨S16x256x8x64, .f32⟩
  | 48 => ⟨S4096x512, .f32⟩
  | 49 => ⟨S16x256x8x64, .f32⟩
  | 50 => ⟨S3x16x256x8x64, .f32⟩
  | 51 => ⟨S3x16x256x8x64, .f32⟩
  | 52 => ⟨S3x16x256x8x64, .f32⟩
  | 53 => ⟨S3x16x256x8x64, .f32⟩
  | 54 => ⟨S_, .f32⟩
  | 55 => ⟨S3x16x256x8, .f32⟩
  | 56 => ⟨S3x16x256x8x1, .f32⟩
  | 57 => ⟨S1x16x256x8x64, .f32⟩
  | 58 => ⟨S16x256x8x64, .f32⟩
  | 59 => ⟨S1x16x256x8x64, .f32⟩
  | 60 => ⟨S16x256x8x64, .f32⟩
  | 61 => ⟨S1x16x256x8x64, .f32⟩
  | 62 => ⟨S16x256x8x64, .f32⟩
  | 63 => ⟨S_, .f32⟩
  | 64 => ⟨S3x16x256x8, .f32⟩
  | 65 => ⟨S3x16x256x8, .f32⟩
  | 66 => ⟨S3x16x256x8, .f32⟩
  | 67 => ⟨S3x16x256x8, .f32⟩
  | 68 => ⟨S_, .f32⟩
  | 69 => ⟨S16x256x8, .f32⟩
  | 70 => ⟨S1x16x256x8, .f32⟩
  | 71 => ⟨S1x16x256x8, .f32⟩
  | 72 => ⟨S3x16x256x8, .f32⟩
  | 73 => ⟨S3x16x256x8, .f32⟩
  | 74 => ⟨S_, .f32⟩
  | 75 => ⟨S16x256x8, .f32⟩
  | 76 => ⟨S3x16x256x8, .f32⟩
  | 77 => ⟨S3x16x256x8, .f32⟩
  | 78 => ⟨S3x16x256x8, .f32⟩
  | 79 => ⟨S1x16x256x8, .f32⟩
  | 80 => ⟨S16x256x8, .f32⟩
  | 81 => ⟨S1x16x256x8, .f32⟩
  | 82 => ⟨S16x256x8, .f32⟩
  | 83 => ⟨S1x16x256x8, .f32⟩
  | 84 => ⟨S16x256x8, .f32⟩
  | 85 => ⟨S16x8x256, .f32⟩
  | 86 => ⟨S16x8x256, .f32⟩
  | 87 => ⟨S16x8x256x1, .f32⟩
  | 88 => ⟨S16x256x8x64, .f32⟩
  | 89 => ⟨S16x256x8x64, .f32⟩
  | 90 => ⟨S16x256x8x64, .f32⟩
  | 91 => ⟨S_, .f32⟩
  | 92 => ⟨S16x256x8, .f32⟩
  | 93 => ⟨S16x256x8x1, .f32⟩
  | 94 => ⟨S16x256x8x1, .f32⟩
  | 95 => ⟨S16x256x8x64, .f32⟩
  | 96 => ⟨S16x256x8x64, .f32⟩
  | 97 => ⟨S_, .f32⟩
  | 98 => ⟨S16x256x8, .f32⟩
  | 99 => ⟨S16x8x256, .f32⟩
  | 100 => ⟨S16x8x256, .f32⟩
  | 101 => ⟨S16x8x64x256, .f32⟩
  | 102 => ⟨S16x8x256x256, .f32⟩
  | 103 => ⟨S16x8x64x256, .f32⟩
  | 104 => ⟨S16x256x8x64, .f32⟩
  | 105 => ⟨S16x8x256x256, .f32⟩
  | 106 => ⟨S16x8x256x256, .f32⟩
  | 107 => ⟨S16x8x256x256, .f32⟩
  | 108 => ⟨S16x8x256x256, .f32⟩
  | 109 => ⟨S_, .f32⟩
  | 110 => ⟨S16x8x256, .f32⟩
  | 111 => ⟨S16x8x256x1, .f32⟩
  | 112 => ⟨S16x8x256x1, .f32⟩
  | 113 => ⟨S_, .f32⟩
  | 114 => ⟨S16x8x256, .f32⟩
  | 115 => ⟨S16x8x256, .f32⟩
  | 116 => ⟨S16x8x256x256, .f32⟩
  | 117 => ⟨S16x8x256x256, .f32⟩
  | 118 => ⟨S16x8x256x256, .f32⟩
  | 119 => ⟨S_, .f32⟩
  | 120 => ⟨S16x8x256x256, .f32⟩
  | 121 => ⟨S16x8x256x256, .f32⟩
  | 122 => ⟨S_, .f32⟩
  | 123 => ⟨S8x256x256, .f32⟩
  | 124 => ⟨S1x8x256x256, .f32⟩
  | 125 => ⟨S_, .f32⟩
  | 126 => ⟨S8x256x256, .f32⟩
  | 127 => ⟨S_, .f32⟩
  | _ => ⟨S4096x4608, .bf16⟩

abbrev hbmTy0_2 (i : Nat) : BufTy := match i % 128 with
  | 0 => ⟨S16x8x256x256, .f32⟩
  | 1 => ⟨S16x8x256x256, .f32⟩
  | 2 => ⟨S16x8x256x64, .f32⟩
  | 3 => ⟨S16x256x8x64, .f32⟩
  | 4 => ⟨S16x8x256x64, .f32⟩
  | 5 => ⟨S16x256x8x64, .f32⟩
  | 6 => ⟨S16x256x512, .f32⟩
  | 7 => ⟨S16x256x512, .f32⟩
  | 8 => ⟨S16x256x512, .f32⟩
  | 9 => ⟨S16x256x1536, .f32⟩
  | 10 => ⟨S16x256x4608, .bf16⟩
  | 11 => ⟨S16x256x3072, .bf16⟩
  | 12 => ⟨S16x256x1536, .bf16⟩
  | 13 => ⟨S16x256x4608, .bf16⟩
  | 14 => ⟨S8x128x256, .f32⟩
  | 15 => ⟨S4x256x256, .f32⟩
  | 16 => ⟨S8x128x256, .f32⟩
  | 17 => ⟨S4x256x256, .f32⟩
  | _ => ⟨S4096x4608, .bf16⟩

abbrev hbmTy (i : Nat) : BufTy := match i / 128 with
  | 0 => hbmTy0_0 i
  | 1 => hbmTy0_1 i
  | 2 => hbmTy0_2 i
  | _ => ⟨S4096x4608, .bf16⟩

abbrev bufTy : (tb : Table) → Fin (tcTables nBuf tb) → BufTy
  | .hbm, ⟨i, _⟩ => hbmTy i
  | _, _ => ⟨S4096x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v8 : Ref sig .tc := ⟨.hbm, 25, rfl⟩
abbrev main_c_3 : Ref sig .tc := ⟨.hbm, 26, rfl⟩
abbrev main_v9 : Ref sig .tc := ⟨.hbm, 27, rfl⟩
abbrev main_v10 : Ref sig .tc := ⟨.hbm, 28, rfl⟩
abbrev main_c_4 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_5 : Ref sig .tc := ⟨.hbm, 37, rfl⟩
abbrev main_v17 : Ref sig .tc := ⟨.hbm, 38, rfl⟩
abbrev main_v18 : Ref sig .tc := ⟨.hbm, 39, rfl⟩
abbrev main_cst_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_7 : Ref sig .tc := ⟨.hbm, 44, rfl⟩
abbrev main_v22 : Ref sig .tc := ⟨.hbm, 45, rfl⟩
abbrev main_v23 : Ref sig .tc := ⟨.hbm, 46, rfl⟩
abbrev main_c_8 : Ref sig .tc := ⟨.hbm, 47, rfl⟩
abbrev main_v24 : Ref sig .tc := ⟨.hbm, 48, rfl⟩
abbrev main_v25 : Ref sig .tc := ⟨.hbm, 49, rfl⟩
abbrev main_c_9 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_10 : Ref sig .tc := ⟨.hbm, 55, rfl⟩
abbrev main_v30 : Ref sig .tc := ⟨.hbm, 56, rfl⟩
abbrev main_v31 : Ref sig .tc := ⟨.hbm, 57, rfl⟩
abbrev main_c_11 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_12 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_13 : Ref sig .tc := ⟨.hbm, 82, rfl⟩
abbrev main_call2_v0 : Ref sig .tc := ⟨.hbm, 83, rfl⟩
abbrev main_v54_1 : Ref sig .tc := ⟨.hbm, 84, rfl⟩
abbrev main_call2_v2 : Ref sig .tc := ⟨.hbm, 85, rfl⟩
abbrev main_v54_0 : Ref sig .tc := ⟨.hbm, 86, rfl⟩
abbrev main_call2_cst : Ref sig .tc := ⟨.hbm, 87, rfl⟩
abbrev main_v54_2 : Ref sig .tc := ⟨.hbm, 88, rfl⟩
abbrev main_cst_14 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_15 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_16 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_17 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_18 : Ref sig .tc := ⟨.hbm, 121, rfl⟩
abbrev main_v83 : Ref sig .tc := ⟨.hbm, 122, rfl⟩
abbrev main_cst_19 : Ref sig .tc := ⟨.hbm, 123, rfl⟩
abbrev main_v84 : Ref sig .tc := ⟨.hbm, 124, rfl⟩
abbrev main_cst_20 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_21 : Ref sig .tc := ⟨.hbm, 131, rfl⟩
abbrev main_v90 : Ref sig .tc := ⟨.hbm, 132, rfl⟩
abbrev main_cst_22 : Ref sig .tc := ⟨.hbm, 133, rfl⟩
abbrev main_v91 : Ref sig .tc := ⟨.hbm, 134, rfl⟩
abbrev main_v92 : Ref sig .tc := ⟨.hbm, 135, rfl⟩
abbrev main_cst_23 : Ref sig .tc := ⟨.hbm, 136, rfl⟩
abbrev main_v93 : Ref sig .tc := ⟨.hbm, 137, rfl⟩
abbrev main_v94 : Ref sig .tc := ⟨.hbm, 138, rfl⟩
abbrev main_cst_24 : Ref sig .tc := ⟨.hbm, 139, rfl⟩
abbrev main_v95 : Ref sig .tc := ⟨.hbm, 140, rfl⟩
abbrev main_v96 : Ref sig .tc := ⟨.hbm, 141, rfl⟩
abbrev main_cst_25 : Ref sig .tc := ⟨.hbm, 142, rfl⟩
abbrev main_v97 : Ref sig .tc := ⟨.hbm, 143, rfl⟩
abbrev main_cst_26 : Ref sig .tc := ⟨.hbm, 144, rfl⟩
abbrev main_v98 : Ref sig .tc := ⟨.hbm, 145, rfl⟩
abbrev main_cst_27 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_28 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_29 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_30 : Ref sig .tc := ⟨.hbm, 168, rfl⟩
abbrev main_v118 : Ref sig .tc := ⟨.hbm, 169, rfl⟩
abbrev main_cst_31 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_cst_32 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_33 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_cst_34 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_cst_35 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_cst_36 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_cst_37 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_cst_38 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_cst_39 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_cst_40 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_call3_cst : Ref sig .tc := ⟨.hbm, 247, rfl⟩
abbrev main_call3_v0 : Ref sig .tc := ⟨.hbm, 248, rfl⟩
abbrev main_v186 : Ref sig .tc := ⟨.hbm, 249, rfl⟩
abbrev main_cst_41 : Ref sig .tc := ⟨.hbm, 250, rfl⟩
abbrev main_v187 : Ref sig .tc := ⟨.hbm, 251, rfl⟩
abbrev main_v188 : Ref sig .tc := ⟨.hbm, 252, rfl⟩
abbrev main_cst_42 : Ref sig .tc := ⟨.hbm, 253, rfl⟩
abbrev main_v189 : Ref sig .tc := ⟨.hbm, 254, rfl⟩
abbrev main_cst_43 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩

abbrev nD : Nat := 1
abbrev τ : Topo := Topo.v7x

variable {F : FTy → Type} [FloatOps F]
-- ==== Kernel2.lean ====
abbrev S16x256x4608 : Shape := ⟨3, ![16, 256, 4608]⟩
abbrev S16x256x3584 : Shape := ⟨3, ![16, 256, 3584]⟩
abbrev S8x1024x1024 : Shape := ⟨3, ![8, 1024, 1024]⟩
abbrev S4096x1024 : Shape := ⟨2, ![4096, 1024]⟩
abbrev S1x1024 : Shape := ⟨2, ![1, 1024]⟩
abbrev S16x16x4608 : Shape := ⟨3, ![16, 16, 4608]⟩
abbrev S16x16x3584 : Shape := ⟨3, ![16, 16, 3584]⟩
abbrev S256x1024 : Shape := ⟨2, ![256, 1024]⟩
abbrev S16x16x1024 : Shape := ⟨3, ![16, 16, 1024]⟩
abbrev S1x16x4608 : Shape := ⟨3, ![1, 16, 4608]⟩
abbrev S16x4608 : Shape := ⟨2, ![16, 4608]⟩
abbrev S256x4608 : Shape := ⟨2, ![256, 4608]⟩
abbrev S1x16x3584 : Shape := ⟨3, ![1, 16, 3584]⟩
abbrev S16x3584 : Shape := ⟨2, ![16, 3584]⟩
abbrev S256x3584 : Shape := ⟨2, ![256, 3584]⟩
abbrev S256x512 : Shape := ⟨2, ![256, 512]⟩
abbrev S1x1024x512 : Shape := ⟨3, ![1, 1024, 512]⟩
abbrev S1024x512 : Shape := ⟨2, ![1024, 512]⟩
abbrev S16x1024 : Shape := ⟨2, ![16, 1024]⟩
abbrev S16x1x1024 : Shape := ⟨3, ![16, 1, 1024]⟩
abbrev S1x16x1024 : Shape := ⟨3, ![1, 16, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S16x256x4608, .bf16⟩
  | .hbm, ⟨1, _⟩ => ⟨S16x256x3584, .bf16⟩
  | .hbm, ⟨2, _⟩ => ⟨S8x1024x1024, .bf16⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S16x16x4608, .bf16⟩
  | .local _ .vmem, ⟨1, _⟩ => ⟨S16x16x4608, .bf16⟩
  | .local _ .vmem, ⟨2, _⟩ => ⟨S16x16x3584, .bf16⟩
  | .local _ .vmem, ⟨3, _⟩ => ⟨S16x16x3584, .bf16⟩
  | .local _ .vmem, ⟨4, _⟩ => ⟨S8x1024x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S16x16x1024, .f32⟩
  | _, _ => ⟨S16x256x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x16x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x16x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S16x256x4608 : Shape := ⟨3, ![16, 256, 4608]⟩
abbrev S16x256x3584 : Shape := ⟨3, ![16, 256, 3584]⟩
abbrev S8x1024x1024 : Shape := ⟨3, ![8, 1024, 1024]⟩
abbrev S4096x1024 : Shape := ⟨2, ![4096, 1024]⟩
abbrev S1x1024 : Shape := ⟨2, ![1, 1024]⟩
abbrev S1024x8x1024 : Shape := ⟨3, ![1024, 8, 1024]⟩
abbrev S1024x8192 : Shape := ⟨2, ![1024, 8192]⟩
abbrev S16x256x512 : Shape := ⟨3, ![16, 256, 512]⟩
abbrev S16x256x2560 : Shape := ⟨3, ![16, 256, 2560]⟩
abbrev S16x256x8192 : Shape := ⟨3, ![16, 256, 8192]⟩
abbrev S256x16x8192 : Shape := ⟨3, ![256, 16, 8192]⟩
abbrev S4096x8192 : Shape := ⟨2, ![4096, 8192]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 80
  | .vmem => 0
  | .smem => 0
  | _ => 0

abbrev bufTy : (tb : Table) → Fin (tcTables nBuf tb) → BufTy
  | .hbm, ⟨0, _⟩ => ⟨S16x256x4608, .bf16⟩
  | .hbm, ⟨1, _⟩ => ⟨S16x256x3584, .bf16⟩
  | .hbm, ⟨2, _⟩ => ⟨S8x1024x1024, .bf16⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1024x8x1024, .bf16⟩
  | .hbm, ⟨8, _⟩ => ⟨S1024x8192, .bf16⟩
  | .hbm, ⟨9, _⟩ => ⟨S1024x8192, .f32⟩
  | .hbm, ⟨10, _⟩ => ⟨S16x256x512, .bf16⟩
  | .hbm, ⟨11, _⟩ => ⟨S16x256x2560, .bf16⟩
  | .hbm, ⟨12, _⟩ => ⟨S16x256x512, .bf16⟩
  | .hbm, ⟨13, _⟩ => ⟨S16x256x8192, .bf16⟩
  | .hbm, ⟨14, _⟩ => ⟨S256x16x8192, .bf16⟩
  | .hbm, ⟨15, _⟩ => ⟨S4096x8192, .bf16⟩
  | .hbm, ⟨16, _⟩ => ⟨S4096x8192, .f32⟩
  | .hbm, ⟨17, _⟩ => ⟨S_, .f32⟩
  | .hbm, ⟨18, _⟩ => ⟨S1x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x8192, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | _, _ => ⟨S16x256x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== Kernel3.lean ====
abbrev S1024x4096 : Shape := ⟨2, ![1024, 4096]⟩
abbrev S4096x4608 : Shape := ⟨2, ![4096, 4608]⟩
abbrev S4096x3584 : Shape := ⟨2, ![4096, 3584]⟩
abbrev S1024x8192 : Shape := ⟨2, ![1024, 8192]⟩
abbrev S4096x512 : Shape := ⟨2, ![4096, 512]⟩
abbrev S1024x512 : Shape := ⟨2, ![1024, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x4096, .bf16⟩
  | .hbm, ⟨1, _⟩ => ⟨S4096x4608, .bf16⟩
  | .hbm, ⟨2, _⟩ => ⟨S4096x3584, .bf16⟩
  | .hbm, ⟨3, _⟩ => ⟨S1024x8192, .f32⟩
  | .hbm, ⟨4, _⟩ => ⟨S1024x8192, .bf16⟩
  | .hbm, ⟨5, _⟩ => ⟨S1024x8192, .f32⟩
  | .hbm, ⟨6, _⟩ => ⟨S1024x8192, .bf16⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | .local _ .vmem, ⟨7, _⟩ => ⟨S1024x4096, .bf16⟩
  | .local _ .vmem, ⟨8, _⟩ => ⟨S4096x512, .bf16⟩
  | .local _ .vmem, ⟨9, _⟩ => ⟨S4096x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![7], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let v0 : BitVec 1 := Scalar.cmpi .eq arg0 c0_i32
  let c6_i32 : BitVec 32 := 6#32
  let v1 : BitVec 1 := Scalar.cmpi .eq arg0 c6_i32
  let c10_i32 : BitVec 32 := 10#32
  let v2 : BitVec 32 := Scalar.addi arg0 c10_i32
  let c10_i32_0 : BitVec 32 := 10#32
  let v3 : BitVec 32 := Scalar.select v1 c10_i32_0 v2
  let c9_i32 : BitVec 32 := 9#32
  let v4 : BitVec 32 := Scalar.select v0 c9_i32 v3
  let c0_i32_1 : BitVec 32 := 0#32
  let c0_i32_2 : BitVec 32 := 0#32
  ![c0_i32_1.toNat, v4.toNat]

def cc1_transform_5 (i : grid1.Coords) : Fin 2 → Nat :=
  let arg0 : BitVec 32 := BitVec.ofNat 32 (i 0).val
  let c0_i32 : BitVec 32 := 0#32
  let v0 : BitVec 1 := Scalar.cmpi .eq arg0 c0_i32
  let c6_i32 : BitVec 32 := 6#32
  let v1 : BitVec 1 := Scalar.cmpi .eq arg0 c6_i32
  let c10_i32 : BitVec 32 := 10#32
  let v2 : BitVec 32 := Scalar.addi arg0 c10_i32
  let c10_i32_0 : BitVec 32 := 10#32
  let v3 : BitVec 32 := Scalar.select v1 c10_i32_0 v2
  let c9_i32 : BitVec 32 := 9#32
  let v4 : BitVec 32 := Scalar.select v0 c9_i32 v3
  let c0_i32_1 : BitVec 32 := 0#32
  let c0_i32_2 : BitVec 32 := 0#32
  ![c0_i32_1.toNat, v4.toNat]

abbrev stage1_0 : Fin 1 → Memref sig .tc .vmem S1024x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== Reference3Ideal.lean ====
abbrev S1024x4096 : Shape := ⟨2, ![1024, 4096]⟩
abbrev S4096x4608 : Shape := ⟨2, ![4096, 4608]⟩
abbrev S4096x3584 : Shape := ⟨2, ![4096, 3584]⟩
abbrev S4096x1024 : Shape := ⟨2, ![4096, 1024]⟩
abbrev S4096x512 : Shape := ⟨2, ![4096, 512]⟩
abbrev S4096x2560 : Shape := ⟨2, ![4096, 2560]⟩
abbrev S4096x8192 : Shape := ⟨2, ![4096, 8192]⟩
abbrev S_ : Shape := ⟨0, ![]⟩
abbrev S1024x8192 : Shape := ⟨2, ![1024, 8192]⟩
abbrev S8192x1024 : Shape := ⟨2, ![8192, 1024]⟩

abbrev nBuf : Space → Nat
  | .hbm => 16
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x4608, .bf16⟩
  | .hbm, ⟨2, _⟩ => ⟨S4096x3584, .bf16⟩
  | .hbm, ⟨3, _⟩ => ⟨S1024x4096, .f32⟩
  | .hbm, ⟨4, _⟩ => ⟨S4096x1024, .f32⟩
  | .hbm, ⟨5, _⟩ => ⟨S4096x512, .bf16⟩
  | .hbm, ⟨6, _⟩ => ⟨S4096x2560, .bf16⟩
  | .hbm, ⟨7, _⟩ => ⟨S4096x512, .bf16⟩
  | .hbm, ⟨8, _⟩ => ⟨S4096x8192, .bf16⟩
  | .hbm, ⟨9, _⟩ => ⟨S4096x8192, .f32⟩
  | .hbm, ⟨10, _⟩ => ⟨S_, .f32⟩
  | .hbm, ⟨11, _⟩ => ⟨S1024x8192, .f32⟩
  | .hbm, ⟨12, _⟩ => ⟨S4096x8192, .f32⟩
  | .hbm, ⟨13, _⟩ => ⟨S8192x1024, .f32⟩
  | .hbm, ⟨14, _⟩ => ⟨S1024x8192, .f32⟩
  | .hbm, ⟨15, _⟩ => ⟨S1024x8192, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel4.lean ====
abbrev S4096x1024 : Shape := ⟨2, ![4096, 1024]⟩
abbrev S8x1024x1024 : Shape := ⟨3, ![8, 1024, 1024]⟩
abbrev S4096x4608 : Shape := ⟨2, ![4096, 4608]⟩
abbrev S4096x3584 : Shape := ⟨2, ![4096, 3584]⟩
abbrev S512x1024 : Shape := ⟨2, ![512, 1024]⟩
abbrev S512x4608 : Shape := ⟨2, ![512, 4608]⟩
abbrev S512x3584 : Shape := ⟨2, ![512, 3584]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S8x1024x1024, .bf16⟩
  | .hbm, ⟨2, _⟩ => ⟨S4096x4608, .bf16⟩
  | .hbm, ⟨3, _⟩ => ⟨S4096x3584, .f32⟩
  | .local _ .vmem, ⟨0, _⟩ => ⟨S512x1024, .bf16⟩
  | .local _ .vmem, ⟨1, _⟩ => ⟨S512x1024, .bf16⟩
  | .local _ .vmem, ⟨2, _⟩ => ⟨S8x1024x1024, .bf16⟩
  | .local _ .vmem, ⟨3, _⟩ => ⟨S512x4608, .bf16⟩
  | .local _ .vmem, ⟨4, _⟩ => ⟨S512x4608, .bf16⟩
  | .local _ .vmem, ⟨5, _⟩ => ⟨S512x3584, .f32⟩
  | .local _ .vmem, ⟨6, _⟩ => ⟨S512x3584, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4608 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4096x1024 : Shape := ⟨2, ![4096, 1024]⟩
abbrev S8x1024x1024 : Shape := ⟨3, ![8, 1024, 1024]⟩
abbrev S1024x8x1024 : Shape := ⟨3, ![1024, 8, 1024]⟩
abbrev S1024x8192 : Shape := ⟨2, ![1024, 8192]⟩
abbrev S4096x8192 : Shape := ⟨2, ![4096, 8192]⟩
abbrev S4096x4608 : Shape := ⟨2, ![4096, 4608]⟩
abbrev S4096x512 : Shape := ⟨2, ![4096, 512]⟩
abbrev S4096x2560 : Shape := ⟨2, ![4096, 2560]⟩
abbrev S4096x3584 : Shape := ⟨2, ![4096, 3584]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x1024, .bf16⟩
  | .hbm, ⟨2, _⟩ => ⟨S4096x1024, .f32⟩
  | .hbm, ⟨3, _⟩ => ⟨S1024x8x1024, .bf16⟩
  | .hbm, ⟨4, _⟩ => ⟨S1024x8192, .bf16⟩
  | .hbm, ⟨5, _⟩ => ⟨S1024x8192, .f32⟩
  | .hbm, ⟨6, _⟩ => ⟨S4096x8192, .f32⟩
  | .hbm, ⟨7, _⟩ => ⟨S4096x4608, .f32⟩
  | .hbm, ⟨8, _⟩ => ⟨S4096x512, .f32⟩
  | .hbm, ⟨9, _⟩ => ⟨S4096x512, .f32⟩
  | .hbm, ⟨10, _⟩ => ⟨S4096x2560, .f32⟩
  | .hbm, ⟨11, _⟩ => ⟨S4096x4608, .bf16⟩
  | .hbm, ⟨12, _⟩ => ⟨S4096x3584, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S512x1024 : Shape := ⟨2, ![512, 1024]⟩
abbrev S4096x3584 : Shape := ⟨2, ![4096, 3584]⟩
abbrev S4096x512 : Shape := ⟨2, ![4096, 512]⟩
abbrev S1x512 : Shape := ⟨2, ![1, 512]⟩
abbrev S_ : Shape := ⟨0, ![]⟩
abbrev S256x1024 : Shape := ⟨2, ![256, 1024]⟩
abbrev S256x512 : Shape := ⟨2, ![256, 512]⟩
abbrev S256x3072 : Shape := ⟨2, ![256, 3072]⟩
abbrev S512x256 : Shape := ⟨2, ![512, 256]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S512 : Shape := ⟨1, ![512]⟩
abbrev S4096x3072 : Shape := ⟨2, ![4096, 3072]⟩

abbrev nBuf : Space → Nat
  | .hbm => 42
  | .vmem => 37
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S512x1024, .bf16⟩
  | .hbm, ⟨3, _⟩ => ⟨S512x1024, .bf16⟩
  | .hbm, ⟨4, _⟩ => ⟨S4096x3584, .f32⟩
  | .hbm, ⟨5, _⟩ => ⟨S4096x512, .f32⟩
  | .hbm, ⟨6, _⟩ => ⟨S4096x512, .f32⟩
  | .hbm, ⟨7, _⟩ => ⟨S1x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .bf16⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .bf16⟩
  | .hbm, ⟨34, _⟩ => ⟨S512x1024, .f32⟩
  | .hbm, ⟨35, _⟩ => ⟨S512x1024, .f32⟩
  | .hbm, ⟨36, _⟩ => ⟨S4096x3584, .bf16⟩
  | .hbm, ⟨37, _⟩ => ⟨S4096x512, .bf16⟩
  | .hbm, ⟨38, _⟩ => ⟨S4096x512, .f32⟩
  | .hbm, ⟨39, _⟩ => ⟨S4096x512, .bf16⟩
  | .hbm, ⟨40, _⟩ => ⟨S1x512, .f32⟩
  | .hbm, ⟨41, _⟩ => ⟨S4096x3072, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S1x512, .f32⟩
  | .local _ .vmem, ⟨26, _⟩ => ⟨S512x1024, .f32⟩
  | .local _ .vmem, ⟨27, _⟩ => ⟨S512x1024, .f32⟩
  | .local _ .vmem, ⟨28, _⟩ => ⟨S256x3072, .bf16⟩
  | .local _ .vmem, ⟨29, _⟩ => ⟨S256x3072, .bf16⟩
  | .local _ .vmem, ⟨30, _⟩ => ⟨S256x512, .bf16⟩
  | .local _ .vmem, ⟨31, _⟩ => ⟨S256x512, .bf16⟩
  | .local _ .vmem, ⟨32, _⟩ => ⟨S256x512, .f32⟩
  | .local _ .vmem, ⟨33, _⟩ => ⟨S256x512, .f32⟩
  | .local _ .vmem, ⟨34, _⟩ => ⟨S256x512, .bf16⟩
  | .local _ .vmem, ⟨35, _⟩ => ⟨S256x512, .bf16⟩
  | .local _ .vmem, ⟨36, _⟩ => ⟨S1x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10_0 : Ref sig .tc := ⟨.hbm, 34, rfl⟩
abbrev main_v10_1 : Ref sig .tc := ⟨.hbm, 35, rfl⟩
abbrev main_v10_2 : Ref sig .tc := ⟨.hbm, 36, rfl⟩
abbrev main_v10_3 : Ref sig .tc := ⟨.hbm, 37, rfl⟩
abbrev main_v10_4 : Ref sig .tc := ⟨.hbm, 38, rfl⟩
abbrev main_v10_5 : Ref sig .tc := ⟨.hbm, 39, rfl⟩
abbrev main_v10_6 : Ref sig .tc := ⟨.hbm, 40, rfl⟩
abbrev main_v11 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_9 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x3072 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== Reference5Ideal.lean ====
abbrev S4096x1024 : Shape := ⟨2, ![4096, 1024]⟩
abbrev S1024x1024 : Shape := ⟨2, ![1024, 1024]⟩
abbrev S512x1024 : Shape := ⟨2, ![512, 1024]⟩
abbrev S4096x3584 : Shape := ⟨2, ![4096, 3584]⟩
abbrev S4096x512 : Shape := ⟨2, ![4096, 512]⟩
abbrev S1x512 : Shape := ⟨2, ![1, 512]⟩
abbrev S_ : Shape := ⟨0, ![]⟩
abbrev S1024x512 : Shape := ⟨2, ![1024, 512]⟩
abbrev S512 : Shape := ⟨1, ![512]⟩
abbrev S4096x8x64 : Shape := ⟨3, ![4096, 8, 64]⟩
abbrev S4096x8 : Shape := ⟨2, ![4096, 8]⟩
abbrev S4096x8x1 : Shape := ⟨3, ![4096, 8, 1]⟩
abbrev S4096x3072 : Shape := ⟨2, ![4096, 3072]⟩

abbrev nBuf : Space → Nat
  | .hbm => 118
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S512x1024, .bf16⟩
  | .hbm, ⟨3, _⟩ => ⟨S512x1024, .bf16⟩
  | .hbm, ⟨4, _⟩ => ⟨S4096x3584, .f32⟩
  | .hbm, ⟨5, _⟩ => ⟨S4096x512, .f32⟩
  | .hbm, ⟨6, _⟩ => ⟨S4096x512, .f32⟩
  | .hbm, ⟨7, _⟩ => ⟨S1x512, .f32⟩
  | .hbm, ⟨8, _⟩ => ⟨S1024x1024, .f32⟩
  | .hbm, ⟨9, _⟩ => ⟨S512x1024, .f32⟩
  | .hbm, ⟨10, _⟩ => ⟨S512x1024, .f32⟩
  | .hbm, ⟨11, _⟩ => ⟨S4096x512, .f32⟩
  | .hbm, ⟨12, _⟩ => ⟨S4096x512, .f32⟩
  | .hbm, ⟨13, _⟩ => ⟨S4096x1024, .f32⟩
  | .hbm, ⟨14, _⟩ => ⟨S4096x1024, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x1024, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | .hbm, ⟨40, _⟩ => ⟨S_, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S1024x512, .f32⟩
  | .hbm, ⟨84, _⟩ => ⟨S512x1024, .f32⟩
  | .hbm, ⟨85, _⟩ => ⟨S4096x512, .f32⟩
  | .hbm, ⟨86, _⟩ => ⟨S4096x512, .f32⟩
  | .hbm, ⟨87, _⟩ => ⟨S4096x512, .f32⟩
  | .hbm, ⟨88, _⟩ => ⟨S4096x512, .f32⟩
  | .hbm, ⟨89, _⟩ => ⟨S4096x512, .f32⟩
  | .hbm, ⟨90, _⟩ => ⟨S4096x512, .f32⟩
  | .hbm, ⟨91, _⟩ => ⟨S4096x512, .f32⟩
  | .hbm, ⟨92, _⟩ => ⟨S4096x512, .f32⟩
  | .hbm, ⟨93, _⟩ => ⟨S_, .f32⟩
  | .hbm, ⟨94, _⟩ => ⟨S512, .f32⟩
  | .hbm, ⟨95, _⟩ => ⟨S1x512, .f32⟩
  | .hbm, ⟨96, _⟩ => ⟨S4096x512, .f32⟩
  | .hbm, ⟨97, _⟩ => ⟨S4096x512, .f32⟩
  | .hbm, ⟨98, _⟩ => ⟨S1024x512, .f32⟩
  | .hbm, ⟨99, _⟩ => ⟨S512x1024, .f32⟩
  | .hbm, ⟨100, _⟩ => ⟨S4096x512, .f32⟩
  | .hbm, ⟨101, _⟩ => ⟨S4096x512, .f32⟩
  | .hbm, ⟨102, _⟩ => ⟨S4096x512, .f32⟩
  | .hbm, ⟨103, _⟩ => ⟨S4096x512, .f32⟩
  | .hbm, ⟨104, _⟩ => ⟨S4096x512, .f32⟩
  | .hbm, ⟨105, _⟩ => ⟨S4096x512, .f32⟩
  | .hbm, ⟨106, _⟩ => ⟨S4096x512, .f32⟩
  | .hbm, ⟨107, _⟩ => ⟨S4096x512, .f32⟩
  | .hbm, ⟨108, _⟩ => ⟨S4096x8x64, .f32⟩
  | .hbm, ⟨109, _⟩ => ⟨S_, .f32⟩
  | .hbm, ⟨110, _⟩ => ⟨S4096x8, .f32⟩
  | .hbm, ⟨111, _⟩ => ⟨S4096x8x1, .f32⟩
  | .hbm, ⟨112, _⟩ => ⟨S4096x8x64, .f32⟩
  | .hbm, ⟨113, _⟩ => ⟨S4096x512, .f32⟩
  | .hbm, ⟨114, _⟩ => ⟨S4096x3072, .f32⟩
  | .hbm, ⟨115, _⟩ => ⟨S4096x3072, .bf16⟩
  | .hbm, ⟨116, _⟩ => ⟨S4096x512, .bf16⟩
  | .hbm, ⟨117, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_v7_2 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_v7_1 : Ref sig .tc := ⟨.hbm, 26, rfl⟩
abbrev main_v7_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_v12_2 : Ref sig .tc := ⟨.hbm, 39, rfl⟩
abbrev main_call1_cst_1 : Ref sig .tc := ⟨.hbm, 40, rfl⟩
abbrev main_call1_v6 : Ref sig .tc := ⟨.hbm, 41, rfl⟩
abbrev main_call1_v7 : Ref sig .tc := ⟨.hbm, 42, rfl⟩
abbrev main_v12_1 : Ref sig .tc := ⟨.hbm, 43, rfl⟩
abbrev main_v12_0 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst : Ref sig .tc := ⟨.hbm, 49, rfl⟩
abbrev main_v17 : Ref sig .tc := ⟨.hbm, 50, rfl⟩
abbrev main_v18 : Ref sig .tc := ⟨.hbm, 51, rfl⟩
abbrev main_cst_0 : Ref sig .tc := ⟨.hbm, 52, rfl⟩
abbrev main_v19 : Ref sig .tc := ⟨.hbm, 53, rfl⟩
abbrev main_v20 : Ref sig .tc := ⟨.hbm, 54, rfl⟩
abbrev main_cst_1 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_2 : Ref sig .tc := ⟨.hbm, 62, rfl⟩
abbrev main_v27 : Ref sig .tc := ⟨.hbm, 63, rfl⟩
abbrev main_v28 : Ref sig .tc := ⟨.hbm, 64, rfl⟩
abbrev main_cst_3 : Ref sig .tc := ⟨.hbm, 65, rfl⟩
abbrev main_v29 : Ref sig .tc := ⟨.hbm, 66, rfl⟩
abbrev main_v30 : Ref sig .tc := ⟨.hbm, 67, rfl⟩
abbrev main_cst_4 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v50 : Ref sig .tc := ⟨.hbm, 91, rfl⟩
abbrev main_v51 : Ref sig .tc := ⟨.hbm, 92, rfl⟩
abbrev main_cst_5 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_cst_6 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S16x256x1024 : Shape := ⟨3, ![16, 256, 1024]⟩
abbrev S256x1024 : Shape := ⟨2, ![256, 1024]⟩
abbrev S16x16x1024 : Shape := ⟨3, ![16, 16, 1024]⟩
abbrev S256 : Shape := ⟨1, ![256]⟩
abbrev S256x1 : Shape := ⟨2, ![256, 1]⟩
abbrev S256x256 : Shape := ⟨2, ![256, 256]⟩
abbrev S16x1024 : Shape := ⟨2, ![16, 1024]⟩
abbrev S1x16x1024 : Shape := ⟨3, ![1, 16, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S16x256x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S16x16x1024, .bf16⟩
  | .local _ .vmem, ⟨6, _⟩ => ⟨S16x16x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S256x16x1024 : Shape := ⟨3, ![256, 16, 1024]⟩
abbrev S16x256x1024 : Shape := ⟨3, ![16, 256, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S256x16x1024, .f32⟩
  | .hbm, ⟨27, _⟩ => ⟨S16x256x1024, .f32⟩
  | .hbm, ⟨28, _⟩ => ⟨S16x256x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel7.lean ====
abbrev S8x1024 : Shape := ⟨2, ![8, 1024]⟩
abbrev S8x384 : Shape := ⟨2, ![8, 384]⟩
abbrev S1024x384 : Shape := ⟨2, ![1024, 384]⟩
abbrev S1024x8 : Shape := ⟨2, ![1024, 8]⟩
abbrev S1024x1 : Shape := ⟨2, ![1024, 1]⟩
abbrev S1x384 : Shape := ⟨2, ![1, 384]⟩

abbrev nBuf : Space → Nat
  | .hbm => 10
  | .vmem => 9
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x8, .f32⟩
  | .hbm, ⟨6, _⟩ => ⟨S1024x384, .f32⟩
  | .hbm, ⟨7, _⟩ => ⟨S1024x384, .f32⟩
  | .hbm, ⟨8, _⟩ => ⟨S1024x384, .f32⟩
  | .hbm, ⟨9, _⟩ => ⟨S1024x384, .f32⟩
  | .local _ .vmem, ⟨0, _⟩ => ⟨S1024x8, .f32⟩
  | .local _ .vmem, ⟨1, _⟩ => ⟨S8x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S1024x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference7Ideal.lean ====
abbrev S8x1024 : Shape := ⟨2, ![8, 1024]⟩
abbrev S8x384 : Shape := ⟨2, ![8, 384]⟩
abbrev S1024x384 : Shape := ⟨2, ![1024, 384]⟩
abbrev S384x1024 : Shape := ⟨2, ![384, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S8x384, .f32⟩
  | .hbm, ⟨6, _⟩ => ⟨S384x1024, .f32⟩
  | .hbm, ⟨7, _⟩ => ⟨S1024x384, .f32⟩
  | .hbm, ⟨8, _⟩ => ⟨S_, .f32⟩
  | .hbm, ⟨9, _⟩ => ⟨S1024x384, .f32⟩
  | .hbm, ⟨10, _⟩ => ⟨S1024x384, .f32⟩
  | .hbm, ⟨11, _⟩ => ⟨S_, .f32⟩
  | .hbm, ⟨12, _⟩ => ⟨S1024x384, .f32⟩
  | .hbm, ⟨13, _⟩ => ⟨S1024x384, .f32⟩
  | .hbm, ⟨14, _⟩ => ⟨S1024x384, .f32⟩
  | .hbm, ⟨15, _⟩ => ⟨S_, .f32⟩
  | .hbm, ⟨16, _⟩ => ⟨S1024x384, .f32⟩
  | .hbm, ⟨17, _⟩ => ⟨S1024x384, .f32⟩
  | .hbm, ⟨18, _⟩ => ⟨S1024x384, .f32⟩
  | .hbm, ⟨19, _⟩ => ⟨S_, .f32⟩
  | .hbm, ⟨20, _⟩ => ⟨S1024x384, .f32⟩
  | .hbm, ⟨21, _⟩ => ⟨S1024x384, .f32⟩
  | .hbm, ⟨22, _⟩ => ⟨S1024x384, .f32⟩
  | .hbm, ⟨23, _⟩ => ⟨S_, .f32⟩
  | .hbm, ⟨24, _⟩ => ⟨S1024x384, .f32⟩
  | .hbm, ⟨25, _⟩ => ⟨S1024x384, .f32⟩
  | .hbm, ⟨26, _⟩ => ⟨S_, .f32⟩
  | .hbm, ⟨27, _⟩ => ⟨S1024x384, .f32⟩
  | .hbm, ⟨28, _⟩ => ⟨S1024x384, .f32⟩
  | .hbm, ⟨29, _⟩ => ⟨S1024x384, .f32⟩
  | .hbm, ⟨30, _⟩ => ⟨S_, .f32⟩
  | .hbm, ⟨31, _⟩ => ⟨S1024x384, .f32⟩
  | .hbm, ⟨32, _⟩ => ⟨S1024x384, .f32⟩
  | .hbm, ⟨33, _⟩ => ⟨S1024x384, .f32⟩
  | .hbm, ⟨34, _⟩ => ⟨S_, .f32⟩
  | .hbm, ⟨35, _⟩ => ⟨S1024x384, .f32⟩
  | .hbm, ⟨36, _⟩ => ⟨S1024x384, .f32⟩
  | .hbm, ⟨37, _⟩ => ⟨S1024x384, .f32⟩
  | .hbm, ⟨38, _⟩ => ⟨S_, .f32⟩
  | .hbm, ⟨39, _⟩ => ⟨S1024x384, .f32⟩
  | .hbm, ⟨40, _⟩ => ⟨S1024x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel8.lean ====
abbrev S4x1024x1024 : Shape := ⟨3, ![4, 1024, 1024]⟩
abbrev S1024x1024 : Shape := ⟨2, ![1024, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x1024, .bf16⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S4x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S4x1024x1024 : Shape := ⟨3, ![4, 1024, 1024]⟩
abbrev S1024x1024 : Shape := ⟨2, ![1024, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1024, .bf16⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x1024x1024, .f32⟩
  | .hbm, ⟨5, _⟩ => ⟨S_, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024x1024, .f32⟩
  | .hbm, ⟨39, _⟩ => ⟨S1024x1024, .f32⟩
  | _, _ => ⟨S4x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel9.lean ====
abbrev S4x512x128 : Shape := ⟨3, ![4, 512, 128]⟩
abbrev S512x128 : Shape := ⟨2, ![512, 128]⟩
abbrev S4x256x128 : Shape := ⟨3, ![4, 256, 128]⟩
abbrev S256x128 : Shape := ⟨2, ![256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S4x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S4x256x128, .bf16⟩
  | .local _ .vmem, ⟨1, _⟩ => ⟨S4x256x128, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S4x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S4x512x128 : Shape := ⟨3, ![4, 512, 128]⟩
abbrev S512x128 : Shape := ⟨2, ![512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S4x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S4x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel10.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S4x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference10Ideal.lean ====
abbrev S4x128x1024 : Shape := ⟨3, ![4, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S4x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel11.lean ====
abbrev S8x1x1024 : Shape := ⟨3, ![8, 1, 1024]⟩
abbrev S1x1024 : Shape := ⟨2, ![1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S8x1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference11Ideal.lean ====
abbrev S8x1x1024 : Shape := ⟨3, ![8, 1, 1024]⟩
abbrev S1x1024 : Shape := ⟨2, ![1, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel12.lean ====
abbrev S8x1x3072 : Shape := ⟨3, ![8, 1, 3072]⟩
abbrev S1x3072 : Shape := ⟨2, ![1, 3072]⟩
abbrev S1x1x3072 : Shape := ⟨3, ![1, 1, 3072]⟩

abbrev nBuf : Space → Nat
  | .hbm => 8
  | .vmem => 8
  | .smem => 0
  | _ => 0

abbrev bufTy : (tb : Table) → Fin (tcTables nBuf tb) → BufTy
  | .hbm, ⟨0, _⟩ => ⟨S8x1x3072, .f32⟩
  | .hbm, ⟨1, _⟩ => ⟨S1x3072, .f32⟩
  | .hbm, ⟨2, _⟩ => ⟨S1x3072, .f32⟩
  | .hbm, ⟨3, _⟩ => ⟨S1x3072, .f32⟩
  | .hbm, ⟨4, _⟩ => ⟨S1x3072, .f32⟩
  | .hbm, ⟨5, _⟩ => ⟨S1x3072, .f32⟩
  | .hbm, ⟨6, _⟩ => ⟨S1x3072, .f32⟩
  | .hbm, ⟨7, _⟩ => ⟨S1x3072, .f32⟩
  | .local _ .vmem, ⟨0, _⟩ => ⟨S8x1x3072, .f32⟩
  | .local _ .vmem, ⟨1, _⟩ => ⟨S1x3072, .f32⟩
  | .local _ .vmem, ⟨2, _⟩ => ⟨S1x3072, .f32⟩
  | .local _ .vmem, ⟨3, _⟩ => ⟨S1x3072, .f32⟩
  | .local _ .vmem, ⟨4, _⟩ => ⟨S1x3072, .f32⟩
  | .local _ .vmem, ⟨5, _⟩ => ⟨S1x3072, .f32⟩
  | .local _ .vmem, ⟨6, _⟩ => ⟨S1x3072, .f32⟩
  | .local _ .vmem, ⟨7, _⟩ => ⟨S1x3072, .f32⟩
  | _, _ => ⟨S8x1x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference12Ideal.lean ====
abbrev S8x1x3072 : Shape := ⟨3, ![8, 1, 3072]⟩
abbrev S1x3072 : Shape := ⟨2, ![1, 3072]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x3072, .f32⟩
  | .hbm, ⟨1, _⟩ => ⟨S1x3072, .f32⟩
  | .hbm, ⟨2, _⟩ => ⟨S1x3072, .f32⟩
  | .hbm, ⟨3, _⟩ => ⟨S1x3072, .f32⟩
  | .hbm, ⟨4, _⟩ => ⟨S_, .f32⟩
  | .hbm, ⟨5, _⟩ => ⟨S1x3072, .f32⟩
  | .hbm, ⟨6, _⟩ => ⟨S_, .f32⟩
  | .hbm, ⟨7, _⟩ => ⟨S1x3072, .f32⟩
  | .hbm, ⟨8, _⟩ => ⟨S1x3072, .f32⟩
  | .hbm, ⟨9, _⟩ => ⟨S_, .f32⟩
  | .hbm, ⟨10, _⟩ => ⟨S1x3072, .f32⟩
  | .hbm, ⟨11, _⟩ => ⟨S1x3072, .f32⟩
  | .hbm, ⟨12, _⟩ => ⟨S1x3072, .f32⟩
  | .hbm, ⟨13, _⟩ => ⟨S_, .f32⟩
  | .hbm, ⟨14, _⟩ => ⟨S1x3072, .f32⟩
  | .hbm, ⟨15, _⟩ => ⟨S1x3072, .f32⟩
  | .hbm, ⟨16, _⟩ => ⟨S1x3072, .f32⟩
  | .hbm, ⟨17, _⟩ => ⟨S_, .f32⟩
  | .hbm, ⟨18, _⟩ => ⟨S1x3072, .f32⟩
  | .hbm, ⟨19, _⟩ => ⟨S1x3072, .f32⟩
  | .hbm, ⟨20, _⟩ => ⟨S1x3072, .f32⟩
  | .hbm, ⟨21, _⟩ => ⟨S_, .f32⟩
  | .hbm, ⟨22, _⟩ => ⟨S1x3072, .f32⟩
  | .hbm, ⟨23, _⟩ => ⟨S1x3072, .f32⟩
  | .hbm, ⟨24, _⟩ => ⟨S_, .f32⟩
  | .hbm, ⟨25, _⟩ => ⟨S1x3072, .f32⟩
  | .hbm, ⟨26, _⟩ => ⟨S1x3072, .f32⟩
  | .hbm, ⟨27, _⟩ => ⟨S1x3072, .f32⟩
  | .hbm, ⟨28, _⟩ => ⟨S_, .f32⟩
  | .hbm, ⟨29, _⟩ => ⟨S1x3072, .f32⟩
  | .hbm, ⟨30, _⟩ => ⟨S1x3072, .f32⟩
  | .hbm, ⟨31, _⟩ => ⟨S1x3072, .f32⟩
  | .hbm, ⟨32, _⟩ => ⟨S_, .f32⟩
  | .hbm, ⟨33, _⟩ => ⟨S1x3072, .f32⟩
  | .hbm, ⟨34, _⟩ => ⟨S1x3072, .f32⟩
  | .hbm, ⟨35, _⟩ => ⟨S1x3072, .f32⟩
  | .hbm, ⟨36, _⟩ => ⟨S_, .f32⟩
  | .hbm, ⟨37, _⟩ => ⟨S1x3072, .f32⟩
  | .hbm, ⟨38, _⟩ => ⟨S1x3072, .f32⟩
  | _, _ => ⟨S8x1x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel13.lean ====
abbrev S8x24x32 : Shape := ⟨3, ![8, 24, 32]⟩
abbrev S24x32 : Shape := ⟨2, ![24, 32]⟩
abbrev S1x24x32 : Shape := ⟨3, ![1, 24, 32]⟩

abbrev nBuf : Space → Nat
  | .hbm => 8
  | .vmem => 8
  | .smem => 0
  | _ => 0

abbrev bufTy : (tb : Table) → Fin (tcTables nBuf tb) → BufTy
  | .hbm, ⟨0, _⟩ => ⟨S8x24x32, .f32⟩
  | .hbm, ⟨1, _⟩ => ⟨S24x32, .f32⟩
  | .hbm, ⟨2, _⟩ => ⟨S24x32, .f32⟩
  | .hbm, ⟨3, _⟩ => ⟨S24x32, .f32⟩
  | .hbm, ⟨4, _⟩ => ⟨S24x32, .f32⟩
  | .hbm, ⟨5, _⟩ => ⟨S24x32, .f32⟩
  | .hbm, ⟨6, _⟩ => ⟨S24x32, .f32⟩
  | .hbm, ⟨7, _⟩ => ⟨S24x32, .f32⟩
  | .local _ .vmem, ⟨0, _⟩ => ⟨S8x24x32, .f32⟩
  | .local _ .vmem, ⟨1, _⟩ => ⟨S24x32, .f32⟩
  | .local _ .vmem, ⟨2, _⟩ => ⟨S24x32, .f32⟩
  | .local _ .vmem, ⟨3, _⟩ => ⟨S24x32, .f32⟩
  | .local _ .vmem, ⟨4, _⟩ => ⟨S24x32, .f32⟩
  | .local _ .vmem, ⟨5, _⟩ => ⟨S24x32, .f32⟩
  | .local _ .vmem, ⟨6, _⟩ => ⟨S24x32, .f32⟩
  | .local _ .vmem, ⟨7, _⟩ => ⟨S24x32, .f32⟩
  | _, _ => ⟨S8x24x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x24x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S24x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S24x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S24x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S24x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S24x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S24x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference13Ideal.lean ====
abbrev S8x24x32 : Shape := ⟨3, ![8, 24, 32]⟩
abbrev S24x32 : Shape := ⟨2, ![24, 32]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x24x32, .f32⟩
  | .hbm, ⟨1, _⟩ => ⟨S24x32, .f32⟩
  | .hbm, ⟨2, _⟩ => ⟨S24x32, .f32⟩
  | .hbm, ⟨3, _⟩ => ⟨S24x32, .f32⟩
  | .hbm, ⟨4, _⟩ => ⟨S_, .f32⟩
  | .hbm, ⟨5, _⟩ => ⟨S24x32, .f32⟩
  | .hbm, ⟨6, _⟩ => ⟨S_, .f32⟩
  | .hbm, ⟨7, _⟩ => ⟨S24x32, .f32⟩
  | .hbm, ⟨8, _⟩ => ⟨S24x32, .f32⟩
  | .hbm, ⟨9, _⟩ => ⟨S_, .f32⟩
  | .hbm, ⟨10, _⟩ => ⟨S24x32, .f32⟩
  | .hbm, ⟨11, _⟩ => ⟨S24x32, .f32⟩
  | .hbm, ⟨12, _⟩ => ⟨S24x32, .f32⟩
  | .hbm, ⟨13, _⟩ => ⟨S_, .f32⟩
  | .hbm, ⟨14, _⟩ => ⟨S24x32, .f32⟩
  | .hbm, ⟨15, _⟩ => ⟨S24x32, .f32⟩
  | .hbm, ⟨16, _⟩ => ⟨S24x32, .f32⟩
  | .hbm, ⟨17, _⟩ => ⟨S_, .f32⟩
  | .hbm, ⟨18, _⟩ => ⟨S24x32, .f32⟩
  | .hbm, ⟨19, _⟩ => ⟨S24x32, .f32⟩
  | .hbm, ⟨20, _⟩ => ⟨S24x32, .f32⟩
  | .hbm, ⟨21, _⟩ => ⟨S_, .f32⟩
  | .hbm, ⟨22, _⟩ => ⟨S24x32, .f32⟩
  | .hbm, ⟨23, _⟩ => ⟨S24x32, .f32⟩
  | .hbm, ⟨24, _⟩ => ⟨S_, .f32⟩
  | .hbm, ⟨25, _⟩ => ⟨S24x32, .f32⟩
  | .hbm, ⟨26, _⟩ => ⟨S24x32, .f32⟩
  | .hbm, ⟨27, _⟩ => ⟨S24x32, .f32⟩
  | .hbm, ⟨28, _⟩ => ⟨S_, .f32⟩
  | .hbm, ⟨29, _⟩ => ⟨S24x32, .f32⟩
  | .hbm, ⟨30, _⟩ => ⟨S24x32, .f32⟩
  | .hbm, ⟨31, _⟩ => ⟨S24x32, .f32⟩
  | .hbm, ⟨32, _⟩ => ⟨S_, .f32⟩
  | .hbm, ⟨33, _⟩ => ⟨S24x32, .f32⟩
  | .hbm, ⟨34, _⟩ => ⟨S24x32, .f32⟩
  | .hbm, ⟨35, _⟩ => ⟨S24x32, .f32⟩
  | .hbm, ⟨36, _⟩ => ⟨S_, .f32⟩
  | .hbm, ⟨37, _⟩ => ⟨S24x32, .f32⟩
  | .hbm, ⟨38, _⟩ => ⟨S24x32, .f32⟩
  | _, _ => ⟨S8x24x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel14.lean ====
abbrev S4x512x128 : Shape := ⟨3, ![4, 512, 128]⟩
abbrev S512x128 : Shape := ⟨2, ![512, 128]⟩
abbrev S4x256x128 : Shape := ⟨3, ![4, 256, 128]⟩
abbrev S256x128 : Shape := ⟨2, ![256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S4x512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S4x256x128, .f32⟩
  | .local _ .vmem, ⟨1, _⟩ => ⟨S4x256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S4x512x128 : Shape := ⟨3, ![4, 512, 128]⟩
abbrev S512x128 : Shape := ⟨2, ![512, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S_, .f32⟩
  | .hbm, ⟨7, _⟩ => ⟨S512x128, .f32⟩
  | .hbm, ⟨8, _⟩ => ⟨S512x128, .f32⟩
  | .hbm, ⟨9, _⟩ => ⟨S_, .f32⟩
  | .hbm, ⟨10, _⟩ => ⟨S512x128, .f32⟩
  | .hbm, ⟨11, _⟩ => ⟨S512x128, .f32⟩
  | .hbm, ⟨12, _⟩ => ⟨S512x128, .f32⟩
  | .hbm, ⟨13, _⟩ => ⟨S_, .f32⟩
  | .hbm, ⟨14, _⟩ => ⟨S512x128, .f32⟩
  | .hbm, ⟨15, _⟩ => ⟨S512x128, .f32⟩
  | .hbm, ⟨16, _⟩ => ⟨S512x128, .f32⟩
  | .hbm, ⟨17, _⟩ => ⟨S_, .f32⟩
  | .hbm, ⟨18, _⟩ => ⟨S512x128, .f32⟩
  | .hbm, ⟨19, _⟩ => ⟨S512x128, .f32⟩
  | .hbm, ⟨20, _⟩ => ⟨S512x128, .f32⟩
  | .hbm, ⟨21, _⟩ => ⟨S_, .f32⟩
  | .hbm, ⟨22, _⟩ => ⟨S512x128, .f32⟩
  | .hbm, ⟨23, _⟩ => ⟨S512x128, .f32⟩
  | .hbm, ⟨24, _⟩ => ⟨S_, .f32⟩
  | .hbm, ⟨25, _⟩ => ⟨S512x128, .f32⟩
  | .hbm, ⟨26, _⟩ => ⟨S512x128, .f32⟩
  | .hbm, ⟨27, _⟩ => ⟨S512x128, .f32⟩
  | .hbm, ⟨28, _⟩ => ⟨S_, .f32⟩
  | .hbm, ⟨29, _⟩ => ⟨S512x128, .f32⟩
  | .hbm, ⟨30, _⟩ => ⟨S512x128, .f32⟩
  | .hbm, ⟨31, _⟩ => ⟨S512x128, .f32⟩
  | .hbm, ⟨32, _⟩ => ⟨S_, .f32⟩
  | .hbm, ⟨33, _⟩ => ⟨S512x128, .f32⟩
  | .hbm, ⟨34, _⟩ => ⟨S512x128, .f32⟩
  | .hbm, ⟨35, _⟩ => ⟨S512x128, .f32⟩
  | .hbm, ⟨36, _⟩ => ⟨S_, .f32⟩
  | .hbm, ⟨37, _⟩ => ⟨S512x128, .f32⟩
  | .hbm, ⟨38, _⟩ => ⟨S512x128, .f32⟩
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel15.lean ====
abbrev S4x1x512 : Shape := ⟨3, ![4, 1, 512]⟩
abbrev S1x512 : Shape := ⟨2, ![1, 512]⟩
abbrev S1x1x512 : Shape := ⟨3, ![1, 1, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .local _ .vmem, ⟨0, _⟩ => ⟨S4x1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | _, _ => ⟨S4x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference15Ideal.lean ====
abbrev S4x1x512 : Shape := ⟨3, ![4, 1, 512]⟩
abbrev S1x512 : Shape := ⟨2, ![1, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S_, .f32⟩
  | .hbm, ⟨7, _⟩ => ⟨S1x512, .f32⟩
  | .hbm, ⟨8, _⟩ => ⟨S1x512, .f32⟩
  | .hbm, ⟨9, _⟩ => ⟨S_, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S_, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S_, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S_, .f32⟩
  | .hbm, ⟨22, _⟩ => ⟨S1x512, .f32⟩
  | .hbm, ⟨23, _⟩ => ⟨S1x512, .f32⟩
  | .hbm, ⟨24, _⟩ => ⟨S_, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S_, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S_, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S_, .f32⟩
  | .hbm, ⟨37, _⟩ => ⟨S1x512, .f32⟩
  | .hbm, ⟨38, _⟩ => ⟨S1x512, .f32⟩
  | _, _ => ⟨S4x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel16.lean ====
abbrev S4x1x1024 : Shape := ⟨3, ![4, 1, 1024]⟩
abbrev S1x1024 : Shape := ⟨2, ![1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S4x1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S4x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference16Ideal.lean ====
abbrev S4x1x1024 : Shape := ⟨3, ![4, 1, 1024]⟩
abbrev S1x1024 : Shape := ⟨2, ![1, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | _, _ => ⟨S4x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel17.lean ====
abbrev S4x1x128 : Shape := ⟨3, ![4, 1, 128]⟩
abbrev S1x128 : Shape := ⟨2, ![1, 128]⟩
abbrev S1x1x128 : Shape := ⟨3, ![1, 1, 128]⟩

abbrev nBuf : Space → Nat
  | .hbm => 2
  | .vmem => 2
  | .smem => 0
  | _ => 0

abbrev bufTy : (tb : Table) → Fin (tcTables nBuf tb) → BufTy
  | .hbm, ⟨0, _⟩ => ⟨S4x1x128, .f32⟩
  | .hbm, ⟨1, _⟩ => ⟨S1x128, .f32⟩
  | .local _ .vmem, ⟨0, _⟩ => ⟨S4x1x128, .f32⟩
  | .local _ .vmem, ⟨1, _⟩ => ⟨S1x128, .f32⟩
  | _, _ => ⟨S4x1x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference17Ideal.lean ====
abbrev S4x1x128 : Shape := ⟨3, ![4, 1, 128]⟩
abbrev S_ : Shape := ⟨0, ![]⟩
abbrev S1x128 : Shape := ⟨2, ![1, 128]⟩

abbrev nBuf : Space → Nat
  | .hbm => 3
  | .vmem => 0
  | .smem => 0
  | _ => 0

abbrev bufTy : (tb : Table) → Fin (tcTables nBuf tb) → BufTy
  | .hbm, ⟨0, _⟩ => ⟨S4x1x128, .f32⟩
  | .hbm, ⟨1, _⟩ => ⟨S_, .f32⟩
  | .hbm, ⟨2, _⟩ => ⟨S1x128, .f32⟩
  | _, _ => ⟨S4x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Pair.lean ====
module

public import proofs.«01_k».proof.Proof.Gen.KernelIdeal.Skeleton
public import Idealize.ShloMosaic.Lib.ValueIdx
public import Idealize.ShloMosaic.PureOps.Ideal.Laws
public import Idealize.ShloMosaic.Lib.Pipeline.Value

@[expose] public section
set_option maxRecDepth 16384

/-! What the kernel computes for one pair of heads, as functions of the blocks it loads. The kernel works on two heads at a
time: 128 lanes hold the 64 columns of each, and the rows of the two heads are stacked, the lanes of the other head set to
zero. `j` is the pair, `u` the half of the block's 256 queries. -/

noncomputable section
namespace Cert.Attn
open Cert.KernelIdeal Cert.KernelIdeal.Gen Idealize.ShloMosaic

theorem slicesRows : ∀ u : Fin 2, S256x512.Slices ![128 * u.val, 0] S128x512 := by decide
theorem slicesLanes : ∀ j : Fin 4, S128x512.Slices ![0, 128 * j.val] S128x128 := by decide
theorem slicesLanesK : ∀ j : Fin 4, S256x512.Slices ![0, 128 * j.val] S256x128 := by decide
theorem slicesHalf : ∀ g : Fin 2, S256x128.Slices ![128 * g.val, 0] S128x128 := by decide
theorem slicesCol : ∀ g : Fin 2, S128x128.Slices ![0, 64 * g.val] S128x1 := by decide

section Defs
variable {F : FTy → Type} [FloatOps F]

/-- Half `u` of the rows of a block. -/
def rows {φ : FTy} (x : FVec F S1x256x512 φ) (u : Fin 2) : FVec F S128x512 φ :=
  extractStridedSlice S128x512 ![128 * u.val, 0] (shapeCast S256x512 x shapeCasts_S1x256x512_S256x512) (slicesRows u)

/-- The 128 lanes of pair `j`, in half `u` of the rows. -/
def part {φ : FTy} (x : FVec F S1x256x512 φ) (u : Fin 2) (j : Fin 4) : FVec F S128x128 φ :=
  extractStridedSlice S128x128 ![0, 128 * j.val] (rows x u) (slicesLanes j)

/-- The 128 lanes of pair `j` of a block, all its rows. -/
def full {φ : FTy} (x : FVec F S1x256x512 φ) (j : Fin 4) : FVec F S256x128 φ :=
  extractStridedSlice S256x128 ![0, 128 * j.val]
    (concatenate S256x512 0 [⟨S128x512, rows x 0⟩, ⟨S128x512, rows x 1⟩] concatenates_S128x512_S128x512_S256x512_d0) (slicesLanesK j)

/-- `a` on the lanes of the pair's first head, `b` on those of its second. -/
def pick (a b : FVec F S128x128 .f32) : FVec F S128x128 .f32 :=
  select (broadcastTo S128x128 (shapeCast S1x128 k0_pay19 shapeCasts_S1x128_S1x128) broadcasts_S1x128_S128x128) a b

/-- The zero matrix. -/
def zeros : FVec F S128x128 .f32 := broadcast S128x128 (Scalar.ofBits .f32 0x00000000#32)

/-- The rows of the two heads under each other, each with the other head's lanes set to zero. -/
def stack (x : FVec F S128x128 .f32) : FVec F S256x128 .bf16 :=
  truncf .bf16 (concatenate S256x128 0 [⟨S128x128, pick x zeros⟩, ⟨S128x128, pick zeros x⟩] concatenates_S128x128_S128x128_S256x128_d0)
    bitsLt_bf16_f32

/-- Multiply by the scale of the logits, 1/8. -/
def scale (x : FVec F S128x128 .f32) : FVec F S128x128 .f32 := mulf x (broadcast S128x128 (Scalar.ofBits .f32 0x3E000000#32))

/-- The stacked, scaled queries. -/
def queries (q : FVec F S1x256x512 .bf16) (u : Fin 2) (j : Fin 4) : FVec F S256x128 .bf16 :=
  stack (scale (extf .f32 (part q u j) bitsLt_bf16_f32))

/-- The stacked cotangents. -/
def cots (o : FVec F S1x256x512 .bf16) (u : Fin 2) (j : Fin 4) : FVec F S256x128 .bf16 :=
  stack (extf .f32 (part o u j) bitsLt_bf16_f32)

/-- The value each head of the pair has at its first lane, under each other. -/
def col (x : FVec F S128x128 .f32) : FVec F S256x256 .f32 :=
  broadcastTo S256x256 (concatenate S256x1 0 [⟨S128x1, extractStridedSlice S128x1 ![0, 64 * (0 : Fin 2).val] x (slicesCol 0)⟩,
    ⟨S128x1, extractStridedSlice S128x1 ![0, 64 * (1 : Fin 2).val] x (slicesCol 1)⟩] concatenates_S128x1_S128x1_S256x1_d0) broadcasts_S256x1_S256x256

/-- The attention weights of the pair's heads, from the saved log sum of the weights `l` and the bias block `t`. -/
def weights (q k : FVec F S1x256x512 .bf16) (l : FVec F S1x256x512 .f32) (t : FVec F S1x256x256 .f32) (u : Fin 2) (j : Fin 4) :
    FVec F S256x256 .f32 :=
  exp (subf (addf (matmul dot_S256x128_S256x128_S256x256_1_1_0_0_n_n none (queries q u j) (full k j) (constant S256x256 .f32 0x00000000#32))
    (shapeCast S256x256 t shapeCasts_S1x256x256_S256x256)) (col (part l u j)))

/-- The gradient of the logits. -/
def scores (q k v o : FVec F S1x256x512 .bf16) (l d : FVec F S1x256x512 .f32) (t : FVec F S1x256x256 .f32) (u : Fin 2) (j : Fin 4) :
    FVec F S256x256 .f32 :=
  mulf (weights q k l t u j)
    (subf (matmul dot_S256x128_S256x128_S256x256_1_1_0_0_n_n none (cots o u j) (full v j) (constant S256x256 .f32 0x00000000#32))
      (col (part d u j)))

/-- The accumulated gradient of the logits: the old value plus this block's. -/
def accScores (q k v o : FVec F S1x256x512 .bf16) (l d : FVec F S1x256x512 .f32) (t : FVec F S1x256x256 .f32) (u : Fin 2) (j : Fin 4)
    (old : FVec F S1x256x256 .f32) : FVec F S1x256x256 .f32 :=
  shapeCast S1x256x256 (addf (shapeCast S256x256 old shapeCasts_S1x256x256_S256x256) (scores q k v o l d t u j)) shapeCasts_S256x256_S1x256x256

/-- Half `g` of 256 rows. -/
def half (g : Fin 2) (x : FVec F S256x128 .f32) : FVec F S128x128 .f32 := extractStridedSlice S128x128 ![128 * g.val, 0] x (slicesHalf g)

/-- The gradient of the queries, one half of the rows. -/
def dqHalf (k : FVec F S1x256x512 .bf16) (s : FVec F S256x256 .f32) (j : Fin 4) : FVec F S128x128 .f32 :=
  have m : FVec F S256x128 .f32 := matmul dot_S256x256_S256x128_S256x128_1_0_0_1_n_n none (truncf .bf16 s bitsLt_bf16_f32) (full k j) (constant S256x128 .f32 0x00000000#32)
  scale (pick (half 0 m) (half 1 m))

/-- The gradient of the queries of a pair as stored. -/
def dqStore (k : FVec F S1x256x512 .bf16) (s s' : FVec F S256x256 .f32) (j : Fin 4) : FVec F S1x256x128 .bf16 :=
  shapeCast S1x256x128 (truncf .bf16 (concatenate S256x128 0 [⟨S128x128, dqHalf k s j⟩, ⟨S128x128, dqHalf k s' j⟩]
    concatenates_S128x128_S128x128_S256x128_d0) bitsLt_bf16_f32) shapeCasts_S256x128_S1x256x128

/-- One half of the queries' contribution to a key or value gradient: the transposed matrix times the stacked rows. -/
def contrib (s : FVec F S256x256 .f32) (x : FVec F S256x128 .bf16) : FVec F S256x128 .f32 :=
  matmul dot_S256x256_S256x128_S256x128_0_0_1_1_n_n none (truncf .bf16 s bitsLt_bf16_f32) x (constant S256x128 .f32 0x00000000#32)

/-- The sum of the two halves' contributions, as stored. -/
def keyStore (a b : FVec F S256x128 .f32) : FVec F S1x256x128 .bf16 :=
  shapeCast S1x256x128 (truncf .bf16 (concatenate S256x128 0 [⟨S128x128, addf (half 0 a) (half 0 b)⟩, ⟨S128x128, addf (half 1 a) (half 1 b)⟩]
    concatenates_S128x128_S128x128_S256x128_d0) bitsLt_bf16_f32) shapeCasts_S256x128_S1x256x128

end Defs

/-! ### The same at an index, over the extended reals -/

open Idealize.ShloMosaic.ValueIdx

/-- Row `i` of half `u`. -/
abbrev row2 (u : Fin 2) (i : Fin 128) : Fin 256 := ⟨128 * u.val + i.val, by omega⟩
/-- Lane `d` of head `g` of a pair. -/
abbrev lane2 (g : Fin 2) (d : Fin 64) : Fin 128 := ⟨64 * g.val + d.val, by omega⟩
/-- Column `d` of head `h`. -/
abbrev colOf (h : Fin 8) (d : Fin 64) : Fin 512 := ⟨64 * h.val + d.val, by omega⟩
/-- Head `g` of pair `j`. -/
abbrev headOf (j : Fin 4) (g : Fin 2) : Fin 8 := ⟨2 * j.val + g.val, by omega⟩
/-- The scale of the logits. -/
abbrev eighth : EReal := Ideal.ofBits .f32 0x3E000000#32

theorem forall_row2 {p : Fin 256 → Prop} (h : ∀ u i, p (row2 u i)) (r : Fin 256) : p r := by
  have := h ⟨r.val / 128, by omega⟩ ⟨r.val % 128, by omega⟩
  rwa [show row2 ⟨r.val / 128, by omega⟩ ⟨r.val % 128, by omega⟩ = r from Fin.ext (by show 128 * (r.val / 128) + r.val % 128 = r.val; omega)] at this
theorem forall_lane2 {p : Fin 128 → Prop} (h : ∀ g d, p (lane2 g d)) (l : Fin 128) : p l := by
  have := h ⟨l.val / 64, by omega⟩ ⟨l.val % 64, by omega⟩
  rwa [show lane2 ⟨l.val / 64, by omega⟩ ⟨l.val % 64, by omega⟩ = l from Fin.ext (by show 64 * (l.val / 64) + l.val % 64 = l.val; omega)] at this

/-- A sum over 256 rows by halves. -/
theorem sum_row2 (f : Fin 256 → EReal) : ∑ r, f r = ∑ u : Fin 2, ∑ i : Fin 128, f (row2 u i) := by
  rw [← Fintype.sum_prod_type']
  refine (Fintype.sum_equiv (finProdFinEquiv (m := 2) (n := 128)) _ _ fun x => ?_).symm
  exact congrArg f (Fin.ext (by show 128 * x.1.val + x.2.val = x.2.val + 128 * x.1.val; omega))
/-- A sum over the 128 lanes of a pair by heads. -/
theorem sum_lane2 (f : Fin 128 → EReal) : ∑ l, f l = ∑ g : Fin 2, ∑ d : Fin 64, f (lane2 g d) := by
  rw [← Fintype.sum_prod_type']
  refine (Fintype.sum_equiv (finProdFinEquiv (m := 2) (n := 64)) _ _ fun x => ?_).symm
  exact congrArg f (Fin.ext (by show 64 * x.1.val + x.2.val = x.2.val + 64 * x.1.val; omega))

variable {φ : FTy}

/-- Two 128-row pieces under each other, read at a row of half `u`. -/
theorem catRows {α : Type} {n : Nat} (x y : (⟨2, ![128, n]⟩ : Shape).Idx → α)
    (h : Shape.Concatenates [⟨2, ![128, n]⟩, ⟨2, ![128, n]⟩] (⟨2, ![256, n]⟩ : Shape) 0) (u : Fin 2) (i : Fin 128) (l : Fin n) :
    concatenate (⟨2, ![256, n]⟩ : Shape) 0 [⟨⟨2, ![128, n]⟩, x⟩, ⟨⟨2, ![128, n]⟩, y⟩] h (ix2 (row2 u i) l)
      = if u = 0 then x (ix2 i l) else y (ix2 i l) := by
  match u with
  | 0 =>
    rw [concatenate_pair_apply_left (t := ⟨2, ![256, n]⟩) 0 x y h (ix2 (row2 0 i) l) rfl (ix2 i l) (fun b => match b with
      | ⟨0, _⟩ => by show i.val = 128 * 0 + i.val; omega
      | ⟨1, _⟩ => rfl)]
    rfl
  | 1 =>
    rw [concatenate_pair_apply_right (t := ⟨2, ![256, n]⟩) 0 x y h (ix2 (row2 1 i) l) rfl rfl (ix2 i l) (fun b hb => match b with
      | ⟨0, _⟩ => absurd rfl hb
      | ⟨1, _⟩ => rfl) (by show i.val + 128 = 128 * 1 + i.val; omega)]
    rfl

theorem rows_apply (x : FVec Ideal S1x256x512 φ) (u : Fin 2) (i : Fin 128) (c : Fin 512) : rows x u (ix2 i c) = x (ix3 0 (row2 u i) c) := by
  unfold rows
  rw [extractStridedSlice_apply _ _ _ _ (ix2 (row2 u i) c) (fun a => match a with
    | ⟨0, _⟩ => rfl
    | ⟨1, _⟩ => (Nat.zero_add _).symm)]
  exact shapeCast_apply _ _ _ _ (by rw [Shape.rowMajor_val_three, Shape.rowMajor_val_two]; show (0 * 256 + _) * 512 + _ = _; simp)

theorem part_apply (x : FVec Ideal S1x256x512 φ) (u : Fin 2) (j : Fin 4) (i : Fin 128) (g : Fin 2) (d : Fin 64) :
    part x u j (ix2 i (lane2 g d)) = x (ix3 0 (row2 u i) (colOf (headOf j g) d)) := by
  unfold part
  rw [extractStridedSlice_apply _ _ _ _ (ix2 i (colOf (headOf j g) d)) (fun a => match a with
    | ⟨0, _⟩ => (Nat.zero_add _).symm
    | ⟨1, _⟩ => by show 64 * (2 * j.val + g.val) + d.val = 128 * j.val + (64 * g.val + d.val); omega)]
  exact rows_apply x u i _

theorem full_apply (x : FVec Ideal S1x256x512 φ) (j : Fin 4) (r : Fin 256) (g : Fin 2) (d : Fin 64) :
    full x j (ix2 r (lane2 g d)) = x (ix3 0 r (colOf (headOf j g) d)) := by
  unfold full
  rw [extractStridedSlice_apply _ _ _ _ (ix2 r (colOf (headOf j g) d)) (fun a => match a with
    | ⟨0, _⟩ => (Nat.zero_add _).symm
    | ⟨1, _⟩ => by show 64 * (2 * j.val + g.val) + d.val = 128 * j.val + (64 * g.val + d.val); omega)]
  revert r
  refine forall_row2 fun u i => ?_
  rw [catRows, rows_apply, rows_apply]
  match u with
  | 0 => rfl
  | 1 => rfl

theorem pick_apply (a b : FVec Ideal S128x128 .f32) (i : Fin 128) (g : Fin 2) (d : Fin 64) :
    pick a b (ix2 i (lane2 g d)) = if g = 0 then a (ix2 i (lane2 g d)) else b (ix2 i (lane2 g d)) := by
  unfold pick
  rw [select_apply, broadcastTo_apply _ _ _ (ix2 0 (lane2 g d)) (fun a => match a with
    | ⟨0, _⟩ => rfl
    | ⟨1, _⟩ => rfl)]
  have h : shapeCast S1x128 k0_pay19 shapeCasts_S1x128_S1x128 (ix2 0 (lane2 g d)) = if g = 0 then 1#1 else 0#1 := by
    rw [shapeCast_self]
    revert g d; decide
  rw [h]
  by_cases hg : g = 0
  · rw [if_pos hg, if_pos hg, select_one]
  · rw [if_neg hg, if_neg hg, select_zero]

theorem stack_apply (x : FVec Ideal S128x128 .f32) (h : Fin 2) (i : Fin 128) (g : Fin 2) (d : Fin 64) :
    stack x (ix2 (row2 h i) (lane2 g d)) = if g = h then x (ix2 i (lane2 g d)) else 0 := by
  unfold stack
  have hz : (zeros : FVec Ideal S128x128 .f32) (ix2 i (lane2 g d)) = 0 := Ideal.ofBits_zero_f32
  rw [truncf_apply, catRows, pick_apply, pick_apply, hz]
  match h, g with
  | 0, 0 => rfl
  | 0, 1 => rfl
  | 1, 0 => rfl
  | 1, 1 => rfl

theorem queries_apply (q : FVec Ideal S1x256x512 .bf16) (u : Fin 2) (j : Fin 4) (h : Fin 2) (i : Fin 128) (g : Fin 2) (d : Fin 64) :
    queries q u j (ix2 (row2 h i) (lane2 g d)) = if g = h then q (ix3 0 (row2 u i) (colOf (headOf j g) d)) * eighth else 0 := by
  unfold queries scale
  rw [stack_apply, mulf_apply, extf_apply, part_apply]
  rfl

theorem cots_apply (q : FVec Ideal S1x256x512 .bf16) (u : Fin 2) (j : Fin 4) (h : Fin 2) (i : Fin 128) (g : Fin 2) (d : Fin 64) :
    cots q u j (ix2 (row2 h i) (lane2 g d)) = if g = h then q (ix3 0 (row2 u i) (colOf (headOf j g) d)) else 0 := by
  unfold cots
  rw [stack_apply, extf_apply, part_apply]

theorem col_apply (x : FVec Ideal S1x256x512 .f32) (u : Fin 2) (j : Fin 4) (h : Fin 2) (i : Fin 128) (k : Fin 256) :
    col (part x u j) (ix2 (row2 h i) k) = x (ix3 0 (row2 u i) (colOf (headOf j h) 0)) := by
  unfold col
  rw [broadcastTo_apply _ _ _ (ix2 (row2 h i) (0 : Fin 1)) (fun a => match a with
    | ⟨0, _⟩ => rfl
    | ⟨1, _⟩ => rfl)]
  rw [← part_apply x u j i h 0]
  rw [catRows]
  match h with
  | 0 =>
    rw [if_pos rfl]
    exact extractStridedSlice_apply _ _ _ _ _ (fun a => match a with
      | ⟨0, _⟩ => (Nat.zero_add _).symm
      | ⟨1, _⟩ => rfl)
  | 1 =>
    rw [if_neg (by decide)]
    exact extractStridedSlice_apply _ _ _ _ _ (fun a => match a with
      | ⟨0, _⟩ => (Nat.zero_add _).symm
      | ⟨1, _⟩ => rfl)

/-- The product of 128-lane rows. -/
theorem dotNT_apply (a b : FVec Ideal S256x128 .bf16) (r k : Fin 256) :
    matmul dot_S256x128_S256x128_S256x256_1_1_0_0_n_n none a b (constant S256x256 .f32 0x00000000#32) (ix2 r k)
      = ∑ l : Fin 128, a (ix2 r l) * b (ix2 k l) := by
  rw [show matmul dot_S256x128_S256x128_S256x256_1_1_0_0_n_n none a b (constant S256x256 .f32 0x00000000#32) (ix2 r k) = _ from
    Ideal.matmul_constant_zero_apply _ _ _ _ _,
    ← Equiv.sum_comp (contrEquiv1 dot_S256x128_S256x128_S256x256_1_1_0_0_n_n 128 rfl rfl).symm]
  refine Finset.sum_congr rfl fun l _ => congrArg₂ (fun x y : EReal => x * y) (congrArg a (funext fun x => Fin.ext ?_)) (congrArg b (funext fun x => Fin.ext ?_))
  · match x with
    | ⟨0, _⟩ => rfl
    | ⟨1, _⟩ => exact contrEquiv1_symm_val dot_S256x128_S256x128_S256x256_1_1_0_0_n_n 128 rfl rfl l
  · match x with
    | ⟨0, _⟩ => rfl
    | ⟨1, _⟩ => exact contrEquiv1_symm_val dot_S256x128_S256x128_S256x256_1_1_0_0_n_n 128 rfl rfl l

/-- A matrix times 128-lane rows. -/
theorem dotNN_apply (a : FVec Ideal S256x256 .bf16) (b : FVec Ideal S256x128 .bf16) (r : Fin 256) (l : Fin 128) :
    matmul dot_S256x256_S256x128_S256x128_1_0_0_1_n_n none a b (constant S256x128 .f32 0x00000000#32) (ix2 r l)
      = ∑ k : Fin 256, a (ix2 r k) * b (ix2 k l) := by
  rw [show matmul dot_S256x256_S256x128_S256x128_1_0_0_1_n_n none a b (constant S256x128 .f32 0x00000000#32) (ix2 r l) = _ from
    Ideal.matmul_constant_zero_apply _ _ _ _ _,
    ← Equiv.sum_comp (contrEquiv1 dot_S256x256_S256x128_S256x128_1_0_0_1_n_n 256 rfl rfl).symm]
  refine Finset.sum_congr rfl fun k _ => congrArg₂ (fun x y : EReal => x * y) (congrArg a (funext fun x => Fin.ext ?_)) (congrArg b (funext fun x => Fin.ext ?_))
  · match x with
    | ⟨0, _⟩ => rfl
    | ⟨1, _⟩ => exact contrEquiv1_symm_val dot_S256x256_S256x128_S256x128_1_0_0_1_n_n 256 rfl rfl k
  · match x with
    | ⟨0, _⟩ => exact contrEquiv1_symm_val dot_S256x256_S256x128_S256x128_1_0_0_1_n_n 256 rfl rfl k
    | ⟨1, _⟩ => rfl

/-- A transposed matrix times 128-lane rows. -/
theorem dotTN_apply (a : FVec Ideal S256x256 .bf16) (b : FVec Ideal S256x128 .bf16) (k : Fin 256) (l : Fin 128) :
    matmul dot_S256x256_S256x128_S256x128_0_0_1_1_n_n none a b (constant S256x128 .f32 0x00000000#32) (ix2 k l)
      = ∑ r : Fin 256, a (ix2 r k) * b (ix2 r l) := by
  rw [show matmul dot_S256x256_S256x128_S256x128_0_0_1_1_n_n none a b (constant S256x128 .f32 0x00000000#32) (ix2 k l) = _ from
    Ideal.matmul_constant_zero_apply _ _ _ _ _,
    ← Equiv.sum_comp (contrEquiv1 dot_S256x256_S256x128_S256x128_0_0_1_1_n_n 256 rfl rfl).symm]
  refine Finset.sum_congr rfl fun r _ => congrArg₂ (fun x y : EReal => x * y) (congrArg a (funext fun x => Fin.ext ?_)) (congrArg b (funext fun x => Fin.ext ?_))
  · match x with
    | ⟨0, _⟩ => exact contrEquiv1_symm_val dot_S256x256_S256x128_S256x128_0_0_1_1_n_n 256 rfl rfl r
    | ⟨1, _⟩ => rfl
  · match x with
    | ⟨0, _⟩ => exact contrEquiv1_symm_val dot_S256x256_S256x128_S256x128_0_0_1_1_n_n 256 rfl rfl r
    | ⟨1, _⟩ => rfl

/-! ### One head -/

section Head
variable (q k v o : FVec Ideal S1x256x512 .bf16) (l dl : FVec Ideal S1x256x512 .f32)

/-- The attention weight of query `i` and key `k'` in head `h`, from a bias entry `t`. -/
def wgt (h : Fin 8) (i k' : Fin 256) (t : EReal) : EReal :=
  Ideal.exp ((∑ d : Fin 64, q (ix3 0 i (colOf h d)) * eighth * k (ix3 0 k' (colOf h d))) + t - l (ix3 0 i (colOf h 0)))

/-- The gradient of the logit of query `i` and key `k'` in head `h`. -/
def grd (h : Fin 8) (i k' : Fin 256) (t : EReal) : EReal :=
  wgt q k l h i k' t * ((∑ d : Fin 64, o (ix3 0 i (colOf h d)) * v (ix3 0 k' (colOf h d))) - dl (ix3 0 i (colOf h 0)))

/-- A sum over the pair's lanes in which the other head's lanes are zero is the sum over the head's own 64. -/
theorem sum_masked (h : Fin 2) (f : Fin 2 → Fin 64 → EReal) (b : Fin 2 → Fin 64 → EReal) :
    ∑ g : Fin 2, ∑ d : Fin 64, (if g = h then f g d else 0) * b g d = ∑ d : Fin 64, f h d * b h d := by
  match h with
  | 0 => simp
  | 1 => simp

theorem weights_apply (t : FVec Ideal S1x256x256 .f32) (u : Fin 2) (j : Fin 4) (h : Fin 2) (i : Fin 128) (k' : Fin 256) :
    weights q k l t u j (ix2 (row2 h i) k') = wgt q k l (headOf j h) (row2 u i) k' (t (ix3 0 (row2 h i) k')) := by
  unfold weights wgt
  show Ideal.exp (_ + _ - _) = _
  rw [dotNT_apply, col_apply, sum_lane2]
  simp only [queries_apply, full_apply]
  rw [sum_masked h (fun g d => q (ix3 0 (row2 u i) (colOf (headOf j g) d)) * eighth)]
  rw [shapeCast_apply t _ _ (ix3 0 (row2 h i) k') (by rw [Shape.rowMajor_val_three, Shape.rowMajor_val_two]; show (0 * 256 + _) * 256 + _ = _; simp)]

theorem scores_apply (t : FVec Ideal S1x256x256 .f32) (u : Fin 2) (j : Fin 4) (h : Fin 2) (i : Fin 128) (k' : Fin 256) :
    scores q k v o l dl t u j (ix2 (row2 h i) k') = grd q k v o l dl (headOf j h) (row2 u i) k' (t (ix3 0 (row2 h i) k')) := by
  unfold scores grd
  rw [mulf_apply, subf_apply, weights_apply, dotNT_apply, col_apply, sum_lane2]
  simp only [cots_apply, full_apply]
  rw [sum_masked h (fun g d => o (ix3 0 (row2 u i) (colOf (headOf j g) d)))]

theorem accScores_apply (t old : FVec Ideal S1x256x256 .f32) (u : Fin 2) (j : Fin 4) (h : Fin 2) (i : Fin 128) (k' : Fin 256) :
    accScores q k v o l dl t u j old (ix3 0 (row2 h i) k')
      = old (ix3 0 (row2 h i) k') + grd q k v o l dl (headOf j h) (row2 u i) k' (t (ix3 0 (row2 h i) k')) := by
  have e : (S256x256.rowMajor (ix2 (row2 h i) k')).val = (S1x256x256.rowMajor (ix3 0 (row2 h i) k')).val := by
    rw [Shape.rowMajor_val_three, Shape.rowMajor_val_two]; show _ = (0 * 256 + _) * 256 + _; simp
  unfold accScores
  rw [shapeCast_apply _ _ _ (ix2 (row2 h i) k') e, addf_apply, scores_apply, shapeCast_apply _ _ _ (ix3 0 (row2 h i) k') e.symm]

theorem half_apply (g : Fin 2) (x : FVec Ideal S256x128 .f32) (i l : Fin 128) : half g x (ix2 i l) = x (ix2 (row2 g i) l) := by
  unfold half
  exact extractStridedSlice_apply _ _ _ _ _ (fun a => match a with
    | ⟨0, _⟩ => rfl
    | ⟨1, _⟩ => (Nat.zero_add _).symm)

theorem dqHalf_apply (s : FVec Ideal S256x256 .f32) (j : Fin 4) (i : Fin 128) (g : Fin 2) (d : Fin 64) :
    dqHalf k s j (ix2 i (lane2 g d)) = (∑ k' : Fin 256, s (ix2 (row2 g i) k') * k (ix3 0 k' (colOf (headOf j g) d))) * eighth := by
  unfold dqHalf scale
  rw [mulf_apply, pick_apply, half_apply, half_apply, dotNN_apply, dotNN_apply]
  simp only [full_apply, truncf_apply]
  match g with
  | 0 => rfl
  | 1 => rfl

theorem contrib_queries (s : FVec Ideal S256x256 .f32) (u : Fin 2) (j : Fin 4) (k' : Fin 256) (g : Fin 2) (d : Fin 64) :
    contrib s (queries q u j) (ix2 k' (lane2 g d))
      = ∑ i : Fin 128, s (ix2 (row2 g i) k') * (q (ix3 0 (row2 u i) (colOf (headOf j g) d)) * eighth) := by
  unfold contrib
  rw [dotTN_apply, sum_row2]
  simp only [queries_apply, truncf_apply]
  match g with
  | 0 => simp
  | 1 => simp

theorem contrib_cots (s : FVec Ideal S256x256 .f32) (u : Fin 2) (j : Fin 4) (k' : Fin 256) (g : Fin 2) (d : Fin 64) :
    contrib s (cots o u j) (ix2 k' (lane2 g d))
      = ∑ i : Fin 128, s (ix2 (row2 g i) k') * o (ix3 0 (row2 u i) (colOf (headOf j g) d)) := by
  unfold contrib
  rw [dotTN_apply, sum_row2]
  simp only [cots_apply, truncf_apply]
  match g with
  | 0 => simp
  | 1 => simp

theorem cast3 {α : Type} (x : S256x128.Idx → α) (r : Fin 256) (c : Fin 128) :
    shapeCast S1x256x128 x shapeCasts_S256x128_S1x256x128 (ix3 0 r c) = x (ix2 r c) :=
  shapeCast_apply _ _ _ _ (by rw [Shape.rowMajor_val_three, Shape.rowMajor_val_two]; show _ = (0 * 256 + _) * 128 + _; simp)

theorem dqStore_apply (s : Fin 2 → FVec Ideal S256x256 .f32) (j : Fin 4) (u : Fin 2) (i : Fin 128) (g : Fin 2) (d : Fin 64) :
    dqStore k (s 0) (s 1) j (ix3 0 (row2 u i) (lane2 g d)) = (∑ k' : Fin 256, s u (ix2 (row2 g i) k') * k (ix3 0 k' (colOf (headOf j g) d))) * eighth := by
  unfold dqStore
  rw [cast3, truncf_apply, catRows, dqHalf_apply, dqHalf_apply]
  match u with
  | 0 => rfl
  | 1 => rfl

theorem keyStore_apply (a b : FVec Ideal S256x128 .f32) (r : Fin 256) (l : Fin 128) :
    keyStore a b (ix3 0 r l) = a (ix2 r l) + b (ix2 r l) := by
  revert r
  refine forall_row2 fun u i => ?_
  unfold keyStore
  rw [cast3, truncf_apply, catRows, addf_apply, addf_apply, half_apply, half_apply, half_apply, half_apply]
  match u with
  | 0 => rfl
  | 1 => rfl

end Head
end Cert.Attn
end
-- ==== Proof.Block.lean ====
module

public import proofs.«01_k».proof.Proof.Gen.KernelIdeal.Value
public import proofs.«01_k».proof.Proof.Pair
public import Idealize.ShloMosaic.Lib.Pipeline.ReadBack
public import Idealize.ShloMosaic.Lib.Pipeline.ValueKit.Tiles
public import Idealize.ShloMosaic.Lib.Tactic

@[expose] public section
set_option maxRecDepth 16384

/-! What one grid point leaves in its three output blocks, at every index, from the blocks it is given. -/

noncomputable section
namespace Cert.Attn
open Cert.KernelIdeal Cert.KernelIdeal.Gen Idealize.ShloMosaic Idealize.ShloMosaic.TcCoe Idealize.ShloMosaic.Tactic Idealize.SL.Sem
open Idealize.ShloMosaic.ValueIdx

theorem inbTab : ∀ (j : Fin 4) (a : Fin S4x256x256.rank), ![j.val, 0, 0] a + S1x256x256.size a ≤ S4x256x256.size a := by decide
theorem inbOut : ∀ (p : Fin 12) (a : Fin S1x256x1536.rank), ![0, 0, 128 * p.val] a + S1x256x128.size a ≤ S1x256x1536.size a := by decide

/-- The rectangle of a table that belongs to pair `j`. -/
abbrev rTab (j : Fin 4) : Rect S4x256x256 := Rect.unit (s := S4x256x256) ![j.val, 0, 0] S1x256x256.size (inbTab j)
/-- The rectangle of the output block that holds part `a` (queries, keys, values) of pair `j`. -/
abbrev rOut (a : Fin 3) (j : Fin 4) : Rect S1x256x1536 :=
  Rect.unit (s := S1x256x1536) ![0, 0, 128 * (4 * a.val + j.val)] S1x256x128.size (inbOut ⟨4 * a.val + j.val, by omega⟩)

/-- The slab of a table (or of an accumulator) that belongs to pair `j`. -/
def slab {F : FTy → Type} [FloatOps F] (x : FVec F S4x256x256 .f32) (j : Fin 4) : FVec F S1x256x256 .f32 :=
  View.ld (Val := Elt F) (e' := .f32) x (rTab j)

theorem slab_apply (x : FVec Ideal S4x256x256 .f32) (j : Fin 4) (r k : Fin 256) : slab x j (ix3 0 r k) = x (ix3 j r k) := by
  unfold slab
  refine View.ld_unit_apply_of (Val := Elt Ideal) (e := .f32) x _ _ _ _ _ fun a => ?_
  match a with
  | ⟨0, _⟩ => rfl
  | ⟨1, _⟩ => exact (Nat.zero_add _).symm
  | ⟨2, _⟩ => exact (Nat.zero_add _).symm

section Out
variable (q k v o : FVec Ideal S1x256x512 .bf16) (l dl : FVec Ideal S1x256x512 .f32) (ta tb : FVec Ideal S4x256x256 .f32)

/-- The bias entry of head `h` for query `r` and key `k`: the first table holds the block's first 128 queries, the second the
other 128; a table's rows are those of the pair's two heads under each other. -/
def entry (h : Fin 8) (r k : Fin 256) : EReal :=
  (if r.val < 128 then ta else tb) (ix3 ⟨h.val / 2, by omega⟩ ⟨128 * (h.val % 2) + r.val % 128, by omega⟩ k)

theorem entry_eq (j : Fin 4) (g u : Fin 2) (i : Fin 128) (k' : Fin 256) :
    entry ta tb (headOf j g) (row2 u i) k' = slab (![ta, tb] u) j (ix3 0 (row2 g i) k') := by
  rw [slab_apply]
  unfold entry
  have e0 : (⟨(headOf j g).val / 2, by omega⟩ : Fin 4) = j := Fin.ext (by show (2 * j.val + g.val) / 2 = j.val; omega)
  have e1 : (⟨128 * ((headOf j g).val % 2) + (row2 u i).val % 128, by omega⟩ : Fin 256) = row2 g i :=
    Fin.ext (by show 128 * ((2 * j.val + g.val) % 2) + (128 * u.val + i.val) % 128 = 128 * g.val + i.val; omega)
  rw [e0, e1]
  match u with
  | 0 => rw [if_pos (by show 128 * 0 + i.val < 128; omega)]; rfl
  | 1 => rw [if_neg (by show ¬ (128 * 1 + i.val < 128); omega)]; rfl

/-- The block's attention weights … -/
def blkW (h : Fin 8) (r k' : Fin 256) : EReal := wgt q k l h r k' (entry ta tb h r k')
/-- … the gradient of its logits … -/
def blkS (h : Fin 8) (r k' : Fin 256) : EReal := grd q k v o l dl h r k' (entry ta tb h r k')
/-- … of its queries … -/
def blkQ (r : Fin 256) (h : Fin 8) (d : Fin 64) : EReal :=
  (∑ k' : Fin 256, blkS q k v o l dl ta tb h r k' * k (ix3 0 k' (colOf h d))) * eighth
/-- … of its keys … -/
def blkK (k' : Fin 256) (h : Fin 8) (d : Fin 64) : EReal :=
  ∑ r : Fin 256, blkS q k v o l dl ta tb h r k' * (q (ix3 0 r (colOf h d)) * eighth)
/-- … and of its values. -/
def blkV (k' : Fin 256) (h : Fin 8) (d : Fin 64) : EReal :=
  ∑ r : Fin 256, blkW q k l ta tb h r k' * o (ix3 0 r (colOf h d))

/-- The output block: the columns of the queries, then of the keys, then of the values. -/
def outQKV (y : S1x256x1536.Idx) : EReal :=
  have r : Fin 256 := y 1
  have c : Fin 1536 := y 2
  have h : Fin 8 := ⟨c.val % 512 / 64, by omega⟩
  have d : Fin 64 := ⟨c.val % 64, by omega⟩
  if c.val < 512 then blkQ q k v o l dl ta tb r h d
  else if c.val < 1024 then blkK q k v o l dl ta tb r h d else blkV q k o l ta tb r h d

/-- An accumulated table of one half of the queries: the old entry plus the block's gradient of the logit. -/
def outTab (u : Fin 2) (t old : FVec Ideal S4x256x256 .f32) (y : S4x256x256.Idx) : EReal :=
  have j : Fin 4 := y 0
  have r : Fin 256 := y 1
  old y + grd q k v o l dl ⟨2 * j.val + r.val / 128, by omega⟩ ⟨128 * u.val + r.val % 128, by omega⟩ (y 2) (t y)

/-- Pair `j`'s store into an accumulated table. -/
theorem piece_tab (u : Fin 2) (j : Fin 4) (t old : FVec Ideal S4x256x256 .f32) (x : S1x256x256.Idx) :
    accScores q k v o l dl (slab t j) u j (slab old j) x
      = outTab q k v o l dl u t old ((rTab j).emb x) := by
  have hx0 : x 0 = (0 : Fin 1) := Fin.ext (by have := (x 0).isLt; have : (x 0).val < 1 := this; show (x 0).val = 0; omega)
  obtain ⟨r, k', rfl⟩ : ∃ r k', x = ix3 (0 : Fin 1) r k' := ⟨x 1, x 2, by rw [← hx0]; exact eq_ix3 x⟩
  have he : (rTab j).emb (ix3 (0 : Fin 1) r k') = ix3 j r k' := funext fun a => Fin.ext (by
    refine (Rect.idx_unit_val _ _ _ _ a).trans ?_
    match a with
    | ⟨0, _⟩ => rfl
    | ⟨1, _⟩ => exact Nat.zero_add _
    | ⟨2, _⟩ => exact Nat.zero_add _)
  rw [he]
  clear hx0 he
  revert r
  refine forall_row2 fun g i => ?_
  rw [accScores_apply, slab_apply, slab_apply]
  unfold outTab
  have e0 : (⟨2 * j.val + (row2 g i).val / 128, by omega⟩ : Fin 8) = headOf j g :=
    Fin.ext (by show 2 * j.val + (128 * g.val + i.val) / 128 = 2 * j.val + g.val; omega)
  have e1 : (⟨128 * u.val + (row2 g i).val % 128, by omega⟩ : Fin 256) = row2 u i :=
    Fin.ext (by show 128 * u.val + (128 * g.val + i.val) % 128 = 128 * u.val + i.val; omega)
  show _ = _ + grd q k v o l dl ⟨2 * j.val + (row2 g i).val / 128, _⟩ ⟨128 * u.val + (row2 g i).val % 128, _⟩ k' (t (ix3 j (row2 g i) k'))
  rw [e0, e1]

/-- Where the store of pair `j` of part `a` (queries, keys, values) lands. -/
theorem emb_out (a : Fin 3) (j : Fin 4) (r : Fin 256) (g : Fin 2) (d : Fin 64) :
    (rOut a j).emb
        (ix3 (0 : Fin 1) r (lane2 g d))
      = ix3 (0 : Fin 1) r (⟨512 * a.val + (colOf (headOf j g) d).val, by omega⟩ : Fin 1536) := funext fun b => Fin.ext (by
  refine (Rect.idx_unit_val _ _ _ _ b).trans ?_
  match b with
  | ⟨0, _⟩ => rfl
  | ⟨1, _⟩ => exact Nat.zero_add _
  | ⟨2, _⟩ => show 128 * (4 * a.val + j.val) + (64 * g.val + d.val) = 512 * a.val + (64 * (2 * j.val + g.val) + d.val); omega)

/-- The output block at a column of part `a`. -/
theorem outQKV_apply (a : Fin 3) (r : Fin 256) (h : Fin 8) (d : Fin 64) :
    outQKV q k v o l dl ta tb (ix3 (0 : Fin 1) r (⟨512 * a.val + (colOf h d).val, by omega⟩ : Fin 1536))
      = ![blkQ q k v o l dl ta tb r h d, blkK q k v o l dl ta tb r h d, blkV q k o l ta tb r h d] a := by
  have eh : (⟨(512 * a.val + (colOf h d).val) % 512 / 64, by omega⟩ : Fin 8) = h :=
    Fin.ext (by show (512 * a.val + (64 * h.val + d.val)) % 512 / 64 = h.val; omega)
  have ed : (⟨(512 * a.val + (colOf h d).val) % 64, by omega⟩ : Fin 64) = d :=
    Fin.ext (by show (512 * a.val + (64 * h.val + d.val)) % 64 = d.val; omega)
  unfold outQKV
  show (if 512 * a.val + (colOf h d).val < 512 then blkQ q k v o l dl ta tb r ⟨(512 * a.val + (colOf h d).val) % 512 / 64, _⟩ ⟨(512 * a.val + (colOf h d).val) % 64, _⟩
    else if 512 * a.val + (colOf h d).val < 1024 then blkK q k v o l dl ta tb r ⟨(512 * a.val + (colOf h d).val) % 512 / 64, _⟩ ⟨(512 * a.val + (colOf h d).val) % 64, _⟩
    else blkV q k o l ta tb r ⟨(512 * a.val + (colOf h d).val) % 512 / 64, _⟩ ⟨(512 * a.val + (colOf h d).val) % 64, _⟩) = _
  rw [eh, ed]
  match a with
  | 0 => rw [if_pos (by show 512 * 0 + (64 * h.val + d.val) < 512; omega)]; rfl
  | 1 => rw [if_neg (by show ¬ (512 * 1 + (64 * h.val + d.val) < 512); omega), if_pos (by show 512 * 1 + (64 * h.val + d.val) < 1024; omega)]; rfl
  | 2 => rw [if_neg (by show ¬ (512 * 2 + (64 * h.val + d.val) < 512); omega), if_neg (by show ¬ (512 * 2 + (64 * h.val + d.val) < 1024); omega)]; rfl

/-- A store of 128 lanes is a block of the output if it is so at every head and column. -/
theorem piece_of (a : Fin 3) (j : Fin 4) (w : FVec Ideal S1x256x128 .bf16)
    (h : ∀ r g d, w (ix3 (0 : Fin 1) r (lane2 g d))
      = ![blkQ q k v o l dl ta tb r (headOf j g) d, blkK q k v o l dl ta tb r (headOf j g) d, blkV q k o l ta tb r (headOf j g) d] a)
    (x : S1x256x128.Idx) :
    w x = outQKV q k v o l dl ta tb ((rOut a j).emb x) := by
  have hx0 : x 0 = (0 : Fin 1) := Fin.ext (by have := (x 0).isLt; have : (x 0).val < 1 := this; show (x 0).val = 0; omega)
  obtain ⟨r, c, rfl⟩ : ∃ r c, x = ix3 (0 : Fin 1) r c := ⟨x 1, x 2, by rw [← hx0]; exact eq_ix3 x⟩
  clear hx0
  revert c
  refine forall_lane2 fun g d => ?_
  rw [emb_out, outQKV_apply]
  exact h r g d

/-- Pair `j`'s store of the queries' gradient. -/
theorem piece_q (j : Fin 4) (x : S1x256x128.Idx) :
    dqStore k (scores q k v o l dl (slab ta j) 0 j) (scores q k v o l dl (slab tb j) 1 j) j x
      = outQKV q k v o l dl ta tb ((rOut 0 j).emb x) := by
  refine piece_of q k v o l dl ta tb 0 j _ (fun r g d => ?_) x
  revert r
  refine forall_row2 fun u i => ?_
  refine (dqStore_apply k (fun u => scores q k v o l dl (slab (![ta, tb] u) j) u j) j u i g d).trans ?_
  show _ = blkQ q k v o l dl ta tb (row2 u i) (headOf j g) d
  unfold blkQ blkS
  refine congrArg (· * eighth) (Finset.sum_congr rfl fun k' _ => ?_)
  rw [scores_apply, entry_eq]

/-- Pair `j`'s store of the keys' gradient. -/
theorem piece_k (j : Fin 4) (x : S1x256x128.Idx) :
    keyStore (contrib (scores q k v o l dl (slab ta j) 0 j) (queries q 0 j)) (contrib (scores q k v o l dl (slab tb j) 1 j) (queries q 1 j)) x
      = outQKV q k v o l dl ta tb ((rOut 1 j).emb x) := by
  refine piece_of q k v o l dl ta tb 1 j _ (fun r g d => ?_) x
  show _ = blkK q k v o l dl ta tb r (headOf j g) d
  rw [keyStore_apply, contrib_queries, contrib_queries]
  unfold blkK blkS
  rw [sum_row2, Fin.sum_univ_two]
  simp only [scores_apply, entry_eq]
  rfl

/-- Pair `j`'s store of the values' gradient. -/
theorem piece_v (j : Fin 4) (x : S1x256x128.Idx) :
    keyStore (contrib (weights q k l (slab ta j) 0 j) (cots o 0 j)) (contrib (weights q k l (slab tb j) 1 j) (cots o 1 j)) x
      = outQKV q k v o l dl ta tb ((rOut 2 j).emb x) := by
  refine piece_of q k v o l dl ta tb 2 j _ (fun r g d => ?_) x
  show _ = blkV q k o l ta tb r (headOf j g) d
  rw [keyStore_apply, contrib_cots, contrib_cots]
  unfold blkV blkW
  rw [sum_row2, Fin.sum_univ_two]
  simp only [weights_apply, entry_eq]
  rfl

end Out

end Cert.Attn
end
-- ==== Proof.OutA.lean ====
module

public import proofs.«01_k».proof.Proof.Block

@[expose] public section
set_option maxRecDepth 16384

/-! The three output blocks of the first grid point, which starts from tables of zeros. -/

noncomputable section
namespace Cert.Attn
open Cert.KernelIdeal Cert.KernelIdeal.Gen Idealize.ShloMosaic Idealize.ShloMosaic.TcCoe Idealize.ShloMosaic.Tactic Idealize.SL.Sem

section
variable (c : Dev nD) (i : grid0.Coords) (arg1 : Memref sig .tc .vmem S1x256x512 .bf16) (harg1 : arg1.IsWhole) (arg2 : Memref sig .tc .vmem S1x256x512 .bf16) (harg2 : arg2.IsWhole) (arg3 : Memref sig .tc .vmem S1x256x512 .bf16) (harg3 : arg3.IsWhole) (arg4 : Memref sig .tc .vmem S1x256x512 .bf16) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S4x256x256 .f32) (harg7 : arg7.IsWhole) (arg8 : Memref sig .tc .vmem S4x256x256 .f32) (harg8 : arg8.IsWhole) (arg10 : Memref sig .tc .vmem S1x256x1536 .bf16) (harg10 : arg10.IsWhole) (arg11 : Memref sig .tc .vmem S4x256x256 .f32) (harg11 : arg11.IsWhole) (arg12 : Memref sig .tc .vmem S4x256x256 .f32) (harg12 : arg12.IsWhole) (hc0 : cond0_0 i)
  (x0 x1 x2 x3 : Vec Ideal S1x256x512 .bf16) (x4 x5 : Vec Ideal S1x256x512 .f32) (x6 x7 : Vec Ideal S4x256x256 .f32)

include harg1 harg2 harg3 harg4 harg5 harg6 harg7 harg8

/-- The block of the three gradients. -/
theorem outA_8 : out0_A_8 c i arg1 harg1 arg2 harg2 arg3 harg3 arg4 harg4 arg5 harg5 arg6 harg6 arg7 harg7 arg8 harg8 arg10 harg10 arg11 harg11 arg12 harg12 hc0 x0 x1 x2 x3 x4 x5 x6 x7 = outQKV x0 x1 x2 x3 x4 x5 x6 x7 := by
  have hz : (![0, 0, 0] : Fin S1x256x512.rank → Nat) = fun _ => 0 := by decide
  unfold out0_A_8
  rw [View.read_writes_eq_canon _ _ _ (cover0_A_8 c i arg1 harg1 arg2 harg2 arg3 harg3 arg4 harg4 arg5 harg5 arg6 harg6 arg7 harg7 arg8 harg8 arg10 harg10 arg11 harg11 arg12 harg12 hc0 x0 x1 x2 x3 x4 x5 x6 x7)]
  funext y
  refine View.canon_apply_of_pieces (outQKV x0 x1 x2 x3 x4 x5 x6 x7) _ (View.PiecesOf.mem ?_) y (cover0_A_8 c i arg1 harg1 arg2 harg2 arg3 harg3 arg4 harg4 arg5 harg5 arg6 harg6 arg7 harg7 arg8 harg8 arg10 harg10 arg11 harg11 arg12 harg12 hc0 x0 x1 x2 x3 x4 x5 x6 x7 y)
  unfold kernelRun0_A
  dsimp only
  sl_unfold_words
  simp only [View.readAt_eq_ld, harg1.read_unread, harg2.read_unread, harg3.read_unread, harg4.read_unread, harg5.read_unread,
    harg6.read_unread, harg7.read_unread, harg8.read_unread, View.ld_unit_zero (S := S1x256x512) hz]
  exact ⟨fun x => piece_v x0 x1 x2 x3 x4 x5 x6 x7 3 x,
    fun x => piece_k x0 x1 x2 x3 x4 x5 x6 x7 3 x,
    fun x => piece_q x0 x1 x2 x3 x4 x5 x6 x7 3 x,
    fun x => piece_v x0 x1 x2 x3 x4 x5 x6 x7 2 x,
    fun x => piece_k x0 x1 x2 x3 x4 x5 x6 x7 2 x,
    fun x => piece_q x0 x1 x2 x3 x4 x5 x6 x7 2 x,
    fun x => piece_v x0 x1 x2 x3 x4 x5 x6 x7 1 x,
    fun x => piece_k x0 x1 x2 x3 x4 x5 x6 x7 1 x,
    fun x => piece_q x0 x1 x2 x3 x4 x5 x6 x7 1 x,
    fun x => piece_v x0 x1 x2 x3 x4 x5 x6 x7 0 x,
    fun x => piece_k x0 x1 x2 x3 x4 x5 x6 x7 0 x,
    fun x => piece_q x0 x1 x2 x3 x4 x5 x6 x7 0 x, trivial⟩

/-- The table of the first half of the queries. -/
theorem outA_9 : out0_A_9 c i arg1 harg1 arg2 harg2 arg3 harg3 arg4 harg4 arg5 harg5 arg6 harg6 arg7 harg7 arg8 harg8 arg10 harg10 arg11 harg11 arg12 harg12 hc0 x0 x1 x2 x3 x4 x5 x6 x7 = outTab x0 x1 x2 x3 x4 x5 0 x6 (k0_pay3 (F := Ideal)) := by
  have hz : (![0, 0, 0] : Fin S1x256x512.rank → Nat) = fun _ => 0 := by decide
  unfold out0_A_9
  rw [View.read_writes_eq_canon _ _ _ (cover0_A_9 c i arg1 harg1 arg2 harg2 arg3 harg3 arg4 harg4 arg5 harg5 arg6 harg6 arg7 harg7 arg8 harg8 arg10 harg10 arg11 harg11 arg12 harg12 hc0 x0 x1 x2 x3 x4 x5 x6 x7)]
  funext y
  unfold kernelRun0_A
  dsimp only
  sl_unfold_words
  simp (disch := decide) only [↓ View.readCov_skip, ↓ View.readCov_fill, View.readAt_eq_ld, harg1.read_unread, harg2.read_unread, harg3.read_unread, harg4.read_unread, harg5.read_unread,
    harg6.read_unread, harg7.read_unread, harg8.read_unread, View.ld_unit_zero (S := S1x256x512) hz]
  refine View.canon_append_of_piecesOf (Val := Elt Ideal) (e := .f32) (outTab x0 x1 x2 x3 x4 x5 0 x6 (k0_pay3 (F := Ideal))) [_] [_, _, _, _] ?_ y ?_
  · exact ⟨fun x => piece_tab x0 x1 x2 x3 x4 x5 0 3 x6 (k0_pay3 (F := Ideal)) x,
    fun x => piece_tab x0 x1 x2 x3 x4 x5 0 2 x6 (k0_pay3 (F := Ideal)) x,
    fun x => piece_tab x0 x1 x2 x3 x4 x5 0 1 x6 (k0_pay3 (F := Ideal)) x,
    fun x => piece_tab x0 x1 x2 x3 x4 x5 0 0 x6 (k0_pay3 (F := Ideal)) x, trivial⟩
  · exact View.cover_of_tiledL (s := S4x256x256) _ S1x256x256.size (by sl_kernel_rfl) y

/-- The table of the second half of the queries. -/
theorem outA_10 : out0_A_10 c i arg1 harg1 arg2 harg2 arg3 harg3 arg4 harg4 arg5 harg5 arg6 harg6 arg7 harg7 arg8 harg8 arg10 harg10 arg11 harg11 arg12 harg12 hc0 x0 x1 x2 x3 x4 x5 x6 x7 = outTab x0 x1 x2 x3 x4 x5 1 x7 (k0_pay4 (F := Ideal)) := by
  have hz : (![0, 0, 0] : Fin S1x256x512.rank → Nat) = fun _ => 0 := by decide
  unfold out0_A_10
  rw [View.read_writes_eq_canon _ _ _ (cover0_A_10 c i arg1 harg1 arg2 harg2 arg3 harg3 arg4 harg4 arg5 harg5 arg6 harg6 arg7 harg7 arg8 harg8 arg10 harg10 arg11 harg11 arg12 harg12 hc0 x0 x1 x2 x3 x4 x5 x6 x7)]
  funext y
  unfold kernelRun0_A
  dsimp only
  sl_unfold_words
  simp (disch := decide) only [↓ View.readCov_skip, ↓ View.readCov_fill, View.readAt_eq_ld, harg1.read_unread, harg2.read_unread, harg3.read_unread, harg4.read_unread, harg5.read_unread,
    harg6.read_unread, harg7.read_unread, harg8.read_unread, View.ld_unit_zero (S := S1x256x512) hz]
  refine View.canon_append_of_piecesOf (Val := Elt Ideal) (e := .f32) (outTab x0 x1 x2 x3 x4 x5 1 x7 (k0_pay4 (F := Ideal))) [_] [_, _, _, _] ?_ y ?_
  · exact ⟨fun x => piece_tab x0 x1 x2 x3 x4 x5 1 3 x7 (k0_pay4 (F := Ideal)) x,
    fun x => piece_tab x0 x1 x2 x3 x4 x5 1 2 x7 (k0_pay4 (F := Ideal)) x,
    fun x => piece_tab x0 x1 x2 x3 x4 x5 1 1 x7 (k0_pay4 (F := Ideal)) x,
    fun x => piece_tab x0 x1 x2 x3 x4 x5 1 0 x7 (k0_pay4 (F := Ideal)) x, trivial⟩
  · exact View.cover_of_tiledL (s := S4x256x256) _ S1x256x256.size (by sl_kernel_rfl) y

end
end Cert.Attn
end
-- ==== Proof.OutB.lean ====
module

public import proofs.«01_k».proof.Proof.Block

@[expose] public section
set_option maxRecDepth 16384

/-! The three output blocks of a later grid point, which adds to the tables it finds. -/

noncomputable section
namespace Cert.Attn
open Cert.KernelIdeal Cert.KernelIdeal.Gen Idealize.ShloMosaic Idealize.ShloMosaic.TcCoe Idealize.ShloMosaic.Tactic Idealize.SL.Sem

section
variable (c : Dev nD) (i : grid0.Coords) (arg1 : Memref sig .tc .vmem S1x256x512 .bf16) (harg1 : arg1.IsWhole) (arg2 : Memref sig .tc .vmem S1x256x512 .bf16) (harg2 : arg2.IsWhole) (arg3 : Memref sig .tc .vmem S1x256x512 .bf16) (harg3 : arg3.IsWhole) (arg4 : Memref sig .tc .vmem S1x256x512 .bf16) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S4x256x256 .f32) (harg7 : arg7.IsWhole) (arg8 : Memref sig .tc .vmem S4x256x256 .f32) (harg8 : arg8.IsWhole) (arg10 : Memref sig .tc .vmem S1x256x1536 .bf16) (harg10 : arg10.IsWhole) (arg11 : Memref sig .tc .vmem S4x256x256 .f32) (harg11 : arg11.IsWhole) (arg12 : Memref sig .tc .vmem S4x256x256 .f32) (harg12 : arg12.IsWhole) (hc0 : ¬cond0_0 i)
  (x0 x1 x2 x3 : Vec Ideal S1x256x512 .bf16) (x4 x5 : Vec Ideal S1x256x512 .f32) (x6 x7 : Vec Ideal S4x256x256 .f32) (xo9 xo10 : Vec Ideal S4x256x256 .f32)

include harg1 harg2 harg3 harg4 harg5 harg6 harg7 harg8

/-- The block of the three gradients. -/
theorem outB_8 : out0_B_8 c i arg1 harg1 arg2 harg2 arg3 harg3 arg4 harg4 arg5 harg5 arg6 harg6 arg7 harg7 arg8 harg8 arg10 harg10 arg11 harg11 arg12 harg12 hc0 x0 x1 x2 x3 x4 x5 x6 x7 xo9 xo10 = outQKV x0 x1 x2 x3 x4 x5 x6 x7 := by
  have hz : (![0, 0, 0] : Fin S1x256x512.rank → Nat) = fun _ => 0 := by decide
  unfold out0_B_8
  rw [View.read_writes_eq_canon _ _ _ (cover0_B_8 c i arg1 harg1 arg2 harg2 arg3 harg3 arg4 harg4 arg5 harg5 arg6 harg6 arg7 harg7 arg8 harg8 arg10 harg10 arg11 harg11 arg12 harg12 hc0 x0 x1 x2 x3 x4 x5 x6 x7 xo9 xo10)]
  funext y
  refine View.canon_apply_of_pieces (outQKV x0 x1 x2 x3 x4 x5 x6 x7) _ (View.PiecesOf.mem ?_) y (cover0_B_8 c i arg1 harg1 arg2 harg2 arg3 harg3 arg4 harg4 arg5 harg5 arg6 harg6 arg7 harg7 arg8 harg8 arg10 harg10 arg11 harg11 arg12 harg12 hc0 x0 x1 x2 x3 x4 x5 x6 x7 xo9 xo10 y)
  unfold kernelRun0_B
  dsimp only
  sl_unfold_words
  simp only [View.readAt_eq_ld, harg1.read_unread, harg2.read_unread, harg3.read_unread, harg4.read_unread, harg5.read_unread,
    harg6.read_unread, harg7.read_unread, harg8.read_unread, View.ld_unit_zero (S := S1x256x512) hz]
  exact ⟨fun x => piece_v x0 x1 x2 x3 x4 x5 x6 x7 3 x,
    fun x => piece_k x0 x1 x2 x3 x4 x5 x6 x7 3 x,
    fun x => piece_q x0 x1 x2 x3 x4 x5 x6 x7 3 x,
    fun x => piece_v x0 x1 x2 x3 x4 x5 x6 x7 2 x,
    fun x => piece_k x0 x1 x2 x3 x4 x5 x6 x7 2 x,
    fun x => piece_q x0 x1 x2 x3 x4 x5 x6 x7 2 x,
    fun x => piece_v x0 x1 x2 x3 x4 x5 x6 x7 1 x,
    fun x => piece_k x0 x1 x2 x3 x4 x5 x6 x7 1 x,
    fun x => piece_q x0 x1 x2 x3 x4 x5 x6 x7 1 x,
    fun x => piece_v x0 x1 x2 x3 x4 x5 x6 x7 0 x,
    fun x => piece_k x0 x1 x2 x3 x4 x5 x6 x7 0 x,
    fun x => piece_q x0 x1 x2 x3 x4 x5 x6 x7 0 x, trivial⟩

/-- The table of the first half of the queries. -/
theorem outB_9 : out0_B_9 c i arg1 harg1 arg2 harg2 arg3 harg3 arg4 harg4 arg5 harg5 arg6 harg6 arg7 harg7 arg8 harg8 arg10 harg10 arg11 harg11 arg12 harg12 hc0 x0 x1 x2 x3 x4 x5 x6 x7 xo9 xo10 = outTab x0 x1 x2 x3 x4 x5 0 x6 xo9 := by
  have hz : (![0, 0, 0] : Fin S1x256x512.rank → Nat) = fun _ => 0 := by decide
  unfold out0_B_9
  rw [View.read_writes_eq_canon _ _ _ (cover0_B_9 c i arg1 harg1 arg2 harg2 arg3 harg3 arg4 harg4 arg5 harg5 arg6 harg6 arg7 harg7 arg8 harg8 arg10 harg10 arg11 harg11 arg12 harg12 hc0 x0 x1 x2 x3 x4 x5 x6 x7 xo9 xo10)]
  funext y
  refine View.canon_apply_of_pieces (outTab x0 x1 x2 x3 x4 x5 0 x6 xo9) _ (View.PiecesOf.mem ?_) y (cover0_B_9 c i arg1 harg1 arg2 harg2 arg3 harg3 arg4 harg4 arg5 harg5 arg6 harg6 arg7 harg7 arg8 harg8 arg10 harg10 arg11 harg11 arg12 harg12 hc0 x0 x1 x2 x3 x4 x5 x6 x7 xo9 xo10 y)
  unfold kernelRun0_B
  dsimp only
  sl_unfold_words
  simp only [View.readAt_eq_ld, harg1.read_unread, harg2.read_unread, harg3.read_unread, harg4.read_unread, harg5.read_unread,
    harg6.read_unread, harg7.read_unread, harg8.read_unread, View.ld_unit_zero (S := S1x256x512) hz, harg11.read_unread]
  exact ⟨fun x => piece_tab x0 x1 x2 x3 x4 x5 0 3 x6 xo9 x,
    fun x => piece_tab x0 x1 x2 x3 x4 x5 0 2 x6 xo9 x,
    fun x => piece_tab x0 x1 x2 x3 x4 x5 0 1 x6 xo9 x,
    fun x => piece_tab x0 x1 x2 x3 x4 x5 0 0 x6 xo9 x, trivial⟩

/-- The table of the second half of the queries. -/
theorem outB_10 : out0_B_10 c i arg1 harg1 arg2 harg2 arg3 harg3 arg4 harg4 arg5 harg5 arg6 harg6 arg7 harg7 arg8 harg8 arg10 harg10 arg11 harg11 arg12 harg12 hc0 x0 x1 x2 x3 x4 x5 x6 x7 xo9 xo10 = outTab x0 x1 x2 x3 x4 x5 1 x7 xo10 := by
  have hz : (![0, 0, 0] : Fin S1x256x512.rank → Nat) = fun _ => 0 := by decide
  unfold out0_B_10
  rw [View.read_writes_eq_canon _ _ _ (cover0_B_10 c i arg1 harg1 arg2 harg2 arg3 harg3 arg4 harg4 arg5 harg5 arg6 harg6 arg7 harg7 arg8 harg8 arg10 harg10 arg11 harg11 arg12 harg12 hc0 x0 x1 x2 x3 x4 x5 x6 x7 xo9 xo10)]
  funext y
  refine View.canon_apply_of_pieces (outTab x0 x1 x2 x3 x4 x5 1 x7 xo10) _ (View.PiecesOf.mem ?_) y (cover0_B_10 c i arg1 harg1 arg2 harg2 arg3 harg3 arg4 harg4 arg5 harg5 arg6 harg6 arg7 harg7 arg8 harg8 arg10 harg10 arg11 harg11 arg12 harg12 hc0 x0 x1 x2 x3 x4 x5 x6 x7 xo9 xo10 y)
  unfold kernelRun0_B
  dsimp only
  sl_unfold_words
  simp only [View.readAt_eq_ld, harg1.read_unread, harg2.read_unread, harg3.read_unread, harg4.read_unread, harg5.read_unread,
    harg6.read_unread, harg7.read_unread, harg8.read_unread, View.ld_unit_zero (S := S1x256x512) hz, harg12.read_unread]
  exact ⟨fun x => piece_tab x0 x1 x2 x3 x4 x5 1 3 x7 xo10 x,
    fun x => piece_tab x0 x1 x2 x3 x4 x5 1 2 x7 xo10 x,
    fun x => piece_tab x0 x1 x2 x3 x4 x5 1 1 x7 xo10 x,
    fun x => piece_tab x0 x1 x2 x3 x4 x5 1 0 x7 xo10 x, trivial⟩

end
end Cert.Attn
end
-- ==== Proof.Array.lean ====
module

public import proofs.«01_k».proof.Proof.OutA
public import proofs.«01_k».proof.Proof.OutB
public import proofs.«01_k».proof.Proof.Gen.KernelIdeal.Value

@[expose] public section
set_option maxRecDepth 16384

/-! What the kernel's three result arrays hold after the grid of sixteen blocks of tokens, at every index,
    in terms of the arrays it is called with. -/

noncomputable section
namespace Cert.Attn
open Cert.KernelIdeal Cert.KernelIdeal.Gen Idealize.ShloMosaic Idealize.ShloMosaic.TcCoe Idealize.ShloMosaic.Tactic Idealize.SL.Sem
open Idealize.ShloMosaic.ValueIdx
open Idealize.ShloMosaic.Pipeline (Dat)

variable (m : (ℓ : Loc nD τ sig) → Buf (Elt Ideal) ℓ) (c : Dev nD)

/-- The grid has sixteen points. -/
theorem lt16 (t : Fin cfg0.N) : t.val < 16 := lt_of_lt_of_eq t.isLt N_0

/-- Grid point `z`. -/
def pt (z : Fin 16) : Fin cfg0.N := ⟨z.val, lt_of_lt_of_eq z.isLt N_0.symm⟩

/-- Point `z`'s block of the queries: rows of block `z`, columns from 3072. -/
theorem iblk_0 (z : Fin 16) (r : Fin 256) (x : Fin 512) :
    (iblk m c 0 (pt z) : FVec Ideal S1x256x512 .bf16) (ix3 (0 : Fin 1) r x)
      = (V m c main_v120 : FVec Ideal S16x256x4608 .bf16) (ix3 z r (⟨3072 + x.val, by omega⟩ : Fin 4608)) := by
  have hi : ∀ t : Fin grid0.N, win0_0.index t 0 = t.val ∧ win0_0.index t 1 = 0 ∧ win0_0.index t 2 = 6 := by decide +kernel
  obtain ⟨h0, h1, h2⟩ := hi (pt z)
  refine congrArg (V m c main_v120) (funext fun a => Fin.ext ?_)
  match a with
  | ⟨0, _⟩ => show win0_0.index (pt z) 0 * 1 + 1 * 0 = z.val; rw [h0]; show z.val * 1 + 1 * 0 = z.val; omega
  | ⟨1, _⟩ => show win0_0.index (pt z) 1 * 256 + 1 * r.val = r.val; rw [h1]; omega
  | ⟨2, _⟩ => show win0_0.index (pt z) 2 * 512 + 1 * x.val = 3072 + x.val; rw [h2]; omega

/-- Point `z`'s block of the keys: rows of block `z`, columns from 3584. -/
theorem iblk_1 (z : Fin 16) (r : Fin 256) (x : Fin 512) :
    (iblk m c 1 (pt z) : FVec Ideal S1x256x512 .bf16) (ix3 (0 : Fin 1) r x)
      = (V m c main_v120 : FVec Ideal S16x256x4608 .bf16) (ix3 z r (⟨3584 + x.val, by omega⟩ : Fin 4608)) := by
  have hi : ∀ t : Fin grid0.N, win0_1.index t 0 = t.val ∧ win0_1.index t 1 = 0 ∧ win0_1.index t 2 = 7 := by decide +kernel
  obtain ⟨h0, h1, h2⟩ := hi (pt z)
  refine congrArg (V m c main_v120) (funext fun a => Fin.ext ?_)
  match a with
  | ⟨0, _⟩ => show win0_1.index (pt z) 0 * 1 + 1 * 0 = z.val; rw [h0]; show z.val * 1 + 1 * 0 = z.val; omega
  | ⟨1, _⟩ => show win0_1.index (pt z) 1 * 256 + 1 * r.val = r.val; rw [h1]; omega
  | ⟨2, _⟩ => show win0_1.index (pt z) 2 * 512 + 1 * x.val = 3584 + x.val; rw [h2]; omega

/-- Point `z`'s block of the values: rows of block `z`, columns from 4096. -/
theorem iblk_2 (z : Fin 16) (r : Fin 256) (x : Fin 512) :
    (iblk m c 2 (pt z) : FVec Ideal S1x256x512 .bf16) (ix3 (0 : Fin 1) r x)
      = (V m c main_v120 : FVec Ideal S16x256x4608 .bf16) (ix3 z r (⟨4096 + x.val, by omega⟩ : Fin 4608)) := by
  have hi : ∀ t : Fin grid0.N, win0_2.index t 0 = t.val ∧ win0_2.index t 1 = 0 ∧ win0_2.index t 2 = 8 := by decide +kernel
  obtain ⟨h0, h1, h2⟩ := hi (pt z)
  refine congrArg (V m c main_v120) (funext fun a => Fin.ext ?_)
  match a with
  | ⟨0, _⟩ => show win0_2.index (pt z) 0 * 1 + 1 * 0 = z.val; rw [h0]; show z.val * 1 + 1 * 0 = z.val; omega
  | ⟨1, _⟩ => show win0_2.index (pt z) 1 * 256 + 1 * r.val = r.val; rw [h1]; omega
  | ⟨2, _⟩ => show win0_2.index (pt z) 2 * 512 + 1 * x.val = 4096 + x.val; rw [h2]; omega

/-- Point `z`'s block of the output gradient: rows of block `z`, columns from 0. -/
theorem iblk_3 (z : Fin 16) (r : Fin 256) (x : Fin 512) :
    (iblk m c 3 (pt z) : FVec Ideal S1x256x512 .bf16) (ix3 (0 : Fin 1) r x)
      = (V m c main_v121 : FVec Ideal S16x256x512 .bf16) (ix3 z r x) := by
  have hi : ∀ t : Fin grid0.N, win0_3.index t 0 = t.val ∧ win0_3.index t 1 = 0 ∧ win0_3.index t 2 = 0 := by decide +kernel
  obtain ⟨h0, h1, h2⟩ := hi (pt z)
  refine congrArg (V m c main_v121) (funext fun a => Fin.ext ?_)
  match a with
  | ⟨0, _⟩ => show win0_3.index (pt z) 0 * 1 + 1 * 0 = z.val; rw [h0]; show z.val * 1 + 1 * 0 = z.val; omega
  | ⟨1, _⟩ => show win0_3.index (pt z) 1 * 256 + 1 * r.val = r.val; rw [h1]; omega
  | ⟨2, _⟩ => show win0_3.index (pt z) 2 * 512 + 1 * x.val = x.val; rw [h2]; omega

/-- Point `z`'s block of the log-sum-exps: rows of block `z`, columns from 0. -/
theorem iblk_4 (z : Fin 16) (r : Fin 256) (x : Fin 512) :
    (iblk m c 4 (pt z) : FVec Ideal S1x256x512 .f32) (ix3 (0 : Fin 1) r x)
      = (V m c main_v122 : FVec Ideal S16x256x512 .f32) (ix3 z r x) := by
  have hi : ∀ t : Fin grid0.N, win0_4.index t 0 = t.val ∧ win0_4.index t 1 = 0 ∧ win0_4.index t 2 = 0 := by decide +kernel
  obtain ⟨h0, h1, h2⟩ := hi (pt z)
  refine congrArg (V m c main_v122) (funext fun a => Fin.ext ?_)
  match a with
  | ⟨0, _⟩ => show win0_4.index (pt z) 0 * 1 + 1 * 0 = z.val; rw [h0]; show z.val * 1 + 1 * 0 = z.val; omega
  | ⟨1, _⟩ => show win0_4.index (pt z) 1 * 256 + 1 * r.val = r.val; rw [h1]; omega
  | ⟨2, _⟩ => show win0_4.index (pt z) 2 * 512 + 1 * x.val = x.val; rw [h2]; omega

/-- Point `z`'s block of the row products: rows of block `z`, columns from 0. -/
theorem iblk_5 (z : Fin 16) (r : Fin 256) (x : Fin 512) :
    (iblk m c 5 (pt z) : FVec Ideal S1x256x512 .f32) (ix3 (0 : Fin 1) r x)
      = (V m c main_v123 : FVec Ideal S16x256x512 .f32) (ix3 z r x) := by
  have hi : ∀ t : Fin grid0.N, win0_5.index t 0 = t.val ∧ win0_5.index t 1 = 0 ∧ win0_5.index t 2 = 0 := by decide +kernel
  obtain ⟨h0, h1, h2⟩ := hi (pt z)
  refine congrArg (V m c main_v123) (funext fun a => Fin.ext ?_)
  match a with
  | ⟨0, _⟩ => show win0_5.index (pt z) 0 * 1 + 1 * 0 = z.val; rw [h0]; show z.val * 1 + 1 * 0 = z.val; omega
  | ⟨1, _⟩ => show win0_5.index (pt z) 1 * 256 + 1 * r.val = r.val; rw [h1]; omega
  | ⟨2, _⟩ => show win0_5.index (pt z) 2 * 512 + 1 * x.val = x.val; rw [h2]; omega

/-- Every point sees the whole table `a` of the masked bias. -/
theorem iblk_6 (z : Fin 16) (y : S4x256x256.Idx) :
    (iblk m c 6 (pt z) : FVec Ideal S4x256x256 .f32) y = (V m c main_v124 : FVec Ideal S4x256x256 .f32) y := by
  have hi : ∀ t : Fin grid0.N, win0_6.index t 0 = 0 ∧ win0_6.index t 1 = 0 ∧ win0_6.index t 2 = 0 := by decide +kernel
  obtain ⟨h0, h1, h2⟩ := hi (pt z)
  refine congrArg (V m c main_v124) (funext fun a => Fin.ext ?_)
  match a with
  | ⟨0, _⟩ => show win0_6.index (pt z) 0 * 4 + 1 * (y 0).val = (y 0).val; rw [h0]; omega
  | ⟨1, _⟩ => show win0_6.index (pt z) 1 * 256 + 1 * (y 1).val = (y 1).val; rw [h1]; omega
  | ⟨2, _⟩ => show win0_6.index (pt z) 2 * 256 + 1 * (y 2).val = (y 2).val; rw [h2]; omega

/-- Every point sees the whole table `b` of the masked bias. -/
theorem iblk_7 (z : Fin 16) (y : S4x256x256.Idx) :
    (iblk m c 7 (pt z) : FVec Ideal S4x256x256 .f32) y = (V m c main_v125 : FVec Ideal S4x256x256 .f32) y := by
  have hi : ∀ t : Fin grid0.N, win0_7.index t 0 = 0 ∧ win0_7.index t 1 = 0 ∧ win0_7.index t 2 = 0 := by decide +kernel
  obtain ⟨h0, h1, h2⟩ := hi (pt z)
  refine congrArg (V m c main_v125) (funext fun a => Fin.ext ?_)
  match a with
  | ⟨0, _⟩ => show win0_7.index (pt z) 0 * 4 + 1 * (y 0).val = (y 0).val; rw [h0]; omega
  | ⟨1, _⟩ => show win0_7.index (pt z) 1 * 256 + 1 * (y 1).val = (y 1).val; rw [h1]; omega
  | ⟨2, _⟩ => show win0_7.index (pt z) 2 * 256 + 1 * (y 2).val = (y 2).val; rw [h2]; omega

/-- The three gradients of point `t`'s block. -/
def own (t : Fin cfg0.N) : S1x256x1536.Idx → EReal :=
  outQKV (iblk m c 0 t) (iblk m c 1 t) (iblk m c 2 t) (iblk m c 3 t) (iblk m c 4 t) (iblk m c 5 t) (iblk m c 6 t) (iblk m c 7 t)

/-- What point `t` adds to the table of half `u`, whose masked bias is `tab`. -/
def add (u : Fin 2) (t : Fin cfg0.N) (tab : FVec Ideal S4x256x256 .f32) (y : S4x256x256.Idx) : EReal :=
  grd (iblk m c 0 t) (iblk m c 1 t) (iblk m c 2 t) (iblk m c 3 t) (iblk m c 4 t) (iblk m c 5 t)
    ⟨2 * (show Fin 4 from y 0).val + (show Fin 256 from y 1).val / 128, by have := (show Fin 4 from y 0).isLt; have := (show Fin 256 from y 1).isLt; omega⟩
    ⟨128 * u.val + (show Fin 256 from y 1).val % 128, by omega⟩ (y 2) (tab y)

/-- After point `n` the staged gradients are those of the point's block. -/
theorem own_at : ∀ (n : ℕ) (h : n < cfg0.N), (outsAt0 m c n h).1 = own m c ⟨n, h⟩
  | 0, h => by
    rw [outsAt0_A m c ⟨0, h⟩ rfl]
    dsimp only
    rw [outA_8]
    rfl
  | n + 1, h => by
    have hN : cfg0.N = 16 := N_0
    have hB : ¬(⟨n + 1, h⟩ : Fin cfg0.N).val % 16 = 0 := by dsimp only; omega
    rw [outsAt0_B m c ⟨n + 1, h⟩ hB]
    dsimp only
    rw [outB_8]
    rfl

/-- After point `n` the table of half 0 holds the sum of what the points up to `n` add. -/
theorem tab0_at : ∀ (n : ℕ) (h : n < cfg0.N) (y : S4x256x256.Idx),
    (outsAt0 m c n h).2.1 y = ∑ z : Fin (n + 1), add m c 0 ⟨z.val, lt_of_lt_of_le z.isLt h⟩ (iblk m c 6 ⟨z.val, lt_of_lt_of_le z.isLt h⟩) y
  | 0, h, y => by
    rw [outsAt0_A m c ⟨0, h⟩ rfl, Fin.sum_univ_one]
    dsimp only
    rw [outA_9]
    have hz : (Cert.KernelIdeal.Gen.k0_pay3 (F := Ideal)) y = (0 : EReal) := Ideal.ofBits_zero_f32
    show _ + add m c 0 ⟨0, h⟩ (iblk m c 6 ⟨0, h⟩) y = _
    rw [hz, zero_add]
    rfl
  | n + 1, h, y => by
    have hN : cfg0.N = 16 := N_0
    have hB : ¬(⟨n + 1, h⟩ : Fin cfg0.N).val % 16 = 0 := by dsimp only; omega
    rw [outsAt0_B m c ⟨n + 1, h⟩ hB]
    dsimp only
    rw [outB_9]
    show (outsAt0 m c n _).2.1 y + add m c 0 ⟨n + 1, h⟩ (iblk m c 6 ⟨n + 1, h⟩) y = _
    rw [tab0_at n, Fin.sum_univ_castSucc (n := n + 1)]
    rfl

/-- The table of half 0 after the whole grid. -/
def table0 : FVec Ideal S4x256x256 .f32 := fun y => ∑ z : Fin 16, add m c 0 (pt z) (iblk m c 6 (pt z)) y

/-- The one write-back of the table writes it. -/
theorem flushed_tab0 (t : Fin cfg0.N) (hf : (cfg0.win 9).flush t = true) :
    (dats m 0 c).flushed 9 t = ((cfg0.win 9).blk t).view.read (Elt Ideal) (table0 m c) := by
  have hN : cfg0.N = 16 := N_0
  have h15 : t.val = 15 := by have := (flush0_9 t).mp hf; have := t.isLt; omega
  obtain rfl : t = pt 15 := Fin.ext h15
  show (cfg0.win 9).cut (grid0.coords (pt 15)) ((dats m 0 c).after 9 (pt 15)) = _
  rw [after0_9]
  have hz' : (fun a => win0_9.index (pt 15) a * main_v127_1.ty.shape.size a) = fun _ => 0 := funext fun a => by fin_cases a <;> decide +kernel
  have e : (outsAt0 m c (pt 15).val (pt 15).isLt).2.1 = table0 m c := funext fun y => tab0_at m c 15 (pt 15).isLt y
  rw [e]
  exact (Memref.read_access_unit_zero (Elt Ideal) main_v127_1 hz' (fun a => by rw [congrFun hz' a]; simp) (table0 m c)).symm

/-- The array of the table of half 0 ends holding the sum over the sixteen blocks. -/
theorem final_tab0 : (dats m 0 c).arrAt 9 cfg0.N = table0 m c :=
  (dats m 0 c).arrAt_eq_of_cover 9 (table0 m c) (flushed_tab0 m c) fun i =>
    ⟨pt 15, (flush0_9 (pt 15)).mpr rfl, by
      show i ∈ ((View.whole main_v127_1).slice (win0_9.rect (pt 15))).set
      rw [View.set_slice_whole, Rect.mem_set_unit]
      intro a
      have hi : win0_9.index (pt 15) 0 = 0 ∧ win0_9.index (pt 15) 1 = 0 ∧ win0_9.index (pt 15) 2 = 0 := by decide +kernel
      obtain ⟨e0, e1, e2⟩ := hi
      have h0 : (i 0 : Nat) < 4 := (i 0).isLt
      have h1 : (i 1 : Nat) < 256 := (i 1).isLt
      have h2 : (i 2 : Nat) < 256 := (i 2).isLt
      match a with
      | ⟨0, _⟩ => show win0_9.index (pt 15) 0 * 4 ≤ (i 0 : Nat) ∧ (i 0 : Nat) < win0_9.index (pt 15) 0 * 4 + 4
                  rw [e0]; omega
      | ⟨1, _⟩ => show win0_9.index (pt 15) 1 * 256 ≤ (i 1 : Nat) ∧ (i 1 : Nat) < win0_9.index (pt 15) 1 * 256 + 256
                  rw [e1]; omega
      | ⟨2, _⟩ => show win0_9.index (pt 15) 2 * 256 ≤ (i 2 : Nat) ∧ (i 2 : Nat) < win0_9.index (pt 15) 2 * 256 + 256
                  rw [e2]; omega⟩

/-- After point `n` the table of half 1 holds the sum of what the points up to `n` add. -/
theorem tab1_at : ∀ (n : ℕ) (h : n < cfg0.N) (y : S4x256x256.Idx),
    (outsAt0 m c n h).2.2 y = ∑ z : Fin (n + 1), add m c 1 ⟨z.val, lt_of_lt_of_le z.isLt h⟩ (iblk m c 7 ⟨z.val, lt_of_lt_of_le z.isLt h⟩) y
  | 0, h, y => by
    rw [outsAt0_A m c ⟨0, h⟩ rfl, Fin.sum_univ_one]
    dsimp only
    rw [outA_10]
    have hz : (Cert.KernelIdeal.Gen.k0_pay4 (F := Ideal)) y = (0 : EReal) := Ideal.ofBits_zero_f32
    show _ + add m c 1 ⟨0, h⟩ (iblk m c 7 ⟨0, h⟩) y = _
    rw [hz, zero_add]
    rfl
  | n + 1, h, y => by
    have hN : cfg0.N = 16 := N_0
    have hB : ¬(⟨n + 1, h⟩ : Fin cfg0.N).val % 16 = 0 := by dsimp only; omega
    rw [outsAt0_B m c ⟨n + 1, h⟩ hB]
    dsimp only
    rw [outB_10]
    show (outsAt0 m c n _).2.2 y + add m c 1 ⟨n + 1, h⟩ (iblk m c 7 ⟨n + 1, h⟩) y = _
    rw [tab1_at n, Fin.sum_univ_castSucc (n := n + 1)]
    rfl

/-- The table of half 1 after the whole grid. -/
def table1 : FVec Ideal S4x256x256 .f32 := fun y => ∑ z : Fin 16, add m c 1 (pt z) (iblk m c 7 (pt z)) y

/-- The one write-back of the table writes it. -/
theorem flushed_tab1 (t : Fin cfg0.N) (hf : (cfg0.win 10).flush t = true) :
    (dats m 0 c).flushed 10 t = ((cfg0.win 10).blk t).view.read (Elt Ideal) (table1 m c) := by
  have hN : cfg0.N = 16 := N_0
  have h15 : t.val = 15 := by have := (flush0_10 t).mp hf; have := t.isLt; omega
  obtain rfl : t = pt 15 := Fin.ext h15
  show (cfg0.win 10).cut (grid0.coords (pt 15)) ((dats m 0 c).after 10 (pt 15)) = _
  rw [after0_10]
  have hz' : (fun a => win0_10.index (pt 15) a * main_v127_2.ty.shape.size a) = fun _ => 0 := funext fun a => by fin_cases a <;> decide +kernel
  have e : (outsAt0 m c (pt 15).val (pt 15).isLt).2.2 = table1 m c := funext fun y => tab1_at m c 15 (pt 15).isLt y
  rw [e]
  exact (Memref.read_access_unit_zero (Elt Ideal) main_v127_2 hz' (fun a => by rw [congrFun hz' a]; simp) (table1 m c)).symm

/-- The array of the table of half 1 ends holding the sum over the sixteen blocks. -/
theorem final_tab1 : (dats m 0 c).arrAt 10 cfg0.N = table1 m c :=
  (dats m 0 c).arrAt_eq_of_cover 10 (table1 m c) (flushed_tab1 m c) fun i =>
    ⟨pt 15, (flush0_10 (pt 15)).mpr rfl, by
      show i ∈ ((View.whole main_v127_2).slice (win0_10.rect (pt 15))).set
      rw [View.set_slice_whole, Rect.mem_set_unit]
      intro a
      have hi : win0_10.index (pt 15) 0 = 0 ∧ win0_10.index (pt 15) 1 = 0 ∧ win0_10.index (pt 15) 2 = 0 := by decide +kernel
      obtain ⟨e0, e1, e2⟩ := hi
      have h0 : (i 0 : Nat) < 4 := (i 0).isLt
      have h1 : (i 1 : Nat) < 256 := (i 1).isLt
      have h2 : (i 2 : Nat) < 256 := (i 2).isLt
      match a with
      | ⟨0, _⟩ => show win0_10.index (pt 15) 0 * 4 ≤ (i 0 : Nat) ∧ (i 0 : Nat) < win0_10.index (pt 15) 0 * 4 + 4
                  rw [e0]; omega
      | ⟨1, _⟩ => show win0_10.index (pt 15) 1 * 256 ≤ (i 1 : Nat) ∧ (i 1 : Nat) < win0_10.index (pt 15) 1 * 256 + 256
                  rw [e1]; omega
      | ⟨2, _⟩ => show win0_10.index (pt 15) 2 * 256 ≤ (i 2 : Nat) ∧ (i 2 : Nat) < win0_10.index (pt 15) 2 * 256 + 256
                  rw [e2]; omega⟩

/-- Where point `t`'s block of the gradient array lies. -/
theorem index_8 : ∀ t : Fin grid0.N, win0_8.index t 0 = t.val ∧ win0_8.index t 1 = 0 ∧ win0_8.index t 2 = 2 := by decide +kernel

/-- Columns from 3072 of the gradient array end holding the three gradients of their block. -/
theorem final_own (z : Fin 16) (r : Fin 256) (x : Fin 1536) :
    ((dats m 0 c).arrAt 8 cfg0.N : FVec Ideal S16x256x4608 .bf16) (ix3 z r (⟨3072 + x.val, by omega⟩ : Fin 4608))
      = own m c (pt z) (ix3 (0 : Fin 1) r x) := by
  have hb := congrFun ((Cert.KernelIdeal.Value.blocks8 m c (pt z) (flush0_8 _)).trans (Cert.KernelIdeal.Value.flushed8 m c (pt z))) (ix3 (0 : Fin 1) r x)
  rw [View.read_apply] at hb
  obtain ⟨h0, h1, h2⟩ := index_8 (pt z)
  refine Eq.trans ?_ (hb.trans ?_)
  · show (dats m 0 c).arrAt 8 cfg0.N _ = (dats m 0 c).arrAt 8 cfg0.N _
    congr 1
    funext a
    apply Fin.ext
    match a with
    | ⟨0, _⟩ => show z.val = win0_8.index (pt z) 0 * 1 + 1 * 0; rw [h0]; show z.val = z.val * 1 + 1 * 0; omega
    | ⟨1, _⟩ => show r.val = win0_8.index (pt z) 1 * 256 + 1 * r.val; rw [h1]; omega
    | ⟨2, _⟩ => show 3072 + x.val = win0_8.index (pt z) 2 * 1536 + 1 * x.val; rw [h2]; omega
  · show (outsAt0 m c (pt z).val (pt z).isLt).1 (ix3 (0 : Fin 1) r x) = _
    rw [own_at]

/-- Columns before 3072 of the gradient array keep what the array held at the call. -/
theorem final_kept (z : Fin 16) (r : Fin 256) (x : Fin 4608) (hx : x.val < 3072) :
    ((dats m 0 c).arrAt 8 cfg0.N : FVec Ideal S16x256x4608 .bf16) (ix3 z r x)
      = (V m c (Pipeline.arrRef spec0 8) : FVec Ideal S16x256x4608 .bf16) (ix3 z r x) := by
  refine Cert.KernelIdeal.Value.entry8 m c (ix3 z r x) fun t _ hmem => ?_
  obtain ⟨h0, h1, h2⟩ := index_8 t
  have hm : (ix3 z r x : S16x256x4608.Idx) ∈ ((View.whole main_v127_0).slice (win0_8.rect t)).set := hmem
  rw [View.set_slice_whole, Rect.mem_set_unit] at hm
  have := (hm 2).1
  have h3 : win0_8.index t 2 * 1536 ≤ x.val := this
  rw [h2] at h3
  omega

end Cert.Attn
-- ==== Proof.KernelHost.lean ====
module

public import proofs.«01_k».proof.Proof.Array
public import proofs.«01_k».proof.Proof.Gen.ReferenceIdeal.Read
public import Idealize.ShloMosaic.Lib.StableHlo.RunRead
public import Idealize.ShloMosaic.Lib.Claim

@[expose] public section
set_option maxRecDepth 16384

/-! What the arrays hold that the kernel is called with: the host operations before the call. Up to the merged
    output they are the reference's own first operations. -/

noncomputable section
namespace Cert.Attn
open Cert.KernelIdeal Cert.KernelIdeal.Gen Idealize.ShloMosaic Idealize.ShloMosaic.TcCoe Idealize.ShloMosaic.Tactic Idealize.SL.Sem

/-- The maximum of three log-sum-exps. -/
def top3 (a b l : FVec Ideal S16x256x8 .f32) : FVec Ideal S16x256x8 .f32 := maximumf (maximumf a b) l
/-- The log-sum-exp of three log-sum-exps. -/
def lse3 (a b l : FVec Ideal S16x256x8 .f32) : FVec Ideal S16x256x8 .f32 :=
  addf (top3 a b l) (Host.log (addf (addf (Host.exp (subf a (top3 a b l))) (Host.exp (subf b (top3 a b l)))) (Host.exp (subf l (top3 a b l)))))
/-- One number per token and head, repeated over the head's columns. -/
def wide (x : FVec Ideal S16x256x8 .f32) : FVec Ideal S16x256x512 .f32 :=
  shapeCast _ (shapeCast _ (broadcastInDim S16x256x8x64 ![0, 1, 2, 3] bcast_S16x256x8x1_S16x256x8x64_0_1_2_3
    (broadcastInDim S16x256x8x1 ![0, 1, 2] bcast_S16x256x8_S16x256x8x1_0_1_2 x)) shapeCasts_S16x256x8x64_S4096x512) shapeCasts_S4096x512_S16x256x512
/-- The inner product of two arrays over a head's columns. -/
def inner (x y : FVec Ideal S16x256x8x64 .f32) : FVec Ideal S16x256x8 .f32 :=
  Host.reduceAdd (mulf x y) (constant S_ .f32 0x00000000#32) reducesTo_S16x256x8x64_S16x256x8_d3 h_S_
/-- The table of biases with minus infinity where the mask drops a score. -/
def masked (b : FVec Ideal S8x256x256 .f32) (w : IVec S256x256 1) : FVec Ideal S8x256x256 .f32 :=
  select (broadcastInDim S8x256x256 ![0, 1, 2] bcast_S1x256x256_S8x256x256_0_1_2 (broadcastInDim S1x256x256 ![1, 2] bcast_S256x256_S1x256x256_1_2 w))
    b (broadcastInDim S8x256x256 ![] bcast_S_S8x256x256 (constant S_ .f32 0xFF800000#32))

variable (m : (ℓ : Loc nD τ sig) → Buf (Elt Ideal) ℓ) (c : Dev nD)

/-- An argument's contents. -/
abbrev A (b : Ref sig .tc) := m ((c : Thread nD τ).loc b)

/-- The projected activations, one block of tokens to a row. -/
theorem V_120 : V m c main_v120 = (shapeCast _ (A m c main_arg0) shapeCasts_S4096x4608_S16x256x4608 : FVec Ideal S16x256x4608 .bf16) := by
  unfold V
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  rfl

/-- The gradient of the output. -/
theorem V_121 : V m c main_v121 = (shapeCast _ (A m c main_arg6) shapeCasts_S4096x512_S16x256x512 : FVec Ideal S16x256x512 .bf16) := by
  unfold V
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  rfl

/-- The array the kernel writes its first result over. -/
theorem V_out : V m c (Pipeline.arrRef spec0 8) = (shapeCast _ (A m c main_arg7) shapeCasts_S4096x4608_S16x256x4608 : FVec Ideal S16x256x4608 .bf16) := by
  unfold V
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  rfl

/-- The mask. -/
theorem V_7 : V m c main_v7 = Cert.ReferenceIdeal.Read.val_main_v7 (F := Ideal) := by
  unfold V
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  rfl

set_option maxHeartbeats 4000000 in
/-- The biases. -/
theorem V_37 : V m c main_v37 = Cert.ReferenceIdeal.Read.val_main_v37 (F := Ideal) (A m c main_arg5) := by
  unfold V
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  rfl

set_option maxHeartbeats 4000000 in
/-- The third group's log-sum-exp. -/
theorem V_70 : V m c main_v70 = Cert.ReferenceIdeal.Read.val_main_v78 (F := Ideal) (A m c main_arg0) (A m c main_arg5) := by
  unfold V
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  rfl

set_option maxHeartbeats 4000000 in
/-- The third group's output. -/
theorem V_66 : V m c main_v66 = Cert.ReferenceIdeal.Read.val_main_v71 (F := Ideal) (A m c main_arg0) (A m c main_arg5) := by
  unfold V
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  rfl

/-- The log-sum-exp of each row. -/
theorem V_122 : V m c main_v122 = wide (lse3 (A m c main_arg3) (A m c main_arg4) (V m c main_v70)) := by
  unfold V
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  rfl

/-- The inner product of each row's output and its gradient. -/
theorem V_123 : V m c main_v123 = wide (inner (Cert.ReferenceIdeal.Read.val_main_v124 (F := Ideal) (A m c main_arg6)) (V m c main_v93)) := by
  unfold V
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  rfl

/-- The first half of the table. -/
theorem V_124 : V m c main_v124 = (shapeCast _ (extractStridedSlice S8x128x256 ![0, 0, 0] (masked (V m c main_v37) (V m c main_v7)) slices_S8x256x256_S8x128x256_0_0_0) shapeCasts_S8x128x256_S4x256x256 : FVec Ideal S4x256x256 .f32) := by
  unfold V
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  rfl

/-- The second half of the table. -/
theorem V_125 : V m c main_v125 = (shapeCast _ (extractStridedSlice S8x128x256 ![0, 128, 0] (masked (V m c main_v37) (V m c main_v7)) slices_S8x256x256_S8x128x256_0_128_0) shapeCasts_S8x128x256_S4x256x256 : FVec Ideal S4x256x256 .f32) := by
  unfold V
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  rfl

end Cert.Attn
-- ==== Proof.KernelMerge.lean ====
module

public import proofs.«01_k».proof.Proof.KernelHost

@[expose] public section
set_option maxRecDepth 16384

/-! The outputs merged on the host before the call: the reference's own operations, stage by stage. -/

noncomputable section
namespace Cert.Attn
open Cert.KernelIdeal Cert.KernelIdeal.Gen Idealize.ShloMosaic Idealize.ShloMosaic.TcCoe Idealize.ShloMosaic.Tactic Idealize.SL.Sem

/-- Three arrays of one number per token and head, stacked. -/
def stack3 (a b l : FVec Ideal S16x256x8 .f32) : FVec Ideal S3x16x256x8 .f32 :=
  concatenate S3x16x256x8 0 [⟨S1x16x256x8, broadcastInDim S1x16x256x8 ![1, 2, 3] bcast_S16x256x8_S1x16x256x8_1_2_3 a⟩,
    ⟨S1x16x256x8, broadcastInDim S1x16x256x8 ![1, 2, 3] bcast_S16x256x8_S1x16x256x8_1_2_3 b⟩,
    ⟨S1x16x256x8, broadcastInDim S1x16x256x8 ![1, 2, 3] bcast_S16x256x8_S1x16x256x8_1_2_3 l⟩] concatenates_S1x16x256x8_S1x16x256x8_S1x16x256x8_S3x16x256x8_d0
/-- Three outputs, stacked. -/
def stackO (a b l : FVec Ideal S16x256x8x64 .f32) : FVec Ideal S3x16x256x8x64 .f32 :=
  concatenate S3x16x256x8x64 0 [⟨S1x16x256x8x64, broadcastInDim S1x16x256x8x64 ![1, 2, 3, 4] bcast_S16x256x8x64_S1x16x256x8x64_1_2_3_4 a⟩,
    ⟨S1x16x256x8x64, broadcastInDim S1x16x256x8x64 ![1, 2, 3, 4] bcast_S16x256x8x64_S1x16x256x8x64_1_2_3_4 b⟩,
    ⟨S1x16x256x8x64, broadcastInDim S1x16x256x8x64 ![1, 2, 3, 4] bcast_S16x256x8x64_S1x16x256x8x64_1_2_3_4 l⟩] concatenates_S1x16x256x8x64_S1x16x256x8x64_S1x16x256x8x64_S3x16x256x8x64_d0
/-- The exponentials of the three, less their maximum. -/
def expo (s : FVec Ideal S3x16x256x8 .f32) : FVec Ideal S3x16x256x8 .f32 :=
  Host.exp (subf s (broadcastInDim S3x16x256x8 ![0, 1, 2, 3] bcast_S1x16x256x8_S3x16x256x8_0_1_2_3
    (broadcastInDim S1x16x256x8 ![1, 2, 3] bcast_S16x256x8_S1x16x256x8_1_2_3
      (maximumf (broadcastInDim S16x256x8 ![] bcast_S_S16x256x8 (constant S_ .f32 0xFF800000#32))
        (Host.reduce FloatOps.maximumf s (constant S_ .f32 0xFF800000#32) reducesTo_S3x16x256x8_S16x256x8_d0 h_S_)))))
/-- The three weights: the exponentials over their sum. -/
def share (e : FVec Ideal S3x16x256x8 .f32) : FVec Ideal S3x16x256x8 .f32 :=
  Host.divf e (broadcastInDim S3x16x256x8 ![0, 1, 2, 3] bcast_S1x16x256x8_S3x16x256x8_0_1_2_3
    (broadcastInDim S1x16x256x8 ![1, 2, 3] bcast_S16x256x8_S1x16x256x8_1_2_3
      (Host.reduceAdd e (constant S_ .f32 0x00000000#32) reducesTo_S3x16x256x8_S16x256x8_d0 h_S_)))
/-- The outputs weighted and summed. -/
def merge (w : FVec Ideal S3x16x256x8 .f32) (o : FVec Ideal S3x16x256x8x64 .f32) : FVec Ideal S16x256x8x64 .f32 :=
  Host.reduceAdd (mulf (broadcastInDim S3x16x256x8x64 ![0, 1, 2, 3, 4] bcast_S3x16x256x8x1_S3x16x256x8x64_0_1_2_3_4
    (broadcastInDim S3x16x256x8x1 ![0, 1, 2, 3] bcast_S3x16x256x8_S3x16x256x8x1_0_1_2_3 w)) o)
    (constant S_ .f32 0x00000000#32) reducesTo_S3x16x256x8x64_S16x256x8x64_d0 h_S_
variable (m : (ℓ : Loc nD τ sig) → Buf (Elt Ideal) ℓ) (c : Dev nD)

set_option maxHeartbeats 4000000 in
/-- The three log-sum-exps. -/
theorem V_74_of : V m c main_v74 = stack3 (A m c main_arg3) (A m c main_arg4) (V m c main_v70) := by
  unfold V stack3
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  rfl

set_option maxHeartbeats 4000000 in
/-- Their exponentials. -/
theorem V_81_of : V m c main_v81 = expo (V m c main_v74) := by
  unfold V expo
  simp only [List.flatten_cons, List.flatten_nil, List.append_nil, List.cons_append, List.nil_append, hostOps0, hostOps0_1, hostOps0_2, hostOps0_3, hostOps0_4, hostOps0_5, hostOps0_6, hostOps0_7, hostOps0_8]
  after_reads_simp

set_option maxHeartbeats 4000000 in
/-- The three weights. -/
theorem V_85_of : V m c main_v85 = share (V m c main_v81) := by
  unfold V share
  simp only [List.flatten_cons, List.flatten_nil, List.append_nil, List.cons_append, List.nil_append, hostOps0, hostOps0_1, hostOps0_2, hostOps0_3, hostOps0_4, hostOps0_5, hostOps0_6, hostOps0_7, hostOps0_8]
  after_reads_simp

set_option maxHeartbeats 4000000 in
/-- The three outputs. -/
theorem V_90_of : V m c main_v90 = stackO (A m c main_arg1) (A m c main_arg2) (V m c main_v66) := by
  unfold V stackO
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  rfl

set_option maxHeartbeats 4000000 in
/-- The merged output. -/
theorem V_93_of : V m c main_v93 = merge (V m c main_v85) (V m c main_v90) := by
  unfold V merge
  simp only [List.flatten_cons, List.flatten_nil, List.append_nil, List.cons_append, List.nil_append, hostOps0, hostOps0_1, hostOps0_2, hostOps0_3, hostOps0_4, hostOps0_5, hostOps0_6, hostOps0_7, hostOps0_8]
  after_reads_simp

/-- The merged output is the reference's. -/
theorem V_93 : V m c main_v93 = Cert.ReferenceIdeal.Read.val_main_v122 (F := Ideal) (A m c main_arg0) (A m c main_arg1) (A m c main_arg2) (A m c main_arg3) (A m c main_arg4) (A m c main_arg5) := by
  have h82 : stack3 (A m c main_arg3) (A m c main_arg4) (Cert.ReferenceIdeal.Read.val_main_v78 (F := Ideal) (A m c main_arg0) (A m c main_arg5)) = Cert.ReferenceIdeal.Read.val_main_v82 (F := Ideal) (A m c main_arg0) (A m c main_arg3) (A m c main_arg4) (A m c main_arg5) := rfl
  have h105 : expo (Cert.ReferenceIdeal.Read.val_main_v82 (F := Ideal) (A m c main_arg0) (A m c main_arg3) (A m c main_arg4) (A m c main_arg5)) = Cert.ReferenceIdeal.Read.val_main_v105 (F := Ideal) (A m c main_arg0) (A m c main_arg3) (A m c main_arg4) (A m c main_arg5) := rfl
  have h109 : share (Cert.ReferenceIdeal.Read.val_main_v105 (F := Ideal) (A m c main_arg0) (A m c main_arg3) (A m c main_arg4) (A m c main_arg5)) = Cert.ReferenceIdeal.Read.val_main_v109 (F := Ideal) (A m c main_arg0) (A m c main_arg3) (A m c main_arg4) (A m c main_arg5) := rfl
  have h117 : stackO (A m c main_arg1) (A m c main_arg2) (Cert.ReferenceIdeal.Read.val_main_v71 (F := Ideal) (A m c main_arg0) (A m c main_arg5)) = Cert.ReferenceIdeal.Read.val_main_v117 (F := Ideal) (A m c main_arg0) (A m c main_arg1) (A m c main_arg2) (A m c main_arg5) := rfl
  rw [V_93_of, V_85_of, V_81_of, V_74_of, V_90_of, V_70, V_66, h82, h105, h109, h117]
  rfl

end Cert.Attn
-- ==== Proof.Rows.lean ====
module
public import Idealize.ShloMosaic.PureOps.Ideal.Laws
public import Mathlib.Tactic.FieldSimp
public import Mathlib.Tactic.Ring
@[expose] public section
noncomputable section
namespace Cert.Attn

/-!
# The real mathematics of one attention row

Three softmax groups of a row are merged by their log-sum-exps; the third group's own softmax is formed
here. The gradient that the chain rule gives for the third group's scores, written step by step as the
reference writes it, is the short formula of the kernel.
-/

/-- The real inputs of the attention backward pass, and the two stabilising constants of a row: `mx` for
    the third group's softmax, `lm` for the merge of the groups. Any real constants do. -/
structure Data where
  (q k v dO o0 o1 : Fin 16 → Fin 256 → Fin 8 → Fin 64 → ℝ)
  (l0 l1 : Fin 16 → Fin 256 → Fin 8 → ℝ)
  (b : Fin 8 → Fin 256 → Fin 256 → ℝ)
  (on : Fin 256 → Fin 256 → Bool)
  diag : ∀ i, on i i = true
  (mx : Fin 16 → Fin 8 → Fin 256 → ℝ)
  (lm : Fin 16 → Fin 256 → Fin 8 → ℝ)

namespace Data
variable (D : Data)

/-- The score of row `i` against key `j`. -/
def s (z : Fin 16) (h : Fin 8) (i j : Fin 256) : ℝ := (∑ d, D.q z i h d * D.k z j h d) * (1 / 8) + D.b h i j
/-- The unnormalised weight. -/
def p (z : Fin 16) (h : Fin 8) (i j : Fin 256) : ℝ := if D.on i j then Real.exp (D.s z h i j - D.mx z h i) else 0
/-- The sum of a row's weights. -/
def den (z : Fin 16) (h : Fin 8) (i : Fin 256) : ℝ := ∑ j, D.p z h i j
/-- The unnormalised output. -/
def u (z : Fin 16) (i : Fin 256) (h : Fin 8) (d : Fin 64) : ℝ := ∑ j, D.v z j h d * D.p z h i j
/-- The third group's output. -/
def o2 (z : Fin 16) (i : Fin 256) (h : Fin 8) (d : Fin 64) : ℝ := D.u z i h d / D.den z h i
/-- The third group's log-sum-exp. -/
def l2 (z : Fin 16) (i : Fin 256) (h : Fin 8) : ℝ := D.mx z h i + Real.log (D.den z h i)
/-- The three log-sum-exps. -/
def ls (g : Fin 3) (z : Fin 16) (i : Fin 256) (h : Fin 8) : ℝ := ![D.l0 z i h, D.l1 z i h, D.l2 z i h] g
/-- The three outputs. -/
def oo (g : Fin 3) (z : Fin 16) (i : Fin 256) (h : Fin 8) (d : Fin 64) : ℝ :=
  ![D.o0 z i h d, D.o1 z i h d, D.o2 z i h d] g
/-- The unnormalised merge weights. -/
def e (g : Fin 3) (z : Fin 16) (i : Fin 256) (h : Fin 8) : ℝ := Real.exp (D.ls g z i h - D.lm z i h)
/-- Their sum. -/
def tot (z : Fin 16) (i : Fin 256) (h : Fin 8) : ℝ := ∑ g, D.e g z i h
/-- The merged output. -/
def att (z : Fin 16) (i : Fin 256) (h : Fin 8) (d : Fin 64) : ℝ := ∑ g, D.e g z i h / D.tot z i h * D.oo g z i h d
/-- The output gradient against the merged output. -/
def dl (z : Fin 16) (i : Fin 256) (h : Fin 8) : ℝ := ∑ d, D.dO z i h d * D.att z i h d
/-- The log-sum-exp of all the three groups. -/
def lse (z : Fin 16) (i : Fin 256) (h : Fin 8) : ℝ := Real.log (∑ g, Real.exp (D.ls g z i h))
/-- The softmax weight over all the three groups. -/
def a (z : Fin 16) (h : Fin 8) (i j : Fin 256) : ℝ := if D.on i j then Real.exp (D.s z h i j - D.lse z i h) else 0

/-- The output gradient against one group's output. -/
def r (g : Fin 3) (z : Fin 16) (i : Fin 256) (h : Fin 8) : ℝ := ∑ d, D.dO z i h d * D.oo g z i h d
/-- The gradient of the third group's output. -/
def wd (z : Fin 16) (i : Fin 256) (h : Fin 8) (d : Fin 64) : ℝ := D.e 2 z i h / D.tot z i h * D.dO z i h d
/-- The gradient of the third group's log-sum-exp, as the chain rule spells it. -/
def dl2 (z : Fin 16) (i : Fin 256) (h : Fin 8) : ℝ :=
  (D.r 2 z i h / D.tot z i h + -∑ g, D.r g z i h * (1 / (D.tot z i h * D.tot z i h)) * D.e g z i h) * D.e 2 z i h
/-- The gradient of the sum of weights. -/
def dden (z : Fin 16) (h : Fin 8) (i : Fin 256) : ℝ :=
  D.dl2 z i h / D.den z h i + -∑ d, D.wd z i h d * (1 / (D.den z h i * D.den z h i)) * D.u z i h d
/-- The gradient of a score, as the chain rule spells it. -/
def g (z : Fin 16) (h : Fin 8) (i j : Fin 256) : ℝ :=
  ((∑ d, D.wd z i h d / D.den z h i * D.v z j h d) + D.dden z h i) * D.p z h i j

theorem ls_0' (z i h) : D.ls 0 z i h = D.l0 z i h := rfl
theorem ls_1' (z i h) : D.ls 1 z i h = D.l1 z i h := rfl
theorem ls_2' (z i h) : D.ls 2 z i h = D.l2 z i h := rfl

theorem p_nonneg (z h i j) : 0 ≤ D.p z h i j := by
  unfold p; split
  · exact (Real.exp_pos _).le
  · exact le_rfl

theorem den_pos (z h i) : 0 < D.den z h i := by
  have h1 : D.p z h i i ≤ D.den z h i := Finset.single_le_sum (fun j _ => D.p_nonneg z h i j) (Finset.mem_univ i)
  refine lt_of_lt_of_le ?_ h1
  simp [p, D.diag, Real.exp_pos]

theorem tot_pos (z i h) : 0 < D.tot z i h :=
  Finset.sum_pos (fun _ _ => Real.exp_pos _) Finset.univ_nonempty

theorem sum_pos' (z i h) : 0 < ∑ g, Real.exp (D.ls g z i h) :=
  Finset.sum_pos (fun _ _ => Real.exp_pos _) Finset.univ_nonempty

theorem exp_lse (z i h) : Real.exp (D.lse z i h) = ∑ g, Real.exp (D.ls g z i h) := Real.exp_log (D.sum_pos' z i h)

/-- A merge weight does not depend on the stabiliser. -/
theorem weight (g z i h) : D.e g z i h / D.tot z i h = Real.exp (D.ls g z i h - D.lse z i h) := by
  have h1 : D.tot z i h = Real.exp (D.lse z i h) / Real.exp (D.lm z i h) := by
    rw [exp_lse, Finset.sum_div]
    exact Finset.sum_congr rfl fun g _ => by rw [e, Real.exp_sub]
  rw [h1, e, Real.exp_sub, Real.exp_sub]
  field_simp

/-- The two softmaxes compose to one. -/
theorem a_eq (z h i j) : D.e 2 z i h / D.tot z i h / D.den z h i * D.p z h i j = D.a z h i j := by
  rw [weight]
  have hd := D.den_pos z h i
  have h2 : Real.exp (D.ls 2 z i h) = Real.exp (D.mx z h i) * D.den z h i := by
    show Real.exp (D.mx z h i + Real.log (D.den z h i)) = _
    rw [Real.exp_add, Real.exp_log hd]
  rw [Real.exp_sub, h2]
  unfold p a
  split
  · rw [Real.exp_sub, Real.exp_sub]; field_simp
  · ring

theorem dl_eq (z i h) : D.dl z i h = ∑ g, D.e g z i h / D.tot z i h * D.r g z i h := by
  simp only [dl, att, r, Finset.mul_sum]
  rw [Finset.sum_comm]
  exact Finset.sum_congr rfl fun g _ => Finset.sum_congr rfl fun d _ => by ring

theorem dl2_eq (z i h) : D.dl2 z i h = D.e 2 z i h / D.tot z i h * (D.r 2 z i h - D.dl z i h) := by
  have ht := (D.tot_pos z i h).ne'
  have h1 : ∑ g, D.r g z i h * (1 / (D.tot z i h * D.tot z i h)) * D.e g z i h = D.dl z i h / D.tot z i h := by
    rw [dl_eq, Finset.sum_div]
    exact Finset.sum_congr rfl fun g _ => by field_simp
  rw [dl2, h1]; ring

theorem u_dO (z i h) : ∑ d, D.dO z i h d * D.u z i h d = D.den z h i * D.r 2 z i h := by
  have hd := (D.den_pos z h i).ne'
  rw [r, Finset.mul_sum]
  refine Finset.sum_congr rfl fun d _ => ?_
  show _ = D.den z h i * (D.dO z i h d * (D.u z i h d / D.den z h i))
  field_simp

theorem dden_eq (z h i) : D.dden z h i = -(D.e 2 z i h / D.tot z i h / D.den z h i * D.dl z i h) := by
  have hd := (D.den_pos z h i).ne'
  have h1 : ∑ d, D.wd z i h d * (1 / (D.den z h i * D.den z h i)) * D.u z i h d
      = D.e 2 z i h / D.tot z i h / D.den z h i * D.r 2 z i h := by
    have h2 : ∀ d, D.wd z i h d * (1 / (D.den z h i * D.den z h i)) * D.u z i h d
        = D.e 2 z i h / D.tot z i h * (1 / (D.den z h i * D.den z h i)) * (D.dO z i h d * D.u z i h d) := by
      intro d; unfold wd; ring
    rw [Finset.sum_congr rfl fun d _ => h2 d, ← Finset.mul_sum, u_dO]
    field_simp
  rw [dden, h1, dl2_eq]; ring

/-- The chain rule's gradient of a score is the kernel's formula. -/
theorem g_eq (z h i j) : D.g z h i j = D.a z h i j * ((∑ d, D.dO z i h d * D.v z j h d) - D.dl z i h) := by
  have h1 : ∑ d, D.wd z i h d / D.den z h i * D.v z j h d
      = D.e 2 z i h / D.tot z i h / D.den z h i * ∑ d, D.dO z i h d * D.v z j h d := by
    rw [Finset.mul_sum]
    exact Finset.sum_congr rfl fun d _ => by unfold wd; ring
  rw [g, h1, dden_eq, ← a_eq]; ring

/-- A row of score gradients sums to the gradient of the row's log-sum-exp. -/
theorem sum_g (z h i) : ∑ j, D.g z h i j = D.dl2 z i h := by
  have hd := (D.den_pos z h i).ne'
  have h1 : ∑ j, (∑ d, D.wd z i h d / D.den z h i * D.v z j h d) * D.p z h i j
      = D.e 2 z i h / D.tot z i h / D.den z h i * (D.den z h i * D.r 2 z i h) := by
    rw [← u_dO, Finset.mul_sum]
    simp only [Finset.sum_mul, u, Finset.mul_sum]
    rw [Finset.sum_comm]
    exact Finset.sum_congr rfl fun d _ => Finset.sum_congr rfl fun j _ => by unfold wd; ring
  have h2 : ∑ j, D.g z h i j = ∑ j, ((∑ d, D.wd z i h d / D.den z h i * D.v z j h d) * D.p z h i j
      + D.dden z h i * D.p z h i j) := Finset.sum_congr rfl fun j _ => by unfold g; ring
  rw [h2, Finset.sum_add_distrib, h1, ← Finset.mul_sum, show ∑ j, D.p z h i j = D.den z h i from rfl, dden_eq, dl2_eq]
  field_simp
  ring

/-- The gradient of a value row. -/
theorem dv_eq (z j h d) : ∑ i, D.wd z i h d / D.den z h i * D.p z h i j = ∑ i, D.a z h i j * D.dO z i h d :=
  Finset.sum_congr rfl fun i _ => by rw [← a_eq]; unfold wd; ring

end Data
end Cert.Attn
-- ==== Proof.RefSoftmax.lean ====
module

public import proofs.«01_k».proof.Proof.Rows
public import proofs.«01_k».proof.Proof.Gen.ReferenceIdeal.Read
public import Idealize.ShloMosaic.Lib.ValueIdx

@[expose] public section
set_option maxRecDepth 16384

/-! The reference program read at real inputs, one operation at a time: every stage holds the real number that
    the row mathematics of `Rows.lean` names. -/

noncomputable section
namespace Cert.Attn
open Cert.ReferenceIdeal Cert.ReferenceIdeal.Gen Cert.ReferenceIdeal.Read Idealize.ShloMosaic Idealize.ShloMosaic.TcCoe Idealize.SL.Sem
open Idealize.ShloMosaic.ValueIdx

/-! ## Operations on reals -/

theorem mul_of {x y : EReal} {a b : ℝ} (hx : x = (a : EReal)) (hy : y = (b : EReal)) : x * y = ((a * b : ℝ) : EReal) := by
  rw [hx, hy, EReal.coe_mul]
theorem mulf_of {x y : Ideal .f32} {a b : ℝ} (hx : x = (a : EReal)) (hy : y = (b : EReal)) :
    FloatOps.mulf (F := Ideal) (φ := .f32) x y = ((a * b : ℝ) : EReal) := mul_of hx hy
theorem addf_of {x y : Ideal .f32} {a b : ℝ} (hx : x = (a : EReal)) (hy : y = (b : EReal)) :
    FloatOps.addf (F := Ideal) (φ := .f32) x y = ((a + b : ℝ) : EReal) := by
  rw [hx, hy, EReal.coe_add]; rfl
theorem subf_of {x y : Ideal .f32} {a b : ℝ} (hx : x = (a : EReal)) (hy : y = (b : EReal)) :
    FloatOps.subf (F := Ideal) (φ := .f32) x y = ((a - b : ℝ) : EReal) := by
  rw [hx, hy, EReal.coe_sub]; rfl
theorem negf_of {x : Ideal .f32} {a : ℝ} (hx : x = (a : EReal)) :
    FloatOps.hostNegf (F := Ideal) (φ := .f32) x = ((-a : ℝ) : EReal) := by
  rw [hx, EReal.coe_neg]; rfl
theorem div_of {x y : EReal} {a b : ℝ} (hx : x = (a : EReal)) (hy : y = (b : EReal)) (hb : b ≠ 0) :
    Ideal.div x y = ((a / b : ℝ) : EReal) := by
  rw [hx, hy, Ideal.div_coe hb, ← EReal.coe_mul, mul_one_div]
theorem divf_of {x y : Ideal .f32} {a b : ℝ} (hx : x = (a : EReal)) (hy : y = (b : EReal)) (hb : b ≠ 0) :
    FloatOps.hostDivf (F := Ideal) (φ := .f32) x y = ((a / b : ℝ) : EReal) := div_of hx hy hb
theorem exp_of {x : Ideal .f32} {a : ℝ} (hx : x = (a : EReal)) :
    FloatOps.hostUnary (F := Ideal) (φ := .f32) .exp x = ((Real.exp a : ℝ) : EReal) := by
  rw [hx]; rfl
theorem log_of {x : Ideal .f32} {a : ℝ} (hx : x = (a : EReal)) (ha : 0 < a) :
    FloatOps.hostUnary (F := Ideal) (φ := .f32) .log x = ((Real.log a : ℝ) : EReal) := by
  rw [hx]; show Ideal.log (a : EReal) = _
  rw [Ideal.log_coe, if_neg (not_le.mpr ha)]
theorem coe_sum {n : Nat} (g : Fin n → ℝ) : ((∑ k, g k : ℝ) : EReal) = ∑ k, (g k : EReal) := by
  induction n with
  | zero => simp
  | succ n ih => rw [Fin.sum_univ_succ, Fin.sum_univ_succ, EReal.coe_add, ih]
theorem sum_of {n : Nat} {f : Fin n → EReal} {g : Fin n → ℝ} (h : ∀ k, f k = (g k : EReal)) :
    ∑ k, f k = ((∑ k, g k : ℝ) : EReal) := by
  rw [coe_sum]; exact Finset.sum_congr rfl fun k _ => h k
theorem sum0_of {n : Nat} {z : EReal} {f : Fin n → EReal} {g : Fin n → ℝ} (hz : z = 0) (h : ∀ k, f k = (g k : EReal)) :
    z + ∑ k, f k = ((∑ k, g k : ℝ) : EReal) := by
  rw [hz, zero_add, sum_of h]
theorem sum1_of {z : EReal} {f : Fin 1 → EReal} {a : ℝ} (hz : z = 0) (h : f 0 = (a : EReal)) :
    z + ∑ k, f k = (a : EReal) := by
  rw [hz, zero_add, Fin.sum_univ_one, h]

/-- The word `0x3E000000` is an eighth. -/
theorem word_eighth : Ideal.ofBits .f32 0x3E000000#32 = ((1 / 8 : ℝ) : EReal) := by
  simp [Ideal.ofBits, Ideal.ieee]
  norm_num
  rw [← EReal.coe_mul]
  norm_num
/-- The word `0x3F800000` is one. -/
theorem word_one : Ideal.ofBits .f32 0x3F800000#32 = ((1 : ℝ) : EReal) := by
  simp [Ideal.ofBits, Ideal.ieee]
  rw [← EReal.coe_mul, ← EReal.coe_one]
  norm_num
/-- The word `0xFF800000` is minus infinity. -/
theorem word_bot : Ideal.ofBits .f32 0xFF800000#32 = ⊥ := by
  simp [Ideal.ofBits, Ideal.ieee]

theorem three_0 {α β : Type} (a b c : α → β) (i : α) : (![a, b, c] : Fin 3 → α → β) 0 i = a i := rfl
theorem three_1 {α β : Type} (a b c : α → β) (i : α) : (![a, b, c] : Fin 3 → α → β) 1 i = b i := rfl
theorem three_2 {α β : Type} (a b c : α → β) (i : α) : (![a, b, c] : Fin 3 → α → β) 2 i = c i := rfl

/-! ## The inputs -/

variable {D : Data}
variable {x0 : FVec Ideal S4096x4608 .bf16} {x1 x2 : FVec Ideal S16x256x8x64 .f32} {x3 x4 : FVec Ideal S16x256x8 .f32}
variable {x5 : FVec Ideal S32x24 .f32} {x6 : FVec Ideal S4096x512 .bf16}

/-- The program's inputs are the reals of `D`. -/
structure Inputs (D : Data) (x0 : FVec Ideal S4096x4608 .bf16) (x1 x2 : FVec Ideal S16x256x8x64 .f32)
    (x3 x4 : FVec Ideal S16x256x8 .f32) (x5 : FVec Ideal S32x24 .f32) (x6 : FVec Ideal S4096x512 .bf16) : Prop where
  q : ∀ y, (val_main_v40 (F := Ideal) x0 y : EReal) = ((D.q (y 0) (y 1) (y 2) (y 3) : ℝ) : EReal)
  k : ∀ y, (val_main_v43 (F := Ideal) x0 y : EReal) = ((D.k (y 0) (y 1) (y 2) (y 3) : ℝ) : EReal)
  v : ∀ y, (val_main_v46 (F := Ideal) x0 y : EReal) = ((D.v (y 0) (y 1) (y 2) (y 3) : ℝ) : EReal)
  o0 : ∀ y, (x1 y : EReal) = ((D.o0 (y 0) (y 1) (y 2) (y 3) : ℝ) : EReal)
  o1 : ∀ y, (x2 y : EReal) = ((D.o1 (y 0) (y 1) (y 2) (y 3) : ℝ) : EReal)
  l0 : ∀ y, (x3 y : EReal) = ((D.l0 (y 0) (y 1) (y 2) : ℝ) : EReal)
  l1 : ∀ y, (x4 y : EReal) = ((D.l1 (y 0) (y 1) (y 2) : ℝ) : EReal)
  b : ∀ y, (val_main_v37 (F := Ideal) x5 y : EReal) = ((D.b (y 0) (y 1) (y 2) : ℝ) : EReal)
  dO : ∀ y, (val_main_v124 (F := Ideal) x6 y : EReal) = ((D.dO (y 0) (y 1) (y 2) (y 3) : ℝ) : EReal)
  on : ∀ y, val_main_v7 (F := Ideal) y = 1#1 ↔ D.on (y 0) (y 1) = true

variable (H : Inputs D x0 x1 x2 x3 x4 x5 x6)
variable (hm : ∀ y, (val_main_v55 (F := Ideal) x0 x5 y : EReal) = ((D.mx (y 0) (y 1) (y 2) : ℝ) : EReal))
variable (hl : ∀ y, (val_main_v92 (F := Ideal) x0 x3 x4 x5 y : EReal) = ((D.lm (y 0) (y 1) (y 2) : ℝ) : EReal))

/-- Where stage `v75` reads. -/
abbrev to75 (y : S16x8x256.Idx) : S16x8x256x1.Idx := fun a => match a with
  | ⟨0, _⟩ => ⟨(y 0).val, by have h0 : (y 0).val < 16 := (y 0).isLt; have h1 : (y 1).val < 8 := (y 1).isLt; have h2 : (y 2).val < 256 := (y 2).isLt; show (y 0).val < 16; omega⟩
  | ⟨1, _⟩ => ⟨(y 1).val, by have h0 : (y 0).val < 16 := (y 0).isLt; have h1 : (y 1).val < 8 := (y 1).isLt; have h2 : (y 2).val < 256 := (y 2).isLt; show (y 1).val < 8; omega⟩
  | ⟨2, _⟩ => ⟨(y 2).val, by have h0 : (y 0).val < 16 := (y 0).isLt; have h1 : (y 1).val < 8 := (y 1).isLt; have h2 : (y 2).val < 256 := (y 2).isLt; show (y 2).val < 256; omega⟩
  | ⟨3, _⟩ => ⟨0, by have h0 : (y 0).val < 16 := (y 0).isLt; have h1 : (y 1).val < 8 := (y 1).isLt; have h2 : (y 2).val < 256 := (y 2).isLt; show 0 < 1; omega⟩
theorem at75 (y : S16x8x256.Idx) : idx_main_v75 y = to75 y := funext fun a => match a with
    | ⟨0, _⟩ => Fin.ext (by have h0 : (y 0).val < 16 := (y 0).isLt; have h1 : (y 1).val < 8 := (y 1).isLt; have h2 : (y 2).val < 256 := (y 2).isLt; show (((y 0).val * 8 + (y 1).val) * 256 + (y 2).val) / 2048 = (y 0).val; omega)
    | ⟨1, _⟩ => Fin.ext (by have h0 : (y 0).val < 16 := (y 0).isLt; have h1 : (y 1).val < 8 := (y 1).isLt; have h2 : (y 2).val < 256 := (y 2).isLt; show (((y 0).val * 8 + (y 1).val) * 256 + (y 2).val) / 256 % 8 = (y 1).val; omega)
    | ⟨2, _⟩ => Fin.ext (by have h0 : (y 0).val < 16 := (y 0).isLt; have h1 : (y 1).val < 8 := (y 1).isLt; have h2 : (y 2).val < 256 := (y 2).isLt; show (((y 0).val * 8 + (y 1).val) * 256 + (y 2).val) / 1 % 256 = (y 2).val; omega)
    | ⟨3, _⟩ => Fin.ext (by have h0 : (y 0).val < 16 := (y 0).isLt; have h1 : (y 1).val < 8 := (y 1).isLt; have h2 : (y 2).val < 256 := (y 2).isLt; show 0 = 0; omega)

/-- Where stage `v130` reads. -/
abbrev to130 (y : S3x16x256x8x1.Idx) : S3x16x256x8.Idx := fun a => match a with
  | ⟨0, _⟩ => ⟨(y 0).val, by have h0 : (y 0).val < 3 := (y 0).isLt; have h1 : (y 1).val < 16 := (y 1).isLt; have h2 : (y 2).val < 256 := (y 2).isLt; have h3 : (y 3).val < 8 := (y 3).isLt; have h4 : (y 4).val < 1 := (y 4).isLt; show (y 0).val < 3; omega⟩
  | ⟨1, _⟩ => ⟨(y 1).val, by have h0 : (y 0).val < 3 := (y 0).isLt; have h1 : (y 1).val < 16 := (y 1).isLt; have h2 : (y 2).val < 256 := (y 2).isLt; have h3 : (y 3).val < 8 := (y 3).isLt; have h4 : (y 4).val < 1 := (y 4).isLt; show (y 1).val < 16; omega⟩
  | ⟨2, _⟩ => ⟨(y 2).val, by have h0 : (y 0).val < 3 := (y 0).isLt; have h1 : (y 1).val < 16 := (y 1).isLt; have h2 : (y 2).val < 256 := (y 2).isLt; have h3 : (y 3).val < 8 := (y 3).isLt; have h4 : (y 4).val < 1 := (y 4).isLt; show (y 2).val < 256; omega⟩
  | ⟨3, _⟩ => ⟨(y 3).val, by have h0 : (y 0).val < 3 := (y 0).isLt; have h1 : (y 1).val < 16 := (y 1).isLt; have h2 : (y 2).val < 256 := (y 2).isLt; have h3 : (y 3).val < 8 := (y 3).isLt; have h4 : (y 4).val < 1 := (y 4).isLt; show (y 3).val < 8; omega⟩
theorem at130 (y : S3x16x256x8x1.Idx) : idx_main_v130 y = to130 y := funext fun a => match a with
    | ⟨0, _⟩ => Fin.ext (by have h0 : (y 0).val < 3 := (y 0).isLt; have h1 : (y 1).val < 16 := (y 1).isLt; have h2 : (y 2).val < 256 := (y 2).isLt; have h3 : (y 3).val < 8 := (y 3).isLt; have h4 : (y 4).val < 1 := (y 4).isLt; show (((((y 0).val * 16 + (y 1).val) * 256 + (y 2).val) * 8 + (y 3).val) * 1 + (y 4).val) / 32768 = (y 0).val; omega)
    | ⟨1, _⟩ => Fin.ext (by have h0 : (y 0).val < 3 := (y 0).isLt; have h1 : (y 1).val < 16 := (y 1).isLt; have h2 : (y 2).val < 256 := (y 2).isLt; have h3 : (y 3).val < 8 := (y 3).isLt; have h4 : (y 4).val < 1 := (y 4).isLt; show (((((y 0).val * 16 + (y 1).val) * 256 + (y 2).val) * 8 + (y 3).val) * 1 + (y 4).val) / 2048 % 16 = (y 1).val; omega)
    | ⟨2, _⟩ => Fin.ext (by have h0 : (y 0).val < 3 := (y 0).isLt; have h1 : (y 1).val < 16 := (y 1).isLt; have h2 : (y 2).val < 256 := (y 2).isLt; have h3 : (y 3).val < 8 := (y 3).isLt; have h4 : (y 4).val < 1 := (y 4).isLt; show (((((y 0).val * 16 + (y 1).val) * 256 + (y 2).val) * 8 + (y 3).val) * 1 + (y 4).val) / 8 % 256 = (y 2).val; omega)
    | ⟨3, _⟩ => Fin.ext (by have h0 : (y 0).val < 3 := (y 0).isLt; have h1 : (y 1).val < 16 := (y 1).isLt; have h2 : (y 2).val < 256 := (y 2).isLt; have h3 : (y 3).val < 8 := (y 3).isLt; have h4 : (y 4).val < 1 := (y 4).isLt; show (((((y 0).val * 16 + (y 1).val) * 256 + (y 2).val) * 8 + (y 3).val) * 1 + (y 4).val) % 8 = (y 3).val; omega)

/-- Where stage `v135` reads. -/
abbrev to135 (y : S1x16x256x8x64.Idx) : S3x16x256x8x64.Idx := fun a => match a with
  | ⟨0, _⟩ => ⟨2, by have h0 : (y 0).val < 1 := (y 0).isLt; have h1 : (y 1).val < 16 := (y 1).isLt; have h2 : (y 2).val < 256 := (y 2).isLt; have h3 : (y 3).val < 8 := (y 3).isLt; have h4 : (y 4).val < 64 := (y 4).isLt; show 2 < 3; omega⟩
  | ⟨1, _⟩ => ⟨(y 1).val, by have h0 : (y 0).val < 1 := (y 0).isLt; have h1 : (y 1).val < 16 := (y 1).isLt; have h2 : (y 2).val < 256 := (y 2).isLt; have h3 : (y 3).val < 8 := (y 3).isLt; have h4 : (y 4).val < 64 := (y 4).isLt; show (y 1).val < 16; omega⟩
  | ⟨2, _⟩ => ⟨(y 2).val, by have h0 : (y 0).val < 1 := (y 0).isLt; have h1 : (y 1).val < 16 := (y 1).isLt; have h2 : (y 2).val < 256 := (y 2).isLt; have h3 : (y 3).val < 8 := (y 3).isLt; have h4 : (y 4).val < 64 := (y 4).isLt; show (y 2).val < 256; omega⟩
  | ⟨3, _⟩ => ⟨(y 3).val, by have h0 : (y 0).val < 1 := (y 0).isLt; have h1 : (y 1).val < 16 := (y 1).isLt; have h2 : (y 2).val < 256 := (y 2).isLt; have h3 : (y 3).val < 8 := (y 3).isLt; have h4 : (y 4).val < 64 := (y 4).isLt; show (y 3).val < 8; omega⟩
  | ⟨4, _⟩ => ⟨(y 4).val, by have h0 : (y 0).val < 1 := (y 0).isLt; have h1 : (y 1).val < 16 := (y 1).isLt; have h2 : (y 2).val < 256 := (y 2).isLt; have h3 : (y 3).val < 8 := (y 3).isLt; have h4 : (y 4).val < 64 := (y 4).isLt; show (y 4).val < 64; omega⟩
theorem at135 (y : S1x16x256x8x64.Idx) : idx_main_v135 y = to135 y := funext fun a => match a with
    | ⟨0, _⟩ => Fin.ext (by have h0 : (y 0).val < 1 := (y 0).isLt; have h1 : (y 1).val < 16 := (y 1).isLt; have h2 : (y 2).val < 256 := (y 2).isLt; have h3 : (y 3).val < 8 := (y 3).isLt; have h4 : (y 4).val < 64 := (y 4).isLt; show 2 + (y 0).val = 2; omega)
    | ⟨1, _⟩ => Fin.ext (by have h0 : (y 0).val < 1 := (y 0).isLt; have h1 : (y 1).val < 16 := (y 1).isLt; have h2 : (y 2).val < 256 := (y 2).isLt; have h3 : (y 3).val < 8 := (y 3).isLt; have h4 : (y 4).val < 64 := (y 4).isLt; show (y 1).val = (y 1).val; omega)
    | ⟨2, _⟩ => Fin.ext (by have h0 : (y 0).val < 1 := (y 0).isLt; have h1 : (y 1).val < 16 := (y 1).isLt; have h2 : (y 2).val < 256 := (y 2).isLt; have h3 : (y 3).val < 8 := (y 3).isLt; have h4 : (y 4).val < 64 := (y 4).isLt; show (y 2).val = (y 2).val; omega)
    | ⟨3, _⟩ => Fin.ext (by have h0 : (y 0).val < 1 := (y 0).isLt; have h1 : (y 1).val < 16 := (y 1).isLt; have h2 : (y 2).val < 256 := (y 2).isLt; have h3 : (y 3).val < 8 := (y 3).isLt; have h4 : (y 4).val < 64 := (y 4).isLt; show (y 3).val = (y 3).val; omega)
    | ⟨4, _⟩ => Fin.ext (by have h0 : (y 0).val < 1 := (y 0).isLt; have h1 : (y 1).val < 16 := (y 1).isLt; have h2 : (y 2).val < 256 := (y 2).isLt; have h3 : (y 3).val < 8 := (y 3).isLt; have h4 : (y 4).val < 64 := (y 4).isLt; show (y 4).val = (y 4).val; omega)

/-- Where stage `v136` reads. -/
abbrev to136 (y : S16x256x8x64.Idx) : S1x16x256x8x64.Idx := fun a => match a with
  | ⟨0, _⟩ => ⟨0, by have h0 : (y 0).val < 16 := (y 0).isLt; have h1 : (y 1).val < 256 := (y 1).isLt; have h2 : (y 2).val < 8 := (y 2).isLt; have h3 : (y 3).val < 64 := (y 3).isLt; show 0 < 1; omega⟩
  | ⟨1, _⟩ => ⟨(y 0).val, by have h0 : (y 0).val < 16 := (y 0).isLt; have h1 : (y 1).val < 256 := (y 1).isLt; have h2 : (y 2).val < 8 := (y 2).isLt; have h3 : (y 3).val < 64 := (y 3).isLt; show (y 0).val < 16; omega⟩
  | ⟨2, _⟩ => ⟨(y 1).val, by have h0 : (y 0).val < 16 := (y 0).isLt; have h1 : (y 1).val < 256 := (y 1).isLt; have h2 : (y 2).val < 8 := (y 2).isLt; have h3 : (y 3).val < 64 := (y 3).isLt; show (y 1).val < 256; omega⟩
  | ⟨3, _⟩ => ⟨(y 2).val, by have h0 : (y 0).val < 16 := (y 0).isLt; have h1 : (y 1).val < 256 := (y 1).isLt; have h2 : (y 2).val < 8 := (y 2).isLt; have h3 : (y 3).val < 64 := (y 3).isLt; show (y 2).val < 8; omega⟩
  | ⟨4, _⟩ => ⟨(y 3).val, by have h0 : (y 0).val < 16 := (y 0).isLt; have h1 : (y 1).val < 256 := (y 1).isLt; have h2 : (y 2).val < 8 := (y 2).isLt; have h3 : (y 3).val < 64 := (y 3).isLt; show (y 3).val < 64; omega⟩
theorem at136 (y : S16x256x8x64.Idx) : idx_main_v136 y = to136 y := funext fun a => match a with
    | ⟨0, _⟩ => Fin.ext (by have h0 : (y 0).val < 16 := (y 0).isLt; have h1 : (y 1).val < 256 := (y 1).isLt; have h2 : (y 2).val < 8 := (y 2).isLt; have h3 : (y 3).val < 64 := (y 3).isLt; show 0 = 0; omega)
    | ⟨1, _⟩ => Fin.ext (by have h0 : (y 0).val < 16 := (y 0).isLt; have h1 : (y 1).val < 256 := (y 1).isLt; have h2 : (y 2).val < 8 := (y 2).isLt; have h3 : (y 3).val < 64 := (y 3).isLt; show ((((y 0).val * 256 + (y 1).val) * 8 + (y 2).val) * 64 + (y 3).val) / 131072 % 16 = (y 0).val; omega)
    | ⟨2, _⟩ => Fin.ext (by have h0 : (y 0).val < 16 := (y 0).isLt; have h1 : (y 1).val < 256 := (y 1).isLt; have h2 : (y 2).val < 8 := (y 2).isLt; have h3 : (y 3).val < 64 := (y 3).isLt; show ((((y 0).val * 256 + (y 1).val) * 8 + (y 2).val) * 64 + (y 3).val) / 512 % 256 = (y 1).val; omega)
    | ⟨3, _⟩ => Fin.ext (by have h0 : (y 0).val < 16 := (y 0).isLt; have h1 : (y 1).val < 256 := (y 1).isLt; have h2 : (y 2).val < 8 := (y 2).isLt; have h3 : (y 3).val < 64 := (y 3).isLt; show ((((y 0).val * 256 + (y 1).val) * 8 + (y 2).val) * 64 + (y 3).val) / 64 % 8 = (y 2).val; omega)
    | ⟨4, _⟩ => Fin.ext (by have h0 : (y 0).val < 16 := (y 0).isLt; have h1 : (y 1).val < 256 := (y 1).isLt; have h2 : (y 2).val < 8 := (y 2).isLt; have h3 : (y 3).val < 64 := (y 3).isLt; show ((((y 0).val * 256 + (y 1).val) * 8 + (y 2).val) * 64 + (y 3).val) % 64 = (y 3).val; omega)

/-- Where stage `v142` reads. -/
abbrev to142 (y : S1x16x256x8.Idx) : S16x256x8.Idx := fun a => match a with
  | ⟨0, _⟩ => ⟨(y 1).val, by have h0 : (y 0).val < 1 := (y 0).isLt; have h1 : (y 1).val < 16 := (y 1).isLt; have h2 : (y 2).val < 256 := (y 2).isLt; have h3 : (y 3).val < 8 := (y 3).isLt; show (y 1).val < 16; omega⟩
  | ⟨1, _⟩ => ⟨(y 2).val, by have h0 : (y 0).val < 1 := (y 0).isLt; have h1 : (y 1).val < 16 := (y 1).isLt; have h2 : (y 2).val < 256 := (y 2).isLt; have h3 : (y 3).val < 8 := (y 3).isLt; show (y 2).val < 256; omega⟩
  | ⟨2, _⟩ => ⟨(y 3).val, by have h0 : (y 0).val < 1 := (y 0).isLt; have h1 : (y 1).val < 16 := (y 1).isLt; have h2 : (y 2).val < 256 := (y 2).isLt; have h3 : (y 3).val < 8 := (y 3).isLt; show (y 3).val < 8; omega⟩
theorem at142 (y : S1x16x256x8.Idx) : idx_main_v142 y = to142 y := funext fun a => match a with
    | ⟨0, _⟩ => Fin.ext (by have h0 : (y 0).val < 1 := (y 0).isLt; have h1 : (y 1).val < 16 := (y 1).isLt; have h2 : (y 2).val < 256 := (y 2).isLt; have h3 : (y 3).val < 8 := (y 3).isLt; show ((((y 0).val * 16 + (y 1).val) * 256 + (y 2).val) * 8 + (y 3).val) / 2048 = (y 1).val; omega)
    | ⟨1, _⟩ => Fin.ext (by have h0 : (y 0).val < 1 := (y 0).isLt; have h1 : (y 1).val < 16 := (y 1).isLt; have h2 : (y 2).val < 256 := (y 2).isLt; have h3 : (y 3).val < 8 := (y 3).isLt; show ((((y 0).val * 16 + (y 1).val) * 256 + (y 2).val) * 8 + (y 3).val) / 8 % 256 = (y 2).val; omega)
    | ⟨2, _⟩ => Fin.ext (by have h0 : (y 0).val < 1 := (y 0).isLt; have h1 : (y 1).val < 16 := (y 1).isLt; have h2 : (y 2).val < 256 := (y 2).isLt; have h3 : (y 3).val < 8 := (y 3).isLt; show ((((y 0).val * 16 + (y 1).val) * 256 + (y 2).val) * 8 + (y 3).val) % 8 = (y 3).val; omega)

/-- Where stage `v154` reads. -/
abbrev to154 (y : S1x16x256x8.Idx) : S3x16x256x8.Idx := fun a => match a with
  | ⟨0, _⟩ => ⟨2, by have h0 : (y 0).val < 1 := (y 0).isLt; have h1 : (y 1).val < 16 := (y 1).isLt; have h2 : (y 2).val < 256 := (y 2).isLt; have h3 : (y 3).val < 8 := (y 3).isLt; show 2 < 3; omega⟩
  | ⟨1, _⟩ => ⟨(y 1).val, by have h0 : (y 0).val < 1 := (y 0).isLt; have h1 : (y 1).val < 16 := (y 1).isLt; have h2 : (y 2).val < 256 := (y 2).isLt; have h3 : (y 3).val < 8 := (y 3).isLt; show (y 1).val < 16; omega⟩
  | ⟨2, _⟩ => ⟨(y 2).val, by have h0 : (y 0).val < 1 := (y 0).isLt; have h1 : (y 1).val < 16 := (y 1).isLt; have h2 : (y 2).val < 256 := (y 2).isLt; have h3 : (y 3).val < 8 := (y 3).isLt; show (y 2).val < 256; omega⟩
  | ⟨3, _⟩ => ⟨(y 3).val, by have h0 : (y 0).val < 1 := (y 0).isLt; have h1 : (y 1).val < 16 := (y 1).isLt; have h2 : (y 2).val < 256 := (y 2).isLt; have h3 : (y 3).val < 8 := (y 3).isLt; show (y 3).val < 8; omega⟩
theorem at154 (y : S1x16x256x8.Idx) : idx_main_v154 y = to154 y := funext fun a => match a with
    | ⟨0, _⟩ => Fin.ext (by have h0 : (y 0).val < 1 := (y 0).isLt; have h1 : (y 1).val < 16 := (y 1).isLt; have h2 : (y 2).val < 256 := (y 2).isLt; have h3 : (y 3).val < 8 := (y 3).isLt; show 2 + (y 0).val = 2; omega)
    | ⟨1, _⟩ => Fin.ext (by have h0 : (y 0).val < 1 := (y 0).isLt; have h1 : (y 1).val < 16 := (y 1).isLt; have h2 : (y 2).val < 256 := (y 2).isLt; have h3 : (y 3).val < 8 := (y 3).isLt; show (y 1).val = (y 1).val; omega)
    | ⟨2, _⟩ => Fin.ext (by have h0 : (y 0).val < 1 := (y 0).isLt; have h1 : (y 1).val < 16 := (y 1).isLt; have h2 : (y 2).val < 256 := (y 2).isLt; have h3 : (y 3).val < 8 := (y 3).isLt; show (y 2).val = (y 2).val; omega)
    | ⟨3, _⟩ => Fin.ext (by have h0 : (y 0).val < 1 := (y 0).isLt; have h1 : (y 1).val < 16 := (y 1).isLt; have h2 : (y 2).val < 256 := (y 2).isLt; have h3 : (y 3).val < 8 := (y 3).isLt; show (y 3).val = (y 3).val; omega)

/-- Where stage `v155` reads. -/
abbrev to155 (y : S16x256x8.Idx) : S1x16x256x8.Idx := fun a => match a with
  | ⟨0, _⟩ => ⟨0, by have h0 : (y 0).val < 16 := (y 0).isLt; have h1 : (y 1).val < 256 := (y 1).isLt; have h2 : (y 2).val < 8 := (y 2).isLt; show 0 < 1; omega⟩
  | ⟨1, _⟩ => ⟨(y 0).val, by have h0 : (y 0).val < 16 := (y 0).isLt; have h1 : (y 1).val < 256 := (y 1).isLt; have h2 : (y 2).val < 8 := (y 2).isLt; show (y 0).val < 16; omega⟩
  | ⟨2, _⟩ => ⟨(y 1).val, by have h0 : (y 0).val < 16 := (y 0).isLt; have h1 : (y 1).val < 256 := (y 1).isLt; have h2 : (y 2).val < 8 := (y 2).isLt; show (y 1).val < 256; omega⟩
  | ⟨3, _⟩ => ⟨(y 2).val, by have h0 : (y 0).val < 16 := (y 0).isLt; have h1 : (y 1).val < 256 := (y 1).isLt; have h2 : (y 2).val < 8 := (y 2).isLt; show (y 2).val < 8; omega⟩
theorem at155 (y : S16x256x8.Idx) : idx_main_v155 y = to155 y := funext fun a => match a with
    | ⟨0, _⟩ => Fin.ext (by have h0 : (y 0).val < 16 := (y 0).isLt; have h1 : (y 1).val < 256 := (y 1).isLt; have h2 : (y 2).val < 8 := (y 2).isLt; show 0 = 0; omega)
    | ⟨1, _⟩ => Fin.ext (by have h0 : (y 0).val < 16 := (y 0).isLt; have h1 : (y 1).val < 256 := (y 1).isLt; have h2 : (y 2).val < 8 := (y 2).isLt; show (((y 0).val * 256 + (y 1).val) * 8 + (y 2).val) / 2048 % 16 = (y 0).val; omega)
    | ⟨2, _⟩ => Fin.ext (by have h0 : (y 0).val < 16 := (y 0).isLt; have h1 : (y 1).val < 256 := (y 1).isLt; have h2 : (y 2).val < 8 := (y 2).isLt; show (((y 0).val * 256 + (y 1).val) * 8 + (y 2).val) / 8 % 256 = (y 1).val; omega)
    | ⟨3, _⟩ => Fin.ext (by have h0 : (y 0).val < 16 := (y 0).isLt; have h1 : (y 1).val < 256 := (y 1).isLt; have h2 : (y 2).val < 8 := (y 2).isLt; show (((y 0).val * 256 + (y 1).val) * 8 + (y 2).val) % 8 = (y 2).val; omega)

/-- Where stage `v163` reads. -/
abbrev to163 (y : S16x256x8x1.Idx) : S16x256x8.Idx := fun a => match a with
  | ⟨0, _⟩ => ⟨(y 0).val, by have h0 : (y 0).val < 16 := (y 0).isLt; have h1 : (y 1).val < 256 := (y 1).isLt; have h2 : (y 2).val < 8 := (y 2).isLt; have h3 : (y 3).val < 1 := (y 3).isLt; show (y 0).val < 16; omega⟩
  | ⟨1, _⟩ => ⟨(y 1).val, by have h0 : (y 0).val < 16 := (y 0).isLt; have h1 : (y 1).val < 256 := (y 1).isLt; have h2 : (y 2).val < 8 := (y 2).isLt; have h3 : (y 3).val < 1 := (y 3).isLt; show (y 1).val < 256; omega⟩
  | ⟨2, _⟩ => ⟨(y 2).val, by have h0 : (y 0).val < 16 := (y 0).isLt; have h1 : (y 1).val < 256 := (y 1).isLt; have h2 : (y 2).val < 8 := (y 2).isLt; have h3 : (y 3).val < 1 := (y 3).isLt; show (y 2).val < 8; omega⟩
theorem at163 (y : S16x256x8x1.Idx) : idx_main_v163 y = to163 y := funext fun a => match a with
    | ⟨0, _⟩ => Fin.ext (by have h0 : (y 0).val < 16 := (y 0).isLt; have h1 : (y 1).val < 256 := (y 1).isLt; have h2 : (y 2).val < 8 := (y 2).isLt; have h3 : (y 3).val < 1 := (y 3).isLt; show ((((y 0).val * 256 + (y 1).val) * 8 + (y 2).val) * 1 + (y 3).val) / 2048 = (y 0).val; omega)
    | ⟨1, _⟩ => Fin.ext (by have h0 : (y 0).val < 16 := (y 0).isLt; have h1 : (y 1).val < 256 := (y 1).isLt; have h2 : (y 2).val < 8 := (y 2).isLt; have h3 : (y 3).val < 1 := (y 3).isLt; show ((((y 0).val * 256 + (y 1).val) * 8 + (y 2).val) * 1 + (y 3).val) / 8 % 256 = (y 1).val; omega)
    | ⟨2, _⟩ => Fin.ext (by have h0 : (y 0).val < 16 := (y 0).isLt; have h1 : (y 1).val < 256 := (y 1).isLt; have h2 : (y 2).val < 8 := (y 2).isLt; have h3 : (y 3).val < 1 := (y 3).isLt; show ((((y 0).val * 256 + (y 1).val) * 8 + (y 2).val) * 1 + (y 3).val) % 8 = (y 2).val; omega)

/-- Where stage `v179` reads. -/
abbrev to179 (y : S16x8x256x1.Idx) : S16x8x256.Idx := fun a => match a with
  | ⟨0, _⟩ => ⟨(y 0).val, by have h0 : (y 0).val < 16 := (y 0).isLt; have h1 : (y 1).val < 8 := (y 1).isLt; have h2 : (y 2).val < 256 := (y 2).isLt; have h3 : (y 3).val < 1 := (y 3).isLt; show (y 0).val < 16; omega⟩
  | ⟨1, _⟩ => ⟨(y 1).val, by have h0 : (y 0).val < 16 := (y 0).isLt; have h1 : (y 1).val < 8 := (y 1).isLt; have h2 : (y 2).val < 256 := (y 2).isLt; have h3 : (y 3).val < 1 := (y 3).isLt; show (y 1).val < 8; omega⟩
  | ⟨2, _⟩ => ⟨(y 2).val, by have h0 : (y 0).val < 16 := (y 0).isLt; have h1 : (y 1).val < 8 := (y 1).isLt; have h2 : (y 2).val < 256 := (y 2).isLt; have h3 : (y 3).val < 1 := (y 3).isLt; show (y 2).val < 256; omega⟩
theorem at179 (y : S16x8x256x1.Idx) : idx_main_v179 y = to179 y := funext fun a => match a with
    | ⟨0, _⟩ => Fin.ext (by have h0 : (y 0).val < 16 := (y 0).isLt; have h1 : (y 1).val < 8 := (y 1).isLt; have h2 : (y 2).val < 256 := (y 2).isLt; have h3 : (y 3).val < 1 := (y 3).isLt; show ((((y 0).val * 8 + (y 1).val) * 256 + (y 2).val) * 1 + (y 3).val) / 2048 = (y 0).val; omega)
    | ⟨1, _⟩ => Fin.ext (by have h0 : (y 0).val < 16 := (y 0).isLt; have h1 : (y 1).val < 8 := (y 1).isLt; have h2 : (y 2).val < 256 := (y 2).isLt; have h3 : (y 3).val < 1 := (y 3).isLt; show ((((y 0).val * 8 + (y 1).val) * 256 + (y 2).val) * 1 + (y 3).val) / 256 % 8 = (y 1).val; omega)
    | ⟨2, _⟩ => Fin.ext (by have h0 : (y 0).val < 16 := (y 0).isLt; have h1 : (y 1).val < 8 := (y 1).isLt; have h2 : (y 2).val < 256 := (y 2).isLt; have h3 : (y 3).val < 1 := (y 3).isLt; show ((((y 0).val * 8 + (y 1).val) * 256 + (y 2).val) * 1 + (y 3).val) % 256 = (y 2).val; omega)

/-- Where stage `v188` reads. -/
abbrev to188 (y : S1x8x256x256.Idx) : S8x256x256.Idx := fun a => match a with
  | ⟨0, _⟩ => ⟨(y 1).val, by have h0 : (y 0).val < 1 := (y 0).isLt; have h1 : (y 1).val < 8 := (y 1).isLt; have h2 : (y 2).val < 256 := (y 2).isLt; have h3 : (y 3).val < 256 := (y 3).isLt; show (y 1).val < 8; omega⟩
  | ⟨1, _⟩ => ⟨(y 2).val, by have h0 : (y 0).val < 1 := (y 0).isLt; have h1 : (y 1).val < 8 := (y 1).isLt; have h2 : (y 2).val < 256 := (y 2).isLt; have h3 : (y 3).val < 256 := (y 3).isLt; show (y 2).val < 256; omega⟩
  | ⟨2, _⟩ => ⟨(y 3).val, by have h0 : (y 0).val < 1 := (y 0).isLt; have h1 : (y 1).val < 8 := (y 1).isLt; have h2 : (y 2).val < 256 := (y 2).isLt; have h3 : (y 3).val < 256 := (y 3).isLt; show (y 3).val < 256; omega⟩
theorem at188 (y : S1x8x256x256.Idx) : idx_main_v188 y = to188 y := funext fun a => match a with
    | ⟨0, _⟩ => Fin.ext (by have h0 : (y 0).val < 1 := (y 0).isLt; have h1 : (y 1).val < 8 := (y 1).isLt; have h2 : (y 2).val < 256 := (y 2).isLt; have h3 : (y 3).val < 256 := (y 3).isLt; show ((((y 0).val * 8 + (y 1).val) * 256 + (y 2).val) * 256 + (y 3).val) / 65536 = (y 1).val; omega)
    | ⟨1, _⟩ => Fin.ext (by have h0 : (y 0).val < 1 := (y 0).isLt; have h1 : (y 1).val < 8 := (y 1).isLt; have h2 : (y 2).val < 256 := (y 2).isLt; have h3 : (y 3).val < 256 := (y 3).isLt; show ((((y 0).val * 8 + (y 1).val) * 256 + (y 2).val) * 256 + (y 3).val) / 256 % 256 = (y 2).val; omega)
    | ⟨2, _⟩ => Fin.ext (by have h0 : (y 0).val < 1 := (y 0).isLt; have h1 : (y 1).val < 8 := (y 1).isLt; have h2 : (y 2).val < 256 := (y 2).isLt; have h3 : (y 3).val < 256 := (y 3).isLt; show ((((y 0).val * 8 + (y 1).val) * 256 + (y 2).val) * 256 + (y 3).val) % 256 = (y 3).val; omega)

/-- Stage `v48` of the reference. -/
theorem r48 (y : S16x8x256x256.Idx) : (val_main_v48 (F := Ideal) y : EReal) = ((1 / 8 : ℝ) : EReal) :=
  (val_main_v48_apply y).trans word_eighth

/-- Stage `v73` of the reference. -/
theorem r73 (y : S16x256x8x1.Idx) : (val_main_v73 (F := Ideal) y : EReal) = ((1 : ℝ) : EReal) :=
  (val_main_v73_apply y).trans word_one

/-- Stage `v111` of the reference. -/
theorem r111 (y : S1x16x256x8.Idx) : (val_main_v111 (F := Ideal) y : EReal) = ((1 : ℝ) : EReal) :=
  (val_main_v111_apply y).trans word_one

/-- Stage `v190` of the reference. -/
theorem r190 (y : S16x8x256x256.Idx) : (val_main_v190 (F := Ideal) y : EReal) = ((1 / 8 : ℝ) : EReal) :=
  (val_main_v190_apply y).trans word_eighth

/-! ## Scores -/
section
include H

/-- Stage `v47` of the reference. -/
theorem r47 (y : S16x8x256x256.Idx) : (val_main_v47 (F := Ideal) x0 y : EReal) = ((∑ d, D.q (y 0) (y 2) (y 1) d * D.k (y 0) (y 3) (y 1) d : ℝ) : EReal) :=
  (val_main_v47_apply _ y).trans (sum_of fun k => mul_of (H.q _) (H.k _))

/-- Stage `v49` of the reference. -/
theorem r49 (y : S16x8x256x256.Idx) : (val_main_v49 (F := Ideal) x0 y : EReal) = (((∑ d, D.q (y 0) (y 2) (y 1) d * D.k (y 0) (y 3) (y 1) d) * (1 / 8) : ℝ) : EReal) :=
  (val_main_v49_apply _ y).trans (mulf_of (r47 H y) (r48 y))

/-- Stage `v51` of the reference. -/
theorem r51 (y : S1x8x256x256.Idx) : (val_main_v51 (F := Ideal) x5 y : EReal) = ((D.b (y 1) (y 2) (y 3) : ℝ) : EReal) :=
  (val_main_v51_apply _ y).trans (H.b _)

/-- Stage `v52` of the reference. -/
theorem r52 (y : S16x8x256x256.Idx) : (val_main_v52 (F := Ideal) x5 y : EReal) = ((D.b (y 1) (y 2) (y 3) : ℝ) : EReal) :=
  (val_main_v52_apply _ y).trans (r51 H _)

/-- Stage `v53` of the reference. -/
theorem r53 (y : S16x8x256x256.Idx) : (val_main_v53 (F := Ideal) x0 x5 y : EReal) = ((D.s (y 0) (y 1) (y 2) (y 3) : ℝ) : EReal) :=
  (val_main_v53_apply _ _ y).trans (addf_of (r49 H y) (r52 H y))

/-- The mask at a score. -/
theorem mask_iff (y : S16x8x256x256.Idx) : val_main_v54_1 (F := Ideal) y = 1 ↔ D.on (y 2) (y 3) = true := by
  rw [val_main_v54_1_apply, val_main_v50_apply]
  exact H.on _
/-- A score that the mask keeps. -/
theorem r54_on (y : S16x8x256x256.Idx) (h : D.on (y 2) (y 3) = true) :
    (val_main_v54_0 (F := Ideal) x0 x5 y : EReal) = ((D.s (y 0) (y 1) (y 2) (y 3) : ℝ) : EReal) :=
  (val_main_v54_0_apply _ _ y).trans ((if_pos ((mask_iff H y).mpr h)).trans (r53 H y))
/-- A score that the mask drops. -/
theorem r54_off (y : S16x8x256x256.Idx) (h : ¬D.on (y 2) (y 3) = true) :
    (val_main_v54_0 (F := Ideal) x0 x5 y : EReal) = ⊥ :=
  (val_main_v54_0_apply _ _ y).trans ((if_neg (fun e => h ((mask_iff H y).mp e))).trans
    ((val_main_call2_v2_apply y).trans word_bot))
end

/-! ## The third group's softmax -/
section
include H hm

/-- Stage `v61` of the reference. -/
theorem r61 (y : S16x8x256x1.Idx) : (val_main_v61 (F := Ideal) x0 x5 y : EReal) = ((D.mx (y 0) (y 1) (y 2) : ℝ) : EReal) :=
  (val_main_v61_apply _ _ y).trans (hm _)

/-- Stage `v62` of the reference. -/
theorem r62 (y : S16x8x256x256.Idx) : (val_main_v62 (F := Ideal) x0 x5 y : EReal) = ((D.mx (y 0) (y 1) (y 2) : ℝ) : EReal) :=
  (val_main_v62_apply _ _ y).trans (r61 H hm _)

/-- The unnormalised weights. -/
theorem r64 (y : S16x8x256x256.Idx) :
    (val_main_v64 (F := Ideal) x0 x5 y : EReal) = ((D.p (y 0) (y 1) (y 2) (y 3) : ℝ) : EReal) := by
  rw [val_main_v64_apply, val_main_v63_apply]
  unfold Data.p
  by_cases h : D.on (y 2) (y 3) = true
  · rw [if_pos h]
    exact exp_of (subf_of (r54_on H y h) (r62 H hm y))
  · rw [if_neg h, r54_off H y h, r62 H hm y]
    rfl

/-- Stage `v65` of the reference. -/
theorem r65 (y : S16x8x256.Idx) : (val_main_v65 (F := Ideal) x0 x5 y : EReal) = ((D.den (y 0) (y 1) (y 2) : ℝ) : EReal) :=
  (val_main_v65_apply _ _ y).trans (sum0_of Ideal.ofBits_zero_f32 fun k => (r64 H hm _))

/-- Stage `v66` of the reference. -/
theorem r66 (y : S16x8x64x256.Idx) : (val_main_v66 (F := Ideal) x0 x5 y : EReal) = ((D.u (y 0) (y 3) (y 1) (y 2) : ℝ) : EReal) :=
  (val_main_v66_apply _ _ y).trans (sum_of fun k => mul_of (H.v _) (r64 H hm _))

/-- Stage `v67` of the reference. -/
theorem r67 (y : S16x256x8x64.Idx) : (val_main_v67 (F := Ideal) x0 x5 y : EReal) = ((D.u (y 0) (y 1) (y 2) (y 3) : ℝ) : EReal) :=
  (val_main_v67_apply _ _ y).trans (r66 H hm _)

/-- Stage `v68` of the reference. -/
theorem r68 (y : S16x256x8.Idx) : (val_main_v68 (F := Ideal) x0 x5 y : EReal) = ((D.den (y 0) (y 2) (y 1) : ℝ) : EReal) :=
  (val_main_v68_apply _ _ y).trans (r65 H hm _)

/-- Stage `v69` of the reference. -/
theorem r69 (y : S16x256x8x1.Idx) : (val_main_v69 (F := Ideal) x0 x5 y : EReal) = ((D.den (y 0) (y 2) (y 1) : ℝ) : EReal) :=
  (val_main_v69_apply _ _ y).trans (r68 H hm _)

/-- Stage `v70` of the reference. -/
theorem r70 (y : S16x256x8x64.Idx) : (val_main_v70 (F := Ideal) x0 x5 y : EReal) = ((D.den (y 0) (y 2) (y 1) : ℝ) : EReal) :=
  (val_main_v70_apply _ _ y).trans (r69 H hm _)

/-- Stage `v71` of the reference. -/
theorem r71 (y : S16x256x8x64.Idx) : (val_main_v71 (F := Ideal) x0 x5 y : EReal) = ((D.o2 (y 0) (y 1) (y 2) (y 3) : ℝ) : EReal) :=
  (val_main_v71_apply _ _ y).trans (divf_of (r67 H hm y) (r70 H hm y) (D.den_pos _ _ _).ne')

/-- Stage `v72` of the reference. -/
theorem r72 (y : S16x256x8x1.Idx) : (val_main_v72 (F := Ideal) x0 x5 y : EReal) = ((D.den (y 0) (y 2) (y 1) * D.den (y 0) (y 2) (y 1) : ℝ) : EReal) :=
  (val_main_v72_apply _ _ y).trans (mulf_of (r69 H hm y) (r69 H hm y))

/-- Stage `v74` of the reference. -/
theorem r74 (y : S16x256x8x1.Idx) : (val_main_v74 (F := Ideal) x0 x5 y : EReal) = ((1 / (D.den (y 0) (y 2) (y 1) * D.den (y 0) (y 2) (y 1)) : ℝ) : EReal) :=
  (val_main_v74_apply _ _ y).trans (divf_of (r73 y) (r72 H hm y) (mul_pos (D.den_pos _ _ _) (D.den_pos _ _ _)).ne')

/-- Stage `v75` of the reference. -/
theorem r75 (y : S16x8x256.Idx) : (val_main_v75 (F := Ideal) x0 x5 y : EReal) = ((D.mx (y 0) (y 1) (y 2) : ℝ) : EReal) :=
  (val_main_v75_apply _ _ y).trans ((congrArg (val_main_v61 (F := Ideal) x0 x5) (at75 y)).trans (r61 H hm (to75 y)))

/-- Stage `v76` of the reference. -/
theorem r76 (y : S16x8x256.Idx) : (val_main_v76 (F := Ideal) x0 x5 y : EReal) = ((Real.log (D.den (y 0) (y 1) (y 2)) : ℝ) : EReal) :=
  (val_main_v76_apply _ _ y).trans (log_of (r65 H hm y) (D.den_pos _ _ _))

/-- Stage `v77` of the reference. -/
theorem r77 (y : S16x8x256.Idx) : (val_main_v77 (F := Ideal) x0 x5 y : EReal) = ((D.mx (y 0) (y 1) (y 2) + Real.log (D.den (y 0) (y 1) (y 2)) : ℝ) : EReal) :=
  (val_main_v77_apply _ _ y).trans (addf_of (r75 H hm y) (r76 H hm y))

/-- Stage `v78` of the reference. -/
theorem r78 (y : S16x256x8.Idx) : (val_main_v78 (F := Ideal) x0 x5 y : EReal) = ((D.l2 (y 0) (y 1) (y 2) : ℝ) : EReal) :=
  (val_main_v78_apply _ _ y).trans (r77 H hm _)

/-- Stage `v79` of the reference. -/
theorem r79 (y : S1x16x256x8.Idx) : (val_main_v79 (F := Ideal) x3 y : EReal) = ((D.l0 (y 1) (y 2) (y 3) : ℝ) : EReal) :=
  (val_main_v79_apply _ y).trans (H.l0 _)

/-- Stage `v80` of the reference. -/
theorem r80 (y : S1x16x256x8.Idx) : (val_main_v80 (F := Ideal) x4 y : EReal) = ((D.l1 (y 1) (y 2) (y 3) : ℝ) : EReal) :=
  (val_main_v80_apply _ y).trans (H.l1 _)

/-- Stage `v81` of the reference. -/
theorem r81 (y : S1x16x256x8.Idx) : (val_main_v81 (F := Ideal) x0 x5 y : EReal) = ((D.l2 (y 1) (y 2) (y 3) : ℝ) : EReal) :=
  (val_main_v81_apply _ _ y).trans (r78 H hm _)

/-- One slot of the three log-sum-exps. -/
theorem cat82 (y : S3x16x256x8.Idx) (n : Fin 3) (hn : (y 0).val = n.val) (i : S1x16x256x8.Idx)
    (h1 : (i 1).val = (y 1).val) (h2 : (i 2).val = (y 2).val) (h3 : (i 3).val = (y 3).val) :
    val_main_v82 (F := Ideal) x0 x3 x4 x5 y
      = (![val_main_v79 (F := Ideal) x3, val_main_v80 (F := Ideal) x4, val_main_v81 (F := Ideal) x0 x5] n) i := by
  unfold val_main_v82
  refine concatenate_ofFn_unit_apply (t := S3x16x256x8) (s₁ := S1x16x256x8) 0
    ![val_main_v79 (F := Ideal) x3, val_main_v80 (F := Ideal) x4, val_main_v81 (F := Ideal) x0 x5]
    concatenates_S1x16x256x8_S1x16x256x8_S1x16x256x8_S3x16x256x8_d0 rfl rfl y n hn i ?_
  intro b hb
  match b with
  | ⟨0, _⟩ => exact absurd rfl hb
  | ⟨1, _⟩ => exact h1
  | ⟨2, _⟩ => exact h2
  | ⟨3, _⟩ => exact h3
theorem cat82_0 (y : S3x16x256x8.Idx) (h : (y 0).val = 0) :
    val_main_v82 (F := Ideal) x0 x3 x4 x5 y = val_main_v79 (F := Ideal) x3 (ix4 0 (y 1) (y 2) (y 3)) :=
  (cat82 H hm y 0 h (ix4 0 (y 1) (y 2) (y 3)) rfl rfl rfl).trans (three_0 _ _ _ _)
theorem ls_0 (y : S3x16x256x8.Idx) (h : (y 0).val = 0) :
    D.ls (y 0) (y 1) (y 2) (y 3) = D.l0 (y 1) (y 2) (y 3) :=
  (congrArg (fun g => D.ls g (y 1) (y 2) (y 3)) (Fin.ext h : y 0 = (0 : Fin 3))).trans (D.ls_0' _ _ _)
theorem cat82_1 (y : S3x16x256x8.Idx) (h : (y 0).val = 1) :
    val_main_v82 (F := Ideal) x0 x3 x4 x5 y = val_main_v80 (F := Ideal) x4 (ix4 0 (y 1) (y 2) (y 3)) :=
  (cat82 H hm y 1 h (ix4 0 (y 1) (y 2) (y 3)) rfl rfl rfl).trans (three_1 _ _ _ _)
theorem ls_1 (y : S3x16x256x8.Idx) (h : (y 0).val = 1) :
    D.ls (y 0) (y 1) (y 2) (y 3) = D.l1 (y 1) (y 2) (y 3) :=
  (congrArg (fun g => D.ls g (y 1) (y 2) (y 3)) (Fin.ext h : y 0 = (1 : Fin 3))).trans (D.ls_1' _ _ _)
theorem cat82_2 (y : S3x16x256x8.Idx) (h : (y 0).val = 2) :
    val_main_v82 (F := Ideal) x0 x3 x4 x5 y = val_main_v81 (F := Ideal) x0 x5 (ix4 0 (y 1) (y 2) (y 3)) :=
  (cat82 H hm y 2 h (ix4 0 (y 1) (y 2) (y 3)) rfl rfl rfl).trans (three_2 _ _ _ _)
theorem ls_2 (y : S3x16x256x8.Idx) (h : (y 0).val = 2) :
    D.ls (y 0) (y 1) (y 2) (y 3) = D.l2 (y 1) (y 2) (y 3) :=
  (congrArg (fun g => D.ls g (y 1) (y 2) (y 3)) (Fin.ext h : y 0 = (2 : Fin 3))).trans (D.ls_2' _ _ _)
/-- The three log-sum-exps. -/
theorem r82 (y : S3x16x256x8.Idx) :
    (val_main_v82 (F := Ideal) x0 x3 x4 x5 y : EReal) = ((D.ls (y 0) (y 1) (y 2) (y 3) : ℝ) : EReal) := by
  have h : (y 0).val < 3 := (y 0).isLt
  obtain h | h | h : (y 0).val = 0 ∨ (y 0).val = 1 ∨ (y 0).val = 2 := by omega
  · rw [cat82_0 H hm y h, ls_0 H hm y h]
    exact r79 H hm (ix4 0 (y 1) (y 2) (y 3))
  · rw [cat82_1 H hm y h, ls_1 H hm y h]
    exact r80 H hm (ix4 0 (y 1) (y 2) (y 3))
  · rw [cat82_2 H hm y h, ls_2 H hm y h]
    exact r81 H hm (ix4 0 (y 1) (y 2) (y 3))

/-- Stage `v114` of the reference. -/
theorem r114 (y : S1x16x256x8x64.Idx) : (val_main_v114 (F := Ideal) x1 y : EReal) = ((D.o0 (y 1) (y 2) (y 3) (y 4) : ℝ) : EReal) :=
  (val_main_v114_apply _ y).trans (H.o0 _)

/-- Stage `v115` of the reference. -/
theorem r115 (y : S1x16x256x8x64.Idx) : (val_main_v115 (F := Ideal) x2 y : EReal) = ((D.o1 (y 1) (y 2) (y 3) (y 4) : ℝ) : EReal) :=
  (val_main_v115_apply _ y).trans (H.o1 _)

/-- Stage `v116` of the reference. -/
theorem r116 (y : S1x16x256x8x64.Idx) : (val_main_v116 (F := Ideal) x0 x5 y : EReal) = ((D.o2 (y 1) (y 2) (y 3) (y 4) : ℝ) : EReal) :=
  (val_main_v116_apply _ _ y).trans (r71 H hm _)

/-- One slot of the three outputs. -/
theorem cat117 (y : S3x16x256x8x64.Idx) (n : Fin 3) (hn : (y 0).val = n.val) (i : S1x16x256x8x64.Idx)
    (h1 : (i 1).val = (y 1).val) (h2 : (i 2).val = (y 2).val) (h3 : (i 3).val = (y 3).val) (h4 : (i 4).val = (y 4).val) :
    val_main_v117 (F := Ideal) x0 x1 x2 x5 y
      = (![val_main_v114 (F := Ideal) x1, val_main_v115 (F := Ideal) x2, val_main_v116 (F := Ideal) x0 x5] n) i := by
  unfold val_main_v117
  refine concatenate_ofFn_unit_apply (t := S3x16x256x8x64) (s₁ := S1x16x256x8x64) 0
    ![val_main_v114 (F := Ideal) x1, val_main_v115 (F := Ideal) x2, val_main_v116 (F := Ideal) x0 x5]
    concatenates_S1x16x256x8x64_S1x16x256x8x64_S1x16x256x8x64_S3x16x256x8x64_d0 rfl rfl y n hn i ?_
  intro b hb
  match b with
  | ⟨0, _⟩ => exact absurd rfl hb
  | ⟨1, _⟩ => exact h1
  | ⟨2, _⟩ => exact h2
  | ⟨3, _⟩ => exact h3
  | ⟨4, _⟩ => exact h4
/-- The three outputs. -/
theorem r117 (y : S3x16x256x8x64.Idx) :
    (val_main_v117 (F := Ideal) x0 x1 x2 x5 y : EReal) = ((D.oo (y 0) (y 1) (y 2) (y 3) (y 4) : ℝ) : EReal) := by
  have h : (y 0).val < 3 := (y 0).isLt
  obtain h | h | h : (y 0).val = 0 ∨ (y 0).val = 1 ∨ (y 0).val = 2 := by omega
  · have e : D.oo (y 0) (y 1) (y 2) (y 3) (y 4) = D.o0 (y 1) (y 2) (y 3) (y 4) := congrArg (fun g => D.oo g (y 1) (y 2) (y 3) (y 4)) (Fin.ext h : y 0 = (0 : Fin 3))
    exact ((cat117 H hm y 0 h (ix5 0 (y 1) (y 2) (y 3) (y 4)) rfl rfl rfl rfl).trans (three_0 _ _ _ _)).trans ((r114 H hm (ix5 0 (y 1) (y 2) (y 3) (y 4))).trans (congrArg _ e.symm))
  · have e : D.oo (y 0) (y 1) (y 2) (y 3) (y 4) = D.o1 (y 1) (y 2) (y 3) (y 4) := congrArg (fun g => D.oo g (y 1) (y 2) (y 3) (y 4)) (Fin.ext h : y 0 = (1 : Fin 3))
    exact ((cat117 H hm y 1 h (ix5 0 (y 1) (y 2) (y 3) (y 4)) rfl rfl rfl rfl).trans (three_1 _ _ _ _)).trans ((r115 H hm (ix5 0 (y 1) (y 2) (y 3) (y 4))).trans (congrArg _ e.symm))
  · have e : D.oo (y 0) (y 1) (y 2) (y 3) (y 4) = D.o2 (y 1) (y 2) (y 3) (y 4) := congrArg (fun g => D.oo g (y 1) (y 2) (y 3) (y 4)) (Fin.ext h : y 0 = (2 : Fin 3))
    exact ((cat117 H hm y 2 h (ix5 0 (y 1) (y 2) (y 3) (y 4)) rfl rfl rfl rfl).trans (three_2 _ _ _ _)).trans ((r116 H hm (ix5 0 (y 1) (y 2) (y 3) (y 4))).trans (congrArg _ e.symm))

/-- Stage `v125` of the reference. -/
theorem r125 (y : S3x16x256x8x64.Idx) : (val_main_v125 (F := Ideal) x6 y : EReal) = ((D.dO (y 1) (y 2) (y 3) (y 4) : ℝ) : EReal) :=
  (val_main_v125_apply _ y).trans (H.dO _)

/-- Stage `v128` of the reference. -/
theorem r128 (y : S3x16x256x8x64.Idx) : (val_main_v128 (F := Ideal) x0 x1 x2 x5 x6 y : EReal) = ((D.dO (y 1) (y 2) (y 3) (y 4) * D.oo (y 0) (y 1) (y 2) (y 3) (y 4) : ℝ) : EReal) :=
  (val_main_v128_apply _ _ _ _ _ y).trans (mulf_of (r125 H hm y) (r117 H hm y))

/-- Stage `v129` of the reference. -/
theorem r129 (y : S3x16x256x8.Idx) : (val_main_v129 (F := Ideal) x0 x1 x2 x5 x6 y : EReal) = ((D.r (y 0) (y 1) (y 2) (y 3) : ℝ) : EReal) :=
  (val_main_v129_apply _ _ _ _ _ y).trans (sum0_of Ideal.ofBits_zero_f32 fun k => (r128 H hm _))

/-- Stage `v130` of the reference. -/
theorem r130 (y : S3x16x256x8x1.Idx) : (val_main_v130 (F := Ideal) x0 x1 x2 x5 x6 y : EReal) = ((D.r (y 0) (y 1) (y 2) (y 3) : ℝ) : EReal) :=
  (val_main_v130_apply _ _ _ _ _ y).trans ((congrArg (val_main_v129 (F := Ideal) x0 x1 x2 x5 x6) (at130 y)).trans (r129 H hm (to130 y)))

/-- Stage `v137` of the reference. -/
theorem r137 (y : S3x16x256x8.Idx) : (val_main_v137 (F := Ideal) x0 x1 x2 x5 x6 y : EReal) = ((D.r (y 0) (y 1) (y 2) (y 3) : ℝ) : EReal) :=
  (val_main_v137_apply _ _ _ _ _ y).trans (sum1_of Ideal.ofBits_zero_f32 (r130 H hm _))

/-- Stage `v159` of the reference. -/
theorem r159 (y : S16x256x8x64.Idx) : (val_main_v159 (F := Ideal) x0 x5 y : EReal) = ((1 / (D.den (y 0) (y 2) (y 1) * D.den (y 0) (y 2) (y 1)) : ℝ) : EReal) :=
  (val_main_v159_apply _ _ y).trans (r74 H hm _)

/-- Stage `v165` of the reference. -/
theorem r165 (y : S16x256x8x64.Idx) : (val_main_v165 (F := Ideal) x0 x5 y : EReal) = ((D.den (y 0) (y 2) (y 1) : ℝ) : EReal) :=
  (val_main_v165_apply _ _ y).trans (r69 H hm _)

end

end Cert.Attn
-- ==== Proof.BlockReal.lean ====
module

public import proofs.«01_k».proof.Proof.Block
public import proofs.«01_k».proof.Proof.RefSoftmax

@[expose] public section
set_option maxRecDepth 16384

/-! One grid point's results where its blocks hold real numbers: the rows of the mathematics of `Rows.lean`. -/

noncomputable section
namespace Cert.Attn
open Cert.KernelIdeal Cert.KernelIdeal.Gen Idealize.ShloMosaic Idealize.ShloMosaic.TcCoe Idealize.SL.Sem
open Idealize.ShloMosaic.ValueIdx

variable {D : Data} {z : Fin 16}
variable {q k v o : FVec Ideal S1x256x512 .bf16} {l dl : FVec Ideal S1x256x512 .f32} {ta tb : FVec Ideal S4x256x256 .f32}

/-- The blocks of grid point `z` hold the reals of `D`. -/
structure Blocks (D : Data) (z : Fin 16) (q k v o : FVec Ideal S1x256x512 .bf16) (l dl : FVec Ideal S1x256x512 .f32) : Prop where
  q : ∀ i h d, (q (ix3 (0 : Fin 1) i (colOf h d)) : EReal) = ((D.q z i h d : ℝ) : EReal)
  k : ∀ i h d, (k (ix3 (0 : Fin 1) i (colOf h d)) : EReal) = ((D.k z i h d : ℝ) : EReal)
  v : ∀ i h d, (v (ix3 (0 : Fin 1) i (colOf h d)) : EReal) = ((D.v z i h d : ℝ) : EReal)
  o : ∀ i h d, (o (ix3 (0 : Fin 1) i (colOf h d)) : EReal) = ((D.dO z i h d : ℝ) : EReal)
  l : ∀ i h d, (l (ix3 (0 : Fin 1) i (colOf h d)) : EReal) = ((D.lse z i h : ℝ) : EReal)
  dl : ∀ i h d, (dl (ix3 (0 : Fin 1) i (colOf h d)) : EReal) = ((D.dl z i h : ℝ) : EReal)

/-- An entry of the table of biases under the mask. -/
def slot (D : Data) (h : Fin 8) (i j : Fin 256) : EReal := if D.on i j = true then ((D.b h i j : ℝ) : EReal) else ⊥

variable (B : Blocks D z q k v o l dl)
include B

/-- The weight is the softmax weight over all the three groups. -/
theorem wgt_real (h : Fin 8) (i j : Fin 256) : wgt q k l h i j (slot D h i j) = ((D.a z h i j : ℝ) : EReal) := by
  have hs : (∑ d : Fin 64, (q (ix3 (0 : Fin 1) i (colOf h d)) : EReal) * eighth * k (ix3 (0 : Fin 1) j (colOf h d)))
      = ((∑ d, D.q z i h d * (1 / 8) * D.k z j h d : ℝ) : EReal) :=
    sum_of fun d => mul_of (mul_of (B.q i h d) word_eighth) (B.k j h d)
  have e : (∑ d, D.q z i h d * (1 / 8) * D.k z j h d : ℝ) = (∑ d, D.q z i h d * D.k z j h d) * (1 / 8) := by
    rw [Finset.sum_mul]
    exact Finset.sum_congr rfl fun d _ => by ring
  unfold wgt
  rw [hs, B.l i h 0, e]
  unfold slot Data.a
  by_cases hon : D.on i j = true
  · rw [if_pos hon, if_pos hon, ← EReal.coe_add, ← EReal.coe_sub]
    rfl
  · rw [if_neg hon, if_neg hon, EReal.add_bot]
    have : (⊥ : EReal) - ((D.lse z i h : ℝ) : EReal) = ⊥ := by rw [sub_eq_add_neg]; exact EReal.bot_add _
    rw [this, Ideal.exp_bot]
    rfl

/-- The gradient of a logit is the chain rule's. -/
theorem grd_real (h : Fin 8) (i j : Fin 256) : grd q k v o l dl h i j (slot D h i j) = ((D.g z h i j : ℝ) : EReal) := by
  have hs : (∑ d : Fin 64, (o (ix3 (0 : Fin 1) i (colOf h d)) : EReal) * v (ix3 (0 : Fin 1) j (colOf h d)))
      = ((∑ d, D.dO z i h d * D.v z j h d : ℝ) : EReal) := sum_of fun d => mul_of (B.o i h d) (B.v j h d)
  unfold grd
  rw [hs, B.dl i h 0, ← EReal.coe_sub, wgt_real B, ← EReal.coe_mul, D.g_eq]

variable (T : ∀ (h : Fin 8) (i j : Fin 256), entry ta tb h i j = slot D h i j)
include T

theorem blkQ_real (i : Fin 256) (h : Fin 8) (d : Fin 64) :
    blkQ q k v o l dl ta tb i h d = ((∑ j, D.g z h i j * (1 / 8) * D.k z j h d : ℝ) : EReal) := by
  have hs : (∑ j : Fin 256, blkS q k v o l dl ta tb h i j * (k (ix3 (0 : Fin 1) j (colOf h d)) : EReal))
      = ((∑ j, D.g z h i j * D.k z j h d : ℝ) : EReal) :=
    sum_of fun j => mul_of (by unfold blkS; rw [T, grd_real B]) (B.k j h d)
  unfold blkQ
  rw [mul_of hs word_eighth, Finset.sum_mul]
  exact congrArg _ (Finset.sum_congr rfl fun j _ => by ring)

theorem blkK_real (j : Fin 256) (h : Fin 8) (d : Fin 64) :
    blkK q k v o l dl ta tb j h d = ((∑ i, D.g z h i j * (1 / 8) * D.q z i h d : ℝ) : EReal) := by
  unfold blkK
  rw [sum_of fun i => mul_of (by unfold blkS; rw [T, grd_real B]) (mul_of (B.q i h d) word_eighth)]
  exact congrArg _ (Finset.sum_congr rfl fun i _ => by ring)

theorem blkV_real (j : Fin 256) (h : Fin 8) (d : Fin 64) :
    blkV q k o l ta tb j h d = ((∑ i, D.wd z i h d / D.den z h i * D.p z h i j : ℝ) : EReal) := by
  unfold blkV
  rw [sum_of fun i => mul_of (by unfold blkW; rw [T, wgt_real B]) (B.o i h d), D.dv_eq]

end Cert.Attn
-- ==== Proof.RefReal.lean ====
module

public import proofs.«01_k».proof.Proof.RefSoftmax
public import proofs.«01_k».proof.Proof.Gen.ReferenceIdeal.Read
public import Idealize.ShloMosaic.Lib.ValueIdx

@[expose] public section
set_option maxRecDepth 16384

/-! The reference program read at real inputs, one operation at a time: every stage holds the real number that
    the row mathematics of `Rows.lean` names. -/

noncomputable section
namespace Cert.Attn
open Cert.ReferenceIdeal Cert.ReferenceIdeal.Gen Cert.ReferenceIdeal.Read Idealize.ShloMosaic Idealize.ShloMosaic.TcCoe Idealize.SL.Sem
open Idealize.ShloMosaic.ValueIdx

variable {D : Data}
variable {x0 : FVec Ideal S4096x4608 .bf16} {x1 x2 : FVec Ideal S16x256x8x64 .f32} {x3 x4 : FVec Ideal S16x256x8 .f32}
variable {x5 : FVec Ideal S32x24 .f32} {x6 : FVec Ideal S4096x512 .bf16}

variable (H : Inputs D x0 x1 x2 x3 x4 x5 x6)
variable (hm : ∀ y, (val_main_v55 (F := Ideal) x0 x5 y : EReal) = ((D.mx (y 0) (y 1) (y 2) : ℝ) : EReal))
variable (hl : ∀ y, (val_main_v92 (F := Ideal) x0 x3 x4 x5 y : EReal) = ((D.lm (y 0) (y 1) (y 2) : ℝ) : EReal))

/-! ## The merge -/
section
include H hm hl

/-- Stage `v102` of the reference. -/
theorem r102 (y : S1x16x256x8.Idx) : (val_main_v102 (F := Ideal) x0 x3 x4 x5 y : EReal) = ((D.lm (y 1) (y 2) (y 3) : ℝ) : EReal) :=
  (val_main_v102_apply _ _ _ _ y).trans (hl _)

/-- Stage `v103` of the reference. -/
theorem r103 (y : S3x16x256x8.Idx) : (val_main_v103 (F := Ideal) x0 x3 x4 x5 y : EReal) = ((D.lm (y 1) (y 2) (y 3) : ℝ) : EReal) :=
  (val_main_v103_apply _ _ _ _ y).trans (r102 H hm hl _)

/-- Stage `v104` of the reference. -/
theorem r104 (y : S3x16x256x8.Idx) : (val_main_v104 (F := Ideal) x0 x3 x4 x5 y : EReal) = ((D.ls (y 0) (y 1) (y 2) (y 3) - D.lm (y 1) (y 2) (y 3) : ℝ) : EReal) :=
  (val_main_v104_apply _ _ _ _ y).trans (subf_of (r82 H hm y) (r103 H hm hl y))

/-- Stage `v105` of the reference. -/
theorem r105 (y : S3x16x256x8.Idx) : (val_main_v105 (F := Ideal) x0 x3 x4 x5 y : EReal) = ((D.e (y 0) (y 1) (y 2) (y 3) : ℝ) : EReal) :=
  (val_main_v105_apply _ _ _ _ y).trans (exp_of (r104 H hm hl y))

/-- Stage `v106` of the reference. -/
theorem r106 (y : S16x256x8.Idx) : (val_main_v106 (F := Ideal) x0 x3 x4 x5 y : EReal) = ((D.tot (y 0) (y 1) (y 2) : ℝ) : EReal) :=
  (val_main_v106_apply _ _ _ _ y).trans (sum0_of Ideal.ofBits_zero_f32 fun k => (r105 H hm hl _))

/-- Stage `v107` of the reference. -/
theorem r107 (y : S1x16x256x8.Idx) : (val_main_v107 (F := Ideal) x0 x3 x4 x5 y : EReal) = ((D.tot (y 1) (y 2) (y 3) : ℝ) : EReal) :=
  (val_main_v107_apply _ _ _ _ y).trans (r106 H hm hl _)

/-- Stage `v108` of the reference. -/
theorem r108 (y : S3x16x256x8.Idx) : (val_main_v108 (F := Ideal) x0 x3 x4 x5 y : EReal) = ((D.tot (y 1) (y 2) (y 3) : ℝ) : EReal) :=
  (val_main_v108_apply _ _ _ _ y).trans (r107 H hm hl _)

/-- Stage `v109` of the reference. -/
theorem r109 (y : S3x16x256x8.Idx) : (val_main_v109 (F := Ideal) x0 x3 x4 x5 y : EReal) = ((D.e (y 0) (y 1) (y 2) (y 3) / D.tot (y 1) (y 2) (y 3) : ℝ) : EReal) :=
  (val_main_v109_apply _ _ _ _ y).trans (divf_of (r105 H hm hl y) (r108 H hm hl y) (D.tot_pos _ _ _).ne')

/-- Stage `v110` of the reference. -/
theorem r110 (y : S1x16x256x8.Idx) : (val_main_v110 (F := Ideal) x0 x3 x4 x5 y : EReal) = ((D.tot (y 1) (y 2) (y 3) * D.tot (y 1) (y 2) (y 3) : ℝ) : EReal) :=
  (val_main_v110_apply _ _ _ _ y).trans (mulf_of (r107 H hm hl y) (r107 H hm hl y))

/-- Stage `v112` of the reference. -/
theorem r112 (y : S1x16x256x8.Idx) : (val_main_v112 (F := Ideal) x0 x3 x4 x5 y : EReal) = ((1 / (D.tot (y 1) (y 2) (y 3) * D.tot (y 1) (y 2) (y 3)) : ℝ) : EReal) :=
  (val_main_v112_apply _ _ _ _ y).trans (divf_of (r111 y) (r110 H hm hl y) (mul_pos (D.tot_pos _ _ _) (D.tot_pos _ _ _)).ne')

/-- Stage `v113` of the reference. -/
theorem r113 (y : S3x16x256x8x1.Idx) : (val_main_v113 (F := Ideal) x0 x3 x4 x5 y : EReal) = ((D.e (y 0) (y 1) (y 2) (y 3) / D.tot (y 1) (y 2) (y 3) : ℝ) : EReal) :=
  (val_main_v113_apply _ _ _ _ y).trans (r109 H hm hl _)

/-- Stage `v120` of the reference. -/
theorem r120 (y : S3x16x256x8x64.Idx) : (val_main_v120 (F := Ideal) x0 x3 x4 x5 y : EReal) = ((D.e (y 0) (y 1) (y 2) (y 3) / D.tot (y 1) (y 2) (y 3) : ℝ) : EReal) :=
  (val_main_v120_apply _ _ _ _ y).trans (r113 H hm hl _)

/-- Stage `v121` of the reference. -/
theorem r121 (y : S3x16x256x8x64.Idx) : (val_main_v121 (F := Ideal) x0 x1 x2 x3 x4 x5 y : EReal) = ((D.e (y 0) (y 1) (y 2) (y 3) / D.tot (y 1) (y 2) (y 3) * D.oo (y 0) (y 1) (y 2) (y 3) (y 4) : ℝ) : EReal) :=
  (val_main_v121_apply _ _ _ _ _ _ y).trans (mulf_of (r120 H hm hl y) (r117 H hm y))

/-- Stage `v122` of the reference. -/
theorem r122 (y : S16x256x8x64.Idx) : (val_main_v122 (F := Ideal) x0 x1 x2 x3 x4 x5 y : EReal) = ((D.att (y 0) (y 1) (y 2) (y 3) : ℝ) : EReal) :=
  (val_main_v122_apply _ _ _ _ _ _ y).trans (sum0_of Ideal.ofBits_zero_f32 fun k => (r121 H hm hl _))

/-! ## The backward pass -/

/-- Stage `v126` of the reference. -/
theorem r126 (y : S3x16x256x8x64.Idx) : (val_main_v126 (F := Ideal) x0 x3 x4 x5 y : EReal) = ((D.e (y 0) (y 1) (y 2) (y 3) / D.tot (y 1) (y 2) (y 3) : ℝ) : EReal) :=
  (val_main_v126_apply _ _ _ _ y).trans (r113 H hm hl _)

/-- Stage `v127` of the reference. -/
theorem r127 (y : S3x16x256x8x64.Idx) : (val_main_v127 (F := Ideal) x0 x3 x4 x5 x6 y : EReal) = ((D.e (y 0) (y 1) (y 2) (y 3) / D.tot (y 1) (y 2) (y 3) * D.dO (y 1) (y 2) (y 3) (y 4) : ℝ) : EReal) :=
  (val_main_v127_apply _ _ _ _ _ y).trans (mulf_of (r126 H hm hl y) (r125 H hm y))

/-- Stage `v135` of the reference. -/
theorem r135 (y : S1x16x256x8x64.Idx) : (val_main_v135 (F := Ideal) x0 x3 x4 x5 x6 y : EReal) = ((D.wd (y 1) (y 2) (y 3) (y 4) : ℝ) : EReal) :=
  (val_main_v135_apply _ _ _ _ _ y).trans ((congrArg (val_main_v127 (F := Ideal) x0 x3 x4 x5 x6) (at135 y)).trans (r127 H hm hl (to135 y)))

/-- Stage `v136` of the reference. -/
theorem r136 (y : S16x256x8x64.Idx) : (val_main_v136 (F := Ideal) x0 x3 x4 x5 x6 y : EReal) = ((D.wd (y 0) (y 1) (y 2) (y 3) : ℝ) : EReal) :=
  (val_main_v136_apply _ _ _ _ _ y).trans ((congrArg (val_main_v135 (F := Ideal) x0 x3 x4 x5 x6) (at136 y)).trans (r135 H hm hl (to136 y)))

/-- Stage `v138` of the reference. -/
theorem r138 (y : S3x16x256x8.Idx) : (val_main_v138 (F := Ideal) x0 x3 x4 x5 y : EReal) = ((1 / (D.tot (y 1) (y 2) (y 3) * D.tot (y 1) (y 2) (y 3)) : ℝ) : EReal) :=
  (val_main_v138_apply _ _ _ _ y).trans (r112 H hm hl _)

/-- Stage `v139` of the reference. -/
theorem r139 (y : S3x16x256x8.Idx) : (val_main_v139 (F := Ideal) x0 x1 x2 x3 x4 x5 x6 y : EReal) = ((D.r (y 0) (y 1) (y 2) (y 3) * (1 / (D.tot (y 1) (y 2) (y 3) * D.tot (y 1) (y 2) (y 3))) : ℝ) : EReal) :=
  (val_main_v139_apply _ _ _ _ _ _ _ y).trans (mulf_of (r137 H hm y) (r138 H hm hl y))

/-- Stage `v140` of the reference. -/
theorem r140 (y : S3x16x256x8.Idx) : (val_main_v140 (F := Ideal) x0 x1 x2 x3 x4 x5 x6 y : EReal) = ((D.r (y 0) (y 1) (y 2) (y 3) * (1 / (D.tot (y 1) (y 2) (y 3) * D.tot (y 1) (y 2) (y 3))) * D.e (y 0) (y 1) (y 2) (y 3) : ℝ) : EReal) :=
  (val_main_v140_apply _ _ _ _ _ _ _ y).trans (mulf_of (r139 H hm hl y) (r105 H hm hl y))

/-- Stage `v141` of the reference. -/
theorem r141 (y : S16x256x8.Idx) : (val_main_v141 (F := Ideal) x0 x1 x2 x3 x4 x5 x6 y : EReal) = ((∑ g, D.r g (y 0) (y 1) (y 2) * (1 / (D.tot (y 0) (y 1) (y 2) * D.tot (y 0) (y 1) (y 2))) * D.e g (y 0) (y 1) (y 2) : ℝ) : EReal) :=
  (val_main_v141_apply _ _ _ _ _ _ _ y).trans (sum0_of Ideal.ofBits_zero_f32 fun k => (r140 H hm hl _))

/-- Stage `v142` of the reference. -/
theorem r142 (y : S1x16x256x8.Idx) : (val_main_v142 (F := Ideal) x0 x1 x2 x3 x4 x5 x6 y : EReal) = ((∑ g, D.r g (y 1) (y 2) (y 3) * (1 / (D.tot (y 1) (y 2) (y 3) * D.tot (y 1) (y 2) (y 3))) * D.e g (y 1) (y 2) (y 3) : ℝ) : EReal) :=
  (val_main_v142_apply _ _ _ _ _ _ _ y).trans ((congrArg (val_main_v141 (F := Ideal) x0 x1 x2 x3 x4 x5 x6) (at142 y)).trans (r141 H hm hl (to142 y)))

/-- Stage `v143` of the reference. -/
theorem r143 (y : S1x16x256x8.Idx) : (val_main_v143 (F := Ideal) x0 x1 x2 x3 x4 x5 x6 y : EReal) = ((-∑ g, D.r g (y 1) (y 2) (y 3) * (1 / (D.tot (y 1) (y 2) (y 3) * D.tot (y 1) (y 2) (y 3))) * D.e g (y 1) (y 2) (y 3) : ℝ) : EReal) :=
  (val_main_v143_apply _ _ _ _ _ _ _ y).trans (negf_of (r142 H hm hl y))

/-- Stage `v144` of the reference. -/
theorem r144 (y : S3x16x256x8.Idx) : (val_main_v144 (F := Ideal) x0 x3 x4 x5 y : EReal) = ((D.tot (y 1) (y 2) (y 3) : ℝ) : EReal) :=
  (val_main_v144_apply _ _ _ _ y).trans (r107 H hm hl _)

/-- Stage `v145` of the reference. -/
theorem r145 (y : S3x16x256x8.Idx) : (val_main_v145 (F := Ideal) x0 x1 x2 x3 x4 x5 x6 y : EReal) = ((D.r (y 0) (y 1) (y 2) (y 3) / D.tot (y 1) (y 2) (y 3) : ℝ) : EReal) :=
  (val_main_v145_apply _ _ _ _ _ _ _ y).trans (divf_of (r137 H hm y) (r144 H hm hl y) (D.tot_pos _ _ _).ne')

/-- Stage `v146` of the reference. -/
theorem r146 (y : S16x256x8.Idx) : (val_main_v146 (F := Ideal) x0 x1 x2 x3 x4 x5 x6 y : EReal) = ((-∑ g, D.r g (y 0) (y 1) (y 2) * (1 / (D.tot (y 0) (y 1) (y 2) * D.tot (y 0) (y 1) (y 2))) * D.e g (y 0) (y 1) (y 2) : ℝ) : EReal) :=
  (val_main_v146_apply _ _ _ _ _ _ _ y).trans (sum1_of Ideal.ofBits_zero_f32 (r143 H hm hl _))

/-- Stage `v147` of the reference. -/
theorem r147 (y : S3x16x256x8.Idx) : (val_main_v147 (F := Ideal) x0 x1 x2 x3 x4 x5 x6 y : EReal) = ((-∑ g, D.r g (y 1) (y 2) (y 3) * (1 / (D.tot (y 1) (y 2) (y 3) * D.tot (y 1) (y 2) (y 3))) * D.e g (y 1) (y 2) (y 3) : ℝ) : EReal) :=
  (val_main_v147_apply _ _ _ _ _ _ _ y).trans (r146 H hm hl _)

/-- Stage `v148` of the reference. -/
theorem r148 (y : S3x16x256x8.Idx) : (val_main_v148 (F := Ideal) x0 x1 x2 x3 x4 x5 x6 y : EReal) = ((D.r (y 0) (y 1) (y 2) (y 3) / D.tot (y 1) (y 2) (y 3) + -∑ g, D.r g (y 1) (y 2) (y 3) * (1 / (D.tot (y 1) (y 2) (y 3) * D.tot (y 1) (y 2) (y 3))) * D.e g (y 1) (y 2) (y 3) : ℝ) : EReal) :=
  (val_main_v148_apply _ _ _ _ _ _ _ y).trans (addf_of (r145 H hm hl y) (r147 H hm hl y))

/-- Stage `v149` of the reference. -/
theorem r149 (y : S3x16x256x8.Idx) : (val_main_v149 (F := Ideal) x0 x1 x2 x3 x4 x5 x6 y : EReal) = (((D.r (y 0) (y 1) (y 2) (y 3) / D.tot (y 1) (y 2) (y 3) + -∑ g, D.r g (y 1) (y 2) (y 3) * (1 / (D.tot (y 1) (y 2) (y 3) * D.tot (y 1) (y 2) (y 3))) * D.e g (y 1) (y 2) (y 3)) * D.e (y 0) (y 1) (y 2) (y 3) : ℝ) : EReal) :=
  (val_main_v149_apply _ _ _ _ _ _ _ y).trans (mulf_of (r148 H hm hl y) (r105 H hm hl y))

/-- Stage `v154` of the reference. -/
theorem r154 (y : S1x16x256x8.Idx) : (val_main_v154 (F := Ideal) x0 x1 x2 x3 x4 x5 x6 y : EReal) = ((D.dl2 (y 1) (y 2) (y 3) : ℝ) : EReal) :=
  (val_main_v154_apply _ _ _ _ _ _ _ y).trans ((congrArg (val_main_v149 (F := Ideal) x0 x1 x2 x3 x4 x5 x6) (at154 y)).trans (r149 H hm hl (to154 y)))

/-- Stage `v155` of the reference. -/
theorem r155 (y : S16x256x8.Idx) : (val_main_v155 (F := Ideal) x0 x1 x2 x3 x4 x5 x6 y : EReal) = ((D.dl2 (y 0) (y 1) (y 2) : ℝ) : EReal) :=
  (val_main_v155_apply _ _ _ _ _ _ _ y).trans ((congrArg (val_main_v154 (F := Ideal) x0 x1 x2 x3 x4 x5 x6) (at155 y)).trans (r154 H hm hl (to155 y)))

/-- Stage `v156` of the reference. -/
theorem r156 (y : S16x8x256.Idx) : (val_main_v156 (F := Ideal) x0 x1 x2 x3 x4 x5 x6 y : EReal) = ((D.dl2 (y 0) (y 2) (y 1) : ℝ) : EReal) :=
  (val_main_v156_apply _ _ _ _ _ _ _ y).trans (r155 H hm hl _)

/-- Stage `v157` of the reference. -/
theorem r157 (y : S16x8x256.Idx) : (val_main_v157 (F := Ideal) x0 x1 x2 x3 x4 x5 x6 y : EReal) = ((D.dl2 (y 0) (y 2) (y 1) / D.den (y 0) (y 1) (y 2) : ℝ) : EReal) :=
  (val_main_v157_apply _ _ _ _ _ _ _ y).trans (divf_of (r156 H hm hl y) (r65 H hm y) (D.den_pos _ _ _).ne')

/-- Stage `v158` of the reference. -/
theorem r158 (y : S16x8x256x1.Idx) : (val_main_v158 (F := Ideal) x0 x1 x2 x3 x4 x5 x6 y : EReal) = ((D.dl2 (y 0) (y 2) (y 1) : ℝ) : EReal) :=
  (val_main_v158_apply _ _ _ _ _ _ _ y).trans (r156 H hm hl _)

/-- Stage `v160` of the reference. -/
theorem r160 (y : S16x256x8x64.Idx) : (val_main_v160 (F := Ideal) x0 x3 x4 x5 x6 y : EReal) = ((D.wd (y 0) (y 1) (y 2) (y 3) * (1 / (D.den (y 0) (y 2) (y 1) * D.den (y 0) (y 2) (y 1))) : ℝ) : EReal) :=
  (val_main_v160_apply _ _ _ _ _ y).trans (mulf_of (r136 H hm hl y) (r159 H hm y))

/-- Stage `v161` of the reference. -/
theorem r161 (y : S16x256x8x64.Idx) : (val_main_v161 (F := Ideal) x0 x3 x4 x5 x6 y : EReal) = ((D.wd (y 0) (y 1) (y 2) (y 3) * (1 / (D.den (y 0) (y 2) (y 1) * D.den (y 0) (y 2) (y 1))) * D.u (y 0) (y 1) (y 2) (y 3) : ℝ) : EReal) :=
  (val_main_v161_apply _ _ _ _ _ y).trans (mulf_of (r160 H hm hl y) (r67 H hm y))

/-- Stage `v162` of the reference. -/
theorem r162 (y : S16x256x8.Idx) : (val_main_v162 (F := Ideal) x0 x3 x4 x5 x6 y : EReal) = ((∑ d, D.wd (y 0) (y 1) (y 2) d * (1 / (D.den (y 0) (y 2) (y 1) * D.den (y 0) (y 2) (y 1))) * D.u (y 0) (y 1) (y 2) d : ℝ) : EReal) :=
  (val_main_v162_apply _ _ _ _ _ y).trans (sum0_of Ideal.ofBits_zero_f32 fun k => (r161 H hm hl _))

/-- Stage `v163` of the reference. -/
theorem r163 (y : S16x256x8x1.Idx) : (val_main_v163 (F := Ideal) x0 x3 x4 x5 x6 y : EReal) = ((∑ d, D.wd (y 0) (y 1) (y 2) d * (1 / (D.den (y 0) (y 2) (y 1) * D.den (y 0) (y 2) (y 1))) * D.u (y 0) (y 1) (y 2) d : ℝ) : EReal) :=
  (val_main_v163_apply _ _ _ _ _ y).trans ((congrArg (val_main_v162 (F := Ideal) x0 x3 x4 x5 x6) (at163 y)).trans (r162 H hm hl (to163 y)))

/-- Stage `v164` of the reference. -/
theorem r164 (y : S16x256x8x1.Idx) : (val_main_v164 (F := Ideal) x0 x3 x4 x5 x6 y : EReal) = ((-∑ d, D.wd (y 0) (y 1) (y 2) d * (1 / (D.den (y 0) (y 2) (y 1) * D.den (y 0) (y 2) (y 1))) * D.u (y 0) (y 1) (y 2) d : ℝ) : EReal) :=
  (val_main_v164_apply _ _ _ _ _ y).trans (negf_of (r163 H hm hl y))

/-- Stage `v166` of the reference. -/
theorem r166 (y : S16x256x8x64.Idx) : (val_main_v166 (F := Ideal) x0 x3 x4 x5 x6 y : EReal) = ((D.wd (y 0) (y 1) (y 2) (y 3) / D.den (y 0) (y 2) (y 1) : ℝ) : EReal) :=
  (val_main_v166_apply _ _ _ _ _ y).trans (divf_of (r136 H hm hl y) (r165 H hm y) (D.den_pos _ _ _).ne')

/-- Stage `v167` of the reference. -/
theorem r167 (y : S16x256x8.Idx) : (val_main_v167 (F := Ideal) x0 x3 x4 x5 x6 y : EReal) = ((-∑ d, D.wd (y 0) (y 1) (y 2) d * (1 / (D.den (y 0) (y 2) (y 1) * D.den (y 0) (y 2) (y 1))) * D.u (y 0) (y 1) (y 2) d : ℝ) : EReal) :=
  (val_main_v167_apply _ _ _ _ _ y).trans (sum1_of Ideal.ofBits_zero_f32 (r164 H hm hl _))

/-- Stage `v168` of the reference. -/
theorem r168 (y : S16x8x256.Idx) : (val_main_v168 (F := Ideal) x0 x3 x4 x5 x6 y : EReal) = ((-∑ d, D.wd (y 0) (y 2) (y 1) d * (1 / (D.den (y 0) (y 1) (y 2) * D.den (y 0) (y 1) (y 2))) * D.u (y 0) (y 2) (y 1) d : ℝ) : EReal) :=
  (val_main_v168_apply _ _ _ _ _ y).trans (r167 H hm hl _)

/-- Stage `v169` of the reference. -/
theorem r169 (y : S16x8x256.Idx) : (val_main_v169 (F := Ideal) x0 x1 x2 x3 x4 x5 x6 y : EReal) = ((D.dden (y 0) (y 1) (y 2) : ℝ) : EReal) :=
  (val_main_v169_apply _ _ _ _ _ _ _ y).trans (addf_of (r157 H hm hl y) (r168 H hm hl y))

/-- Stage `v170` of the reference. -/
theorem r170 (y : S16x8x64x256.Idx) : (val_main_v170 (F := Ideal) x0 x3 x4 x5 x6 y : EReal) = ((D.wd (y 0) (y 3) (y 1) (y 2) / D.den (y 0) (y 1) (y 3) : ℝ) : EReal) :=
  (val_main_v170_apply _ _ _ _ _ y).trans (r166 H hm hl _)

/-- Stage `v171` of the reference. -/
theorem r171 (y : S16x8x256x256.Idx) : (val_main_v171 (F := Ideal) x0 x3 x4 x5 x6 y : EReal) = ((∑ d, D.wd (y 0) (y 2) (y 1) d / D.den (y 0) (y 1) (y 2) * D.v (y 0) (y 3) (y 1) d : ℝ) : EReal) :=
  (val_main_v171_apply _ _ _ _ _ y).trans (sum_of fun k => mul_of (r170 H hm hl _) (H.v _))

/-- Stage `v172` of the reference. -/
theorem r172 (y : S16x8x64x256.Idx) : (val_main_v172 (F := Ideal) x0 x3 x4 x5 x6 y : EReal) = ((∑ i, D.wd (y 0) i (y 1) (y 2) / D.den (y 0) (y 1) i * D.p (y 0) (y 1) i (y 3) : ℝ) : EReal) :=
  (val_main_v172_apply _ _ _ _ _ y).trans (sum_of fun k => mul_of (r170 H hm hl _) (r64 H hm _))

/-- Stage `v173` of the reference. -/
theorem r173 (y : S16x256x8x64.Idx) : (val_main_v173 (F := Ideal) x0 x3 x4 x5 x6 y : EReal) = ((∑ i, D.wd (y 0) i (y 2) (y 3) / D.den (y 0) (y 2) i * D.p (y 0) (y 2) i (y 1) : ℝ) : EReal) :=
  (val_main_v173_apply _ _ _ _ _ y).trans (r172 H hm hl _)

/-- Stage `v174` of the reference. -/
theorem r174 (y : S16x8x256x256.Idx) : (val_main_v174 (F := Ideal) x0 x1 x2 x3 x4 x5 x6 y : EReal) = ((D.dden (y 0) (y 1) (y 2) : ℝ) : EReal) :=
  (val_main_v174_apply _ _ _ _ _ _ _ y).trans (r169 H hm hl _)

/-- Stage `v175` of the reference. -/
theorem r175 (y : S16x8x256x256.Idx) : (val_main_v175 (F := Ideal) x0 x1 x2 x3 x4 x5 x6 y : EReal) = (((∑ d, D.wd (y 0) (y 2) (y 1) d / D.den (y 0) (y 1) (y 2) * D.v (y 0) (y 3) (y 1) d) + D.dden (y 0) (y 1) (y 2) : ℝ) : EReal) :=
  (val_main_v175_apply _ _ _ _ _ _ _ y).trans (addf_of (r171 H hm hl y) (r174 H hm hl y))

/-- Stage `v176` of the reference. -/
theorem r176 (y : S16x8x256x256.Idx) : (val_main_v176 (F := Ideal) x0 x1 x2 x3 x4 x5 x6 y : EReal) = ((D.g (y 0) (y 1) (y 2) (y 3) : ℝ) : EReal) :=
  (val_main_v176_apply _ _ _ _ _ _ _ y).trans (mulf_of (r175 H hm hl y) (r64 H hm y))

/-- Stage `v177` of the reference. -/
theorem r177 (y : S16x8x256x256.Idx) : (val_main_v177 (F := Ideal) x0 x1 x2 x3 x4 x5 x6 y : EReal) = ((-D.g (y 0) (y 1) (y 2) (y 3) : ℝ) : EReal) :=
  (val_main_v177_apply _ _ _ _ _ _ _ y).trans (negf_of (r176 H hm hl y))

/-- Stage `v178` of the reference. -/
theorem r178 (y : S16x8x256.Idx) : (val_main_v178 (F := Ideal) x0 x1 x2 x3 x4 x5 x6 y : EReal) = ((∑ j, -D.g (y 0) (y 1) (y 2) j : ℝ) : EReal) :=
  (val_main_v178_apply _ _ _ _ _ _ _ y).trans (sum0_of Ideal.ofBits_zero_f32 fun k => (r177 H hm hl _))

/-- Stage `v179` of the reference. -/
theorem r179 (y : S16x8x256x1.Idx) : (val_main_v179 (F := Ideal) x0 x1 x2 x3 x4 x5 x6 y : EReal) = ((∑ j, -D.g (y 0) (y 1) (y 2) j : ℝ) : EReal) :=
  (val_main_v179_apply _ _ _ _ _ _ _ y).trans ((congrArg (val_main_v178 (F := Ideal) x0 x1 x2 x3 x4 x5 x6) (at179 y)).trans (r178 H hm hl (to179 y)))

/-- What the maximum would receive vanishes. -/
theorem r180 (y : S16x8x256x1.Idx) :
    (val_main_v180 (F := Ideal) x0 x1 x2 x3 x4 x5 x6 y : EReal) = ((0 : ℝ) : EReal) := by
  have e : D.dl2 (y 0) (y 2) (y 1) + ∑ j, -D.g (y 0) (y 1) (y 2) j = 0 := by
    rw [Finset.sum_neg_distrib]
    exact (congrArg (fun t => D.dl2 (y 0) (y 2) (y 1) + -t) (D.sum_g (y 0) (y 1) (y 2))).trans (add_neg_cancel _)
  exact (val_main_v180_apply _ _ _ _ _ _ _ y).trans ((addf_of (r158 H hm hl y) (r179 H hm hl y)).trans (congrArg _ e))

/-- Stage `v181` of the reference. -/
theorem r181 (y : S16x8x256.Idx) : (val_main_v181 (F := Ideal) x0 x1 x2 x3 x4 x5 x6 y : EReal) = ((0 : ℝ) : EReal) :=
  (val_main_v181_apply _ _ _ _ _ _ _ y).trans (sum1_of Ideal.ofBits_zero_f32 (r180 H hm hl _))

/-- How many keys attain a row's maximum. -/
def cnt (x0 : FVec Ideal S4096x4608 .bf16) (x5 : FVec Ideal S32x24 .f32) (y : S16x8x256.Idx) : ℝ :=
  ∑ k : Fin 256, ((val_main_v58 (F := Ideal) x0 x5 (idx_main_v60 y k)).toNat : ℝ)
theorem r59 (y : S16x8x256x256.Idx) :
    (val_main_v59 (F := Ideal) x0 x5 y : EReal) = (((val_main_v58 (F := Ideal) x0 x5 y).toNat : ℝ) : EReal) := rfl
theorem r60 (y : S16x8x256.Idx) : (val_main_v60 (F := Ideal) x0 x5 y : EReal) = ((cnt x0 x5 y : ℝ) : EReal) :=
  (val_main_v60_apply _ _ y).trans (sum0_of Ideal.ofBits_zero_f32 fun k => r59 H hm hl _)
variable (hc : ∀ y, cnt x0 x5 y ≠ 0)
include hc
theorem r182 (y : S16x8x256.Idx) :
    (val_main_v182 (F := Ideal) x0 x1 x2 x3 x4 x5 x6 y : EReal) = ((0 : ℝ) : EReal) :=
  (val_main_v182_apply _ _ _ _ _ _ _ y).trans ((divf_of (r181 H hm hl y) (r60 H hm hl y) (hc y)).trans
    (congrArg _ (zero_div _)))
theorem r183 (y : S16x8x256x256.Idx) :
    (val_main_v183 (F := Ideal) x0 x1 x2 x3 x4 x5 x6 y : EReal) = ((0 : ℝ) : EReal) :=
  (val_main_v183_apply _ _ _ _ _ _ _ y).trans (r182 H hm hl hc _)
theorem r184 (y : S16x8x256x256.Idx) :
    (val_main_v184 (F := Ideal) x0 x1 x2 x3 x4 x5 x6 y : EReal) = ((0 : ℝ) : EReal) :=
  (val_main_v184_apply _ _ _ _ _ _ _ y).trans ((mulf_of (r183 H hm hl hc y) (r59 H hm hl y)).trans
    (congrArg _ (zero_mul _)))
theorem r185 (y : S16x8x256x256.Idx) :
    (val_main_v185 (F := Ideal) x0 x1 x2 x3 x4 x5 x6 y : EReal) = ((D.g (y 0) (y 1) (y 2) (y 3) : ℝ) : EReal) :=
  (val_main_v185_apply _ _ _ _ _ _ _ y).trans ((addf_of (r176 H hm hl y) (r184 H hm hl hc y)).trans
    (congrArg _ (add_zero _)))
/-- The gradient of a score; a masked one's is zero. -/
theorem r186 (y : S16x8x256x256.Idx) :
    (val_main_v186 (F := Ideal) x0 x1 x2 x3 x4 x5 x6 y : EReal) = ((D.g (y 0) (y 1) (y 2) (y 3) : ℝ) : EReal) := by
  rw [val_main_v186_apply]
  by_cases h : D.on (y 2) (y 3) = true
  · exact (if_pos ((mask_iff H y).mpr h)).trans (r185 H hm hl hc y)
  · refine (if_neg (fun e => h ((mask_iff H y).mp e))).trans ?_
    have e : D.g (y 0) (y 1) (y 2) (y 3) = 0 := (D.g_eq _ _ _ _).trans (by
      unfold Data.a
      exact (congrArg (· * _) (if_neg h)).trans (zero_mul _))
    rw [e, val_main_call3_v0_apply]
    exact Ideal.ofBits_zero_f32.trans EReal.coe_zero.symm

/-- Stage `v187` of the reference. -/
theorem r187 (y : S8x256x256.Idx) : (val_main_v187 (F := Ideal) x0 x1 x2 x3 x4 x5 x6 y : EReal) = ((∑ z, D.g z (y 0) (y 1) (y 2) : ℝ) : EReal) :=
  (val_main_v187_apply _ _ _ _ _ _ _ y).trans (sum0_of Ideal.ofBits_zero_f32 fun k => (r186 H hm hl hc _))

/-- Stage `v188` of the reference. -/
theorem r188 (y : S1x8x256x256.Idx) : (val_main_v188 (F := Ideal) x0 x1 x2 x3 x4 x5 x6 y : EReal) = ((∑ z, D.g z (y 1) (y 2) (y 3) : ℝ) : EReal) :=
  (val_main_v188_apply _ _ _ _ _ _ _ y).trans ((congrArg (val_main_v187 (F := Ideal) x0 x1 x2 x3 x4 x5 x6) (at188 y)).trans (r187 H hm hl hc (to188 y)))

/-- Stage `v189` of the reference. -/
theorem r189 (y : S8x256x256.Idx) : (val_main_v189 (F := Ideal) x0 x1 x2 x3 x4 x5 x6 y : EReal) = ((∑ z, D.g z (y 0) (y 1) (y 2) : ℝ) : EReal) :=
  (val_main_v189_apply _ _ _ _ _ _ _ y).trans (sum1_of Ideal.ofBits_zero_f32 (r188 H hm hl hc _))

/-- Stage `v191` of the reference. -/
theorem r191 (y : S16x8x256x256.Idx) : (val_main_v191 (F := Ideal) x0 x1 x2 x3 x4 x5 x6 y : EReal) = ((D.g (y 0) (y 1) (y 2) (y 3) * (1 / 8) : ℝ) : EReal) :=
  (val_main_v191_apply _ _ _ _ _ _ _ y).trans (mulf_of (r186 H hm hl hc y) (r190 y))

/-- Stage `v192` of the reference. -/
theorem r192 (y : S16x8x256x64.Idx) : (val_main_v192 (F := Ideal) x0 x1 x2 x3 x4 x5 x6 y : EReal) = ((∑ i, D.g (y 0) (y 1) i (y 2) * (1 / 8) * D.q (y 0) i (y 1) (y 3) : ℝ) : EReal) :=
  (val_main_v192_apply _ _ _ _ _ _ _ y).trans (sum_of fun k => mul_of (r191 H hm hl hc _) (H.q _))

/-- Stage `v193` of the reference. -/
theorem r193 (y : S16x256x8x64.Idx) : (val_main_v193 (F := Ideal) x0 x1 x2 x3 x4 x5 x6 y : EReal) = ((∑ i, D.g (y 0) (y 2) i (y 1) * (1 / 8) * D.q (y 0) i (y 2) (y 3) : ℝ) : EReal) :=
  (val_main_v193_apply _ _ _ _ _ _ _ y).trans (r192 H hm hl hc _)

/-- Stage `v194` of the reference. -/
theorem r194 (y : S16x8x256x64.Idx) : (val_main_v194 (F := Ideal) x0 x1 x2 x3 x4 x5 x6 y : EReal) = ((∑ j, D.g (y 0) (y 1) (y 2) j * (1 / 8) * D.k (y 0) j (y 1) (y 3) : ℝ) : EReal) :=
  (val_main_v194_apply _ _ _ _ _ _ _ y).trans (sum_of fun k => mul_of (r191 H hm hl hc _) (H.k _))

/-- Stage `v195` of the reference. -/
theorem r195 (y : S16x256x8x64.Idx) : (val_main_v195 (F := Ideal) x0 x1 x2 x3 x4 x5 x6 y : EReal) = ((∑ j, D.g (y 0) (y 2) (y 1) j * (1 / 8) * D.k (y 0) j (y 2) (y 3) : ℝ) : EReal) :=
  (val_main_v195_apply _ _ _ _ _ _ _ y).trans (r194 H hm hl hc _)

end

end Cert.Attn
-- ==== Proof.KernelReal.lean ====
module

public import proofs.«01_k».proof.Proof.KernelMerge
public import proofs.«01_k».proof.Proof.BlockReal
public import proofs.«01_k».proof.Proof.RefReal

@[expose] public section
set_option maxRecDepth 16384

/-! The arrays the kernel is called with hold the real numbers of the reference's mathematics. -/

noncomputable section
namespace Cert.Attn
open Cert.KernelIdeal Cert.KernelIdeal.Gen Idealize.ShloMosaic Idealize.ShloMosaic.TcCoe Idealize.SL.Sem
open Idealize.ShloMosaic.ValueIdx
open Cert.ReferenceIdeal.Read

/-! ## The host's operations read at an index -/

/-- A head's number at any of its columns. -/
theorem wide_apply (x : FVec Ideal S16x256x8 .f32) (z : Fin 16) (r : Fin 256) (h : Fin 8) (d : Fin 64) :
    wide x (ix3 z r (colOf h d)) = x (ix3 z r h) := by
  unfold wide
  rw [shapeCast_apply _ shapeCasts_S4096x512_S16x256x512 (ix3 z r (colOf h d)) (ix2 (⟨256 * z.val + r.val, by omega⟩ : Fin 4096) (colOf h d))
    (by rw [Shape.rowMajor_val_two, Shape.rowMajor_val_three]
        show (256 * z.val + r.val) * 512 + (colOf h d).val = (z.val * 256 + r.val) * 512 + (colOf h d).val
        omega)]
  rw [shapeCast_apply _ shapeCasts_S16x256x8x64_S4096x512 (ix2 (⟨256 * z.val + r.val, by omega⟩ : Fin 4096) (colOf h d)) (ix4 z r h d)
    (by rw [Shape.rowMajor_val_four, Shape.rowMajor_val_two]
        show ((z.val * 256 + r.val) * 8 + h.val) * 64 + d.val = (256 * z.val + r.val) * 512 + (64 * h.val + d.val)
        omega)]
  rw [broadcastInDim_apply _ bcast_S16x256x8x1_S16x256x8x64_0_1_2_3 _ (ix4 z r h d) (ix4 z r h (0 : Fin 1)) (fun a => match a with
    | ⟨0, _⟩ => by show z.val = if (16 : Nat) = 1 then 0 else z.val; rw [if_neg (by decide)]
    | ⟨1, _⟩ => by show r.val = if (256 : Nat) = 1 then 0 else r.val; rw [if_neg (by decide)]
    | ⟨2, _⟩ => by show h.val = if (8 : Nat) = 1 then 0 else h.val; rw [if_neg (by decide)]
    | ⟨3, _⟩ => by show 0 = if (1 : Nat) = 1 then 0 else d.val; rw [if_pos rfl])]
  exact broadcastInDim_apply _ bcast_S16x256x8_S16x256x8x1_0_1_2 x (ix4 z r h (0 : Fin 1)) (ix3 z r h) (fun a => match a with
    | ⟨0, _⟩ => by show z.val = if (16 : Nat) = 1 then 0 else z.val; rw [if_neg (by decide)]
    | ⟨1, _⟩ => by show r.val = if (256 : Nat) = 1 then 0 else r.val; rw [if_neg (by decide)]
    | ⟨2, _⟩ => by show h.val = if (8 : Nat) = 1 then 0 else h.val; rw [if_neg (by decide)])

/-- An inner product over a head's columns. -/
theorem inner_apply (x y : FVec Ideal S16x256x8x64 .f32) (z : Fin 16) (r : Fin 256) (h : Fin 8) :
    (inner x y (ix3 z r h) : EReal) = 0 + ∑ d : Fin 64, (x (ix4 z r h d) : EReal) * y (ix4 z r h d) := by
  unfold inner
  simp only [Host.reduceAdd, Ideal.hostReduceAdd_def]
  rw [Ideal.hostReduceAdd_single reducesTo_S16x256x8x64_S16x256x8_d3 (by decide)]
  have e : (constant (F := Ideal) S_ .f32 0x00000000#32) (Shape.Idx.first h_S_) = (0 : EReal) := Ideal.ofBits_zero_f32
  rw [e]
  refine congrArg ((0 : EReal) + ·) (Finset.sum_congr rfl fun d _ => ?_)
  exact congrArg (mulf x y) (funext fun a => Fin.ext (by match a with | ⟨0, _⟩ => rfl | ⟨1, _⟩ => rfl | ⟨2, _⟩ => rfl | ⟨3, _⟩ => rfl))

/-- An entry of the masked table. -/
theorem masked_apply (b : FVec Ideal S8x256x256 .f32) (w : IVec S256x256 1) (h : Fin 8) (i j : Fin 256) :
    (masked b w (ix3 h i j) : EReal) = if w (ix2 i j) = 1#1 then b (ix3 h i j) else ⊥ := by
  unfold masked
  show Scalar.select _ _ _ = _
  rw [broadcastInDim_apply _ bcast_S1x256x256_S8x256x256_0_1_2 _ (ix3 h i j) (ix3 (0 : Fin 1) i j) (fun a => match a with
    | ⟨0, _⟩ => by show 0 = if (1 : Nat) = 1 then 0 else h.val; rw [if_pos rfl]
    | ⟨1, _⟩ => by show i.val = if (256 : Nat) = 1 then 0 else i.val; rw [if_neg (by decide)]
    | ⟨2, _⟩ => by show j.val = if (256 : Nat) = 1 then 0 else j.val; rw [if_neg (by decide)])]
  rw [broadcastInDim_apply _ bcast_S256x256_S1x256x256_1_2 w (ix3 (0 : Fin 1) i j) (ix2 i j) (fun a => match a with
    | ⟨0, _⟩ => by show i.val = if (256 : Nat) = 1 then 0 else i.val; rw [if_neg (by decide)]
    | ⟨1, _⟩ => by show j.val = if (256 : Nat) = 1 then 0 else j.val; rw [if_neg (by decide)])]
  rw [broadcastInDim_apply _ bcast_S_S8x256x256 (constant (F := Ideal) S_ .f32 0xFF800000#32) (ix3 h i j) ix0 (fun a => a.elim0)]
  have e : (constant (F := Ideal) S_ .f32 0xFF800000#32) ix0 = (⊥ : EReal) := word_bot
  rw [e]
  rfl

/-- A log-sum-exp of three reals. -/
theorem lse3_real (a b l : FVec Ideal S16x256x8 .f32) (y : S16x256x8.Idx) (ra rb rl : ℝ) (ha : (a y : EReal) = ra) (hb : (b y : EReal) = rb)
    (hl : (l y : EReal) = rl) : (lse3 a b l y : EReal) = ((Real.log (Real.exp ra + Real.exp rb + Real.exp rl) : ℝ) : EReal) := by
  have top : ∃ M : ℝ, (top3 a b l y : EReal) = (M : EReal) := by
    show ∃ M : ℝ, max (max (a y : EReal) (b y)) (l y) = (M : EReal)
    rw [ha, hb, hl]
    rcases max_choice ((ra : EReal)) (rb : EReal) with e | e <;> rw [e]
    · rcases max_choice ((ra : EReal)) (rl : EReal) with e | e <;> rw [e]
      · exact ⟨_, rfl⟩
      · exact ⟨_, rfl⟩
    · rcases max_choice ((rb : EReal)) (rl : EReal) with e | e <;> rw [e]
      · exact ⟨_, rfl⟩
      · exact ⟨_, rfl⟩
  obtain ⟨M, hM⟩ := top
  have hpos : 0 < Real.exp (ra - M) + Real.exp (rb - M) + Real.exp (rl - M) := by
    have := Real.exp_pos (ra - M); have := Real.exp_pos (rb - M); have := Real.exp_pos (rl - M); positivity
  have h1 : (lse3 a b l y : EReal) = ((M + Real.log (Real.exp (ra - M) + Real.exp (rb - M) + Real.exp (rl - M)) : ℝ) : EReal) :=
    addf_of hM (log_of (addf_of (addf_of (exp_of (subf_of ha hM)) (exp_of (subf_of hb hM))) (exp_of (subf_of hl hM))) hpos)
  rw [h1]
  refine congrArg _ ?_
  have e : Real.exp (ra - M) + Real.exp (rb - M) + Real.exp (rl - M) = (Real.exp ra + Real.exp rb + Real.exp rl) / Real.exp M := by
    rw [Real.exp_sub, Real.exp_sub, Real.exp_sub]; ring
  have hs : 0 < Real.exp ra + Real.exp rb + Real.exp rl := by
    have := Real.exp_pos ra; have := Real.exp_pos rb; have := Real.exp_pos rl; positivity
  rw [e, Real.log_div hs.ne' (Real.exp_pos M).ne', Real.log_exp]
  ring

/-! ## The kernel's blocks -/

variable (m : (ℓ : Loc nD τ sig) → Buf (Elt Ideal) ℓ) (c : Dev nD)
variable {D : Data}

variable (H : Inputs D (A m c main_arg0) (A m c main_arg1) (A m c main_arg2) (A m c main_arg3) (A m c main_arg4) (A m c main_arg5) (A m c main_arg6))
variable (hm : ∀ y, (val_main_v55 (F := Ideal) (A m c main_arg0) (A m c main_arg5) y : EReal) = ((D.mx (y 0) (y 1) (y 2) : ℝ) : EReal))
variable (hl : ∀ y, (val_main_v92 (F := Ideal) (A m c main_arg0) (A m c main_arg3) (A m c main_arg4) (A m c main_arg5) y : EReal) = ((D.lm (y 0) (y 1) (y 2) : ℝ) : EReal))

/-- The activations at a block's row. -/
theorem V_120_apply (z : Fin 16) (r : Fin 256) (x : Fin 4608) :
    (V m c main_v120 : FVec Ideal S16x256x4608 .bf16) (ix3 z r x)
      = (A m c main_arg0 : FVec Ideal S4096x4608 .bf16) (ix2 (⟨256 * z.val + r.val, by omega⟩ : Fin 4096) x) := by
  rw [V_120]
  exact shapeCast_apply _ shapeCasts_S4096x4608_S16x256x4608 (ix3 z r x) (ix2 (⟨256 * z.val + r.val, by omega⟩ : Fin 4096) x)
    (by rw [Shape.rowMajor_val_two, Shape.rowMajor_val_three]
        show (256 * z.val + r.val) * 4608 + x.val = (z.val * 256 + r.val) * 4608 + x.val
        omega)

/-- The output gradient at a block's row. -/
theorem V_121_apply (z : Fin 16) (r : Fin 256) (x : Fin 512) :
    (V m c main_v121 : FVec Ideal S16x256x512 .bf16) (ix3 z r x)
      = (A m c main_arg6 : FVec Ideal S4096x512 .bf16) (ix2 (⟨256 * z.val + r.val, by omega⟩ : Fin 4096) x) := by
  rw [V_121]
  exact shapeCast_apply _ shapeCasts_S4096x512_S16x256x512 (ix3 z r x) (ix2 (⟨256 * z.val + r.val, by omega⟩ : Fin 4096) x)
    (by rw [Shape.rowMajor_val_two, Shape.rowMajor_val_three]
        show (256 * z.val + r.val) * 512 + x.val = (z.val * 256 + r.val) * 512 + x.val
        omega)

include H in
theorem blk_q (z : Fin 16) (r : Fin 256) (h : Fin 8) (d : Fin 64) :
    ((iblk m c 0 (pt z) : FVec Ideal S1x256x512 .bf16) (ix3 (0 : Fin 1) r (colOf h d)) : EReal) = ((D.q z r h d : ℝ) : EReal) := by
  refine ((iblk_0 m c z r (colOf h d)).trans (V_120_apply m c z r _)).trans (Eq.trans ?_ (H.q (ix4 z r h d)))
  rw [val_main_v40_apply, val_main_v39_apply, val_main_v38_apply]
  refine congrArg (A m c main_arg0 : FVec Ideal S4096x4608 .bf16) (funext fun a => match a with
    | ⟨0, _⟩ => Fin.ext (by
        show 256 * z.val + r.val = (((z.val * 256 + r.val) * 8 + h.val) * 64 + d.val) / 512
        omega)
    | ⟨1, _⟩ => Fin.ext (by
        show 3072 + (64 * h.val + d.val) = 3072 + (((z.val * 256 + r.val) * 8 + h.val) * 64 + d.val) % 512
        omega))

include H in
theorem blk_k (z : Fin 16) (r : Fin 256) (h : Fin 8) (d : Fin 64) :
    ((iblk m c 1 (pt z) : FVec Ideal S1x256x512 .bf16) (ix3 (0 : Fin 1) r (colOf h d)) : EReal) = ((D.k z r h d : ℝ) : EReal) := by
  refine ((iblk_1 m c z r (colOf h d)).trans (V_120_apply m c z r _)).trans (Eq.trans ?_ (H.k (ix4 z r h d)))
  rw [val_main_v43_apply, val_main_v42_apply, val_main_v41_apply]
  refine congrArg (A m c main_arg0 : FVec Ideal S4096x4608 .bf16) (funext fun a => match a with
    | ⟨0, _⟩ => Fin.ext (by
        show 256 * z.val + r.val = (((z.val * 256 + r.val) * 8 + h.val) * 64 + d.val) / 512
        omega)
    | ⟨1, _⟩ => Fin.ext (by
        show 3584 + (64 * h.val + d.val) = 3584 + (((z.val * 256 + r.val) * 8 + h.val) * 64 + d.val) % 512
        omega))

include H in
theorem blk_v (z : Fin 16) (r : Fin 256) (h : Fin 8) (d : Fin 64) :
    ((iblk m c 2 (pt z) : FVec Ideal S1x256x512 .bf16) (ix3 (0 : Fin 1) r (colOf h d)) : EReal) = ((D.v z r h d : ℝ) : EReal) := by
  refine ((iblk_2 m c z r (colOf h d)).trans (V_120_apply m c z r _)).trans (Eq.trans ?_ (H.v (ix4 z r h d)))
  rw [val_main_v46_apply, val_main_v45_apply, val_main_v44_apply]
  refine congrArg (A m c main_arg0 : FVec Ideal S4096x4608 .bf16) (funext fun a => match a with
    | ⟨0, _⟩ => Fin.ext (by
        show 256 * z.val + r.val = (((z.val * 256 + r.val) * 8 + h.val) * 64 + d.val) / 512
        omega)
    | ⟨1, _⟩ => Fin.ext (by
        show 4096 + (64 * h.val + d.val) = 4096 + (((z.val * 256 + r.val) * 8 + h.val) * 64 + d.val) % 512
        omega))

include H in
theorem blk_o (z : Fin 16) (r : Fin 256) (h : Fin 8) (d : Fin 64) :
    ((iblk m c 3 (pt z) : FVec Ideal S1x256x512 .bf16) (ix3 (0 : Fin 1) r (colOf h d)) : EReal) = ((D.dO z r h d : ℝ) : EReal) := by
  refine ((iblk_3 m c z r (colOf h d)).trans (V_121_apply m c z r _)).trans (Eq.trans ?_ (H.dO (ix4 z r h d)))
  rw [val_main_v124_apply, val_main_v123_apply]
  refine congrArg (A m c main_arg6 : FVec Ideal S4096x512 .bf16) (funext fun a => match a with
    | ⟨0, _⟩ => Fin.ext (by
        show 256 * z.val + r.val = (((z.val * 256 + r.val) * 8 + h.val) * 64 + d.val) / 512
        omega)
    | ⟨1, _⟩ => Fin.ext (by
        show 64 * h.val + d.val = (((z.val * 256 + r.val) * 8 + h.val) * 64 + d.val) % 512
        omega))

include H hm in
theorem blk_l (z : Fin 16) (r : Fin 256) (h : Fin 8) (d : Fin 64) :
    ((iblk m c 4 (pt z) : FVec Ideal S1x256x512 .f32) (ix3 (0 : Fin 1) r (colOf h d)) : EReal) = ((D.lse z r h : ℝ) : EReal) := by
  refine (iblk_4 m c z r (colOf h d)).trans ?_
  rw [V_122, wide_apply, V_70]
  refine (lse3_real _ _ _ (ix3 z r h) _ _ _ (H.l0 (ix3 z r h)) (H.l1 (ix3 z r h)) (r78 H hm (ix3 z r h))).trans ?_
  unfold Data.lse
  rw [Fin.sum_univ_three, D.ls_0', D.ls_1', D.ls_2']

include H hm hl in
theorem blk_dl (z : Fin 16) (r : Fin 256) (h : Fin 8) (d : Fin 64) :
    ((iblk m c 5 (pt z) : FVec Ideal S1x256x512 .f32) (ix3 (0 : Fin 1) r (colOf h d)) : EReal) = ((D.dl z r h : ℝ) : EReal) := by
  refine (iblk_5 m c z r (colOf h d)).trans ?_
  rw [V_123, wide_apply, V_93, inner_apply]
  refine (sum0_of rfl fun k => mul_of (H.dO (ix4 z r h k)) (r122 H hm hl (ix4 z r h k))).trans ?_
  rfl

include H hm hl in
/-- The blocks of a grid point hold the reals. -/
theorem blocks (z : Fin 16) : Blocks D z (iblk m c 0 (pt z)) (iblk m c 1 (pt z)) (iblk m c 2 (pt z)) (iblk m c 3 (pt z)) (iblk m c 4 (pt z)) (iblk m c 5 (pt z)) where
  q i h d := blk_q m c H z i h d
  k i h d := blk_k m c H z i h d
  v i h d := blk_v m c H z i h d
  o i h d := blk_o m c H z i h d
  l i h d := blk_l m c H hm z i h d
  dl i h d := blk_dl m c H hm hl z i h d

include H in
/-- The masked table. -/
theorem masked_slot (h : Fin 8) (i j : Fin 256) :
    (masked (V m c main_v37) (V m c main_v7) (ix3 h i j) : EReal) = slot D h i j := by
  rw [masked_apply, V_37, V_7, H.b (ix3 h i j)]
  exact if_congr (H.on (ix2 i j)) rfl rfl

include H in
/-- Half 0 of the table, the two heads of a pair under each other. -/
theorem V_124_slot (p : Fin 4) (s : Fin 256) (j : Fin 256) :
    ((V m c main_v124 : FVec Ideal S4x256x256 .f32) (ix3 p s j) : EReal)
      = slot D ⟨2 * p.val + s.val / 128, by omega⟩ ⟨0 + s.val % 128, by omega⟩ j := by
  rw [V_124, shapeCast_apply _ shapeCasts_S8x128x256_S4x256x256 (ix3 p s j)
    (ix3 (⟨2 * p.val + s.val / 128, by omega⟩ : Fin 8) (⟨s.val % 128, by omega⟩ : Fin 128) j)
    (by rw [Shape.rowMajor_val_three, Shape.rowMajor_val_three]
        show ((2 * p.val + s.val / 128) * 128 + s.val % 128) * 256 + j.val = (p.val * 256 + s.val) * 256 + j.val
        omega)]
  rw [extractStridedSlice_apply ![0, 0, 0] _ slices_S8x256x256_S8x128x256_0_0_0 _
    (ix3 (⟨2 * p.val + s.val / 128, by omega⟩ : Fin 8) (⟨0 + s.val % 128, by omega⟩ : Fin 256) j) (fun a => match a with
      | ⟨0, _⟩ => by show 2 * p.val + s.val / 128 = 0 + (2 * p.val + s.val / 128); omega
      | ⟨1, _⟩ => by show 0 + s.val % 128 = 0 + s.val % 128; omega
      | ⟨2, _⟩ => by show j.val = 0 + j.val; omega)]
  exact masked_slot m c H _ _ _

include H in
/-- Half 1 of the table, the two heads of a pair under each other. -/
theorem V_125_slot (p : Fin 4) (s : Fin 256) (j : Fin 256) :
    ((V m c main_v125 : FVec Ideal S4x256x256 .f32) (ix3 p s j) : EReal)
      = slot D ⟨2 * p.val + s.val / 128, by omega⟩ ⟨128 + s.val % 128, by omega⟩ j := by
  rw [V_125, shapeCast_apply _ shapeCasts_S8x128x256_S4x256x256 (ix3 p s j)
    (ix3 (⟨2 * p.val + s.val / 128, by omega⟩ : Fin 8) (⟨s.val % 128, by omega⟩ : Fin 128) j)
    (by rw [Shape.rowMajor_val_three, Shape.rowMajor_val_three]
        show ((2 * p.val + s.val / 128) * 128 + s.val % 128) * 256 + j.val = (p.val * 256 + s.val) * 256 + j.val
        omega)]
  rw [extractStridedSlice_apply ![0, 128, 0] _ slices_S8x256x256_S8x128x256_0_128_0 _
    (ix3 (⟨2 * p.val + s.val / 128, by omega⟩ : Fin 8) (⟨128 + s.val % 128, by omega⟩ : Fin 256) j) (fun a => match a with
      | ⟨0, _⟩ => by show 2 * p.val + s.val / 128 = 0 + (2 * p.val + s.val / 128); omega
      | ⟨1, _⟩ => by show 128 + s.val % 128 = 128 + s.val % 128; omega
      | ⟨2, _⟩ => by show j.val = 0 + j.val; omega)]
  exact masked_slot m c H _ _ _

include H in
/-- The bias entry of a head, a query and a key. -/
theorem entries (z : Fin 16) (h : Fin 8) (i j : Fin 256) :
    entry (iblk m c 6 (pt z)) (iblk m c 7 (pt z)) h i j = slot D h i j := by
  have hh : (⟨2 * (h.val / 2) + (128 * (h.val % 2) + i.val % 128) / 128, by omega⟩ : Fin 8) = h := Fin.ext (by show _ = h.val; simp only []; omega)
  unfold entry
  by_cases hi : i.val < 128
  · rw [if_pos hi]
    refine ((iblk_6 m c z _).trans (V_124_slot m c H _ _ _)).trans ?_
    have e : (⟨0 + (128 * (h.val % 2) + i.val % 128) % 128, by omega⟩ : Fin 256) = i := Fin.ext (by show _ = i.val; simp only []; omega)
    exact congrArg₂ (fun a b => slot D a b j) hh e
  · rw [if_neg hi]
    refine ((iblk_7 m c z _).trans (V_125_slot m c H _ _ _)).trans ?_
    have e : (⟨128 + (128 * (h.val % 2) + i.val % 128) % 128, by omega⟩ : Fin 256) = i := Fin.ext (by show _ = i.val; simp only []; omega)
    exact congrArg₂ (fun a b => slot D a b j) hh e

/-! ## The kernel's results -/

include H hm hl in
/-- The three gradients of a block. -/
theorem own_real_q (z : Fin 16) (r : Fin 256) (h : Fin 8) (d : Fin 64) :
    own m c (pt z) (ix3 (0 : Fin 1) r (⟨(colOf h d).val, by omega⟩ : Fin 1536)) = ((∑ j, D.g z h r j * (1 / 8) * D.k z j h d : ℝ) : EReal) := by
  have e := outQKV_apply (iblk m c 0 (pt z)) (iblk m c 1 (pt z)) (iblk m c 2 (pt z)) (iblk m c 3 (pt z)) (iblk m c 4 (pt z)) (iblk m c 5 (pt z)) (iblk m c 6 (pt z)) (iblk m c 7 (pt z)) 0 r h d
  refine Eq.trans ?_ (e.trans (blkQ_real (blocks m c H hm hl z) (entries m c H z) r h d))
  exact congrArg (fun x : Fin 1536 => own m c (pt z) (ix3 (0 : Fin 1) r x)) (Fin.ext (by show (colOf h d).val = 512 * 0 + (colOf h d).val; omega))

include H hm hl in
theorem own_real_k (z : Fin 16) (r : Fin 256) (h : Fin 8) (d : Fin 64) :
    own m c (pt z) (ix3 (0 : Fin 1) r (⟨512 + (colOf h d).val, by omega⟩ : Fin 1536)) = ((∑ i, D.g z h i r * (1 / 8) * D.q z i h d : ℝ) : EReal) := by
  have e := outQKV_apply (iblk m c 0 (pt z)) (iblk m c 1 (pt z)) (iblk m c 2 (pt z)) (iblk m c 3 (pt z)) (iblk m c 4 (pt z)) (iblk m c 5 (pt z)) (iblk m c 6 (pt z)) (iblk m c 7 (pt z)) 1 r h d
  refine Eq.trans ?_ (e.trans (blkK_real (blocks m c H hm hl z) (entries m c H z) r h d))
  exact congrArg (fun x : Fin 1536 => own m c (pt z) (ix3 (0 : Fin 1) r x)) (Fin.ext (by show 512 + (colOf h d).val = 512 * 1 + (colOf h d).val; omega))

include H hm hl in
theorem own_real_v (z : Fin 16) (r : Fin 256) (h : Fin 8) (d : Fin 64) :
    own m c (pt z) (ix3 (0 : Fin 1) r (⟨1024 + (colOf h d).val, by omega⟩ : Fin 1536)) = ((∑ i, D.wd z i h d / D.den z h i * D.p z h i r : ℝ) : EReal) := by
  have e := outQKV_apply (iblk m c 0 (pt z)) (iblk m c 1 (pt z)) (iblk m c 2 (pt z)) (iblk m c 3 (pt z)) (iblk m c 4 (pt z)) (iblk m c 5 (pt z)) (iblk m c 6 (pt z)) (iblk m c 7 (pt z)) 2 r h d
  refine Eq.trans ?_ (e.trans (blkV_real (blocks m c H hm hl z) (entries m c H z) r h d))
  exact congrArg (fun x : Fin 1536 => own m c (pt z) (ix3 (0 : Fin 1) r x)) (Fin.ext (by show 1024 + (colOf h d).val = 512 * 2 + (colOf h d).val; omega))

include H hm hl in
/-- The table of half 0. -/
theorem table0_real (p : Fin 4) (s : Fin 256) (j : Fin 256) :
    (table0 m c (ix3 p s j) : EReal) = ((∑ z, D.g z ⟨2 * p.val + s.val / 128, by omega⟩ ⟨0 + s.val % 128, by omega⟩ j : ℝ) : EReal) := by
  unfold table0
  refine sum_of fun z => ?_
  unfold add
  rw [iblk_6, V_124_slot m c H]
  exact grd_real (blocks m c H hm hl z) _ _ _

include H hm hl in
/-- The table of half 1. -/
theorem table1_real (p : Fin 4) (s : Fin 256) (j : Fin 256) :
    (table1 m c (ix3 p s j) : EReal) = ((∑ z, D.g z ⟨2 * p.val + s.val / 128, by omega⟩ ⟨128 + s.val % 128, by omega⟩ j : ℝ) : EReal) := by
  unfold table1
  refine sum_of fun z => ?_
  unfold add
  rw [iblk_7, V_125_slot m c H]
  exact grd_real (blocks m c H hm hl z) _ _ _

end Cert.Attn
-- ==== Proof.Finite.lean ====
module

public import proofs.«01_k».proof.Proof.RefReal
public import proofs.«01_k».proof.Pre_finite
public import Idealize.ShloMosaic.Lib.ReduceAll
public import Idealize.ShloMosaic.Lib.Affine

@[expose] public section
set_option maxRecDepth 16384

/-! Where every input is finite, the inputs are reals, the row maxima are reals, and a row's maximum is attained:
    what the reading of the reference asks for. -/

noncomputable section
namespace Cert.Attn
open Cert.ReferenceIdeal Cert.ReferenceIdeal.Gen Cert.ReferenceIdeal.Read Idealize.ShloMosaic Idealize.ShloMosaic.TcCoe Idealize.SL.Sem
open Idealize.ShloMosaic.ValueIdx

/-- An extended real that is a real. -/
def IsReal (x : EReal) : Prop := x = ((x.toReal : ℝ) : EReal)

theorem isReal_of {x : EReal} (h : x ≠ ⊤) (h' : x ≠ ⊥) : IsReal x := (EReal.coe_toReal h h').symm
theorem isReal_coe (r : ℝ) : IsReal (r : EReal) := by unfold IsReal; rw [EReal.toReal_coe]

/-- The word `0x7F800000` is plus infinity. -/
theorem word_top : Ideal.ofBits .f32 0x7F800000#32 = ⊤ := by
  simp [Ideal.ofBits, Ideal.ieee]

/-- A value whose magnitude compares below infinity is a real. -/
theorem isReal_of_cmp {x : Ideal .f32} (h : FloatOps.cmpf (F := Ideal) (φ := .f32) .olt (FloatOps.hostAbsf (F := Ideal) (φ := .f32) x) (Ideal.ofBits .f32 0x7F800000#32) = 1#1) :
    IsReal x := by
  rw [word_top] at h
  have h' : BitVec.ofBool (decide (max x (-x) < (⊤ : EReal))) = 1#1 := h
  have h2 : max x (-x) < (⊤ : EReal) := by
    by_contra hn
    rw [decide_eq_false hn] at h'
    exact absurd h' (by decide)
  refine isReal_of (fun e => ?_) (fun e => ?_)
  · rw [e] at h2; exact absurd h2 (by simp)
  · rw [e] at h2; exact absurd h2 (by simp)

instance : Subsingleton (Cert.Pre_finite.S_).Idx := ⟨fun a b => funext fun i => i.elim0⟩

section
variable [Cert.Pre_finite.Facts]
variable (x0 : FVec Ideal S4096x4608 .bf16) (x1 x2 : FVec Ideal S16x256x8x64 .f32) (x3 x4 : FVec Ideal S16x256x8 .f32)
variable (x5 : FVec Ideal S32x24 .f32) (x6 : FVec Ideal S4096x512 .bf16) (x7 : FVec Ideal S4096x4608 .bf16)

/-- The inputs are reals: the columns of the activations that hold q, k and v, and the columns of the biases that
    this scale reads. -/
structure Reals : Prop where
  x0 : ∀ y : S4096x4608.Idx, 3072 ≤ (y 1).val → IsReal (x0 y)
  x1 : ∀ y, IsReal (x1 y)
  x2 : ∀ y, IsReal (x2 y)
  x3 : ∀ y, IsReal (x3 y)
  x4 : ∀ y, IsReal (x4 y)
  x5 : ∀ y : S32x8.Idx, IsReal (val_main_v29 (F := Ideal) x5 y)
  x6 : ∀ y, IsReal (x6 y)

theorem reals_of (h : Cert.Pre_finite.fn (F := Ideal) x0 x1 x2 x3 x4 x5 x6 x7 = fun _ => 1#1) : Reals x0 x1 x2 x3 x4 x5 x6 := by
  have h := congrFun h (ix0)
  unfold Cert.Pre_finite.fn Cert.Pre_finite.fn_part1 Cert.Pre_finite.fn_part2 at h
  dsimp only at h
  have split : ∀ (a b : IVec Cert.Pre_finite.S_ 1) (i), andi a b i = 1#1 → a i = 1#1 ∧ b i = 1#1 :=
    fun a b i e => IntOp.andi_eq_one.mp e
  obtain ⟨h, e6⟩ := split _ _ _ h
  obtain ⟨h, e5⟩ := split _ _ _ h
  obtain ⟨h, e4⟩ := split _ _ _ h
  obtain ⟨h, e3⟩ := split _ _ _ h
  obtain ⟨h, e2⟩ := split _ _ _ h
  obtain ⟨e0, e1⟩ := split _ _ _ h
  refine ⟨fun y hy => ?_, fun y => ?_, fun y => ?_, fun y => ?_, fun y => ?_, fun y => ?_, fun y => ?_⟩
  · have h1 : (y 1).val < 4608 := (y 1).isLt
    have e := Host.reduce_andi_all _ _ _ _ _ e0 (ix2 (y 0) ⟨(y 1).val - 3072, by show _ < 1536; omega⟩ : Cert.Pre_finite.S4096x1536.Idx)
    have r := isReal_of_cmp e
    have w := extractStridedSlice_apply (t := Cert.Pre_finite.S4096x1536) ![0, 3072] x0 Cert.Pre_finite.Facts.slices_S4096x4608_S4096x1536_0_3072
      (ix2 (y 0) ⟨(y 1).val - 3072, by show _ < 1536; omega⟩) y (fun a => match a with
        | ⟨0, _⟩ => by show (y 0).val = 0 + (y 0).val; omega
        | ⟨1, _⟩ => by show (y 1).val = 3072 + ((y 1).val - 3072); omega)
    exact w ▸ r
  · exact isReal_of_cmp (Host.reduce_andi_all _ _ _ _ _ e1 y)
  · exact isReal_of_cmp (Host.reduce_andi_all _ _ _ _ _ e2 y)
  · exact isReal_of_cmp (Host.reduce_andi_all _ _ _ _ _ e3 y)
  · exact isReal_of_cmp (Host.reduce_andi_all _ _ _ _ _ e4 y)
  · exact isReal_of_cmp (Host.reduce_andi_all _ _ _ _ _ e5 y)
  · exact isReal_of_cmp (Host.reduce_andi_all _ _ _ _ _ e6 y)
end

/-! ## Maxima -/

/-- A maximum over a finite index from minus infinity is one of the values and above every one. -/
theorem fold_max {n : Nat} (hn : 0 < n) (f : Fin n → EReal) :
    (∃ k, (Finset.univ : Finset (Fin n)).fold (FloatOps.maximumf (F := Ideal) (φ := .f32)) (⊥ : EReal) f = f k)
      ∧ ∀ k, f k ≤ (Finset.univ : Finset (Fin n)).fold (FloatOps.maximumf (F := Ideal) (φ := .f32)) (⊥ : EReal) f := by
  have e : (Finset.univ : Finset (Fin n)).fold (FloatOps.maximumf (F := Ideal) (φ := .f32)) (⊥ : EReal) f = Finset.univ.sup f := rfl
  rw [e]
  refine ⟨?_, fun k => Finset.le_sup (Finset.mem_univ k)⟩
  obtain ⟨k, _, hk⟩ := Finset.exists_mem_eq_sup Finset.univ ⟨(⟨0, hn⟩ : Fin n), Finset.mem_univ _⟩ f
  exact ⟨k, hk⟩

section
variable {D : Data}
variable {x0 : FVec Ideal S4096x4608 .bf16} {x1 x2 : FVec Ideal S16x256x8x64 .f32} {x3 x4 : FVec Ideal S16x256x8 .f32}
variable {x5 : FVec Ideal S32x24 .f32} {x6 : FVec Ideal S4096x512 .bf16}

/-- A token attends to itself. -/
theorem diag_on (i : Fin 256) : val_main_v7 (F := Ideal) (ix2 i i) = 1#1 := by
  rw [val_main_v7_apply, val_main_v4_apply, val_main_v6_apply, val_main_v3_apply, val_main_v5_apply, val_main_v2_apply,
    val_main_v0_apply, val_main_v1_apply]
  have e : IntOp.subi (BitVec.ofNat 32 ((ix2 i i : S256x256.Idx) 0).val) (BitVec.ofNat 32 ((ix2 i i : S256x256.Idx) 1).val) = 0#32 := by
    show BitVec.ofNat 32 i.val - BitVec.ofNat 32 i.val = 0#32
    exact BitVec.sub_self _
  rw [e]
  show IntOp.andi (IntOp.cmpi .sge 0#32 0#32) (IntOp.cmpi .sle 0#32 128#32) = 1#1
  decide

/-- The inputs as real numbers; the maxima are put in later. -/
def data0 (x0 : FVec Ideal S4096x4608 .bf16) (x1 x2 : FVec Ideal S16x256x8x64 .f32) (x3 x4 : FVec Ideal S16x256x8 .f32)
    (x5 : FVec Ideal S32x24 .f32) (x6 : FVec Ideal S4096x512 .bf16) : Data where
  q z i h d := EReal.toReal (val_main_v40 (F := Ideal) x0 (ix4 z i h d))
  k z i h d := EReal.toReal (val_main_v43 (F := Ideal) x0 (ix4 z i h d))
  v z i h d := EReal.toReal (val_main_v46 (F := Ideal) x0 (ix4 z i h d))
  o0 z i h d := EReal.toReal (x1 (ix4 z i h d))
  o1 z i h d := EReal.toReal (x2 (ix4 z i h d))
  l0 z i h := EReal.toReal (x3 (ix3 z i h))
  l1 z i h := EReal.toReal (x4 (ix3 z i h))
  b h i j := EReal.toReal (val_main_v37 (F := Ideal) x5 (ix3 h i j))
  dO z i h d := EReal.toReal (val_main_v124 (F := Ideal) x6 (ix4 z i h d))
  on i j := decide (val_main_v7 (F := Ideal) (ix2 i j) = 1#1)
  diag i := decide_eq_true (diag_on i)
  mx _ _ _ := 0
  lm _ _ _ := 0

theorem at4 {n0 n1 n2 n3 : Nat} (y : (⟨4, ![n0, n1, n2, n3]⟩ : Shape).Idx) : y = ix4 (y 0) (y 1) (y 2) (y 3) :=
  funext fun a => match a with | ⟨0, _⟩ => rfl | ⟨1, _⟩ => rfl | ⟨2, _⟩ => rfl | ⟨3, _⟩ => rfl
theorem at3 {n0 n1 n2 : Nat} (y : (⟨3, ![n0, n1, n2]⟩ : Shape).Idx) : y = ix3 (y 0) (y 1) (y 2) :=
  funext fun a => match a with | ⟨0, _⟩ => rfl | ⟨1, _⟩ => rfl | ⟨2, _⟩ => rfl
theorem at2 {n0 n1 : Nat} (y : (⟨2, ![n0, n1]⟩ : Shape).Idx) : y = ix2 (y 0) (y 1) :=
  funext fun a => match a with | ⟨0, _⟩ => rfl | ⟨1, _⟩ => rfl

/-- A real element is the real number at its coordinates. -/
theorem real4 {n0 n1 n2 n3 : Nat} (f : (⟨4, ![n0, n1, n2, n3]⟩ : Shape).Idx → EReal) (y) (h : IsReal (f y)) :
    f y = ((EReal.toReal (f (ix4 (y 0) (y 1) (y 2) (y 3))) : ℝ) : EReal) := h.trans (congrArg (fun w => ((EReal.toReal (f w) : ℝ) : EReal)) (at4 y))
theorem real3 {n0 n1 n2 : Nat} (f : (⟨3, ![n0, n1, n2]⟩ : Shape).Idx → EReal) (y) (h : IsReal (f y)) :
    f y = ((EReal.toReal (f (ix3 (y 0) (y 1) (y 2))) : ℝ) : EReal) := h.trans (congrArg (fun w => ((EReal.toReal (f w) : ℝ) : EReal)) (at3 y))

theorem inputs0 (R : Reals x0 x1 x2 x3 x4 x5 x6) : Inputs (data0 x0 x1 x2 x3 x4 x5 x6) x0 x1 x2 x3 x4 x5 x6 where
  q y := real4 _ y (by rw [val_main_v40_apply, val_main_v39_apply, val_main_v38_apply]; exact R.x0 _ (Nat.le_add_right _ _))
  k y := real4 _ y (by rw [val_main_v43_apply, val_main_v42_apply, val_main_v41_apply]; exact R.x0 _ (by show 3072 ≤ 3584 + _; omega))
  v y := real4 _ y (by rw [val_main_v46_apply, val_main_v45_apply, val_main_v44_apply]; exact R.x0 _ (by show 3072 ≤ 4096 + _; omega))
  o0 y := real4 _ y (R.x1 y)
  o1 y := real4 _ y (R.x2 y)
  l0 y := real3 _ y (R.x3 y)
  l1 y := real3 _ y (R.x4 y)
  b y := real3 _ y (by rw [val_main_v37_apply]; exact R.x5 _)
  dO y := real4 _ y (by rw [val_main_v124_apply, val_main_v123_apply]; exact R.x6 _)
  on y := (iff_of_eq (congrArg (fun w => val_main_v7 (F := Ideal) w = 1#1) (at2 y))).trans decide_eq_true_iff.symm

/-! ## A row's maximum -/

/-- Column `k` of a row of scores. -/
abbrev colIdx (y : S16x8x256.Idx) (k : Fin 256) : S16x8x256x256.Idx := ix4 (y 0) (y 1) (y 2) k

theorem v55_fold (y : S16x8x256.Idx) :
    (val_main_v55 (F := Ideal) x0 x5 y : EReal) = (Finset.univ : Finset (Fin 256)).fold (FloatOps.maximumf (F := Ideal) (φ := .f32)) (⊥ : EReal)
      (fun k => val_main_v54_0 (F := Ideal) x0 x5 (colIdx y k)) := by
  unfold val_main_v55
  generalize val_main_v54_0 (F := Ideal) x0 x5 = f
  rw [Host.reduce_eq_fold_single (a := 3) _ _ _ _ (by decide) _ y]
  have e : val_main_cst_14 (F := Ideal) (Shape.Idx.first h_S_) = (⊥ : EReal) := word_bot
  rw [e]
  refine congrArg (fun g => (Finset.univ : Finset (Fin 256)).fold (FloatOps.maximumf (F := Ideal) (φ := .f32)) (⊥ : EReal) g) (funext fun k => ?_)
  exact congrArg f (funext fun a => Fin.ext (by match a with | ⟨0, _⟩ => rfl | ⟨1, _⟩ => rfl | ⟨2, _⟩ => rfl | ⟨3, _⟩ => rfl))

theorem v55_real (H : Inputs D x0 x1 x2 x3 x4 x5 x6) (y : S16x8x256.Idx) : IsReal (val_main_v55 (F := Ideal) x0 x5 y) := by
  obtain ⟨⟨k, hk⟩, hle⟩ := fold_max (n := 256) (by decide) (fun k => (val_main_v54_0 (F := Ideal) x0 x5 (colIdx y k) : EReal))
  rw [← v55_fold] at hk
  have hd := hle (y 2)
  rw [← v55_fold] at hd
  have hs := r54_on H (colIdx y (y 2)) (D.diag (y 2))
  refine isReal_of (fun e => ?_) (fun e => ?_)
  · rw [e] at hk
    by_cases h : D.on (y 2) k = true
    · have := r54_on H (colIdx y k) h
      rw [← hk] at this
      exact EReal.top_ne_coe _ this
    · have := r54_off H (colIdx y k) h
      rw [← hk] at this
      exact absurd this (by simp)
  · rw [e, hs] at hd
    exact EReal.coe_ne_bot _ (le_bot_iff.mp hd)

theorem cnt_ne (y : S16x8x256.Idx) : cnt x0 x5 y ≠ 0 := by
  obtain ⟨⟨k, hk⟩, _⟩ := fold_max (n := 256) (by decide) (fun k => (val_main_v54_0 (F := Ideal) x0 x5 (colIdx y k) : EReal))
  rw [← v55_fold] at hk
  have one : val_main_v58 (F := Ideal) x0 x5 (idx_main_v60 y k) = 1#1 := by
    rw [val_main_v58_apply, val_main_v57_apply, val_main_v56_apply]
    have e1 : idx_main_v60 y k = colIdx y k := funext fun a => match a with | ⟨0, _⟩ => rfl | ⟨1, _⟩ => rfl | ⟨2, _⟩ => rfl | ⟨3, _⟩ => rfl
    have e2 : idx_main_v56 (idx_main_v57 (colIdx y k)) = y := funext fun a => by
      have h0 : (y 0).val < 16 := (y 0).isLt
      have h1 : (y 1).val < 8 := (y 1).isLt
      have h2 : (y 2).val < 256 := (y 2).isLt
      match a with
      | ⟨0, _⟩ => exact Fin.ext (by show ((((y 0).val * 8 + (y 1).val) * 256 + (y 2).val) * 1 + 0) / 2048 = (y 0).val; omega)
      | ⟨1, _⟩ => exact Fin.ext (by show ((((y 0).val * 8 + (y 1).val) * 256 + (y 2).val) * 1 + 0) / 256 % 8 = (y 1).val; omega)
      | ⟨2, _⟩ => exact Fin.ext (by show ((((y 0).val * 8 + (y 1).val) * 256 + (y 2).val) * 1 + 0) % 256 = (y 2).val; omega)
    rw [e1, e2, hk]
    show BitVec.ofBool (decide ((_ : EReal) = _)) = 1#1
    rw [decide_eq_true rfl]
    rfl
  unfold cnt
  have pos : (0 : ℝ) < ∑ k : Fin 256, ((val_main_v58 (F := Ideal) x0 x5 (idx_main_v60 y k)).toNat : ℝ) := by
    refine Finset.sum_pos' (fun i _ => Nat.cast_nonneg _) ⟨k, Finset.mem_univ _, ?_⟩
    rw [one]
    exact Nat.cast_pos.mpr (by decide)
  exact ne_of_gt pos

/-- The numbers with the row maxima put in. -/
def withMax (D : Data) (f : Fin 16 → Fin 8 → Fin 256 → ℝ) : Data := { D with mx := f }
/-- The numbers with the maxima of the log-sum-exps put in. -/
def withTop (D : Data) (f : Fin 16 → Fin 256 → Fin 8 → ℝ) : Data := { D with lm := f }

theorem withMax_inputs (f : Fin 16 → Fin 8 → Fin 256 → ℝ) (H : Inputs D x0 x1 x2 x3 x4 x5 x6) : Inputs (withMax D f) x0 x1 x2 x3 x4 x5 x6 :=
  ⟨H.q, H.k, H.v, H.o0, H.o1, H.l0, H.l1, H.b, H.dO, H.on⟩
theorem withTop_inputs (f : Fin 16 → Fin 256 → Fin 8 → ℝ) (H : Inputs D x0 x1 x2 x3 x4 x5 x6) : Inputs (withTop D f) x0 x1 x2 x3 x4 x5 x6 :=
  ⟨H.q, H.k, H.v, H.o0, H.o1, H.l0, H.l1, H.b, H.dO, H.on⟩
theorem withMax_mx (D : Data) (f : S16x8x256.Idx → EReal) (h : ∀ y, IsReal (f y)) (y : S16x8x256.Idx) :
    f y = (((withMax D fun z h i => EReal.toReal (f (ix3 z h i))).mx (y 0) (y 1) (y 2) : ℝ) : EReal) := real3 f y (h y)
theorem withTop_lm (D : Data) (f : S16x256x8.Idx → EReal) (h : ∀ y, IsReal (f y)) (y : S16x256x8.Idx) :
    f y = (((withTop D fun z i h => EReal.toReal (f (ix3 z i h))).lm (y 0) (y 1) (y 2) : ℝ) : EReal) := real3 f y (h y)
theorem withTop_mx (D : Data) (f : Fin 16 → Fin 256 → Fin 8 → ℝ) (g : S16x8x256.Idx → EReal)
    (h : ∀ y, g y = ((D.mx (y 0) (y 1) (y 2) : ℝ) : EReal)) (y : S16x8x256.Idx) :
    g y = (((withTop D f).mx (y 0) (y 1) (y 2) : ℝ) : EReal) := h y

theorem v85_fold (y : S16x256x8.Idx) :
    (val_main_v85 (F := Ideal) x0 x3 x4 x5 y : EReal) = (Finset.univ : Finset (Fin 3)).fold (FloatOps.maximumf (F := Ideal) (φ := .f32)) (⊥ : EReal)
      (fun k => val_main_v82 (F := Ideal) x0 x3 x4 x5 (ix4 k (y 0) (y 1) (y 2))) := by
  unfold val_main_v85
  generalize val_main_v82 (F := Ideal) x0 x3 x4 x5 = f
  rw [Host.reduce_eq_fold_single (a := 0) _ _ _ _ (by decide) _ y]
  have e : val_main_cst_20 (F := Ideal) (Shape.Idx.first h_S_) = (⊥ : EReal) := word_bot
  rw [e]
  refine congrArg (fun g => (Finset.univ : Finset (Fin 3)).fold (FloatOps.maximumf (F := Ideal) (φ := .f32)) (⊥ : EReal) g) (funext fun k => ?_)
  exact congrArg f (funext fun a => Fin.ext (by match a with | ⟨0, _⟩ => rfl | ⟨1, _⟩ => rfl | ⟨2, _⟩ => rfl | ⟨3, _⟩ => rfl))

theorem v92_real (H : Inputs D x0 x1 x2 x3 x4 x5 x6)
    (hm : ∀ y, (val_main_v55 (F := Ideal) x0 x5 y : EReal) = ((D.mx (y 0) (y 1) (y 2) : ℝ) : EReal)) (y : S16x256x8.Idx) : IsReal (val_main_v92 (F := Ideal) x0 x3 x4 x5 y) := by
  have e91 : (val_main_v91 (F := Ideal) y : EReal) = ⊥ := (val_main_v91_apply y).trans word_bot
  have e : (val_main_v92 (F := Ideal) x0 x3 x4 x5 y : EReal) = val_main_v85 (F := Ideal) x0 x3 x4 x5 y := by
    rw [val_main_v92_apply]
    show max (val_main_v91 (F := Ideal) y : EReal) _ = _
    rw [e91]
    exact max_eq_right bot_le
  rw [e]
  obtain ⟨⟨k, hk⟩, _⟩ := fold_max (n := 3) (by decide) (fun k => (val_main_v82 (F := Ideal) x0 x3 x4 x5 (ix4 k (y 0) (y 1) (y 2)) : EReal))
  rw [← v85_fold] at hk
  rw [hk, r82 H hm]
  exact isReal_coe _

/-- Real numbers that the inputs and the two kinds of maximum are. -/
theorem exists_data (R : Reals x0 x1 x2 x3 x4 x5 x6) : ∃ D : Data, Inputs D x0 x1 x2 x3 x4 x5 x6
    ∧ (∀ y, (val_main_v55 (F := Ideal) x0 x5 y : EReal) = ((D.mx (y 0) (y 1) (y 2) : ℝ) : EReal))
    ∧ ∀ y, (val_main_v92 (F := Ideal) x0 x3 x4 x5 y : EReal) = ((D.lm (y 0) (y 1) (y 2) : ℝ) : EReal) := by
  have H0 := inputs0 R
  have h55 := v55_real H0
  have hm := withMax_mx (data0 x0 x1 x2 x3 x4 x5 x6) _ h55
  have H1 := withMax_inputs (fun z h i => EReal.toReal (val_main_v55 (F := Ideal) x0 x5 (ix3 z h i))) H0
  generalize withMax (data0 x0 x1 x2 x3 x4 x5 x6) (fun z h i => EReal.toReal (val_main_v55 (F := Ideal) x0 x5 (ix3 z h i))) = D at hm H1
  have h92 := v92_real H1 hm
  exact ⟨_, withTop_inputs _ H1, withTop_mx D _ _ hm, withTop_lm D _ h92⟩
end

end Cert.Attn
-- ==== Proof.Equation.lean ====
module

public import proofs.«01_k».proof.Proof.KernelReal
public import proofs.«01_k».proof.Proof.Finite

@[expose] public section
set_option maxRecDepth 16384

/-! The three results of the kernel are the three results of the reference. -/

noncomputable section
namespace Cert.Attn
open Cert.KernelIdeal Cert.KernelIdeal.Gen Idealize.ShloMosaic Idealize.ShloMosaic.TcCoe Idealize.SL.Sem
open Idealize.ShloMosaic.ValueIdx
open Cert.ReferenceIdeal.Read

/-! ## The reference's arrangement of its results -/
section
variable {x0 : FVec Ideal S4096x4608 .bf16} {x1 x2 : FVec Ideal S16x256x8x64 .f32} {x3 x4 : FVec Ideal S16x256x8 .f32}
variable {x5 : FVec Ideal S32x24 .f32} {x6 : FVec Ideal S4096x512 .bf16} {x7 : FVec Ideal S4096x4608 .bf16}

/-- One of three arrays side by side. -/
theorem cat3_apply (f0 f1 f2 : Cert.ReferenceIdeal.S16x256x512.Idx → EReal) (n : Fin 3) (z : Fin 16) (r : Fin 256) (x : Fin 512) :
    concatenate Cert.ReferenceIdeal.S16x256x1536 2 [⟨Cert.ReferenceIdeal.S16x256x512, f0⟩, ⟨Cert.ReferenceIdeal.S16x256x512, f1⟩, ⟨Cert.ReferenceIdeal.S16x256x512, f2⟩]
      Cert.ReferenceIdeal.Gen.concatenates_S16x256x512_S16x256x512_S16x256x512_S16x256x1536_d2 (ix3 z r (⟨512 * n.val + x.val, by omega⟩ : Fin 1536))
      = (![f0, f1, f2] n) (ix3 z r x) := by
  refine concatenate_ofFn_apply (t := Cert.ReferenceIdeal.S16x256x1536) (s₁ := Cert.ReferenceIdeal.S16x256x512) 2 ![f0, f1, f2]
    Cert.ReferenceIdeal.Gen.concatenates_S16x256x512_S16x256x512_S16x256x512_S16x256x1536_d2 rfl 512 rfl _ n ?_ (ix3 z r x) ?_ ?_
  · show (512 * n.val + x.val) / 512 = n.val
    omega
  · show x.val = (512 * n.val + x.val) % 512
    omega
  · intro b hb
    match b with
    | ⟨0, _⟩ => rfl
    | ⟨1, _⟩ => rfl
    | ⟨2, _⟩ => exact absurd rfl hb

/-- The columns from 3072 of the first result. -/
theorem v203_high (z : Fin 16) (r : Fin 256) (x : Fin 1536) :
    val_main_v203 (F := Ideal) x0 x1 x2 x3 x4 x5 x6 x7 (ix3 z r (⟨3072 + x.val, by omega⟩ : Fin 4608))
      = val_main_v202 (F := Ideal) x0 x1 x2 x3 x4 x5 x6 (ix3 z r x) := by
  unfold val_main_v203
  generalize val_main_v202 (F := Ideal) x0 x1 x2 x3 x4 x5 x6 = f
  refine concatenate_pair_apply_right (t := Cert.ReferenceIdeal.S16x256x4608) (s₁ := Cert.ReferenceIdeal.S16x256x3072) (s₂ := Cert.ReferenceIdeal.S16x256x1536) 2 (val_main_v201 (F := Ideal) x7) f _ _ rfl rfl (ix3 z r x) (fun b hb => ?_) ?_
  · match b with
    | ⟨0, _⟩ => rfl
    | ⟨1, _⟩ => rfl
    | ⟨2, _⟩ => exact absurd rfl hb
  · show x.val + 3072 = 3072 + x.val
    omega

/-- The columns before 3072 of the first result. -/
theorem v203_low (z : Fin 16) (r : Fin 256) (x : Fin 4608) (hx : x.val < 3072) :
    val_main_v203 (F := Ideal) x0 x1 x2 x3 x4 x5 x6 x7 (ix3 z r x) = val_main_v200 (F := Ideal) x7 (ix3 z r x) := by
  have e : val_main_v203 (F := Ideal) x0 x1 x2 x3 x4 x5 x6 x7 (ix3 z r x) = val_main_v201 (F := Ideal) x7 (ix3 z r (⟨x.val, hx⟩ : Fin 3072)) := by
    unfold val_main_v203
    generalize val_main_v202 (F := Ideal) x0 x1 x2 x3 x4 x5 x6 = f
    refine concatenate_pair_apply_left (t := Cert.ReferenceIdeal.S16x256x4608) (s₁ := Cert.ReferenceIdeal.S16x256x3072) (s₂ := Cert.ReferenceIdeal.S16x256x1536) 2 (val_main_v201 (F := Ideal) x7) f _ _ rfl (ix3 z r (⟨x.val, hx⟩ : Fin 3072)) (fun b => ?_)
    match b with
    | ⟨0, _⟩ => rfl
    | ⟨1, _⟩ => rfl
    | ⟨2, _⟩ => rfl
  rw [e, val_main_v201_apply]
  exact congrArg (val_main_v200 (F := Ideal) x7) (funext fun a => by match a with | ⟨0, _⟩ => rfl | ⟨1, _⟩ => rfl | ⟨2, _⟩ => rfl)

/-- The position of a head's column in the split arrays. -/
theorem split_at (z : Fin 16) (r : Fin 256) (h : Fin 8) (d : Fin 64) : idx_main_v196 (ix3 z r (colOf h d)) = ix4 z r h d := by
  have hz := z.isLt; have hr := r.isLt; have hh := h.isLt; have hd := d.isLt
  funext a
  refine Fin.ext ?_
  match a with
  | ⟨0, _⟩ => show ((z.val * 256 + r.val) * 512 + (64 * h.val + d.val)) / 131072 = z.val; omega
  | ⟨1, _⟩ => show ((z.val * 256 + r.val) * 512 + (64 * h.val + d.val)) / 512 % 256 = r.val; omega
  | ⟨2, _⟩ => show ((z.val * 256 + r.val) * 512 + (64 * h.val + d.val)) / 64 % 8 = h.val; omega
  | ⟨3, _⟩ => show ((z.val * 256 + r.val) * 512 + (64 * h.val + d.val)) % 64 = d.val; omega

/-- One of the three gradients in the columns from 3072. -/
theorem v202_at (n : Fin 3) (z : Fin 16) (r : Fin 256) (x : Fin 512) :
    val_main_v202 (F := Ideal) x0 x1 x2 x3 x4 x5 x6 (ix3 z r (⟨512 * n.val + x.val, by omega⟩ : Fin 1536))
      = (![val_main_v196 (F := Ideal) x0 x1 x2 x3 x4 x5 x6, val_main_v197 (F := Ideal) x0 x1 x2 x3 x4 x5 x6, val_main_v198 (F := Ideal) x0 x3 x4 x5 x6] n) (ix3 z r x) := by
  rw [val_main_v202_apply]
  unfold val_main_v199
  generalize val_main_v196 (F := Ideal) x0 x1 x2 x3 x4 x5 x6 = f0
  generalize val_main_v197 (F := Ideal) x0 x1 x2 x3 x4 x5 x6 = f1
  generalize val_main_v198 (F := Ideal) x0 x3 x4 x5 x6 = f2
  exact cat3_apply f0 f1 f2 n z r x

theorem v203_q (z : Fin 16) (r : Fin 256) (h : Fin 8) (d : Fin 64) (x : Fin 4608) (hx : x.val = 3072 + (colOf h d).val) :
    val_main_v203 (F := Ideal) x0 x1 x2 x3 x4 x5 x6 x7 (ix3 z r x) = val_main_v195 (F := Ideal) x0 x1 x2 x3 x4 x5 x6 (ix4 z r h d) := by
  have e := v203_high (x0 := x0) (x1 := x1) (x2 := x2) (x3 := x3) (x4 := x4) (x5 := x5) (x6 := x6) (x7 := x7) z r (⟨512 * (0 : Fin 3).val + (colOf h d).val, by show 512 * 0 + _ < _; omega⟩ : Fin 1536)
  have ex : x = (⟨3072 + (512 * (0 : Fin 3).val + (colOf h d).val), by show 3072 + (512 * 0 + _) < _; omega⟩ : Fin 4608) :=
    Fin.ext (by show x.val = 3072 + (512 * 0 + (colOf h d).val); omega)
  rw [ex, ← split_at z r h d]
  refine e.trans ((v202_at (0 : Fin 3) z r (colOf h d)).trans ((three_0 _ _ _ _).trans ?_))
  exact val_main_v196_apply _ _ _ _ _ _ _ _

theorem v203_k (z : Fin 16) (r : Fin 256) (h : Fin 8) (d : Fin 64) (x : Fin 4608) (hx : x.val = 3072 + (512 + (colOf h d).val)) :
    val_main_v203 (F := Ideal) x0 x1 x2 x3 x4 x5 x6 x7 (ix3 z r x) = val_main_v193 (F := Ideal) x0 x1 x2 x3 x4 x5 x6 (ix4 z r h d) := by
  have e := v203_high (x0 := x0) (x1 := x1) (x2 := x2) (x3 := x3) (x4 := x4) (x5 := x5) (x6 := x6) (x7 := x7) z r (⟨512 * (1 : Fin 3).val + (colOf h d).val, by show 512 * 1 + _ < _; omega⟩ : Fin 1536)
  have ex : x = (⟨3072 + (512 * (1 : Fin 3).val + (colOf h d).val), by show 3072 + (512 * 1 + _) < _; omega⟩ : Fin 4608) :=
    Fin.ext (by show x.val = 3072 + (512 * 1 + (colOf h d).val); omega)
  rw [ex, ← split_at z r h d]
  refine e.trans ((v202_at (1 : Fin 3) z r (colOf h d)).trans ((three_1 _ _ _ _).trans ?_))
  exact val_main_v197_apply _ _ _ _ _ _ _ _

theorem v203_v (z : Fin 16) (r : Fin 256) (h : Fin 8) (d : Fin 64) (x : Fin 4608) (hx : x.val = 3072 + (1024 + (colOf h d).val)) :
    val_main_v203 (F := Ideal) x0 x1 x2 x3 x4 x5 x6 x7 (ix3 z r x) = val_main_v173 (F := Ideal) x0 x3 x4 x5 x6 (ix4 z r h d) := by
  have e := v203_high (x0 := x0) (x1 := x1) (x2 := x2) (x3 := x3) (x4 := x4) (x5 := x5) (x6 := x6) (x7 := x7) z r (⟨512 * (2 : Fin 3).val + (colOf h d).val, by show 512 * 2 + _ < _; omega⟩ : Fin 1536)
  have ex : x = (⟨3072 + (512 * (2 : Fin 3).val + (colOf h d).val), by show 3072 + (512 * 2 + _) < _; omega⟩ : Fin 4608) :=
    Fin.ext (by show x.val = 3072 + (512 * 2 + (colOf h d).val); omega)
  rw [ex, ← split_at z r h d]
  refine e.trans ((v202_at (2 : Fin 3) z r (colOf h d)).trans ((three_2 _ _ _ _).trans ?_))
  exact val_main_v198_apply _ _ _ _ _ _

end

/-! ## The three results -/

variable (m : (ℓ : Loc nD τ sig) → Buf (Elt Ideal) ℓ) (c : Dev nD)
variable {D : Data}
variable (H : Inputs D (A m c main_arg0) (A m c main_arg1) (A m c main_arg2) (A m c main_arg3) (A m c main_arg4) (A m c main_arg5) (A m c main_arg6))
variable (hm : ∀ y, (val_main_v55 (F := Ideal) (A m c main_arg0) (A m c main_arg5) y : EReal) = ((D.mx (y 0) (y 1) (y 2) : ℝ) : EReal))
variable (hl : ∀ y, (val_main_v92 (F := Ideal) (A m c main_arg0) (A m c main_arg3) (A m c main_arg4) (A m c main_arg5) y : EReal) = ((D.lm (y 0) (y 1) (y 2) : ℝ) : EReal))

include H hm hl in
/-- The gradients of the queries, the keys and the values, in the array the call is given. -/
theorem equation_out : ((dats m 0 c).arrAt 8 cfg0.N : FVec Ideal S16x256x4608 .bf16)
    = val_main_v203 (F := Ideal) (A m c main_arg0) (A m c main_arg1) (A m c main_arg2) (A m c main_arg3) (A m c main_arg4) (A m c main_arg5) (A m c main_arg6) (A m c main_arg7) := by
  have hc := fun y => cnt_ne (x0 := A m c main_arg0) (x5 := A m c main_arg5) y
  refine funext fun y => ?_
  obtain ⟨z, r, x, rfl⟩ : ∃ (z : Fin 16) (r : Fin 256) (x : Fin 4608), y = ix3 z r x := ⟨y 0, y 1, y 2, at3 y⟩
  by_cases hx : x.val < 3072
  · refine (final_kept m c z r x hx).trans (Eq.trans ?_ (v203_low z r x hx).symm)
    rw [V_out]
    rfl
  · have hxl := x.isLt
    have e := fun w => final_own m c z r w
    by_cases h1 : x.val < 3584
    · obtain ⟨h, d, hd⟩ : ∃ (h : Fin 8) (d : Fin 64), x.val = 3072 + (colOf h d).val :=
        ⟨⟨(x.val - 3072) / 64, by omega⟩, ⟨(x.val - 3072) % 64, by omega⟩, by
          show x.val = 3072 + (64 * ((x.val - 3072) / 64) + (x.val - 3072) % 64); omega⟩
      rw [v203_q z r h d x hd]
      refine Eq.trans ?_ ((own_real_q m c H hm hl z r h d).trans (r195 H hm hl hc (ix4 z r h d)).symm)
      rw [← e]
      exact congrArg (fun w : Fin 4608 => ((dats m 0 c).arrAt 8 cfg0.N : FVec Ideal S16x256x4608 .bf16) (ix3 z r w)) (Fin.ext hd)
    · by_cases h2 : x.val < 4096
      · obtain ⟨h, d, hd⟩ : ∃ (h : Fin 8) (d : Fin 64), x.val = 3072 + (512 + (colOf h d).val) :=
          ⟨⟨(x.val - 3584) / 64, by omega⟩, ⟨(x.val - 3584) % 64, by omega⟩, by
            show x.val = 3072 + (512 + (64 * ((x.val - 3584) / 64) + (x.val - 3584) % 64)); omega⟩
        rw [v203_k z r h d x hd]
        refine Eq.trans ?_ ((own_real_k m c H hm hl z r h d).trans (r193 H hm hl hc (ix4 z r h d)).symm)
        rw [← e]
        exact congrArg (fun w : Fin 4608 => ((dats m 0 c).arrAt 8 cfg0.N : FVec Ideal S16x256x4608 .bf16) (ix3 z r w)) (Fin.ext hd)
      · obtain ⟨h, d, hd⟩ : ∃ (h : Fin 8) (d : Fin 64), x.val = 3072 + (1024 + (colOf h d).val) :=
          ⟨⟨(x.val - 4096) / 64, by omega⟩, ⟨(x.val - 4096) % 64, by omega⟩, by
            show x.val = 3072 + (1024 + (64 * ((x.val - 4096) / 64) + (x.val - 4096) % 64)); omega⟩
        rw [v203_v z r h d x hd]
        refine Eq.trans ?_ ((own_real_v m c H hm hl z r h d).trans (r173 H hm hl (ix4 z r h d)).symm)
        rw [← e]
        exact congrArg (fun w : Fin 4608 => ((dats m 0 c).arrAt 8 cfg0.N : FVec Ideal S16x256x4608 .bf16) (ix3 z r w)) (Fin.ext hd)

include H hm hl in
/-- The first half of the gradient of the bias. -/
theorem equation_tab0 : ((dats m 0 c).arrAt 9 cfg0.N : FVec Ideal S4x256x256 .f32)
    = val_main_v205 (F := Ideal) (A m c main_arg0) (A m c main_arg1) (A m c main_arg2) (A m c main_arg3) (A m c main_arg4) (A m c main_arg5) (A m c main_arg6) := by
  have hc := fun y => cnt_ne (x0 := A m c main_arg0) (x5 := A m c main_arg5) y
  rw [final_tab0]
  refine funext fun y => ?_
  obtain ⟨p, s, j, rfl⟩ : ∃ (p : Fin 4) (s : Fin 256) (j : Fin 256), y = ix3 p s j := ⟨y 0, y 1, y 2, at3 y⟩
  have hp := p.isLt; have hs := s.isLt; have hj := j.isLt
  rw [val_main_v205_apply, val_main_v204_apply]
  refine (table0_real m c H hm hl p s j).trans (Eq.trans ?_ (r189 H hm hl hc _).symm)
  have e : idx_main_v204 (idx_main_v205 (ix3 p s j)) = ix3 (⟨2 * p.val + s.val / 128, by omega⟩ : Fin 8) (⟨0 + s.val % 128, by omega⟩ : Fin 256) j := by
    funext a
    refine Fin.ext ?_
    match a with
    | ⟨0, _⟩ => show ((p.val * 256 + s.val) * 256 + j.val) / 32768 = 2 * p.val + s.val / 128; omega
    | ⟨1, _⟩ => show ((p.val * 256 + s.val) * 256 + j.val) / 256 % 128 = 0 + s.val % 128; omega
    | ⟨2, _⟩ => show ((p.val * 256 + s.val) * 256 + j.val) % 256 = j.val; omega
  rw [e]

include H hm hl in
/-- The second half of the gradient of the bias. -/
theorem equation_tab1 : ((dats m 0 c).arrAt 10 cfg0.N : FVec Ideal S4x256x256 .f32)
    = val_main_v207 (F := Ideal) (A m c main_arg0) (A m c main_arg1) (A m c main_arg2) (A m c main_arg3) (A m c main_arg4) (A m c main_arg5) (A m c main_arg6) := by
  have hc := fun y => cnt_ne (x0 := A m c main_arg0) (x5 := A m c main_arg5) y
  rw [final_tab1]
  refine funext fun y => ?_
  obtain ⟨p, s, j, rfl⟩ : ∃ (p : Fin 4) (s : Fin 256) (j : Fin 256), y = ix3 p s j := ⟨y 0, y 1, y 2, at3 y⟩
  have hp := p.isLt; have hs := s.isLt; have hj := j.isLt
  rw [val_main_v207_apply, val_main_v206_apply]
  refine (table1_real m c H hm hl p s j).trans (Eq.trans ?_ (r189 H hm hl hc _).symm)
  have e : idx_main_v206 (idx_main_v207 (ix3 p s j)) = ix3 (⟨2 * p.val + s.val / 128, by omega⟩ : Fin 8) (⟨128 + s.val % 128, by omega⟩ : Fin 256) j := by
    funext a
    refine Fin.ext ?_
    match a with
    | ⟨0, _⟩ => show ((p.val * 256 + s.val) * 256 + j.val) / 32768 = 2 * p.val + s.val / 128; omega
    | ⟨1, _⟩ => show 128 + ((p.val * 256 + s.val) * 256 + j.val) / 256 % 128 = 128 + s.val % 128; omega
    | ⟨2, _⟩ => show ((p.val * 256 + s.val) * 256 + j.val) % 256 = j.val; omega
  rw [e]

end Cert.Attn
end
end
-- ==== Proof.Result.lean ====
module

public import proofs.«01_k».proof.Defs
public import proofs.«01_k».proof.Proof.Equation
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read

@[expose] public section
set_option maxRecDepth 16384

/-! The claims about the attention's backward call. -/

noncomputable section
namespace Cert.Attn
open Idealize.ShloMosaic Idealize.ShloMosaic.TcCoe Idealize.SL.Sem Idealize.ShloMosaic.StableHlo
open Cert.ReferenceIdeal.Read

/-- What the predicate of finite inputs states of its shapes. -/
theorem pre_facts : Cert.Pre_finite.Facts where
  slices_S4096x4608_S4096x1536_0_3072 := by decide
  bitsLt_bf16_f32 := by decide
  bcast_S_S4096x1536 := by decide
  reducesTo_S4096x1536_S_d0_1 := by decide
  h_S_ := by decide
  bcast_S_S16x256x8x64 := by decide
  reducesTo_S16x256x8x64_S_d0_1_2_3 := by decide
  bcast_S_S16x256x8 := by decide
  reducesTo_S16x256x8_S_d0_1_2 := by decide
  slices_S32x24_S32x8_0_16 := by decide
  bcast_S_S32x8 := by decide
  reducesTo_S32x8_S_d0_1 := by decide
  bcast_S_S4096x512 := by decide
  reducesTo_S4096x512_S_d0_1 := by decide

/-- The reference runs, keeps its arguments and declares no semaphore. -/
theorem reference_frame : Cert.quiescent_ReferenceIdeal := by
  intro m g _
  exact (θ_run Cert.ReferenceIdeal.defs _ _).mono (fun r h => ⟨fun c => (h c).2.2.2,
    Idealize.ShloMosaic.sem_eq_zero_of_no_sems (by decide) r.2⟩) (Cert.ReferenceIdeal.Value.run (F := Ideal) m g)

/-- The kernel's three results are the reference's, where the inputs are finite. -/
theorem algebraic (hP : Cert.Pre_finite.Facts) :
    Cert.algebraic_KernelIdeal_ReferenceIdeal_pre_finite (hPre_finite := hP) := by
  intro m g m' g' hpre hagree
  refine ⟨fun c => (Cert.KernelIdeal.Gen.dats m 0 c).arrAt 8 Cert.KernelIdeal.cfg0.N, fun c => (Cert.KernelIdeal.Gen.dats m 0 c).arrAt 9 Cert.KernelIdeal.cfg0.N,
    fun c => (Cert.KernelIdeal.Gen.dats m 0 c).arrAt 10 Cert.KernelIdeal.cfg0.N, Cert.KernelIdeal.Value.run_blocks m g,
    (θ_run Cert.ReferenceIdeal.defs _ _).mono (fun r h c => ?_) (Cert.ReferenceIdeal.Value.run (F := Ideal) m' g')⟩
  obtain ⟨D, H, hm, hl⟩ := exists_data (reals_of _ _ _ _ _ _ _ _ (hpre c))
  obtain ⟨a0, a1, a2, a3, a4, a5, a6, a7⟩ := hagree c
  have b0 : launchContents m' c (Proc.devRef .tc Cert.ReferenceIdeal.main_arg0) = A m c Cert.KernelIdeal.main_arg0 := a0
  have b1 : launchContents m' c (Proc.devRef .tc Cert.ReferenceIdeal.main_arg1) = A m c Cert.KernelIdeal.main_arg1 := a1
  have b2 : launchContents m' c (Proc.devRef .tc Cert.ReferenceIdeal.main_arg2) = A m c Cert.KernelIdeal.main_arg2 := a2
  have b3 : launchContents m' c (Proc.devRef .tc Cert.ReferenceIdeal.main_arg3) = A m c Cert.KernelIdeal.main_arg3 := a3
  have b4 : launchContents m' c (Proc.devRef .tc Cert.ReferenceIdeal.main_arg4) = A m c Cert.KernelIdeal.main_arg4 := a4
  have b5 : launchContents m' c (Proc.devRef .tc Cert.ReferenceIdeal.main_arg5) = A m c Cert.KernelIdeal.main_arg5 := a5
  have b6 : launchContents m' c (Proc.devRef .tc Cert.ReferenceIdeal.main_arg6) = A m c Cert.KernelIdeal.main_arg6 := a6
  have b7 : launchContents m' c (Proc.devRef .tc Cert.ReferenceIdeal.main_arg7) = A m c Cert.KernelIdeal.main_arg7 := a7
  have e0 := val_main_v203_eq (F := Ideal) (launchContents m' c)
  have e1 := val_main_v205_eq (F := Ideal) (launchContents m' c)
  have e2 := val_main_v207_eq (F := Ideal) (launchContents m' c)
  have f0 := (h c).1.trans e0
  have f1 := (h c).2.1.trans e1
  have f2 := (h c).2.2.1.trans e2
  rw [b0, b1, b2, b3, b4, b5, b6, b7] at f0
  rw [b0, b1, b2, b3, b4, b5, b6] at f1 f2
  exact ⟨f0.trans (equation_out m c H hm hl).symm, f1.trans (equation_tab0 m c H hm hl).symm, f2.trans (equation_tab1 m c H hm hl).symm, (h c).2.2.2⟩

end Cert.Attn
end
end
-- ==== Proof.DhBlock.lean ====
module

public import proofs.«01_k».proof.Proof.Gen.Kernel2Ideal.Value
public import Idealize.ShloMosaic.Lib.ValueIdx
public import Idealize.ShloMosaic.PureOps.Ideal.Laws
public import Idealize.ShloMosaic.Lib.Pipeline.Value
public import Idealize.ShloMosaic.Lib.Pipeline.ReadBack
public import Idealize.ShloMosaic.Lib.Pipeline.ValueKit.Tiles
public import Idealize.ShloMosaic.Lib.Tactic

@[expose] public section
set_option maxRecDepth 16384

/-! The backward call of the input projection and its norm: what one grid point computes from the blocks it loads.
A point has 256 tokens, the sixteen positions 16 i … 16 i + 15 of each of the sixteen residues. The cotangents come residue by
residue, the activations token by token. -/

noncomputable section
namespace Cert.Dh
open Cert.Kernel2Ideal Cert.Kernel2Ideal.Gen Idealize.ShloMosaic Idealize.ShloMosaic.TcCoe Idealize.ShloMosaic.Tactic Idealize.SL.Sem
open Idealize.ShloMosaic.ValueIdx

theorem inbA : ∀ (r : Fin 16) (a : Fin S16x16x4608.rank), ![r.val, 0, 0] a + S1x16x4608.size a ≤ S16x16x4608.size a := by decide
theorem inbB : ∀ (r : Fin 16) (a : Fin S16x16x3584.rank), ![r.val, 0, 0] a + S1x16x3584.size a ≤ S16x16x3584.size a := by decide
theorem inbN : ∀ (r : Fin 16) (a : Fin S16x16x1024.rank), ![r.val, 0, 0] a + S1x16x1024.size a ≤ S16x16x1024.size a := by decide
theorem inbC : ∀ (r : Fin 16) (a : Fin S16x16x1024.rank), ![0, r.val, 0] a + S16x1x1024.size a ≤ S16x16x1024.size a := by decide
theorem inbW : ∀ (j : Fin 16) (a : Fin S8x1024x1024.rank),
    ![j.val / 2, 0, 512 * (j.val % 2)] a + S1x1024x512.size a ≤ S8x1024x1024.size a := by decide
theorem slicesRow : ∀ r : Fin 16, S256x1024.Slices ![16 * r.val, 0] S16x1024 := by decide

/-- Row `l` of slab `r` among the 256 rows of a block. -/
def row (r l : Fin 16) : Fin 256 := ⟨16 * r.val + l.val, by omega⟩

section Defs
variable {F : FTy → Type} [FloatOps F]

/-- One residue of the block of the q, k and v cotangents. -/
def slabA (x : FVec F S16x16x4608 .bf16) (r : Fin 16) : FVec F S1x16x4608 .bf16 :=
  View.ld (Val := Elt F) (e' := .bf16) x (Rect.unit (s := S16x16x4608) ![r.val, 0, 0] S1x16x4608.size (inbA r))

/-- One residue of the block of the other cotangents. -/
def slabB (x : FVec F S16x16x3584 .bf16) (r : Fin 16) : FVec F S1x16x3584 .bf16 :=
  View.ld (Val := Elt F) (e' := .bf16) x (Rect.unit (s := S16x16x3584) ![r.val, 0, 0] S1x16x3584.size (inbB r))

/-- One position of the block in the tokens' order. -/
def slabN (x : FVec F S16x16x1024 .f32) (l : Fin 16) : FVec F S1x16x1024 .f32 :=
  View.ld (Val := Elt F) (e' := .f32) x (Rect.unit (s := S16x16x1024) ![l.val, 0, 0] S1x16x1024.size (inbN l))

/-- The 512 columns `j` of the projection. -/
def slabW (x : FVec F S8x1024x1024 .bf16) (j : Fin 16) : FVec F S1x1024x512 .bf16 :=
  View.ld (Val := Elt F) (e' := .bf16) x
    (Rect.unit (s := S8x1024x1024) ![j.val / 2, 0, 512 * (j.val % 2)] S1x1024x512.size (inbW j))

/-- The residues of the q, k and v cotangents under each other. -/
def rowsA (x : FVec F S16x16x4608 .bf16) : FVec F S256x4608 .bf16 :=
  k0_pay15 (k0_pay5 (slabA x 0)) (k0_pay6 (slabA x 1)) (k0_pay7 (slabA x 2)) (k0_pay8 (slabA x 3)) (k0_pay9 (slabA x 4))
    (k0_pay10 (slabA x 5)) (k0_pay11 (slabA x 6)) (k0_pay12 (slabA x 7)) (k0_pay13 (slabA x 8)) (k0_pay14 (slabA x 9))
    (slabA x 10) (slabA x 11) (slabA x 12) (slabA x 13) (slabA x 14) (slabA x 15)

/-- The residues of the other cotangents under each other. -/
def rowsB (x : FVec F S16x16x3584 .bf16) : FVec F S256x3584 .bf16 :=
  k0_pay22 (k0_pay16 (slabB x 0)) (k0_pay17 (slabB x 1)) (k0_pay18 (slabB x 2)) (k0_pay19 (slabB x 3)) (k0_pay20 (slabB x 4))
    (k0_pay21 (slabB x 5)) (slabB x 6) (slabB x 7) (slabB x 8) (slabB x 9)
    (slabB x 10) (slabB x 11) (slabB x 12) (slabB x 13) (slabB x 14) (slabB x 15)

/-- The product with the transposed projection before its last two column blocks. -/
def acc14 (x0 : FVec F S16x16x4608 .bf16) (x1 : FVec F S16x16x3584 .bf16) (w : FVec F S8x1024x1024 .bf16) : FVec F S256x1024 .f32 :=
  k0_pay26 (rowsA x0) (rowsB x1)
    (k0_pay25 (rowsA x0) (k0_pay23 (rowsA x0) (slabW w 0)) (k0_pay24 (rowsA x0)) (slabW w 1) (slabW w 2) (slabW w 3) (slabW w 4)
      (slabW w 5) (slabW w 6) (slabW w 7))
    (slabW w 8) (slabW w 9) (slabW w 11) (slabW w 12) (slabW w 13) (slabW w 14)

/-- The cotangent of the normed activations, residue by residue. -/
def acc (x0 : FVec F S16x16x4608 .bf16) (x1 : FVec F S16x16x3584 .bf16) (w : FVec F S8x1024x1024 .bf16) : FVec F S256x1024 .f32 :=
  k0_pay29 (rowsB x1) (acc14 x0 x1 w) (k0_pay27 (rowsB x1)) (k0_pay28 (slabW w 15)) (slabW w 10)

/-- The same by position and residue, as the scratch holds it. -/
def nat (a : FVec F S256x1024 .f32) : FVec F S16x16x1024 .f32 :=
  fun y => a (ix2 (row ⟨(y 1).val, (y 1).isLt⟩ ⟨(y 0).val, (y 0).isLt⟩) ⟨(y 2).val, (y 2).isLt⟩)

/-- The scratch's sixteen rows of residue `r`. -/
def column (a : FVec F S256x1024 .f32) (r : Fin 16) : FVec F S16x1x1024 .f32 :=
  shapeCast S16x1x1024 (extractStridedSlice S16x1024 ![16 * r.val, 0] a (slicesRow r)) shapeCasts_S16x1024_S16x1x1024

/-- The rectangle of the scratch that holds residue `r`. -/
abbrev rCol (r : Fin 16) : Rect S16x16x1024 := Rect.unit (s := S16x16x1024) ![0, r.val, 0] S16x1x1024.size (inbC r)

/-- The sixteen stores into the scratch, the last one first. -/
def stores (a : FVec F S256x1024 .f32) : List (View.Piece (Elt F) S16x16x1024 .f32) :=
  [⟨rCol 15, column a 15⟩, ⟨rCol 14, column a 14⟩, ⟨rCol 13, column a 13⟩, ⟨rCol 12, column a 12⟩, ⟨rCol 11, column a 11⟩, ⟨rCol 10, column a 10⟩, ⟨rCol 9, column a 9⟩, ⟨rCol 8, column a 8⟩, ⟨rCol 7, column a 7⟩, ⟨rCol 6, column a 6⟩, ⟨rCol 5, column a 5⟩, ⟨rCol 4, column a 4⟩, ⟨rCol 3, column a 3⟩, ⟨rCol 2, column a 2⟩, ⟨rCol 1, column a 1⟩, ⟨rCol 0, column a 0⟩]

/-- The same in the tokens' order. -/
def tokens (a : FVec F S256x1024 .f32) : FVec F S256x1024 .f32 :=
  k0_pay55 (k0_pay47 (slabN (nat a) 0)) (k0_pay48 (slabN (nat a) 1)) (k0_pay49 (slabN (nat a) 2)) (k0_pay50 (slabN (nat a) 3))
    (k0_pay51 (slabN (nat a) 4)) (k0_pay52 (slabN (nat a) 5)) (k0_pay53 (slabN (nat a) 6)) (k0_pay54 (slabN (nat a) 7))
    (slabN (nat a) 8) (slabN (nat a) 9) (slabN (nat a) 10) (slabN (nat a) 11) (slabN (nat a) 12) (slabN (nat a) 13) (slabN (nat a) 14)
    (slabN (nat a) 15)

/-- The block of the gradient of the activations. -/
def outX (d : FVec F S256x1024 .f32) (x3 x4 : FVec F S256x1024 .f32) (x5 x6 : FVec F S1x1024 .f32) : FVec F S256x1024 .f32 :=
  k0_pay61 d x5 (k0_pay56 x6) x4 (k0_pay57 x4) x3

/-- The row of the shift's gradient, added to what was there. -/
def outShift (d : FVec F S256x1024 .f32) (old : FVec F S1x1024 .f32) : FVec F S1x1024 .f32 := k0_pay62 d old

/-- The row of the scale's gradient, added to what was there. -/
def outScale (d : FVec F S256x1024 .f32) (x4 : FVec F S256x1024 .f32) (x5 old : FVec F S1x1024 .f32) : FVec F S1x1024 .f32 :=
  k0_pay63 d x5 x4 (k0_pay57 x4) old

/-- The row of the norm's gain's gradient, added to what was there. -/
def outGain (d : FVec F S256x1024 .f32) (x4 : FVec F S256x1024 .f32) (x6 old : FVec F S1x1024 .f32) : FVec F S1x1024 .f32 :=
  k0_pay1 (k0_pay56 x6) (k0_pay60 d x4 (k0_pay57 x4)) (k0_pay64 old)

/-! The sixteen stores' payloads. -/

theorem column_0 (b : FVec F S256x3584 .bf16) (s : FVec F S256x1024 .f32) (p : FVec F S256x512 .bf16) (q : FVec F S1024x512 .bf16)
    (w : FVec F S1x1024x512 .bf16) : k0_pay30 b s p q w = column (k0_pay29 b s p q w) 0 := rfl

theorem column_1 (b : FVec F S256x3584 .bf16) (s : FVec F S256x1024 .f32) (p : FVec F S256x512 .bf16) (q : FVec F S1024x512 .bf16)
    (w : FVec F S1x1024x512 .bf16) : k0_pay31 b s p q w = column (k0_pay29 b s p q w) 1 := rfl

theorem column_2 (b : FVec F S256x3584 .bf16) (s : FVec F S256x1024 .f32) (p : FVec F S256x512 .bf16) (q : FVec F S1024x512 .bf16)
    (w : FVec F S1x1024x512 .bf16) : k0_pay32 b s p q w = column (k0_pay29 b s p q w) 2 := rfl

theorem column_3 (b : FVec F S256x3584 .bf16) (s : FVec F S256x1024 .f32) (p : FVec F S256x512 .bf16) (q : FVec F S1024x512 .bf16)
    (w : FVec F S1x1024x512 .bf16) : k0_pay33 b s p q w = column (k0_pay29 b s p q w) 3 := rfl

theorem column_4 (b : FVec F S256x3584 .bf16) (s : FVec F S256x1024 .f32) (p : FVec F S256x512 .bf16) (q : FVec F S1024x512 .bf16)
    (w : FVec F S1x1024x512 .bf16) : k0_pay34 b s p q w = column (k0_pay29 b s p q w) 4 := rfl

theorem column_5 (b : FVec F S256x3584 .bf16) (s : FVec F S256x1024 .f32) (p : FVec F S256x512 .bf16) (q : FVec F S1024x512 .bf16)
    (w : FVec F S1x1024x512 .bf16) : k0_pay35 b s p q w = column (k0_pay29 b s p q w) 5 := rfl

theorem column_6 (a : FVec F S256x1024 .f32) : k0_pay36 a = column a 6 := rfl

theorem column_7 (a : FVec F S256x1024 .f32) : k0_pay37 a = column a 7 := rfl

theorem column_8 (a : FVec F S256x1024 .f32) : k0_pay38 a = column a 8 := rfl

theorem column_9 (a : FVec F S256x1024 .f32) : k0_pay39 a = column a 9 := rfl

theorem column_10 (a : FVec F S256x1024 .f32) : k0_pay40 a = column a 10 := rfl

theorem column_11 (a : FVec F S256x1024 .f32) : k0_pay41 a = column a 11 := rfl

theorem column_12 (a : FVec F S256x1024 .f32) : k0_pay42 a = column a 12 := rfl

theorem column_13 (a : FVec F S256x1024 .f32) : k0_pay44 (k0_pay43 a) = column a 13 := rfl

theorem column_14 (a : FVec F S256x1024 .f32) : k0_pay45 a = column a 14 := rfl

theorem column_15 (a : FVec F S256x1024 .f32) : k0_pay46 a = column a 15 := rfl

end Defs

/-! ### The concatenations -/

/-- Sixteen blocks of sixteen rows under each other. -/
theorem cat16 {α : Type} {n : Nat} (f : Fin 16 → ((⟨2, ![16, n]⟩ : Shape).Idx → α))
    (h : Shape.Concatenates [⟨2, ![16, n]⟩, ⟨2, ![16, n]⟩, ⟨2, ![16, n]⟩, ⟨2, ![16, n]⟩, ⟨2, ![16, n]⟩, ⟨2, ![16, n]⟩, ⟨2, ![16, n]⟩,
      ⟨2, ![16, n]⟩, ⟨2, ![16, n]⟩, ⟨2, ![16, n]⟩, ⟨2, ![16, n]⟩, ⟨2, ![16, n]⟩, ⟨2, ![16, n]⟩, ⟨2, ![16, n]⟩, ⟨2, ![16, n]⟩,
      ⟨2, ![16, n]⟩] (⟨2, ![256, n]⟩ : Shape) 0) (r l : Fin 16) (c : Fin n) :
    concatenate (⟨2, ![256, n]⟩ : Shape) 0 [⟨⟨2, ![16, n]⟩, f 0⟩, ⟨⟨2, ![16, n]⟩, f 1⟩, ⟨⟨2, ![16, n]⟩, f 2⟩, ⟨⟨2, ![16, n]⟩, f 3⟩,
      ⟨⟨2, ![16, n]⟩, f 4⟩, ⟨⟨2, ![16, n]⟩, f 5⟩, ⟨⟨2, ![16, n]⟩, f 6⟩, ⟨⟨2, ![16, n]⟩, f 7⟩, ⟨⟨2, ![16, n]⟩, f 8⟩, ⟨⟨2, ![16, n]⟩, f 9⟩,
      ⟨⟨2, ![16, n]⟩, f 10⟩, ⟨⟨2, ![16, n]⟩, f 11⟩, ⟨⟨2, ![16, n]⟩, f 12⟩, ⟨⟨2, ![16, n]⟩, f 13⟩, ⟨⟨2, ![16, n]⟩, f 14⟩,
      ⟨⟨2, ![16, n]⟩, f 15⟩] h (ix2 (row r l) c) = f r (ix2 l c) := by
  refine concatenate_ofFn_apply (t := ⟨2, ![256, n]⟩) (s₁ := ⟨2, ![16, n]⟩) 0 f h rfl 16 rfl _ r ?_ (ix2 l c) ?_ ?_
  · show (16 * r.val + l.val) / 16 = r.val
    omega
  · show l.val = (16 * r.val + l.val) % 16
    omega
  · intro b hb
    match b with
    | ⟨0, _⟩ => exact absurd rfl hb
    | ⟨1, _⟩ => rfl

/-- One slab of sixteen rows without its leading axis. -/
theorem flat_apply {α : Type} {n : Nat} (x : (⟨3, ![1, 16, n]⟩ : Shape).Idx → α)
    (h : (⟨3, ![1, 16, n]⟩ : Shape).ShapeCasts ⟨2, ![16, n]⟩) (l : Fin 16) (c : Fin n) :
    shapeCast (⟨2, ![16, n]⟩ : Shape) x h (ix2 l c) = x (ix3 (0 : Fin 1) l c) :=
  shapeCast_apply x h (ix2 l c) (ix3 (0 : Fin 1) l c) (by
    rw [Shape.rowMajor_val_three, Shape.rowMajor_val_two]
    show (0 * 16 + l.val) * n + c.val = l.val * n + c.val
    simp)

theorem slabA_apply (x : FVec Ideal S16x16x4608 .bf16) (r l : Fin 16) (c : Fin 4608) :
    slabA x r (ix3 (0 : Fin 1) l c) = x (ix3 r l c) := by
  unfold slabA
  refine View.ld_unit_apply_of (Val := Elt Ideal) (e := .bf16) x _ _ _ _ _ fun a => ?_
  match a with
  | ⟨0, _⟩ => rfl
  | ⟨1, _⟩ => exact (Nat.zero_add _).symm
  | ⟨2, _⟩ => exact (Nat.zero_add _).symm

theorem slabB_apply (x : FVec Ideal S16x16x3584 .bf16) (r l : Fin 16) (c : Fin 3584) :
    slabB x r (ix3 (0 : Fin 1) l c) = x (ix3 r l c) := by
  unfold slabB
  refine View.ld_unit_apply_of (Val := Elt Ideal) (e := .bf16) x _ _ _ _ _ fun a => ?_
  match a with
  | ⟨0, _⟩ => rfl
  | ⟨1, _⟩ => exact (Nat.zero_add _).symm
  | ⟨2, _⟩ => exact (Nat.zero_add _).symm

theorem slabN_apply (x : FVec Ideal S16x16x1024 .f32) (l r : Fin 16) (c : Fin 1024) :
    slabN x l (ix3 (0 : Fin 1) r c) = x (ix3 l r c) := by
  unfold slabN
  refine View.ld_unit_apply_of (Val := Elt Ideal) (e := .f32) x _ _ _ _ _ fun a => ?_
  match a with
  | ⟨0, _⟩ => rfl
  | ⟨1, _⟩ => exact (Nat.zero_add _).symm
  | ⟨2, _⟩ => exact (Nat.zero_add _).symm

theorem slabW_apply (x : FVec Ideal S8x1024x1024 .bf16) (j : Fin 16) (c : Fin 1024) (q : Fin 512) :
    slabW x j (ix3 (0 : Fin 1) c q) = x (ix3 (⟨j.val / 2, by omega⟩ : Fin 8) c (⟨512 * (j.val % 2) + q.val, by omega⟩ : Fin 1024)) := by
  unfold slabW
  refine View.ld_unit_apply_of (Val := Elt Ideal) (e := .bf16) x _ _ _ _ _ fun a => ?_
  match a with
  | ⟨0, _⟩ => rfl
  | ⟨1, _⟩ => exact (Nat.zero_add _).symm
  | ⟨2, _⟩ => rfl

theorem rowsA_apply (x : FVec Ideal S16x16x4608 .bf16) (r l : Fin 16) (c : Fin 4608) : rowsA x (ix2 (row r l) c) = x (ix3 r l c) := by
  rw [← slabA_apply x r l c]
  refine Eq.trans ?_ (flat_apply (slabA x r) shapeCasts_S1x16x4608_S16x4608 l c)
  exact cat16 (fun r => shapeCast S16x4608 (slabA x r) shapeCasts_S1x16x4608_S16x4608)
    concatenates_S16x4608_S16x4608_S16x4608_S16x4608_S16x4608_S16x4608_S16x4608_S16x4608_S16x4608_S16x4608_S16x4608_S16x4608_S16x4608_S16x4608_S16x4608_S16x4608_S256x4608_d0 r l c

theorem rowsB_apply (x : FVec Ideal S16x16x3584 .bf16) (r l : Fin 16) (c : Fin 3584) : rowsB x (ix2 (row r l) c) = x (ix3 r l c) := by
  rw [← slabB_apply x r l c]
  refine Eq.trans ?_ (flat_apply (slabB x r) shapeCasts_S1x16x3584_S16x3584 l c)
  exact cat16 (fun r => shapeCast S16x3584 (slabB x r) shapeCasts_S1x16x3584_S16x3584)
    concatenates_S16x3584_S16x3584_S16x3584_S16x3584_S16x3584_S16x3584_S16x3584_S16x3584_S16x3584_S16x3584_S16x3584_S16x3584_S16x3584_S16x3584_S16x3584_S16x3584_S256x3584_d0 r l c

/-- Token `16 l + r` of the block is position `l` of residue `r`. -/
theorem tokens_apply (a : FVec Ideal S256x1024 .f32) (l r : Fin 16) (c : Fin 1024) :
    tokens a (ix2 (row l r) c) = a (ix2 (row r l) c) := by
  refine Eq.trans ?_ (slabN_apply (nat a) l r c)
  refine Eq.trans ?_ (flat_apply (slabN (nat a) l) shapeCasts_S1x16x1024_S16x1024 r c)
  exact cat16 (fun l => shapeCast S16x1024 (slabN (nat a) l) shapeCasts_S1x16x1024_S16x1024)
    concatenates_S16x1024_S16x1024_S16x1024_S16x1024_S16x1024_S16x1024_S16x1024_S16x1024_S16x1024_S16x1024_S16x1024_S16x1024_S16x1024_S16x1024_S16x1024_S16x1024_S256x1024_d0 l r c

/-! ### The scratch -/

theorem column_piece (a : FVec Ideal S256x1024 .f32) (r : Fin 16) (x : (rCol r).shape.Idx) : column a r x = nat a ((rCol r).emb x) := by
  have hx : ∃ (l : Fin 16) (c : Fin 1024), x = ix3 l (0 : Fin 1) c := by
    refine ⟨⟨(x 0).val, (x 0).isLt⟩, ⟨(x 2).val, (x 2).isLt⟩, funext fun b => Fin.ext ?_⟩
    match b with
    | ⟨0, _⟩ => rfl
    | ⟨1, _⟩ => exact Nat.lt_one_iff.mp (x 1).isLt
    | ⟨2, _⟩ => rfl
  obtain ⟨l, c, rfl⟩ := hx
  unfold column nat
  refine (shapeCast_apply _ shapeCasts_S16x1024_S16x1x1024 (ix3 l (0 : Fin 1) c) (ix2 l c) (by
    rw [Shape.rowMajor_val_three, Shape.rowMajor_val_two]
    show l.val * 1024 + c.val = (l.val * 1 + 0) * 1024 + c.val
    omega)).trans ?_
  refine extractStridedSlice_apply _ _ _ _ _ fun b => ?_
  match b with
  | ⟨0, _⟩ => show 16 * (r.val + 1 * 0) + (0 + 1 * l.val) = 16 * r.val + l.val; omega
  | ⟨1, _⟩ => show 0 + 1 * c.val = 0 + c.val; omega

theorem stores_pieces (a : FVec Ideal S256x1024 .f32) : View.PiecesOf (Val := Elt Ideal) (e := .f32) (nat a) (stores a) := by
  unfold stores
  exact ⟨column_piece a 15, column_piece a 14, column_piece a 13, column_piece a 12, column_piece a 11, column_piece a 10, column_piece a 9, column_piece a 8, column_piece a 7, column_piece a 6, column_piece a 5, column_piece a 4, column_piece a 3, column_piece a 2, column_piece a 1, column_piece a 0, trivial⟩

theorem stores_cover (a : FVec Ideal S256x1024 .f32) (y : S16x16x1024.Idx) : ∃ p ∈ stores a, y ∈ p.1.set :=
  View.cover_of_tiledL (s := S16x16x1024) (stores a) S16x1x1024.size (by sl_kernel_rfl) y

/-- What a load from the scratch finds after the stores. -/
theorem read_stores {sig : RefSig} {κ : Kind} {sp : Space} (v : View sig κ sp S16x16x1024 .f32) (a : FVec Ideal S256x1024 .f32)
    (r : Rect S16x16x1024) : v.readCov (Val := Elt Ideal) (stores a) r.toLoadRect = View.ld (Val := Elt Ideal) (nat a) r := by
  rw [View.readCov_eq_canon_ld v (stores a) r (stores_cover a)]
  refine congrArg (fun z => View.ld (Val := Elt Ideal) (e' := .f32) z r) (funext fun y => ?_)
  exact View.canon_apply_of_pieces (nat a) (stores a) (View.PiecesOf.mem (stores_pieces a)) y (stores_cover a y)

/-- The rectangle of the scratch that holds position `l`. -/
abbrev rPos (l : Fin 16) : Rect S16x16x1024 := Rect.unit (s := S16x16x1024) ![l.val, 0, 0] S1x16x1024.size (inbN l)

/-- The sixteen loads, under each other, give the tokens in order. -/
theorem read_tokens {sig : RefSig} {κ : Kind} {sp : Space} (v : View sig κ sp S16x16x1024 .f32) (a : FVec Ideal S256x1024 .f32) :
    k0_pay55 (F := Ideal) (k0_pay47 (v.readCov (Val := Elt Ideal) (stores a) (rPos 0).toLoadRect)) (k0_pay48 (v.readCov (Val := Elt Ideal) (stores a) (rPos 1).toLoadRect)) (k0_pay49 (v.readCov (Val := Elt Ideal) (stores a) (rPos 2).toLoadRect)) (k0_pay50 (v.readCov (Val := Elt Ideal) (stores a) (rPos 3).toLoadRect)) (k0_pay51 (v.readCov (Val := Elt Ideal) (stores a) (rPos 4).toLoadRect)) (k0_pay52 (v.readCov (Val := Elt Ideal) (stores a) (rPos 5).toLoadRect)) (k0_pay53 (v.readCov (Val := Elt Ideal) (stores a) (rPos 6).toLoadRect)) (k0_pay54 (v.readCov (Val := Elt Ideal) (stores a) (rPos 7).toLoadRect)) (v.readCov (Val := Elt Ideal) (stores a) (rPos 8).toLoadRect) (v.readCov (Val := Elt Ideal) (stores a) (rPos 9).toLoadRect) (v.readCov (Val := Elt Ideal) (stores a) (rPos 10).toLoadRect) (v.readCov (Val := Elt Ideal) (stores a) (rPos 11).toLoadRect) (v.readCov (Val := Elt Ideal) (stores a) (rPos 12).toLoadRect) (v.readCov (Val := Elt Ideal) (stores a) (rPos 13).toLoadRect) (v.readCov (Val := Elt Ideal) (stores a) (rPos 14).toLoadRect) (v.readCov (Val := Elt Ideal) (stores a) (rPos 15).toLoadRect)
      = tokens a := by
  simp only [read_stores]
  rfl

/-! ### The product with the transposed projection -/

/-- 512 columns against 512 columns of the projection. -/
theorem dot_apply (a : FVec Ideal S256x512 .bf16) (b : FVec Ideal S1024x512 .bf16) (p : Fin 256) (c : Fin 1024) :
    matmul dot_S256x512_S1024x512_S256x1024_1_1_0_0_n_n none a b (constant S256x1024 .f32 0x00000000#32) (ix2 p c)
      = ∑ q : Fin 512, a (ix2 p q) * b (ix2 c q) := by
  rw [show matmul dot_S256x512_S1024x512_S256x1024_1_1_0_0_n_n none a b (constant S256x1024 .f32 0x00000000#32) (ix2 p c) = _ from
    Ideal.matmul_constant_zero_apply _ _ _ _ _,
    ← Equiv.sum_comp (contrEquiv1 dot_S256x512_S1024x512_S256x1024_1_1_0_0_n_n 512 rfl rfl).symm]
  refine Finset.sum_congr rfl fun l _ => congrArg₂ (fun x y : EReal => x * y) (congrArg a (funext fun x => Fin.ext ?_)) (congrArg b (funext fun x => Fin.ext ?_))
  · match x with
    | ⟨0, _⟩ => rfl
    | ⟨1, _⟩ => exact contrEquiv1_symm_val dot_S256x512_S1024x512_S256x1024_1_1_0_0_n_n 512 rfl rfl l
  · match x with
    | ⟨0, _⟩ => rfl
    | ⟨1, _⟩ => exact contrEquiv1_symm_val dot_S256x512_S1024x512_S256x1024_1_1_0_0_n_n 512 rfl rfl l

/-- A slab of the projection without its leading axis. -/
theorem flatW_apply (x : FVec Ideal S1x1024x512 .bf16) (c : Fin 1024) (q : Fin 512) :
    shapeCast S1024x512 x shapeCasts_S1x1024x512_S1024x512 (ix2 c q) = x (ix3 (0 : Fin 1) c q) :=
  shapeCast_apply x _ (ix2 c q) (ix3 (0 : Fin 1) c q) (by
    rw [Shape.rowMajor_val_three, Shape.rowMajor_val_two]
    show (0 * 1024 + c.val) * 512 + q.val = c.val * 512 + q.val
    simp)

/-- What columns `o … o + 511` of an array add, against columns `j` of the projection. -/
def term {n : Nat} (a : (⟨2, ![256, n]⟩ : Shape).Idx → EReal) (w : FVec Ideal S1x1024x512 .bf16) (o : Nat) (ho : o + 512 ≤ n)
    (p : Fin 256) (c : Fin 1024) : EReal :=
  ∑ q : Fin 512, a (ix2 p (⟨o + q.val, by omega⟩ : Fin n)) * w (ix3 (0 : Fin 1) c q)

theorem term_eq {n : Nat} (a : (⟨2, ![256, n]⟩ : Shape).Idx → EReal) (w : FVec Ideal S1x1024x512 .bf16) (o : Nat) (ho : o + 512 ≤ n)
    (hs : (⟨2, ![256, n]⟩ : Shape).Slices ![0, o] S256x512) (p : Fin 256) (c : Fin 1024) :
    matmul (F := Ideal) (φ₁ := .bf16) (φ₂ := .bf16) dot_S256x512_S1024x512_S256x1024_1_1_0_0_n_n none (extractStridedSlice S256x512 ![0, o] a hs)
      (shapeCast S1024x512 w shapeCasts_S1x1024x512_S1024x512) (constant S256x1024 .f32 0x00000000#32) (ix2 p c) = term a w o ho p c := by
  rw [dot_apply]
  unfold term
  refine Finset.sum_congr rfl fun q _ => congrArg₂ (fun x y : EReal => x * y) ?_ (flatW_apply w c q)
  exact extractStridedSlice_apply _ _ _ _ (ix2 p (⟨o + q.val, by omega⟩ : Fin n)) (fun ax => match ax with
    | ⟨0, _⟩ => (Nat.zero_add _).symm
    | ⟨1, _⟩ => rfl)

/-- The kernel's sum of its sixteen products. -/
theorem acc_terms (x0 : FVec Ideal S16x16x4608 .bf16) (x1 : FVec Ideal S16x16x3584 .bf16) (w : FVec Ideal S8x1024x1024 .bf16)
    (p : Fin 256) (c : Fin 1024) :
    acc x0 x1 w (ix2 p c)
      = term (rowsA x0) (slabW w 0) 0 (by decide) p c
        + term (rowsA x0) (slabW w 1) 512 (by decide) p c
        + term (rowsA x0) (slabW w 2) 1024 (by decide) p c
        + term (rowsA x0) (slabW w 3) 1536 (by decide) p c
        + term (rowsA x0) (slabW w 4) 2048 (by decide) p c
        + term (rowsA x0) (slabW w 5) 2560 (by decide) p c
        + term (rowsA x0) (slabW w 6) 3072 (by decide) p c
        + term (rowsA x0) (slabW w 7) 3584 (by decide) p c
        + term (rowsA x0) (slabW w 8) 4096 (by decide) p c
        + term (rowsB x1) (slabW w 9) 0 (by decide) p c
        + term (rowsB x1) (slabW w 11) 512 (by decide) p c
        + term (rowsB x1) (slabW w 12) 1024 (by decide) p c
        + term (rowsB x1) (slabW w 13) 1536 (by decide) p c
        + term (rowsB x1) (slabW w 14) 2048 (by decide) p c
        + term (rowsB x1) (slabW w 15) 2560 (by decide) p c
        + term (rowsB x1) (slabW w 10) 3072 (by decide) p c := by
  unfold acc acc14
  generalize rowsA x0 = a
  generalize rowsB x1 = b
  generalize slabW w 0 = w0
  generalize slabW w 1 = w1
  generalize slabW w 2 = w2
  generalize slabW w 3 = w3
  generalize slabW w 4 = w4
  generalize slabW w 5 = w5
  generalize slabW w 6 = w6
  generalize slabW w 7 = w7
  generalize slabW w 8 = w8
  generalize slabW w 9 = w9
  generalize slabW w 10 = w10
  generalize slabW w 11 = w11
  generalize slabW w 12 = w12
  generalize slabW w 13 = w13
  generalize slabW w 14 = w14
  generalize slabW w 15 = w15
  unfold k0_pay29 k0_pay26 k0_pay25 k0_pay23 k0_pay24 k0_pay27 k0_pay28
  dsimp only
  simp only [addf_apply]
  rw [term_eq a w0 0 (by decide), term_eq a w1 512 (by decide), term_eq a w2 1024 (by decide), term_eq a w3 1536 (by decide), term_eq a w4 2048 (by decide), term_eq a w5 2560 (by decide), term_eq a w6 3072 (by decide), term_eq a w7 3584 (by decide), term_eq a w8 4096 (by decide), term_eq b w9 0 (by decide), term_eq b w11 512 (by decide), term_eq b w12 1024 (by decide), term_eq b w13 1536 (by decide), term_eq b w14 2048 (by decide), term_eq b w15 2560 (by decide), term_eq b w10 3072 (by decide)]

end Cert.Dh
end
end
-- ==== Proof.DhOutA.lean ====
module

public import proofs.«01_k».proof.Proof.DhBlock

@[expose] public section
set_option maxRecDepth 16384

/-! What the first grid point leaves in its output blocks, the rows starting from zero. -/

noncomputable section
namespace Cert.Dh
open Cert.Kernel2Ideal Cert.Kernel2Ideal.Gen Idealize.ShloMosaic Idealize.ShloMosaic.TcCoe Idealize.ShloMosaic.Tactic Idealize.SL.Sem

section
variable (c : Dev nD) (i : grid0.Coords) (arg1 : Memref sig .tc .vmem S16x16x4608 .bf16) (harg1 : arg1.IsWhole) (arg2 : Memref sig .tc .vmem S16x16x3584 .bf16) (harg2 : arg2.IsWhole) (arg3 : Memref sig .tc .vmem S8x1024x1024 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x16x1024 .f32) (harg12 : arg12.IsWhole) (hc0 : cond0_0 i)
  (x0 : Vec Ideal S16x16x4608 .bf16) (x1 : Vec Ideal S16x16x3584 .bf16) (x2 : Vec Ideal S8x1024x1024 .bf16)
  (x3 x4 : Vec Ideal S256x1024 .f32) (x5 x6 : Vec Ideal S1x1024 .f32)

include harg1 harg2 harg3 harg4 harg5 harg6 harg7 harg9 harg10 harg11

/-- The block of the gradient of the activations. -/
theorem outA_7 : out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = outX (F := Ideal) (tokens (acc x0 x1 x2)) x3 x4 x5 x6 := by
  have hz : (![0, 0] : Fin S256x1024.rank → Nat) = fun _ => 0 := by decide
  have hz1 : (![0, 0] : Fin S1x1024.rank → Nat) = fun _ => 0 := by decide
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg1.read_unread, harg2.read_unread, harg3.read_unread, harg4.read_unread, harg5.read_unread,
    harg6.read_unread, harg7.read_unread, harg9.read_unread, harg10.read_unread, harg11.read_unread,
    View.ld_unit_zero (S := S256x1024) hz, View.ld_unit_zero (S := S1x1024) hz1, View.canon_cons_unit_zero (S := S256x1024) hz,
    View.readCov_unit_zero (S := S1x1024) _ hz1]
  simp only [column_0, column_1, column_2, column_3, column_4, column_5, column_6, column_7, column_8, column_9, column_10, column_11, column_12, column_13, column_14, column_15]
  refine (congrArg (fun d => outX (F := Ideal) d x3 x4 x5 x6) (read_tokens arg12.view _)).trans ?_
  rfl

/-- The row of the shift's gradient. -/
theorem outA_8 : out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = outShift (F := Ideal) (tokens (acc x0 x1 x2)) (k0_pay2 (F := Ideal)) := by
  have hz : (![0, 0] : Fin S256x1024.rank → Nat) = fun _ => 0 := by decide
  have hz1 : (![0, 0] : Fin S1x1024.rank → Nat) = fun _ => 0 := by decide
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg1.read_unread, harg2.read_unread, harg3.read_unread, harg4.read_unread, harg5.read_unread,
    harg6.read_unread, harg7.read_unread, harg9.read_unread, harg10.read_unread, harg11.read_unread,
    View.ld_unit_zero (S := S256x1024) hz, View.ld_unit_zero (S := S1x1024) hz1, View.canon_cons_unit_zero (S := S1x1024) hz1,
    View.readCov_unit_zero (S := S1x1024) _ hz1]
  simp only [column_0, column_1, column_2, column_3, column_4, column_5, column_6, column_7, column_8, column_9, column_10, column_11, column_12, column_13, column_14, column_15]
  refine (congrArg (fun d => outShift (F := Ideal) d (k0_pay2 (F := Ideal))) (read_tokens arg12.view _)).trans ?_
  rfl

/-- The row of the scale's gradient. -/
theorem outA_9 : out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = outScale (F := Ideal) (tokens (acc x0 x1 x2)) x4 x5 (k0_pay3 (F := Ideal)) := by
  have hz : (![0, 0] : Fin S256x1024.rank → Nat) = fun _ => 0 := by decide
  have hz1 : (![0, 0] : Fin S1x1024.rank → Nat) = fun _ => 0 := by decide
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg1.read_unread, harg2.read_unread, harg3.read_unread, harg4.read_unread, harg5.read_unread,
    harg6.read_unread, harg7.read_unread, harg9.read_unread, harg10.read_unread, harg11.read_unread,
    View.ld_unit_zero (S := S256x1024) hz, View.ld_unit_zero (S := S1x1024) hz1, View.canon_cons_unit_zero (S := S1x1024) hz1,
    View.readCov_unit_zero (S := S1x1024) _ hz1]
  simp only [column_0, column_1, column_2, column_3, column_4, column_5, column_6, column_7, column_8, column_9, column_10, column_11, column_12, column_13, column_14, column_15]
  refine (congrArg (fun d => outScale (F := Ideal) d x4 x5 (k0_pay3 (F := Ideal))) (read_tokens arg12.view _)).trans ?_
  rfl

/-- The row of the gain's gradient. -/
theorem outA_10 : out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = outGain (F := Ideal) (tokens (acc x0 x1 x2)) x4 x6 (k0_pay4 (F := Ideal)) := by
  have hz : (![0, 0] : Fin S256x1024.rank → Nat) = fun _ => 0 := by decide
  have hz1 : (![0, 0] : Fin S1x1024.rank → Nat) = fun _ => 0 := by decide
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg1.read_unread, harg2.read_unread, harg3.read_unread, harg4.read_unread, harg5.read_unread,
    harg6.read_unread, harg7.read_unread, harg9.read_unread, harg10.read_unread, harg11.read_unread,
    View.ld_unit_zero (S := S256x1024) hz, View.ld_unit_zero (S := S1x1024) hz1, View.canon_cons_unit_zero (S := S1x1024) hz1,
    View.readCov_unit_zero (S := S1x1024) _ hz1]
  simp only [column_0, column_1, column_2, column_3, column_4, column_5, column_6, column_7, column_8, column_9, column_10, column_11, column_12, column_13, column_14, column_15]
  refine (congrArg (fun d => outGain (F := Ideal) d x4 x6 (k0_pay4 (F := Ideal))) (read_tokens arg12.view _)).trans ?_
  rfl

end

end Cert.Dh
end
end
-- ==== Proof.DhOutB.lean ====
module

public import proofs.«01_k».proof.Proof.DhBlock

@[expose] public section
set_option maxRecDepth 16384

/-! What a later grid point leaves in its output blocks, the rows added to those it finds. -/

noncomputable section
namespace Cert.Dh
open Cert.Kernel2Ideal Cert.Kernel2Ideal.Gen Idealize.ShloMosaic Idealize.ShloMosaic.TcCoe Idealize.ShloMosaic.Tactic Idealize.SL.Sem

section
variable (c : Dev nD) (i : grid0.Coords) (arg1 : Memref sig .tc .vmem S16x16x4608 .bf16) (harg1 : arg1.IsWhole) (arg2 : Memref sig .tc .vmem S16x16x3584 .bf16) (harg2 : arg2.IsWhole) (arg3 : Memref sig .tc .vmem S8x1024x1024 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x16x1024 .f32) (harg12 : arg12.IsWhole) (hc0 : ¬cond0_0 i)
  (x0 : Vec Ideal S16x16x4608 .bf16) (x1 : Vec Ideal S16x16x3584 .bf16) (x2 : Vec Ideal S8x1024x1024 .bf16)
  (x3 x4 : Vec Ideal S256x1024 .f32) (x5 x6 xo8 xo9 xo10 : Vec Ideal S1x1024 .f32)

include harg1 harg2 harg3 harg4 harg5 harg6 harg7 harg9 harg10 harg11

/-- The block of the gradient of the activations. -/
theorem outB_7 : out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xo10 = outX (F := Ideal) (tokens (acc x0 x1 x2)) x3 x4 x5 x6 := by
  have hz : (![0, 0] : Fin S256x1024.rank → Nat) = fun _ => 0 := by decide
  have hz1 : (![0, 0] : Fin S1x1024.rank → Nat) = fun _ => 0 := by decide
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xo10)]
  unfold kernelRun0_B
  dsimp only
  sl_unfold_words
  simp only [View.readAt_eq_ld, harg1.read_unread, harg2.read_unread, harg3.read_unread, harg4.read_unread, harg5.read_unread,
    harg6.read_unread, harg7.read_unread, harg9.read_unread, harg10.read_unread, harg11.read_unread,
    View.ld_unit_zero (S := S256x1024) hz, View.ld_unit_zero (S := S1x1024) hz1, View.canon_cons_unit_zero (S := S256x1024) hz,
    View.readCov_unit_zero (S := S1x1024) _ hz1]
  simp only [column_0, column_1, column_2, column_3, column_4, column_5, column_6, column_7, column_8, column_9, column_10, column_11, column_12, column_13, column_14, column_15]
  refine (congrArg (fun d => outX (F := Ideal) d x3 x4 x5 x6) (read_tokens arg12.view _)).trans ?_
  rfl

/-- The row of the shift's gradient. -/
theorem outB_8 : out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xo10 = outShift (F := Ideal) (tokens (acc x0 x1 x2)) xo8 := by
  have hz : (![0, 0] : Fin S256x1024.rank → Nat) = fun _ => 0 := by decide
  have hz1 : (![0, 0] : Fin S1x1024.rank → Nat) = fun _ => 0 := by decide
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xo10)]
  unfold kernelRun0_B
  dsimp only
  sl_unfold_words
  simp only [View.readAt_eq_ld, harg1.read_unread, harg2.read_unread, harg3.read_unread, harg4.read_unread, harg5.read_unread,
    harg6.read_unread, harg7.read_unread, harg9.read_unread, harg10.read_unread, harg11.read_unread,
    View.ld_unit_zero (S := S256x1024) hz, View.ld_unit_zero (S := S1x1024) hz1, View.canon_cons_unit_zero (S := S1x1024) hz1,
    View.readCov_unit_zero (S := S1x1024) _ hz1]
  simp only [column_0, column_1, column_2, column_3, column_4, column_5, column_6, column_7, column_8, column_9, column_10, column_11, column_12, column_13, column_14, column_15]
  refine (congrArg (fun d => outShift (F := Ideal) d xo8) (read_tokens arg12.view _)).trans ?_
  rfl

/-- The row of the scale's gradient. -/
theorem outB_9 : out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xo10 = outScale (F := Ideal) (tokens (acc x0 x1 x2)) x4 x5 xo9 := by
  have hz : (![0, 0] : Fin S256x1024.rank → Nat) = fun _ => 0 := by decide
  have hz1 : (![0, 0] : Fin S1x1024.rank → Nat) = fun _ => 0 := by decide
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xo10)]
  unfold kernelRun0_B
  dsimp only
  sl_unfold_words
  simp only [View.readAt_eq_ld, harg1.read_unread, harg2.read_unread, harg3.read_unread, harg4.read_unread, harg5.read_unread,
    harg6.read_unread, harg7.read_unread, harg9.read_unread, harg10.read_unread, harg11.read_unread,
    View.ld_unit_zero (S := S256x1024) hz, View.ld_unit_zero (S := S1x1024) hz1, View.canon_cons_unit_zero (S := S1x1024) hz1,
    View.readCov_unit_zero (S := S1x1024) _ hz1]
  simp only [column_0, column_1, column_2, column_3, column_4, column_5, column_6, column_7, column_8, column_9, column_10, column_11, column_12, column_13, column_14, column_15]
  refine (congrArg (fun d => outScale (F := Ideal) d x4 x5 xo9) (read_tokens arg12.view _)).trans ?_
  rfl

/-- The row of the gain's gradient. -/
theorem outB_10 : out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xo10 = outGain (F := Ideal) (tokens (acc x0 x1 x2)) x4 x6 xo10 := by
  have hz : (![0, 0] : Fin S256x1024.rank → Nat) = fun _ => 0 := by decide
  have hz1 : (![0, 0] : Fin S1x1024.rank → Nat) = fun _ => 0 := by decide
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xo10)]
  unfold kernelRun0_B
  dsimp only
  sl_unfold_words
  simp only [View.readAt_eq_ld, harg1.read_unread, harg2.read_unread, harg3.read_unread, harg4.read_unread, harg5.read_unread,
    harg6.read_unread, harg7.read_unread, harg9.read_unread, harg10.read_unread, harg11.read_unread,
    View.ld_unit_zero (S := S256x1024) hz, View.ld_unit_zero (S := S1x1024) hz1, View.canon_cons_unit_zero (S := S1x1024) hz1,
    View.readCov_unit_zero (S := S1x1024) _ hz1]
  simp only [column_0, column_1, column_2, column_3, column_4, column_5, column_6, column_7, column_8, column_9, column_10, column_11, column_12, column_13, column_14, column_15]
  refine (congrArg (fun d => outGain (F := Ideal) d x4 x6 xo10) (read_tokens arg12.view _)).trans ?_
  rfl

end

end Cert.Dh
end
end
-- ==== Proof.DhAlg.lean ====
module

public import Idealize.ShloMosaic.PureOps.Ideal.Laws
public import Mathlib.Tactic.FieldSimp
public import Mathlib.Tactic.Ring

@[expose] public section

/-! The gradient of a row through the normalisation by its mean square. The kernel subtracts the row's
    part along the normed row; the reference differentiates the mean square and the inverse root one
    step at a time. The two agree at every extended real. -/

noncomputable section
namespace Cert.Dh
open Idealize.ShloMosaic

/-- The number of columns, the stabiliser, one and minus a half, as both programs write them. -/
abbrev wCols : EReal := Ideal.ofBits .f32 0x44800000#32
abbrev wEps : EReal := Ideal.ofBits .f32 0x358637BD#32
abbrev wOne : EReal := Ideal.ofBits .f32 0x3F800000#32
abbrev wHalf : EReal := Ideal.ofBits .f32 0xBF000000#32

theorem wCols_eq : wCols = ((1024 : ℝ) : EReal) := by
  simp [wCols, Ideal.ofBits, Ideal.ieee]
  norm_num
  rw [← EReal.coe_mul]
  norm_num

theorem wHalf_eq : wHalf = ((-(1 / 2) : ℝ) : EReal) := by
  simp [wHalf, Ideal.ofBits, Ideal.ieee]
  norm_num
  rw [← EReal.coe_mul]
  norm_num

theorem wEps_eq : ∃ e : ℝ, 0 < e ∧ wEps = (e : EReal) := by
  refine ⟨8796093 * (1 / 8796093022208), by norm_num, ?_⟩
  simp [wEps, Ideal.ofBits, Ideal.ieee]
  norm_num

/-- The stabilised mean square of a row. -/
def msq (x : Fin 1024 → EReal) : EReal := Ideal.div (∑ k, x k * x k) wCols + wEps

/-- Its inverse root. -/
def inv (x : Fin 1024 → EReal) : EReal := Ideal.rsqrt (msq x)

/-- The kernel's gradient of column `c` of a row: `t` is the cotangent of the normed row, `y` the
    cotangent that reaches the row otherwise. -/
def ker (y : EReal) (t x : Fin 1024 → EReal) (c : Fin 1024) : EReal :=
  y + inv x * (t c - x c * inv x * Ideal.div (∑ k, t k * (x k * inv x)) wCols)

/-- The reference's cotangent of each of the row's squares. -/
def sq (t x : Fin 1024 → EReal) : EReal :=
  Ideal.div ((∑ k, x k * t k) * (wHalf * Ideal.div (inv x) (msq x))) wCols

/-- The reference's gradient of column `c` of a row. -/
def ref (y : EReal) (t x : Fin 1024 → EReal) (c : Fin 1024) : EReal :=
  y + t c * inv x + x c * sq t x + sq t x * x c

theorem sq_nonneg' (a : EReal) : 0 ≤ a * a := by
  induction a with
  | bot => simp
  | top => simp
  | coe a => rw [← EReal.coe_mul]; exact_mod_cast mul_self_nonneg a

/-- A nonnegative real factor goes into a sum. -/
theorem sum_mul_real {n : Nat} (f : Fin n → EReal) (r : ℝ) (hr : 0 ≤ r) : ∑ k, f k * (r : EReal) = (∑ k, f k) * (r : EReal) := by
  have h : ∀ s : Finset (Fin n), ∑ k ∈ s, f k * (r : EReal) = (∑ k ∈ s, f k) * (r : EReal) := by
    intro s
    induction s using Finset.induction_on with
    | empty => simp
    | insert a s ha ih =>
      rw [Finset.sum_insert ha, Finset.sum_insert ha, ih,
        EReal.right_distrib_of_nonneg_of_ne_top (by exact_mod_cast hr) (EReal.coe_ne_top r)]
  exact h Finset.univ

/-- Twice a number. -/
theorem twice (a : EReal) : a + a = a * ((2 : ℝ) : EReal) := by
  induction a with
  | bot => rw [EReal.bot_mul_coe_of_pos two_pos]; rfl
  | top => rw [EReal.top_mul_coe_of_pos two_pos]; rfl
  | coe a => rw [← EReal.coe_mul, ← EReal.coe_add, mul_two]

/-- A row whose stabilised mean square is not infinite is a row of reals. -/
theorem real_of_msq {x : Fin 1024 → EReal} (h : msq x ≠ ⊤) (k : Fin 1024) : ∃ r : ℝ, x k = (r : EReal) := by
  obtain ⟨e, he, hE⟩ := wEps_eq
  by_contra hk
  have hsq : x k * x k = ⊤ := by
    generalize x k = a at hk
    induction a with
    | bot => rfl
    | top => rfl
    | coe a => exact absurd ⟨a, rfl⟩ hk
  have hs : ∑ k, x k * x k = ⊤ :=
    top_le_iff.mp (hsq ▸ Finset.single_le_sum (f := fun k => x k * x k) (fun i _ => sq_nonneg' (x i)) (Finset.mem_univ k))
  refine h ?_
  unfold msq
  rw [hs, wCols_eq, Ideal.div_coe (by norm_num), EReal.top_mul_coe_of_pos (by norm_num), hE]
  exact EReal.top_add_coe e

/-- The stabilised mean square is infinite or a positive real. -/
theorem msq_cases (x : Fin 1024 → EReal) : msq x = ⊤ ∨ ∃ q : ℝ, 0 < q ∧ msq x = (q : EReal) := by
  obtain ⟨e, he, hE⟩ := wEps_eq
  have h0 : 0 ≤ Ideal.div (∑ k, x k * x k) wCols := by
    rw [wCols_eq, Ideal.div_coe (by norm_num)]
    exact mul_nonneg (Finset.sum_nonneg fun k _ => sq_nonneg' (x k)) (by exact_mod_cast (by norm_num : (0 : ℝ) ≤ 1 / 1024))
  unfold msq
  rw [hE]
  generalize Ideal.div (∑ k, x k * x k) wCols = a at h0
  induction a with
  | bot => exact absurd h0 (by simp)
  | top => exact Or.inl (EReal.top_add_coe e)
  | coe a => exact Or.inr ⟨a + e, by have : 0 ≤ a := by exact_mod_cast h0
                                     linarith, by rw [EReal.coe_add]⟩

theorem ker_eq_ref (y : EReal) (t x : Fin 1024 → EReal) (c : Fin 1024) : ker y t x c = ref y t x c := by
  rcases msq_cases x with h | ⟨q, hq, h⟩
  · have hi : inv x = 0 := by unfold inv; rw [h]; rfl
    have hs : sq t x = 0 := by
      unfold sq
      rw [hi, h, wCols_eq, Ideal.div_coe (by norm_num)]
      simp [Ideal.div]
    unfold ker ref
    rw [hs, hi]
    simp
  · have hne : msq x ≠ ⊤ := by rw [h]; exact EReal.coe_ne_top q
    choose X hX using fun k => real_of_msq hne k
    have hi : inv x = ((Real.sqrt q)⁻¹ : ℝ) := by
      unfold inv
      rw [h]
      simp [not_lt.mpr hq.le, hq.ne']
    have hR : 0 ≤ (Real.sqrt q)⁻¹ := inv_nonneg.mpr (Real.sqrt_nonneg q)
    have hR2 : (Real.sqrt q)⁻¹ * (Real.sqrt q)⁻¹ = 1 / q := by
      rw [← mul_inv, Real.mul_self_sqrt hq.le, one_div]
    unfold ker ref sq
    rw [hi, h]
    generalize (Real.sqrt q)⁻¹ = R at hR hR2
    have hS : ∑ k, t k * (x k * (R : EReal)) = (∑ k, x k * t k) * (R : EReal) := by
      rw [← sum_mul_real _ R hR]
      exact Finset.sum_congr rfl fun k _ => by rw [← mul_assoc, mul_comm (t k)]
    rw [hS]
    generalize ∑ k, x k * t k = S
    rw [wCols_eq, wHalf_eq, Ideal.div_coe (by norm_num : (1024 : ℝ) ≠ 0), Ideal.div_coe (by norm_num : (1024 : ℝ) ≠ 0), Ideal.div_coe hq.ne', hX c]
    generalize X c = a
    have e1 : (R : EReal) * (t c - (a : EReal) * (R : EReal) * (S * (R : EReal) * ((1 / 1024 : ℝ) : EReal)))
        = t c * (R : EReal) + S * ((-(a * R * R * R * (1 / 1024)) : ℝ) : EReal) := by
      rw [sub_eq_add_neg, EReal.left_distrib_of_nonneg_of_ne_top (by exact_mod_cast hR) (EReal.coe_ne_top R), mul_comm (R : EReal) (t c)]
      refine congrArg (t c * (R : EReal) + ·) ?_
      rw [mul_neg, EReal.coe_neg, mul_neg]
      refine congrArg Neg.neg ?_
      rw [EReal.coe_mul, EReal.coe_mul, EReal.coe_mul, EReal.coe_mul]
      ac_rfl
    have e2 : (a : EReal) * (S * (((-(1 / 2) : ℝ) : EReal) * ((R : EReal) * ((1 / q : ℝ) : EReal))) * ((1 / 1024 : ℝ) : EReal))
        = S * ((a * (-(1 / 2) * (R * (1 / q))) * (1 / 1024) : ℝ) : EReal) := by
      rw [EReal.coe_mul (a * (-(1 / 2) * (R * (1 / q)))), EReal.coe_mul a, EReal.coe_mul (-(1 / 2)), EReal.coe_mul R]
      ac_rfl
    rw [e1, mul_comm (S * _ * _) (a : EReal), e2, add_assoc (y + _), twice, mul_assoc S, ← EReal.coe_mul, add_assoc]
    refine congrArg (fun z : ℝ => y + (t c * (R : EReal) + S * (z : EReal))) ?_
    rw [← hR2]
    ring

end Cert.Dh
end
end
-- ==== Proof.DhPay.lean ====
module

public import proofs.«01_k».proof.Proof.DhBlock
public import proofs.«01_k».proof.Proof.DhAlg
public import Idealize.ShloMosaic.Lib.ValueLayout

@[expose] public section
set_option maxRecDepth 16384

/-! What a grid point writes, at every index, from the cotangent of its normed activations. -/

noncomputable section
namespace Cert.Dh
open Cert.Kernel2Ideal Cert.Kernel2Ideal.Gen Idealize.ShloMosaic Idealize.ShloMosaic.TcCoe Idealize.ShloMosaic.Tactic Idealize.SL.Sem
open Idealize.ShloMosaic.ValueIdx

/-- The sums of the rows, as a column. -/
def rowSums (v : FVec Ideal S256x1024 .f32) : FVec Ideal S256x1 .f32 :=
  shapeCast S256x1 (multiReduction (F := Ideal) .add [1] S256 v 0x00000000#32 reduces_S256x1024_S256 (.inl rfl) rfl) shapeCasts_S256_S256x1

/-- The sums of the columns, as a row. -/
def colSums (v : FVec Ideal S256x1024 .f32) : FVec Ideal S1x1024 .f32 :=
  shapeCast S1x1024 (multiReduction (F := Ideal) .add [0] S1024 v 0x00000000#32 reduces_S256x1024_S1024 (.inl rfl) rfl) shapeCasts_S1024_S1x1024

theorem row_sum (v : FVec Ideal S256x1024 .f32) (p : Fin 256) : rowSums v (ix2 p (0 : Fin 1)) = ∑ k : Fin 1024, v (ix2 p k) := by
  unfold rowSums
  refine (shapeCast_apply _ shapeCasts_S256_S256x1 (ix2 p (0 : Fin 1)) (ix1 p) (by
    rw [Shape.rowMajor_val_two, Shape.rowMajor_val_one]
    show p.val = p.val * 1 + 0
    omega)).trans ?_
  refine (Ideal.multiReduction_add_single v _ reduces_S256x1024_S256 (.inl rfl) rfl (ix1 p)).trans ?_
  exact Finset.sum_congr rfl fun k _ => congrArg v (funext fun a => Fin.ext (match a with
    | ⟨0, _⟩ => rfl
    | ⟨1, _⟩ => rfl))

theorem col_sum (v : FVec Ideal S256x1024 .f32) (c : Fin 1024) : colSums v (ix2 (0 : Fin 1) c) = ∑ p : Fin 256, v (ix2 p c) := by
  unfold colSums
  refine (shapeCast_apply _ shapeCasts_S1024_S1x1024 (ix2 (0 : Fin 1) c) (ix1 c) (by
    rw [Shape.rowMajor_val_two, Shape.rowMajor_val_one]
    show c.val = 0 * 1024 + c.val
    omega)).trans ?_
  refine (Ideal.multiReduction_add_single v _ reduces_S256x1024_S1024 (.inl rfl) rfl (ix1 c)).trans ?_
  exact Finset.sum_congr rfl fun k _ => congrArg v (funext fun a => Fin.ext (match a with
    | ⟨0, _⟩ => rfl
    | ⟨1, _⟩ => rfl))

theorem col_all (v : FVec Ideal S256x1 .f32) (p : Fin 256) (c : Fin 1024) :
    broadcastTo S256x1024 v broadcasts_S256x1_S256x1024 (ix2 p c) = v (ix2 p (0 : Fin 1)) :=
  broadcastTo_apply v _ (ix2 p c) (ix2 p (0 : Fin 1)) fun a => match a with
    | ⟨0, _⟩ => rfl
    | ⟨1, _⟩ => rfl

theorem row_all (v : FVec Ideal S1x1024 .f32) (p : Fin 256) (c : Fin 1024) :
    broadcastTo S256x1024 v broadcasts_S1x1024_S256x1024 (ix2 p c) = v (ix2 (0 : Fin 1) c) :=
  broadcastTo_1b_ab_apply v _ p c

/-- The inverse root of the mean square. -/
theorem root_apply (x : FVec Ideal S256x1024 .f32) (p : Fin 256) :
    k0_pay58 (F := Ideal) (k0_pay57 x) (ix2 p (0 : Fin 1)) = inv (fun k => x (ix2 p k)) := by
  unfold k0_pay58 k0_pay57 inv msq
  show Ideal.rsqrt (Ideal.div (rowSums (mulf x x) (ix2 p (0 : Fin 1))) wCols + wEps) = _
  rw [row_sum]
  rfl

/-- The normed activations. -/
theorem normed_apply (x : FVec Ideal S256x1024 .f32) (p : Fin 256) (c : Fin 1024) :
    k0_pay59 (F := Ideal) x (k0_pay57 x) (ix2 p c) = x (ix2 p c) * inv (fun k => x (ix2 p k)) := by
  unfold k0_pay59
  show x (ix2 p c) * broadcastTo S256x1024 _ _ (ix2 p c) = _
  rw [col_all, root_apply]

theorem outX_apply (d x3 x4 : FVec Ideal S256x1024 .f32) (x5 x6 : FVec Ideal S1x1024 .f32) (p : Fin 256) (c : Fin 1024) :
    outX (F := Ideal) d x3 x4 x5 x6 (ix2 p c)
      = ker (x3 (ix2 p c)) (fun k => d (ix2 p k) * (x5 (ix2 (0 : Fin 1) k) * (wOne + x6 (ix2 (0 : Fin 1) k)))) (fun k => x4 (ix2 p k)) c := by
  have ht : ∀ k, mulf (F := Ideal) (φ := .f32) d (broadcastTo S256x1024 (mulf x5 (k0_pay56 x6)) broadcasts_S1x1024_S256x1024) (ix2 p k)
      = d (ix2 p k) * (x5 (ix2 (0 : Fin 1) k) * (wOne + x6 (ix2 (0 : Fin 1) k))) := by
    intro k
    show d (ix2 p k) * broadcastTo S256x1024 _ _ (ix2 p k) = _
    rw [row_all]
    rfl
  unfold outX k0_pay61 ker
  dsimp only
  generalize mulf (F := Ideal) (φ := .f32) d (broadcastTo S256x1024 (mulf x5 (k0_pay56 x6)) broadcasts_S1x1024_S256x1024) = t at ht ⊢
  show x3 (ix2 p c) + broadcastTo S256x1024 (k0_pay58 (k0_pay57 x4)) _ (ix2 p c)
    * (t (ix2 p c) - k0_pay59 x4 (k0_pay57 x4) (ix2 p c) * broadcastTo S256x1024
      (divf (rowSums (mulf t (k0_pay59 x4 (k0_pay57 x4)))) (broadcast S256x1 (Scalar.ofBits .f32 0x44800000#32))) broadcasts_S256x1_S256x1024 (ix2 p c)) = _
  rw [col_all, col_all, root_apply, normed_apply, ht]
  have hs : rowSums (mulf t (k0_pay59 x4 (k0_pay57 x4))) (ix2 p (0 : Fin 1))
      = ∑ k, d (ix2 p k) * (x5 (ix2 (0 : Fin 1) k) * (wOne + x6 (ix2 (0 : Fin 1) k))) * (x4 (ix2 p k) * inv (fun k => x4 (ix2 p k))) := by
    rw [row_sum]
    refine Finset.sum_congr rfl fun k _ => ?_
    show t (ix2 p k) * k0_pay59 x4 (k0_pay57 x4) (ix2 p k) = _
    rw [ht, normed_apply]
  rw [← hs]
  rfl

theorem outShift_apply (d : FVec Ideal S256x1024 .f32) (old : FVec Ideal S1x1024 .f32) (c : Fin 1024) :
    outShift (F := Ideal) d old (ix2 (0 : Fin 1) c) = old (ix2 (0 : Fin 1) c) + ∑ p : Fin 256, d (ix2 p c) := by
  unfold outShift k0_pay62
  show shapeCast S1x1024 old shapeCasts_S1x1024_S1x1024 (ix2 (0 : Fin 1) c)
    + colSums d (ix2 (0 : Fin 1) c) = _
  rw [col_sum, shapeCast_self]

theorem outScale_apply (d x4 : FVec Ideal S256x1024 .f32) (x5 old : FVec Ideal S1x1024 .f32) (c : Fin 1024) :
    outScale (F := Ideal) d x4 x5 old (ix2 (0 : Fin 1) c) = old (ix2 (0 : Fin 1) c)
      + ∑ p : Fin 256, d (ix2 p c) * (x4 (ix2 p c) * inv (fun k => x4 (ix2 p k))) * x5 (ix2 (0 : Fin 1) c) := by
  unfold outScale k0_pay63
  show shapeCast S1x1024 old shapeCasts_S1x1024_S1x1024 (ix2 (0 : Fin 1) c)
    + colSums (mulf (k0_pay60 d x4 (k0_pay57 x4)) (broadcastTo S256x1024 x5 broadcasts_S1x1024_S256x1024)) (ix2 (0 : Fin 1) c) = _
  rw [col_sum, shapeCast_self]
  refine congrArg (old (ix2 (0 : Fin 1) c) + ·) (Finset.sum_congr rfl fun p _ => ?_)
  show d (ix2 p c) * k0_pay59 x4 (k0_pay57 x4) (ix2 p c) * broadcastTo S256x1024 x5 _ (ix2 p c) = _
  rw [row_all, normed_apply]

theorem outGain_apply (d x4 : FVec Ideal S256x1024 .f32) (x6 old : FVec Ideal S1x1024 .f32) (c : Fin 1024) :
    outGain (F := Ideal) d x4 x6 old (ix2 (0 : Fin 1) c) = old (ix2 (0 : Fin 1) c)
      + ∑ p : Fin 256, d (ix2 p c) * (x4 (ix2 p c) * inv (fun k => x4 (ix2 p k))) * (wOne + x6 (ix2 (0 : Fin 1) c)) := by
  unfold outGain k0_pay1 k0_pay64
  show shapeCast S1x1024 old shapeCasts_S1x1024_S1x1024 (ix2 (0 : Fin 1) c)
    + colSums (mulf (k0_pay60 d x4 (k0_pay57 x4)) (broadcastTo S256x1024 (k0_pay56 x6) broadcasts_S1x1024_S256x1024)) (ix2 (0 : Fin 1) c) = _
  rw [col_sum, shapeCast_self]
  refine congrArg (old (ix2 (0 : Fin 1) c) + ·) (Finset.sum_congr rfl fun p _ => ?_)
  show d (ix2 p c) * k0_pay59 x4 (k0_pay57 x4) (ix2 p c) * broadcastTo S256x1024 (k0_pay56 x6) _ (ix2 p c) = _
  rw [row_all, normed_apply]
  rfl

end Cert.Dh
end
end
-- ==== Proof.DhDot.lean ====
module

public import proofs.«01_k».proof.Proof.DhBlock

@[expose] public section
set_option maxRecDepth 16384

/-! The kernel's sixteen products, summed, are one sum over all columns of the projection. -/

noncomputable section
namespace Cert.Dh
open Cert.Kernel2Ideal Cert.Kernel2Ideal.Gen Idealize.ShloMosaic
open Idealize.ShloMosaic.ValueIdx

/-- The cotangent of the projection's column `k`: q, k and v of the three groups, z_attn, u_pool, then z_pool and the gates. The
second array keeps u_pool last. -/
def cot (a : Fin 4608 → EReal) (b : Fin 3584 → EReal) (k : Fin 8192) : EReal :=
  if h : k.val < 4608 then a ⟨k.val, h⟩
  else if h : k.val < 5120 then b ⟨k.val - 4608, by omega⟩
  else if h : k.val < 5632 then b ⟨k.val - 2048, by omega⟩
  else b ⟨k.val - 5120, by omega⟩

/-- Column `k` of row `c` of the projection, kept as eight blocks of 1024 columns. -/
def wcol (w : FVec Ideal S8x1024x1024 .bf16) (c : Fin 1024) (k : Fin 8192) : EReal :=
  w (ix3 (⟨k.val / 1024, by omega⟩ : Fin 8) c (⟨k.val % 1024, by omega⟩ : Fin 1024))

/-- Column `q` of the 512 columns `j`. -/
def at512 (j : Fin 16) (q : Fin 512) : Fin 8192 := ⟨512 * j.val + q.val, by omega⟩

theorem sum_at512 (f : Fin 8192 → EReal) : ∑ k : Fin 8192, f k = ∑ j : Fin 16, ∑ q : Fin 512, f (at512 j q) := by
  rw [← Equiv.sum_comp (finProdFinEquiv (m := 16) (n := 512)) (fun k : Fin (16 * 512) => f k), Fintype.sum_prod_type]
  refine Finset.sum_congr rfl fun j _ => Finset.sum_congr rfl fun q _ => congrArg f (Fin.ext ?_)
  show q.val + 512 * j.val = 512 * j.val + q.val
  omega

/-- The order in which the kernel adds. -/
theorem order16 (t : Fin 16 → EReal) :
    t 0 + t 1 + t 2 + t 3 + t 4 + t 5 + t 6 + t 7 + t 8 + t 9 + t 11 + t 12 + t 13 + t 14 + t 15 + t 10 = ∑ j : Fin 16, t j := by
  have e : ∑ j : Fin 16, t j
      = t 0 + t 1 + t 2 + t 3 + t 4 + t 5 + t 6 + t 7 + t 8 + t 9 + t 10 + t 11 + t 12 + t 13 + t 14 + t 15 := by
    simp only [Fin.sum_univ_castSucc, Fin.sum_univ_zero, zero_add]
    rfl
  rw [e]
  abel

section
variable (x0 : FVec Ideal S16x16x4608 .bf16) (x1 : FVec Ideal S16x16x3584 .bf16) (w : FVec Ideal S8x1024x1024 .bf16) (r l : Fin 16) (c : Fin 1024)

/-- What the 512 columns `j` add. -/
def part (j : Fin 16) : EReal :=
  ∑ q : Fin 512, cot (fun x => x0 (ix3 r l x)) (fun x => x1 (ix3 r l x)) (at512 j q) * wcol w c (at512 j q)

theorem slab_wcol (j : Fin 16) (q : Fin 512) : slabW w j (ix3 (0 : Fin 1) c q) = wcol w c (at512 j q) := by
  rw [slabW_apply]
  unfold wcol at512
  have e0 : (⟨j.val / 2, by omega⟩ : Fin 8) = ⟨(512 * j.val + q.val) / 1024, by omega⟩ := Fin.ext (by show j.val / 2 = (512 * j.val + q.val) / 1024; omega)
  have e1 : (⟨512 * (j.val % 2) + q.val, by omega⟩ : Fin 1024) = ⟨(512 * j.val + q.val) % 1024, by omega⟩ :=
    Fin.ext (by show 512 * (j.val % 2) + q.val = (512 * j.val + q.val) % 1024; omega)
  rw [e0, e1]

theorem term_a (j : Fin 16) (o : Nat) (ho : o + 512 ≤ 4608) (e : o = 512 * j.val) :
    term (rowsA x0) (slabW w j) o ho (row r l) c = part x0 x1 w r l c j := by
  subst e
  unfold term part
  refine Finset.sum_congr rfl fun q _ => congrArg₂ (fun x y : EReal => x * y) ?_ (slab_wcol w c j q)
  rw [rowsA_apply]
  unfold cot at512
  rw [dif_pos (show 512 * j.val + q.val < 4608 by omega)]

theorem term_b (j : Fin 16) (o : Nat) (ho : o + 512 ≤ 3584)
    (e : (j.val = 9 ∧ o = 0) ∨ (j.val = 10 ∧ o = 3072) ∨ (11 ≤ j.val ∧ o = 512 * (j.val - 10))) :
    term (rowsB x1) (slabW w j) o ho (row r l) c = part x0 x1 w r l c j := by
  unfold term part
  refine Finset.sum_congr rfl fun q _ => congrArg₂ (fun x y : EReal => x * y) ?_ (slab_wcol w c j q)
  rw [rowsB_apply]
  unfold cot at512
  rw [dif_neg (show ¬ 512 * j.val + q.val < 4608 by omega)]
  rcases e with ⟨h, h'⟩ | ⟨h, h'⟩ | ⟨h, h'⟩
  · rw [dif_pos (show 512 * j.val + q.val < 5120 by omega)]
    exact congrArg (fun x : Fin 3584 => x1 (ix3 r l x)) (Fin.ext (by show o + q.val = 512 * j.val + q.val - 4608; omega))
  · rw [dif_neg (show ¬ 512 * j.val + q.val < 5120 by omega), dif_pos (show 512 * j.val + q.val < 5632 by omega)]
    exact congrArg (fun x : Fin 3584 => x1 (ix3 r l x)) (Fin.ext (by show o + q.val = 512 * j.val + q.val - 2048; omega))
  · rw [dif_neg (show ¬ 512 * j.val + q.val < 5120 by omega), dif_neg (show ¬ 512 * j.val + q.val < 5632 by omega)]
    exact congrArg (fun x : Fin 3584 => x1 (ix3 r l x)) (Fin.ext (by show o + q.val = 512 * j.val + q.val - 5120; omega))

/-- The cotangent of the normed activations at position `l` of residue `r` of the block. -/
theorem acc_apply :
    acc x0 x1 w (ix2 (row r l) c)
      = ∑ k : Fin 8192, cot (fun x => x0 (ix3 r l x)) (fun x => x1 (ix3 r l x)) k * wcol w c k := by
  rw [sum_at512, acc_terms]
  rw [term_a x0 x1 w r l c 0 0 (by decide) rfl, term_a x0 x1 w r l c 1 512 (by decide) rfl, term_a x0 x1 w r l c 2 1024 (by decide) rfl, term_a x0 x1 w r l c 3 1536 (by decide) rfl, term_a x0 x1 w r l c 4 2048 (by decide) rfl, term_a x0 x1 w r l c 5 2560 (by decide) rfl, term_a x0 x1 w r l c 6 3072 (by decide) rfl, term_a x0 x1 w r l c 7 3584 (by decide) rfl, term_a x0 x1 w r l c 8 4096 (by decide) rfl, term_b x0 x1 w r l c 9 0 (by decide) (by decide), term_b x0 x1 w r l c 11 512 (by decide) (by decide), term_b x0 x1 w r l c 12 1024 (by decide) (by decide), term_b x0 x1 w r l c 13 1536 (by decide) (by decide), term_b x0 x1 w r l c 14 2048 (by decide) (by decide), term_b x0 x1 w r l c 15 2560 (by decide) (by decide), term_b x0 x1 w r l c 10 3072 (by decide) (by decide)]
  exact order16 (part x0 x1 w r l c)

end

end Cert.Dh
end
end
-- ==== Proof.DhArray.lean ====
module

public import proofs.«01_k».proof.Proof.DhOutA
public import proofs.«01_k».proof.Proof.DhOutB
public import proofs.«01_k».proof.Proof.DhPay
public import proofs.«01_k».proof.Proof.DhDot
public import proofs.«01_k».proof.Proof.Gen.Kernel2Ideal.Value

@[expose] public section
set_option maxRecDepth 16384

/-! What the four result arrays hold after the grid of sixteen blocks of tokens, at every index, in terms
    of the arrays the kernel is called with. -/

noncomputable section
namespace Cert.Dh
open Cert.Kernel2Ideal Cert.Kernel2Ideal.Gen Idealize.ShloMosaic Idealize.ShloMosaic.TcCoe Idealize.ShloMosaic.Tactic Idealize.SL.Sem
open Idealize.ShloMosaic.ValueIdx
open Idealize.ShloMosaic.Pipeline (Dat)

/-! ### The results as functions of the arguments -/

/-- The cotangent of the normed activations of token `n`. -/
def dh (a0 : FVec Ideal S16x256x4608 .bf16) (a1 : FVec Ideal S16x256x3584 .bf16) (a2 : FVec Ideal S8x1024x1024 .bf16) (n : Fin 4096) (c : Fin 1024) : EReal :=
  ∑ k : Fin 8192, cot (fun x => a0 (ix3 (⟨n.val % 16, by omega⟩ : Fin 16) (⟨n.val / 16, by omega⟩ : Fin 256) x))
    (fun x => a1 (ix3 (⟨n.val % 16, by omega⟩ : Fin 16) (⟨n.val / 16, by omega⟩ : Fin 256) x)) k * wcol a2 c k

/-- The gradient of the activations of token `n`. -/
def gx (d : Fin 4096 → Fin 1024 → EReal) (a3 a4 : FVec Ideal S4096x1024 .f32) (a5 a6 : FVec Ideal S1x1024 .f32) (n : Fin 4096) (c : Fin 1024) : EReal :=
  ker (a3 (ix2 n c)) (fun k => d n k * (a5 (ix2 (0 : Fin 1) k) * (wOne + a6 (ix2 (0 : Fin 1) k)))) (fun k => a4 (ix2 n k)) c

/-- What token `n` adds to the scale's gradient. -/
def gscale (d : Fin 4096 → Fin 1024 → EReal) (a4 : FVec Ideal S4096x1024 .f32) (a5 : FVec Ideal S1x1024 .f32) (n : Fin 4096) (c : Fin 1024) : EReal :=
  d n c * (a4 (ix2 n c) * inv (fun k => a4 (ix2 n k))) * a5 (ix2 (0 : Fin 1) c)

/-- What token `n` adds to the gain's gradient. -/
def ggain (d : Fin 4096 → Fin 1024 → EReal) (a4 : FVec Ideal S4096x1024 .f32) (a6 : FVec Ideal S1x1024 .f32) (n : Fin 4096) (c : Fin 1024) : EReal :=
  d n c * (a4 (ix2 n c) * inv (fun k => a4 (ix2 n k))) * (wOne + a6 (ix2 (0 : Fin 1) c))

/-- Token `p` of block `z`. -/
def tok (z : Fin 16) (p : Fin 256) : Fin 4096 := ⟨256 * z.val + p.val, by omega⟩

/-- A sum over all tokens, block by block. -/
theorem sum_tok (f : Fin 4096 → EReal) : ∑ n : Fin 4096, f n = ∑ z : Fin 16, ∑ p : Fin 256, f (tok z p) := by
  rw [← Equiv.sum_comp (finProdFinEquiv (m := 16) (n := 256)) (fun k : Fin (16 * 256) => f k), Fintype.sum_prod_type]
  refine Finset.sum_congr rfl fun j _ => Finset.sum_congr rfl fun q _ => congrArg f (Fin.ext ?_)
  show q.val + 256 * j.val = 256 * j.val + q.val
  exact Nat.add_comm _ _

variable (m : (ℓ : Loc nD τ sig) → Buf (Elt Ideal) ℓ) (c : Dev nD)

/-- The grid has sixteen points. -/
theorem lt16 (t : Fin cfg0.N) : t.val < 16 := lt_of_lt_of_eq t.isLt N_0

/-- Grid point `z`. -/
def pt (z : Fin 16) : Fin cfg0.N := ⟨z.val, lt_of_lt_of_eq z.isLt N_0.symm⟩

/-! ### The blocks a grid point reads -/

/-- Point `z`'s block of the q, k and v cotangents: sixteen positions of every residue. -/
theorem iblk_0 (z : Fin 16) (r l : Fin 16) (x : Fin 4608) :
    (iblk m c 0 (pt z) : FVec Ideal S16x16x4608 .bf16) (ix3 r l x)
      = (V m c main_arg0 : FVec Ideal S16x256x4608 .bf16) (ix3 r (⟨16 * z.val + l.val, by omega⟩ : Fin 256) x) := by
  have hi : ∀ t : Fin grid0.N, win0_0.index t 0 = 0 ∧ win0_0.index t 1 = t.val ∧ win0_0.index t 2 = 0 := by decide +kernel
  obtain ⟨h0, h1, h2⟩ := hi (pt z)
  refine congrArg (V m c main_arg0) (funext fun a => Fin.ext ?_)
  match a with
  | ⟨0, _⟩ => show win0_0.index (pt z) 0 * 16 + 1 * r.val = r.val; rw [h0]; omega
  | ⟨1, _⟩ => show win0_0.index (pt z) 1 * 16 + 1 * l.val = 16 * z.val + l.val; rw [h1]; show z.val * 16 + 1 * l.val = 16 * z.val + l.val; omega
  | ⟨2, _⟩ => show win0_0.index (pt z) 2 * 4608 + 1 * x.val = x.val; rw [h2]; omega

/-- Point `z`'s block of the other cotangents. -/
theorem iblk_1 (z : Fin 16) (r l : Fin 16) (x : Fin 3584) :
    (iblk m c 1 (pt z) : FVec Ideal S16x16x3584 .bf16) (ix3 r l x)
      = (V m c main_arg1 : FVec Ideal S16x256x3584 .bf16) (ix3 r (⟨16 * z.val + l.val, by omega⟩ : Fin 256) x) := by
  have hi : ∀ t : Fin grid0.N, win0_1.index t 0 = 0 ∧ win0_1.index t 1 = t.val ∧ win0_1.index t 2 = 0 := by decide +kernel
  obtain ⟨h0, h1, h2⟩ := hi (pt z)
  refine congrArg (V m c main_arg1) (funext fun a => Fin.ext ?_)
  match a with
  | ⟨0, _⟩ => show win0_1.index (pt z) 0 * 16 + 1 * r.val = r.val; rw [h0]; omega
  | ⟨1, _⟩ => show win0_1.index (pt z) 1 * 16 + 1 * l.val = 16 * z.val + l.val; rw [h1]; show z.val * 16 + 1 * l.val = 16 * z.val + l.val; omega
  | ⟨2, _⟩ => show win0_1.index (pt z) 2 * 3584 + 1 * x.val = x.val; rw [h2]; omega

/-- Every point sees the whole projection. -/
theorem iblk_2 (z : Fin 16) : (iblk m c 2 (pt z) : FVec Ideal S8x1024x1024 .bf16) = (V m c main_arg2 : FVec Ideal S8x1024x1024 .bf16) := by
  have hi : ∀ t : Fin grid0.N, win0_2.index t 0 = 0 ∧ win0_2.index t 1 = 0 ∧ win0_2.index t 2 = 0 := by decide +kernel
  obtain ⟨h0, h1, h2⟩ := hi (pt z)
  funext y
  refine congrArg (V m c main_arg2) (funext fun a => Fin.ext ?_)
  match a with
  | ⟨0, _⟩ => show win0_2.index (pt z) 0 * 8 + 1 * (y 0).val = (y 0).val; rw [h0]; omega
  | ⟨1, _⟩ => show win0_2.index (pt z) 1 * 1024 + 1 * (y 1).val = (y 1).val; rw [h1]; omega
  | ⟨2, _⟩ => show win0_2.index (pt z) 2 * 1024 + 1 * (y 2).val = (y 2).val; rw [h2]; omega

/-- Point `z`'s tokens of the residual cotangent. -/
theorem iblk_3 (z : Fin 16) (p : Fin 256) (x : Fin 1024) :
    (iblk m c 3 (pt z) : FVec Ideal S256x1024 .f32) (ix2 p x) = (V m c main_arg3 : FVec Ideal S4096x1024 .f32) (ix2 (tok z p) x) := by
  have hi : ∀ t : Fin grid0.N, win0_3.index t 0 = t.val ∧ win0_3.index t 1 = 0 := by decide +kernel
  obtain ⟨h0, h1⟩ := hi (pt z)
  refine congrArg (V m c main_arg3) (funext fun a => Fin.ext ?_)
  match a with
  | ⟨0, _⟩ => show win0_3.index (pt z) 0 * 256 + 1 * p.val = 256 * z.val + p.val; rw [h0]; show z.val * 256 + 1 * p.val = 256 * z.val + p.val; omega
  | ⟨1, _⟩ => show win0_3.index (pt z) 1 * 1024 + 1 * x.val = x.val; rw [h1]; omega

/-- Point `z`'s tokens of the activations. -/
theorem iblk_4 (z : Fin 16) (p : Fin 256) (x : Fin 1024) :
    (iblk m c 4 (pt z) : FVec Ideal S256x1024 .f32) (ix2 p x) = (V m c main_arg4 : FVec Ideal S4096x1024 .f32) (ix2 (tok z p) x) := by
  have hi : ∀ t : Fin grid0.N, win0_4.index t 0 = t.val ∧ win0_4.index t 1 = 0 := by decide +kernel
  obtain ⟨h0, h1⟩ := hi (pt z)
  refine congrArg (V m c main_arg4) (funext fun a => Fin.ext ?_)
  match a with
  | ⟨0, _⟩ => show win0_4.index (pt z) 0 * 256 + 1 * p.val = 256 * z.val + p.val; rw [h0]; show z.val * 256 + 1 * p.val = 256 * z.val + p.val; omega
  | ⟨1, _⟩ => show win0_4.index (pt z) 1 * 1024 + 1 * x.val = x.val; rw [h1]; omega

/-- Every point sees the whole gain. -/
theorem iblk_5 (z : Fin 16) (x : Fin 1024) :
    (iblk m c 5 (pt z) : FVec Ideal S1x1024 .f32) (ix2 (0 : Fin 1) x) = (V m c main_arg5 : FVec Ideal S1x1024 .f32) (ix2 (0 : Fin 1) x) := by
  have hi : ∀ t : Fin grid0.N, win0_5.index t 0 = 0 ∧ win0_5.index t 1 = 0 := by decide +kernel
  obtain ⟨h0, h1⟩ := hi (pt z)
  refine congrArg (V m c main_arg5) (funext fun a => Fin.ext ?_)
  match a with
  | ⟨0, _⟩ => show win0_5.index (pt z) 0 * 1 + 1 * 0 = 0; rw [h0]
  | ⟨1, _⟩ => show win0_5.index (pt z) 1 * 1024 + 1 * x.val = x.val; rw [h1]; omega

/-- Every point sees the whole scale. -/
theorem iblk_6 (z : Fin 16) (x : Fin 1024) :
    (iblk m c 6 (pt z) : FVec Ideal S1x1024 .f32) (ix2 (0 : Fin 1) x) = (V m c main_arg6 : FVec Ideal S1x1024 .f32) (ix2 (0 : Fin 1) x) := by
  have hi : ∀ t : Fin grid0.N, win0_6.index t 0 = 0 ∧ win0_6.index t 1 = 0 := by decide +kernel
  obtain ⟨h0, h1⟩ := hi (pt z)
  refine congrArg (V m c main_arg6) (funext fun a => Fin.ext ?_)
  match a with
  | ⟨0, _⟩ => show win0_6.index (pt z) 0 * 1 + 1 * 0 = 0; rw [h0]
  | ⟨1, _⟩ => show win0_6.index (pt z) 1 * 1024 + 1 * x.val = x.val; rw [h1]; omega

/-! ### What a grid point computes -/

/-- The cotangent of the normed activations of all tokens. -/
def dhs (n : Fin 4096) (x : Fin 1024) : EReal := dh (V m c main_arg0) (V m c main_arg1) (V m c main_arg2) n x

/-- Its block of point `t`. -/
def dblk (t : Fin cfg0.N) : FVec Ideal S256x1024 .f32 := tokens (acc (iblk m c 0 t) (iblk m c 1 t) (iblk m c 2 t))

theorem dblk_apply (z : Fin 16) (p : Fin 256) (x : Fin 1024) : dblk m c (pt z) (ix2 p x) = dhs m c (tok z p) x := by
  obtain ⟨l, r, rfl⟩ : ∃ l r : Fin 16, p = row l r :=
    ⟨⟨p.val / 16, by omega⟩, ⟨p.val % 16, by omega⟩, Fin.ext (by show p.val = 16 * (p.val / 16) + p.val % 16; omega)⟩
  unfold dblk dhs dh
  rw [tokens_apply, acc_apply, iblk_2]
  have e1 : (⟨(tok z (row l r)).val % 16, by omega⟩ : Fin 16) = r :=
    Fin.ext (by show (256 * z.val + (16 * l.val + r.val)) % 16 = r.val; omega)
  have e2 : (⟨(tok z (row l r)).val / 16, by have := (tok z (row l r)).isLt; omega⟩ : Fin 256) = ⟨16 * z.val + l.val, by omega⟩ :=
    Fin.ext (by show (256 * z.val + (16 * l.val + r.val)) / 16 = 16 * z.val + l.val; omega)
  refine Finset.sum_congr rfl fun k _ => ?_
  rw [e1, e2]
  exact congrArg (· * _) (congrArg₂ (fun a b => cot a b k) (funext fun x => iblk_0 m c z r l x) (funext fun x => iblk_1 m c z r l x))

/-- The activations, the gain and the scale as point `t` sees them. -/
def xblk (t : Fin cfg0.N) : FVec Ideal S256x1024 .f32 := iblk m c 4 t
def gblk (t : Fin cfg0.N) : FVec Ideal S1x1024 .f32 := iblk m c 5 t
def sblk (t : Fin cfg0.N) : FVec Ideal S1x1024 .f32 := iblk m c 6 t

/-- After point `n` the staged gradient is that of the point's tokens. -/
theorem gx_at : ∀ (n : ℕ) (h : n < cfg0.N), (outsAt0 m c n h).1
    = outX (F := Ideal) (dblk m c ⟨n, h⟩) (iblk m c 3 ⟨n, h⟩) (iblk m c 4 ⟨n, h⟩) (iblk m c 5 ⟨n, h⟩) (iblk m c 6 ⟨n, h⟩)
  | 0, h => by
    rw [outsAt0_A m c ⟨0, h⟩ rfl]
    dsimp only
    rw [outA_7]
    rfl
  | n + 1, h => by
    have hN : cfg0.N = 16 := N_0
    have hB : ¬(⟨n + 1, h⟩ : Fin cfg0.N).val % 16 = 0 := by dsimp only; omega
    rw [outsAt0_B m c ⟨n + 1, h⟩ hB]
    dsimp only
    rw [outB_7]
    rfl

/-- Where point `t`'s block of the gradient array lies. -/
theorem index_7 : ∀ t : Fin grid0.N, win0_7.index t 0 = t.val ∧ win0_7.index t 1 = 0 := by decide +kernel

/-- The gradient array ends holding the gradient of every token. -/
theorem final_gx (z : Fin 16) (p : Fin 256) (x : Fin 1024) :
    ((dats m 0 c).arrAt 7 cfg0.N : FVec Ideal S4096x1024 .f32) (ix2 (tok z p) x)
      = gx (dhs m c) (V m c main_arg3) (V m c main_arg4) (V m c main_arg5) (V m c main_arg6) (tok z p) x := by
  have hb := congrFun ((Cert.Kernel2Ideal.Value.blocks7 m c (pt z) (flush0_7 _)).trans (Cert.Kernel2Ideal.Value.flushed7 m c (pt z))) (ix2 p x)
  rw [View.read_apply] at hb
  obtain ⟨h0, h1⟩ := index_7 (pt z)
  refine Eq.trans ?_ (hb.trans ?_)
  · show (dats m 0 c).arrAt 7 cfg0.N _ = (dats m 0 c).arrAt 7 cfg0.N _
    congr 1
    funext a
    apply Fin.ext
    match a with
    | ⟨0, _⟩ => show 256 * z.val + p.val = win0_7.index (pt z) 0 * 256 + 1 * p.val; rw [h0]; show 256 * z.val + p.val = z.val * 256 + 1 * p.val; omega
    | ⟨1, _⟩ => show x.val = win0_7.index (pt z) 1 * 1024 + 1 * x.val; rw [h1]; omega
  · show (outsAt0 m c (pt z).val (pt z).isLt).1 (ix2 p x) = _
    rw [gx_at]
    show outX (F := Ideal) (dblk m c (pt z)) (iblk m c 3 (pt z)) (iblk m c 4 (pt z)) (iblk m c 5 (pt z)) (iblk m c 6 (pt z)) (ix2 p x) = _
    rw [outX_apply]
    unfold gx
    rw [iblk_3]
    exact congrArg₂ (fun t y => ker _ t y x)
      (funext fun k => by rw [dblk_apply, iblk_5, iblk_6]) (funext fun k => iblk_4 m c z p k)

/-! ### The shift's gradient -/

/-- What point `t` adds to column `x`. -/
def shiftAdd (t : Fin cfg0.N) (x : Fin 1024) : EReal := ∑ p : Fin 256, dblk m c t (ix2 p x)

theorem shift_at : ∀ (n : ℕ) (h : n < cfg0.N) (x : Fin 1024),
    (outsAt0 m c n h).2.1 (ix2 (0 : Fin 1) x) = ∑ z : Fin (n + 1), shiftAdd m c ⟨z.val, lt_of_lt_of_le z.isLt h⟩ x
  | 0, h, x => by
    rw [outsAt0_A m c ⟨0, h⟩ rfl, Fin.sum_univ_one]
    dsimp only
    rw [outA_8]
    show outShift (F := Ideal) (dblk m c ⟨0, h⟩)  (k0_pay2 (F := Ideal)) (ix2 (0 : Fin 1) x) = shiftAdd m c ⟨0, h⟩ x
    have hz : (k0_pay2 (F := Ideal)) (ix2 (0 : Fin 1) x) = (0 : EReal) := Ideal.ofBits_zero_f32
    rw [outShift_apply, hz, zero_add]
    rfl
  | n + 1, h, x => by
    have hN : cfg0.N = 16 := N_0
    have hB : ¬(⟨n + 1, h⟩ : Fin cfg0.N).val % 16 = 0 := by dsimp only; omega
    rw [outsAt0_B m c ⟨n + 1, h⟩ hB]
    dsimp only
    rw [outB_8]
    show outShift (F := Ideal) (dblk m c ⟨n + 1, h⟩)  (outsAt0 m c n (Nat.lt_of_succ_lt h)).2.1 (ix2 (0 : Fin 1) x) = _
    rw [outShift_apply, shift_at n, Fin.sum_univ_castSucc (n := n + 1)]
    rfl

/-- The row after the whole grid. -/
def shiftRow : FVec Ideal S1x1024 .f32 := fun y => ∑ n : Fin 4096, (fun x => dhs m c n x) (⟨(y 1).val, (y 1).isLt⟩ : Fin 1024)

theorem shift_sum (x : Fin 1024) : ∑ z : Fin 16, shiftAdd m c (pt z) x = shiftRow m c (ix2 (0 : Fin 1) x) := by
  unfold shiftRow
  rw [sum_tok]
  refine Finset.sum_congr rfl fun z _ => ?_
  unfold shiftAdd
  refine Finset.sum_congr rfl fun p _ => ?_
  · show dblk m c (pt z) (ix2 p x) = dhs m c (tok z p) x
    rw [dblk_apply]

theorem flushed_shift (t : Fin cfg0.N) (hf : (cfg0.win 8).flush t = true) :
    (dats m 0 c).flushed 8 t = ((cfg0.win 8).blk t).view.read (Elt Ideal) (shiftRow m c) := by
  have hN : cfg0.N = 16 := N_0
  have h15 : t.val = 15 := by have := (flush0_8 t).mp hf; have := t.isLt; omega
  obtain rfl : t = pt 15 := Fin.ext h15
  show (cfg0.win 8).cut (grid0.coords (pt 15)) ((dats m 0 c).after 8 (pt 15)) = _
  rw [after0_8]
  have hz' : (fun a => win0_8.index (pt 15) a * main_v0_1.ty.shape.size a) = fun _ => 0 := funext fun a => by fin_cases a <;> decide +kernel
  have e : (outsAt0 m c (pt 15).val (pt 15).isLt).2.1 = shiftRow m c := funext fun y => by
    have hy : y = ix2 (0 : Fin 1) (⟨(y 1).val, (y 1).isLt⟩ : Fin 1024) := funext fun a => Fin.ext (match a with
      | ⟨0, _⟩ => Nat.lt_one_iff.mp (y 0).isLt
      | ⟨1, _⟩ => rfl)
    rw [hy]
    exact (shift_at m c 15 (pt 15).isLt _).trans (shift_sum m c _)
  rw [e]
  exact (Memref.read_access_unit_zero (Elt Ideal) main_v0_1 hz' (fun a => by rw [congrFun hz' a]; simp) (shiftRow m c)).symm

/-- The row's array ends holding the sum over all tokens. -/
theorem final_shift : (dats m 0 c).arrAt 8 cfg0.N = shiftRow m c :=
  (dats m 0 c).arrAt_eq_of_cover 8 (shiftRow m c) (flushed_shift m c) fun i =>
    ⟨pt 15, (flush0_8 (pt 15)).mpr rfl, by
      show i ∈ ((View.whole main_v0_1).slice (win0_8.rect (pt 15))).set
      rw [View.set_slice_whole, Rect.mem_set_unit]
      intro a
      have hi : win0_8.index (pt 15) 0 = 0 ∧ win0_8.index (pt 15) 1 = 0 := by decide +kernel
      obtain ⟨e0, e1⟩ := hi
      have h0 : (i 0 : Nat) < 1 := (i 0).isLt
      have h1 : (i 1 : Nat) < 1024 := (i 1).isLt
      match a with
      | ⟨0, _⟩ => show win0_8.index (pt 15) 0 * 1 ≤ (i 0 : Nat) ∧ (i 0 : Nat) < win0_8.index (pt 15) 0 * 1 + 1
                  rw [e0]; omega
      | ⟨1, _⟩ => show win0_8.index (pt 15) 1 * 1024 ≤ (i 1 : Nat) ∧ (i 1 : Nat) < win0_8.index (pt 15) 1 * 1024 + 1024
                  rw [e1]; omega⟩

/-! ### The scale's gradient -/

/-- What point `t` adds to column `x`. -/
def scaleAdd (t : Fin cfg0.N) (x : Fin 1024) : EReal := ∑ p : Fin 256, dblk m c t (ix2 p x) * (xblk m c t (ix2 p x) * inv (fun k => xblk m c t (ix2 p k))) * gblk m c t (ix2 (0 : Fin 1) x)

theorem scale_at : ∀ (n : ℕ) (h : n < cfg0.N) (x : Fin 1024),
    (outsAt0 m c n h).2.2.1 (ix2 (0 : Fin 1) x) = ∑ z : Fin (n + 1), scaleAdd m c ⟨z.val, lt_of_lt_of_le z.isLt h⟩ x
  | 0, h, x => by
    rw [outsAt0_A m c ⟨0, h⟩ rfl, Fin.sum_univ_one]
    dsimp only
    rw [outA_9]
    show outScale (F := Ideal) (dblk m c ⟨0, h⟩) (xblk m c ⟨0, h⟩) (gblk m c ⟨0, h⟩) (k0_pay3 (F := Ideal)) (ix2 (0 : Fin 1) x) = scaleAdd m c ⟨0, h⟩ x
    have hz : (k0_pay3 (F := Ideal)) (ix2 (0 : Fin 1) x) = (0 : EReal) := Ideal.ofBits_zero_f32
    rw [outScale_apply, hz, zero_add]
    rfl
  | n + 1, h, x => by
    have hN : cfg0.N = 16 := N_0
    have hB : ¬(⟨n + 1, h⟩ : Fin cfg0.N).val % 16 = 0 := by dsimp only; omega
    rw [outsAt0_B m c ⟨n + 1, h⟩ hB]
    dsimp only
    rw [outB_9]
    show outScale (F := Ideal) (dblk m c ⟨n + 1, h⟩) (xblk m c ⟨n + 1, h⟩) (gblk m c ⟨n + 1, h⟩) (outsAt0 m c n (Nat.lt_of_succ_lt h)).2.2.1 (ix2 (0 : Fin 1) x) = _
    rw [outScale_apply, scale_at n, Fin.sum_univ_castSucc (n := n + 1)]
    rfl

/-- The row after the whole grid. -/
def scaleRow : FVec Ideal S1x1024 .f32 := fun y => ∑ n : Fin 4096, (fun x => gscale (dhs m c) (V m c main_arg4) (V m c main_arg5) n x) (⟨(y 1).val, (y 1).isLt⟩ : Fin 1024)

theorem scale_sum (x : Fin 1024) : ∑ z : Fin 16, scaleAdd m c (pt z) x = scaleRow m c (ix2 (0 : Fin 1) x) := by
  unfold scaleRow
  rw [sum_tok]
  refine Finset.sum_congr rfl fun z _ => ?_
  unfold scaleAdd
  refine Finset.sum_congr rfl fun p _ => ?_
  · show dblk m c (pt z) (ix2 p x) * (xblk m c (pt z) (ix2 p x) * inv (fun k => xblk m c (pt z) (ix2 p k))) * gblk m c (pt z) (ix2 (0 : Fin 1) x) = gscale (dhs m c) (V m c main_arg4) (V m c main_arg5) (tok z p) x
    unfold gscale
    unfold xblk gblk
    rw [dblk_apply, iblk_4, iblk_5, show (fun k => (iblk m c 4 (pt z) : FVec Ideal S256x1024 .f32) (ix2 p k)) = _ from funext fun k => iblk_4 m c z p k]

theorem flushed_scale (t : Fin cfg0.N) (hf : (cfg0.win 9).flush t = true) :
    (dats m 0 c).flushed 9 t = ((cfg0.win 9).blk t).view.read (Elt Ideal) (scaleRow m c) := by
  have hN : cfg0.N = 16 := N_0
  have h15 : t.val = 15 := by have := (flush0_9 t).mp hf; have := t.isLt; omega
  obtain rfl : t = pt 15 := Fin.ext h15
  show (cfg0.win 9).cut (grid0.coords (pt 15)) ((dats m 0 c).after 9 (pt 15)) = _
  rw [after0_9]
  have hz' : (fun a => win0_9.index (pt 15) a * main_v0_2.ty.shape.size a) = fun _ => 0 := funext fun a => by fin_cases a <;> decide +kernel
  have e : (outsAt0 m c (pt 15).val (pt 15).isLt).2.2.1 = scaleRow m c := funext fun y => by
    have hy : y = ix2 (0 : Fin 1) (⟨(y 1).val, (y 1).isLt⟩ : Fin 1024) := funext fun a => Fin.ext (match a with
      | ⟨0, _⟩ => Nat.lt_one_iff.mp (y 0).isLt
      | ⟨1, _⟩ => rfl)
    rw [hy]
    exact (scale_at m c 15 (pt 15).isLt _).trans (scale_sum m c _)
  rw [e]
  exact (Memref.read_access_unit_zero (Elt Ideal) main_v0_2 hz' (fun a => by rw [congrFun hz' a]; simp) (scaleRow m c)).symm

/-- The row's array ends holding the sum over all tokens. -/
theorem final_scale : (dats m 0 c).arrAt 9 cfg0.N = scaleRow m c :=
  (dats m 0 c).arrAt_eq_of_cover 9 (scaleRow m c) (flushed_scale m c) fun i =>
    ⟨pt 15, (flush0_9 (pt 15)).mpr rfl, by
      show i ∈ ((View.whole main_v0_2).slice (win0_9.rect (pt 15))).set
      rw [View.set_slice_whole, Rect.mem_set_unit]
      intro a
      have hi : win0_9.index (pt 15) 0 = 0 ∧ win0_9.index (pt 15) 1 = 0 := by decide +kernel
      obtain ⟨e0, e1⟩ := hi
      have h0 : (i 0 : Nat) < 1 := (i 0).isLt
      have h1 : (i 1 : Nat) < 1024 := (i 1).isLt
      match a with
      | ⟨0, _⟩ => show win0_9.index (pt 15) 0 * 1 ≤ (i 0 : Nat) ∧ (i 0 : Nat) < win0_9.index (pt 15) 0 * 1 + 1
                  rw [e0]; omega
      | ⟨1, _⟩ => show win0_9.index (pt 15) 1 * 1024 ≤ (i 1 : Nat) ∧ (i 1 : Nat) < win0_9.index (pt 15) 1 * 1024 + 1024
                  rw [e1]; omega⟩

/-! ### The gain's gradient -/

/-- What point `t` adds to column `x`. -/
def gainAdd (t : Fin cfg0.N) (x : Fin 1024) : EReal := ∑ p : Fin 256, dblk m c t (ix2 p x) * (xblk m c t (ix2 p x) * inv (fun k => xblk m c t (ix2 p k))) * (wOne + sblk m c t (ix2 (0 : Fin 1) x))

theorem gain_at : ∀ (n : ℕ) (h : n < cfg0.N) (x : Fin 1024),
    (outsAt0 m c n h).2.2.2 (ix2 (0 : Fin 1) x) = ∑ z : Fin (n + 1), gainAdd m c ⟨z.val, lt_of_lt_of_le z.isLt h⟩ x
  | 0, h, x => by
    rw [outsAt0_A m c ⟨0, h⟩ rfl, Fin.sum_univ_one]
    dsimp only
    rw [outA_10]
    show outGain (F := Ideal) (dblk m c ⟨0, h⟩) (xblk m c ⟨0, h⟩) (sblk m c ⟨0, h⟩) (k0_pay4 (F := Ideal)) (ix2 (0 : Fin 1) x) = gainAdd m c ⟨0, h⟩ x
    have hz : (k0_pay4 (F := Ideal)) (ix2 (0 : Fin 1) x) = (0 : EReal) := Ideal.ofBits_zero_f32
    rw [outGain_apply, hz, zero_add]
    rfl
  | n + 1, h, x => by
    have hN : cfg0.N = 16 := N_0
    have hB : ¬(⟨n + 1, h⟩ : Fin cfg0.N).val % 16 = 0 := by dsimp only; omega
    rw [outsAt0_B m c ⟨n + 1, h⟩ hB]
    dsimp only
    rw [outB_10]
    show outGain (F := Ideal) (dblk m c ⟨n + 1, h⟩) (xblk m c ⟨n + 1, h⟩) (sblk m c ⟨n + 1, h⟩) (outsAt0 m c n (Nat.lt_of_succ_lt h)).2.2.2 (ix2 (0 : Fin 1) x) = _
    rw [outGain_apply, gain_at n, Fin.sum_univ_castSucc (n := n + 1)]
    rfl

/-- The row after the whole grid. -/
def gainRow : FVec Ideal S1x1024 .f32 := fun y => ∑ n : Fin 4096, (fun x => ggain (dhs m c) (V m c main_arg4) (V m c main_arg6) n x) (⟨(y 1).val, (y 1).isLt⟩ : Fin 1024)

theorem gain_sum (x : Fin 1024) : ∑ z : Fin 16, gainAdd m c (pt z) x = gainRow m c (ix2 (0 : Fin 1) x) := by
  unfold gainRow
  rw [sum_tok]
  refine Finset.sum_congr rfl fun z _ => ?_
  unfold gainAdd
  refine Finset.sum_congr rfl fun p _ => ?_
  · show dblk m c (pt z) (ix2 p x) * (xblk m c (pt z) (ix2 p x) * inv (fun k => xblk m c (pt z) (ix2 p k))) * (wOne + sblk m c (pt z) (ix2 (0 : Fin 1) x)) = ggain (dhs m c) (V m c main_arg4) (V m c main_arg6) (tok z p) x
    unfold ggain
    unfold xblk sblk
    rw [dblk_apply, iblk_4, iblk_6, show (fun k => (iblk m c 4 (pt z) : FVec Ideal S256x1024 .f32) (ix2 p k)) = _ from funext fun k => iblk_4 m c z p k]

theorem flushed_gain (t : Fin cfg0.N) (hf : (cfg0.win 10).flush t = true) :
    (dats m 0 c).flushed 10 t = ((cfg0.win 10).blk t).view.read (Elt Ideal) (gainRow m c) := by
  have hN : cfg0.N = 16 := N_0
  have h15 : t.val = 15 := by have := (flush0_10 t).mp hf; have := t.isLt; omega
  obtain rfl : t = pt 15 := Fin.ext h15
  show (cfg0.win 10).cut (grid0.coords (pt 15)) ((dats m 0 c).after 10 (pt 15)) = _
  rw [after0_10]
  have hz' : (fun a => win0_10.index (pt 15) a * main_v0_3.ty.shape.size a) = fun _ => 0 := funext fun a => by fin_cases a <;> decide +kernel
  have e : (outsAt0 m c (pt 15).val (pt 15).isLt).2.2.2 = gainRow m c := funext fun y => by
    have hy : y = ix2 (0 : Fin 1) (⟨(y 1).val, (y 1).isLt⟩ : Fin 1024) := funext fun a => Fin.ext (match a with
      | ⟨0, _⟩ => Nat.lt_one_iff.mp (y 0).isLt
      | ⟨1, _⟩ => rfl)
    rw [hy]
    exact (gain_at m c 15 (pt 15).isLt _).trans (gain_sum m c _)
  rw [e]
  exact (Memref.read_access_unit_zero (Elt Ideal) main_v0_3 hz' (fun a => by rw [congrFun hz' a]; simp) (gainRow m c)).symm

/-- The row's array ends holding the sum over all tokens. -/
theorem final_gain : (dats m 0 c).arrAt 10 cfg0.N = gainRow m c :=
  (dats m 0 c).arrAt_eq_of_cover 10 (gainRow m c) (flushed_gain m c) fun i =>
    ⟨pt 15, (flush0_10 (pt 15)).mpr rfl, by
      show i ∈ ((View.whole main_v0_3).slice (win0_10.rect (pt 15))).set
      rw [View.set_slice_whole, Rect.mem_set_unit]
      intro a
      have hi : win0_10.index (pt 15) 0 = 0 ∧ win0_10.index (pt 15) 1 = 0 := by decide +kernel
      obtain ⟨e0, e1⟩ := hi
      have h0 : (i 0 : Nat) < 1 := (i 0).isLt
      have h1 : (i 1 : Nat) < 1024 := (i 1).isLt
      match a with
      | ⟨0, _⟩ => show win0_10.index (pt 15) 0 * 1 ≤ (i 0 : Nat) ∧ (i 0 : Nat) < win0_10.index (pt 15) 0 * 1 + 1
                  rw [e0]; omega
      | ⟨1, _⟩ => show win0_10.index (pt 15) 1 * 1024 ≤ (i 1 : Nat) ∧ (i 1 : Nat) < win0_10.index (pt 15) 1 * 1024 + 1024
                  rw [e1]; omega⟩

end Cert.Dh
end
end
-- ==== Proof.DhRef.lean ====
module

public import proofs.«01_k».proof.Proof.DhArray
public import proofs.«01_k».proof.Proof.Gen.Reference2Ideal.Read

@[expose] public section
set_option maxRecDepth 16384

/-! The reference's four results at an index, in the same terms as the kernel's. -/

noncomputable section
namespace Cert.Dh
open Cert.Reference2Ideal Cert.Reference2Ideal.Gen Cert.Reference2Ideal.Read Idealize.ShloMosaic
open Idealize.ShloMosaic.ValueIdx

variable (x0 : FVec Ideal S16x256x4608 .bf16) (x1 : FVec Ideal S16x256x3584 .bf16) (x2 : FVec Ideal S8x1024x1024 .bf16)
  (x3 x4 : FVec Ideal S4096x1024 .f32) (x5 x6 : FVec Ideal S1x1024 .f32)

/-- The cotangents laid end to end in the projection's order of columns. -/
theorem joined_apply (r : Fin 16) (q : Fin 256) (k : Fin 8192) :
    val_main_v6 (F := Ideal) x0 x1 (ix3 r q k) = cot (fun x => x0 (ix3 r q x)) (fun x => x1 (ix3 r q x)) k := by
  unfold val_main_v6 cot
  by_cases h1 : k.val < 4608
  · rw [dif_pos h1]
    refine (concatenate_apply_piece (2 : Fin 3) [⟨S16x256x4608, (x0 : (⟨S16x256x4608, .bf16⟩ : BufTy).Contents (Elt Ideal))⟩, ⟨S16x256x512, val_main_v3 (F := Ideal) x1⟩, ⟨S16x256x512, val_main_v5 (F := Ideal) x1⟩, ⟨S16x256x2560, val_main_v4 (F := Ideal) x1⟩] _ (ix3 r q k) 0 (by show _ < 4; decide) S16x256x4608 (x0 : (⟨S16x256x4608, .bf16⟩ : BufTy).Contents (Elt Ideal)) rfl rfl 0 (by rfl) (ix3 r q (⟨k.val, h1⟩ : Fin 4608)) (fun b hb => ?_) ?_).trans ?_
    · match b, hb with
      | ⟨0, _⟩, _ => rfl
      | ⟨1, _⟩, _ => rfl
      | ⟨2, _⟩, hb => exact absurd rfl hb
    · show 0 + k.val = k.val; omega
    · rfl
  · rw [dif_neg h1]
    by_cases h2 : k.val < 5120
    · rw [dif_pos h2]
      refine (concatenate_apply_piece (2 : Fin 3) _ _ (ix3 r q k) 1 (by show _ < 4; decide) S16x256x512 (val_main_v3 (F := Ideal) x1) rfl rfl 4608 (by rfl) (ix3 r q (⟨k.val - 4608, by omega⟩ : Fin 512)) (fun b hb => ?_) ?_).trans ?_
      · match b, hb with
        | ⟨0, _⟩, _ => rfl
        | ⟨1, _⟩, _ => rfl
        | ⟨2, _⟩, hb => exact absurd rfl hb
      · show 4608 + (k.val - 4608) = k.val; omega
      · rw [val_main_v3_apply]
        refine congrArg x1 (funext fun a => Fin.ext ?_)
        match a with
        | ⟨0, _⟩ => rfl
        | ⟨1, _⟩ => rfl
        | ⟨2, _⟩ => rfl
    · rw [dif_neg h2]
      by_cases h3 : k.val < 5632
      · rw [dif_pos h3]
        refine (concatenate_apply_piece (2 : Fin 3) _ _ (ix3 r q k) 2 (by show _ < 4; decide) S16x256x512 (val_main_v5 (F := Ideal) x1) rfl rfl 5120 (by rfl) (ix3 r q (⟨k.val - 5120, by omega⟩ : Fin 512)) (fun b hb => ?_) ?_).trans ?_
        · match b, hb with
          | ⟨0, _⟩, _ => rfl
          | ⟨1, _⟩, _ => rfl
          | ⟨2, _⟩, hb => exact absurd rfl hb
        · show 5120 + (k.val - 5120) = k.val; omega
        · rw [val_main_v5_apply]
          refine congrArg x1 (funext fun a => Fin.ext ?_)
          match a with
          | ⟨0, _⟩ => rfl
          | ⟨1, _⟩ => rfl
          | ⟨2, _⟩ => show 3072 + (k.val - 5120) = k.val - 2048; omega
      · rw [dif_neg h3]
        have hk := k.isLt
        refine (concatenate_apply_piece (2 : Fin 3) _ _ (ix3 r q k) 3 (by show _ < 4; decide) S16x256x2560 (val_main_v4 (F := Ideal) x1) rfl rfl 5632 (by rfl) (ix3 r q (⟨k.val - 5632, by omega⟩ : Fin 2560)) (fun b hb => ?_) ?_).trans ?_
        · match b, hb with
          | ⟨0, _⟩, _ => rfl
          | ⟨1, _⟩, _ => rfl
          | ⟨2, _⟩, hb => exact absurd rfl hb
        · show 5632 + (k.val - 5632) = k.val; omega
        · rw [val_main_v4_apply]
          refine congrArg x1 (funext fun a => Fin.ext ?_)
          match a with
          | ⟨0, _⟩ => rfl
          | ⟨1, _⟩ => rfl
          | ⟨2, _⟩ => show 512 + (k.val - 5632) = k.val - 5120; omega

/-- The same, by token. -/
theorem cot_apply (n : Fin 4096) (k : Fin 8192) :
    val_main_v9 (F := Ideal) x0 x1 (ix2 n k)
      = cot (fun x => x0 (ix3 (⟨n.val % 16, by omega⟩ : Fin 16) (⟨n.val / 16, by omega⟩ : Fin 256) x))
          (fun x => x1 (ix3 (⟨n.val % 16, by omega⟩ : Fin 16) (⟨n.val / 16, by omega⟩ : Fin 256) x)) k := by
  rw [← joined_apply, val_main_v9_apply]
  show val_main_v8 (F := Ideal) x0 x1 (ix2 n k) = _
  rw [val_main_v8_apply, val_main_v7_apply]
  refine congrArg (val_main_v6 (F := Ideal) x0 x1) (funext fun a => Fin.ext ?_)
  have hk := k.isLt
  match a with
  | ⟨0, _⟩ => show (n.val * 8192 + k.val) / 8192 % 16 = n.val % 16; omega
  | ⟨1, _⟩ => show (n.val * 8192 + k.val) / 131072 = n.val / 16; omega
  | ⟨2, _⟩ => show (n.val * 8192 + k.val) % 8192 = k.val; omega

/-- The projection as a matrix. -/
theorem w_apply (c : Fin 1024) (k : Fin 8192) : val_main_v2 (F := Ideal) x2 (ix2 c k) = wcol x2 c k := by
  unfold wcol
  rw [val_main_v2_apply]
  show val_main_v1 (F := Ideal) x2 (ix2 c k) = _
  rw [val_main_v1_apply, val_main_v0_apply]
  refine congrArg x2 (funext fun a => Fin.ext ?_)
  have hk := k.isLt
  match a with
  | ⟨0, _⟩ => show (c.val * 8192 + k.val) / 1024 % 8 = k.val / 1024; omega
  | ⟨1, _⟩ => show (c.val * 8192 + k.val) / 8192 = c.val; omega
  | ⟨2, _⟩ => show (c.val * 8192 + k.val) % 1024 = k.val % 1024; omega

/-- The cotangent of the normed activations. -/
theorem dh_apply (n : Fin 4096) (c : Fin 1024) : val_main_v33 (F := Ideal) x0 x1 x2 (ix2 n c) = dh x0 x1 x2 n c := by
  rw [val_main_v33_apply]
  unfold dh
  refine Finset.sum_congr rfl fun k _ => ?_
  rw [← cot_apply, ← w_apply]
  have el : lidx_main_v33 (ix2 n c) k = ix2 n k := funext fun a => Fin.ext (match a with
    | ⟨0, _⟩ => rfl
    | ⟨1, _⟩ => rfl)
  have er : ridx_main_v33 (ix2 n c) k = ix2 c k := funext fun a => Fin.ext (match a with
    | ⟨0, _⟩ => rfl
    | ⟨1, _⟩ => rfl)
  rw [el, er]

/-- The stabilised mean square of token `n`. -/
theorem msq_apply (n : Fin 4096) : val_main_v17 (F := Ideal) x4 (ix2 n (0 : Fin 1)) = msq (fun k => x4 (ix2 n k)) := by
  rw [val_main_v17_apply, val_main_v15_apply, val_main_v13_apply, val_main_v14_apply, val_main_v16_apply, val_main_v12_apply,
    val_main_cst_1_apply, val_main_cst_2_apply, val_main_cst_0_apply]
  show Ideal.div (Ideal.ofBits .f32 0x00000000#32 + ∑ k : Fin 1024, _) wCols + wEps = _
  rw [Ideal.ofBits_zero_f32, zero_add]
  unfold msq
  refine congrArg (fun s => Ideal.div s wCols + wEps) (Finset.sum_congr rfl fun k _ => ?_)
  have e : idx_main_v12 (idx_main_v13 (ix2 n (0 : Fin 1))) k = ix2 n k := funext fun a => Fin.ext (match a with
    | ⟨0, _⟩ => rfl
    | ⟨1, _⟩ => rfl)
  rw [e]
  rfl

theorem inv_at (n : Fin 4096) : val_main_v18 (F := Ideal) x4 (ix2 n (0 : Fin 1)) = inv (fun k => x4 (ix2 n k)) := by
  rw [val_main_v18_apply, msq_apply]
  rfl

/-- The index of token `n`'s row value. -/
theorem row_idx (n : Fin 4096) (c : Fin 1024) : idx_main_v22 (ix2 n c) = ix2 n (0 : Fin 1) := funext fun a => Fin.ext (match a with
  | ⟨0, _⟩ => rfl
  | ⟨1, _⟩ => rfl)

/-- The index of column `c`'s value. -/
theorem col_idx (n : Fin 4096) (c : Fin 1024) : idx_main_v24 (ix2 n c) = ix2 (0 : Fin 1) c := funext fun a => Fin.ext (match a with
  | ⟨0, _⟩ => rfl
  | ⟨1, _⟩ => rfl)

/-- The normed activations. -/
theorem normed_at (n : Fin 4096) (c : Fin 1024) :
    val_main_v23 (F := Ideal) x4 (ix2 n c) = (x4 (ix2 n c) : EReal) * inv (fun k => x4 (ix2 n k)) := by
  rw [val_main_v23_apply, val_main_v22_apply, row_idx, inv_at]
  rfl

/-- One plus the scale. -/
theorem scale1_apply (n : Fin 4096) (c : Fin 1024) :
    val_main_v39 (F := Ideal) x6 (ix2 n c) = wOne + (x6 (ix2 (0 : Fin 1) c) : EReal) := by
  rw [val_main_v39_apply, show idx_main_v39 (ix2 n c) = ix2 (0 : Fin 1) c from col_idx n c, val_main_v27_apply, val_main_v26_apply, val_main_cst_4_apply]
  rfl

/-- The cotangent of the normed activations before gain and scale. -/
theorem t_apply (n : Fin 4096) (c : Fin 1024) :
    val_main_v45 (F := Ideal) x0 x1 x2 x5 x6 (ix2 n c) = dh x0 x1 x2 n c * (x5 (ix2 (0 : Fin 1) c) * (wOne + x6 (ix2 (0 : Fin 1) c))) := by
  rw [val_main_v45_apply, val_main_v40_apply, val_main_v44_apply, show idx_main_v44 (ix2 n c) = ix2 (0 : Fin 1) c from col_idx n c, dh_apply, scale1_apply]
  show dh x0 x1 x2 n c * (wOne + x6 (ix2 (0 : Fin 1) c)) * x5 (ix2 (0 : Fin 1) c) = _
  rw [mul_assoc, mul_comm (wOne + _)]

/-- The cotangent of each square of token `n`. -/
theorem sq_apply (n : Fin 4096) (c : Fin 1024) :
    val_main_v56 (F := Ideal) x0 x1 x2 x4 x5 x6 (ix2 n c)
      = sq (fun k => dh x0 x1 x2 n k * (x5 (ix2 (0 : Fin 1) k) * (wOne + x6 (ix2 (0 : Fin 1) k)))) (fun k => x4 (ix2 n k)) := by
  rw [val_main_v56_apply, val_main_v55_apply, val_main_cst_10_apply, Fin.sum_univ_one]
  show Ideal.ofBits .f32 0x00000000#32 + _ = _
  rw [Ideal.ofBits_zero_f32, zero_add,
    show idx_main_v55 (idx_main_v56 (ix2 n c)) 0 = ix2 n (0 : Fin 1) from funext fun a => Fin.ext (match a with
      | ⟨0, _⟩ => rfl
      | ⟨1, _⟩ => rfl),
    val_main_v54_apply, val_main_v52_apply, val_main_v53_apply, val_main_cst_9_apply, val_main_v48_apply, val_main_v47_apply, val_main_cst_8_apply,
    val_main_v21_apply, val_main_v20_apply, val_main_cst_3_apply, val_main_v19_apply, inv_at, msq_apply]
  show Ideal.div ((Ideal.ofBits .f32 0x00000000#32 + ∑ k : Fin 1024, _) * (wHalf * Ideal.div (inv _) (msq _))) wCols = _
  rw [Ideal.ofBits_zero_f32, zero_add]
  unfold sq
  refine congrArg (fun s => Ideal.div (s * _) wCols) (Finset.sum_congr rfl fun k _ => ?_)
  rw [show idx_main_v47 (idx_main_v48 (ix2 n (0 : Fin 1))) k = ix2 n k from funext fun a => Fin.ext (match a with
      | ⟨0, _⟩ => by show n.val * 1 + 0 = n.val; omega
      | ⟨1, _⟩ => rfl),
    val_main_v46_apply, t_apply]
  rfl

/-- The reference's gradient of the activations. -/
theorem ref_gx (n : Fin 4096) (c : Fin 1024) :
    val_main_v60 (F := Ideal) x0 x1 x2 x3 x4 x5 x6 (ix2 n c) = gx (dh x0 x1 x2) x3 x4 x5 x6 n c := by
  rw [val_main_v60_apply, val_main_v59_apply, val_main_v58_apply, val_main_v57_apply, val_main_v51_apply, val_main_v50_apply, val_main_v49_apply,
    show idx_main_v49 (ix2 n c) = ix2 n (0 : Fin 1) from row_idx n c, inv_at, t_apply, sq_apply]
  unfold gx
  rw [ker_eq_ref]
  rfl

/-- The reference's gradient of the shift. -/
theorem ref_shift (c : Fin 1024) : val_main_v35 (F := Ideal) x0 x1 x2 (ix2 (0 : Fin 1) c) = ∑ n : Fin 4096, dh x0 x1 x2 n c := by
  rw [val_main_v35_apply, val_main_v34_apply, val_main_cst_5_apply]
  show Ideal.ofBits .f32 0x00000000#32 + _ = _
  rw [Ideal.ofBits_zero_f32, zero_add]
  refine Finset.sum_congr rfl fun n _ => ?_
  rw [← dh_apply]
  exact congrArg _ (funext fun a => Fin.ext (match a with
    | ⟨0, _⟩ => rfl
    | ⟨1, _⟩ => by show 0 * 1024 + c.val = c.val; omega))

/-- The reference's gradient of the scale. -/
theorem ref_scale (c : Fin 1024) :
    val_main_v38 (F := Ideal) x0 x1 x2 x4 x5 (ix2 (0 : Fin 1) c) = ∑ n : Fin 4096, gscale (dh x0 x1 x2) x4 x5 n c := by
  rw [val_main_v38_apply, val_main_v37_apply, val_main_cst_6_apply]
  show Ideal.ofBits .f32 0x00000000#32 + _ = _
  rw [Ideal.ofBits_zero_f32, zero_add]
  refine Finset.sum_congr rfl fun n _ => ?_
  rw [show idx_main_v37 (idx_main_v38 (ix2 (0 : Fin 1) c)) n = ix2 n c from funext fun a => Fin.ext (match a with
      | ⟨0, _⟩ => rfl
      | ⟨1, _⟩ => by show 0 * 1024 + c.val = c.val; omega),
    val_main_v36_apply, val_main_v25_apply, val_main_v24_apply, col_idx, normed_at, dh_apply]
  unfold gscale
  show (x4 (ix2 n c) : EReal) * inv _ * x5 (ix2 (0 : Fin 1) c) * dh x0 x1 x2 n c = _
  rw [mul_comm, ← mul_assoc]

/-- The reference's gradient of the gain. -/
theorem ref_gain (c : Fin 1024) :
    val_main_v43 (F := Ideal) x0 x1 x2 x4 x6 (ix2 (0 : Fin 1) c) = ∑ n : Fin 4096, ggain (dh x0 x1 x2) x4 x6 n c := by
  rw [val_main_v43_apply, val_main_v42_apply, val_main_cst_7_apply]
  show Ideal.ofBits .f32 0x00000000#32 + _ = _
  rw [Ideal.ofBits_zero_f32, zero_add]
  refine Finset.sum_congr rfl fun n _ => ?_
  rw [show idx_main_v42 (idx_main_v43 (ix2 (0 : Fin 1) c)) n = ix2 n c from funext fun a => Fin.ext (match a with
      | ⟨0, _⟩ => rfl
      | ⟨1, _⟩ => by show 0 * 1024 + c.val = c.val; omega),
    val_main_v41_apply, val_main_v40_apply, normed_at, dh_apply, scale1_apply]
  unfold ggain
  show (x4 (ix2 n c) : EReal) * inv _ * (dh x0 x1 x2 n c * (wOne + x6 (ix2 (0 : Fin 1) c))) = _
  rw [← mul_assoc, mul_comm (_ * _) (dh x0 x1 x2 n c)]

end Cert.Dh
end
end
-- ==== Proof.DhResult.lean ====
module

public import proofs.«01_k».proof.Defs
public import proofs.«01_k».proof.Proof.DhRef
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read

@[expose] public section
set_option maxRecDepth 16384

/-! The claims about the call that takes the projection's cotangent back to the activations. -/

noncomputable section
namespace Cert.Dh
open Idealize.ShloMosaic Idealize.ShloMosaic.TcCoe Idealize.SL.Sem Idealize.ShloMosaic.StableHlo
open Idealize.ShloMosaic.ValueIdx
open Cert.Reference2Ideal.Read

/-- The reference runs, keeps its arguments and declares no semaphore. -/
theorem reference_frame : Cert.quiescent_Reference2Ideal := by
  intro m g _
  exact (θ_run Cert.Reference2Ideal.defs _ _).mono (fun r h => ⟨fun c => (h c).2.2.2.2,
    Idealize.ShloMosaic.sem_eq_zero_of_no_sems (by decide) r.2⟩) (Cert.Reference2Ideal.Value.run (F := Ideal) m g)

section
variable (m : (ℓ : Loc Cert.Kernel2Ideal.nD Cert.Kernel2Ideal.τ Cert.Kernel2Ideal.sig) → Buf (Elt Ideal) ℓ) (c : Dev Cert.Kernel2Ideal.nD)

/-- An argument of the kernel. -/
abbrev A (b : Ref Cert.Kernel2Ideal.sig .tc) := m ((c : Thread Cert.Kernel2Ideal.nD Cert.Kernel2Ideal.τ).loc b)

/-- An index of a row. -/
theorem row_eta (y : Cert.Kernel2Ideal.S1x1024.Idx) : y = ix2 (0 : Fin 1) (⟨(y 1).val, (y 1).isLt⟩ : Fin 1024) :=
  funext fun a => Fin.ext (match a with
    | ⟨0, _⟩ => Nat.lt_one_iff.mp (y 0).isLt
    | ⟨1, _⟩ => rfl)

theorem equation_gx : ((Cert.Kernel2Ideal.Gen.dats m 0 c).arrAt 7 Cert.Kernel2Ideal.cfg0.N : FVec Ideal Cert.Kernel2Ideal.S4096x1024 .f32)
    = val_main_v60 (F := Ideal) (A m c Cert.Kernel2Ideal.main_arg0) (A m c Cert.Kernel2Ideal.main_arg1) (A m c Cert.Kernel2Ideal.main_arg2)
        (A m c Cert.Kernel2Ideal.main_arg3) (A m c Cert.Kernel2Ideal.main_arg4) (A m c Cert.Kernel2Ideal.main_arg5) (A m c Cert.Kernel2Ideal.main_arg6) := by
  funext y
  have h0 : (y 0).val < 4096 := (y 0).isLt
  have hy : y = ix2 (tok (⟨(y 0).val / 256, by omega⟩ : Fin 16) (⟨(y 0).val % 256, by omega⟩ : Fin 256)) (⟨(y 1).val, (y 1).isLt⟩ : Fin 1024) :=
    funext fun a => Fin.ext (match a with
      | ⟨0, _⟩ => by show (y 0).val = 256 * ((y 0).val / 256) + (y 0).val % 256; omega
      | ⟨1, _⟩ => rfl)
  rw [hy, final_gx, ref_gx]
  rfl

theorem equation_shift : ((Cert.Kernel2Ideal.Gen.dats m 0 c).arrAt 8 Cert.Kernel2Ideal.cfg0.N : FVec Ideal Cert.Kernel2Ideal.S1x1024 .f32)
    = val_main_v35 (F := Ideal) (A m c Cert.Kernel2Ideal.main_arg0) (A m c Cert.Kernel2Ideal.main_arg1) (A m c Cert.Kernel2Ideal.main_arg2) := by
  rw [final_shift]
  funext y
  rw [row_eta y, ref_shift]
  rfl

theorem equation_scale : ((Cert.Kernel2Ideal.Gen.dats m 0 c).arrAt 9 Cert.Kernel2Ideal.cfg0.N : FVec Ideal Cert.Kernel2Ideal.S1x1024 .f32)
    = val_main_v38 (F := Ideal) (A m c Cert.Kernel2Ideal.main_arg0) (A m c Cert.Kernel2Ideal.main_arg1) (A m c Cert.Kernel2Ideal.main_arg2)
        (A m c Cert.Kernel2Ideal.main_arg4) (A m c Cert.Kernel2Ideal.main_arg5) := by
  rw [final_scale]
  funext y
  rw [row_eta y, ref_scale]
  rfl

theorem equation_gain : ((Cert.Kernel2Ideal.Gen.dats m 0 c).arrAt 10 Cert.Kernel2Ideal.cfg0.N : FVec Ideal Cert.Kernel2Ideal.S1x1024 .f32)
    = val_main_v43 (F := Ideal) (A m c Cert.Kernel2Ideal.main_arg0) (A m c Cert.Kernel2Ideal.main_arg1) (A m c Cert.Kernel2Ideal.main_arg2)
        (A m c Cert.Kernel2Ideal.main_arg4) (A m c Cert.Kernel2Ideal.main_arg6) := by
  rw [final_gain]
  funext y
  rw [row_eta y, ref_gain]
  rfl
end

/-- The kernel's four results are the reference's, whatever the inputs. -/
theorem algebraic : Cert.algebraic_Kernel2Ideal_Reference2Ideal := by
  intro m g m' g' _ hagree
  refine ⟨fun c => (Cert.Kernel2Ideal.Gen.dats m 0 c).arrAt 7 Cert.Kernel2Ideal.cfg0.N, fun c => (Cert.Kernel2Ideal.Gen.dats m 0 c).arrAt 8 Cert.Kernel2Ideal.cfg0.N,
    fun c => (Cert.Kernel2Ideal.Gen.dats m 0 c).arrAt 9 Cert.Kernel2Ideal.cfg0.N, fun c => (Cert.Kernel2Ideal.Gen.dats m 0 c).arrAt 10 Cert.Kernel2Ideal.cfg0.N,
    Cert.Kernel2Ideal.Value.run_blocks m g,
    (θ_run Cert.Reference2Ideal.defs _ _).mono (fun r h c => ?_) (Cert.Reference2Ideal.Value.run (F := Ideal) m' g')⟩
  obtain ⟨a0, a1, a2, a3, a4, a5, a6⟩ := hagree c
  have f0 := (h c).1.trans (val_main_v60_eq (F := Ideal) m' c)
  rw [a0, a1, a2, a3, a4, a5, a6] at f0
  have f1 := (h c).2.1.trans (val_main_v35_eq (F := Ideal) _ _ _)
  have f2 := (h c).2.2.1.trans (val_main_v38_eq (F := Ideal) _ _ _ _ _)
  have f3 := (h c).2.2.2.1.trans (val_main_v43_eq (F := Ideal) _ _ _ _ _)
  rw [a0, a1, a2] at f1
  rw [a0, a1, a2, a4, a5] at f2
  rw [a0, a1, a2, a4, a6] at f3
  exact ⟨f0.trans (equation_gx m c).symm, f1.trans (equation_shift m c).symm, f2.trans (equation_scale m c).symm, f3.trans (equation_gain m c).symm, (h c).2.2.2.2⟩

end Cert.Dh
end
end
-- ==== Proof.DwRun.lean ====
module

public import proofs.«01_k».proof.Proof.DhDot
public import proofs.«01_k».proof.Proof.Gen.Kernel3Ideal.Frame

@[expose] public section
set_option maxRecDepth 16384

/-! The two calls for the gradient of the projection's weights, run one after the other: what every array holds at the end. The frame
proof of the pair keeps the contents at each boundary; here its end is read at the results too. -/

noncomputable section
namespace Cert.Dw
open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The pair runs, leaves its arguments as they were, and its two results hold what the second call's pipeline leaves. -/
theorem run : θ_run defs (onTc (τ := τ) (main (F := F))) ⟨m, fun _ => 0, ρ⟩ (fun r => ∀ c : Dev nD,
      r.2.mem ((c.tc : Thread nD τ).loc main_v1_0) = (dat1 (V2 m ρ) c).arrAt 2 cfg1.N
      ∧ r.2.mem ((c.tc : Thread nD τ).loc main_v1_1) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v1_0 (by decide))).trans (W3_arr m ρ c 2),
       (h c _ (mem_uc main_v1_1 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

/-- The second call starts from the first call's array, … -/
theorem entry_2 (c : Dev nD) : V2 m ρ c main_v1_0 = (dat0 (V0 m ρ) c).arrAt 2 cfg0.N := by
  refine Eq.trans ?_ (W1_arr m ρ c 2)
  show StableHlo.after hostOps1 (W1 m ρ c) (Proc.devRef .tc main_v1_0) = _
  after_results
  all_goals rfl

/-- … and so for its low-precision copy. -/
theorem entry_3 (c : Dev nD) : V2 m ρ c main_v1_1 = (dat0 (V0 m ρ) c).arrAt 3 cfg0.N := by
  refine Eq.trans ?_ (W1_arr m ρ c 3)
  show StableHlo.after hostOps1 (W1 m ρ c) (Proc.devRef .tc main_v1_1) = _
  after_results
  all_goals rfl

end Cert.Dw
end
end
-- ==== Proof.DwBlock.lean ====
module

public import proofs.«01_k».proof.Proof.DwRun

@[expose] public section
set_option maxRecDepth 16384

/-! The gradient of the projection's weights: what one grid point of either call, with 512 columns of the cotangent, leaves in its two
output blocks. Both hold the product of the transposed activations with those columns. -/

noncomputable section
namespace Cert.Dw
open Cert.Kernel3Ideal Cert.Kernel3Ideal.Gen Idealize.ShloMosaic Idealize.ShloMosaic.TcCoe Idealize.ShloMosaic.Tactic Idealize.SL.Sem
open Idealize.ShloMosaic.ValueIdx

/-- The transposed activations against 512 columns. -/
def prod (a : FVec Ideal S1024x4096 .bf16) (b : FVec Ideal S4096x512 .bf16) : FVec Ideal S1024x512 .f32 :=
  matmul dot_S1024x4096_S4096x512_S1024x512_1_0_0_1_n_n none a b (constant S1024x512 .f32 0x00000000#32)

theorem prod_apply (a : FVec Ideal S1024x4096 .bf16) (b : FVec Ideal S4096x512 .bf16) (p : Fin 1024) (q : Fin 512) :
    prod a b (ix2 p q) = ∑ n : Fin 4096, a (ix2 p n) * b (ix2 n q) := by
  unfold prod
  rw [show matmul dot_S1024x4096_S4096x512_S1024x512_1_0_0_1_n_n none a b (constant S1024x512 .f32 0x00000000#32) (ix2 p q) = _ from
    Ideal.matmul_constant_zero_apply _ _ _ _ _,
    ← Equiv.sum_comp (contrEquiv1 dot_S1024x4096_S4096x512_S1024x512_1_0_0_1_n_n 4096 rfl rfl).symm]
  refine Finset.sum_congr rfl fun l _ => congrArg₂ (fun x y : EReal => x * y) (congrArg a (funext fun x => Fin.ext ?_))
    (congrArg b (funext fun x => Fin.ext ?_))
  · match x with
    | ⟨0, _⟩ => rfl
    | ⟨1, _⟩ => exact (dot_S1024x4096_S4096x512_S1024x512_1_0_0_1_n_n.lhsIdx_val_of_single rfl _ _).trans (contrEquiv1_symm_val _ _ _ _ _)
  · match x with
    | ⟨0, _⟩ => exact (dot_S1024x4096_S4096x512_S1024x512_1_0_0_1_n_n.rhsIdx_val_of_single rfl _ _).trans (contrEquiv1_symm_val _ _ _ _ _)
    | ⟨1, _⟩ => rfl

variable (x0 : FVec Ideal S1024x4096 .bf16) (x1 : FVec Ideal S4096x512 .bf16)

/-- The first call's block. -/
theorem first_2 : out0_2 (F := Ideal) x0 x1 = prod x0 x1 := by
  have hz : (![0, 0] : Fin S1024x4096.rank → Nat) = fun _ => 0 := by decide
  have hz1 : (![0, 0] : Fin S4096x512.rank → Nat) = fun _ => 0 := by decide
  have hz2 : (![0, 0] : Fin S1024x512.rank → Nat) = fun _ => 0 := by decide
  unfold out0_2
  rw [View.ld_unit_zero (S := S1024x4096) hz, View.ld_unit_zero (S := S4096x512) hz1, View.canon_cons_unit_zero (S := S1024x512) hz2]
  rfl

/-- The first call's low-precision block. -/
theorem first_3 : out0_3 (F := Ideal) x0 x1 = prod x0 x1 := by
  have hz : (![0, 0] : Fin S1024x4096.rank → Nat) = fun _ => 0 := by decide
  have hz1 : (![0, 0] : Fin S4096x512.rank → Nat) = fun _ => 0 := by decide
  have hz2 : (![0, 0] : Fin S1024x512.rank → Nat) = fun _ => 0 := by decide
  unfold out0_3
  rw [View.ld_unit_zero (S := S1024x4096) hz, View.ld_unit_zero (S := S4096x512) hz1, View.canon_cons_unit_zero (S := S1024x512) hz2]
  rfl

section
variable (c : Dev nD) (i : grid1.Coords) (arg1 : Memref sig .tc .vmem S1024x4096 .bf16) (harg1 : arg1.IsWhole) (arg2 : Memref sig .tc .vmem S4096x512 .bf16) (harg2 : arg2.IsWhole) (arg5 : Memref sig .tc .vmem S1024x512 .f32) (harg5 : arg5.IsWhole) (arg6 : Memref sig .tc .vmem S1024x512 .bf16) (harg6 : arg6.IsWhole)
include harg1 harg2 harg5 harg6

/-- The second call's block. -/
theorem second_2 : out1_A_2 (F := Ideal) c i arg1 harg1 arg2 harg2 arg5 harg5 arg6 harg6 x0 x1 = prod x0 x1 := by
  have hz : (![0, 0] : Fin S1024x4096.rank → Nat) = fun _ => 0 := by decide
  have hz1 : (![0, 0] : Fin S4096x512.rank → Nat) = fun _ => 0 := by decide
  have hz2 : (![0, 0] : Fin S1024x512.rank → Nat) = fun _ => 0 := by decide
  unfold out1_A_2
  rw [View.read_writes_eq_canon _ _ _ (cover1_A_2 (F := Ideal) c i arg1 harg1 arg2 harg2 arg5 harg5 arg6 harg6 x0 x1)]
  unfold kernelRun1_A
  dsimp only
  sl_unfold_words
  simp only [View.readAt_eq_ld, harg1.read_unread, harg2.read_unread, View.ld_unit_zero (S := S1024x4096) hz,
    View.ld_unit_zero (S := S4096x512) hz1, View.canon_cons_unit_zero (S := S1024x512) hz2]
  rfl

/-- The second call's low-precision block. -/
theorem second_3 : out1_A_3 (F := Ideal) c i arg1 harg1 arg2 harg2 arg5 harg5 arg6 harg6 x0 x1 = prod x0 x1 := by
  have hz : (![0, 0] : Fin S1024x4096.rank → Nat) = fun _ => 0 := by decide
  have hz1 : (![0, 0] : Fin S4096x512.rank → Nat) = fun _ => 0 := by decide
  have hz2 : (![0, 0] : Fin S1024x512.rank → Nat) = fun _ => 0 := by decide
  unfold out1_A_3
  rw [View.read_writes_eq_canon _ _ _ (cover1_A_3 (F := Ideal) c i arg1 harg1 arg2 harg2 arg5 harg5 arg6 harg6 x0 x1)]
  unfold kernelRun1_A
  dsimp only
  sl_unfold_words
  simp only [View.readAt_eq_ld, harg1.read_unread, harg2.read_unread, View.ld_unit_zero (S := S1024x4096) hz,
    View.ld_unit_zero (S := S4096x512) hz1, View.canon_cons_unit_zero (S := S1024x512) hz2]
  rfl
end

end Cert.Dw
end
end
-- ==== Proof.DwArray.lean ====
module

public import proofs.«01_k».proof.Proof.DwBlock

@[expose] public section
set_option maxRecDepth 16384

/-! The gradient of the projection's weights: what the arrays hold after each of the two calls. The first call fills the columns of q, k
and v; the second starts from that array and fills the other columns, those of u_pool from its last block. -/

noncomputable section
namespace Cert.Dw
open Cert.Kernel3Ideal Cert.Kernel3Ideal.Gen Idealize.ShloMosaic Idealize.ShloMosaic.TcCoe Idealize.ShloMosaic.Tactic Idealize.SL.Sem
open Idealize.ShloMosaic.ValueIdx
open Cert.Dh (cot at512)

/-- The gradient of the projection's weight at input feature `p` and column `k`. -/
def dw (x0 : FVec Ideal S1024x4096 .bf16) (x1 : FVec Ideal S4096x4608 .bf16) (x2 : FVec Ideal S4096x3584 .bf16) (p : Fin 1024) (k : Fin 8192) : EReal :=
  ∑ n : Fin 4096, x0 (ix2 p n) * cot (fun x => x1 (ix2 n x)) (fun x => x2 (ix2 n x)) k

theorem cot_a (a : Fin 4608 → EReal) (b : Fin 3584 → EReal) (z : Fin 9) (q : Fin 512) :
    cot a b (at512 (⟨z.val, by omega⟩ : Fin 16) q) = a ⟨512 * z.val + q.val, by omega⟩ := by
  unfold cot at512
  rw [dif_pos (show 512 * z.val + q.val < 4608 by omega)]

/-- Block `i` of the second cotangent lies in columns `512 * j …` of the projection. -/
def Sits (i : Fin 7) (j : Fin 16) : Prop := (i.val = 0 ∧ j.val = 9) ∨ (i.val = 6 ∧ j.val = 10) ∨ (1 ≤ i.val ∧ i.val < 6 ∧ j.val = i.val + 10)

theorem cot_b (a : Fin 4608 → EReal) (b : Fin 3584 → EReal) (i : Fin 7) (j : Fin 16) (e : Sits i j) (q : Fin 512) :
    cot a b (at512 j q) = b ⟨512 * i.val + q.val, by omega⟩ := by
  unfold cot at512
  rw [dif_neg (show ¬ 512 * j.val + q.val < 4608 by unfold Sits at e; omega)]
  rcases e with ⟨h, h'⟩ | ⟨h, h'⟩ | ⟨h, h', h''⟩
  · rw [dif_pos (show 512 * j.val + q.val < 5120 by omega)]
    exact congrArg b (Fin.ext (by show 512 * j.val + q.val - 4608 = 512 * i.val + q.val; omega))
  · rw [dif_neg (show ¬ 512 * j.val + q.val < 5120 by omega), dif_pos (show 512 * j.val + q.val < 5632 by omega)]
    exact congrArg b (Fin.ext (by show 512 * j.val + q.val - 2048 = 512 * i.val + q.val; omega))
  · rw [dif_neg (show ¬ 512 * j.val + q.val < 5120 by omega), dif_neg (show ¬ 512 * j.val + q.val < 5632 by omega)]
    exact congrArg b (Fin.ext (by show 512 * j.val + q.val - 5120 = 512 * i.val + q.val; omega))

section
variable (V : (c : Dev nD) → (b : Ref sig .tc) → Buf (Elt Ideal) ((c : Thread nD τ).loc b)) (c : Dev nD)

/-! ## The first call -/

/-- Grid point `z` of the first call. -/
def ptA (z : Fin 9) : Fin cfg0.N := ⟨z.val, lt_of_lt_of_eq z.isLt N_0.symm⟩

/-- Every point sees all the activations. -/
theorem actA (t : Fin cfg0.N) : (iblk0 V c 0 t : FVec Ideal S1024x4096 .bf16) = (V c main_arg0 : FVec Ideal S1024x4096 .bf16) := by
  have hi : ∀ t : Fin grid0.N, win0_0.index t 0 = 0 ∧ win0_0.index t 1 = 0 := by decide +kernel
  obtain ⟨h0, h1⟩ := hi t
  funext y
  unfold iblk0
  rw [View.read_apply]
  show V c main_arg0 _ = _
  congr 1
  funext a
  apply Fin.ext
  match a with
  | ⟨0, _⟩ => show win0_0.index t 0 * 1024 + 1 * (y 0).val = (y 0).val; rw [h0]; omega
  | ⟨1, _⟩ => show win0_0.index t 1 * 4096 + 1 * (y 1).val = (y 1).val; rw [h1]; omega

/-- Point `z`'s columns of the cotangent of q, k and v. -/
theorem colA (z : Fin 9) (n : Fin 4096) (q : Fin 512) :
    (iblk0 V c 1 (ptA z) : FVec Ideal S4096x512 .bf16) (ix2 n q) = (V c main_arg1 : FVec Ideal S4096x4608 .bf16) (ix2 n (⟨512 * z.val + q.val, by omega⟩ : Fin 4608)) := by
  have hi : ∀ t : Fin grid0.N, win0_1.index t 0 = 0 ∧ win0_1.index t 1 = t.val := by decide +kernel
  obtain ⟨h0, h1⟩ := hi (ptA z)
  unfold iblk0
  rw [View.read_apply]
  show V c main_arg1 _ = _
  congr 1
  funext a
  apply Fin.ext
  match a with
  | ⟨0, _⟩ => show win0_1.index (ptA z) 0 * 4096 + 1 * n.val = n.val; rw [h0]; omega
  | ⟨1, _⟩ => show win0_1.index (ptA z) 1 * 512 + 1 * q.val = 512 * z.val + q.val; rw [h1]; show z.val * 512 + 1 * q.val = 512 * z.val + q.val; omega

/-- A point's product is the gradient at its columns. -/
theorem blockA (z : Fin 9) (p : Fin 1024) (q : Fin 512) :
    prod (iblk0 V c 0 (ptA z)) (iblk0 V c 1 (ptA z)) (ix2 p q)
      = dw (V c main_arg0) (V c main_arg1) (V c main_arg2) p (at512 (⟨z.val, by omega⟩ : Fin 16) q) := by
  rw [prod_apply, actA]
  unfold dw
  refine Finset.sum_congr rfl fun n _ => ?_
  rw [cot_a, colA]

/-- Where point `z`'s block lies in the array. -/
theorem placeA_2 (z : Fin 9) (p : Fin 1024) (q : Fin 512) :
    (((cfg0.win 2).blk (ptA z)).view.emb (ix2 p q) : S1024x8192.Idx) = ix2 p (at512 (⟨z.val, by omega⟩ : Fin 16) q) := by
  have hi : ∀ t : Fin grid0.N, win0_2.index t 0 = 0 ∧ win0_2.index t 1 = t.val := by decide +kernel
  obtain ⟨h0, h1⟩ := hi (ptA z)
  funext a
  apply Fin.ext
  match a with
  | ⟨0, _⟩ => show win0_2.index (ptA z) 0 * 1024 + 1 * p.val = p.val; rw [h0]; omega
  | ⟨1, _⟩ => show win0_2.index (ptA z) 1 * 512 + 1 * q.val = 512 * z.val + q.val; rw [h1]; show z.val * 512 + 1 * q.val = 512 * z.val + q.val; omega

theorem placeA_3 (z : Fin 9) (p : Fin 1024) (q : Fin 512) :
    (((cfg0.win 3).blk (ptA z)).view.emb (ix2 p q) : S1024x8192.Idx) = ix2 p (at512 (⟨z.val, by omega⟩ : Fin 16) q) := by
  have hi : ∀ t : Fin grid0.N, win0_3.index t 0 = 0 ∧ win0_3.index t 1 = t.val := by decide +kernel
  obtain ⟨h0, h1⟩ := hi (ptA z)
  funext a
  apply Fin.ext
  match a with
  | ⟨0, _⟩ => show win0_3.index (ptA z) 0 * 1024 + 1 * p.val = p.val; rw [h0]; omega
  | ⟨1, _⟩ => show win0_3.index (ptA z) 1 * 512 + 1 * q.val = 512 * z.val + q.val; rw [h1]; show z.val * 512 + 1 * q.val = 512 * z.val + q.val; omega

theorem disjointA_2 : ∀ t t' : Fin cfg0.N, (cfg0.win 2).flush t = true → (cfg0.win 2).flush t' = true → t ≠ t' →
    Disjoint ((cfg0.win 2).blk t).view.set ((cfg0.win 2).blk t').view.set :=
  fun t t' _ _ hne => Pipeline.Window.disjoint_blk (cfg0.win 2) fun e => hne ((by decide +kernel : ∀ t t' : Fin grid0.N, win0_2.index t = win0_2.index t' → t = t') t t' e)

theorem disjointA_3 : ∀ t t' : Fin cfg0.N, (cfg0.win 3).flush t = true → (cfg0.win 3).flush t' = true → t ≠ t' →
    Disjoint ((cfg0.win 3).blk t).view.set ((cfg0.win 3).blk t').view.set :=
  fun t t' _ _ hne => Pipeline.Window.disjoint_blk (cfg0.win 3) fun e => hne ((by decide +kernel : ∀ t t' : Fin grid0.N, win0_3.index t = win0_3.index t' → t = t') t t' e)

/-- The first call's array at its columns. -/
theorem finalA_2 (z : Fin 9) (p : Fin 1024) (q : Fin 512) :
    ((dat0 V c).arrAt 2 cfg0.N : FVec Ideal S1024x8192 .f32) (ix2 p (at512 (⟨z.val, by omega⟩ : Fin 16) q))
      = dw (V c main_arg0) (V c main_arg1) (V c main_arg2) p (at512 (⟨z.val, by omega⟩ : Fin 16) q) := by
  have hb := congrFun ((dat0 V c).read_blk_arrAt_eq_flushed 2 disjointA_2 cfg0.N (ptA z) (ptA z).isLt (flush0_2 _)) (ix2 p q)
  rw [View.read_apply] at hb
  refine (congrArg ((dat0 V c).arrAt 2 cfg0.N) (placeA_2 z p q).symm).trans (Eq.trans hb ?_)
  show (dat0 V c).after 2 (ptA z) (ix2 p q) = _
  rw [after0_2, first_2]
  exact blockA V c z p q

/-- The first call's low-precision array at its columns. -/
theorem finalA_3 (z : Fin 9) (p : Fin 1024) (q : Fin 512) :
    ((dat0 V c).arrAt 3 cfg0.N : FVec Ideal S1024x8192 .bf16) (ix2 p (at512 (⟨z.val, by omega⟩ : Fin 16) q))
      = dw (V c main_arg0) (V c main_arg1) (V c main_arg2) p (at512 (⟨z.val, by omega⟩ : Fin 16) q) := by
  have hb := congrFun ((dat0 V c).read_blk_arrAt_eq_flushed 3 disjointA_3 cfg0.N (ptA z) (ptA z).isLt (flush0_3 _)) (ix2 p q)
  rw [View.read_apply] at hb
  refine (congrArg ((dat0 V c).arrAt 3 cfg0.N) (placeA_3 z p q).symm).trans (Eq.trans hb ?_)
  show (dat0 V c).after 3 (ptA z) (ix2 p q) = _
  rw [after0_3, first_3]
  exact blockA V c z p q

/-! ## The second call -/

/-- Grid point `i` of the second call. -/
def ptB (i : Fin 7) : Fin cfg1.N := ⟨i.val, lt_of_lt_of_eq i.isLt N_1.symm⟩

/-- Every point sees all the activations. -/
theorem actB (t : Fin cfg1.N) : (iblk1 V c 0 t : FVec Ideal S1024x4096 .bf16) = (V c main_arg0 : FVec Ideal S1024x4096 .bf16) := by
  have hi : ∀ t : Fin grid1.N, win1_0.index t 0 = 0 ∧ win1_0.index t 1 = 0 := by decide +kernel
  obtain ⟨h0, h1⟩ := hi t
  funext y
  unfold iblk1
  rw [View.read_apply]
  show V c main_arg0 _ = _
  congr 1
  funext a
  apply Fin.ext
  match a with
  | ⟨0, _⟩ => show win1_0.index t 0 * 1024 + 1 * (y 0).val = (y 0).val; rw [h0]; omega
  | ⟨1, _⟩ => show win1_0.index t 1 * 4096 + 1 * (y 1).val = (y 1).val; rw [h1]; omega

/-- Point `i`'s columns of the cotangent of the rest. -/
theorem colB (i : Fin 7) (n : Fin 4096) (q : Fin 512) :
    (iblk1 V c 1 (ptB i) : FVec Ideal S4096x512 .bf16) (ix2 n q) = (V c main_arg2 : FVec Ideal S4096x3584 .bf16) (ix2 n (⟨512 * i.val + q.val, by omega⟩ : Fin 3584)) := by
  have hi : ∀ t : Fin grid1.N, win1_1.index t 0 = 0 ∧ win1_1.index t 1 = t.val := by decide +kernel
  obtain ⟨h0, h1⟩ := hi (ptB i)
  unfold iblk1
  rw [View.read_apply]
  show V c main_arg2 _ = _
  congr 1
  funext a
  apply Fin.ext
  match a with
  | ⟨0, _⟩ => show win1_1.index (ptB i) 0 * 4096 + 1 * n.val = n.val; rw [h0]; omega
  | ⟨1, _⟩ => show win1_1.index (ptB i) 1 * 512 + 1 * q.val = 512 * i.val + q.val; rw [h1]; show i.val * 512 + 1 * q.val = 512 * i.val + q.val; omega

/-- A point's product is the gradient at the columns it belongs to. -/
theorem blockB (i : Fin 7) (j : Fin 16) (e : Sits i j) (p : Fin 1024) (q : Fin 512) :
    prod (iblk1 V c 0 (ptB i)) (iblk1 V c 1 (ptB i)) (ix2 p q)
      = dw (V c main_arg0) (V c main_arg1) (V c main_arg2) p (at512 j q) := by
  rw [prod_apply, actB]
  unfold dw
  refine Finset.sum_congr rfl fun n _ => ?_
  rw [cot_b _ _ i j e, colB]

theorem indexB_2 : ∀ t : Fin grid1.N, win1_2.index t 0 = 0 ∧ ((t.val = 0 ∧ win1_2.index t 1 = 9) ∨ (t.val = 6 ∧ win1_2.index t 1 = 10) ∨ (1 ≤ t.val ∧ t.val < 6 ∧ win1_2.index t 1 = t.val + 10)) := by decide +kernel
theorem indexB_3 : ∀ t : Fin grid1.N, win1_3.index t 0 = 0 ∧ ((t.val = 0 ∧ win1_3.index t 1 = 9) ∨ (t.val = 6 ∧ win1_3.index t 1 = 10) ∨ (1 ≤ t.val ∧ t.val < 6 ∧ win1_3.index t 1 = t.val + 10)) := by decide +kernel

theorem sits_index (i : Fin 7) (j : Fin 16) (e : Sits i j) (x : Nat)
    (h : ((ptB i).val = 0 ∧ x = 9) ∨ ((ptB i).val = 6 ∧ x = 10) ∨ (1 ≤ (ptB i).val ∧ (ptB i).val < 6 ∧ x = (ptB i).val + 10)) : x = j.val := by
  change (i.val = 0 ∧ x = 9) ∨ (i.val = 6 ∧ x = 10) ∨ (1 ≤ i.val ∧ i.val < 6 ∧ x = i.val + 10) at h
  unfold Sits at e
  omega

/-- Where point `i`'s block lies in the array. -/
theorem placeB_2 (i : Fin 7) (j : Fin 16) (e : Sits i j) (p : Fin 1024) (q : Fin 512) :
    (((cfg1.win 2).blk (ptB i)).view.emb (ix2 p q) : S1024x8192.Idx) = ix2 p (at512 j q) := by
  obtain ⟨h0, h1⟩ := indexB_2 (ptB i)
  have h1 := sits_index i j e _ h1
  funext a
  apply Fin.ext
  match a with
  | ⟨0, _⟩ => show win1_2.index (ptB i) 0 * 1024 + 1 * p.val = p.val; rw [h0]; omega
  | ⟨1, _⟩ => show win1_2.index (ptB i) 1 * 512 + 1 * q.val = 512 * j.val + q.val; rw [h1]; omega

theorem placeB_3 (i : Fin 7) (j : Fin 16) (e : Sits i j) (p : Fin 1024) (q : Fin 512) :
    (((cfg1.win 3).blk (ptB i)).view.emb (ix2 p q) : S1024x8192.Idx) = ix2 p (at512 j q) := by
  obtain ⟨h0, h1⟩ := indexB_3 (ptB i)
  have h1 := sits_index i j e _ h1
  funext a
  apply Fin.ext
  match a with
  | ⟨0, _⟩ => show win1_3.index (ptB i) 0 * 1024 + 1 * p.val = p.val; rw [h0]; omega
  | ⟨1, _⟩ => show win1_3.index (ptB i) 1 * 512 + 1 * q.val = 512 * j.val + q.val; rw [h1]; omega

theorem disjointB_2 : ∀ t t' : Fin cfg1.N, (cfg1.win 2).flush t = true → (cfg1.win 2).flush t' = true → t ≠ t' →
    Disjoint ((cfg1.win 2).blk t).view.set ((cfg1.win 2).blk t').view.set :=
  fun t t' _ _ hne => Pipeline.Window.disjoint_blk (cfg1.win 2) fun e => hne ((by decide +kernel : ∀ t t' : Fin grid1.N, win1_2.index t = win1_2.index t' → t = t') t t' e)

theorem disjointB_3 : ∀ t t' : Fin cfg1.N, (cfg1.win 3).flush t = true → (cfg1.win 3).flush t' = true → t ≠ t' →
    Disjoint ((cfg1.win 3).blk t).view.set ((cfg1.win 3).blk t').view.set :=
  fun t t' _ _ hne => Pipeline.Window.disjoint_blk (cfg1.win 3) fun e => hne ((by decide +kernel : ∀ t t' : Fin grid1.N, win1_3.index t = win1_3.index t' → t = t') t t' e)

/-- The second call's array at the columns it fills. -/
theorem finalB_2 (i : Fin 7) (j : Fin 16) (e : Sits i j) (p : Fin 1024) (q : Fin 512) :
    ((dat1 V c).arrAt 2 cfg1.N : FVec Ideal S1024x8192 .f32) (ix2 p (at512 j q))
      = dw (V c main_arg0) (V c main_arg1) (V c main_arg2) p (at512 j q) := by
  have hb := congrFun ((dat1 V c).read_blk_arrAt_eq_flushed 2 disjointB_2 cfg1.N (ptB i) (ptB i).isLt (flush1_2 _)) (ix2 p q)
  rw [View.read_apply] at hb
  refine (congrArg ((dat1 V c).arrAt 2 cfg1.N) (placeB_2 i j e p q).symm).trans (Eq.trans hb ?_)
  show (dat1 V c).after 2 (ptB i) (ix2 p q) = _
  rw [after1_2]
  unfold outsAt1
  dsimp only
  rw [second_2]
  exact blockB V c i j e p q

/-- The second call's low-precision array at the columns it fills. -/
theorem finalB_3 (i : Fin 7) (j : Fin 16) (e : Sits i j) (p : Fin 1024) (q : Fin 512) :
    ((dat1 V c).arrAt 3 cfg1.N : FVec Ideal S1024x8192 .bf16) (ix2 p (at512 j q))
      = dw (V c main_arg0) (V c main_arg1) (V c main_arg2) p (at512 j q) := by
  have hb := congrFun ((dat1 V c).read_blk_arrAt_eq_flushed 3 disjointB_3 cfg1.N (ptB i) (ptB i).isLt (flush1_3 _)) (ix2 p q)
  rw [View.read_apply] at hb
  refine (congrArg ((dat1 V c).arrAt 3 cfg1.N) (placeB_3 i j e p q).symm).trans (Eq.trans hb ?_)
  show (dat1 V c).after 3 (ptB i) (ix2 p q) = _
  rw [after1_3]
  unfold outsAt1
  dsimp only
  rw [second_3]
  exact blockB V c i j e p q

/-- The second call leaves the first call's columns alone. -/
theorem keepB_2 (p : Fin 1024) (k : Fin 8192) (hk : k.val < 4608) :
    ((dat1 V c).arrAt 2 cfg1.N : FVec Ideal S1024x8192 .f32) (ix2 p k) = (V c main_v1_0 : FVec Ideal S1024x8192 .f32) (ix2 p k) := by
  refine ((dat1 V c).arrAt_apply_of_forall_not_mem 2 cfg1.N (ix2 p k) fun t _ hf hm => ?_).trans (congrFun (A_eq1 V c 2) _)
  obtain ⟨y, -, hy⟩ := Finset.mem_map.mp hm
  have h := congrArg (fun z : S1024x8192.Idx => (z 1).val) hy
  change win1_2.index t 1 * 512 + 1 * (y 1).val = k.val at h
  obtain ⟨-, h1⟩ := indexB_2 t
  omega

theorem keepB_3 (p : Fin 1024) (k : Fin 8192) (hk : k.val < 4608) :
    ((dat1 V c).arrAt 3 cfg1.N : FVec Ideal S1024x8192 .bf16) (ix2 p k) = (V c main_v1_1 : FVec Ideal S1024x8192 .bf16) (ix2 p k) := by
  refine ((dat1 V c).arrAt_apply_of_forall_not_mem 3 cfg1.N (ix2 p k) fun t _ hf hm => ?_).trans (congrFun (A_eq1 V c 3) _)
  obtain ⟨y, -, hy⟩ := Finset.mem_map.mp hm
  have h := congrArg (fun z : S1024x8192.Idx => (z 1).val) hy
  change win1_3.index t 1 * 512 + 1 * (y 1).val = k.val at h
  obtain ⟨-, h1⟩ := indexB_3 t
  omega
end

/-! ## The pair -/

section
variable (m : (ℓ : Loc nD τ sig) → Buf (Elt Ideal) ℓ) (ρ : Dev nD → PrngReg) (c : Dev nD)

/-- An argument of the pair. -/
abbrev A (b : Ref sig .tc) := m ((c : Thread nD τ).loc b)

/-- Column `k` is the first call's or some block of the second's. -/
theorem cases_column (k : Fin 8192) : (∃ (z : Fin 9) (q : Fin 512), k = at512 (⟨z.val, by omega⟩ : Fin 16) q) ∨ (∃ (i : Fin 7) (j : Fin 16) (q : Fin 512), Sits i j ∧ k = at512 j q) := by
  have hk := k.isLt
  have hq : k = at512 (⟨k.val / 512, by omega⟩ : Fin 16) (⟨k.val % 512, by omega⟩ : Fin 512) := Fin.ext (by
    show k.val = 512 * (k.val / 512) + k.val % 512; omega)
  by_cases h : k.val / 512 < 9
  · exact .inl ⟨⟨k.val / 512, h⟩, ⟨k.val % 512, by omega⟩, hq⟩
  · have hs : ∀ j : Fin 16, 9 ≤ j.val → ∃ i : Fin 7, Sits i j := by unfold Sits; decide
    obtain ⟨i, hi⟩ := hs ⟨k.val / 512, by omega⟩ (by show 9 ≤ k.val / 512; omega)
    exact .inr ⟨i, _, _, hi, hq⟩

/-- The gradient the pair leaves. -/
theorem final_2 (p : Fin 1024) (k : Fin 8192) :
    ((dat1 (V2 m ρ) c).arrAt 2 cfg1.N : FVec Ideal S1024x8192 .f32) (ix2 p k) = dw (A m c main_arg0) (A m c main_arg1) (A m c main_arg2) p k := by
  have e0 : V2 m ρ c main_arg0 = A m c main_arg0 := W2_args m ρ c main_arg0 (by decide)
  have e1 : V2 m ρ c main_arg1 = A m c main_arg1 := W2_args m ρ c main_arg1 (by decide)
  have e2 : V2 m ρ c main_arg2 = A m c main_arg2 := W2_args m ρ c main_arg2 (by decide)
  rcases cases_column k with ⟨z, q, rfl⟩ | ⟨i, j, q, e, rfl⟩
  · rw [keepB_2 _ _ _ _ (by show 512 * z.val + q.val < 4608; omega), entry_2]
    exact finalA_2 (V0 m ρ) c z p q
  · rw [finalB_2 _ _ i j e, e0, e1, e2]

/-- Its low-precision copy. -/
theorem final_3 (p : Fin 1024) (k : Fin 8192) :
    ((dat1 (V2 m ρ) c).arrAt 3 cfg1.N : FVec Ideal S1024x8192 .bf16) (ix2 p k) = dw (A m c main_arg0) (A m c main_arg1) (A m c main_arg2) p k := by
  have e0 : V2 m ρ c main_arg0 = A m c main_arg0 := W2_args m ρ c main_arg0 (by decide)
  have e1 : V2 m ρ c main_arg1 = A m c main_arg1 := W2_args m ρ c main_arg1 (by decide)
  have e2 : V2 m ρ c main_arg2 = A m c main_arg2 := W2_args m ρ c main_arg2 (by decide)
  rcases cases_column k with ⟨z, q, rfl⟩ | ⟨i, j, q, e, rfl⟩
  · rw [keepB_3 _ _ _ _ (by show 512 * z.val + q.val < 4608; omega), entry_3]
    exact finalA_3 (V0 m ρ) c z p q
  · rw [finalB_3 _ _ i j e, e0, e1, e2]
end

end Cert.Dw
end
end
-- ==== Proof.DwResult.lean ====
module

public import proofs.«01_k».proof.Defs
public import proofs.«01_k».proof.Proof.DwArray
public import proofs.«01_k».proof.Proof.Gen.Kernel3.Frame
public import proofs.«01_k».proof.Proof.Gen.Reference3Ideal.Run
public import proofs.«01_k».proof.Proof.Gen.Reference3Ideal.Read

@[expose] public section
set_option maxRecDepth 16384

/-! The claims about the two calls for the gradient of the projection's weights. -/

noncomputable section
namespace Cert.Dw
open Idealize.ShloMosaic Idealize.ShloMosaic.TcCoe Idealize.SL.Sem Idealize.ShloMosaic.StableHlo
open Idealize.ShloMosaic.ValueIdx
open Cert.Reference3Ideal.Read
open Cert.Dh (cot)

/-- The reference runs, keeps its arguments and declares no semaphore. -/
theorem reference_frame : Cert.quiescent_Reference3Ideal := by
  intro m g _
  exact (θ_run Cert.Reference3Ideal.defs _ _).mono (fun r h => ⟨fun c => (h c).2.2,
    Idealize.ShloMosaic.sem_eq_zero_of_no_sems (by decide) r.2⟩) (Cert.Reference3Ideal.Value.run (F := Ideal) m g)

section Reference
open Cert.Reference3Ideal Cert.Reference3Ideal.Gen
variable (x0 : FVec Ideal S1024x4096 .bf16) (x1 : FVec Ideal S4096x4608 .bf16) (x2 : FVec Ideal S4096x3584 .bf16)

/-- The cotangent in the order of the projection's columns. -/
theorem ref_cot (n : Fin 4096) (k : Fin 8192) : val_main_v5 (F := Ideal) x1 x2 (ix2 n k) = cot (fun x => x1 (ix2 n x)) (fun x => x2 (ix2 n x)) k := by
  have hk := k.isLt
  unfold val_main_v5 cot
  by_cases h1 : k.val < 4608
  · rw [dif_pos h1]
    refine (concatenate_apply_piece (1 : Fin 2) [⟨S4096x4608, x1⟩, ⟨S4096x512, val_main_v2 (F := Ideal) x2⟩, ⟨S4096x512, val_main_v4 (F := Ideal) x2⟩, ⟨S4096x2560, val_main_v3 (F := Ideal) x2⟩] _ (ix2 n k) 0 (by show _ < 4; decide) S4096x4608 x1 rfl rfl 0 (by rfl) (ix2 n (⟨k.val, h1⟩ : Fin 4608)) (fun b hb => ?_) ?_).trans ?_
    · match b, hb with
      | ⟨0, _⟩, _ => rfl
      | ⟨1, _⟩, hb => exact absurd rfl hb
    · show 0 + k.val = k.val; omega
    · rfl
  · rw [dif_neg h1]
    by_cases h2 : k.val < 5120
    · rw [dif_pos h2]
      refine (concatenate_apply_piece (1 : Fin 2) _ _ (ix2 n k) 1 (by show _ < 4; decide) S4096x512 (val_main_v2 (F := Ideal) x2) rfl rfl 4608 (by rfl) (ix2 n (⟨k.val - 4608, by omega⟩ : Fin 512)) (fun b hb => ?_) ?_).trans ?_
      · match b, hb with
        | ⟨0, _⟩, _ => rfl
        | ⟨1, _⟩, hb => exact absurd rfl hb
      · show 4608 + (k.val - 4608) = k.val; omega
      · rw [val_main_v2_apply]
        refine congrArg x2 (funext fun a => Fin.ext ?_)
        match a with
        | ⟨0, _⟩ => rfl
        | ⟨1, _⟩ => rfl
    · rw [dif_neg h2]
      by_cases h3 : k.val < 5632
      · rw [dif_pos h3]
        refine (concatenate_apply_piece (1 : Fin 2) _ _ (ix2 n k) 2 (by show _ < 4; decide) S4096x512 (val_main_v4 (F := Ideal) x2) rfl rfl 5120 (by rfl) (ix2 n (⟨k.val - 5120, by omega⟩ : Fin 512)) (fun b hb => ?_) ?_).trans ?_
        · match b, hb with
          | ⟨0, _⟩, _ => rfl
          | ⟨1, _⟩, hb => exact absurd rfl hb
        · show 5120 + (k.val - 5120) = k.val; omega
        · rw [val_main_v4_apply]
          refine congrArg x2 (funext fun a => Fin.ext ?_)
          match a with
          | ⟨0, _⟩ => rfl
          | ⟨1, _⟩ => show 3072 + (k.val - 5120) = k.val - 2048; omega
      · rw [dif_neg h3]
        refine (concatenate_apply_piece (1 : Fin 2) _ _ (ix2 n k) 3 (by show _ < 4; decide) S4096x2560 (val_main_v3 (F := Ideal) x2) rfl rfl 5632 (by rfl) (ix2 n (⟨k.val - 5632, by omega⟩ : Fin 2560)) (fun b hb => ?_) ?_).trans ?_
        · match b, hb with
          | ⟨0, _⟩, _ => rfl
          | ⟨1, _⟩, hb => exact absurd rfl hb
        · show 5632 + (k.val - 5632) = k.val; omega
        · rw [val_main_v3_apply]
          refine congrArg x2 (funext fun a => Fin.ext ?_)
          match a with
          | ⟨0, _⟩ => rfl
          | ⟨1, _⟩ => show 512 + (k.val - 5632) = k.val - 5120; omega

/-- The reference's gradient. -/
theorem ref_dw (p : Fin 1024) (k : Fin 8192) : val_main_v10 (F := Ideal) x0 x1 x2 (ix2 p k) = dw x0 x1 x2 p k := by
  rw [val_main_v10_apply]
  have et : idx_main_v10 (ix2 p k) = ix2 k p := funext fun a => Fin.ext (match a with
    | ⟨0, _⟩ => rfl
    | ⟨1, _⟩ => rfl)
  rw [et, val_main_v9_apply]
  unfold dw
  refine Finset.sum_congr rfl fun n _ => ?_
  have el : lidx_main_v9 (ix2 k p) n = ix2 n k := funext fun a => Fin.ext (match a with
    | ⟨0, _⟩ => rfl
    | ⟨1, _⟩ => rfl)
  have er : ridx_main_v9 (ix2 k p) n = ix2 n p := funext fun a => Fin.ext (match a with
    | ⟨0, _⟩ => rfl
    | ⟨1, _⟩ => rfl)
  have hx : val_main_v1 (F := Ideal) x0 (ix2 n p) = x0 (ix2 p n) := by
    rw [val_main_v1_apply]
    refine congrArg x0 (funext fun a => Fin.ext ?_)
    match a with
    | ⟨0, _⟩ => rfl
    | ⟨1, _⟩ => rfl
  rw [el, er, mul_comm, ← ref_cot, hx]
  rfl

end Reference

section
variable (m : (ℓ : Loc Cert.Kernel3Ideal.nD Cert.Kernel3Ideal.τ Cert.Kernel3Ideal.sig) → Buf (Elt Ideal) ℓ) (ρ : Dev Cert.Kernel3Ideal.nD → PrngReg) (c : Dev Cert.Kernel3Ideal.nD)

theorem equation_2 : ((Cert.Kernel3Ideal.Gen.dat1 (Cert.Kernel3Ideal.Gen.V2 m ρ) c).arrAt 2 Cert.Kernel3Ideal.cfg1.N : FVec Ideal Cert.Kernel3Ideal.S1024x8192 .f32)
    = val_main_v10 (F := Ideal) (A m c Cert.Kernel3Ideal.main_arg0) (A m c Cert.Kernel3Ideal.main_arg1) (A m c Cert.Kernel3Ideal.main_arg2) := by
  funext y
  have hy : y = ix2 (⟨(y 0).val, (y 0).isLt⟩ : Fin 1024) (⟨(y 1).val, (y 1).isLt⟩ : Fin 8192) := funext fun a => Fin.ext (match a with
    | ⟨0, _⟩ => rfl
    | ⟨1, _⟩ => rfl)
  rw [hy, final_2, ref_dw]

theorem equation_3 : ((Cert.Kernel3Ideal.Gen.dat1 (Cert.Kernel3Ideal.Gen.V2 m ρ) c).arrAt 3 Cert.Kernel3Ideal.cfg1.N : FVec Ideal Cert.Kernel3Ideal.S1024x8192 .bf16)
    = val_main_v11 (F := Ideal) (A m c Cert.Kernel3Ideal.main_arg0) (A m c Cert.Kernel3Ideal.main_arg1) (A m c Cert.Kernel3Ideal.main_arg2) := by
  funext y
  have hy : y = ix2 (⟨(y 0).val, (y 0).isLt⟩ : Fin 1024) (⟨(y 1).val, (y 1).isLt⟩ : Fin 8192) := funext fun a => Fin.ext (match a with
    | ⟨0, _⟩ => rfl
    | ⟨1, _⟩ => rfl)
  rw [hy, final_3]
  exact (ref_dw _ _ _ _ _).symm
end

/-- The two results of the pair are the reference's, whatever the inputs. -/
theorem algebraic : Cert.algebraic_Kernel3Ideal_Reference3Ideal := by
  intro m g m' g' _ hagree
  refine ⟨fun c => (Cert.Kernel3Ideal.Gen.dat1 (Cert.Kernel3Ideal.Gen.V2 m g) c).arrAt 2 Cert.Kernel3Ideal.cfg1.N,
    fun c => (Cert.Kernel3Ideal.Gen.dat1 (Cert.Kernel3Ideal.Gen.V2 m g) c).arrAt 3 Cert.Kernel3Ideal.cfg1.N,
    run (F := Ideal) m g,
    (θ_run Cert.Reference3Ideal.defs _ _).mono (fun r h c => ?_) (Cert.Reference3Ideal.Value.run (F := Ideal) m' g')⟩
  obtain ⟨a0, a1, a2⟩ := hagree c
  have f0 := (h c).1.trans (val_main_v10_eq (F := Ideal) _ _ _)
  have f1 := (h c).2.1.trans (val_main_v11_eq (F := Ideal) _ _ _)
  rw [a0, a1, a2] at f0 f1
  exact ⟨f0.trans (equation_2 m g c).symm, f1.trans (equation_3 m g c).symm, (h c).2.2⟩

end Cert.Dw
end
end
-- ==== Proof.ProjBlock.lean ====
module

public import proofs.«01_k».proof.Proof.DhDot
public import proofs.«01_k».proof.Proof.Gen.Kernel4Ideal.Value

@[expose] public section
set_option maxRecDepth 16384

/-! The input projection: what one grid point, with 512 tokens, leaves in its two output blocks. Each store is a product of the tokens
with 512 columns of the projection; the second block takes the columns of u_pool last. -/

noncomputable section
namespace Cert.Proj
open Cert.Kernel4Ideal Cert.Kernel4Ideal.Gen Idealize.ShloMosaic Idealize.ShloMosaic.TcCoe Idealize.ShloMosaic.Tactic Idealize.SL.Sem
open Idealize.ShloMosaic.ValueIdx
open Cert.Dh (wcol at512 slabW slab_wcol)

/-- The projected activations of token `n` at the projection's column `k`. -/
def proj {r : Nat} (h : (⟨2, ![r, 1024]⟩ : Shape).Idx → EReal) (w : FVec Ideal S8x1024x1024 .bf16) (n : Fin r) (k : Fin 8192) : EReal :=
  ∑ c : Fin 1024, h (ix2 n c) * wcol w c k

/-- The projection's column that column `x` of the second result holds: z_attn, then z_pool and the gates, then u_pool. -/
def restCol (x : Fin 3584) : Fin 8192 :=
  if h : x.val < 512 then ⟨x.val + 4608, by omega⟩ else if h : x.val < 3072 then ⟨x.val + 5120, by omega⟩ else ⟨x.val + 2048, by omega⟩

/-- 512 tokens against 512 columns. -/
def prod (a : FVec Ideal S512x1024 .bf16) (s : FVec Ideal S1x1024x512 .bf16) : FVec Ideal S512x512 .f32 :=
  matmul dot_S512x1024_S1024x512_S512x512_1_0_0_1_n_n none a (shapeCast S1024x512 s shapeCasts_S1x1024x512_S1024x512) (constant S512x512 .f32 0x00000000#32)

theorem flat_apply (s : FVec Ideal S1x1024x512 .bf16) (c : Fin 1024) (q : Fin 512) :
    shapeCast S1024x512 s shapeCasts_S1x1024x512_S1024x512 (ix2 c q) = s (ix3 (0 : Fin 1) c q) :=
  shapeCast_apply s _ (ix2 c q) (ix3 (0 : Fin 1) c q) (by
    rw [Shape.rowMajor_val_three, Shape.rowMajor_val_two]
    show (0 * 1024 + c.val) * 512 + q.val = c.val * 512 + q.val
    simp)

theorem prod_apply (a : FVec Ideal S512x1024 .bf16) (s : FVec Ideal S1x1024x512 .bf16) (p q : Fin 512) :
    prod a s (ix2 p q) = ∑ c : Fin 1024, a (ix2 p c) * s (ix3 (0 : Fin 1) c q) := by
  unfold prod
  rw [show matmul dot_S512x1024_S1024x512_S512x512_1_0_0_1_n_n none a (shapeCast S1024x512 s shapeCasts_S1x1024x512_S1024x512) (constant S512x512 .f32 0x00000000#32) (ix2 p q) = _ from
    Ideal.matmul_constant_zero_apply _ _ _ _ _,
    ← Equiv.sum_comp (contrEquiv1 dot_S512x1024_S1024x512_S512x512_1_0_0_1_n_n 1024 rfl rfl).symm]
  refine Finset.sum_congr rfl fun l _ => congrArg₂ (fun x y : EReal => x * y) (congrArg a (funext fun x => Fin.ext ?_))
    ((congrArg (shapeCast S1024x512 s shapeCasts_S1x1024x512_S1024x512) (funext fun x => Fin.ext ?_)).trans (flat_apply s l q))
  · match x with
    | ⟨0, _⟩ => rfl
    | ⟨1, _⟩ => exact (dot_S512x1024_S1024x512_S512x512_1_0_0_1_n_n.lhsIdx_val_of_single rfl _ _).trans (contrEquiv1_symm_val _ _ _ _ _)
  · match x with
    | ⟨0, _⟩ => exact (dot_S512x1024_S1024x512_S512x512_1_0_0_1_n_n.rhsIdx_val_of_single rfl _ _).trans (contrEquiv1_symm_val _ _ _ _ _)
    | ⟨1, _⟩ => rfl

theorem inbQ : ∀ (j : Fin 9) (a : Fin S512x4608.rank), ![0, 512 * j.val] a + S512x512.size a ≤ S512x4608.size a := by decide
theorem inbR : ∀ (j : Fin 7) (a : Fin S512x3584.rank), ![0, 512 * j.val] a + S512x512.size a ≤ S512x3584.size a := by decide

/-- The rectangles of the two output blocks that the stores fill. -/
abbrev rQ (j : Fin 9) : Rect S512x4608 := Rect.unit (s := S512x4608) ![0, 512 * j.val] S512x512.size (inbQ j)
abbrev rR (j : Fin 7) : Rect S512x3584 := Rect.unit (s := S512x3584) ![0, 512 * j.val] S512x512.size (inbR j)

variable (x0 : FVec Ideal S512x1024 .bf16) (x1 : FVec Ideal S8x1024x1024 .bf16)

/-- The block of q, k and v. -/
def qkv : FVec Ideal S512x4608 .bf16 := fun y => proj x0 x1 (⟨(y 0).val, (y 0).isLt⟩ : Fin 512) (⟨(y 1).val, by have h : (y 1).val < 4608 := (y 1).isLt; omega⟩ : Fin 8192)

/-- The block of the other columns. -/
def rest : FVec Ideal S512x3584 .f32 := fun y => proj x0 x1 (⟨(y 0).val, (y 0).isLt⟩ : Fin 512) (restCol (⟨(y 1).val, (y 1).isLt⟩ : Fin 3584))

/-- 512 columns of the projection against the tokens. -/
theorem prod_slab (j : Fin 16) (p q : Fin 512) : prod x0 (slabW x1 j) (ix2 p q) = proj x0 x1 p (at512 j q) := by
  rw [prod_apply]
  unfold proj
  exact Finset.sum_congr rfl fun c _ => congrArg (x0 (ix2 p c) * ·) (slab_wcol x1 c j q)

theorem piece_q (j : Fin 9) (x : (rQ j).shape.Idx) : prod x0 (slabW x1 (⟨j.val, by omega⟩ : Fin 16)) x = qkv x0 x1 ((rQ j).emb x) := by
  have hx : ∃ p q : Fin 512, x = ix2 p q := by
    refine ⟨⟨(x 0).val, (x 0).isLt⟩, ⟨(x 1).val, (x 1).isLt⟩, funext fun b => Fin.ext ?_⟩
    match b with
    | ⟨0, _⟩ => rfl
    | ⟨1, _⟩ => rfl
  obtain ⟨p, q, rfl⟩ := hx
  refine (prod_slab x0 x1 _ p q).trans ?_
  unfold qkv
  refine congrArg₂ (proj x0 x1) (Fin.ext ?_) (Fin.ext ?_)
  · show p.val = 0 + 1 * p.val; omega
  · show 512 * j.val + q.val = 512 * j.val + 1 * q.val; omega

theorem piece_r (i : Fin 7) (j : Fin 16) (e : (j.val = 9 ∧ i.val = 0) ∨ (j.val = 10 ∧ i.val = 6) ∨ (11 ≤ j.val ∧ i.val = j.val - 10)) (x : (rR i).shape.Idx) :
    prod x0 (slabW x1 j) x = rest x0 x1 ((rR i).emb x) := by
  have hx : ∃ p q : Fin 512, x = ix2 p q := by
    refine ⟨⟨(x 0).val, (x 0).isLt⟩, ⟨(x 1).val, (x 1).isLt⟩, funext fun b => Fin.ext ?_⟩
    match b with
    | ⟨0, _⟩ => rfl
    | ⟨1, _⟩ => rfl
  obtain ⟨p, q, rfl⟩ := hx
  refine (prod_slab x0 x1 _ p q).trans ?_
  unfold rest
  refine congrArg₂ (proj x0 x1) (Fin.ext ?_) ?_
  · show p.val = 0 + 1 * p.val; omega
  · have hv : (⟨((rR i).emb (ix2 p q) 1).val, ((rR i).emb (ix2 p q) 1).isLt⟩ : Fin 3584) = ⟨512 * i.val + q.val, by omega⟩ :=
      Fin.ext (by show 512 * i.val + 1 * q.val = 512 * i.val + q.val; omega)
    rw [hv]
    unfold restCol at512
    rcases e with ⟨h, h'⟩ | ⟨h, h'⟩ | ⟨h, h'⟩
    · rw [dif_pos (show 512 * i.val + q.val < 512 by omega)]
      exact Fin.ext (by show 512 * j.val + q.val = 512 * i.val + q.val + 4608; omega)
    · rw [dif_neg (show ¬ 512 * i.val + q.val < 512 by omega), dif_neg (show ¬ 512 * i.val + q.val < 3072 by omega)]
      exact Fin.ext (by show 512 * j.val + q.val = 512 * i.val + q.val + 2048; omega)
    · rw [dif_neg (show ¬ 512 * i.val + q.val < 512 by omega), dif_pos (show 512 * i.val + q.val < 3072 by omega)]
      exact Fin.ext (by show 512 * j.val + q.val = 512 * i.val + q.val + 5120; omega)

/-- What a point leaves in the block of q, k and v. -/
theorem out_q : out0_2 (F := Ideal) x0 x1 = qkv x0 x1 := by
  have hz : (![0, 0] : Fin S512x1024.rank → Nat) = fun _ => 0 := by decide
  funext y
  unfold out0_2
  rw [View.ld_unit_zero (S := S512x1024) hz]
  refine View.canon_apply_of_pieces (Val := Elt Ideal) (e := .bf16) (qkv x0 x1) _ (View.PiecesOf.mem ?_) y (cover0_2 _ _ _ _ _ _ _ _ _ y)
  exact ⟨piece_q x0 x1 8, piece_q x0 x1 7, piece_q x0 x1 6, piece_q x0 x1 5, piece_q x0 x1 4, piece_q x0 x1 3, piece_q x0 x1 2, piece_q x0 x1 1, piece_q x0 x1 0, trivial⟩

/-- What a point leaves in the block of the other columns. -/
theorem out_r : out0_3 (F := Ideal) x0 x1 = rest x0 x1 := by
  have hz : (![0, 0] : Fin S512x1024.rank → Nat) = fun _ => 0 := by decide
  funext y
  unfold out0_3
  rw [View.ld_unit_zero (S := S512x1024) hz]
  refine View.canon_apply_of_pieces (Val := Elt Ideal) (e := .f32) (rest x0 x1) _ (View.PiecesOf.mem ?_) y (cover0_3 _ _ _ _ _ _ _ y)
  exact ⟨piece_r x0 x1 6 10 (by decide), piece_r x0 x1 5 15 (by decide), piece_r x0 x1 4 14 (by decide), piece_r x0 x1 3 13 (by decide),
    piece_r x0 x1 2 12 (by decide), piece_r x0 x1 1 11 (by decide), piece_r x0 x1 0 9 (by decide), trivial⟩

end Cert.Proj
end
end
-- ==== Proof.ProjArray.lean ====
module

public import proofs.«01_k».proof.Proof.ProjBlock
public import proofs.«01_k».proof.Proof.Gen.Reference4Ideal.Read

@[expose] public section
set_option maxRecDepth 16384

/-! The input projection: what its two arrays hold after the grid of eight blocks of tokens, and the reference's two results, at every
index. -/

noncomputable section
namespace Cert.Proj
open Idealize.ShloMosaic Idealize.ShloMosaic.TcCoe Idealize.ShloMosaic.Tactic Idealize.SL.Sem
open Idealize.ShloMosaic.ValueIdx
open Cert.Dh (wcol)

section Kernel
open Cert.Kernel4Ideal Cert.Kernel4Ideal.Gen
variable (m : (ℓ : Loc nD τ sig) → Buf (Elt Ideal) ℓ) (c : Dev nD)

/-- Grid point `z`. -/
def pt (z : Fin 8) : Fin cfg0.N := ⟨z.val, lt_of_lt_of_eq z.isLt N_0.symm⟩

/-- Token `p` of block `z`. -/
def tok (z : Fin 8) (p : Fin 512) : Fin 4096 := ⟨512 * z.val + p.val, by omega⟩

/-- Point `z`'s tokens of the activations. -/
theorem iblk_0 (z : Fin 8) (p : Fin 512) (x : Fin 1024) :
    (iblk m c 0 (pt z) : FVec Ideal S512x1024 .bf16) (ix2 p x) = (V m c main_arg0 : FVec Ideal S4096x1024 .bf16) (ix2 (tok z p) x) := by
  have hi : ∀ t : Fin grid0.N, win0_0.index t 0 = t.val ∧ win0_0.index t 1 = 0 := by decide +kernel
  obtain ⟨h0, h1⟩ := hi (pt z)
  refine congrArg (V m c main_arg0) (funext fun a => Fin.ext ?_)
  match a with
  | ⟨0, _⟩ => show win0_0.index (pt z) 0 * 512 + 1 * p.val = 512 * z.val + p.val; rw [h0]; show z.val * 512 + 1 * p.val = 512 * z.val + p.val; omega
  | ⟨1, _⟩ => show win0_0.index (pt z) 1 * 1024 + 1 * x.val = x.val; rw [h1]; omega

/-- Every point sees the whole projection. -/
theorem iblk_1 (z : Fin 8) : (iblk m c 1 (pt z) : FVec Ideal S8x1024x1024 .bf16) = (V m c main_arg1 : FVec Ideal S8x1024x1024 .bf16) := by
  have hi : ∀ t : Fin grid0.N, win0_1.index t 0 = 0 ∧ win0_1.index t 1 = 0 ∧ win0_1.index t 2 = 0 := by decide +kernel
  obtain ⟨h0, h1, h2⟩ := hi (pt z)
  funext y
  refine congrArg (V m c main_arg1) (funext fun a => Fin.ext ?_)
  match a with
  | ⟨0, _⟩ => show win0_1.index (pt z) 0 * 8 + 1 * (y 0).val = (y 0).val; rw [h0]; omega
  | ⟨1, _⟩ => show win0_1.index (pt z) 1 * 1024 + 1 * (y 1).val = (y 1).val; rw [h1]; omega
  | ⟨2, _⟩ => show win0_1.index (pt z) 2 * 1024 + 1 * (y 2).val = (y 2).val; rw [h2]; omega

/-- A block's product is the array's. -/
theorem proj_blk (z : Fin 8) (p : Fin 512) (k : Fin 8192) :
    proj (iblk m c 0 (pt z) : FVec Ideal S512x1024 .bf16) (iblk m c 1 (pt z)) p k
      = proj (V m c main_arg0 : FVec Ideal S4096x1024 .bf16) (V m c main_arg1) (tok z p) k := by
  rw [iblk_1]
  unfold proj
  exact Finset.sum_congr rfl fun x _ => congrArg (· * wcol _ x k) (iblk_0 m c z p x)

theorem index_2 : ∀ t : Fin grid0.N, win0_2.index t 0 = t.val ∧ win0_2.index t 1 = 0 := by decide +kernel
theorem index_3 : ∀ t : Fin grid0.N, win0_3.index t 0 = t.val ∧ win0_3.index t 1 = 0 := by decide +kernel

/-- The array of q, k and v at token `p` of block `z`. -/
theorem final_q (z : Fin 8) (p : Fin 512) (x : Fin 4608) :
    ((dats m 0 c).arrAt 2 cfg0.N : FVec Ideal S4096x4608 .bf16) (ix2 (tok z p) x)
      = proj (V m c main_arg0 : FVec Ideal S4096x1024 .bf16) (V m c main_arg1) (tok z p) (⟨x.val, by omega⟩ : Fin 8192) := by
  have hb := congrFun ((Cert.Kernel4Ideal.Value.blocks2 m c (pt z) (flush0_2 _)).trans (Cert.Kernel4Ideal.Value.flushed2 m c (pt z))) (ix2 p x)
  rw [View.read_apply] at hb
  obtain ⟨h0, h1⟩ := index_2 (pt z)
  refine Eq.trans ?_ (hb.trans ?_)
  · show (dats m 0 c).arrAt 2 cfg0.N _ = (dats m 0 c).arrAt 2 cfg0.N _
    congr 1
    funext a
    apply Fin.ext
    match a with
    | ⟨0, _⟩ => show 512 * z.val + p.val = win0_2.index (pt z) 0 * 512 + 1 * p.val; rw [h0]; show 512 * z.val + p.val = z.val * 512 + 1 * p.val; omega
    | ⟨1, _⟩ => show x.val = win0_2.index (pt z) 1 * 4608 + 1 * x.val; rw [h1]; omega
  · show out0_2 (F := Ideal) (iblk m c 0 (pt z)) (iblk m c 1 (pt z)) (ix2 p x) = _
    rw [out_q]
    exact proj_blk m c z p _

/-- The array of the other columns at token `p` of block `z`. -/
theorem final_r (z : Fin 8) (p : Fin 512) (x : Fin 3584) :
    ((dats m 0 c).arrAt 3 cfg0.N : FVec Ideal S4096x3584 .f32) (ix2 (tok z p) x)
      = proj (V m c main_arg0 : FVec Ideal S4096x1024 .bf16) (V m c main_arg1) (tok z p) (restCol x) := by
  have hb := congrFun ((Cert.Kernel4Ideal.Value.blocks3 m c (pt z) (flush0_3 _)).trans (Cert.Kernel4Ideal.Value.flushed3 m c (pt z))) (ix2 p x)
  rw [View.read_apply] at hb
  obtain ⟨h0, h1⟩ := index_3 (pt z)
  refine Eq.trans ?_ (hb.trans ?_)
  · show (dats m 0 c).arrAt 3 cfg0.N _ = (dats m 0 c).arrAt 3 cfg0.N _
    congr 1
    funext a
    apply Fin.ext
    match a with
    | ⟨0, _⟩ => show 512 * z.val + p.val = win0_3.index (pt z) 0 * 512 + 1 * p.val; rw [h0]; show 512 * z.val + p.val = z.val * 512 + 1 * p.val; omega
    | ⟨1, _⟩ => show x.val = win0_3.index (pt z) 1 * 3584 + 1 * x.val; rw [h1]; omega
  · show out0_3 (F := Ideal) (iblk m c 0 (pt z)) (iblk m c 1 (pt z)) (ix2 p x) = _
    rw [out_r]
    exact proj_blk m c z p _

end Kernel

section Reference
open Cert.Reference4Ideal Cert.Reference4Ideal.Gen Cert.Reference4Ideal.Read
variable (x0 : FVec Ideal S4096x1024 .bf16) (x1 : FVec Ideal S8x1024x1024 .bf16)

/-- The projection as a matrix. -/
theorem w_apply (c : Fin 1024) (k : Fin 8192) : val_main_v3 (F := Ideal) x1 (ix2 c k) = wcol x1 c k := by
  unfold wcol
  rw [val_main_v3_apply]
  show val_main_v2 (F := Ideal) x1 (ix2 c k) = _
  rw [val_main_v2_apply, val_main_v1_apply]
  refine congrArg x1 (funext fun a => Fin.ext ?_)
  have hk := k.isLt
  match a with
  | ⟨0, _⟩ => show (c.val * 8192 + k.val) / 1024 % 8 = k.val / 1024; omega
  | ⟨1, _⟩ => show (c.val * 8192 + k.val) / 8192 = c.val; omega
  | ⟨2, _⟩ => show (c.val * 8192 + k.val) % 1024 = k.val % 1024; omega

/-- All the projected activations. -/
theorem ref_proj (n : Fin 4096) (k : Fin 8192) : val_main_v4 (F := Ideal) x0 x1 (ix2 n k) = proj x0 x1 n k := by
  rw [val_main_v4_apply]
  unfold proj
  refine Finset.sum_congr rfl fun c _ => ?_
  rw [← w_apply]
  have el : lidx_main_v4 (ix2 n k) c = ix2 n c := funext fun a => Fin.ext (match a with
    | ⟨0, _⟩ => rfl
    | ⟨1, _⟩ => rfl)
  have er : ridx_main_v4 (ix2 n k) c = ix2 c k := funext fun a => Fin.ext (match a with
    | ⟨0, _⟩ => rfl
    | ⟨1, _⟩ => rfl)
  rw [el, er]
  rfl

theorem ref_q (n : Fin 4096) (x : Fin 4608) : val_main_v9 (F := Ideal) x0 x1 (ix2 n x) = proj x0 x1 n (⟨x.val, by omega⟩ : Fin 8192) := by
  rw [← ref_proj]
  show val_main_v5 (F := Ideal) x0 x1 (ix2 n x) = _
  rw [val_main_v5_apply]
  refine congrArg (val_main_v4 (F := Ideal) x0 x1) (funext fun a => Fin.ext ?_)
  match a with
  | ⟨0, _⟩ => rfl
  | ⟨1, _⟩ => rfl

theorem ref_r (n : Fin 4096) (x : Fin 3584) : val_main_v10 (F := Ideal) x0 x1 (ix2 n x) = proj x0 x1 n (restCol x) := by
  rw [← ref_proj]
  unfold val_main_v10 restCol
  by_cases h1 : x.val < 512
  · rw [dif_pos h1]
    refine (concatenate_apply_piece (1 : Fin 2) [⟨S4096x512, val_main_v6 (F := Ideal) x0 x1⟩, ⟨S4096x2560, val_main_v8 (F := Ideal) x0 x1⟩, ⟨S4096x512, val_main_v7 (F := Ideal) x0 x1⟩] _ (ix2 n x) 0 (by show _ < 3; decide) S4096x512 (val_main_v6 (F := Ideal) x0 x1) rfl rfl 0 (by rfl) (ix2 n (⟨x.val, h1⟩ : Fin 512)) (fun b hb => ?_) ?_).trans ?_
    · match b, hb with
      | ⟨0, _⟩, _ => rfl
      | ⟨1, _⟩, hb => exact absurd rfl hb
    · show 0 + x.val = x.val; omega
    · rw [val_main_v6_apply]
      refine congrArg (val_main_v4 (F := Ideal) x0 x1) (funext fun a => Fin.ext ?_)
      match a with
      | ⟨0, _⟩ => rfl
      | ⟨1, _⟩ => show 4608 + x.val = x.val + 4608; omega
  · rw [dif_neg h1]
    by_cases h2 : x.val < 3072
    · rw [dif_pos h2]
      refine (concatenate_apply_piece (1 : Fin 2) _ _ (ix2 n x) 1 (by show _ < 3; decide) S4096x2560 (val_main_v8 (F := Ideal) x0 x1) rfl rfl 512 (by rfl) (ix2 n (⟨x.val - 512, by omega⟩ : Fin 2560)) (fun b hb => ?_) ?_).trans ?_
      · match b, hb with
        | ⟨0, _⟩, _ => rfl
        | ⟨1, _⟩, hb => exact absurd rfl hb
      · show 512 + (x.val - 512) = x.val; omega
      · rw [val_main_v8_apply]
        refine congrArg (val_main_v4 (F := Ideal) x0 x1) (funext fun a => Fin.ext ?_)
        match a with
        | ⟨0, _⟩ => rfl
        | ⟨1, _⟩ => show 5632 + (x.val - 512) = x.val + 5120; omega
    · rw [dif_neg h2]
      have hx := x.isLt
      refine (concatenate_apply_piece (1 : Fin 2) _ _ (ix2 n x) 2 (by show _ < 3; decide) S4096x512 (val_main_v7 (F := Ideal) x0 x1) rfl rfl 3072 (by rfl) (ix2 n (⟨x.val - 3072, by omega⟩ : Fin 512)) (fun b hb => ?_) ?_).trans ?_
      · match b, hb with
        | ⟨0, _⟩, _ => rfl
        | ⟨1, _⟩, hb => exact absurd rfl hb
      · show 3072 + (x.val - 3072) = x.val; omega
      · rw [val_main_v7_apply]
        refine congrArg (val_main_v4 (F := Ideal) x0 x1) (funext fun a => Fin.ext ?_)
        match a with
        | ⟨0, _⟩ => rfl
        | ⟨1, _⟩ => show 5120 + (x.val - 3072) = x.val + 2048; omega

end Reference
end Cert.Proj
end
end
-- ==== Proof.ProjResult.lean ====
module

public import proofs.«01_k».proof.Defs
public import proofs.«01_k».proof.Proof.ProjArray
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read

@[expose] public section
set_option maxRecDepth 16384

/-! The claims about the input projection of the forward pass. -/

noncomputable section
namespace Cert.Proj
open Idealize.ShloMosaic Idealize.ShloMosaic.TcCoe Idealize.SL.Sem Idealize.ShloMosaic.StableHlo
open Idealize.ShloMosaic.ValueIdx
open Cert.Reference4Ideal.Read

/-- The reference runs, keeps its arguments and declares no semaphore. -/
theorem reference_frame : Cert.quiescent_Reference4Ideal := by
  intro m g _
  exact (θ_run Cert.Reference4Ideal.defs _ _).mono (fun r h => ⟨fun c => (h c).2.2,
    Idealize.ShloMosaic.sem_eq_zero_of_no_sems (by decide) r.2⟩) (Cert.Reference4Ideal.Value.run (F := Ideal) m g)

section
variable (m : (ℓ : Loc Cert.Kernel4Ideal.nD Cert.Kernel4Ideal.τ Cert.Kernel4Ideal.sig) → Buf (Elt Ideal) ℓ) (c : Dev Cert.Kernel4Ideal.nD)

/-- An argument of the kernel. -/
abbrev A (b : Ref Cert.Kernel4Ideal.sig .tc) := m ((c : Thread Cert.Kernel4Ideal.nD Cert.Kernel4Ideal.τ).loc b)

theorem equation_q : ((Cert.Kernel4Ideal.Gen.dats m 0 c).arrAt 2 Cert.Kernel4Ideal.cfg0.N : FVec Ideal Cert.Kernel4Ideal.S4096x4608 .bf16)
    = val_main_v9 (F := Ideal) (A m c Cert.Kernel4Ideal.main_arg0) (A m c Cert.Kernel4Ideal.main_arg1) := by
  funext y
  have h0 : (y 0).val < 4096 := (y 0).isLt
  have hy : y = ix2 (tok (⟨(y 0).val / 512, by omega⟩ : Fin 8) (⟨(y 0).val % 512, by omega⟩ : Fin 512)) (⟨(y 1).val, (y 1).isLt⟩ : Fin 4608) :=
    funext fun a => Fin.ext (match a with
      | ⟨0, _⟩ => by show (y 0).val = 512 * ((y 0).val / 512) + (y 0).val % 512; omega
      | ⟨1, _⟩ => rfl)
  rw [hy, final_q, ref_q]

theorem equation_r : ((Cert.Kernel4Ideal.Gen.dats m 0 c).arrAt 3 Cert.Kernel4Ideal.cfg0.N : FVec Ideal Cert.Kernel4Ideal.S4096x3584 .f32)
    = val_main_v10 (F := Ideal) (A m c Cert.Kernel4Ideal.main_arg0) (A m c Cert.Kernel4Ideal.main_arg1) := by
  funext y
  have h0 : (y 0).val < 4096 := (y 0).isLt
  have hy : y = ix2 (tok (⟨(y 0).val / 512, by omega⟩ : Fin 8) (⟨(y 0).val % 512, by omega⟩ : Fin 512)) (⟨(y 1).val, (y 1).isLt⟩ : Fin 3584) :=
    funext fun a => Fin.ext (match a with
      | ⟨0, _⟩ => by show (y 0).val = 512 * ((y 0).val / 512) + (y 0).val % 512; omega
      | ⟨1, _⟩ => rfl)
  rw [hy, final_r, ref_r]
end

/-- The kernel's two results are the reference's, whatever the inputs. -/
theorem algebraic : Cert.algebraic_Kernel4Ideal_Reference4Ideal := by
  intro m g m' g' _ hagree
  refine ⟨fun c => (Cert.Kernel4Ideal.Gen.dats m 0 c).arrAt 2 Cert.Kernel4Ideal.cfg0.N, fun c => (Cert.Kernel4Ideal.Gen.dats m 0 c).arrAt 3 Cert.Kernel4Ideal.cfg0.N,
    Cert.Kernel4Ideal.Value.run_blocks m g,
    (θ_run Cert.Reference4Ideal.defs _ _).mono (fun r h c => ?_) (Cert.Reference4Ideal.Value.run (F := Ideal) m' g')⟩
  obtain ⟨a0, a1⟩ := hagree c
  have f0 := (h c).1.trans (val_main_v9_eq (F := Ideal) _ _)
  have f1 := (h c).2.1.trans (val_main_v10_eq (F := Ideal) _ _)
  rw [a0, a1] at f0 f1
  exact ⟨f0.trans (equation_q m c).symm, f1.trans (equation_r m c).symm, (h c).2.2⟩

end Cert.Proj
end
end
-- ==== Proof.GatesSpec.lean ====
module

public import proofs.«01_k».proof.Proof.Finite

@[expose] public section
set_option maxRecDepth 16384

/-! The gates' backward, one row of the activations at a time: the logistic function as the kernel writes it, the derivative of `silu`
in its two forms, and the row's gradients. -/

noncomputable section
namespace Cert.Gates
open Idealize.ShloMosaic

/-- One and a half, as the programs write them. -/
abbrev wOne : EReal := Ideal.ofBits .f32 0x3F800000#32
abbrev wHalf : EReal := Ideal.ofBits .f32 0x3F000000#32

theorem wOne_eq : wOne = ((1 : ℝ) : EReal) := by
  simp [wOne, Ideal.ofBits, Ideal.ieee]
  norm_num
  rw [← EReal.coe_mul]
  norm_num

theorem wHalf_eq : wHalf = (((1 / 2 : ℝ)) : EReal) := by
  simp [wHalf, Ideal.ofBits, Ideal.ieee]
  norm_num
  rw [← EReal.coe_mul]
  norm_num

/-- The logistic function. -/
def sg (z : EReal) : EReal := Ideal.logistic z

theorem sg_bot : sg ⊥ = ((0 : ℝ) : EReal) := by unfold sg; rw [Ideal.logistic_bot, EReal.coe_zero]
theorem sg_top : sg ⊤ = ((1 : ℝ) : EReal) := by unfold sg; rw [Ideal.logistic_top, EReal.coe_one]
theorem sg_coe (r : ℝ) : sg r = (((1 + Real.exp (-r))⁻¹ : ℝ) : EReal) := Ideal.logistic_coe r

/-- It is always finite. -/
theorem isReal_sg (z : EReal) : ∃ r : ℝ, sg z = (r : EReal) := by
  induction z with
  | bot => exact ⟨0, sg_bot⟩
  | top => exact ⟨1, sg_top⟩
  | coe r => exact ⟨_, sg_coe r⟩

theorem real_tanh (r : ℝ) : 1 / 2 * Real.tanh (1 / 2 * r) + 1 / 2 = (1 + Real.exp (-r))⁻¹ := by
  rw [Real.tanh_eq_sinh_div_cosh, Real.sinh_eq, Real.cosh_eq]
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  have p1 := Real.exp_pos (1 / 2 * r)
  have p2 := Real.exp_pos (-(1 / 2 * r))
  rw [h1]
  generalize Real.exp (1 / 2 * r) = a at *
  generalize Real.exp (-(1 / 2 * r)) = b at *
  have q1 : a + b ≠ 0 := by positivity
  have q2 : 1 + b * b ≠ 0 := by positivity
  field_simp
  linear_combination (2 * b) * h2

/-- As the kernel writes it, through the hyperbolic tangent. -/
theorem tanh_form (z : EReal) : wHalf * Ideal.tanh (wHalf * z) + wHalf = sg z := by
  rw [wHalf_eq]
  induction z with
  | bot =>
    rw [EReal.coe_mul_bot_of_pos (by norm_num), Ideal.tanh_bot, sg_bot, ← EReal.coe_one, ← EReal.coe_neg, ← EReal.coe_mul, ← EReal.coe_add]
    norm_num
  | top =>
    rw [EReal.coe_mul_top_of_pos (by norm_num), Ideal.tanh_top, sg_top, ← EReal.coe_one, ← EReal.coe_mul, ← EReal.coe_add]
    norm_num
  | coe r =>
    rw [← EReal.coe_mul, Ideal.tanh_coe, ← EReal.coe_mul, ← EReal.coe_add, sg_coe, real_tanh]

/-- As the reference writes it. -/
theorem div_form (z : EReal) : Ideal.div wOne (wOne + Ideal.exp (-z)) = sg z := by
  rw [wOne_eq, EReal.coe_one]
  rfl

/-- `silu`'s derivative against a finite cotangent: the kernel's form and the reference's. -/
theorem silu_form (d z : EReal) (hd : ∃ r : ℝ, d = (r : EReal)) :
    d * (sg z * (wOne + z * (wOne - sg z))) = d * sg z + (z * d) * (sg z * (wOne - sg z)) := by
  obtain ⟨x, rfl⟩ := hd
  rw [wOne_eq]
  induction z with
  | bot =>
    rw [sg_bot, ← EReal.coe_sub, EReal.coe_zero, zero_mul, zero_mul, mul_zero, mul_zero, add_zero]
  | top =>
    rw [sg_top, ← EReal.coe_sub, sub_self, EReal.coe_zero, mul_zero, mul_zero, mul_zero, add_zero, add_zero, EReal.coe_one, mul_one]
  | coe r =>
    rw [sg_coe]
    simp only [← EReal.coe_sub, ← EReal.coe_mul, ← EReal.coe_add]
    congr 1
    ring

/-- The first 512 of 1024 entries from one row, the others from another. -/
def cat (a b : Fin 512 → EReal) (j : Fin 1024) : EReal := if h : j.val < 512 then a ⟨j.val, h⟩ else b ⟨j.val - 512, by omega⟩

/-- A row against the rows of a matrix. -/
def lin {n m : Nat} (x : Fin n → EReal) (w : Fin m → Fin n → EReal) (j : Fin m) : EReal := ∑ k : Fin n, x k * w j k

/-- A row through a matrix. -/
def mix {n m : Nat} (x : Fin n → EReal) (w : Fin n → Fin m → EReal) (j : Fin m) : EReal := ∑ d : Fin n, x d * w d j

section
variable (dm : Fin 1024 → EReal) (w : Fin 512 → Fin 1024 → EReal) (y z v : Fin 512 → EReal) (g : Fin 1024 → EReal)

/-- The cotangent behind the gate. -/
def dy (j : Fin 1024) : EReal := dm j * sg (g j)

/-- What the gate multiplies: the branch's output times `silu` of its own gate. -/
def act (d : Fin 512) : EReal := y d * (z d * sg (z d))

/-- The gate's argument's cotangent. -/
def dgate (j : Fin 1024) : EReal := dm j * mix v w j * sg (g j) * (wOne - sg (g j))

/-- The cotangent of the product with `silu`. -/
def da (d : Fin 512) : EReal := lin (dy dm g) w d

/-- The cotangent of the branch's output. -/
def dbr (d : Fin 512) : EReal := da dm w g d * (z d * sg (z d))

/-- The cotangent of `silu`'s argument. -/
def dz (d : Fin 512) : EReal := da dm w g d * y d * (sg (z d) * (wOne + z d * (wOne - sg (z d))))

/-- A row of the cotangents of the projection's columns: z_attn, z_pool, g_attn, g_pool. `wa` and the rest belong to the attention
branch, `wp` and the rest to the pooling branch. -/
def drRow (wa wp : Fin 512 → Fin 1024 → EReal) (ga gp : Fin 1024 → EReal) (za zp ya yp va vp : Fin 512 → EReal) (k : Fin 3072) : EReal :=
  if h : k.val < 512 then dz dm wa ya za ga ⟨k.val, h⟩
  else if h : k.val < 1024 then dz dm wp yp zp gp ⟨k.val - 512, by omega⟩
  else if h : k.val < 2048 then dgate dm wa va ga ⟨k.val - 1024, by omega⟩
  else dgate dm wp vp gp ⟨k.val - 2048, by omega⟩

/-- Column `64 h + e` of the head that column `d` is in. -/
def headCol (d : Fin 512) (e : Fin 64) : Fin 512 := ⟨64 * (d.val / 64) + e.val, by omega⟩

/-- The sum over the columns of the head that column `d` is in. -/
def headSum (x : Fin 512 → EReal) (d : Fin 512) : EReal := ∑ e : Fin 64, x (headCol d e)

end

/-! ### All rows -/

section
open Idealize.ShloMosaic.ValueIdx

/-- Row `p` of an array. -/
abbrev rowOf {n m : Nat} {φ : FTy} (v : FVec Ideal (⟨2, ![n, m]⟩ : Shape) φ) (p : Fin n) : Fin m → EReal := fun k => v (ix2 p k)

/-- An array as a matrix. -/
abbrev matOf {n m : Nat} {φ : FTy} (v : FVec Ideal (⟨2, ![n, m]⟩ : Shape) φ) : Fin n → Fin m → EReal := fun p k => v (ix2 p k)

variable (D : FVec Ideal (⟨2, ![4096, 1024]⟩ : Shape) .bf16) (W : FVec Ideal (⟨2, ![1024, 1024]⟩ : Shape) .bf16)
  (WA WP : FVec Ideal (⟨2, ![512, 1024]⟩ : Shape) .bf16) (R : FVec Ideal (⟨2, ![4096, 3584]⟩ : Shape) .f32)
  (AT MP : FVec Ideal (⟨2, ![4096, 512]⟩ : Shape) .f32) (PS : FVec Ideal (⟨2, ![1, 512]⟩ : Shape) .f32)

/-- The cotangent behind the output weights. -/
def gDm (n : Fin 4096) : Fin 1024 → EReal := lin (rowOf D n) (matOf W)

/-- The columns of the projection: z_attn, z_pool, g_attn, g_pool. -/
def gZa (n : Fin 4096) (d : Fin 512) : EReal := R (ix2 n (⟨d.val, by omega⟩ : Fin 3584))
def gZp (n : Fin 4096) (d : Fin 512) : EReal := R (ix2 n (⟨512 + d.val, by omega⟩ : Fin 3584))
def gGa (n : Fin 4096) (j : Fin 1024) : EReal := R (ix2 n (⟨1024 + j.val, by omega⟩ : Fin 3584))
def gGp (n : Fin 4096) (j : Fin 1024) : EReal := R (ix2 n (⟨2048 + j.val, by omega⟩ : Fin 3584))

/-- The pooling branch's output. -/
def gYp (n : Fin 4096) (d : Fin 512) : EReal := MP (ix2 n d) * PS (ix2 (0 : Fin 1) d)

/-- The gradients of the branches' weights. -/
def sDwa : FVec Ideal (⟨2, ![512, 1024]⟩ : Shape) .f32 := fun y =>
  ∑ n : Fin 4096, act (rowOf AT n) (gZa R n) ⟨(y 0).val, (y 0).isLt⟩ * dy (gDm D W n) (gGa R n) ⟨(y 1).val, (y 1).isLt⟩
def sDwp : FVec Ideal (⟨2, ![512, 1024]⟩ : Shape) .f32 := fun y =>
  ∑ n : Fin 4096, act (gYp MP PS n) (gZp R n) ⟨(y 0).val, (y 0).isLt⟩ * dy (gDm D W n) (gGp R n) ⟨(y 1).val, (y 1).isLt⟩

/-- Row `n` of the cotangents of the projection. -/
def gDr (n : Fin 4096) : Fin 3072 → EReal :=
  drRow (gDm D W n) (matOf WA) (matOf WP) (gGa R n) (gGp R n) (gZa R n) (gZp R n) (rowOf AT n) (gYp MP PS n) (act (rowOf AT n) (gZa R n))
    (act (gYp MP PS n) (gZp R n))

/-- Row `n` of the attention's cotangent, and of its sums over the heads. -/
def gDattn (n : Fin 4096) : Fin 512 → EReal := dbr (gDm D W n) (matOf WA) (gZa R n) (gGa R n)
def gDelta (n : Fin 4096) : Fin 512 → EReal := headSum fun d => gDattn D W WA R n d * AT (ix2 n d)

/-- Row `n` of the pooled products' cotangent, before and after its scale, and the scale's gradient. -/
def gDmx (n : Fin 4096) : Fin 512 → EReal := dbr (gDm D W n) (matOf WP) (gZp R n) (gGp R n)
def gDmp (n : Fin 4096) (d : Fin 512) : EReal := gDmx D W WP R n d * PS (ix2 (0 : Fin 1) d)
def sDps : FVec Ideal (⟨2, ![1, 512]⟩ : Shape) .f32 := fun y =>
  ∑ n : Fin 4096, gDmx D W WP R n ⟨(y 1).val, (y 1).isLt⟩ * MP (ix2 n ⟨(y 1).val, (y 1).isLt⟩)

/-- Row `p` of block `z`. -/
def tok (z : Fin 16) (p : Fin 256) : Fin 4096 := ⟨256 * z.val + p.val, by omega⟩

/-- A sum over all rows, block by block. -/
theorem sum_tok (f : Fin 4096 → EReal) : ∑ n : Fin 4096, f n = ∑ z : Fin 16, ∑ p : Fin 256, f (tok z p) := by
  rw [← Equiv.sum_comp (finProdFinEquiv (m := 16) (n := 256)) (fun k : Fin (16 * 256) => f k), Fintype.sum_prod_type]
  refine Finset.sum_congr rfl fun j _ => Finset.sum_congr rfl fun q _ => congrArg f (Fin.ext ?_)
  show q.val + 256 * j.val = 256 * j.val + q.val
  exact Nat.add_comm _ _
end
end Cert.Gates
end
end
-- ==== Proof.GatesPay.lean ====
module

public import proofs.«01_k».proof.Proof.GatesSpec
public import proofs.«01_k».proof.Proof.Gen.Kernel5Ideal.Frame
public import Idealize.ShloMosaic.Lib.Pipeline.Value
public import Idealize.ShloMosaic.Lib.Pipeline.ReadBack
public import Idealize.ShloMosaic.Lib.ValueIdx
public import Idealize.ShloMosaic.PureOps.Ideal.Laws

@[expose] public section
set_option maxRecDepth 16384

/-! The gates' backward: every array the kernel's body computes, read at one row and column. -/

noncomputable section
namespace Cert.Gates
open Cert.Kernel5Ideal Cert.Kernel5Ideal.Gen Idealize.ShloMosaic Idealize.ShloMosaic.TcCoe Idealize.ShloMosaic.Tactic Idealize.SL.Sem
open Idealize.ShloMosaic.ValueIdx

/-- Rows of 1024 against the rows of the output weights. -/
theorem dot_out (a : FVec Ideal S256x1024 .bf16) (b : FVec Ideal S1024x1024 .bf16) (p : Fin 256) (q : Fin 1024) :
    matmul dot_S256x1024_S1024x1024_S256x1024_1_1_0_0_n_n none a b (constant S256x1024 .f32 0x00000000#32) (ix2 p q) = ∑ l : Fin 1024, a (ix2 p l) * b (ix2 q l) := by
  rw [show matmul dot_S256x1024_S1024x1024_S256x1024_1_1_0_0_n_n none a b (constant S256x1024 .f32 0x00000000#32) (ix2 p q) = _ from
    Ideal.matmul_constant_zero_apply _ _ _ _ _,
    ← Equiv.sum_comp (contrEquiv1 dot_S256x1024_S1024x1024_S256x1024_1_1_0_0_n_n 1024 rfl rfl).symm]
  refine Finset.sum_congr rfl fun l _ => congrArg₂ (fun x y : EReal => x * y) (congrArg a (funext fun x => Fin.ext ?_))
    (congrArg b (funext fun x => Fin.ext ?_))
  · match x with
    | ⟨0, _⟩ => rfl
    | ⟨1, _⟩ => exact (dot_S256x1024_S1024x1024_S256x1024_1_1_0_0_n_n.lhsIdx_val_of_single rfl _ _).trans (contrEquiv1_symm_val _ _ _ _ _)
  · match x with
    | ⟨0, _⟩ => rfl
    | ⟨1, _⟩ => exact (dot_S256x1024_S1024x1024_S256x1024_1_1_0_0_n_n.rhsIdx_val_of_single rfl _ _).trans (contrEquiv1_symm_val _ _ _ _ _)

/-- Rows of 1024 against the rows of a branch's weights. -/
theorem dot_back (a : FVec Ideal S256x1024 .bf16) (b : FVec Ideal S512x1024 .bf16) (p : Fin 256) (q : Fin 512) :
    matmul dot_S256x1024_S512x1024_S256x512_1_1_0_0_n_n none a b (constant S256x512 .f32 0x00000000#32) (ix2 p q) = ∑ l : Fin 1024, a (ix2 p l) * b (ix2 q l) := by
  rw [show matmul dot_S256x1024_S512x1024_S256x512_1_1_0_0_n_n none a b (constant S256x512 .f32 0x00000000#32) (ix2 p q) = _ from
    Ideal.matmul_constant_zero_apply _ _ _ _ _,
    ← Equiv.sum_comp (contrEquiv1 dot_S256x1024_S512x1024_S256x512_1_1_0_0_n_n 1024 rfl rfl).symm]
  refine Finset.sum_congr rfl fun l _ => congrArg₂ (fun x y : EReal => x * y) (congrArg a (funext fun x => Fin.ext ?_))
    (congrArg b (funext fun x => Fin.ext ?_))
  · match x with
    | ⟨0, _⟩ => rfl
    | ⟨1, _⟩ => exact (dot_S256x1024_S512x1024_S256x512_1_1_0_0_n_n.lhsIdx_val_of_single rfl _ _).trans (contrEquiv1_symm_val _ _ _ _ _)
  · match x with
    | ⟨0, _⟩ => rfl
    | ⟨1, _⟩ => exact (dot_S256x1024_S512x1024_S256x512_1_1_0_0_n_n.rhsIdx_val_of_single rfl _ _).trans (contrEquiv1_symm_val _ _ _ _ _)

/-- Rows of 512 through a branch's weights. -/
theorem dot_mix (a : FVec Ideal S256x512 .bf16) (b : FVec Ideal S512x1024 .bf16) (p : Fin 256) (q : Fin 1024) :
    matmul dot_S256x512_S512x1024_S256x1024_1_0_0_1_n_n none a b (constant S256x1024 .f32 0x00000000#32) (ix2 p q) = ∑ l : Fin 512, a (ix2 p l) * b (ix2 l q) := by
  rw [show matmul dot_S256x512_S512x1024_S256x1024_1_0_0_1_n_n none a b (constant S256x1024 .f32 0x00000000#32) (ix2 p q) = _ from
    Ideal.matmul_constant_zero_apply _ _ _ _ _,
    ← Equiv.sum_comp (contrEquiv1 dot_S256x512_S512x1024_S256x1024_1_0_0_1_n_n 512 rfl rfl).symm]
  refine Finset.sum_congr rfl fun l _ => congrArg₂ (fun x y : EReal => x * y) (congrArg a (funext fun x => Fin.ext ?_))
    (congrArg b (funext fun x => Fin.ext ?_))
  · match x with
    | ⟨0, _⟩ => rfl
    | ⟨1, _⟩ => exact (dot_S256x512_S512x1024_S256x1024_1_0_0_1_n_n.lhsIdx_val_of_single rfl _ _).trans (contrEquiv1_symm_val _ _ _ _ _)
  · match x with
    | ⟨0, _⟩ => exact (dot_S256x512_S512x1024_S256x1024_1_0_0_1_n_n.rhsIdx_val_of_single rfl _ _).trans (contrEquiv1_symm_val _ _ _ _ _)
    | ⟨1, _⟩ => rfl

/-- A product over the rows of the block. -/
theorem dot_rows (a : FVec Ideal S512x256 .bf16) (b : FVec Ideal S256x1024 .bf16) (p : Fin 512) (q : Fin 1024) :
    matmul dot_S512x256_S256x1024_S512x1024_1_0_0_1_n_n none a b (constant S512x1024 .f32 0x00000000#32) (ix2 p q) = ∑ l : Fin 256, a (ix2 p l) * b (ix2 l q) := by
  rw [show matmul dot_S512x256_S256x1024_S512x1024_1_0_0_1_n_n none a b (constant S512x1024 .f32 0x00000000#32) (ix2 p q) = _ from
    Ideal.matmul_constant_zero_apply _ _ _ _ _,
    ← Equiv.sum_comp (contrEquiv1 dot_S512x256_S256x1024_S512x1024_1_0_0_1_n_n 256 rfl rfl).symm]
  refine Finset.sum_congr rfl fun l _ => congrArg₂ (fun x y : EReal => x * y) (congrArg a (funext fun x => Fin.ext ?_))
    (congrArg b (funext fun x => Fin.ext ?_))
  · match x with
    | ⟨0, _⟩ => rfl
    | ⟨1, _⟩ => exact (dot_S512x256_S256x1024_S512x1024_1_0_0_1_n_n.lhsIdx_val_of_single rfl _ _).trans (contrEquiv1_symm_val _ _ _ _ _)
  · match x with
    | ⟨0, _⟩ => exact (dot_S512x256_S256x1024_S512x1024_1_0_0_1_n_n.rhsIdx_val_of_single rfl _ _).trans (contrEquiv1_symm_val _ _ _ _ _)
    | ⟨1, _⟩ => rfl

/-- Two blocks of 512 columns, side by side. -/
theorem cat_at (a b : FVec Ideal S256x512 .f32) (p : Fin 256) (j : Fin 1024) :
    concatenate S256x1024 1 [⟨S256x512, a⟩, ⟨S256x512, b⟩] concatenates_S256x512_S256x512_S256x1024_d1 (ix2 p j) = cat (rowOf a p) (rowOf b p) j := by
  unfold cat
  by_cases h : j.val < 512
  · rw [dif_pos h]
    exact concatenate_pair_apply_left (t := S256x1024) 1 a b _ (ix2 p j) rfl (ix2 p ⟨j.val, h⟩) (fun x => match x with
      | ⟨0, _⟩ => rfl
      | ⟨1, _⟩ => rfl)
  · rw [dif_neg h]
    exact concatenate_pair_apply_right (t := S256x1024) 1 a b _ (ix2 p j) rfl rfl (ix2 p ⟨j.val - 512, by omega⟩) (fun x hx => match x with
      | ⟨0, _⟩ => rfl
      | ⟨1, _⟩ => absurd rfl hx) (by show j.val - 512 + 512 = j.val; omega)

/-- A row, repeated. -/
theorem rep_at (v : FVec Ideal S1x512 .f32) (p : Fin 256) (d : Fin 512) :
    broadcastTo S256x512 v broadcasts_S1x512_S256x512 (ix2 p d) = v (ix2 (0 : Fin 1) d) :=
  broadcastTo_apply v _ (ix2 p d) (ix2 (0 : Fin 1) d) fun a => match a with
    | ⟨0, _⟩ => rfl
    | ⟨1, _⟩ => rfl

/-- The sums of the columns. -/
theorem colsum_at (v : FVec Ideal S256x512 .f32) (c : Fin 512) :
    shapeCast S1x512 (multiReduction (F := Ideal) .add [0] S512 v 0x00000000#32 reduces_S256x512_S512 (.inl rfl) rfl) shapeCasts_S512_S1x512 (ix2 (0 : Fin 1) c)
      = ∑ p : Fin 256, v (ix2 p c) := by
  refine (shapeCast_apply _ shapeCasts_S512_S1x512 (ix2 (0 : Fin 1) c) (ix1 c) (by
    rw [Shape.rowMajor_val_two, Shape.rowMajor_val_one]
    show c.val = 0 * 512 + c.val
    omega)).trans ?_
  refine (Ideal.multiReduction_add_single v _ reduces_S256x512_S512 (.inl rfl) rfl (ix1 c)).trans ?_
  exact Finset.sum_congr rfl fun k _ => congrArg v (funext fun a => Fin.ext (match a with
    | ⟨0, _⟩ => rfl
    | ⟨1, _⟩ => rfl))

section
variable (x0 : FVec Ideal S256x1024 .bf16) (wout : FVec Ideal S1024x1024 .bf16) (w : FVec Ideal S512x1024 .bf16)
  (g0 g1 z y u : FVec Ideal S256x512 .f32) (ag : FVec Ideal S256x512 .bf16) (ps : FVec Ideal S1x512 .f32)
  (p : Fin 256)

theorem dm_at (j : Fin 1024) : k0_pay8 (F := Ideal) x0 wout (ix2 p j) = lin (rowOf x0 p) (matOf wout) j := dot_out x0 wout p j

theorem gate_at (j : Fin 1024) : k0_pay9 (F := Ideal) g0 g1 (ix2 p j) = sg (cat (rowOf g0 p) (rowOf g1 p) j) := by
  rw [← cat_at, ← tanh_form]
  rfl

theorem gate_at' (j : Fin 1024) : k0_pay10 (F := Ideal) g0 g1 (ix2 p j) = sg (cat (rowOf g0 p) (rowOf g1 p) j) := by
  rw [← cat_at, ← tanh_form]
  rfl

theorem dy_at (j : Fin 1024) : k0_pay11 (F := Ideal) x0 wout g0 g1 (ix2 p j) = dy (lin (rowOf x0 p) (matOf wout)) (cat (rowOf g0 p) (rowOf g1 p)) j := by
  unfold dy
  rw [← gate_at, ← dm_at]
  rfl

theorem dy_at' (j : Fin 1024) : k0_pay12 (F := Ideal) x0 wout g0 g1 (ix2 p j) = dy (lin (rowOf x0 p) (matOf wout)) (cat (rowOf g0 p) (rowOf g1 p)) j := by
  unfold dy
  rw [← gate_at', ← dm_at]
  rfl

theorem same_at (d : Fin 512) : k0_pay13 (F := Ideal) ag (ix2 p d) = ag (ix2 p d) := by
  show shapeCast S256x512 ag shapeCasts_S256x512_S256x512 (ix2 p d) = _
  rw [shapeCast_self]

theorem same_at' (d : Fin 512) : k0_pay14 (F := Ideal) ag (ix2 p d) = ag (ix2 p d) := by
  show shapeCast S256x512 ag shapeCasts_S256x512_S256x512 (ix2 p d) = _
  rw [shapeCast_self]

/-- Transposing. -/
theorem flip_at (v : FVec Ideal S256x512 .f32) (d : Fin 512) :
    truncf .bf16 (transpose S512x256 [1, 0] v transposes_S256x512_p1_0_S512x256) bitsLt_bf16_f32 (ix2 d p) = v (ix2 p d) := by
  rw [truncf_apply]
  exact transpose_apply _ _ _ (ix2 d p) (ix2 p d) fun a => match a with
    | ⟨0, _⟩ => rfl
    | ⟨1, _⟩ => rfl

/-- The attention branch's weights' gradient, with one block added. -/
theorem dwa_at (b : FVec Ideal S256x1024 .bf16) (old : FVec Ideal S512x1024 .f32) (d : Fin 512) (j : Fin 1024) :
    k0_pay15 (F := Ideal) b ag old (ix2 d j) = old (ix2 d j) + ∑ r : Fin 256, ag (ix2 r d) * b (ix2 r j) := by
  unfold k0_pay15
  dsimp only
  rw [addf_apply, dot_rows, shapeCast_self]
  refine congrArg (old (ix2 d j) + ·) (Finset.sum_congr rfl fun r _ => ?_)
  rw [flip_at]
  rfl

theorem dwp_at (b : FVec Ideal S256x1024 .bf16) (old : FVec Ideal S512x1024 .f32) (d : Fin 512) (j : Fin 1024) :
    k0_pay16 (F := Ideal) b ag old (ix2 d j) = old (ix2 d j) + ∑ r : Fin 256, ag (ix2 r d) * b (ix2 r j) := by
  unfold k0_pay16
  dsimp only
  rw [addf_apply, dot_rows, shapeCast_self]
  refine congrArg (old (ix2 d j) + ·) (Finset.sum_congr rfl fun r _ => ?_)
  rw [flip_at, extf_apply, same_at']

theorem dga_at (a s : FVec Ideal S256x1024 .f32) (j : Fin 1024) :
    k0_pay17 (F := Ideal) a s (k0_pay13 (F := Ideal) ag) w (ix2 p j)
      = a (ix2 p j) * (∑ d : Fin 512, ag (ix2 p d) * w (ix2 d j)) * s (ix2 p j) * (wOne - s (ix2 p j)) := by
  have e : matmul dot_S256x512_S512x1024_S256x1024_1_0_0_1_n_n none (k0_pay13 (F := Ideal) ag) w (constant S256x1024 .f32 0x00000000#32) (ix2 p j)
      = ∑ d : Fin 512, ag (ix2 p d) * w (ix2 d j) := by
    rw [dot_mix]
    exact Finset.sum_congr rfl fun d _ => by rw [same_at]
  rw [← e]
  rfl

theorem dgp_at (a s : FVec Ideal S256x1024 .f32) (j : Fin 1024) :
    k0_pay18 (F := Ideal) a s ag w (ix2 p j)
      = a (ix2 p j) * (∑ d : Fin 512, ag (ix2 p d) * w (ix2 d j)) * s (ix2 p j) * (wOne - s (ix2 p j)) := by
  have e : matmul dot_S256x512_S512x1024_S256x1024_1_0_0_1_n_n none (k0_pay14 (F := Ideal) ag) w (constant S256x1024 .f32 0x00000000#32) (ix2 p j)
      = ∑ d : Fin 512, ag (ix2 p d) * w (ix2 d j) := by
    rw [dot_mix]
    exact Finset.sum_congr rfl fun d _ => by rw [same_at']
  rw [← e]
  rfl

theorem da_at (b : FVec Ideal S256x1024 .bf16) (d : Fin 512) : k0_pay19 (F := Ideal) b w (ix2 p d) = lin (rowOf b p) (matOf w) d := dot_back b w p d
theorem dp_at (b : FVec Ideal S256x1024 .bf16) (d : Fin 512) : k0_pay20 (F := Ideal) b w (ix2 p d) = lin (rowOf b p) (matOf w) d := dot_back b w p d

theorem sz_at (d : Fin 512) : k0_pay21 (F := Ideal) z (ix2 p d) = sg (z (ix2 p d)) := by
  rw [← tanh_form]
  rfl

theorem sz_at' (d : Fin 512) : k0_pay35 (F := Ideal) z (ix2 p d) = sg (z (ix2 p d)) := by
  rw [← tanh_form]
  rfl

section
variable (b : FVec Ideal S256x1024 .bf16) (t : FVec Ideal S256x512 .f32) (d : Fin 512)

theorem dattn_at : k0_pay22 (F := Ideal) b w z (ix2 p d) = lin (rowOf b p) (matOf w) d * (z (ix2 p d) * sg (z (ix2 p d))) := by
  rw [← sz_at, ← da_at]
  rfl

theorem dattn_at' : k0_pay24 (F := Ideal) b w z (ix2 p d) = lin (rowOf b p) (matOf w) d * (z (ix2 p d) * sg (z (ix2 p d))) := dattn_at w z p b d

theorem dza_at : k0_pay23 (F := Ideal) b w z y (ix2 p d)
    = lin (rowOf b p) (matOf w) d * y (ix2 p d) * (sg (z (ix2 p d)) * (wOne + z (ix2 p d) * (wOne - sg (z (ix2 p d))))) := by
  rw [← sz_at, ← da_at]
  rfl

theorem prod_at : k0_pay25 (F := Ideal) b w z y (ix2 p d) = lin (rowOf b p) (matOf w) d * (z (ix2 p d) * sg (z (ix2 p d))) * y (ix2 p d) := by
  rw [← dattn_at]
  rfl

theorem dmx_at : k0_pay1 (F := Ideal) t z (k0_pay35 (F := Ideal) z) (ix2 p d) = t (ix2 p d) * (z (ix2 p d) * sg (z (ix2 p d))) := by
  rw [← sz_at']
  rfl

theorem dzp_at : k0_pay2 (F := Ideal) t z (k0_pay35 (F := Ideal) z) y ps (ix2 p d)
    = t (ix2 p d) * (y (ix2 p d) * ps (ix2 (0 : Fin 1) d)) * (sg (z (ix2 p d)) * (wOne + z (ix2 p d) * (wOne - sg (z (ix2 p d))))) := by
  rw [← sz_at', ← rep_at ps p d]
  rfl

theorem dps_at (old : FVec Ideal S1x512 .f32) : k0_pay3 (F := Ideal) t z (k0_pay35 (F := Ideal) z) y old (ix2 (0 : Fin 1) d)
    = old (ix2 (0 : Fin 1) d) + ∑ r : Fin 256, t (ix2 r d) * (z (ix2 r d) * sg (z (ix2 r d))) * y (ix2 r d) := by
  unfold k0_pay3
  dsimp only
  rw [addf_apply, colsum_at, shapeCast_self]
  exact congrArg (old (ix2 (0 : Fin 1) d) + ·) (Finset.sum_congr rfl fun r _ => by rw [mulf_apply, dmx_at])

theorem dmp_at : k0_pay4 (F := Ideal) t z (k0_pay35 (F := Ideal) z) ps (ix2 p d) = t (ix2 p d) * (z (ix2 p d) * sg (z (ix2 p d))) * ps (ix2 (0 : Fin 1) d) := by
  rw [← dmx_at, ← rep_at ps p d]
  rfl
end
end
end Cert.Gates
end
end
-- ==== Proof.GatesDelta.lean ====
module

public import proofs.«01_k».proof.Proof.GatesPay

@[expose] public section
set_option maxRecDepth 16384

/-! The gates' backward: the sums over the columns of each head, two heads at a time. -/

noncomputable section
namespace Cert.Gates
open Cert.Kernel5Ideal Cert.Kernel5Ideal.Gen Idealize.ShloMosaic Idealize.ShloMosaic.TcCoe Idealize.ShloMosaic.Tactic Idealize.SL.Sem
open Idealize.ShloMosaic.ValueIdx

/-- Which of 128 columns belong to the first of two heads. -/
def first : IVec S256x128 1 := broadcastTo S256x128 (shapeCast S1x128 k0_pay26 shapeCasts_S1x128_S1x128) broadcasts_S1x128_S256x128

/-- Zeros. -/
def zero128 : FVec Ideal S256x128 .f32 := broadcast S256x128 (Scalar.ofBits .f32 0x00000000#32)

/-- The sums of the rows, as a column. -/
def sums (v : FVec Ideal S256x128 .f32) : FVec Ideal S256x1 .f32 :=
  shapeCast S256x1 (multiReduction (F := Ideal) .add [1] S256 v 0x00000000#32 reduces_S256x128_S256 (.inl rfl) rfl) shapeCasts_S256_S256x1

/-- A column, repeated. -/
def wide (v : FVec Ideal S256x1 .f32) : FVec Ideal S256x128 .f32 :=
  broadcastTo S256x128 (shapeCast S256x1 v shapeCasts_S256x1_S256x1) broadcasts_S256x1_S256x128

/-- Each of two heads' sums, on that head's columns. -/
def pairs (v : FVec Ideal S256x128 .f32) : FVec Ideal S256x128 .f32 :=
  select first (wide (sums (select first v zero128))) (wide (sums (select first zero128 v)))

theorem first_at (p : Fin 256) (c : Fin 128) : first (ix2 p c) = if c.val < 64 then 1#1 else 0#1 := by
  unfold first
  rw [broadcastTo_apply _ _ _ (ix2 (0 : Fin 1) c) (fun a => match a with
    | ⟨0, _⟩ => rfl
    | ⟨1, _⟩ => rfl), shapeCast_self]
  revert c; decide

theorem sums_at (v : FVec Ideal S256x128 .f32) (p : Fin 256) : sums v (ix2 p (0 : Fin 1)) = ∑ k : Fin 128, v (ix2 p k) := by
  unfold sums
  refine (shapeCast_apply _ shapeCasts_S256_S256x1 (ix2 p (0 : Fin 1)) (ix1 p) (by
    rw [Shape.rowMajor_val_two, Shape.rowMajor_val_one]
    show p.val = p.val * 1 + 0
    omega)).trans ?_
  refine (Ideal.multiReduction_add_single v _ reduces_S256x128_S256 (.inl rfl) rfl (ix1 p)).trans ?_
  exact Finset.sum_congr rfl fun k _ => congrArg v (funext fun a => Fin.ext (match a with
    | ⟨0, _⟩ => rfl
    | ⟨1, _⟩ => rfl))

theorem wide_at (v : FVec Ideal S256x1 .f32) (p : Fin 256) (c : Fin 128) : wide v (ix2 p c) = v (ix2 p (0 : Fin 1)) := by
  unfold wide
  rw [broadcastTo_apply _ _ _ (ix2 p (0 : Fin 1)) (fun a => match a with
    | ⟨0, _⟩ => rfl
    | ⟨1, _⟩ => rfl), shapeCast_self]

theorem pairs_at (v : FVec Ideal S256x128 .f32) (p : Fin 256) (c : Fin 128) :
    pairs v (ix2 p c) = ∑ e : Fin 64, v (ix2 p (⟨64 * (c.val / 64) + e.val, by omega⟩ : Fin 128)) := by
  have hz : ∀ k : Fin 128, zero128 (ix2 p k) = 0 := fun k => Ideal.ofBits_zero_f32
  unfold pairs
  rw [select_apply, first_at]
  by_cases hc : c.val < 64
  · rw [if_pos hc, select_one, wide_at, sums_at]
    refine (Fin.sum_univ_add (a := 64) (b := 64) (fun k : Fin (64 + 64) => select first v zero128 (ix2 p k))).trans ?_
    have h2 : ∑ i : Fin 64, select first v zero128 (ix2 p (Fin.natAdd 64 i)) = 0 := Finset.sum_eq_zero fun i _ => by
      rw [select_apply, first_at, if_neg (by show ¬ 64 + i.val < 64; omega), select_zero, hz]
    rw [h2, add_zero]
    refine Finset.sum_congr rfl fun i _ => ?_
    rw [select_apply, first_at, if_pos (by show i.val < 64; omega), select_one]
    exact congrArg v (congrArg (ix2 p) (Fin.ext (by show i.val = 64 * (c.val / 64) + i.val; omega)))
  · rw [if_neg hc, select_zero, wide_at, sums_at]
    refine (Fin.sum_univ_add (a := 64) (b := 64) (fun k : Fin (64 + 64) => select first zero128 v (ix2 p k))).trans ?_
    have h1 : ∑ i : Fin 64, select first zero128 v (ix2 p (Fin.castAdd 64 i)) = 0 := Finset.sum_eq_zero fun i _ => by
      rw [select_apply, first_at, if_pos (by show i.val < 64; omega), select_one, hz]
    rw [h1, zero_add]
    refine Finset.sum_congr rfl fun i _ => ?_
    rw [select_apply, first_at, if_neg (by show ¬ 64 + i.val < 64; omega), select_zero]
    exact congrArg v (congrArg (ix2 p) (Fin.ext (by show 64 + i.val = 64 * (c.val / 64) + i.val; omega)))

/-- Columns `128 u` to `128 u + 127`, summed over their heads. -/
theorem head_at (x : FVec Ideal S256x512 .f32) (o : Nat) (h : S256x512.Slices ![0, o] S256x128) (u : Fin 4) (ho : o = 128 * u.val) (p : Fin 256) (c : Fin 128) :
    pairs (extractStridedSlice S256x128 ![0, o] x h) (ix2 p c) = headSum (rowOf x p) (⟨128 * u.val + c.val, by omega⟩ : Fin 512) := by
  subst ho
  rw [pairs_at]
  unfold headSum
  refine Finset.sum_congr rfl fun e _ => ?_
  exact extractStridedSlice_apply _ _ _ _ (ix2 p (headCol (⟨128 * u.val + c.val, by omega⟩ : Fin 512) e)) (fun a => match a with
    | ⟨0, _⟩ => (Nat.zero_add _).symm
    | ⟨1, _⟩ => by show 64 * ((128 * u.val + c.val) / 64) + e.val = 128 * u.val + (64 * (c.val / 64) + e.val); omega)

section
variable (b : FVec Ideal S256x1024 .bf16) (w : FVec Ideal S512x1024 .bf16) (z y : FVec Ideal S256x512 .f32) (x : FVec Ideal S256x512 .f32)

theorem heads0 : k0_pay29 (F := Ideal) k0_pay26 (k0_pay27 (F := Ideal) b w z y) (k0_pay28 (F := Ideal) b w z y)
    = pairs (extractStridedSlice S256x128 ![0, 0] (k0_pay25 (F := Ideal) b w z y) slices_S256x512_o0_0_S256x128) := rfl
theorem heads1 : k0_pay30 (F := Ideal) x k0_pay26 = pairs (extractStridedSlice S256x128 ![0, 128] x slices_S256x512_o0_128_S256x128) := rfl
theorem heads2 : k0_pay33 (F := Ideal) k0_pay26 (k0_pay31 (F := Ideal) x) (k0_pay32 (F := Ideal) x k0_pay26) (Scalar.ofBits .f32 0x00000000#32)
    = pairs (extractStridedSlice S256x128 ![0, 256] x slices_S256x512_o0_256_S256x128) := rfl
theorem heads3 : k0_pay34 (F := Ideal) x k0_pay26 = pairs (extractStridedSlice S256x128 ![0, 384] x slices_S256x512_o0_384_S256x128) := rfl
end
end Cert.Gates
end
end
-- ==== Proof.GatesBlock.lean ====
module

public import proofs.«01_k».proof.Proof.GatesDelta

@[expose] public section
set_option maxRecDepth 16384

/-! The gates' backward: what one grid point leaves in its output blocks, read at one row and column. -/

noncomputable section
namespace Cert.Gates
open Cert.Kernel5Ideal Cert.Kernel5Ideal.Gen Idealize.ShloMosaic Idealize.ShloMosaic.TcCoe Idealize.ShloMosaic.Tactic Idealize.SL.Sem
open Idealize.ShloMosaic.ValueIdx

/-- Two arrays that agree at every row and column are equal. -/
theorem vec2 {n m : Nat} {φ : FTy} {a b : FVec Ideal (⟨2, ![n, m]⟩ : Shape) φ} (h : ∀ (p : Fin n) (q : Fin m), a (ix2 p q) = b (ix2 p q)) : a = b := by
  funext y
  have e : y = ix2 (⟨(y 0).val, (y 0).isLt⟩ : Fin n) (⟨(y 1).val, (y 1).isLt⟩ : Fin m) := funext fun x => Fin.ext (match x with
    | ⟨0, _⟩ => rfl
    | ⟨1, _⟩ => rfl)
  rw [e]
  exact h _ _

/-- Every index is a row and a column. -/
theorem ix2_of {n m : Nat} (y : (⟨2, ![n, m]⟩ : Shape).Idx) : ∃ (p : Fin n) (q : Fin m), y = ix2 p q :=
  ⟨⟨(y 0).val, (y 0).isLt⟩, ⟨(y 1).val, (y 1).isLt⟩, funext fun x => Fin.ext (match x with
    | ⟨0, _⟩ => rfl
    | ⟨1, _⟩ => rfl)⟩

section
variable (x0 : FVec Ideal S256x1024 .bf16) (x1 : FVec Ideal S1024x1024 .bf16) (x2 : FVec Ideal S512x1024 .bf16) (x3 : FVec Ideal S512x1024 .bf16) (x4 : FVec Ideal S256x512 .f32) (x5 : FVec Ideal S256x512 .f32) (x6 : FVec Ideal S256x512 .f32) (x7 : FVec Ideal S256x512 .f32) (x8 : FVec Ideal S256x512 .f32) (x9 : FVec Ideal S256x512 .f32) (x10 : FVec Ideal S256x512 .bf16) (x11 : FVec Ideal S256x512 .bf16) (x12 : FVec Ideal S256x512 .f32) (x13 : FVec Ideal S256x512 .f32) (x14 : FVec Ideal S1x512 .f32)

/-- The cotangent behind the output weights, of the block's row `p`. -/
abbrev rDm (p : Fin 256) : Fin 1024 → EReal := lin (rowOf x0 p) (matOf x1)

/-- The arguments of the two gates. -/
abbrev rGa (p : Fin 256) : Fin 1024 → EReal := cat (rowOf x6 p) (rowOf x7 p)
abbrev rGp (p : Fin 256) : Fin 1024 → EReal := cat (rowOf x8 p) (rowOf x9 p)

/-- The pooling branch's output. -/
abbrev rYp (p : Fin 256) : Fin 512 → EReal := fun d => x13 (ix2 p d) * x14 (ix2 (0 : Fin 1) d)

/-- The block of the projection's cotangents. -/
def drBlk : FVec Ideal S256x3072 .bf16 := fun y =>
  drRow (rDm x0 x1 ⟨(y 0).val, (y 0).isLt⟩) (matOf x2) (matOf x3) (rGa x6 x7 ⟨(y 0).val, (y 0).isLt⟩) (rGp x8 x9 ⟨(y 0).val, (y 0).isLt⟩)
    (rowOf x4 ⟨(y 0).val, (y 0).isLt⟩) (rowOf x5 ⟨(y 0).val, (y 0).isLt⟩) (rowOf x12 ⟨(y 0).val, (y 0).isLt⟩) (rYp x13 x14 ⟨(y 0).val, (y 0).isLt⟩)
    (rowOf x10 ⟨(y 0).val, (y 0).isLt⟩) (rowOf x11 ⟨(y 0).val, (y 0).isLt⟩) ⟨(y 1).val, (y 1).isLt⟩

/-- The block of the attention's cotangent. -/
def dattnBlk : FVec Ideal S256x512 .bf16 := fun y =>
  dbr (rDm x0 x1 ⟨(y 0).val, (y 0).isLt⟩) (matOf x2) (rowOf x4 ⟨(y 0).val, (y 0).isLt⟩) (rGa x6 x7 ⟨(y 0).val, (y 0).isLt⟩) ⟨(y 1).val, (y 1).isLt⟩

/-- The block of the head sums. -/
def deltaBlk : FVec Ideal S256x512 .f32 := fun y =>
  headSum (fun d => dbr (rDm x0 x1 ⟨(y 0).val, (y 0).isLt⟩) (matOf x2) (rowOf x4 ⟨(y 0).val, (y 0).isLt⟩) (rGa x6 x7 ⟨(y 0).val, (y 0).isLt⟩) d
    * x12 (ix2 ⟨(y 0).val, (y 0).isLt⟩ d)) ⟨(y 1).val, (y 1).isLt⟩

/-- The pooled products' cotangent, before its scale. -/
abbrev rDmx (p : Fin 256) : Fin 512 → EReal := dbr (rDm x0 x1 p) (matOf x3) (rowOf x5 p) (rGp x8 x9 p)

/-- The block of the pooled products' cotangent. -/
def dmpBlk : FVec Ideal S256x512 .bf16 := fun y =>
  rDmx x0 x1 x3 x5 x8 x9 ⟨(y 0).val, (y 0).isLt⟩ ⟨(y 1).val, (y 1).isLt⟩ * x14 (ix2 (0 : Fin 1) ⟨(y 1).val, (y 1).isLt⟩)

theorem rows_dya (p : Fin 256) : rowOf (k0_pay11 (F := Ideal) x0 x1 x6 x7) p = dy (rDm x0 x1 p) (rGa x6 x7 p) := funext fun j => dy_at x0 x1 x6 x7 p j
theorem rows_dyp (p : Fin 256) : rowOf (k0_pay12 (F := Ideal) x0 x1 x8 x9) p = dy (rDm x0 x1 p) (rGp x8 x9 p) := funext fun j => dy_at' x0 x1 x8 x9 p j

theorem dattn_eq : k0_pay24 (F := Ideal) (k0_pay11 (F := Ideal) x0 x1 x6 x7) x2 x4 = dattnBlk x0 x1 x2 x4 x6 x7 := by
  refine vec2 fun p d => ?_
  rw [dattn_at', rows_dya]
  rfl

theorem dmx_eq (p : Fin 256) (d : Fin 512) :
    k0_pay20 (F := Ideal) (k0_pay12 (F := Ideal) x0 x1 x8 x9) x3 (ix2 p d) * (x5 (ix2 p d) * sg (x5 (ix2 p d))) = rDmx x0 x1 x3 x5 x8 x9 p d := by
  rw [dp_at, rows_dyp]
  rfl

theorem dmp_eq : k0_pay4 (F := Ideal) (k0_pay20 (F := Ideal) (k0_pay12 (F := Ideal) x0 x1 x8 x9) x3) x5 (k0_pay35 (F := Ideal) x5) x14 = dmpBlk x0 x1 x3 x5 x8 x9 x14 := by
  refine vec2 fun p d => ?_
  rw [dmp_at, dmx_eq]
  rfl

theorem dwa_eq (old : FVec Ideal S512x1024 .f32) (d : Fin 512) (j : Fin 1024) :
    k0_pay15 (F := Ideal) (k0_pay11 (F := Ideal) x0 x1 x6 x7) (k0_pay13 (F := Ideal) x10) old (ix2 d j)
      = old (ix2 d j) + ∑ r : Fin 256, x10 (ix2 r d) * dy (rDm x0 x1 r) (rGa x6 x7 r) j := by
  rw [dwa_at]
  refine congrArg (old (ix2 d j) + ·) (Finset.sum_congr rfl fun r _ => ?_)
  rw [same_at, dy_at]

theorem dwp_eq (old : FVec Ideal S512x1024 .f32) (d : Fin 512) (j : Fin 1024) :
    k0_pay16 (F := Ideal) (k0_pay12 (F := Ideal) x0 x1 x8 x9) x11 old (ix2 d j)
      = old (ix2 d j) + ∑ r : Fin 256, x11 (ix2 r d) * dy (rDm x0 x1 r) (rGp x8 x9 r) j := by
  rw [dwp_at]
  refine congrArg (old (ix2 d j) + ·) (Finset.sum_congr rfl fun r _ => ?_)
  rw [dy_at']

theorem dps_eq (old : FVec Ideal S1x512 .f32) (d : Fin 512) :
    k0_pay3 (F := Ideal) (k0_pay20 (F := Ideal) (k0_pay12 (F := Ideal) x0 x1 x8 x9) x3) x5 (k0_pay35 (F := Ideal) x5) x13 old (ix2 (0 : Fin 1) d)
      = old (ix2 (0 : Fin 1) d) + ∑ r : Fin 256, rDmx x0 x1 x3 x5 x8 x9 r d * x13 (ix2 r d) := by
  rw [dps_at]
  refine congrArg (old (ix2 (0 : Fin 1) d) + ·) (Finset.sum_congr rfl fun r _ => ?_)
  rw [dmx_eq]

theorem dr_0 (x : S256x512.Idx) :
    k0_pay23 (F := Ideal) (k0_pay11 (F := Ideal) x0 x1 x6 x7) x2 x4 x12 x = drBlk x0 x1 x2 x3 x4 x5 x6 x7 x8 x9 x10 x11 x12 x13 x14 ((Rect.unit (s := S256x3072) ![0, 0] S256x512.size inb_S256x3072_S256x512_0_0).emb x) := by
  obtain ⟨p, q, rfl⟩ := ix2_of x
  have e0 : (⟨((Rect.unit (s := S256x3072) ![0, 0] S256x512.size inb_S256x3072_S256x512_0_0).emb (ix2 p q) 0).val, ((Rect.unit (s := S256x3072) ![0, 0] S256x512.size inb_S256x3072_S256x512_0_0).emb (ix2 p q) 0).isLt⟩ : Fin 256) = p :=
    Fin.ext (by show 0 + 1 * p.val = p.val; omega)
  have e1 : (⟨((Rect.unit (s := S256x3072) ![0, 0] S256x512.size inb_S256x3072_S256x512_0_0).emb (ix2 p q) 1).val, ((Rect.unit (s := S256x3072) ![0, 0] S256x512.size inb_S256x3072_S256x512_0_0).emb (ix2 p q) 1).isLt⟩ : Fin 3072) = ⟨0 + q.val, by omega⟩ :=
    Fin.ext (by show 0 + 1 * q.val = 0 + q.val; omega)
  unfold drBlk
  rw [e0, e1]
  unfold drRow
  rw [dif_pos (show 0 + q.val < 512 by omega)]
  rw [dza_at, rows_dya]
  unfold dz da
  have e2 : ((⟨0 + q.val, by omega⟩ : Fin 512)) = q := Fin.ext (by show 0 + q.val = q.val; omega)
  rw [e2]
theorem dr_512 (x : S256x512.Idx) :
    k0_pay2 (F := Ideal) (k0_pay20 (F := Ideal) (k0_pay12 (F := Ideal) x0 x1 x8 x9) x3) x5 (k0_pay35 (F := Ideal) x5) x13 x14 x = drBlk x0 x1 x2 x3 x4 x5 x6 x7 x8 x9 x10 x11 x12 x13 x14 ((Rect.unit (s := S256x3072) ![0, 512] S256x512.size inb_S256x3072_S256x512_0_512).emb x) := by
  obtain ⟨p, q, rfl⟩ := ix2_of x
  have e0 : (⟨((Rect.unit (s := S256x3072) ![0, 512] S256x512.size inb_S256x3072_S256x512_0_512).emb (ix2 p q) 0).val, ((Rect.unit (s := S256x3072) ![0, 512] S256x512.size inb_S256x3072_S256x512_0_512).emb (ix2 p q) 0).isLt⟩ : Fin 256) = p :=
    Fin.ext (by show 0 + 1 * p.val = p.val; omega)
  have e1 : (⟨((Rect.unit (s := S256x3072) ![0, 512] S256x512.size inb_S256x3072_S256x512_0_512).emb (ix2 p q) 1).val, ((Rect.unit (s := S256x3072) ![0, 512] S256x512.size inb_S256x3072_S256x512_0_512).emb (ix2 p q) 1).isLt⟩ : Fin 3072) = ⟨512 + q.val, by omega⟩ :=
    Fin.ext (by show 512 + 1 * q.val = 512 + q.val; omega)
  unfold drBlk
  rw [e0, e1]
  unfold drRow
  rw [dif_neg (show ¬ 512 + q.val < 512 by omega), dif_pos (show 512 + q.val < 1024 by omega)]
  rw [dzp_at, dp_at, rows_dyp]
  unfold dz da
  have e2 : ((⟨512 + q.val - 512, by omega⟩ : Fin 512)) = q := Fin.ext (by show 512 + q.val - 512 = q.val; omega)
  rw [e2]
theorem dr_1024 (x : S256x1024.Idx) :
    k0_pay17 (F := Ideal) (k0_pay8 (F := Ideal) x0 x1) (k0_pay9 (F := Ideal) x6 x7) (k0_pay13 (F := Ideal) x10) x2 x = drBlk x0 x1 x2 x3 x4 x5 x6 x7 x8 x9 x10 x11 x12 x13 x14 ((Rect.unit (s := S256x3072) ![0, 1024] S256x1024.size inb_S256x3072_S256x1024_0_1024).emb x) := by
  obtain ⟨p, q, rfl⟩ := ix2_of x
  have e0 : (⟨((Rect.unit (s := S256x3072) ![0, 1024] S256x1024.size inb_S256x3072_S256x1024_0_1024).emb (ix2 p q) 0).val, ((Rect.unit (s := S256x3072) ![0, 1024] S256x1024.size inb_S256x3072_S256x1024_0_1024).emb (ix2 p q) 0).isLt⟩ : Fin 256) = p :=
    Fin.ext (by show 0 + 1 * p.val = p.val; omega)
  have e1 : (⟨((Rect.unit (s := S256x3072) ![0, 1024] S256x1024.size inb_S256x3072_S256x1024_0_1024).emb (ix2 p q) 1).val, ((Rect.unit (s := S256x3072) ![0, 1024] S256x1024.size inb_S256x3072_S256x1024_0_1024).emb (ix2 p q) 1).isLt⟩ : Fin 3072) = ⟨1024 + q.val, by omega⟩ :=
    Fin.ext (by show 1024 + 1 * q.val = 1024 + q.val; omega)
  unfold drBlk
  rw [e0, e1]
  unfold drRow
  rw [dif_neg (show ¬ 1024 + q.val < 512 by omega), dif_neg (show ¬ 1024 + q.val < 1024 by omega), dif_pos (show 1024 + q.val < 2048 by omega)]
  rw [dga_at, dm_at, gate_at]
  unfold dgate mix
  have e2 : ((⟨1024 + q.val - 1024, by omega⟩ : Fin 1024)) = q := Fin.ext (by show 1024 + q.val - 1024 = q.val; omega)
  rw [e2]
theorem dr_2048 (x : S256x1024.Idx) :
    k0_pay18 (F := Ideal) (k0_pay8 (F := Ideal) x0 x1) (k0_pay10 (F := Ideal) x8 x9) x11 x3 x = drBlk x0 x1 x2 x3 x4 x5 x6 x7 x8 x9 x10 x11 x12 x13 x14 ((Rect.unit (s := S256x3072) ![0, 2048] S256x1024.size inb_S256x3072_S256x1024_0_2048).emb x) := by
  obtain ⟨p, q, rfl⟩ := ix2_of x
  have e0 : (⟨((Rect.unit (s := S256x3072) ![0, 2048] S256x1024.size inb_S256x3072_S256x1024_0_2048).emb (ix2 p q) 0).val, ((Rect.unit (s := S256x3072) ![0, 2048] S256x1024.size inb_S256x3072_S256x1024_0_2048).emb (ix2 p q) 0).isLt⟩ : Fin 256) = p :=
    Fin.ext (by show 0 + 1 * p.val = p.val; omega)
  have e1 : (⟨((Rect.unit (s := S256x3072) ![0, 2048] S256x1024.size inb_S256x3072_S256x1024_0_2048).emb (ix2 p q) 1).val, ((Rect.unit (s := S256x3072) ![0, 2048] S256x1024.size inb_S256x3072_S256x1024_0_2048).emb (ix2 p q) 1).isLt⟩ : Fin 3072) = ⟨2048 + q.val, by omega⟩ :=
    Fin.ext (by show 2048 + 1 * q.val = 2048 + q.val; omega)
  unfold drBlk
  rw [e0, e1]
  unfold drRow
  rw [dif_neg (show ¬ 2048 + q.val < 512 by omega), dif_neg (show ¬ 2048 + q.val < 1024 by omega), dif_neg (show ¬ 2048 + q.val < 2048 by omega)]
  rw [dgp_at, dm_at, gate_at']
  unfold dgate mix
  have e2 : ((⟨2048 + q.val - 2048, by omega⟩ : Fin 1024)) = q := Fin.ext (by show 2048 + q.val - 2048 = q.val; omega)
  rw [e2]
theorem delta_0 (x : S256x128.Idx) :
    k0_pay29 (F := Ideal) k0_pay26 (k0_pay27 (F := Ideal) (k0_pay11 (F := Ideal) x0 x1 x6 x7) x2 x4 x12) (k0_pay28 (F := Ideal) (k0_pay11 (F := Ideal) x0 x1 x6 x7) x2 x4 x12) x = deltaBlk x0 x1 x2 x4 x6 x7 x12 ((Rect.unit (s := S256x512) ![0, 0] S256x128.size inb_S256x512_S256x128_0_0).emb x) := by
  obtain ⟨p, q, rfl⟩ := ix2_of x
  have e0 : (⟨((Rect.unit (s := S256x512) ![0, 0] S256x128.size inb_S256x512_S256x128_0_0).emb (ix2 p q) 0).val, ((Rect.unit (s := S256x512) ![0, 0] S256x128.size inb_S256x512_S256x128_0_0).emb (ix2 p q) 0).isLt⟩ : Fin 256) = p :=
    Fin.ext (by show 0 + 1 * p.val = p.val; omega)
  have e1 : (⟨((Rect.unit (s := S256x512) ![0, 0] S256x128.size inb_S256x512_S256x128_0_0).emb (ix2 p q) 1).val, ((Rect.unit (s := S256x512) ![0, 0] S256x128.size inb_S256x512_S256x128_0_0).emb (ix2 p q) 1).isLt⟩ : Fin 512) = ⟨128 * (0 : Fin 4).val + q.val, by show 128 * 0 + q.val < 512; omega⟩ :=
    Fin.ext (by show 0 + 1 * q.val = 128 * 0 + q.val; omega)
  unfold deltaBlk
  rw [e0, e1, heads0, head_at _ 0 _ (0 : Fin 4) rfl]
  refine congrArg (fun f => headSum f _) (funext fun d => ?_)
  show k0_pay25 (F := Ideal) (k0_pay11 (F := Ideal) x0 x1 x6 x7) x2 x4 x12 (ix2 p d) = _
  rw [prod_at, rows_dya]
  rfl

theorem delta_128 (x : S256x128.Idx) :
    k0_pay30 (F := Ideal) (k0_pay25 (F := Ideal) (k0_pay11 (F := Ideal) x0 x1 x6 x7) x2 x4 x12) k0_pay26 x = deltaBlk x0 x1 x2 x4 x6 x7 x12 ((Rect.unit (s := S256x512) ![0, 128] S256x128.size inb_S256x512_S256x128_0_128).emb x) := by
  obtain ⟨p, q, rfl⟩ := ix2_of x
  have e0 : (⟨((Rect.unit (s := S256x512) ![0, 128] S256x128.size inb_S256x512_S256x128_0_128).emb (ix2 p q) 0).val, ((Rect.unit (s := S256x512) ![0, 128] S256x128.size inb_S256x512_S256x128_0_128).emb (ix2 p q) 0).isLt⟩ : Fin 256) = p :=
    Fin.ext (by show 0 + 1 * p.val = p.val; omega)
  have e1 : (⟨((Rect.unit (s := S256x512) ![0, 128] S256x128.size inb_S256x512_S256x128_0_128).emb (ix2 p q) 1).val, ((Rect.unit (s := S256x512) ![0, 128] S256x128.size inb_S256x512_S256x128_0_128).emb (ix2 p q) 1).isLt⟩ : Fin 512) = ⟨128 * (1 : Fin 4).val + q.val, by show 128 * 1 + q.val < 512; omega⟩ :=
    Fin.ext (by show 128 + 1 * q.val = 128 * 1 + q.val; omega)
  unfold deltaBlk
  rw [e0, e1, heads1, head_at _ 128 _ (1 : Fin 4) rfl]
  refine congrArg (fun f => headSum f _) (funext fun d => ?_)
  show k0_pay25 (F := Ideal) (k0_pay11 (F := Ideal) x0 x1 x6 x7) x2 x4 x12 (ix2 p d) = _
  rw [prod_at, rows_dya]
  rfl

theorem delta_256 (x : S256x128.Idx) :
    k0_pay33 (F := Ideal) k0_pay26 (k0_pay31 (F := Ideal) (k0_pay25 (F := Ideal) (k0_pay11 (F := Ideal) x0 x1 x6 x7) x2 x4 x12)) (k0_pay32 (F := Ideal) (k0_pay25 (F := Ideal) (k0_pay11 (F := Ideal) x0 x1 x6 x7) x2 x4 x12) k0_pay26) (Scalar.ofBits .f32 0x00000000#32) x = deltaBlk x0 x1 x2 x4 x6 x7 x12 ((Rect.unit (s := S256x512) ![0, 256] S256x128.size inb_S256x512_S256x128_0_256).emb x) := by
  obtain ⟨p, q, rfl⟩ := ix2_of x
  have e0 : (⟨((Rect.unit (s := S256x512) ![0, 256] S256x128.size inb_S256x512_S256x128_0_256).emb (ix2 p q) 0).val, ((Rect.unit (s := S256x512) ![0, 256] S256x128.size inb_S256x512_S256x128_0_256).emb (ix2 p q) 0).isLt⟩ : Fin 256) = p :=
    Fin.ext (by show 0 + 1 * p.val = p.val; omega)
  have e1 : (⟨((Rect.unit (s := S256x512) ![0, 256] S256x128.size inb_S256x512_S256x128_0_256).emb (ix2 p q) 1).val, ((Rect.unit (s := S256x512) ![0, 256] S256x128.size inb_S256x512_S256x128_0_256).emb (ix2 p q) 1).isLt⟩ : Fin 512) = ⟨128 * (2 : Fin 4).val + q.val, by show 128 * 2 + q.val < 512; omega⟩ :=
    Fin.ext (by show 256 + 1 * q.val = 128 * 2 + q.val; omega)
  unfold deltaBlk
  rw [e0, e1, heads2, head_at _ 256 _ (2 : Fin 4) rfl]
  refine congrArg (fun f => headSum f _) (funext fun d => ?_)
  show k0_pay25 (F := Ideal) (k0_pay11 (F := Ideal) x0 x1 x6 x7) x2 x4 x12 (ix2 p d) = _
  rw [prod_at, rows_dya]
  rfl

theorem delta_384 (x : S256x128.Idx) :
    k0_pay34 (F := Ideal) (k0_pay25 (F := Ideal) (k0_pay11 (F := Ideal) x0 x1 x6 x7) x2 x4 x12) k0_pay26 x = deltaBlk x0 x1 x2 x4 x6 x7 x12 ((Rect.unit (s := S256x512) ![0, 384] S256x128.size inb_S256x512_S256x128_0_384).emb x) := by
  obtain ⟨p, q, rfl⟩ := ix2_of x
  have e0 : (⟨((Rect.unit (s := S256x512) ![0, 384] S256x128.size inb_S256x512_S256x128_0_384).emb (ix2 p q) 0).val, ((Rect.unit (s := S256x512) ![0, 384] S256x128.size inb_S256x512_S256x128_0_384).emb (ix2 p q) 0).isLt⟩ : Fin 256) = p :=
    Fin.ext (by show 0 + 1 * p.val = p.val; omega)
  have e1 : (⟨((Rect.unit (s := S256x512) ![0, 384] S256x128.size inb_S256x512_S256x128_0_384).emb (ix2 p q) 1).val, ((Rect.unit (s := S256x512) ![0, 384] S256x128.size inb_S256x512_S256x128_0_384).emb (ix2 p q) 1).isLt⟩ : Fin 512) = ⟨128 * (3 : Fin 4).val + q.val, by show 128 * 3 + q.val < 512; omega⟩ :=
    Fin.ext (by show 384 + 1 * q.val = 128 * 3 + q.val; omega)
  unfold deltaBlk
  rw [e0, e1, heads3, head_at _ 384 _ (3 : Fin 4) rfl]
  refine congrArg (fun f => headSum f _) (funext fun d => ?_)
  show k0_pay25 (F := Ideal) (k0_pay11 (F := Ideal) x0 x1 x6 x7) x2 x4 x12 (ix2 p d) = _
  rw [prod_at, rows_dya]
  rfl

end
end Cert.Gates
end
end
-- ==== Proof.GatesOutA.lean ====
module

public import proofs.«01_k».proof.Proof.GatesBlock

@[expose] public section
set_option maxRecDepth 16384

/-! The gates' backward: what the first grid point leaves in its output blocks, its accumulators starting from zero. -/

noncomputable section
namespace Cert.Gates
open Cert.Kernel5Ideal Cert.Kernel5Ideal.Gen Idealize.ShloMosaic Idealize.ShloMosaic.TcCoe Idealize.ShloMosaic.Tactic Idealize.SL.Sem
open Idealize.ShloMosaic.ValueIdx

section
variable (c : Dev nD) (i : grid0.Coords) (arg1 : Memref sig .tc .vmem S256x1024 .bf16) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .f32) (harg13 : arg13.IsWhole) (arg14 : Memref sig .tc .vmem S256x512 .f32) (harg14 : arg14.IsWhole) (arg15 : Memref sig .tc .vmem S1x512 .f32) (harg15 : arg15.IsWhole) (arg16 : Memref sig .tc .vmem S512x1024 .f32) (harg16 : arg16.IsWhole) (arg17 : Memref sig .tc .vmem S512x1024 .f32) (harg17 : arg17.IsWhole) (arg18 : Memref sig .tc .vmem S256x3072 .bf16) (harg18 : arg18.IsWhole) (arg19 : Memref sig .tc .vmem S256x512 .bf16) (harg19 : arg19.IsWhole) (arg20 : Memref sig .tc .vmem S256x512 .f32) (harg20 : arg20.IsWhole) (arg21 : Memref sig .tc .vmem S256x512 .bf16) (harg21 : arg21.IsWhole) (arg22 : Memref sig .tc .vmem S1x512 .f32) (harg22 : arg22.IsWhole) (hc0 : cond0_0 i)
  (x0 : Vec Ideal S256x1024 .bf16) (x1 : Vec Ideal S1024x1024 .bf16) (x2 : Vec Ideal S512x1024 .bf16) (x3 : Vec Ideal S512x1024 .bf16) (x4 : Vec Ideal S256x512 .f32) (x5 : Vec Ideal S256x512 .f32) (x6 : Vec Ideal S256x512 .f32) (x7 : Vec Ideal S256x512 .f32) (x8 : Vec Ideal S256x512 .f32) (x9 : Vec Ideal S256x512 .f32) (x10 : Vec Ideal S256x512 .bf16) (x11 : Vec Ideal S256x512 .bf16) (x12 : Vec Ideal S256x512 .f32) (x13 : Vec Ideal S256x512 .f32) (x14 : Vec Ideal S1x512 .f32)

include harg1 harg2 harg3 harg4 harg5 harg6 harg7 harg8 harg9 harg10 harg11 harg12 harg13 harg14 harg15 harg16 harg17 harg18 harg19 harg20 harg21 harg22

/-- The attention branch's weights' gradient. -/
theorem outA_15 : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 = k0_pay15 (F := Ideal) (k0_pay11 (F := Ideal) x0 x1 x6 x7) (k0_pay13 (F := Ideal) x10) (k0_pay6 (F := Ideal)) := by
  have hz0 : (![0, 0] : Fin S256x1024.rank → Nat) = fun _ => 0 := by decide
  have hz1 : (![0, 0] : Fin S1024x1024.rank → Nat) = fun _ => 0 := by decide
  have hz2 : (![0, 0] : Fin S512x1024.rank → Nat) = fun _ => 0 := by decide
  have hz3 : (![0, 0] : Fin S256x512.rank → Nat) = fun _ => 0 := by decide
  have hz4 : (![0, 0] : Fin S1x512.rank → Nat) = fun _ => 0 := by decide
  unfold out0_A_15
  rw [View.read_writes_eq_canon _ _ _ (cover0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread,
    View.ld_unit_zero (S := S256x1024) hz0, View.ld_unit_zero (S := S1024x1024) hz1, View.ld_unit_zero (S := S512x1024) hz2, View.ld_unit_zero (S := S256x512) hz3, View.ld_unit_zero (S := S1x512) hz4, View.canon_cons_unit_zero (S := S512x1024) hz2, View.readCov_unit_zero (S := S512x1024) _ hz2, View.readCov_unit_zero (S := S1x512) _ hz4]

/-- The pooling branch's weights' gradient. -/
theorem outA_16 : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 = k0_pay16 (F := Ideal) (k0_pay12 (F := Ideal) x0 x1 x8 x9) x11 (k0_pay7 (F := Ideal)) := by
  have hz0 : (![0, 0] : Fin S256x1024.rank → Nat) = fun _ => 0 := by decide
  have hz1 : (![0, 0] : Fin S1024x1024.rank → Nat) = fun _ => 0 := by decide
  have hz2 : (![0, 0] : Fin S512x1024.rank → Nat) = fun _ => 0 := by decide
  have hz3 : (![0, 0] : Fin S256x512.rank → Nat) = fun _ => 0 := by decide
  have hz4 : (![0, 0] : Fin S1x512.rank → Nat) = fun _ => 0 := by decide
  unfold out0_A_16
  rw [View.read_writes_eq_canon _ _ _ (cover0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread,
    View.ld_unit_zero (S := S256x1024) hz0, View.ld_unit_zero (S := S1024x1024) hz1, View.ld_unit_zero (S := S512x1024) hz2, View.ld_unit_zero (S := S256x512) hz3, View.ld_unit_zero (S := S1x512) hz4, View.canon_cons_unit_zero (S := S512x1024) hz2, View.readCov_unit_zero (S := S512x1024) _ hz2, View.readCov_unit_zero (S := S1x512) _ hz4]

/-- The projection's cotangents. -/
theorem outA_17 : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 = drBlk x0 x1 x2 x3 x4 x5 x6 x7 x8 x9 x10 x11 x12 x13 x14 := by
  have hz0 : (![0, 0] : Fin S256x1024.rank → Nat) = fun _ => 0 := by decide
  have hz1 : (![0, 0] : Fin S1024x1024.rank → Nat) = fun _ => 0 := by decide
  have hz2 : (![0, 0] : Fin S512x1024.rank → Nat) = fun _ => 0 := by decide
  have hz3 : (![0, 0] : Fin S256x512.rank → Nat) = fun _ => 0 := by decide
  have hz4 : (![0, 0] : Fin S1x512.rank → Nat) = fun _ => 0 := by decide
  unfold out0_A_17
  rw [View.read_writes_eq_canon _ _ _ (cover0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14)]
  funext y
  refine View.canon_apply_of_pieces (Val := Elt Ideal) (e := .bf16) (drBlk x0 x1 x2 x3 x4 x5 x6 x7 x8 x9 x10 x11 x12 x13 x14) _ (View.PiecesOf.mem ?_) y ((cover0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14) y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread,
    View.ld_unit_zero (S := S256x1024) hz0, View.ld_unit_zero (S := S1024x1024) hz1, View.ld_unit_zero (S := S512x1024) hz2, View.ld_unit_zero (S := S256x512) hz3, View.ld_unit_zero (S := S1x512) hz4, View.readCov_unit_zero (S := S512x1024) _ hz2, View.readCov_unit_zero (S := S1x512) _ hz4]
  exact ⟨dr_512 x0 x1 x2 x3 x4 x5 x6 x7 x8 x9 x10 x11 x12 x13 x14, dr_0 x0 x1 x2 x3 x4 x5 x6 x7 x8 x9 x10 x11 x12 x13 x14, dr_2048 x0 x1 x2 x3 x4 x5 x6 x7 x8 x9 x10 x11 x12 x13 x14, dr_1024 x0 x1 x2 x3 x4 x5 x6 x7 x8 x9 x10 x11 x12 x13 x14, trivial⟩

/-- The attention's cotangent. -/
theorem outA_18 : out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 = dattnBlk x0 x1 x2 x4 x6 x7 := by
  have hz0 : (![0, 0] : Fin S256x1024.rank → Nat) = fun _ => 0 := by decide
  have hz1 : (![0, 0] : Fin S1024x1024.rank → Nat) = fun _ => 0 := by decide
  have hz2 : (![0, 0] : Fin S512x1024.rank → Nat) = fun _ => 0 := by decide
  have hz3 : (![0, 0] : Fin S256x512.rank → Nat) = fun _ => 0 := by decide
  have hz4 : (![0, 0] : Fin S1x512.rank → Nat) = fun _ => 0 := by decide
  unfold out0_A_18
  rw [View.read_writes_eq_canon _ _ _ (cover0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread,
    View.ld_unit_zero (S := S256x1024) hz0, View.ld_unit_zero (S := S1024x1024) hz1, View.ld_unit_zero (S := S512x1024) hz2, View.ld_unit_zero (S := S256x512) hz3, View.ld_unit_zero (S := S1x512) hz4, View.canon_cons_unit_zero (S := S256x512) hz3, View.readCov_unit_zero (S := S512x1024) _ hz2, View.readCov_unit_zero (S := S1x512) _ hz4]
  exact dattn_eq x0 x1 x2 x4 x6 x7

/-- The head sums. -/
theorem outA_19 : out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 = deltaBlk x0 x1 x2 x4 x6 x7 x12 := by
  have hz0 : (![0, 0] : Fin S256x1024.rank → Nat) = fun _ => 0 := by decide
  have hz1 : (![0, 0] : Fin S1024x1024.rank → Nat) = fun _ => 0 := by decide
  have hz2 : (![0, 0] : Fin S512x1024.rank → Nat) = fun _ => 0 := by decide
  have hz3 : (![0, 0] : Fin S256x512.rank → Nat) = fun _ => 0 := by decide
  have hz4 : (![0, 0] : Fin S1x512.rank → Nat) = fun _ => 0 := by decide
  unfold out0_A_19
  rw [View.read_writes_eq_canon _ _ _ (cover0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14)]
  funext y
  refine View.canon_apply_of_pieces (Val := Elt Ideal) (e := .f32) (deltaBlk x0 x1 x2 x4 x6 x7 x12) _ (View.PiecesOf.mem ?_) y ((cover0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14) y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread,
    View.ld_unit_zero (S := S256x1024) hz0, View.ld_unit_zero (S := S1024x1024) hz1, View.ld_unit_zero (S := S512x1024) hz2, View.ld_unit_zero (S := S256x512) hz3, View.ld_unit_zero (S := S1x512) hz4, View.readCov_unit_zero (S := S512x1024) _ hz2, View.readCov_unit_zero (S := S1x512) _ hz4]
  exact ⟨delta_384 x0 x1 x2 x4 x6 x7 x12, delta_256 x0 x1 x2 x4 x6 x7 x12, delta_128 x0 x1 x2 x4 x6 x7 x12, delta_0 x0 x1 x2 x4 x6 x7 x12, trivial⟩

/-- The pooled products' cotangent. -/
theorem outA_20 : out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 = dmpBlk x0 x1 x3 x5 x8 x9 x14 := by
  have hz0 : (![0, 0] : Fin S256x1024.rank → Nat) = fun _ => 0 := by decide
  have hz1 : (![0, 0] : Fin S1024x1024.rank → Nat) = fun _ => 0 := by decide
  have hz2 : (![0, 0] : Fin S512x1024.rank → Nat) = fun _ => 0 := by decide
  have hz3 : (![0, 0] : Fin S256x512.rank → Nat) = fun _ => 0 := by decide
  have hz4 : (![0, 0] : Fin S1x512.rank → Nat) = fun _ => 0 := by decide
  unfold out0_A_20
  rw [View.read_writes_eq_canon _ _ _ (cover0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread,
    View.ld_unit_zero (S := S256x1024) hz0, View.ld_unit_zero (S := S1024x1024) hz1, View.ld_unit_zero (S := S512x1024) hz2, View.ld_unit_zero (S := S256x512) hz3, View.ld_unit_zero (S := S1x512) hz4, View.canon_cons_unit_zero (S := S256x512) hz3, View.readCov_unit_zero (S := S512x1024) _ hz2, View.readCov_unit_zero (S := S1x512) _ hz4]
  exact dmp_eq x0 x1 x3 x5 x8 x9 x14

/-- The pooling scale's gradient. -/
theorem outA_21 : out0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 = k0_pay3 (F := Ideal) (k0_pay20 (F := Ideal) (k0_pay12 (F := Ideal) x0 x1 x8 x9) x3) x5 (k0_pay35 (F := Ideal) x5) x13 (k0_pay5 (F := Ideal)) := by
  have hz0 : (![0, 0] : Fin S256x1024.rank → Nat) = fun _ => 0 := by decide
  have hz1 : (![0, 0] : Fin S1024x1024.rank → Nat) = fun _ => 0 := by decide
  have hz2 : (![0, 0] : Fin S512x1024.rank → Nat) = fun _ => 0 := by decide
  have hz3 : (![0, 0] : Fin S256x512.rank → Nat) = fun _ => 0 := by decide
  have hz4 : (![0, 0] : Fin S1x512.rank → Nat) = fun _ => 0 := by decide
  unfold out0_A_21
  rw [View.read_writes_eq_canon _ _ _ (cover0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread,
    View.ld_unit_zero (S := S256x1024) hz0, View.ld_unit_zero (S := S1024x1024) hz1, View.ld_unit_zero (S := S512x1024) hz2, View.ld_unit_zero (S := S256x512) hz3, View.ld_unit_zero (S := S1x512) hz4, View.canon_cons_unit_zero (S := S1x512) hz4, View.readCov_unit_zero (S := S512x1024) _ hz2, View.readCov_unit_zero (S := S1x512) _ hz4]

end
end Cert.Gates
end
end
-- ==== Proof.GatesOutB.lean ====
module

public import proofs.«01_k».proof.Proof.GatesBlock

@[expose] public section
set_option maxRecDepth 16384

/-! The gates' backward: what a later grid point leaves in its output blocks, its sums added to those it finds. -/

noncomputable section
namespace Cert.Gates
open Cert.Kernel5Ideal Cert.Kernel5Ideal.Gen Idealize.ShloMosaic Idealize.ShloMosaic.TcCoe Idealize.ShloMosaic.Tactic Idealize.SL.Sem
open Idealize.ShloMosaic.ValueIdx

section
variable (c : Dev nD) (i : grid0.Coords) (arg1 : Memref sig .tc .vmem S256x1024 .bf16) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .f32) (harg13 : arg13.IsWhole) (arg14 : Memref sig .tc .vmem S256x512 .f32) (harg14 : arg14.IsWhole) (arg15 : Memref sig .tc .vmem S1x512 .f32) (harg15 : arg15.IsWhole) (arg16 : Memref sig .tc .vmem S512x1024 .f32) (harg16 : arg16.IsWhole) (arg17 : Memref sig .tc .vmem S512x1024 .f32) (harg17 : arg17.IsWhole) (arg18 : Memref sig .tc .vmem S256x3072 .bf16) (harg18 : arg18.IsWhole) (arg19 : Memref sig .tc .vmem S256x512 .bf16) (harg19 : arg19.IsWhole) (arg20 : Memref sig .tc .vmem S256x512 .f32) (harg20 : arg20.IsWhole) (arg21 : Memref sig .tc .vmem S256x512 .bf16) (harg21 : arg21.IsWhole) (arg22 : Memref sig .tc .vmem S1x512 .f32) (harg22 : arg22.IsWhole) (hc0 : ¬cond0_0 i)
  (x0 : Vec Ideal S256x1024 .bf16) (x1 : Vec Ideal S1024x1024 .bf16) (x2 : Vec Ideal S512x1024 .bf16) (x3 : Vec Ideal S512x1024 .bf16) (x4 : Vec Ideal S256x512 .f32) (x5 : Vec Ideal S256x512 .f32) (x6 : Vec Ideal S256x512 .f32) (x7 : Vec Ideal S256x512 .f32) (x8 : Vec Ideal S256x512 .f32) (x9 : Vec Ideal S256x512 .f32) (x10 : Vec Ideal S256x512 .bf16) (x11 : Vec Ideal S256x512 .bf16) (x12 : Vec Ideal S256x512 .f32) (x13 : Vec Ideal S256x512 .f32) (x14 : Vec Ideal S1x512 .f32) (xo15 xo16 : Vec Ideal S512x1024 .f32) (xo21 : Vec Ideal S1x512 .f32)

include harg1 harg2 harg3 harg4 harg5 harg6 harg7 harg8 harg9 harg10 harg11 harg12 harg13 harg14 harg15 harg16 harg17 harg18 harg19 harg20 harg21 harg22

/-- The attention branch's weights' gradient. -/
theorem outB_15 : out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xo15 xo16 xo21 = k0_pay15 (F := Ideal) (k0_pay11 (F := Ideal) x0 x1 x6 x7) (k0_pay13 (F := Ideal) x10) xo15 := by
  have hz0 : (![0, 0] : Fin S256x1024.rank → Nat) = fun _ => 0 := by decide
  have hz1 : (![0, 0] : Fin S1024x1024.rank → Nat) = fun _ => 0 := by decide
  have hz2 : (![0, 0] : Fin S512x1024.rank → Nat) = fun _ => 0 := by decide
  have hz3 : (![0, 0] : Fin S256x512.rank → Nat) = fun _ => 0 := by decide
  have hz4 : (![0, 0] : Fin S1x512.rank → Nat) = fun _ => 0 := by decide
  unfold out0_B_15
  rw [View.read_writes_eq_canon _ _ _ (cover0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xo15 xo16 xo21)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread,
    View.ld_unit_zero (S := S256x1024) hz0, View.ld_unit_zero (S := S1024x1024) hz1, View.ld_unit_zero (S := S512x1024) hz2, View.ld_unit_zero (S := S256x512) hz3, View.ld_unit_zero (S := S1x512) hz4, View.canon_cons_unit_zero (S := S512x1024) hz2, View.readCov_unit_zero (S := S512x1024) _ hz2, View.readCov_unit_zero (S := S1x512) _ hz4]

/-- The pooling branch's weights' gradient. -/
theorem outB_16 : out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xo15 xo16 xo21 = k0_pay16 (F := Ideal) (k0_pay12 (F := Ideal) x0 x1 x8 x9) x11 xo16 := by
  have hz0 : (![0, 0] : Fin S256x1024.rank → Nat) = fun _ => 0 := by decide
  have hz1 : (![0, 0] : Fin S1024x1024.rank → Nat) = fun _ => 0 := by decide
  have hz2 : (![0, 0] : Fin S512x1024.rank → Nat) = fun _ => 0 := by decide
  have hz3 : (![0, 0] : Fin S256x512.rank → Nat) = fun _ => 0 := by decide
  have hz4 : (![0, 0] : Fin S1x512.rank → Nat) = fun _ => 0 := by decide
  unfold out0_B_16
  rw [View.read_writes_eq_canon _ _ _ (cover0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xo15 xo16 xo21)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread,
    View.ld_unit_zero (S := S256x1024) hz0, View.ld_unit_zero (S := S1024x1024) hz1, View.ld_unit_zero (S := S512x1024) hz2, View.ld_unit_zero (S := S256x512) hz3, View.ld_unit_zero (S := S1x512) hz4, View.canon_cons_unit_zero (S := S512x1024) hz2, View.readCov_unit_zero (S := S512x1024) _ hz2, View.readCov_unit_zero (S := S1x512) _ hz4]

/-- The projection's cotangents. -/
theorem outB_17 : out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xo15 xo16 xo21 = drBlk x0 x1 x2 x3 x4 x5 x6 x7 x8 x9 x10 x11 x12 x13 x14 := by
  have hz0 : (![0, 0] : Fin S256x1024.rank → Nat) = fun _ => 0 := by decide
  have hz1 : (![0, 0] : Fin S1024x1024.rank → Nat) = fun _ => 0 := by decide
  have hz2 : (![0, 0] : Fin S512x1024.rank → Nat) = fun _ => 0 := by decide
  have hz3 : (![0, 0] : Fin S256x512.rank → Nat) = fun _ => 0 := by decide
  have hz4 : (![0, 0] : Fin S1x512.rank → Nat) = fun _ => 0 := by decide
  unfold out0_B_17
  rw [View.read_writes_eq_canon _ _ _ (cover0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xo15 xo16 xo21)]
  funext y
  refine View.canon_apply_of_pieces (Val := Elt Ideal) (e := .bf16) (drBlk x0 x1 x2 x3 x4 x5 x6 x7 x8 x9 x10 x11 x12 x13 x14) _ (View.PiecesOf.mem ?_) y ((cover0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xo15 xo16 xo21) y)
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread,
    View.ld_unit_zero (S := S256x1024) hz0, View.ld_unit_zero (S := S1024x1024) hz1, View.ld_unit_zero (S := S512x1024) hz2, View.ld_unit_zero (S := S256x512) hz3, View.ld_unit_zero (S := S1x512) hz4, View.readCov_unit_zero (S := S512x1024) _ hz2, View.readCov_unit_zero (S := S1x512) _ hz4]
  exact ⟨dr_512 x0 x1 x2 x3 x4 x5 x6 x7 x8 x9 x10 x11 x12 x13 x14, dr_0 x0 x1 x2 x3 x4 x5 x6 x7 x8 x9 x10 x11 x12 x13 x14, dr_2048 x0 x1 x2 x3 x4 x5 x6 x7 x8 x9 x10 x11 x12 x13 x14, dr_1024 x0 x1 x2 x3 x4 x5 x6 x7 x8 x9 x10 x11 x12 x13 x14, trivial⟩

/-- The attention's cotangent. -/
theorem outB_18 : out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xo15 xo16 xo21 = dattnBlk x0 x1 x2 x4 x6 x7 := by
  have hz0 : (![0, 0] : Fin S256x1024.rank → Nat) = fun _ => 0 := by decide
  have hz1 : (![0, 0] : Fin S1024x1024.rank → Nat) = fun _ => 0 := by decide
  have hz2 : (![0, 0] : Fin S512x1024.rank → Nat) = fun _ => 0 := by decide
  have hz3 : (![0, 0] : Fin S256x512.rank → Nat) = fun _ => 0 := by decide
  have hz4 : (![0, 0] : Fin S1x512.rank → Nat) = fun _ => 0 := by decide
  unfold out0_B_18
  rw [View.read_writes_eq_canon _ _ _ (cover0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xo15 xo16 xo21)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread,
    View.ld_unit_zero (S := S256x1024) hz0, View.ld_unit_zero (S := S1024x1024) hz1, View.ld_unit_zero (S := S512x1024) hz2, View.ld_unit_zero (S := S256x512) hz3, View.ld_unit_zero (S := S1x512) hz4, View.canon_cons_unit_zero (S := S256x512) hz3, View.readCov_unit_zero (S := S512x1024) _ hz2, View.readCov_unit_zero (S := S1x512) _ hz4]
  exact dattn_eq x0 x1 x2 x4 x6 x7

/-- The head sums. -/
theorem outB_19 : out0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xo15 xo16 xo21 = deltaBlk x0 x1 x2 x4 x6 x7 x12 := by
  have hz0 : (![0, 0] : Fin S256x1024.rank → Nat) = fun _ => 0 := by decide
  have hz1 : (![0, 0] : Fin S1024x1024.rank → Nat) = fun _ => 0 := by decide
  have hz2 : (![0, 0] : Fin S512x1024.rank → Nat) = fun _ => 0 := by decide
  have hz3 : (![0, 0] : Fin S256x512.rank → Nat) = fun _ => 0 := by decide
  have hz4 : (![0, 0] : Fin S1x512.rank → Nat) = fun _ => 0 := by decide
  unfold out0_B_19
  rw [View.read_writes_eq_canon _ _ _ (cover0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xo15 xo16 xo21)]
  funext y
  refine View.canon_apply_of_pieces (Val := Elt Ideal) (e := .f32) (deltaBlk x0 x1 x2 x4 x6 x7 x12) _ (View.PiecesOf.mem ?_) y ((cover0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xo15 xo16 xo21) y)
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread,
    View.ld_unit_zero (S := S256x1024) hz0, View.ld_unit_zero (S := S1024x1024) hz1, View.ld_unit_zero (S := S512x1024) hz2, View.ld_unit_zero (S := S256x512) hz3, View.ld_unit_zero (S := S1x512) hz4, View.readCov_unit_zero (S := S512x1024) _ hz2, View.readCov_unit_zero (S := S1x512) _ hz4]
  exact ⟨delta_384 x0 x1 x2 x4 x6 x7 x12, delta_256 x0 x1 x2 x4 x6 x7 x12, delta_128 x0 x1 x2 x4 x6 x7 x12, delta_0 x0 x1 x2 x4 x6 x7 x12, trivial⟩

/-- The pooled products' cotangent. -/
theorem outB_20 : out0_B_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xo15 xo16 xo21 = dmpBlk x0 x1 x3 x5 x8 x9 x14 := by
  have hz0 : (![0, 0] : Fin S256x1024.rank → Nat) = fun _ => 0 := by decide
  have hz1 : (![0, 0] : Fin S1024x1024.rank → Nat) = fun _ => 0 := by decide
  have hz2 : (![0, 0] : Fin S512x1024.rank → Nat) = fun _ => 0 := by decide
  have hz3 : (![0, 0] : Fin S256x512.rank → Nat) = fun _ => 0 := by decide
  have hz4 : (![0, 0] : Fin S1x512.rank → Nat) = fun _ => 0 := by decide
  unfold out0_B_20
  rw [View.read_writes_eq_canon _ _ _ (cover0_B_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xo15 xo16 xo21)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread,
    View.ld_unit_zero (S := S256x1024) hz0, View.ld_unit_zero (S := S1024x1024) hz1, View.ld_unit_zero (S := S512x1024) hz2, View.ld_unit_zero (S := S256x512) hz3, View.ld_unit_zero (S := S1x512) hz4, View.canon_cons_unit_zero (S := S256x512) hz3, View.readCov_unit_zero (S := S512x1024) _ hz2, View.readCov_unit_zero (S := S1x512) _ hz4]
  exact dmp_eq x0 x1 x3 x5 x8 x9 x14

/-- The pooling scale's gradient. -/
theorem outB_21 : out0_B_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xo15 xo16 xo21 = k0_pay3 (F := Ideal) (k0_pay20 (F := Ideal) (k0_pay12 (F := Ideal) x0 x1 x8 x9) x3) x5 (k0_pay35 (F := Ideal) x5) x13 xo21 := by
  have hz0 : (![0, 0] : Fin S256x1024.rank → Nat) = fun _ => 0 := by decide
  have hz1 : (![0, 0] : Fin S1024x1024.rank → Nat) = fun _ => 0 := by decide
  have hz2 : (![0, 0] : Fin S512x1024.rank → Nat) = fun _ => 0 := by decide
  have hz3 : (![0, 0] : Fin S256x512.rank → Nat) = fun _ => 0 := by decide
  have hz4 : (![0, 0] : Fin S1x512.rank → Nat) = fun _ => 0 := by decide
  unfold out0_B_21
  rw [View.read_writes_eq_canon _ _ _ (cover0_B_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xo15 xo16 xo21)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread,
    View.ld_unit_zero (S := S256x1024) hz0, View.ld_unit_zero (S := S1024x1024) hz1, View.ld_unit_zero (S := S512x1024) hz2, View.ld_unit_zero (S := S256x512) hz3, View.ld_unit_zero (S := S1x512) hz4, View.canon_cons_unit_zero (S := S1x512) hz4, View.readCov_unit_zero (S := S512x1024) _ hz2, View.readCov_unit_zero (S := S1x512) _ hz4]

end
end Cert.Gates
end
end
-- ==== Proof.GatesEntry.lean ====
module

public import proofs.«01_k».proof.Proof.GatesOutA
public import proofs.«01_k».proof.Proof.GatesOutB

@[expose] public section
set_option maxRecDepth 16384

/-! The gates' backward: the blocks every grid point reads, in terms of the arrays at the region's entry. -/

noncomputable section
namespace Cert.Gates
open Cert.Kernel5Ideal Cert.Kernel5Ideal.Gen Idealize.ShloMosaic Idealize.ShloMosaic.TcCoe Idealize.ShloMosaic.Tactic Idealize.SL.Sem
open Idealize.ShloMosaic.ValueIdx

variable (m : (ℓ : Loc nD τ sig) → Buf (Elt Ideal) ℓ) (c : Dev nD)

/-- The grid has sixteen points. -/
theorem lt16 (t : Fin cfg0.N) : t.val < 16 := lt_of_lt_of_eq t.isLt N_0

/-- Point `z` of the grid. -/
def pt (z : Fin 16) : Fin cfg0.N := ⟨z.val, lt_of_lt_of_eq z.isLt N_0.symm⟩

/-- The arrays at the region's entry: the arguments, and the two gated branches the host computes. -/
abbrev aD : FVec Ideal S4096x1024 .bf16 := V m c main_arg0
abbrev aW : FVec Ideal S1024x1024 .bf16 := V m c main_arg1
abbrev aWA : FVec Ideal S512x1024 .bf16 := V m c main_arg2
abbrev aWP : FVec Ideal S512x1024 .bf16 := V m c main_arg3
abbrev aR : FVec Ideal S4096x3584 .f32 := V m c main_arg4
abbrev aAT : FVec Ideal S4096x512 .f32 := V m c main_arg5
abbrev aMP : FVec Ideal S4096x512 .f32 := V m c main_arg6
abbrev aPS : FVec Ideal S1x512 .f32 := V m c main_arg7
abbrev aVA : FVec Ideal S4096x512 .bf16 := V m c main_v3
abbrev aVP : FVec Ideal S4096x512 .bf16 := V m c main_v9

/-- An entry of a block that stands at the rows of point `z` and at column block `k`, and of one that is the whole array. -/
theorem corner {n N : Nat} (k : Nat) (z : Fin 16) (p : Fin 256) (x : Fin n) (j : Fin N) (hj : j.val = k * n + x.val) (b : Fin 2 → Nat)
    (hb : b 0 = z.val ∧ b 1 = k) (y : (⟨2, ![4096, N]⟩ : Shape).Idx) (h0 : (y 0).val = b 0 * 256 + 1 * p.val) (h1 : (y 1).val = b 1 * n + 1 * x.val) :
    y = ix2 (tok z p) j := by
  refine funext fun a => Fin.ext ?_
  match a with
  | ⟨0, _⟩ => show (y 0).val = 256 * z.val + p.val; rw [h0, hb.1]; omega
  | ⟨1, _⟩ => show (y 1).val = j.val; rw [h1, hb.2, hj, Nat.one_mul]

theorem whole {r s : Nat} (b : Fin 2 → Nat) (hb : b 0 = 0 ∧ b 1 = 0) (y x : (⟨2, ![r, s]⟩ : Shape).Idx)
    (h0 : (x 0).val = b 0 * r + 1 * (y 0).val) (h1 : (x 1).val = b 1 * s + 1 * (y 1).val) : x = y := by
  refine funext fun a => Fin.ext ?_
  match a with
  | ⟨0, _⟩ => show (x 0).val = (y 0).val; rw [h0, hb.1]; omega
  | ⟨1, _⟩ => show (x 1).val = (y 1).val; rw [h1, hb.2]; omega

theorem iblk_0 (z : Fin 16) (p : Fin 256) (x : Fin 1024) : (iblk m c 0 (pt z) : FVec Ideal S256x1024 .bf16) (ix2 p x) = aD m c (ix2 (tok z p) x) :=
  congrArg (V m c main_arg0) (corner 0 z p x _ (by show _ = 0 * 1024 + x.val; omega) _ ((by decide +kernel : ∀ t : Fin grid0.N, win0_0.index t 0 = t.val ∧ win0_0.index t 1 = 0) (pt z)) _ rfl rfl)

theorem iblk_1 (z : Fin 16) : (iblk m c 1 (pt z) : FVec Ideal S1024x1024 .bf16) = aW m c :=
  funext fun y => congrArg (V m c main_arg1) (whole _ ((by decide +kernel : ∀ t : Fin grid0.N, win0_1.index t 0 = 0 ∧ win0_1.index t 1 = 0) (pt z)) y _ rfl rfl)

theorem iblk_2 (z : Fin 16) : (iblk m c 2 (pt z) : FVec Ideal S512x1024 .bf16) = aWA m c :=
  funext fun y => congrArg (V m c main_arg2) (whole _ ((by decide +kernel : ∀ t : Fin grid0.N, win0_2.index t 0 = 0 ∧ win0_2.index t 1 = 0) (pt z)) y _ rfl rfl)

theorem iblk_3 (z : Fin 16) : (iblk m c 3 (pt z) : FVec Ideal S512x1024 .bf16) = aWP m c :=
  funext fun y => congrArg (V m c main_arg3) (whole _ ((by decide +kernel : ∀ t : Fin grid0.N, win0_3.index t 0 = 0 ∧ win0_3.index t 1 = 0) (pt z)) y _ rfl rfl)

theorem iblk_4 (z : Fin 16) (p : Fin 256) (x : Fin 512) : (iblk m c 4 (pt z) : FVec Ideal S256x512 .f32) (ix2 p x) = aR m c (ix2 (tok z p) (⟨0 + x.val, by omega⟩ : Fin 3584)) :=
  congrArg (V m c main_arg4) (corner 0 z p x _ rfl _ ((by decide +kernel : ∀ t : Fin grid0.N, win0_4.index t 0 = t.val ∧ win0_4.index t 1 = 0) (pt z)) _ rfl rfl)

theorem iblk_5 (z : Fin 16) (p : Fin 256) (x : Fin 512) : (iblk m c 5 (pt z) : FVec Ideal S256x512 .f32) (ix2 p x) = aR m c (ix2 (tok z p) (⟨512 + x.val, by omega⟩ : Fin 3584)) :=
  congrArg (V m c main_arg4) (corner 1 z p x _ rfl _ ((by decide +kernel : ∀ t : Fin grid0.N, win0_5.index t 0 = t.val ∧ win0_5.index t 1 = 1) (pt z)) _ rfl rfl)

theorem iblk_6 (z : Fin 16) (p : Fin 256) (x : Fin 512) : (iblk m c 6 (pt z) : FVec Ideal S256x512 .f32) (ix2 p x) = aR m c (ix2 (tok z p) (⟨1024 + x.val, by omega⟩ : Fin 3584)) :=
  congrArg (V m c main_arg4) (corner 2 z p x _ rfl _ ((by decide +kernel : ∀ t : Fin grid0.N, win0_6.index t 0 = t.val ∧ win0_6.index t 1 = 2) (pt z)) _ rfl rfl)

theorem iblk_7 (z : Fin 16) (p : Fin 256) (x : Fin 512) : (iblk m c 7 (pt z) : FVec Ideal S256x512 .f32) (ix2 p x) = aR m c (ix2 (tok z p) (⟨1536 + x.val, by omega⟩ : Fin 3584)) :=
  congrArg (V m c main_arg4) (corner 3 z p x _ rfl _ ((by decide +kernel : ∀ t : Fin grid0.N, win0_7.index t 0 = t.val ∧ win0_7.index t 1 = 3) (pt z)) _ rfl rfl)

theorem iblk_8 (z : Fin 16) (p : Fin 256) (x : Fin 512) : (iblk m c 8 (pt z) : FVec Ideal S256x512 .f32) (ix2 p x) = aR m c (ix2 (tok z p) (⟨2048 + x.val, by omega⟩ : Fin 3584)) :=
  congrArg (V m c main_arg4) (corner 4 z p x _ rfl _ ((by decide +kernel : ∀ t : Fin grid0.N, win0_8.index t 0 = t.val ∧ win0_8.index t 1 = 4) (pt z)) _ rfl rfl)

theorem iblk_9 (z : Fin 16) (p : Fin 256) (x : Fin 512) : (iblk m c 9 (pt z) : FVec Ideal S256x512 .f32) (ix2 p x) = aR m c (ix2 (tok z p) (⟨2560 + x.val, by omega⟩ : Fin 3584)) :=
  congrArg (V m c main_arg4) (corner 5 z p x _ rfl _ ((by decide +kernel : ∀ t : Fin grid0.N, win0_9.index t 0 = t.val ∧ win0_9.index t 1 = 5) (pt z)) _ rfl rfl)

theorem iblk_10 (z : Fin 16) (p : Fin 256) (x : Fin 512) : (iblk m c 10 (pt z) : FVec Ideal S256x512 .bf16) (ix2 p x) = aVA m c (ix2 (tok z p) x) :=
  congrArg (V m c main_v3) (corner 0 z p x _ (by show _ = 0 * 512 + x.val; omega) _ ((by decide +kernel : ∀ t : Fin grid0.N, win0_10.index t 0 = t.val ∧ win0_10.index t 1 = 0) (pt z)) _ rfl rfl)

theorem iblk_11 (z : Fin 16) (p : Fin 256) (x : Fin 512) : (iblk m c 11 (pt z) : FVec Ideal S256x512 .bf16) (ix2 p x) = aVP m c (ix2 (tok z p) x) :=
  congrArg (V m c main_v9) (corner 0 z p x _ (by show _ = 0 * 512 + x.val; omega) _ ((by decide +kernel : ∀ t : Fin grid0.N, win0_11.index t 0 = t.val ∧ win0_11.index t 1 = 0) (pt z)) _ rfl rfl)

theorem iblk_12 (z : Fin 16) (p : Fin 256) (x : Fin 512) : (iblk m c 12 (pt z) : FVec Ideal S256x512 .f32) (ix2 p x) = aAT m c (ix2 (tok z p) x) :=
  congrArg (V m c main_arg5) (corner 0 z p x _ (by show _ = 0 * 512 + x.val; omega) _ ((by decide +kernel : ∀ t : Fin grid0.N, win0_12.index t 0 = t.val ∧ win0_12.index t 1 = 0) (pt z)) _ rfl rfl)

theorem iblk_13 (z : Fin 16) (p : Fin 256) (x : Fin 512) : (iblk m c 13 (pt z) : FVec Ideal S256x512 .f32) (ix2 p x) = aMP m c (ix2 (tok z p) x) :=
  congrArg (V m c main_arg6) (corner 0 z p x _ (by show _ = 0 * 512 + x.val; omega) _ ((by decide +kernel : ∀ t : Fin grid0.N, win0_13.index t 0 = t.val ∧ win0_13.index t 1 = 0) (pt z)) _ rfl rfl)

theorem iblk_14 (z : Fin 16) : (iblk m c 14 (pt z) : FVec Ideal S1x512 .f32) = aPS m c :=
  funext fun y => congrArg (V m c main_arg7) (whole _ ((by decide +kernel : ∀ t : Fin grid0.N, win0_14.index t 0 = 0 ∧ win0_14.index t 1 = 0) (pt z)) y _ rfl rfl)

/-- The first host part: `silu` of z_attn on the attention. -/
theorem entry_va (n : Fin 4096) (d : Fin 512) : aVA m c (ix2 n d) = act (rowOf (aAT m c) n) (gZa (aR m c) n) d := by
  have e : aVA m c = truncf (F := Ideal) .bf16 (mulf (m ((c : Thread nD τ).loc main_arg5) : FVec Ideal S4096x512 .f32)
      (mulf (extractStridedSlice S4096x512 ![0, 0] (m ((c : Thread nD τ).loc main_arg4) : FVec Ideal S4096x3584 .f32) slices_S4096x3584_S4096x512_0_0)
        (Host.divf (broadcastInDim S4096x512 ![] bcast_S_S4096x512 (constant (F := Ideal) S_ .f32 0x3F800000#32))
          (addf (broadcastInDim S4096x512 ![] bcast_S_S4096x512 (constant (F := Ideal) S_ .f32 0x3F800000#32))
            (Host.exp (Host.negf (extractStridedSlice S4096x512 ![0, 0] (m ((c : Thread nD τ).loc main_arg4) : FVec Ideal S4096x3584 .f32) slices_S4096x3584_S4096x512_0_0))))))) bitsLt_bf16_f32 := by
    show StableHlo.after (hostOps0 ++ (hostOps0_1 ++ (hostOps0_2 ++ (hostOps0_3 ++ (hostOps0_4 ++ []))))) _ (Proc.devRef .tc main_v3) = _
    simp only [List.cons_append, List.nil_append]
    after_results
    all_goals rfl
  have es : extractStridedSlice S4096x512 ![0, 0] (m ((c : Thread nD τ).loc main_arg4) : FVec Ideal S4096x3584 .f32) slices_S4096x3584_S4096x512_0_0 (ix2 n d)
      = gZa (aR m c) n d := by
    unfold gZa
    rw [show aR m c = m ((c : Thread nD τ).loc main_arg4) from V_main_arg4 m c]
    exact extractStridedSlice_apply _ _ _ _ _ (fun a => match a with
      | ⟨0, _⟩ => (Nat.zero_add _).symm
      | ⟨1, _⟩ => (Nat.zero_add _).symm)
  rw [e]
  unfold act
  rw [← div_form, ← es, show aAT m c = m ((c : Thread nD τ).loc main_arg5) from V_main_arg5 m c]
  rfl

/-- The second host part: `silu` of z_pool on the scaled products. -/
theorem entry_vp (n : Fin 4096) (d : Fin 512) : aVP m c (ix2 n d) = act (gYp (aMP m c) (aPS m c) n) (gZp (aR m c) n) d := by
  have e : aVP m c = truncf (F := Ideal) .bf16 (mulf (mulf (m ((c : Thread nD τ).loc main_arg6) : FVec Ideal S4096x512 .f32)
        (broadcastInDim S4096x512 ![0, 1] bcast_S1x512_S4096x512_0_1 (m ((c : Thread nD τ).loc main_arg7) : FVec Ideal S1x512 .f32)))
      (mulf (extractStridedSlice S4096x512 ![0, 512] (m ((c : Thread nD τ).loc main_arg4) : FVec Ideal S4096x3584 .f32) slices_S4096x3584_S4096x512_0_512)
        (Host.divf (broadcastInDim S4096x512 ![] bcast_S_S4096x512 (constant (F := Ideal) S_ .f32 0x3F800000#32))
          (addf (broadcastInDim S4096x512 ![] bcast_S_S4096x512 (constant (F := Ideal) S_ .f32 0x3F800000#32))
            (Host.exp (Host.negf (extractStridedSlice S4096x512 ![0, 512] (m ((c : Thread nD τ).loc main_arg4) : FVec Ideal S4096x3584 .f32) slices_S4096x3584_S4096x512_0_512))))))) bitsLt_bf16_f32 := by
    show StableHlo.after (hostOps0 ++ (hostOps0_1 ++ (hostOps0_2 ++ (hostOps0_3 ++ (hostOps0_4 ++ []))))) _ (Proc.devRef .tc main_v9) = _
    simp only [List.cons_append, List.nil_append]
    after_results
    all_goals rfl
  have es : extractStridedSlice S4096x512 ![0, 512] (m ((c : Thread nD τ).loc main_arg4) : FVec Ideal S4096x3584 .f32) slices_S4096x3584_S4096x512_0_512 (ix2 n d)
      = gZp (aR m c) n d := by
    unfold gZp
    rw [show aR m c = m ((c : Thread nD τ).loc main_arg4) from V_main_arg4 m c]
    exact extractStridedSlice_apply _ _ _ _ _ (fun a => match a with
      | ⟨0, _⟩ => (Nat.zero_add _).symm
      | ⟨1, _⟩ => rfl)
  have eb : broadcastInDim S4096x512 ![0, 1] bcast_S1x512_S4096x512_0_1 (m ((c : Thread nD τ).loc main_arg7) : FVec Ideal S1x512 .f32) (ix2 n d)
      = aPS m c (ix2 (0 : Fin 1) d) := by
    rw [show aPS m c = m ((c : Thread nD τ).loc main_arg7) from V_main_arg7 m c]
    exact congrArg (m ((c : Thread nD τ).loc main_arg7) : FVec Ideal S1x512 .f32) (funext fun a => Fin.ext (match a with
      | ⟨0, _⟩ => rfl
      | ⟨1, _⟩ => rfl))
  rw [e]
  unfold act gYp
  rw [← div_form, ← es, ← eb, show aMP m c = m ((c : Thread nD τ).loc main_arg6) from V_main_arg6 m c]
  rfl

end Cert.Gates
end
end
-- ==== Proof.GatesPoint.lean ====
module

public import proofs.«01_k».proof.Proof.GatesEntry

@[expose] public section
set_option maxRecDepth 16384

/-! The gates' backward: what every grid point leaves in the output blocks, in terms of the arrays at the region's entry. -/

noncomputable section
namespace Cert.Gates
open Cert.Kernel5Ideal Cert.Kernel5Ideal.Gen Idealize.ShloMosaic Idealize.ShloMosaic.TcCoe Idealize.ShloMosaic.Tactic Idealize.SL.Sem
open Idealize.ShloMosaic.ValueIdx

variable (m : (ℓ : Loc nD τ sig) → Buf (Elt Ideal) ℓ) (c : Dev nD)

/-! ### The blocks a point reads -/

section
variable (t : Fin cfg0.N)
abbrev b0 : FVec Ideal S256x1024 .bf16 := iblk m c 0 t
abbrev b1 : FVec Ideal S1024x1024 .bf16 := iblk m c 1 t
abbrev b2 : FVec Ideal S512x1024 .bf16 := iblk m c 2 t
abbrev b3 : FVec Ideal S512x1024 .bf16 := iblk m c 3 t
abbrev b4 : FVec Ideal S256x512 .f32 := iblk m c 4 t
abbrev b5 : FVec Ideal S256x512 .f32 := iblk m c 5 t
abbrev b6 : FVec Ideal S256x512 .f32 := iblk m c 6 t
abbrev b7 : FVec Ideal S256x512 .f32 := iblk m c 7 t
abbrev b8 : FVec Ideal S256x512 .f32 := iblk m c 8 t
abbrev b9 : FVec Ideal S256x512 .f32 := iblk m c 9 t
abbrev b10 : FVec Ideal S256x512 .bf16 := iblk m c 10 t
abbrev b11 : FVec Ideal S256x512 .bf16 := iblk m c 11 t
abbrev b12 : FVec Ideal S256x512 .f32 := iblk m c 12 t
abbrev b13 : FVec Ideal S256x512 .f32 := iblk m c 13 t
abbrev b14 : FVec Ideal S1x512 .f32 := iblk m c 14 t
end

/-! ### A row of point `z` is a row of the arrays -/

section
variable (z : Fin 16) (p : Fin 256)

theorem pDm : rDm (b0 m c (pt z)) (b1 m c (pt z)) p = gDm (aD m c) (aW m c) (tok z p) := by
  unfold gDm
  exact congrArg₂ lin (funext fun x => iblk_0 m c z p x) (congrArg matOf (iblk_1 m c z))
theorem pZa : rowOf (b4 m c (pt z)) p = gZa (aR m c) (tok z p) := funext fun d =>
  (iblk_4 m c z p d).trans (congrArg (fun k => aR m c (ix2 (tok z p) k)) (Fin.ext (Nat.zero_add _)))
theorem pZp : rowOf (b5 m c (pt z)) p = gZp (aR m c) (tok z p) := funext fun d => iblk_5 m c z p d
theorem pGa : rGa (b6 m c (pt z)) (b7 m c (pt z)) p = gGa (aR m c) (tok z p) := funext fun j => by
  unfold rGa cat gGa
  split
  · exact iblk_6 m c z p _
  · refine (iblk_7 m c z p _).trans (congrArg (fun k => aR m c (ix2 (tok z p) k)) (Fin.ext ?_))
    dsimp only
    omega
theorem pGp : rGp (b8 m c (pt z)) (b9 m c (pt z)) p = gGp (aR m c) (tok z p) := funext fun j => by
  unfold rGp cat gGp
  split
  · exact iblk_8 m c z p _
  · refine (iblk_9 m c z p _).trans (congrArg (fun k => aR m c (ix2 (tok z p) k)) (Fin.ext ?_))
    dsimp only
    omega
theorem pVa : rowOf (b10 m c (pt z)) p = act (rowOf (aAT m c) (tok z p)) (gZa (aR m c) (tok z p)) := funext fun d =>
  (iblk_10 m c z p d).trans (entry_va m c _ d)
theorem pVp : rowOf (b11 m c (pt z)) p = act (gYp (aMP m c) (aPS m c) (tok z p)) (gZp (aR m c) (tok z p)) := funext fun d =>
  (iblk_11 m c z p d).trans (entry_vp m c _ d)
theorem pYa : rowOf (b12 m c (pt z)) p = rowOf (aAT m c) (tok z p) := funext fun d => iblk_12 m c z p d
theorem pMp : rowOf (b13 m c (pt z)) p = rowOf (aMP m c) (tok z p) := funext fun d => iblk_13 m c z p d
theorem pYp : rYp (b13 m c (pt z)) (b14 m c (pt z)) p = gYp (aMP m c) (aPS m c) (tok z p) := funext fun d => by
  show b13 m c (pt z) (ix2 p d) * b14 m c (pt z) (ix2 (0 : Fin 1) d) = _
  unfold b13 b14
  rw [iblk_13, iblk_14]
  rfl
theorem pWA : matOf (b2 m c (pt z)) = matOf (aWA m c) := congrArg matOf (iblk_2 m c z)
theorem pWP : matOf (b3 m c (pt z)) = matOf (aWP m c) := congrArg matOf (iblk_3 m c z)

theorem dr_row (k : Fin 3072) : drBlk (b0 m c (pt z)) (b1 m c (pt z)) (b2 m c (pt z)) (b3 m c (pt z)) (b4 m c (pt z)) (b5 m c (pt z)) (b6 m c (pt z)) (b7 m c (pt z)) (b8 m c (pt z)) (b9 m c (pt z)) (b10 m c (pt z)) (b11 m c (pt z)) (b12 m c (pt z)) (b13 m c (pt z)) (b14 m c (pt z)) (ix2 p k)
    = gDr (aD m c) (aW m c) (aWA m c) (aWP m c) (aR m c) (aAT m c) (aMP m c) (aPS m c) (tok z p) k := by
  show drRow (rDm (b0 m c (pt z)) (b1 m c (pt z)) p) (matOf (b2 m c (pt z))) (matOf (b3 m c (pt z))) (rGa (b6 m c (pt z)) (b7 m c (pt z)) p) (rGp (b8 m c (pt z)) (b9 m c (pt z)) p)
    (rowOf (b4 m c (pt z)) p) (rowOf (b5 m c (pt z)) p) (rowOf (b12 m c (pt z)) p) (rYp (b13 m c (pt z)) (b14 m c (pt z)) p) (rowOf (b10 m c (pt z)) p) (rowOf (b11 m c (pt z)) p) k = _
  rw [pDm, pZa, pZp, pGa, pGp, pVa, pVp, pYa, pYp, pWA, pWP]
  rfl

theorem dattn_row (k : Fin 512) : dattnBlk (b0 m c (pt z)) (b1 m c (pt z)) (b2 m c (pt z)) (b4 m c (pt z)) (b6 m c (pt z)) (b7 m c (pt z)) (ix2 p k) = gDattn (aD m c) (aW m c) (aWA m c) (aR m c) (tok z p) k := by
  show dbr (rDm (b0 m c (pt z)) (b1 m c (pt z)) p) (matOf (b2 m c (pt z))) (rowOf (b4 m c (pt z)) p) (rGa (b6 m c (pt z)) (b7 m c (pt z)) p) k = _
  rw [pDm, pZa, pGa, pWA]
  rfl

theorem delta_row (k : Fin 512) : deltaBlk (b0 m c (pt z)) (b1 m c (pt z)) (b2 m c (pt z)) (b4 m c (pt z)) (b6 m c (pt z)) (b7 m c (pt z)) (b12 m c (pt z)) (ix2 p k)
    = gDelta (aD m c) (aW m c) (aWA m c) (aR m c) (aAT m c) (tok z p) k := by
  show headSum (fun d => dbr (rDm (b0 m c (pt z)) (b1 m c (pt z)) p) (matOf (b2 m c (pt z))) (rowOf (b4 m c (pt z)) p) (rGa (b6 m c (pt z)) (b7 m c (pt z)) p) d * rowOf (b12 m c (pt z)) p d) k = _
  rw [pDm, pZa, pGa, pWA, pYa]
  rfl

theorem dmx_row (k : Fin 512) : rDmx (b0 m c (pt z)) (b1 m c (pt z)) (b3 m c (pt z)) (b5 m c (pt z)) (b8 m c (pt z)) (b9 m c (pt z)) p k = gDmx (aD m c) (aW m c) (aWP m c) (aR m c) (tok z p) k := by
  show dbr (rDm (b0 m c (pt z)) (b1 m c (pt z)) p) (matOf (b3 m c (pt z))) (rowOf (b5 m c (pt z)) p) (rGp (b8 m c (pt z)) (b9 m c (pt z)) p) k = _
  rw [pDm, pZp, pGp, pWP]
  rfl

theorem dmp_row (k : Fin 512) : dmpBlk (b0 m c (pt z)) (b1 m c (pt z)) (b3 m c (pt z)) (b5 m c (pt z)) (b8 m c (pt z)) (b9 m c (pt z)) (b14 m c (pt z)) (ix2 p k)
    = gDmp (aD m c) (aW m c) (aWP m c) (aR m c) (aPS m c) (tok z p) k := by
  show rDmx (b0 m c (pt z)) (b1 m c (pt z)) (b3 m c (pt z)) (b5 m c (pt z)) (b8 m c (pt z)) (b9 m c (pt z)) p k * b14 m c (pt z) (ix2 (0 : Fin 1) k) = _
  rw [dmx_row]
  unfold b14
  rw [iblk_14]
  rfl
end

/-! ### What a point leaves in its own blocks -/

theorem at_17 : ∀ (n : ℕ) (h : n < cfg0.N), (outsAt0 m c n h).2.2.1 = drBlk (b0 m c ⟨n, h⟩) (b1 m c ⟨n, h⟩) (b2 m c ⟨n, h⟩) (b3 m c ⟨n, h⟩) (b4 m c ⟨n, h⟩) (b5 m c ⟨n, h⟩) (b6 m c ⟨n, h⟩) (b7 m c ⟨n, h⟩) (b8 m c ⟨n, h⟩) (b9 m c ⟨n, h⟩) (b10 m c ⟨n, h⟩) (b11 m c ⟨n, h⟩) (b12 m c ⟨n, h⟩) (b13 m c ⟨n, h⟩) (b14 m c ⟨n, h⟩)
  | 0, h => by
    rw [outsAt0_A m c ⟨0, h⟩ rfl]
    dsimp only
    rw [outA_17]
  | n + 1, h => by
    have hN : cfg0.N = 16 := N_0
    have hB : ¬(⟨n + 1, h⟩ : Fin cfg0.N).val % 16 = 0 := by dsimp only; omega
    rw [outsAt0_B m c ⟨n + 1, h⟩ hB]
    dsimp only
    rw [outB_17]

theorem at_18 : ∀ (n : ℕ) (h : n < cfg0.N), (outsAt0 m c n h).2.2.2.1 = dattnBlk (b0 m c ⟨n, h⟩) (b1 m c ⟨n, h⟩) (b2 m c ⟨n, h⟩) (b4 m c ⟨n, h⟩) (b6 m c ⟨n, h⟩) (b7 m c ⟨n, h⟩)
  | 0, h => by
    rw [outsAt0_A m c ⟨0, h⟩ rfl]
    dsimp only
    rw [outA_18]
  | n + 1, h => by
    have hN : cfg0.N = 16 := N_0
    have hB : ¬(⟨n + 1, h⟩ : Fin cfg0.N).val % 16 = 0 := by dsimp only; omega
    rw [outsAt0_B m c ⟨n + 1, h⟩ hB]
    dsimp only
    rw [outB_18]

theorem at_19 : ∀ (n : ℕ) (h : n < cfg0.N), (outsAt0 m c n h).2.2.2.2.1 = deltaBlk (b0 m c ⟨n, h⟩) (b1 m c ⟨n, h⟩) (b2 m c ⟨n, h⟩) (b4 m c ⟨n, h⟩) (b6 m c ⟨n, h⟩) (b7 m c ⟨n, h⟩) (b12 m c ⟨n, h⟩)
  | 0, h => by
    rw [outsAt0_A m c ⟨0, h⟩ rfl]
    dsimp only
    rw [outA_19]
  | n + 1, h => by
    have hN : cfg0.N = 16 := N_0
    have hB : ¬(⟨n + 1, h⟩ : Fin cfg0.N).val % 16 = 0 := by dsimp only; omega
    rw [outsAt0_B m c ⟨n + 1, h⟩ hB]
    dsimp only
    rw [outB_19]

theorem at_20 : ∀ (n : ℕ) (h : n < cfg0.N), (outsAt0 m c n h).2.2.2.2.2.1 = dmpBlk (b0 m c ⟨n, h⟩) (b1 m c ⟨n, h⟩) (b3 m c ⟨n, h⟩) (b5 m c ⟨n, h⟩) (b8 m c ⟨n, h⟩) (b9 m c ⟨n, h⟩) (b14 m c ⟨n, h⟩)
  | 0, h => by
    rw [outsAt0_A m c ⟨0, h⟩ rfl]
    dsimp only
    rw [outA_20]
  | n + 1, h => by
    have hN : cfg0.N = 16 := N_0
    have hB : ¬(⟨n + 1, h⟩ : Fin cfg0.N).val % 16 = 0 := by dsimp only; omega
    rw [outsAt0_B m c ⟨n + 1, h⟩ hB]
    dsimp only
    rw [outB_20]

/-! ### What the points add up -/

/-- What point `t` adds to dwa. -/
def dwaAdd (t : Fin cfg0.N) (d : Fin 512) (j : Fin 1024) : EReal := ∑ r : Fin 256, b10 m c t (ix2 r d) * dy (rDm (b0 m c t) (b1 m c t) r) (rGa (b6 m c t) (b7 m c t) r) j

theorem dwa_after : ∀ (n : ℕ) (h : n < cfg0.N) (d : Fin 512) (j : Fin 1024),
    (outsAt0 m c n h).1 (ix2 d j) = ∑ z : Fin (n + 1), dwaAdd m c ⟨z.val, lt_of_lt_of_le z.isLt h⟩ d j
  | 0, h, d, j => by
    rw [outsAt0_A m c ⟨0, h⟩ rfl, Fin.sum_univ_one]
    dsimp only
    rw [outA_15]
    show k0_pay15 (F := Ideal) (k0_pay11 (F := Ideal) (b0 m c ⟨0, h⟩) (b1 m c ⟨0, h⟩) (b6 m c ⟨0, h⟩) (b7 m c ⟨0, h⟩)) (k0_pay13 (F := Ideal) (b10 m c ⟨0, h⟩)) (k0_pay6 (F := Ideal)) (ix2 d j) = dwaAdd m c ⟨0, h⟩ d j
    have hz : (k0_pay6 (F := Ideal)) (ix2 d j) = (0 : EReal) := Ideal.ofBits_zero_f32
    rw [dwa_eq, hz, zero_add]
    rfl
  | n + 1, h, d, j => by
    have hN : cfg0.N = 16 := N_0
    have hB : ¬(⟨n + 1, h⟩ : Fin cfg0.N).val % 16 = 0 := by dsimp only; omega
    rw [outsAt0_B m c ⟨n + 1, h⟩ hB]
    dsimp only
    rw [outB_15]
    show k0_pay15 (F := Ideal) (k0_pay11 (F := Ideal) (b0 m c ⟨n + 1, h⟩) (b1 m c ⟨n + 1, h⟩) (b6 m c ⟨n + 1, h⟩) (b7 m c ⟨n + 1, h⟩)) (k0_pay13 (F := Ideal) (b10 m c ⟨n + 1, h⟩)) ((outsAt0 m c n (Nat.lt_of_succ_lt h)).1) (ix2 d j) = _
    rw [dwa_eq, dwa_after n, Fin.sum_univ_castSucc (n := n + 1)]
    rfl

/-- What point `t` adds to dwp. -/
def dwpAdd (t : Fin cfg0.N) (d : Fin 512) (j : Fin 1024) : EReal := ∑ r : Fin 256, b11 m c t (ix2 r d) * dy (rDm (b0 m c t) (b1 m c t) r) (rGp (b8 m c t) (b9 m c t) r) j

theorem dwp_after : ∀ (n : ℕ) (h : n < cfg0.N) (d : Fin 512) (j : Fin 1024),
    (outsAt0 m c n h).2.1 (ix2 d j) = ∑ z : Fin (n + 1), dwpAdd m c ⟨z.val, lt_of_lt_of_le z.isLt h⟩ d j
  | 0, h, d, j => by
    rw [outsAt0_A m c ⟨0, h⟩ rfl, Fin.sum_univ_one]
    dsimp only
    rw [outA_16]
    show k0_pay16 (F := Ideal) (k0_pay12 (F := Ideal) (b0 m c ⟨0, h⟩) (b1 m c ⟨0, h⟩) (b8 m c ⟨0, h⟩) (b9 m c ⟨0, h⟩)) (b11 m c ⟨0, h⟩) (k0_pay7 (F := Ideal)) (ix2 d j) = dwpAdd m c ⟨0, h⟩ d j
    have hz : (k0_pay7 (F := Ideal)) (ix2 d j) = (0 : EReal) := Ideal.ofBits_zero_f32
    rw [dwp_eq, hz, zero_add]
    rfl
  | n + 1, h, d, j => by
    have hN : cfg0.N = 16 := N_0
    have hB : ¬(⟨n + 1, h⟩ : Fin cfg0.N).val % 16 = 0 := by dsimp only; omega
    rw [outsAt0_B m c ⟨n + 1, h⟩ hB]
    dsimp only
    rw [outB_16]
    show k0_pay16 (F := Ideal) (k0_pay12 (F := Ideal) (b0 m c ⟨n + 1, h⟩) (b1 m c ⟨n + 1, h⟩) (b8 m c ⟨n + 1, h⟩) (b9 m c ⟨n + 1, h⟩)) (b11 m c ⟨n + 1, h⟩) ((outsAt0 m c n (Nat.lt_of_succ_lt h)).2.1) (ix2 d j) = _
    rw [dwp_eq, dwp_after n, Fin.sum_univ_castSucc (n := n + 1)]
    rfl

/-- What point `t` adds to dps. -/
def dpsAdd (t : Fin cfg0.N) (j : Fin 512) : EReal := ∑ r : Fin 256, rDmx (b0 m c t) (b1 m c t) (b3 m c t) (b5 m c t) (b8 m c t) (b9 m c t) r j * b13 m c t (ix2 r j)

theorem dps_after : ∀ (n : ℕ) (h : n < cfg0.N) (j : Fin 512),
    (outsAt0 m c n h).2.2.2.2.2.2 (ix2 (0 : Fin 1) j) = ∑ z : Fin (n + 1), dpsAdd m c ⟨z.val, lt_of_lt_of_le z.isLt h⟩ j
  | 0, h, j => by
    rw [outsAt0_A m c ⟨0, h⟩ rfl, Fin.sum_univ_one]
    dsimp only
    rw [outA_21]
    show k0_pay3 (F := Ideal) (k0_pay20 (F := Ideal) (k0_pay12 (F := Ideal) (b0 m c ⟨0, h⟩) (b1 m c ⟨0, h⟩) (b8 m c ⟨0, h⟩) (b9 m c ⟨0, h⟩)) (b3 m c ⟨0, h⟩)) (b5 m c ⟨0, h⟩) (k0_pay35 (F := Ideal) (b5 m c ⟨0, h⟩)) (b13 m c ⟨0, h⟩) (k0_pay5 (F := Ideal)) (ix2 (0 : Fin 1) j) = dpsAdd m c ⟨0, h⟩ j
    have hz : (k0_pay5 (F := Ideal)) (ix2 (0 : Fin 1) j) = (0 : EReal) := Ideal.ofBits_zero_f32
    rw [dps_eq, hz, zero_add]
    rfl
  | n + 1, h, j => by
    have hN : cfg0.N = 16 := N_0
    have hB : ¬(⟨n + 1, h⟩ : Fin cfg0.N).val % 16 = 0 := by dsimp only; omega
    rw [outsAt0_B m c ⟨n + 1, h⟩ hB]
    dsimp only
    rw [outB_21]
    show k0_pay3 (F := Ideal) (k0_pay20 (F := Ideal) (k0_pay12 (F := Ideal) (b0 m c ⟨n + 1, h⟩) (b1 m c ⟨n + 1, h⟩) (b8 m c ⟨n + 1, h⟩) (b9 m c ⟨n + 1, h⟩)) (b3 m c ⟨n + 1, h⟩)) (b5 m c ⟨n + 1, h⟩) (k0_pay35 (F := Ideal) (b5 m c ⟨n + 1, h⟩)) (b13 m c ⟨n + 1, h⟩) ((outsAt0 m c n (Nat.lt_of_succ_lt h)).2.2.2.2.2.2) (ix2 (0 : Fin 1) j) = _
    rw [dps_eq, dps_after n, Fin.sum_univ_castSucc (n := n + 1)]
    rfl

theorem dwa_sum (d : Fin 512) (j : Fin 1024) : ∑ z : Fin 16, dwaAdd m c (pt z) d j = sDwa (aD m c) (aW m c) (aR m c) (aAT m c) (ix2 d j) := by
  show _ = ∑ n : Fin 4096, act (rowOf (aAT m c) n) (gZa (aR m c) n) d * dy (gDm (aD m c) (aW m c) n) (gGa (aR m c) n) j
  rw [sum_tok]
  refine Finset.sum_congr rfl fun z _ => ?_
  unfold dwaAdd
  refine Finset.sum_congr rfl fun p _ => ?_
  rw [pDm, pGa, ← pVa]

theorem dwp_sum (d : Fin 512) (j : Fin 1024) : ∑ z : Fin 16, dwpAdd m c (pt z) d j = sDwp (aD m c) (aW m c) (aR m c) (aMP m c) (aPS m c) (ix2 d j) := by
  show _ = ∑ n : Fin 4096, act (gYp (aMP m c) (aPS m c) n) (gZp (aR m c) n) d * dy (gDm (aD m c) (aW m c) n) (gGp (aR m c) n) j
  rw [sum_tok]
  refine Finset.sum_congr rfl fun z _ => ?_
  unfold dwpAdd
  refine Finset.sum_congr rfl fun p _ => ?_
  rw [pDm, pGp, ← pVp]

theorem dps_sum (j : Fin 512) : ∑ z : Fin 16, dpsAdd m c (pt z) j = sDps (aD m c) (aW m c) (aWP m c) (aR m c) (aMP m c) (ix2 (0 : Fin 1) j) := by
  show _ = ∑ n : Fin 4096, gDmx (aD m c) (aW m c) (aWP m c) (aR m c) n j * rowOf (aMP m c) n j
  rw [sum_tok]
  refine Finset.sum_congr rfl fun z _ => ?_
  unfold dpsAdd
  refine Finset.sum_congr rfl fun p _ => ?_
  rw [dmx_row, ← pMp]

end Cert.Gates
end
end
-- ==== Proof.GatesFinal.lean ====
module

public import proofs.«01_k».proof.Proof.GatesPoint

@[expose] public section
set_option maxRecDepth 16384

/-! The gates' backward: what the output arrays hold after the whole grid. -/

noncomputable section
namespace Cert.Gates
open Cert.Kernel5Ideal Cert.Kernel5Ideal.Gen Idealize.ShloMosaic Idealize.ShloMosaic.TcCoe Idealize.ShloMosaic.Tactic Idealize.SL.Sem
open Idealize.ShloMosaic.ValueIdx

variable (m : (ℓ : Loc nD τ sig) → Buf (Elt Ideal) ℓ) (c : Dev nD)

theorem flushed_dwa (t : Fin cfg0.N) (hf : (cfg0.win 15).flush t = true) :
    (dats m 0 c).flushed 15 t = ((cfg0.win 15).blk t).view.read (Elt Ideal) (sDwa (aD m c) (aW m c) (aR m c) (aAT m c) : FVec Ideal S512x1024 .f32) := by
  have hN : cfg0.N = 16 := N_0
  have h15 : t.val = 15 := by have := (flush0_15 t).mp hf; have := t.isLt; omega
  obtain rfl : t = pt 15 := Fin.ext h15
  show (cfg0.win 15).cut (grid0.coords (pt 15)) ((dats m 0 c).after 15 (pt 15)) = _
  rw [after0_15]
  have hz' : (fun a => win0_15.index (pt 15) a * main_v10_0.ty.shape.size a) = fun _ => 0 := funext fun a => by fin_cases a <;> decide +kernel
  have e : (outsAt0 m c (pt 15).val (pt 15).isLt).1 = (sDwa (aD m c) (aW m c) (aR m c) (aAT m c) : FVec Ideal S512x1024 .f32) := funext fun y => by
    obtain ⟨p, q, rfl⟩ := ix2_of y
    exact (dwa_after m c 15 (pt 15).isLt p q).trans (dwa_sum m c p q)
  rw [e]
  exact (Memref.read_access_unit_zero (Elt Ideal) main_v10_0 hz' (fun a => by rw [congrFun hz' a]; simp) (sDwa (aD m c) (aW m c) (aR m c) (aAT m c) : FVec Ideal S512x1024 .f32)).symm

theorem final_dwa : (dats m 0 c).arrAt 15 cfg0.N = (sDwa (aD m c) (aW m c) (aR m c) (aAT m c) : FVec Ideal S512x1024 .f32) :=
  (dats m 0 c).arrAt_eq_of_cover 15 (sDwa (aD m c) (aW m c) (aR m c) (aAT m c) : FVec Ideal S512x1024 .f32) (flushed_dwa m c) fun i =>
    ⟨pt 15, (flush0_15 (pt 15)).mpr rfl, by
      show i ∈ ((View.whole main_v10_0).slice (win0_15.rect (pt 15))).set
      rw [View.set_slice_whole, Rect.mem_set_unit]
      intro a
      have hi : win0_15.index (pt 15) 0 = 0 ∧ win0_15.index (pt 15) 1 = 0 := by decide +kernel
      obtain ⟨e0, e1⟩ := hi
      have h0 : (i 0 : Nat) < 512 := (i 0).isLt
      have h1 : (i 1 : Nat) < 1024 := (i 1).isLt
      match a with
      | ⟨0, _⟩ => show win0_15.index (pt 15) 0 * 512 ≤ (i 0 : Nat) ∧ (i 0 : Nat) < win0_15.index (pt 15) 0 * 512 + 512
                  rw [e0]; omega
      | ⟨1, _⟩ => show win0_15.index (pt 15) 1 * 1024 ≤ (i 1 : Nat) ∧ (i 1 : Nat) < win0_15.index (pt 15) 1 * 1024 + 1024
                  rw [e1]; omega⟩

theorem flushed_dwp (t : Fin cfg0.N) (hf : (cfg0.win 16).flush t = true) :
    (dats m 0 c).flushed 16 t = ((cfg0.win 16).blk t).view.read (Elt Ideal) (sDwp (aD m c) (aW m c) (aR m c) (aMP m c) (aPS m c) : FVec Ideal S512x1024 .f32) := by
  have hN : cfg0.N = 16 := N_0
  have h15 : t.val = 15 := by have := (flush0_16 t).mp hf; have := t.isLt; omega
  obtain rfl : t = pt 15 := Fin.ext h15
  show (cfg0.win 16).cut (grid0.coords (pt 15)) ((dats m 0 c).after 16 (pt 15)) = _
  rw [after0_16]
  have hz' : (fun a => win0_16.index (pt 15) a * main_v10_1.ty.shape.size a) = fun _ => 0 := funext fun a => by fin_cases a <;> decide +kernel
  have e : (outsAt0 m c (pt 15).val (pt 15).isLt).2.1 = (sDwp (aD m c) (aW m c) (aR m c) (aMP m c) (aPS m c) : FVec Ideal S512x1024 .f32) := funext fun y => by
    obtain ⟨p, q, rfl⟩ := ix2_of y
    exact (dwp_after m c 15 (pt 15).isLt p q).trans (dwp_sum m c p q)
  rw [e]
  exact (Memref.read_access_unit_zero (Elt Ideal) main_v10_1 hz' (fun a => by rw [congrFun hz' a]; simp) (sDwp (aD m c) (aW m c) (aR m c) (aMP m c) (aPS m c) : FVec Ideal S512x1024 .f32)).symm

theorem final_dwp : (dats m 0 c).arrAt 16 cfg0.N = (sDwp (aD m c) (aW m c) (aR m c) (aMP m c) (aPS m c) : FVec Ideal S512x1024 .f32) :=
  (dats m 0 c).arrAt_eq_of_cover 16 (sDwp (aD m c) (aW m c) (aR m c) (aMP m c) (aPS m c) : FVec Ideal S512x1024 .f32) (flushed_dwp m c) fun i =>
    ⟨pt 15, (flush0_16 (pt 15)).mpr rfl, by
      show i ∈ ((View.whole main_v10_1).slice (win0_16.rect (pt 15))).set
      rw [View.set_slice_whole, Rect.mem_set_unit]
      intro a
      have hi : win0_16.index (pt 15) 0 = 0 ∧ win0_16.index (pt 15) 1 = 0 := by decide +kernel
      obtain ⟨e0, e1⟩ := hi
      have h0 : (i 0 : Nat) < 512 := (i 0).isLt
      have h1 : (i 1 : Nat) < 1024 := (i 1).isLt
      match a with
      | ⟨0, _⟩ => show win0_16.index (pt 15) 0 * 512 ≤ (i 0 : Nat) ∧ (i 0 : Nat) < win0_16.index (pt 15) 0 * 512 + 512
                  rw [e0]; omega
      | ⟨1, _⟩ => show win0_16.index (pt 15) 1 * 1024 ≤ (i 1 : Nat) ∧ (i 1 : Nat) < win0_16.index (pt 15) 1 * 1024 + 1024
                  rw [e1]; omega⟩

theorem flushed_dps (t : Fin cfg0.N) (hf : (cfg0.win 21).flush t = true) :
    (dats m 0 c).flushed 21 t = ((cfg0.win 21).blk t).view.read (Elt Ideal) (sDps (aD m c) (aW m c) (aWP m c) (aR m c) (aMP m c) : FVec Ideal S1x512 .f32) := by
  have hN : cfg0.N = 16 := N_0
  have h15 : t.val = 15 := by have := (flush0_21 t).mp hf; have := t.isLt; omega
  obtain rfl : t = pt 15 := Fin.ext h15
  show (cfg0.win 21).cut (grid0.coords (pt 15)) ((dats m 0 c).after 21 (pt 15)) = _
  rw [after0_21]
  have hz' : (fun a => win0_21.index (pt 15) a * main_v10_6.ty.shape.size a) = fun _ => 0 := funext fun a => by fin_cases a <;> decide +kernel
  have e : (outsAt0 m c (pt 15).val (pt 15).isLt).2.2.2.2.2.2 = (sDps (aD m c) (aW m c) (aWP m c) (aR m c) (aMP m c) : FVec Ideal S1x512 .f32) := funext fun y => by
    obtain ⟨p, q, rfl⟩ := ix2_of y
    obtain rfl : p = 0 := Fin.ext (Nat.lt_one_iff.mp p.isLt)
    exact (dps_after m c 15 (pt 15).isLt q).trans (dps_sum m c q)
  rw [e]
  exact (Memref.read_access_unit_zero (Elt Ideal) main_v10_6 hz' (fun a => by rw [congrFun hz' a]; simp) (sDps (aD m c) (aW m c) (aWP m c) (aR m c) (aMP m c) : FVec Ideal S1x512 .f32)).symm

theorem final_dps : (dats m 0 c).arrAt 21 cfg0.N = (sDps (aD m c) (aW m c) (aWP m c) (aR m c) (aMP m c) : FVec Ideal S1x512 .f32) :=
  (dats m 0 c).arrAt_eq_of_cover 21 (sDps (aD m c) (aW m c) (aWP m c) (aR m c) (aMP m c) : FVec Ideal S1x512 .f32) (flushed_dps m c) fun i =>
    ⟨pt 15, (flush0_21 (pt 15)).mpr rfl, by
      show i ∈ ((View.whole main_v10_6).slice (win0_21.rect (pt 15))).set
      rw [View.set_slice_whole, Rect.mem_set_unit]
      intro a
      have hi : win0_21.index (pt 15) 0 = 0 ∧ win0_21.index (pt 15) 1 = 0 := by decide +kernel
      obtain ⟨e0, e1⟩ := hi
      have h0 : (i 0 : Nat) < 1 := (i 0).isLt
      have h1 : (i 1 : Nat) < 512 := (i 1).isLt
      match a with
      | ⟨0, _⟩ => show win0_21.index (pt 15) 0 * 1 ≤ (i 0 : Nat) ∧ (i 0 : Nat) < win0_21.index (pt 15) 0 * 1 + 1
                  rw [e0]; omega
      | ⟨1, _⟩ => show win0_21.index (pt 15) 1 * 512 ≤ (i 1 : Nat) ∧ (i 1 : Nat) < win0_21.index (pt 15) 1 * 512 + 512
                  rw [e1]; omega⟩

theorem distinct_17 (t t' : Fin grid0.N) (hne : t ≠ t') : win0_17.index t ≠ win0_17.index t' := fun e =>
  hne ((by decide +kernel : ∀ t t' : Fin grid0.N, win0_17.index t = win0_17.index t' → t = t') t t' e)

/-- The blocks the points write are whole. -/
theorem size_17 : ∀ t : Fin grid0.N, win0_17.xsize (grid0.coords t) 0 = 256 ∧ win0_17.xsize (grid0.coords t) 1 = 3072 := by decide +kernel

/-- Row `p`, column `x` of a block. -/
def spot (t : Fin cfg0.N) (p : Fin 256) (x : Fin 3072) : ((cfg0.win 17).xblock (cfg0.grid.coords t)).Idx := fun a =>
  ⟨(ix2 p x a).val, match a with
    | ⟨0, _⟩ => lt_of_lt_of_eq p.isLt (size_17 t).1.symm
    | ⟨1, _⟩ => lt_of_lt_of_eq x.isLt (size_17 t).2.symm⟩

theorem final_dr (z : Fin 16) (p : Fin 256) (x : Fin 3072) :
    ((dats m 0 c).arrAt 17 cfg0.N : FVec Ideal S4096x3584 .bf16) (ix2 (tok z p) (⟨x.val, by omega⟩ : Fin 3584)) = gDr (aD m c) (aW m c) (aWA m c) (aWP m c) (aR m c) (aAT m c) (aMP m c) (aPS m c) (tok z p) x := by
  have hb := congrFun ((dats m 0 c).read_blk_arrAt_eq_flushed 17 (fun t t' _ _ hne => (cfg0.win 17).disjoint_blk (distinct_17 t t' hne)) cfg0.N (pt z) (pt z).isLt (flush0_17 (pt z))) (spot (pt z) p x)
  rw [View.read_apply] at hb
  have hi : ∀ t : Fin grid0.N, win0_17.index t 0 = t.val ∧ win0_17.index t 1 = 0 := by decide +kernel
  obtain ⟨h0, h1⟩ := hi (pt z)
  refine Eq.trans ?_ (hb.trans ?_)
  · show (dats m 0 c).arrAt 17 cfg0.N _ = (dats m 0 c).arrAt 17 cfg0.N _
    congr 1
    funext a
    apply Fin.ext
    match a with
    | ⟨0, _⟩ => show 256 * z.val + p.val = win0_17.index (pt z) 0 * 256 + 1 * p.val; rw [h0]; show 256 * z.val + p.val = z.val * 256 + 1 * p.val; omega
    | ⟨1, _⟩ => show x.val = win0_17.index (pt z) 1 * 3072 + 1 * x.val; rw [h1]; omega
  · have hx : (cfg0.win 17).xinj (cfg0.grid.coords (pt z)) (spot (pt z) p x) = ix2 p x := funext fun a => Fin.ext rfl
    show (dats m 0 c).after 17 (pt z) ((cfg0.win 17).xinj (cfg0.grid.coords (pt z)) (spot (pt z) p x)) = _
    rw [hx, after0_17, at_17]
    exact dr_row m c z p x

theorem final_dr' (n : Fin 4096) (x : Fin 3072) :
    ((dats m 0 c).arrAt 17 cfg0.N : FVec Ideal S4096x3584 .bf16) (ix2 n (⟨x.val, by omega⟩ : Fin 3584)) = gDr (aD m c) (aW m c) (aWA m c) (aWP m c) (aR m c) (aAT m c) (aMP m c) (aPS m c) n x := by
  have hn : n = tok ⟨n.val / 256, by omega⟩ ⟨n.val % 256, by omega⟩ := Fin.ext (by show n.val = 256 * (n.val / 256) + n.val % 256; omega)
  rw [hn]
  exact final_dr m c _ _ x

theorem distinct_18 (t t' : Fin grid0.N) (hne : t ≠ t') : win0_18.index t ≠ win0_18.index t' := fun e =>
  hne ((by decide +kernel : ∀ t t' : Fin grid0.N, win0_18.index t = win0_18.index t' → t = t') t t' e)

theorem blocks_dattn (t : Fin cfg0.N) :
    ((cfg0.win 18).blk t).view.read (Elt Ideal) ((dats m 0 c).arrAt 18 cfg0.N) = (outsAt0 m c t.val t.isLt).2.2.2.1 := by
  rw [(dats m 0 c).read_blk_arrAt_eq_flushed 18 (fun t t' _ _ hne => (cfg0.win 18).disjoint_blk (distinct_18 t t' hne)) cfg0.N t t.isLt (flush0_18 t)]
  show (cfg0.win 18).cut (grid0.coords t) ((dats m 0 c).after 18 t) = _
  rw [after0_18]
  rfl

theorem final_dattn (z : Fin 16) (p : Fin 256) (x : Fin 512) :
    ((dats m 0 c).arrAt 18 cfg0.N : FVec Ideal S4096x512 .bf16) (ix2 (tok z p) x) = gDattn (aD m c) (aW m c) (aWA m c) (aR m c) (tok z p) x := by
  have hb := congrFun (blocks_dattn m c (pt z)) (ix2 p x)
  rw [View.read_apply] at hb
  have hi : ∀ t : Fin grid0.N, win0_18.index t 0 = t.val ∧ win0_18.index t 1 = 0 := by decide +kernel
  obtain ⟨h0, h1⟩ := hi (pt z)
  refine Eq.trans ?_ (hb.trans ?_)
  · show (dats m 0 c).arrAt 18 cfg0.N _ = (dats m 0 c).arrAt 18 cfg0.N _
    congr 1
    funext a
    apply Fin.ext
    match a with
    | ⟨0, _⟩ => show 256 * z.val + p.val = win0_18.index (pt z) 0 * 256 + 1 * p.val; rw [h0]; show 256 * z.val + p.val = z.val * 256 + 1 * p.val; omega
    | ⟨1, _⟩ => show x.val = win0_18.index (pt z) 1 * 512 + 1 * x.val; rw [h1]; omega
  · rw [at_18]
    exact dattn_row m c z p x

theorem final_dattn' (n : Fin 4096) (x : Fin 512) :
    ((dats m 0 c).arrAt 18 cfg0.N : FVec Ideal S4096x512 .bf16) (ix2 n x) = gDattn (aD m c) (aW m c) (aWA m c) (aR m c) n x := by
  have hn : n = tok ⟨n.val / 256, by omega⟩ ⟨n.val % 256, by omega⟩ := Fin.ext (by show n.val = 256 * (n.val / 256) + n.val % 256; omega)
  rw [hn]
  exact final_dattn m c _ _ x

theorem distinct_19 (t t' : Fin grid0.N) (hne : t ≠ t') : win0_19.index t ≠ win0_19.index t' := fun e =>
  hne ((by decide +kernel : ∀ t t' : Fin grid0.N, win0_19.index t = win0_19.index t' → t = t') t t' e)

theorem blocks_delta (t : Fin cfg0.N) :
    ((cfg0.win 19).blk t).view.read (Elt Ideal) ((dats m 0 c).arrAt 19 cfg0.N) = (outsAt0 m c t.val t.isLt).2.2.2.2.1 := by
  rw [(dats m 0 c).read_blk_arrAt_eq_flushed 19 (fun t t' _ _ hne => (cfg0.win 19).disjoint_blk (distinct_19 t t' hne)) cfg0.N t t.isLt (flush0_19 t)]
  show (cfg0.win 19).cut (grid0.coords t) ((dats m 0 c).after 19 t) = _
  rw [after0_19]
  rfl

theorem final_delta (z : Fin 16) (p : Fin 256) (x : Fin 512) :
    ((dats m 0 c).arrAt 19 cfg0.N : FVec Ideal S4096x512 .f32) (ix2 (tok z p) x) = gDelta (aD m c) (aW m c) (aWA m c) (aR m c) (aAT m c) (tok z p) x := by
  have hb := congrFun (blocks_delta m c (pt z)) (ix2 p x)
  rw [View.read_apply] at hb
  have hi : ∀ t : Fin grid0.N, win0_19.index t 0 = t.val ∧ win0_19.index t 1 = 0 := by decide +kernel
  obtain ⟨h0, h1⟩ := hi (pt z)
  refine Eq.trans ?_ (hb.trans ?_)
  · show (dats m 0 c).arrAt 19 cfg0.N _ = (dats m 0 c).arrAt 19 cfg0.N _
    congr 1
    funext a
    apply Fin.ext
    match a with
    | ⟨0, _⟩ => show 256 * z.val + p.val = win0_19.index (pt z) 0 * 256 + 1 * p.val; rw [h0]; show 256 * z.val + p.val = z.val * 256 + 1 * p.val; omega
    | ⟨1, _⟩ => show x.val = win0_19.index (pt z) 1 * 512 + 1 * x.val; rw [h1]; omega
  · rw [at_19]
    exact delta_row m c z p x

theorem final_delta' (n : Fin 4096) (x : Fin 512) :
    ((dats m 0 c).arrAt 19 cfg0.N : FVec Ideal S4096x512 .f32) (ix2 n x) = gDelta (aD m c) (aW m c) (aWA m c) (aR m c) (aAT m c) n x := by
  have hn : n = tok ⟨n.val / 256, by omega⟩ ⟨n.val % 256, by omega⟩ := Fin.ext (by show n.val = 256 * (n.val / 256) + n.val % 256; omega)
  rw [hn]
  exact final_delta m c _ _ x

theorem distinct_20 (t t' : Fin grid0.N) (hne : t ≠ t') : win0_20.index t ≠ win0_20.index t' := fun e =>
  hne ((by decide +kernel : ∀ t t' : Fin grid0.N, win0_20.index t = win0_20.index t' → t = t') t t' e)

theorem blocks_dmp (t : Fin cfg0.N) :
    ((cfg0.win 20).blk t).view.read (Elt Ideal) ((dats m 0 c).arrAt 20 cfg0.N) = (outsAt0 m c t.val t.isLt).2.2.2.2.2.1 := by
  rw [(dats m 0 c).read_blk_arrAt_eq_flushed 20 (fun t t' _ _ hne => (cfg0.win 20).disjoint_blk (distinct_20 t t' hne)) cfg0.N t t.isLt (flush0_20 t)]
  show (cfg0.win 20).cut (grid0.coords t) ((dats m 0 c).after 20 t) = _
  rw [after0_20]
  rfl

theorem final_dmp (z : Fin 16) (p : Fin 256) (x : Fin 512) :
    ((dats m 0 c).arrAt 20 cfg0.N : FVec Ideal S4096x512 .bf16) (ix2 (tok z p) x) = gDmp (aD m c) (aW m c) (aWP m c) (aR m c) (aPS m c) (tok z p) x := by
  have hb := congrFun (blocks_dmp m c (pt z)) (ix2 p x)
  rw [View.read_apply] at hb
  have hi : ∀ t : Fin grid0.N, win0_20.index t 0 = t.val ∧ win0_20.index t 1 = 0 := by decide +kernel
  obtain ⟨h0, h1⟩ := hi (pt z)
  refine Eq.trans ?_ (hb.trans ?_)
  · show (dats m 0 c).arrAt 20 cfg0.N _ = (dats m 0 c).arrAt 20 cfg0.N _
    congr 1
    funext a
    apply Fin.ext
    match a with
    | ⟨0, _⟩ => show 256 * z.val + p.val = win0_20.index (pt z) 0 * 256 + 1 * p.val; rw [h0]; show 256 * z.val + p.val = z.val * 256 + 1 * p.val; omega
    | ⟨1, _⟩ => show x.val = win0_20.index (pt z) 1 * 512 + 1 * x.val; rw [h1]; omega
  · rw [at_20]
    exact dmp_row m c z p x

theorem final_dmp' (n : Fin 4096) (x : Fin 512) :
    ((dats m 0 c).arrAt 20 cfg0.N : FVec Ideal S4096x512 .bf16) (ix2 n x) = gDmp (aD m c) (aW m c) (aWP m c) (aR m c) (aPS m c) n x := by
  have hn : n = tok ⟨n.val / 256, by omega⟩ ⟨n.val % 256, by omega⟩ := Fin.ext (by show n.val = 256 * (n.val / 256) + n.val % 256; omega)
  rw [hn]
  exact final_dmp m c _ _ x

end Cert.Gates
end
end
-- ==== Proof.GatesRun.lean ====
module

public import proofs.«01_k».proof.Proof.GatesFinal

@[expose] public section
set_option maxRecDepth 16384

/-! The gates' backward: what a run of the whole program leaves in its results and arguments. -/

noncomputable section
namespace Cert.Gates
open Cert.Kernel5Ideal Cert.Kernel5Ideal.Gen Idealize.ShloMosaic Idealize.ShloMosaic.TcCoe Idealize.ShloMosaic.Tactic Idealize.SL.Sem
open Idealize.ShloMosaic.ValueIdx

variable (m : (ℓ : Loc nD τ sig) → Buf (Elt Ideal) ℓ) (ρ : Dev nD → PrngReg)

/-- The written columns of the projection's cotangents. -/
abbrev resDr (c : Dev nD) : FVec Ideal S4096x3072 .bf16 :=
  extractStridedSlice S4096x3072 ![0, 0] ((dats m 0 c).arrAt 17 cfg0.N : FVec Ideal S4096x3584 .bf16) slices_S4096x3584_S4096x3072_0_0

theorem tail_v11 (c : Dev nD) : Pipeline.afterTail₀ cfgs (dats m) 0 (V0 m) [hostOps1] c main_v11 = resDr m c := by
  have e := Pipeline.withArrays_arr_shared cfg0.spec c (V0 m c) (fun w => (dats m 0 c).arrAt w cfg0.N)
    ((dats m 0 c).arrAt_sharedIn sharedIn0 (V0 m c) (A_eq m c) cfg0.N) 17
  unfold Pipeline.afterTail₀ resDr
  show StableHlo.after hostOps1 _ (Proc.devRef .tc main_v11) = _
  rw [← e]
  after_results
  all_goals rfl

/-- The program runs; its results hold the pipeline's arrays, the projection's cotangents without the columns the call leaves alone; its
    arguments stay. -/
theorem run : θ_run defs (onTc (τ := τ) (main (F := Ideal))) ⟨m, fun _ => 0, ρ⟩ (fun r => ∀ c : Dev nD,
      r.2.mem ((c.tc : Thread nD τ).loc main_v10_0) = (dats m 0 c).arrAt 15 cfg0.N
      ∧ r.2.mem ((c.tc : Thread nD τ).loc main_v10_1) = (dats m 0 c).arrAt 16 cfg0.N
      ∧ r.2.mem ((c.tc : Thread nD τ).loc main_v11) = resDr m c
      ∧ r.2.mem ((c.tc : Thread nD τ).loc main_v10_3) = (dats m 0 c).arrAt 18 cfg0.N
      ∧ r.2.mem ((c.tc : Thread nD τ).loc main_v10_4) = (dats m 0 c).arrAt 19 cfg0.N
      ∧ r.2.mem ((c.tc : Thread nD τ).loc main_v10_5) = (dats m 0 c).arrAt 20 cfg0.N
      ∧ r.2.mem ((c.tc : Thread nD τ).loc main_v10_6) = (dats m 0 c).arrAt 21 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c).1 15, (h c).1 16, ((h c).2 main_v11 (by decide +kernel)).trans (tail_v11 m c), (h c).1 18, (h c).1 19, (h c).1 20, (h c).1 21,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 12).trans (((dats m 0 c).arrAt_in 12 rfl _).trans ((A_eq m c 12).trans (V_main_arg5 m c))),
      ((h c).1 13).trans (((dats m 0 c).arrAt_in 13 rfl _).trans ((A_eq m c 13).trans (V_main_arg6 m c))),
      ((h c).1 14).trans (((dats m 0 c).arrAt_in 14 rfl _).trans ((A_eq m c 14).trans (V_main_arg7 m c)))⟩) (run_main m ρ)

end Cert.Gates
end
end
-- ==== Proof.GatesFinite.lean ====
module

public import proofs.«01_k».proof.Proof.GatesSpec
public import proofs.«01_k».proof.Pre_finite5

@[expose] public section
set_option maxRecDepth 16384

/-! The gates' backward: where the inputs are finite, the cotangents that meet the derivative of `silu` are reals. -/

noncomputable section
namespace Cert.Gates
open Idealize.ShloMosaic Idealize.ShloMosaic.TcCoe Idealize.ShloMosaic.Tactic Idealize.SL.Sem
open Idealize.ShloMosaic.ValueIdx

/-- What the predicate of finite inputs states of its shapes. -/
theorem pre_facts : Cert.Pre_finite5.Facts where
  bitsLt_bf16_f32 := by decide
  bcast_S_S4096x1024 := by decide
  reducesTo_S4096x1024_S_d0_1 := by decide
  h_S_ := by decide
  bcast_S_S1024x1024 := by decide
  reducesTo_S1024x1024_S_d0_1 := by decide
  bcast_S_S512x1024 := by decide
  reducesTo_S512x1024_S_d0_1 := by decide
  bcast_S_S4096x512 := by decide
  reducesTo_S4096x512_S_d0_1 := by decide
  bcast_S_S1x512 := by decide
  reducesTo_S1x512_S_d0_1 := by decide

instance : Subsingleton (Cert.Pre_finite5.S_).Idx := ⟨fun a b => funext fun i => i.elim0⟩

section
variable (D : FVec Ideal (⟨2, ![4096, 1024]⟩ : Shape) .bf16) (W : FVec Ideal (⟨2, ![1024, 1024]⟩ : Shape) .bf16)
  (WA WP : FVec Ideal (⟨2, ![512, 1024]⟩ : Shape) .bf16) (R : FVec Ideal (⟨2, ![4096, 3584]⟩ : Shape) .f32)
  (AT MP : FVec Ideal (⟨2, ![4096, 512]⟩ : Shape) .f32) (PS : FVec Ideal (⟨2, ![1, 512]⟩ : Shape) .f32)

/-- The inputs are reals, the projection aside. -/
structure Reals : Prop where
  D : ∀ y, Attn.IsReal (D y)
  W : ∀ y, Attn.IsReal (W y)
  WA : ∀ y, Attn.IsReal (WA y)
  WP : ∀ y, Attn.IsReal (WP y)
  AT : ∀ y, Attn.IsReal (AT y)
  MP : ∀ y, Attn.IsReal (MP y)
  PS : ∀ y, Attn.IsReal (PS y)

theorem reals_of [Cert.Pre_finite5.Facts] (h : Cert.Pre_finite5.fn (F := Ideal) D W WA WP R AT MP PS = fun _ => 1#1) : Reals D W WA WP AT MP PS := by
  have h := congrFun h (ix0)
  unfold Cert.Pre_finite5.fn Cert.Pre_finite5.fn_part1 Cert.Pre_finite5.fn_part2 at h
  dsimp only at h
  have split : ∀ (a b : IVec Cert.Pre_finite5.S_ 1) (i), andi a b i = 1#1 → a i = 1#1 ∧ b i = 1#1 :=
    fun a b i e => IntOp.andi_eq_one.mp e
  obtain ⟨h, e6⟩ := split _ _ _ h
  obtain ⟨h, e5⟩ := split _ _ _ h
  obtain ⟨h, e4⟩ := split _ _ _ h
  obtain ⟨h, e3⟩ := split _ _ _ h
  obtain ⟨h, e2⟩ := split _ _ _ h
  obtain ⟨e0, e1⟩ := split _ _ _ h
  refine ⟨fun y => ?_, fun y => ?_, fun y => ?_, fun y => ?_, fun y => ?_, fun y => ?_, fun y => ?_⟩
  · exact Attn.isReal_of_cmp (Host.reduce_andi_all _ _ _ _ _ e0 y)
  · exact Attn.isReal_of_cmp (Host.reduce_andi_all _ _ _ _ _ e1 y)
  · exact Attn.isReal_of_cmp (Host.reduce_andi_all _ _ _ _ _ e2 y)
  · exact Attn.isReal_of_cmp (Host.reduce_andi_all _ _ _ _ _ e3 y)
  · exact Attn.isReal_of_cmp (Host.reduce_andi_all _ _ _ _ _ e4 y)
  · exact Attn.isReal_of_cmp (Host.reduce_andi_all _ _ _ _ _ e5 y)
  · exact Attn.isReal_of_cmp (Host.reduce_andi_all _ _ _ _ _ e6 y)

/-- Products and sums of reals are reals. -/
theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

theorem real_sum {n : Nat} (f : Fin n → EReal) (h : ∀ k, ∃ r : ℝ, f k = r) : ∃ r : ℝ, ∑ k, f k = r := by
  choose g hg using h
  refine ⟨∑ k, g k, ?_⟩
  rw [Finset.sum_congr rfl fun k _ => hg k]
  induction n with
  | zero => simp
  | succ n ih =>
    rw [Fin.sum_univ_succ, Fin.sum_univ_succ, ih (fun k => f k.succ) (fun k => g k.succ) fun k => hg k.succ, EReal.coe_add]

theorem real_lin {n m : Nat} (x : Fin n → EReal) (w : Fin m → Fin n → EReal) (hx : ∀ k, ∃ r : ℝ, x k = r) (hw : ∀ j k, ∃ r : ℝ, w j k = r) (j : Fin m) :
    ∃ r : ℝ, ∑ k, x k * w j k = r := real_sum _ fun k => real_mul (hx k) (hw j k)

variable {D W WA WP AT MP PS}

theorem real_dm (H : Reals D W WA WP AT MP PS) (n : Fin 4096) (j : Fin 1024) : ∃ r : ℝ, gDm D W n j = r := by
  unfold gDm lin
  exact real_lin _ _ (fun k => ⟨_, H.D _⟩) (fun j k => ⟨_, H.W _⟩) j

/-- The cotangent of a branch's gated output is real. -/
theorem real_da (H : Reals D W WA WP AT MP PS) (w : FVec Ideal (⟨2, ![512, 1024]⟩ : Shape) .bf16) (hw : ∀ y, Attn.IsReal (w y)) (g : Fin 1024 → EReal)
    (n : Fin 4096) (d : Fin 512) : ∃ r : ℝ, da (gDm D W n) (matOf w) g d = r := by
  unfold da lin
  exact real_lin _ _ (fun k => by unfold dy; exact real_mul (real_dm H n k) (isReal_sg _)) (fun j k => ⟨_, hw _⟩) d

theorem real_yp (H : Reals D W WA WP AT MP PS) (n : Fin 4096) (d : Fin 512) : ∃ r : ℝ, gYp MP PS n d = r := by
  unfold gYp
  exact real_mul ⟨_, H.MP _⟩ ⟨_, H.PS _⟩
end
end Cert.Gates
end
end
-- ==== Proof.GatesRef.lean ====
module

public import proofs.«01_k».proof.Proof.GatesFinite
public import proofs.«01_k».proof.Proof.Gen.Reference5Ideal.Read

@[expose] public section
set_option maxRecDepth 16384

/-! The gates' backward: the stages of the reference, entry by entry, as the row functions of the specification. -/

noncomputable section
namespace Cert.Gates
open Idealize.ShloMosaic Idealize.ShloMosaic.TcCoe Idealize.SL.Sem Idealize.ShloMosaic.StableHlo
open Idealize.ShloMosaic.ValueIdx
open Cert.Reference5Ideal Cert.Reference5Ideal.Gen Cert.Reference5Ideal.Read

section
variable (D : FVec Ideal S4096x1024 .bf16) (W : FVec Ideal S1024x1024 .bf16) (WA WP : FVec Ideal S512x1024 .bf16)
  (R : FVec Ideal S4096x3584 .f32) (AT MP : FVec Ideal S4096x512 .f32) (PS : FVec Ideal S1x512 .f32)

/-- z of the attention. -/
theorem ref_v3 (n : Fin 4096) (d : Fin 512) : val_main_v3 (F := Ideal) R (ix2 n d) = gZa R n d := by
  rw [val_main_v3_apply]
  unfold gZa
  exact congrArg R (funext fun a => Fin.ext (match a with | ⟨0, _⟩ => rfl | ⟨1, _⟩ => rfl))

/-- z of the pooling branch. -/
theorem ref_v4 (n : Fin 4096) (d : Fin 512) : val_main_v4 (F := Ideal) R (ix2 n d) = gZp R n d := by
  rw [val_main_v4_apply]
  unfold gZp
  exact congrArg R (funext fun a => Fin.ext (match a with | ⟨0, _⟩ => rfl | ⟨1, _⟩ => rfl))

/-- The attention's gate. -/
theorem ref_v5 (n : Fin 4096) (j : Fin 1024) : val_main_v5 (F := Ideal) R (ix2 n j) = gGa R n j := by
  rw [val_main_v5_apply]
  unfold gGa
  exact congrArg R (funext fun a => Fin.ext (match a with | ⟨0, _⟩ => rfl | ⟨1, _⟩ => rfl))

/-- The pooling branch's gate. -/
theorem ref_v6 (n : Fin 4096) (j : Fin 1024) : val_main_v6 (F := Ideal) R (ix2 n j) = gGp R n j := by
  rw [val_main_v6_apply]
  unfold gGp
  exact congrArg R (funext fun a => Fin.ext (match a with | ⟨0, _⟩ => rfl | ⟨1, _⟩ => rfl))

/-- The sigmoid of z of the attention. -/
theorem ref_v7_2 (n : Fin 4096) (d : Fin 512) : val_main_v7_2 (F := Ideal) R (ix2 n d) = sg (gZa R n d) := by
  rw [← div_form, ← ref_v3]
  rfl

/-- The sigmoid of z of the pooling branch. -/
theorem ref_v12_2 (n : Fin 4096) (d : Fin 512) : val_main_v12_2 (F := Ideal) R (ix2 n d) = sg (gZp R n d) := by
  rw [← div_form, ← ref_v4]
  rfl

/-- The sigmoid of the attention's gate. -/
theorem ref_v20 (n : Fin 4096) (j : Fin 1024) : val_main_v20 (F := Ideal) R (ix2 n j) = sg (gGa R n j) := by
  rw [← div_form, ← ref_v5]
  rfl

/-- The sigmoid of the pooling branch's gate. -/
theorem ref_v30 (n : Fin 4096) (j : Fin 1024) : val_main_v30 (F := Ideal) R (ix2 n j) = sg (gGp R n j) := by
  rw [← div_form, ← ref_v6]
  rfl

/-- The sigmoid's derivative at z of the attention. -/
theorem ref_v7_1 (n : Fin 4096) (d : Fin 512) : val_main_v7_1 (F := Ideal) R (ix2 n d) = sg (gZa R n d) * (wOne - sg (gZa R n d)) := by
  rw [← ref_v7_2]
  rfl

/-- The sigmoid's derivative at z of the pooling branch. -/
theorem ref_v12_1 (n : Fin 4096) (d : Fin 512) : val_main_v12_1 (F := Ideal) R (ix2 n d) = sg (gZp R n d) * (wOne - sg (gZp R n d)) := by
  rw [← ref_v12_2]
  rfl

/-- The sigmoid's derivative at the attention's gate. -/
theorem ref_v23 (n : Fin 4096) (j : Fin 1024) : val_main_v23 (F := Ideal) R (ix2 n j) = sg (gGa R n j) * (wOne - sg (gGa R n j)) := by
  rw [← ref_v20]
  rfl

/-- The sigmoid's derivative at the pooling branch's gate. -/
theorem ref_v33 (n : Fin 4096) (j : Fin 1024) : val_main_v33 (F := Ideal) R (ix2 n j) = sg (gGp R n j) * (wOne - sg (gGp R n j)) := by
  rw [← ref_v30]
  rfl

/-- `silu`. -/
theorem ref_v7_0 (n : Fin 4096) (d : Fin 512) : val_main_v7_0 (F := Ideal) R (ix2 n d) = gZa R n d * sg (gZa R n d) := by
  rw [← ref_v7_2, ← ref_v3]
  rfl

/-- `silu`. -/
theorem ref_v12_0 (n : Fin 4096) (d : Fin 512) : val_main_v12_0 (F := Ideal) R (ix2 n d) = gZp R n d * sg (gZp R n d) := by
  rw [← ref_v12_2, ← ref_v4]
  rfl

/-- The attention's branch. -/
theorem ref_v8 (n : Fin 4096) (d : Fin 512) : val_main_v8 (F := Ideal) R AT (ix2 n d) = act (rowOf AT n) (gZa R n) d := by
  unfold act
  rw [← ref_v7_0]
  rfl

/-- The pooling branch's scale. -/
theorem ref_v10 (n : Fin 4096) (d : Fin 512) : val_main_v10 (F := Ideal) PS (ix2 n d) = PS (ix2 (0 : Fin 1) d) := by
  rw [val_main_v10_apply]
  exact congrArg PS (funext fun a => Fin.ext (match a with | ⟨0, _⟩ => rfl | ⟨1, _⟩ => rfl))

/-- The pooling branch's scale, as the backward takes it. -/
theorem ref_v54 (n : Fin 4096) (d : Fin 512) : val_main_v54 (F := Ideal) PS (ix2 n d) = PS (ix2 (0 : Fin 1) d) := by
  rw [val_main_v54_apply]
  exact congrArg PS (funext fun a => Fin.ext (match a with | ⟨0, _⟩ => rfl | ⟨1, _⟩ => rfl))

/-- The pooling branch's output. -/
theorem ref_v11 (n : Fin 4096) (d : Fin 512) : val_main_v11 (F := Ideal) MP PS (ix2 n d) = gYp MP PS n d := by
  unfold gYp
  rw [← ref_v10 PS n d]
  rfl

/-- The pooling branch. -/
theorem ref_v13 (n : Fin 4096) (d : Fin 512) : val_main_v13 (F := Ideal) R MP PS (ix2 n d) = act (gYp MP PS n) (gZp R n) d := by
  unfold act
  rw [← ref_v12_0, ← ref_v11]
  rfl

/-- The attention's branch through its weights. -/
theorem ref_v9 (n : Fin 4096) (j : Fin 1024) : val_main_v9 (F := Ideal) WA R AT (ix2 n j) = mix (act (rowOf AT n) (gZa R n)) (matOf WA) j := by
  rw [val_main_v9_apply]
  unfold mix
  refine Finset.sum_congr rfl fun k _ => ?_
  have el : lidx_main_v9 (ix2 n j) k = ix2 n k := funext fun a => Fin.ext (match a with | ⟨0, _⟩ => rfl | ⟨1, _⟩ => rfl)
  have er : ridx_main_v9 (ix2 n j) k = ix2 k j := funext fun a => Fin.ext (match a with | ⟨0, _⟩ => rfl | ⟨1, _⟩ => rfl)
  rw [el, er]
  rw [ref_v8]; rfl

/-- The pooling branch through its weights. -/
theorem ref_v14 (n : Fin 4096) (j : Fin 1024) : val_main_v14 (F := Ideal) WP R MP PS (ix2 n j) = mix (act (gYp MP PS n) (gZp R n)) (matOf WP) j := by
  rw [val_main_v14_apply]
  unfold mix
  refine Finset.sum_congr rfl fun k _ => ?_
  have el : lidx_main_v14 (ix2 n j) k = ix2 n k := funext fun a => Fin.ext (match a with | ⟨0, _⟩ => rfl | ⟨1, _⟩ => rfl)
  have er : ridx_main_v14 (ix2 n j) k = ix2 k j := funext fun a => Fin.ext (match a with | ⟨0, _⟩ => rfl | ⟨1, _⟩ => rfl)
  rw [el, er]
  rw [ref_v13]; rfl

/-- The cotangent of the mixture. -/
theorem ref_v38 (n : Fin 4096) (j : Fin 1024) : val_main_v38 (F := Ideal) D W (ix2 n j) = gDm D W n j := by
  rw [val_main_v38_apply]
  unfold gDm lin
  refine Finset.sum_congr rfl fun k _ => ?_
  have el : lidx_main_v38 (ix2 n j) k = ix2 n k := funext fun a => Fin.ext (match a with | ⟨0, _⟩ => rfl | ⟨1, _⟩ => rfl)
  have er : ridx_main_v38 (ix2 n j) k = ix2 j k := funext fun a => Fin.ext (match a with | ⟨0, _⟩ => rfl | ⟨1, _⟩ => rfl)
  rw [el, er]
  rfl

/-- The cotangent of the attention's branch's product. -/
theorem ref_v42 (n : Fin 4096) (j : Fin 1024) : val_main_v42 (F := Ideal) D W R (ix2 n j) = dy (gDm D W n) (gGa R n) j := by
  unfold dy
  rw [← ref_v20, ← ref_v38]
  exact mul_comm _ _

/-- The cotangent of the pooling branch's product. -/
theorem ref_v39 (n : Fin 4096) (j : Fin 1024) : val_main_v39 (F := Ideal) D W R (ix2 n j) = dy (gDm D W n) (gGp R n) j := by
  unfold dy
  rw [← ref_v30, ← ref_v38]
  exact mul_comm _ _

/-- The cotangent of the attention's branch. -/
theorem ref_v58 (n : Fin 4096) (d : Fin 512) : val_main_v58 (F := Ideal) D W WA R (ix2 n d) = da (gDm D W n) (matOf WA) (gGa R n) d := by
  rw [val_main_v58_apply]
  unfold da lin
  refine Finset.sum_congr rfl fun k _ => ?_
  have el : lidx_main_v58 (ix2 n d) k = ix2 n k := funext fun a => Fin.ext (match a with | ⟨0, _⟩ => rfl | ⟨1, _⟩ => rfl)
  have er : ridx_main_v58 (ix2 n d) k = ix2 d k := funext fun a => Fin.ext (match a with | ⟨0, _⟩ => rfl | ⟨1, _⟩ => rfl)
  rw [el, er]
  rw [ref_v42]; rfl

/-- The cotangent of the pooling branch. -/
theorem ref_v47 (n : Fin 4096) (d : Fin 512) : val_main_v47 (F := Ideal) D W WP R (ix2 n d) = da (gDm D W n) (matOf WP) (gGp R n) d := by
  rw [val_main_v47_apply]
  unfold da lin
  refine Finset.sum_congr rfl fun k _ => ?_
  have el : lidx_main_v47 (ix2 n d) k = ix2 n k := funext fun a => Fin.ext (match a with | ⟨0, _⟩ => rfl | ⟨1, _⟩ => rfl)
  have er : ridx_main_v47 (ix2 n d) k = ix2 d k := funext fun a => Fin.ext (match a with | ⟨0, _⟩ => rfl | ⟨1, _⟩ => rfl)
  rw [el, er]
  rw [ref_v39]; rfl

/-- The cotangent of the branch's output. -/
theorem ref_v60 (n : Fin 4096) (d : Fin 512) : val_main_v60 (F := Ideal) D W WA R (ix2 n d) = gDattn D W WA R n d := by
  unfold gDattn dbr
  rw [← ref_v58, ← ref_v7_0]
  rfl

/-- The cotangent of the branch's output. -/
theorem ref_v49 (n : Fin 4096) (d : Fin 512) : val_main_v49 (F := Ideal) D W WP R (ix2 n d) = gDmx D W WP R n d := by
  unfold gDmx dbr
  rw [← ref_v47, ← ref_v12_0]
  rfl

/-- The cotangent of the gate. -/
theorem ref_v44 (n : Fin 4096) (j : Fin 1024) : val_main_v44 (F := Ideal) D W WA R AT (ix2 n j) = dgate (gDm D W n) (matOf WA) (act (rowOf AT n) (gZa R n)) (gGa R n) j := by
  unfold dgate
  rw [mul_assoc, ← ref_v23, ← ref_v9, ← ref_v38]
  rfl

/-- The cotangent of the gate. -/
theorem ref_v41 (n : Fin 4096) (j : Fin 1024) : val_main_v41 (F := Ideal) D W WP R MP PS (ix2 n j) = dgate (gDm D W n) (matOf WP) (act (gYp MP PS n) (gZp R n)) (gGp R n) j := by
  unfold dgate
  rw [mul_assoc, ← ref_v33, ← ref_v14, ← ref_v38]
  rfl

/-- The cotangent of z, where the branch's cotangent is real. -/
theorem ref_v61 (H : Reals D W WA WP AT MP PS) (n : Fin 4096) (d : Fin 512) :
    val_main_v61 (F := Ideal) D W WA R AT (ix2 n d) = dz (gDm D W n) (matOf WA) (rowOf AT n) (gZa R n) (gGa R n) d := by
  unfold dz
  rw [silu_form _ _ (real_mul (real_da H WA H.WA (gGa R n) n d) ⟨_, H.AT _⟩)]
  show (AT (ix2 n d) * val_main_v58 (F := Ideal) D W WA R (ix2 n d)) * val_main_v7_2 (F := Ideal) R (ix2 n d)
    + (val_main_v3 (F := Ideal) R (ix2 n d) * (AT (ix2 n d) * val_main_v58 (F := Ideal) D W WA R (ix2 n d))) * val_main_v7_1 (F := Ideal) R (ix2 n d) = _
  rw [ref_v7_2, ref_v7_1, ref_v3, ref_v58, mul_comm (AT (ix2 n d))]

/-- The cotangent of z, where the branch's cotangent is real. -/
theorem ref_v50 (H : Reals D W WA WP AT MP PS) (n : Fin 4096) (d : Fin 512) :
    val_main_v50 (F := Ideal) D W WP R MP PS (ix2 n d) = dz (gDm D W n) (matOf WP) (gYp MP PS n) (gZp R n) (gGp R n) d := by
  unfold dz
  rw [silu_form _ _ (real_mul (real_da H WP H.WP (gGp R n) n d) (real_yp H n d))]
  show (val_main_v11 (F := Ideal) MP PS (ix2 n d) * val_main_v47 (F := Ideal) D W WP R (ix2 n d)) * val_main_v12_2 (F := Ideal) R (ix2 n d)
    + (val_main_v4 (F := Ideal) R (ix2 n d) * (val_main_v11 (F := Ideal) MP PS (ix2 n d) * val_main_v47 (F := Ideal) D W WP R (ix2 n d))) * val_main_v12_1 (F := Ideal) R (ix2 n d) = _
  rw [ref_v12_2, ref_v12_1, ref_v4, ref_v47, ref_v11, mul_comm (gYp MP PS n d)]

/-- The cotangents of the projection's columns, in their order. -/
theorem ref_v69 (H : Reals D W WA WP AT MP PS) (n : Fin 4096) (k : Fin 3072) :
    val_main_v69 (F := Ideal) D W WA WP R AT MP PS (ix2 n k) = gDr D W WA WP R AT MP PS n k := by
  show val_main_v68 (F := Ideal) D W WA WP R AT MP PS (ix2 n k) = _
  unfold val_main_v68 gDr drRow
  by_cases h1 : k.val < 512
  · rw [dif_pos h1]
    refine (concatenate_apply_piece (1 : Fin 2) [⟨S4096x512, val_main_v61 (F := Ideal) D W WA R AT⟩, ⟨S4096x512, val_main_v50 (F := Ideal) D W WP R MP PS⟩, ⟨S4096x1024, val_main_v44 (F := Ideal) D W WA R AT⟩, ⟨S4096x1024, val_main_v41 (F := Ideal) D W WP R MP PS⟩] _ (ix2 n k) 0 (by show _ < 4; decide) S4096x512 (val_main_v61 (F := Ideal) D W WA R AT) rfl rfl 0 (by rfl) (ix2 n (⟨k.val, h1⟩ : Fin 512)) (fun b hb => ?_) ?_).trans ?_
    · match b, hb with
      | ⟨0, _⟩, _ => rfl
      | ⟨1, _⟩, hb => exact absurd rfl hb
    · show 0 + k.val = k.val; omega
    · exact ref_v61 D W WA WP R AT MP PS H n _
  · rw [dif_neg h1]
    by_cases h2 : k.val < 1024
    · rw [dif_pos h2]
      refine (concatenate_apply_piece (1 : Fin 2) _ _ (ix2 n k) 1 (by show _ < 4; decide) S4096x512 (val_main_v50 (F := Ideal) D W WP R MP PS) rfl rfl 512 (by rfl) (ix2 n (⟨k.val - 512, by omega⟩ : Fin 512)) (fun b hb => ?_) ?_).trans ?_
      · match b, hb with
        | ⟨0, _⟩, _ => rfl
        | ⟨1, _⟩, hb => exact absurd rfl hb
      · show 512 + (k.val - 512) = k.val; omega
      · exact ref_v50 D W WA WP R AT MP PS H n _
    · rw [dif_neg h2]
      by_cases h3 : k.val < 2048
      · rw [dif_pos h3]
        refine (concatenate_apply_piece (1 : Fin 2) _ _ (ix2 n k) 2 (by show _ < 4; decide) S4096x1024 (val_main_v44 (F := Ideal) D W WA R AT) rfl rfl 1024 (by rfl) (ix2 n (⟨k.val - 1024, by omega⟩ : Fin 1024)) (fun b hb => ?_) ?_).trans ?_
        · match b, hb with
          | ⟨0, _⟩, _ => rfl
          | ⟨1, _⟩, hb => exact absurd rfl hb
        · show 1024 + (k.val - 1024) = k.val; omega
        · exact ref_v44 D W WA R AT n _
      · rw [dif_neg h3]
        refine (concatenate_apply_piece (1 : Fin 2) _ _ (ix2 n k) 3 (by show _ < 4; decide) S4096x1024 (val_main_v41 (F := Ideal) D W WP R MP PS) rfl rfl 2048 (by rfl) (ix2 n (⟨k.val - 2048, by omega⟩ : Fin 1024)) (fun b hb => ?_) ?_).trans ?_
        · match b, hb with
          | ⟨0, _⟩, _ => rfl
          | ⟨1, _⟩, hb => exact absurd rfl hb
        · show 2048 + (k.val - 2048) = k.val; omega
        · exact ref_v41 D W WP R MP PS n _

/-- The gradient of the branch's weights. -/
theorem ref_v57 (y : S512x1024.Idx) : val_main_v57 (F := Ideal) D W R AT y = sDwa D W R AT y := by
  rw [val_main_v57_apply, val_main_v56_apply]
  unfold sDwa
  refine Finset.sum_congr rfl fun k _ => ?_
  have el : lidx_main_v56 (idx_main_v57 y) k = ix2 k (⟨(y 1).val, (y 1).isLt⟩ : Fin 1024) := funext fun a => Fin.ext (match a with | ⟨0, _⟩ => rfl | ⟨1, _⟩ => rfl)
  have er : ridx_main_v56 (idx_main_v57 y) k = ix2 k (⟨(y 0).val, (y 0).isLt⟩ : Fin 512) := funext fun a => Fin.ext (match a with | ⟨0, _⟩ => rfl | ⟨1, _⟩ => rfl)
  rw [el, er, ref_v42, ref_v8]
  exact mul_comm _ _

/-- The gradient of the branch's weights. -/
theorem ref_v46 (y : S512x1024.Idx) : val_main_v46 (F := Ideal) D W R MP PS y = sDwp D W R MP PS y := by
  rw [val_main_v46_apply, val_main_v45_apply]
  unfold sDwp
  refine Finset.sum_congr rfl fun k _ => ?_
  have el : lidx_main_v45 (idx_main_v46 y) k = ix2 k (⟨(y 1).val, (y 1).isLt⟩ : Fin 1024) := funext fun a => Fin.ext (match a with | ⟨0, _⟩ => rfl | ⟨1, _⟩ => rfl)
  have er : ridx_main_v45 (idx_main_v46 y) k = ix2 k (⟨(y 0).val, (y 0).isLt⟩ : Fin 512) := funext fun a => Fin.ext (match a with | ⟨0, _⟩ => rfl | ⟨1, _⟩ => rfl)
  rw [el, er, ref_v39, ref_v13]
  exact mul_comm _ _

/-- The gradient of the pooling branch's scale. -/
theorem ref_v53 (y : S1x512.Idx) : val_main_v53 (F := Ideal) D W WP R MP y = sDps D W WP R MP y := by
  rw [val_main_v53_apply, val_main_v52_apply]
  unfold sDps
  show Ideal.ofBits .f32 0x00000000#32 + _ = _
  rw [Ideal.ofBits_zero_f32, zero_add]
  refine Finset.sum_congr rfl fun k _ => ?_
  have e : idx_main_v52 (idx_main_v53 y) k = ix2 k (⟨(y 1).val, (y 1).isLt⟩ : Fin 512) := funext fun a => Fin.ext (by
    have h0 : (y 0).val < 1 := (y 0).isLt
    match a with
    | ⟨0, _⟩ => rfl
    | ⟨1, _⟩ => show (y 0).val * 512 + (y 1).val = (y 1).val; omega)
  rw [e]
  show MP _ * val_main_v49 (F := Ideal) D W WP R _ = _
  rw [ref_v49]
  exact mul_comm _ _

/-- The attention's cotangent, cast. -/
theorem ref_v70 (n : Fin 4096) (d : Fin 512) : val_main_v70 (F := Ideal) D W WA R (ix2 n d) = gDattn D W WA R n d :=
  ref_v60 D W WA R n d

/-- The pool's cotangent. -/
theorem ref_v71 (n : Fin 4096) (d : Fin 512) : val_main_v71 (F := Ideal) D W WP R PS (ix2 n d) = gDmp D W WP R PS n d := by
  unfold gDmp
  rw [← ref_v49, ← ref_v54 PS n d]
  rfl

/-- The attention's cotangent against its output, summed over the head. -/
theorem ref_v67 (n : Fin 4096) (d : Fin 512) : val_main_v67 (F := Ideal) D W WA R AT (ix2 n d) = gDelta D W WA R AT n d := by
  rw [val_main_v67_apply, val_main_v66_apply, val_main_v65_apply, val_main_v64_apply]
  unfold gDelta headSum
  show Ideal.ofBits .f32 0x00000000#32 + _ = _
  rw [Ideal.ofBits_zero_f32, zero_add]
  refine Finset.sum_congr rfl fun k _ => ?_
  rw [val_main_v63_apply]
  have e : idx_main_v63 (idx_main_v64 (idx_main_v65 (idx_main_v66 (idx_main_v67 (ix2 n d)))) k) = ix2 n (headCol d k) := funext fun a => Fin.ext (by
    have hd : d.val < 512 := d.isLt
    have hk : k.val < 64 := k.isLt
    match a with
    | ⟨0, _⟩ =>
      show (((n.val * 512 + d.val) / 512 * 8 + (n.val * 512 + d.val) / 64 % 8) * 64 + k.val) / 512 = n.val
      omega
    | ⟨1, _⟩ =>
      show (((n.val * 512 + d.val) / 512 * 8 + (n.val * 512 + d.val) / 64 % 8) * 64 + k.val) % 512 = 64 * (d.val / 64) + k.val
      omega)
  rw [e]
  show val_main_v60 (F := Ideal) D W WA R _ * AT _ = _
  rw [ref_v60]
end
end Cert.Gates
end
end
-- ==== Proof.GatesResult.lean ====
module

public import proofs.«01_k».proof.Defs
public import proofs.«01_k».proof.Proof.GatesRun
public import proofs.«01_k».proof.Proof.GatesRef
public import proofs.«01_k».proof.Proof.Gen.Reference5Ideal.Run

@[expose] public section
set_option maxRecDepth 16384

/-! The claims about the gates' backward. -/

noncomputable section
namespace Cert.Gates
open Idealize.ShloMosaic Idealize.ShloMosaic.TcCoe Idealize.ShloMosaic.Tactic Idealize.SL.Sem Idealize.ShloMosaic.StableHlo
open Idealize.ShloMosaic.ValueIdx
open Cert.Reference5Ideal.Read

/-- The reference runs, keeps its arguments and declares no semaphore. -/
theorem reference_frame : Cert.quiescent_Reference5Ideal := by
  intro m g _
  exact (θ_run Cert.Reference5Ideal.defs _ _).mono (fun r h => ⟨fun c => (h c).2.2.2.2.2.2.2,
    Idealize.ShloMosaic.sem_eq_zero_of_no_sems (by decide) r.2⟩) (Cert.Reference5Ideal.Value.run (F := Ideal) m g)

section
open Cert.Kernel5Ideal Cert.Kernel5Ideal.Gen
variable (m : (ℓ : Loc nD τ sig) → Buf (Elt Ideal) ℓ) (c : Dev nD)

/-- The gradient of the attention branch's weights. -/
theorem equal_dwa : ((dats m 0 c).arrAt 15 cfg0.N : FVec Ideal S512x1024 .f32) = val_main_v57 (F := Ideal) (aD m c) (aW m c) (aR m c) (aAT m c) :=
  (final_dwa m c).trans (funext fun y => (ref_v57 (aD m c) (aW m c) (aR m c) (aAT m c) y).symm)

/-- The gradient of the pooling branch's weights. -/
theorem equal_dwp : ((dats m 0 c).arrAt 16 cfg0.N : FVec Ideal S512x1024 .f32) = val_main_v46 (F := Ideal) (aD m c) (aW m c) (aR m c) (aMP m c) (aPS m c) :=
  (final_dwp m c).trans (funext fun y => (ref_v46 (aD m c) (aW m c) (aR m c) (aMP m c) (aPS m c) y).symm)

/-- The gradient of the pooling branch's scale. -/
theorem equal_dps : ((dats m 0 c).arrAt 21 cfg0.N : FVec Ideal S1x512 .f32) = val_main_v53 (F := Ideal) (aD m c) (aW m c) (aWP m c) (aR m c) (aMP m c) :=
  (final_dps m c).trans (funext fun y => (ref_v53 (aD m c) (aW m c) (aWP m c) (aR m c) (aMP m c) y).symm)

/-- The cotangents of the projection's columns. -/
theorem equal_dr (H : Reals (aD m c) (aW m c) (aWA m c) (aWP m c) (aAT m c) (aMP m c) (aPS m c)) :
    resDr m c = val_main_v69 (F := Ideal) (aD m c) (aW m c) (aWA m c) (aWP m c) (aR m c) (aAT m c) (aMP m c) (aPS m c) := by
  refine vec2 (φ := .bf16) fun n x => ?_
  rw [ref_v69 _ _ _ _ _ _ _ _ H n x]
  exact (extractStridedSlice_apply ![0, 0] ((dats m 0 c).arrAt 17 cfg0.N : FVec Ideal S4096x3584 .bf16) slices_S4096x3584_S4096x3072_0_0 (ix2 n x) (ix2 n (⟨x.val, by omega⟩ : Fin 3584)) (fun a => match a with
    | ⟨0, _⟩ => (Nat.zero_add _).symm
    | ⟨1, _⟩ => (Nat.zero_add _).symm)).trans (final_dr' m c n x)

/-- The attention's cotangent. -/
theorem equal_dattn : ((dats m 0 c).arrAt 18 cfg0.N : FVec Ideal S4096x512 .bf16) = val_main_v70 (F := Ideal) (aD m c) (aW m c) (aWA m c) (aR m c) :=
  vec2 (φ := .bf16) fun n x => (final_dattn' m c n x).trans (ref_v70 (aD m c) (aW m c) (aWA m c) (aR m c) n x).symm

/-- The attention's cotangent against its output, summed over each head. -/
theorem equal_delta : ((dats m 0 c).arrAt 19 cfg0.N : FVec Ideal S4096x512 .f32) = val_main_v67 (F := Ideal) (aD m c) (aW m c) (aWA m c) (aR m c) (aAT m c) :=
  vec2 (φ := .f32) fun n x => (final_delta' m c n x).trans (ref_v67 (aD m c) (aW m c) (aWA m c) (aR m c) (aAT m c) n x).symm

/-- The pool's cotangent. -/
theorem equal_dmp : ((dats m 0 c).arrAt 20 cfg0.N : FVec Ideal S4096x512 .bf16) = val_main_v71 (F := Ideal) (aD m c) (aW m c) (aWP m c) (aR m c) (aPS m c) :=
  vec2 (φ := .bf16) fun n x => (final_dmp' m c n x).trans (ref_v71 (aD m c) (aW m c) (aWP m c) (aR m c) (aPS m c) n x).symm
end

set_option maxHeartbeats 4000000 in
/-- The kernel's seven results are the reference's, where the inputs are finite. -/
theorem algebraic (hP : Cert.Pre_finite5.Facts) : Cert.algebraic_Kernel5Ideal_Reference5Ideal_pre_finite5 (hPre_finite5 := hP) := by
  intro m g m' g' hpre hagree
  refine ⟨fun c => (Cert.Kernel5Ideal.Gen.dats m 0 c).arrAt 15 Cert.Kernel5Ideal.cfg0.N, fun c => (Cert.Kernel5Ideal.Gen.dats m 0 c).arrAt 16 Cert.Kernel5Ideal.cfg0.N,
    fun c => resDr m c, fun c => (Cert.Kernel5Ideal.Gen.dats m 0 c).arrAt 18 Cert.Kernel5Ideal.cfg0.N, fun c => (Cert.Kernel5Ideal.Gen.dats m 0 c).arrAt 19 Cert.Kernel5Ideal.cfg0.N,
    fun c => (Cert.Kernel5Ideal.Gen.dats m 0 c).arrAt 20 Cert.Kernel5Ideal.cfg0.N, fun c => (Cert.Kernel5Ideal.Gen.dats m 0 c).arrAt 21 Cert.Kernel5Ideal.cfg0.N,
    run m g, (θ_run Cert.Reference5Ideal.defs _ _).mono (fun r h c => ?_) (Cert.Reference5Ideal.Value.run (F := Ideal) m' g')⟩
  have hp : Cert.Pre_finite5.fn (F := Ideal) (aD m c) (aW m c) (aWA m c) (aWP m c) (aR m c) (aAT m c) (aMP m c) (aPS m c) = fun _ => 1#1 := by
    unfold aD aW aWA aWP aR aAT aMP aPS
    rw [Cert.Kernel5Ideal.Gen.V_main_arg0 m c, Cert.Kernel5Ideal.Gen.V_main_arg1 m c, Cert.Kernel5Ideal.Gen.V_main_arg2 m c, Cert.Kernel5Ideal.Gen.V_main_arg3 m c,
      Cert.Kernel5Ideal.Gen.V_main_arg4 m c, Cert.Kernel5Ideal.Gen.V_main_arg5 m c, Cert.Kernel5Ideal.Gen.V_main_arg6 m c, Cert.Kernel5Ideal.Gen.V_main_arg7 m c]
    exact hpre c
  have H := reals_of _ _ _ _ _ _ _ _ hp
  obtain ⟨a0, a1, a2, a3, a4, a5, a6, a7⟩ := hagree c
  have b0 : m' ((c.tc : Thread Cert.Reference5Ideal.nD Cert.Reference5Ideal.τ).loc Cert.Reference5Ideal.main_arg0) = aD m c := a0.trans (Cert.Kernel5Ideal.Gen.V_main_arg0 m c).symm
  have b1 : m' ((c.tc : Thread Cert.Reference5Ideal.nD Cert.Reference5Ideal.τ).loc Cert.Reference5Ideal.main_arg1) = aW m c := a1.trans (Cert.Kernel5Ideal.Gen.V_main_arg1 m c).symm
  have b2 : m' ((c.tc : Thread Cert.Reference5Ideal.nD Cert.Reference5Ideal.τ).loc Cert.Reference5Ideal.main_arg2) = aWA m c := a2.trans (Cert.Kernel5Ideal.Gen.V_main_arg2 m c).symm
  have b3 : m' ((c.tc : Thread Cert.Reference5Ideal.nD Cert.Reference5Ideal.τ).loc Cert.Reference5Ideal.main_arg3) = aWP m c := a3.trans (Cert.Kernel5Ideal.Gen.V_main_arg3 m c).symm
  have b4 : m' ((c.tc : Thread Cert.Reference5Ideal.nD Cert.Reference5Ideal.τ).loc Cert.Reference5Ideal.main_arg4) = aR m c := a4.trans (Cert.Kernel5Ideal.Gen.V_main_arg4 m c).symm
  have b5 : m' ((c.tc : Thread Cert.Reference5Ideal.nD Cert.Reference5Ideal.τ).loc Cert.Reference5Ideal.main_arg5) = aAT m c := a5.trans (Cert.Kernel5Ideal.Gen.V_main_arg5 m c).symm
  have b6 : m' ((c.tc : Thread Cert.Reference5Ideal.nD Cert.Reference5Ideal.τ).loc Cert.Reference5Ideal.main_arg6) = aMP m c := a6.trans (Cert.Kernel5Ideal.Gen.V_main_arg6 m c).symm
  have b7 : m' ((c.tc : Thread Cert.Reference5Ideal.nD Cert.Reference5Ideal.τ).loc Cert.Reference5Ideal.main_arg7) = aPS m c := a7.trans (Cert.Kernel5Ideal.Gen.V_main_arg7 m c).symm
  have f0 := (h c).1.trans (val_main_v57_eq (F := Ideal) _ _ _ _)
  have f1 := (h c).2.1.trans (val_main_v46_eq (F := Ideal) _ _ _ _ _)
  have f2 := (h c).2.2.1.trans (val_main_v69_eq (F := Ideal) m' c)
  have f3 := (h c).2.2.2.1.trans (val_main_v70_eq (F := Ideal) _ _ _ _)
  have f4 := (h c).2.2.2.2.1.trans (val_main_v67_eq (F := Ideal) _ _ _ _ _)
  have f5 := (h c).2.2.2.2.2.1.trans (val_main_v71_eq (F := Ideal) _ _ _ _ _)
  have f6 := (h c).2.2.2.2.2.2.1.trans (val_main_v53_eq (F := Ideal) _ _ _ _ _)
  rw [b0, b1, b4, b5] at f0
  rw [b0, b1, b4, b6, b7] at f1
  rw [b0, b1, b2, b3, b4, b5, b6, b7] at f2
  rw [b0, b1, b2, b4] at f3
  rw [b0, b1, b2, b4, b5] at f4
  rw [b0, b1, b3, b4, b7] at f5
  rw [b0, b1, b3, b4, b6] at f6
  exact ⟨f0.trans (equal_dwa m c).symm, f1.trans (equal_dwp m c).symm, f2.trans (equal_dr m c H).symm, f3.trans (equal_dattn m c).symm,
    f4.trans (equal_delta m c).symm, f5.trans (equal_dmp m c).symm, f6.trans (equal_dps m c).symm, (h c).2.2.2.2.2.2.2⟩

end Cert.Gates
end
end
-- ==== Proof.NormBlock.lean ====
module

public import proofs.«01_k».proof.Proof.DhPay
public import proofs.«01_k».proof.Proof.Gen.Kernel6Ideal.Value
public import proofs.«01_k».proof.Proof.Gen.Reference6Ideal.Read
public import Idealize.ShloMosaic.Lib.ValueLayout
public import Idealize.ShloMosaic.Lib.WordCmp

@[expose] public section
set_option maxRecDepth 16384

/-! The norm before the input projection: what the array of normed and modulated tokens holds at every index. A grid point takes 256
tokens and multiplies them by a matrix of zeros and ones, which brings the tokens of one residue together. -/

noncomputable section
namespace Cert.Norm
open Idealize.ShloMosaic Idealize.ShloMosaic.TcCoe Idealize.ShloMosaic.Tactic Idealize.SL.Sem
open Idealize.ShloMosaic.ValueIdx
open Cert.Dh (inv msq wOne wCols wEps rowSums row_sum col_all row_all)

/-- Token `n`, normed and modulated, at column `c`: gain `g`, shift `s`, scale `t`. -/
def hid {r : Nat} (x : (⟨2, ![r, 1024]⟩ : Shape).Idx → EReal) (g s t : (⟨2, ![1, 1024]⟩ : Shape).Idx → EReal) (n : Fin r) (c : Fin 1024) : EReal :=
  x (ix2 n c) * inv (fun k => x (ix2 n k)) * (g (ix2 (0 : Fin 1) c) * (wOne + t (ix2 (0 : Fin 1) c))) + s (ix2 (0 : Fin 1) c)

section Block
open Cert.Kernel6Ideal Cert.Kernel6Ideal.Gen
variable (x0 : FVec Ideal S256x1024 .f32) (x1 x2 x3 : FVec Ideal S1x1024 .f32)

/-- The inverse roots of the tokens' mean squares, as a column. -/
def roots : FVec Ideal S256x1 .f32 :=
  rsqrt (addf (divf (rowSums (mulf x0 x0)) (broadcast S256x1 (Scalar.ofBits (F := Ideal) .f32 0x44800000#32))) (broadcast S256x1 (Scalar.ofBits (F := Ideal) .f32 0x358637BD#32)))

/-- The tokens in their own order. -/
def toks : FVec Ideal S256x1024 .f32 :=
  addf (mulf (mulf x0 (broadcastTo S256x1024 (roots x0) broadcasts_S256x1_S256x1024))
    (broadcastTo S256x1024 (mulf x1 (addf (broadcast S1x1024 (Scalar.ofBits (F := Ideal) .f32 0x3F800000#32)) x3)) broadcasts_S1x1024_S256x1024))
    (broadcastTo S256x1024 x2 broadcasts_S1x1024_S256x1024)

theorem roots_apply (p : Fin 256) : roots x0 (ix2 p (0 : Fin 1)) = inv (fun k => x0 (ix2 p k)) := by
  unfold roots Cert.Dh.inv msq
  show Ideal.rsqrt (Ideal.div (rowSums (mulf x0 x0) (ix2 p (0 : Fin 1))) wCols + wEps) = _
  rw [row_sum]
  rfl

theorem toks_apply (p : Fin 256) (c : Fin 1024) : toks x0 x1 x2 x3 (ix2 p c) = hid x0 x1 x2 x3 p c := by
  unfold toks hid
  refine congrArg₂ (fun a b : EReal => a + b) (congrArg₂ (fun a b : EReal => a * b) (congrArg₂ (fun a b : EReal => a * b) rfl
    ((col_all _ p c).trans (roots_apply x0 p))) ((row_all _ p c).trans rfl)) (row_all _ p c)

/-- The row that each row of the product picks. -/
def pick (i : Fin 256) : Fin 256 := ⟨16 * (i.val % 16) + i.val / 16, by omega⟩

/-- The matrix of zeros and ones. -/
def swap : FVec Ideal S256x256 .bf16 :=
  truncf .bf16 (select (cmpi .eq (iota .tc S256x256 32 [1] iota_S256x256_d1_w32)
      (addi (muli (andi (iota .tc S256x256 32 [0] iota_S256x256_d0_w32) (broadcast S256x256 15#32)) (broadcast S256x256 16#32))
        (shrsi (iota .tc S256x256 32 [0] iota_S256x256_d0_w32) (broadcast S256x256 4#32))))
    (broadcast S256x256 (Scalar.ofBits (F := Ideal) .f32 0x3F800000#32)) (broadcast S256x256 (Scalar.ofBits (F := Ideal) .f32 0x00000000#32))) bitsLt_bf16_f32

theorem word : ∀ i : Fin 256, IntOp.addi (IntOp.muli (IntOp.andi (BitVec.ofNat 32 i.val) 15#32) 16#32) (IntOp.shrsi .vector (BitVec.ofNat 32 i.val) 4#32)
    = BitVec.ofNat 32 (pick i).val := by decide +kernel

theorem iota_row (i j : Fin 256) : iota .tc S256x256 32 [0] iota_S256x256_d0_w32 (ix2 i j) = BitVec.ofNat 32 i.val := by
  show BitVec.ofNat 32 (0 * 256 + i.val) = _
  rw [Nat.zero_mul, Nat.zero_add]

theorem iota_col (i j : Fin 256) : iota .tc S256x256 32 [1] iota_S256x256_d1_w32 (ix2 i j) = BitVec.ofNat 32 j.val := by
  show BitVec.ofNat 32 (0 * 256 + j.val) = _
  rw [Nat.zero_mul, Nat.zero_add]

theorem one_eq : Ideal.ofBits .f32 0x3F800000#32 = (1 : EReal) := by
  simp [Ideal.ofBits, Ideal.ieee]
  norm_num
  rw [← EReal.coe_mul]
  norm_num

theorem swap_apply (i j : Fin 256) : swap (ix2 i j) = if j = pick i then (1 : EReal) else 0 := by
  show Scalar.select (IntOp.cmpi .eq (iota .tc S256x256 32 [1] iota_S256x256_d1_w32 (ix2 i j))
    (IntOp.addi (IntOp.muli (IntOp.andi (iota .tc S256x256 32 [0] iota_S256x256_d0_w32 (ix2 i j)) 15#32) 16#32)
      (IntOp.shrsi .vector (iota .tc S256x256 32 [0] iota_S256x256_d0_w32 (ix2 i j)) 4#32)))
    (Ideal.ofBits .f32 0x3F800000#32) (Ideal.ofBits .f32 0x00000000#32) = _
  rw [iota_row, iota_col, word, one_eq, Ideal.ofBits_zero_f32]
  have hj : j.val < 2 ^ 32 := by omega
  have hp : (pick i).val < 2 ^ 32 := by omega
  unfold Scalar.select
  by_cases h : j = pick i
  · rw [if_pos h]
    exact if_pos ((WordCmp.cmpi_eq_ofNat_eq_one_iff hj hp).2 (congrArg Fin.val h))
  · rw [if_neg h]
    exact if_neg fun e => h (Fin.ext ((WordCmp.cmpi_eq_ofNat_eq_one_iff hj hp).1 e))

/-- The product of the matrix and 256 rows. -/
def prod (a : FVec Ideal S256x256 .bf16) (b : FVec Ideal S256x1024 .bf16) : FVec Ideal S256x1024 .f32 :=
  matmul dot_S256x256_S256x1024_S256x1024_1_0_0_1_n_n none a b (constant S256x1024 .f32 0x00000000#32)

theorem prod_apply (a : FVec Ideal S256x256 .bf16) (b : FVec Ideal S256x1024 .bf16) (p : Fin 256) (q : Fin 1024) :
    prod a b (ix2 p q) = ∑ k : Fin 256, (a (ix2 p k) : EReal) * b (ix2 k q) := by
  unfold prod
  rw [show matmul dot_S256x256_S256x1024_S256x1024_1_0_0_1_n_n none a b (constant S256x1024 .f32 0x00000000#32) (ix2 p q) = _ from
    Ideal.matmul_constant_zero_apply _ _ _ _ _,
    ← Equiv.sum_comp (contrEquiv1 dot_S256x256_S256x1024_S256x1024_1_0_0_1_n_n 256 rfl rfl).symm]
  refine Finset.sum_congr rfl fun l _ => congrArg₂ (fun x y : EReal => x * y) (congrArg a (funext fun x => Fin.ext ?_))
    (congrArg b (funext fun x => Fin.ext ?_))
  · match x with
    | ⟨0, _⟩ => rfl
    | ⟨1, _⟩ => exact (dot_S256x256_S256x1024_S256x1024_1_0_0_1_n_n.lhsIdx_val_of_single rfl _ _).trans (contrEquiv1_symm_val _ _ _ _ _)
  · match x with
    | ⟨0, _⟩ => exact (dot_S256x256_S256x1024_S256x1024_1_0_0_1_n_n.rhsIdx_val_of_single rfl _ _).trans (contrEquiv1_symm_val _ _ _ _ _)
    | ⟨1, _⟩ => rfl

/-- Against the matrix of zeros and ones, each row becomes the row it picks. -/
theorem swap_rows (b : FVec Ideal S256x1024 .bf16) (p : Fin 256) (q : Fin 1024) : prod swap b (ix2 p q) = b (ix2 (pick p) q) := by
  rw [prod_apply, Finset.sum_eq_single (pick p)]
  · rw [swap_apply, if_pos rfl, one_mul]
  · intro k _ hk
    rw [swap_apply, if_neg hk, zero_mul]
  · exact fun h => absurd (Finset.mem_univ _) h

theorem pay_eq : k0_pay2 (F := Ideal) x0 x1 x3 x2 = prod swap (toks x0 x1 x2 x3) := rfl

/-- What a point leaves in its block. -/
theorem out_apply (a b : Fin 16) (q : Fin 1024) :
    out0_4 (F := Ideal) x0 x1 x2 x3 (ix3 a b q) = hid x0 x1 x2 x3 (⟨16 * b.val + a.val, by omega⟩ : Fin 256) q := by
  have hz : (![0, 0] : Fin S256x1024.rank → Nat) = fun _ => 0 := by decide
  have hr : (![0, 0] : Fin S1x1024.rank → Nat) = fun _ => 0 := by decide
  unfold out0_4 k0_pay20
  rw [View.ld_unit_zero (S := S256x1024) hz, View.ld_unit_zero (S := S1x1024) hr, View.ld_unit_zero (S := S1x1024) hr, View.ld_unit_zero (S := S1x1024) hr]
  refine (Cert.Kernel6Ideal.Value.canon4_eq (F := Ideal) x0 x1 x3 x2 (ix3 a b q)).trans ?_
  have hy : Cert.Kernel6Ideal.Value.ix4_0 (ix3 a b q) = ix2 (⟨a.val * 16 + b.val, by omega⟩ : Fin 256) q := funext fun d => Fin.ext (match d with
    | ⟨0, _⟩ => rfl
    | ⟨1, _⟩ => rfl)
  show k0_pay2 (F := Ideal) x0 x1 x3 x2 (Cert.Kernel6Ideal.Value.ix4_0 (ix3 a b q)) = _
  rw [hy, pay_eq, swap_rows, toks_apply]
  exact congrArg (fun n => hid x0 x1 x2 x3 n q) (Fin.ext (by show 16 * ((a.val * 16 + b.val) % 16) + (a.val * 16 + b.val) / 16 = 16 * b.val + a.val; omega))
end Block

section Array
open Cert.Kernel6Ideal Cert.Kernel6Ideal.Gen
variable (m : (ℓ : Loc nD τ sig) → Buf (Elt Ideal) ℓ) (c : Dev nD)

/-- Grid point `z`. -/
def pt (z : Fin 16) : Fin cfg0.N := ⟨z.val, lt_of_lt_of_eq z.isLt N_0.symm⟩

/-- Token `l` of window `r`. -/
def tok (r : Fin 256) (l : Fin 16) : Fin 4096 := ⟨16 * r.val + l.val, by omega⟩

/-- Window `b` of the sixteen that point `z` takes. -/
def win (z b : Fin 16) : Fin 256 := ⟨16 * z.val + b.val, by omega⟩

/-- Where the windows stand at each point. -/
theorem index_x : ∀ t : Fin grid0.N, win0_0.index t 0 = t.val ∧ win0_0.index t 1 = 0 := by decide +kernel
theorem index_row : ∀ t : Fin grid0.N, (win0_1.index t 0 = 0 ∧ win0_1.index t 1 = 0) ∧ (win0_2.index t 0 = 0 ∧ win0_2.index t 1 = 0)
    ∧ (win0_3.index t 0 = 0 ∧ win0_3.index t 1 = 0) := by decide +kernel
theorem index_out : ∀ t : Fin grid0.N, win0_4.index t 0 = 0 ∧ win0_4.index t 1 = t.val ∧ win0_4.index t 2 = 0 := by decide +kernel

theorem iblk_0 (z b a : Fin 16) (k : Fin 1024) :
    (iblk m c 0 (pt z) : FVec Ideal S256x1024 .f32) (ix2 (⟨16 * b.val + a.val, by omega⟩ : Fin 256) k)
      = (V m c main_arg0 : FVec Ideal S4096x1024 .f32) (ix2 (tok (win z b) a) k) := by
  obtain ⟨h0, h1⟩ := index_x (pt z)
  refine congrArg (V m c main_arg0) (funext fun d => Fin.ext ?_)
  match d with
  | ⟨0, _⟩ => show win0_0.index (pt z) 0 * 256 + 1 * (16 * b.val + a.val) = 16 * (16 * z.val + b.val) + a.val; rw [h0]; show z.val * 256 + _ = _; omega
  | ⟨1, _⟩ => show win0_0.index (pt z) 1 * 1024 + 1 * k.val = k.val; rw [h1]; omega

/-- A row's block is the row. -/
theorem whole (n : Fin 2 → Nat) (hn : n 0 = 0 ∧ n 1 = 0) (k : Fin 1024) (y : S1x1024.Idx)
    (h0 : (y 0).val = n 0 * 1 + 1 * 0) (h1 : (y 1).val = n 1 * 1024 + 1 * k.val) : y = ix2 (0 : Fin 1) k := by
  funext d
  apply Fin.ext
  match d with
  | ⟨0, _⟩ => show (y 0).val = 0; rw [h0, hn.1]
  | ⟨1, _⟩ => show (y 1).val = k.val; rw [h1, hn.2]; omega

theorem iblk_1 (z : Fin 16) (k : Fin 1024) :
    (iblk m c 1 (pt z) : FVec Ideal S1x1024 .f32) (ix2 (0 : Fin 1) k) = (V m c main_arg1 : FVec Ideal S1x1024 .f32) (ix2 (0 : Fin 1) k) :=
  congrArg (V m c main_arg1) (whole _ (index_row (pt z)).1 k _ rfl rfl)

theorem iblk_2 (z : Fin 16) (k : Fin 1024) :
    (iblk m c 2 (pt z) : FVec Ideal S1x1024 .f32) (ix2 (0 : Fin 1) k) = (V m c main_arg2 : FVec Ideal S1x1024 .f32) (ix2 (0 : Fin 1) k) :=
  congrArg (V m c main_arg2) (whole _ (index_row (pt z)).2.1 k _ rfl rfl)

theorem iblk_3 (z : Fin 16) (k : Fin 1024) :
    (iblk m c 3 (pt z) : FVec Ideal S1x1024 .f32) (ix2 (0 : Fin 1) k) = (V m c main_arg3 : FVec Ideal S1x1024 .f32) (ix2 (0 : Fin 1) k) :=
  congrArg (V m c main_arg3) (whole _ (index_row (pt z)).2.2 k _ rfl rfl)

theorem hid_blk (z b a : Fin 16) (q : Fin 1024) :
    hid (iblk m c 0 (pt z) : FVec Ideal S256x1024 .f32) (iblk m c 1 (pt z) : FVec Ideal S1x1024 .f32) (iblk m c 2 (pt z) : FVec Ideal S1x1024 .f32)
        (iblk m c 3 (pt z) : FVec Ideal S1x1024 .f32) (⟨16 * b.val + a.val, by omega⟩ : Fin 256) q
      = hid (V m c main_arg0 : FVec Ideal S4096x1024 .f32) (V m c main_arg1 : FVec Ideal S1x1024 .f32) (V m c main_arg2 : FVec Ideal S1x1024 .f32)
        (V m c main_arg3 : FVec Ideal S1x1024 .f32) (tok (win z b) a) q := by
  unfold hid
  rw [iblk_0, iblk_1, iblk_2, iblk_3]
  simp only [iblk_0]

/-- The array of normed and modulated tokens. -/
theorem final (z b a : Fin 16) (q : Fin 1024) :
    ((dats m 0 c).arrAt 4 cfg0.N : FVec Ideal S16x256x1024 .bf16) (ix3 a (win z b) q)
      = hid (V m c main_arg0 : FVec Ideal S4096x1024 .f32) (V m c main_arg1 : FVec Ideal S1x1024 .f32) (V m c main_arg2 : FVec Ideal S1x1024 .f32)
        (V m c main_arg3 : FVec Ideal S1x1024 .f32) (tok (win z b) a) q := by
  obtain ⟨h0, h1, h2⟩ := index_out (pt z)
  have hb := congrFun ((Cert.Kernel6Ideal.Value.blocks4 m c (pt z) (flush0_4 _)).trans (Cert.Kernel6Ideal.Value.flushed4 m c (pt z))) (ix3 a b q)
  rw [View.read_apply] at hb
  refine (congrArg ((dats m 0 c).arrAt 4 cfg0.N) (funext fun d => Fin.ext ?_)).trans (hb.trans ?_)
  · match d with
    | ⟨0, _⟩ => show a.val = win0_4.index (pt z) 0 * 16 + 1 * a.val; rw [h0]; omega
    | ⟨1, _⟩ => show 16 * z.val + b.val = win0_4.index (pt z) 1 * 16 + 1 * b.val; rw [h1]; show _ = z.val * 16 + 1 * b.val; omega
    | ⟨2, _⟩ => show q.val = win0_4.index (pt z) 2 * 1024 + 1 * q.val; rw [h2]; omega
  show out0_4 (F := Ideal) (iblk m c 0 (pt z)) (iblk m c 1 (pt z)) (iblk m c 2 (pt z)) (iblk m c 3 (pt z)) (ix3 a b q) = _
  rw [out_apply, hid_blk]
end Array

section Reference
open Cert.Reference6Ideal Cert.Reference6Ideal.Read
variable (x0 : FVec Ideal S4096x1024 .f32) (x1 x2 x3 : FVec Ideal S1x1024 .f32)

theorem ref_msq (n : Fin 4096) : val_main_v6 (F := Ideal) x0 (ix2 n (0 : Fin 1)) = msq (fun k => x0 (ix2 n k)) := by
  rw [val_main_v6_apply, val_main_v4_apply, val_main_v2_apply, val_main_v3_apply, val_main_v5_apply, val_main_v1_apply,
    val_main_cst_apply, val_main_cst_0_apply, val_main_cst_1_apply]
  show Ideal.div (Ideal.ofBits .f32 0x00000000#32 + ∑ k : Fin 1024, _) wCols + wEps = _
  rw [Ideal.ofBits_zero_f32, zero_add]
  unfold msq
  refine congrArg (fun s => Ideal.div s wCols + wEps) (Finset.sum_congr rfl fun k _ => ?_)
  have e : idx_main_v1 (idx_main_v2 (ix2 n (0 : Fin 1))) k = ix2 n k := funext fun a => Fin.ext (match a with
    | ⟨0, _⟩ => rfl
    | ⟨1, _⟩ => rfl)
  rw [e]
  rfl

/-- The reference's token `n` at column `c`. -/
theorem ref_hid (n : Fin 4096) (c : Fin 1024) : val_main_v17 (F := Ideal) x0 x1 x2 x3 (ix2 n c) = hid x0 x1 x2 x3 n c := by
  have er : idx_main_v8 (ix2 n c) = ix2 n (0 : Fin 1) := funext fun a => Fin.ext (match a with
    | ⟨0, _⟩ => rfl
    | ⟨1, _⟩ => rfl)
  have e10 : idx_main_v10 (ix2 n c) = ix2 (0 : Fin 1) c := funext fun a => Fin.ext (match a with
    | ⟨0, _⟩ => rfl
    | ⟨1, _⟩ => rfl)
  have e14 : idx_main_v14 (ix2 n c) = ix2 (0 : Fin 1) c := e10
  have e16 : idx_main_v16 (ix2 n c) = ix2 (0 : Fin 1) c := e10
  rw [val_main_v17_apply, val_main_v16_apply, val_main_v15_apply, val_main_v14_apply, val_main_v13_apply, val_main_v12_apply, val_main_cst_2_apply,
    val_main_v11_apply, val_main_v10_apply, val_main_v9_apply, val_main_v8_apply, val_main_v7_apply, er, e10, e14, e16, ref_msq]
  unfold hid
  rw [← mul_assoc]
  rfl

/-- The reference's result. -/
theorem ref_apply (a : Fin 16) (r : Fin 256) (q : Fin 1024) : val_main_v20 (F := Ideal) x0 x1 x2 x3 (ix3 a r q) = hid x0 x1 x2 x3 (tok r a) q := by
  rw [val_main_v20_apply, val_main_v19_apply, val_main_v18_apply]
  have e : idx_main_v18 (idx_main_v19 (ix3 a r q)) = ix2 (tok r a) q := funext fun d => Fin.ext (match d with
    | ⟨0, _⟩ => by show ((r.val * 16 + a.val) * 1024 + q.val) / 1024 = 16 * r.val + a.val; omega
    | ⟨1, _⟩ => by show ((r.val * 16 + a.val) * 1024 + q.val) % 1024 = q.val; omega)
  rw [e]
  exact ref_hid x0 x1 x2 x3 (tok r a) q
end Reference

end Cert.Norm
end
end
-- ==== Proof.NormResult.lean ====
module

public import proofs.«01_k».proof.Defs
public import proofs.«01_k».proof.Proof.NormBlock
public import proofs.«01_k».proof.Proof.Gen.Kernel6.Frame
public import proofs.«01_k».proof.Proof.Gen.Reference6Ideal.Run

@[expose] public section
set_option maxRecDepth 16384

/-! The claims about the norm before the input projection. -/

noncomputable section
namespace Cert.Norm
open Idealize.ShloMosaic Idealize.ShloMosaic.TcCoe Idealize.SL.Sem Idealize.ShloMosaic.StableHlo
open Idealize.ShloMosaic.ValueIdx
open Cert.Reference6Ideal.Read

/-- The reference runs, keeps its arguments and declares no semaphore. -/
theorem reference_frame : Cert.quiescent_Reference6Ideal := by
  intro m g _
  exact (θ_run Cert.Reference6Ideal.defs _ _).mono (fun r h => ⟨fun c => (h c).2,
    Idealize.ShloMosaic.sem_eq_zero_of_no_sems (by decide) r.2⟩) (Cert.Reference6Ideal.Value.run (F := Ideal) m g)

section
variable (m : (ℓ : Loc Cert.Kernel6Ideal.nD Cert.Kernel6Ideal.τ Cert.Kernel6Ideal.sig) → Buf (Elt Ideal) ℓ) (c : Dev Cert.Kernel6Ideal.nD)

/-- An argument of the kernel. -/
abbrev A (b : Ref Cert.Kernel6Ideal.sig .tc) := m ((c : Thread Cert.Kernel6Ideal.nD Cert.Kernel6Ideal.τ).loc b)

theorem equation : ((Cert.Kernel6Ideal.Gen.dats m 0 c).arrAt 4 Cert.Kernel6Ideal.cfg0.N : FVec Ideal Cert.Kernel6Ideal.S16x256x1024 .bf16)
    = val_main_v20 (F := Ideal) (A m c Cert.Kernel6Ideal.main_arg0) (A m c Cert.Kernel6Ideal.main_arg1) (A m c Cert.Kernel6Ideal.main_arg2)
        (A m c Cert.Kernel6Ideal.main_arg3) := by
  funext y
  have h1 : (y 1).val < 256 := (y 1).isLt
  have hy : y = ix3 (⟨(y 0).val, (y 0).isLt⟩ : Fin 16) (win (⟨(y 1).val / 16, by omega⟩ : Fin 16) (⟨(y 1).val % 16, by omega⟩ : Fin 16))
      (⟨(y 2).val, (y 2).isLt⟩ : Fin 1024) :=
    funext fun a => Fin.ext (match a with
      | ⟨0, _⟩ => rfl
      | ⟨1, _⟩ => by show (y 1).val = 16 * ((y 1).val / 16) + (y 1).val % 16; omega
      | ⟨2, _⟩ => rfl)
  rw [hy, final, ref_apply]
end

/-- The kernel's result is the reference's, whatever the inputs. -/
theorem algebraic : Cert.algebraic_Kernel6Ideal_Reference6Ideal := by
  intro m g m' g' _ hagree
  refine ⟨fun c => (Cert.Kernel6Ideal.Gen.dats m 0 c).arrAt 4 Cert.Kernel6Ideal.cfg0.N, Cert.Kernel6Ideal.Value.run_blocks m g,
    (θ_run Cert.Reference6Ideal.defs _ _).mono (fun r h c => ?_) (Cert.Reference6Ideal.Value.run (F := Ideal) m' g')⟩
  obtain ⟨a0, a1, a2, a3⟩ := hagree c
  have f0 := (h c).1.trans (val_main_v20_eq (F := Ideal) _ _ _ _)
  rw [a0, a1, a2, a3] at f0
  exact ⟨f0.trans (equation m c).symm, (h c).2⟩

end Cert.Norm
end
end
-- ==== Proof.AdamStep.lean ====
module

public import Idealize.ShloMosaic.PureOps.Ideal.Laws
public import Idealize.ShloMosaic.Lib.Pipeline.Value
public import Idealize.ShloMosaic.Lib.ValueLayout

@[expose] public section

/-! One step of AdamW at one weight, with the constants as both programs write them, and the sum of the chips' shares of a
gradient, for matrices of any size; and the step of a whole matrix, from those of its blocks of rows. -/

noncomputable section
namespace Cert.Adam
open Idealize.ShloMosaic Idealize.ShloMosaic.TcCoe Idealize.SL.Sem
open Idealize.ShloMosaic.ValueIdx

/-- The first moment after the step, from the moment `m` before it and the gradient `g`. -/
def fst (m g : EReal) : EReal := Ideal.ofBits .f32 0x3F666666#32 * m + Ideal.ofBits .f32 0x3DCCCCCD#32 * g

/-- The second moment after the step, from the moment `v` before it and the gradient `g`. -/
def snd (v g : EReal) : EReal := Ideal.ofBits .f32 0x3F7FBE77#32 * v + Ideal.ofBits .f32 0x3A83126F#32 * (g * g)

/-- The change of the weight `w`. -/
def delta (w m v g : EReal) : EReal :=
  Ideal.ofBits .f32 0xBA83126F#32
    * (Ideal.div (Ideal.div (fst m g) (Ideal.ofBits .f32 0x3F26BD02#32))
        (Ideal.sqrt (Ideal.div (snd v g) (Ideal.ofBits .f32 0x3C231ACC#32)) + Ideal.ofBits .f32 0x322BCC77#32)
      + Ideal.ofBits .f32 0x3C23D70A#32 * w)

section
variable {P r n : Nat}

/-- The gradient at row `p` and column `q`: the sum of the chips' shares. -/
def gsum (x : (⟨3, ![P, r, n]⟩ : Shape).Idx → EReal) (p : Fin r) (q : Fin n) : EReal := ∑ k : Fin P, x (ix3 k p q)

/-- An index of the shares. -/
theorem at_ix3 (k : Fin P) (p : Fin r) (q : Fin n) (y : (⟨3, ![P, r, n]⟩ : Shape).Idx) (h0 : (y 0).val = k.val) (h1 : (y 1).val = p.val)
    (h2 : (y 2).val = q.val) : y = ix3 k p q :=
  funext fun a => Fin.ext (match a with
    | ⟨0, _⟩ => h0
    | ⟨1, _⟩ => h1
    | ⟨2, _⟩ => h2)

theorem inb (k : Fin P) (a : Fin 3) : ![k.val, 0, 0] a + ![1, r, n] a ≤ ![P, r, n] a :=
  match a with
  | ⟨0, _⟩ => k.isLt
  | ⟨1, _⟩ => (Nat.zero_add r).le
  | ⟨2, _⟩ => (Nat.zero_add n).le

/-- Share `k`, read as a matrix. -/
def share (x : FVec Ideal ⟨3, ![P, r, n]⟩ .f32) (hc : Shape.ShapeCasts ⟨3, ![1, r, n]⟩ ⟨2, ![r, n]⟩) (k : Fin P) : FVec Ideal ⟨2, ![r, n]⟩ .f32 :=
  shapeCast (⟨2, ![r, n]⟩ : Shape) (View.ld (Val := Elt Ideal) (e' := .f32) x (Rect.unit (s := ⟨3, ![P, r, n]⟩) ![k.val, 0, 0] ![1, r, n] (inb k))) hc

theorem share_apply (x : FVec Ideal ⟨3, ![P, r, n]⟩ .f32) (hc : Shape.ShapeCasts ⟨3, ![1, r, n]⟩ ⟨2, ![r, n]⟩) (k : Fin P) (p : Fin r) (q : Fin n) :
    share x hc k (ix2 p q) = x (ix3 k p q) := by
  refine (shapeCast_apply _ hc (ix2 p q) (ix3 (0 : Fin 1) p q) (by
    rw [Shape.rowMajor_val_three, Shape.rowMajor_val_two]
    show (0 * r + p.val) * n + q.val = p.val * n + q.val
    simp)).trans ?_
  exact congrArg x (at_ix3 _ _ _ _ (by show k.val + 1 * 0 = k.val; omega) (by show 0 + 1 * p.val = p.val; omega) (by show 0 + 1 * q.val = q.val; omega))

/-- The sum of four shares, and of eight. -/
theorem four (x : FVec Ideal ⟨3, ![4, r, n]⟩ .f32) (hc : Shape.ShapeCasts ⟨3, ![1, r, n]⟩ ⟨2, ![r, n]⟩) (p : Fin r) (q : Fin n) :
    (share x hc 0 (ix2 p q) + share x hc 1 (ix2 p q) + share x hc 2 (ix2 p q) + share x hc 3 (ix2 p q) : EReal) = gsum x p q :=
  (Fin.sum_univ_four fun k : Fin 4 => (share x hc k (ix2 p q) : EReal)).symm.trans (Finset.sum_congr rfl fun k _ => share_apply x hc k p q)

theorem eight (x : FVec Ideal ⟨3, ![8, r, n]⟩ .f32) (hc : Shape.ShapeCasts ⟨3, ![1, r, n]⟩ ⟨2, ![r, n]⟩) (p : Fin r) (q : Fin n) :
    (share x hc 0 (ix2 p q) + share x hc 1 (ix2 p q) + share x hc 2 (ix2 p q) + share x hc 3 (ix2 p q)
      + share x hc 4 (ix2 p q) + share x hc 5 (ix2 p q) + share x hc 6 (ix2 p q) + share x hc 7 (ix2 p q) : EReal) = gsum x p q :=
  (Fin.sum_univ_eight fun k : Fin 8 => (share x hc k (ix2 p q) : EReal)).symm.trans (Finset.sum_congr rfl fun k _ => share_apply x hc k p q)

/-- The reference's sum of the shares. -/
theorem ref_sum (x : (⟨3, ![P, r, n]⟩ : Shape).Idx → EReal) (p : Fin r) (q : Fin n) (y : Fin P → (⟨3, ![P, r, n]⟩ : Shape).Idx)
    (h0 : ∀ k, (y k 0).val = k.val) (h1 : ∀ k, (y k 1).val = p.val) (h2 : ∀ k, (y k 2).val = q.val) :
    Ideal.ofBits .f32 0x00000000#32 + ∑ k : Fin P, x (y k) = gsum x p q := by
  rw [Ideal.ofBits_zero_f32, zero_add]
  exact Finset.sum_congr rfl fun k _ => congrArg x (at_ix3 _ _ _ _ (h0 k) (h1 k) (h2 k))

/-- A cast to the same shape changes nothing. -/
theorem same (v : FVec Ideal ⟨2, ![r, n]⟩ .f32) (h : Shape.ShapeCasts ⟨2, ![r, n]⟩ ⟨2, ![r, n]⟩) : shapeCast (⟨2, ![r, n]⟩ : Shape) v h = v :=
  funext fun y => shapeCast_apply v _ y y rfl

/-- The index at row `p` and column `q`. -/
theorem at_ix2 (p : Fin r) (q : Fin n) (y : (⟨2, ![r, n]⟩ : Shape).Idx) (h0 : (y 0).val = p.val) (h1 : (y 1).val = q.val) : y = ix2 p q :=
  funext fun a => Fin.ext (match a with
    | ⟨0, _⟩ => h0
    | ⟨1, _⟩ => h1)

/-- A matrix is the other once it is so at every row and column. -/
theorem by_entries (a b : FVec Ideal ⟨2, ![r, n]⟩ .f32) (h : ∀ p q, a (ix2 p q) = b (ix2 p q)) : a = b := by
  funext y
  rw [at_ix2 (⟨(y 0).val, (y 0).isLt⟩ : Fin r) (⟨(y 1).val, (y 1).isLt⟩ : Fin n) y rfl rfl]
  exact h _ _

/-- `g`, `d`, `m` and `v` are the gradient, the change of the weight and the new moments, from the gradient `s`, the weight `x1` and its
moments `x2` and `x3`. -/
def Update (s : Fin r → Fin n → EReal) (x1 x2 x3 g d m v : FVec Ideal ⟨2, ![r, n]⟩ .f32) : Prop :=
  ∀ (p : Fin r) (q : Fin n), g (ix2 p q) = s p q ∧ d (ix2 p q) = delta (x1 (ix2 p q)) (x2 (ix2 p q)) (x3 (ix2 p q)) (s p q)
    ∧ m (ix2 p q) = fst (x2 (ix2 p q)) (s p q) ∧ v (ix2 p q) = snd (x3 (ix2 p q)) (s p q)

theorem Update.cast {s s' : Fin r → Fin n → EReal} {x1 x2 x3 x1' x2' x3' g d m v g' d' m' v' : FVec Ideal ⟨2, ![r, n]⟩ .f32}
    (h : Update s x1 x2 x3 g d m v) (hs : s = s') (h1 : x1 = x1') (h2 : x2 = x2') (h3 : x3 = x3') (hg : g' = g) (hd : d' = d) (hm : m' = m)
    (hv : v' = v) : Update s' x1' x2' x3' g' d' m' v' := by
  subst hs h1 h2 h3 hg hd hm hv
  exact h

/-- There is only one update from given arguments. -/
theorem Update.unique {s s' : Fin r → Fin n → EReal} {x1 x2 x3 x1' x2' x3' g d m v g' d' m' v' : FVec Ideal ⟨2, ![r, n]⟩ .f32}
    (h : Update s x1 x2 x3 g d m v) (h' : Update s' x1' x2' x3' g' d' m' v') (a0 : s' = s) (a1 : x1' = x1) (a2 : x2' = x2) (a3 : x3' = x3) :
    g' = g ∧ d' = d ∧ m' = m ∧ v' = v := by
  subst a0 a1 a2 a3
  exact ⟨by_entries _ _ fun p q => (h' p q).1.trans (h p q).1.symm, by_entries _ _ fun p q => (h' p q).2.1.trans (h p q).2.1.symm,
    by_entries _ _ fun p q => (h' p q).2.2.1.trans (h p q).2.2.1.symm, by_entries _ _ fun p q => (h' p q).2.2.2.trans (h p q).2.2.2.symm⟩

/-- The update by the sum of the shares `x0`. -/
def Step (x0 : (⟨3, ![P, r, n]⟩ : Shape).Idx → EReal) (x1 x2 x3 g d m v : FVec Ideal ⟨2, ![r, n]⟩ .f32) : Prop :=
  Update (gsum x0) x1 x2 x3 g d m v

theorem Step.unique {x0 x0' : (⟨3, ![P, r, n]⟩ : Shape).Idx → EReal} {x1 x2 x3 x1' x2' x3' g d m v g' d' m' v' : FVec Ideal ⟨2, ![r, n]⟩ .f32}
    (h : Step x0 x1 x2 x3 g d m v) (h' : Step x0' x1' x2' x3' g' d' m' v') (a0 : x0' = x0) (a1 : x1' = x1) (a2 : x2' = x2) (a3 : x3' = x3) :
    g' = g ∧ d' = d ∧ m' = m ∧ v' = v :=
  Update.unique h h' (congrArg gsum a0) a1 a2 a3
end

section
variable {P Z r R n : Nat} (hR : R = Z * r)
include hR

/-- Row `p` of block `z`. -/
def row (z : Fin Z) (p : Fin r) : Fin R := ⟨z.val * r + p.val, by
  rw [hR]
  calc z.val * r + p.val < z.val * r + r := Nat.add_lt_add_left p.isLt _
    _ = (z.val + 1) * r := (Nat.succ_mul _ _).symm
    _ ≤ Z * r := Nat.mul_le_mul_right r z.isLt⟩

/-- Every row is one of a block. -/
theorem row_of (P : Fin R) : ∃ (z : Fin Z) (p : Fin r), P = row hR z p := by
  have hP : P.val < Z * r := lt_of_lt_of_eq P.isLt hR
  have hr : 0 < r := Nat.pos_of_ne_zero fun h => by
    rw [h, Nat.mul_zero] at hP
    exact Nat.not_lt_zero _ hP
  exact ⟨⟨P.val / r, (Nat.div_lt_iff_lt_mul hr).mpr hP⟩, ⟨P.val % r, Nat.mod_lt _ hr⟩, Fin.ext (Nat.div_add_mod' P.val r).symm⟩

/-- An index of a matrix is an entry of a block once the block stands at its rows. -/
theorem place (z : Fin Z) (p : Fin r) (q : Fin n) (b : Fin 2 → Nat) (hb : b 0 = z.val ∧ b 1 = 0) (y : (⟨2, ![R, n]⟩ : Shape).Idx)
    (h0 : (y 0).val = b 0 * r + 1 * p.val) (h1 : (y 1).val = b 1 * n + 1 * q.val) : y = ix2 (row hR z p) q :=
  at_ix2 _ _ y (by rw [h0, hb.1, Nat.one_mul]; rfl) (by rw [h1, hb.2, Nat.zero_mul, Nat.one_mul, Nat.zero_add])

/-- The same for the shares. -/
theorem place_share (z : Fin Z) (k : Fin P) (p : Fin r) (q : Fin n) (b : Fin 3 → Nat) (hb : b 0 = 0 ∧ b 1 = z.val ∧ b 2 = 0)
    (y : (⟨3, ![P, R, n]⟩ : Shape).Idx) (h0 : (y 0).val = b 0 * P + 1 * k.val) (h1 : (y 1).val = b 1 * r + 1 * p.val)
    (h2 : (y 2).val = b 2 * n + 1 * q.val) : y = ix3 k (row hR z p) q :=
  at_ix3 _ _ _ y (by rw [h0, hb.1, Nat.zero_mul, Nat.one_mul, Nat.zero_add]) (by rw [h1, hb.2.1, Nat.one_mul]; rfl)
    (by rw [h2, hb.2.2, Nat.zero_mul, Nat.one_mul, Nat.zero_add])

/-- The steps of the blocks are the step of the whole matrix. -/
theorem Step.blocks {x0 : Fin Z → (⟨3, ![P, r, n]⟩ : Shape).Idx → EReal} {x1 x2 x3 g d m v : Fin Z → FVec Ideal ⟨2, ![r, n]⟩ .f32}
    {X0 : (⟨3, ![P, R, n]⟩ : Shape).Idx → EReal} {X1 X2 X3 G D M V : FVec Ideal ⟨2, ![R, n]⟩ .f32}
    (h : ∀ z, Step (x0 z) (x1 z) (x2 z) (x3 z) (g z) (d z) (m z) (v z))
    (e0 : ∀ z k p q, x0 z (ix3 k p q) = X0 (ix3 k (row hR z p) q)) (e1 : ∀ z p q, x1 z (ix2 p q) = X1 (ix2 (row hR z p) q))
    (e2 : ∀ z p q, x2 z (ix2 p q) = X2 (ix2 (row hR z p) q)) (e3 : ∀ z p q, x3 z (ix2 p q) = X3 (ix2 (row hR z p) q))
    (eg : ∀ z p q, G (ix2 (row hR z p) q) = g z (ix2 p q)) (ed : ∀ z p q, D (ix2 (row hR z p) q) = d z (ix2 p q))
    (em : ∀ z p q, M (ix2 (row hR z p) q) = m z (ix2 p q)) (ev : ∀ z p q, V (ix2 (row hR z p) q) = v z (ix2 p q)) :
    Step X0 X1 X2 X3 G D M V := by
  intro P q
  obtain ⟨z, p, rfl⟩ := row_of hR P
  have hs : gsum X0 (row hR z p) q = gsum (x0 z) p q := Finset.sum_congr rfl fun k _ => (e0 z k p q).symm
  rw [hs, ← e1, ← e2, ← e3, eg, ed, em, ev]
  exact h z p q
end

end Cert.Adam
end
end
-- ==== Proof.AdaResult.lean ====
module

public import proofs.«01_k».proof.Defs
public import proofs.«01_k».proof.Proof.AdamStep
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import Idealize.ShloMosaic.Lib.ValueLayout

@[expose] public section
set_option maxRecDepth 16384

/-! The update of the modulation's weights: what the four arrays hold after the one grid point, the reference's four results, and
the claims. -/

noncomputable section
namespace Cert.Ada
open Idealize.ShloMosaic Idealize.ShloMosaic.TcCoe Idealize.ShloMosaic.Tactic Idealize.SL.Sem Idealize.ShloMosaic.StableHlo
open Idealize.ShloMosaic.ValueIdx
open Cert.Adam (Update)

/-- The gradient at row `p` and column `q`: over the eight sequences, the conditioning against the cotangent of the modulation. -/
def gada (x : (⟨2, ![8, 1024]⟩ : Shape).Idx → EReal) (d : (⟨2, ![8, 384]⟩ : Shape).Idx → EReal) (p : Fin 1024) (q : Fin 384) : EReal :=
  ∑ k : Fin 8, x (ix2 k p) * d (ix2 k q)

section Block
open Cert.Kernel7Ideal Cert.Kernel7Ideal.Gen
variable (x0 : FVec Ideal S1024x8 .f32) (x1 : FVec Ideal S8x384 .f32) (x2 x3 x4 : FVec Ideal S1024x384 .f32) (p : Fin 1024) (q : Fin 384)

/-- A column against a row. -/
def outer (v : FVec Ideal S1024x1 .f32) (u : FVec Ideal S1x384 .f32) : FVec Ideal S1024x384 .f32 :=
  mulf (broadcastTo S1024x384 (shapeCast S1024x1 v shapeCasts_S1024x1_S1024x1) broadcasts_S1024x1_S1024x384)
    (broadcastTo S1024x384 u broadcasts_S1x384_S1024x384)

theorem outer_apply (v : FVec Ideal S1024x1 .f32) (u : FVec Ideal S1x384 .f32) :
    outer v u (ix2 p q) = (v (ix2 p (0 : Fin 1)) : EReal) * u (ix2 (0 : Fin 1) q) := by
  unfold outer
  refine congrArg₂ (fun a b : EReal => a * b) ((broadcastTo_apply _ _ (ix2 p q) (ix2 p (0 : Fin 1)) fun a => ?_).trans (shapeCast_apply v _ _ _ rfl))
    (broadcastTo_apply u _ (ix2 p q) (ix2 (0 : Fin 1) q) fun a => ?_)
  · match a with
    | ⟨0, _⟩ => rfl
    | ⟨1, _⟩ => rfl
  · match a with
    | ⟨0, _⟩ => rfl
    | ⟨1, _⟩ => rfl

/-- Eight such products, added up. -/
theorem sum_apply (v : Fin 8 → FVec Ideal S1024x1 .f32) (u : Fin 8 → FVec Ideal S1x384 .f32) :
    k0_pay4 (F := Ideal) (k0_pay2 (v 0) (u 0) (v 1) (u 1) (v 2) (u 2) (v 3) (u 3) (v 4) (u 4)) (k0_pay3 (v 5)) (u 5) (v 6) (u 6) (v 7) (u 7) (ix2 p q)
      = ∑ k : Fin 8, (v k (ix2 p (0 : Fin 1)) : EReal) * u k (ix2 (0 : Fin 1) q) := by
  rw [Fin.sum_univ_eight]
  simp only [← outer_apply]
  rfl

theorem inbC : ∀ (k : Fin 8) (a : Fin S1024x8.rank), ![0, k.val] a + S1024x1.size a ≤ S1024x8.size a := by decide
theorem inbD : ∀ (k : Fin 8) (a : Fin S8x384.rank), ![k.val, 0] a + S1x384.size a ≤ S8x384.size a := by decide

/-- Sequence `k`'s column of the conditioning and row of the cotangent. -/
def colC (k : Fin 8) : FVec Ideal S1024x1 .f32 := View.ld (Val := Elt Ideal) (e' := .f32) x0 (Rect.unit (s := S1024x8) ![0, k.val] S1024x1.size (inbC k))
def rowD (k : Fin 8) : FVec Ideal S1x384 .f32 := View.ld (Val := Elt Ideal) (e' := .f32) x1 (Rect.unit (s := S8x384) ![k.val, 0] S1x384.size (inbD k))

theorem colC_apply (k : Fin 8) : colC x0 k (ix2 p (0 : Fin 1)) = x0 (ix2 p k) :=
  congrArg x0 (funext fun a => Fin.ext (match a with
    | ⟨0, _⟩ => by show 0 + 1 * p.val = p.val; omega
    | ⟨1, _⟩ => by show k.val + 1 * 0 = k.val; omega))

theorem rowD_apply (k : Fin 8) : rowD x1 k (ix2 (0 : Fin 1) q) = x1 (ix2 k q) :=
  congrArg x1 (funext fun a => Fin.ext (match a with
    | ⟨0, _⟩ => by show k.val + 1 * 0 = k.val; omega
    | ⟨1, _⟩ => by show 0 + 1 * q.val = q.val; omega))

/-- The gradient as the body writes it, and as a sum. -/
def grad : FVec Ideal S1024x384 .f32 :=
  k0_pay4 (F := Ideal) (k0_pay10 x0 x1 x2 x3 x4) (k0_pay11 x0 x1 x2 x3 x4) (View.ld x1 r0_11) (View.ld x0 r0_12) (View.ld x1 r0_13) (View.ld x0 r0_14) (View.ld x1 r0_15)

def gblk (p : Fin 1024) (q : Fin 384) : EReal := ∑ k : Fin 8, (x0 (ix2 p k) : EReal) * x1 (ix2 k q)

theorem grad_apply : grad x0 x1 x2 x3 x4 (ix2 p q) = gblk x0 x1 p q := by
  refine (sum_apply p q (colC x0) (rowD x1)).trans (Finset.sum_congr rfl fun k _ => ?_)
  rw [colC_apply, rowD_apply]

theorem zero2 : (![0, 0] : Fin S1024x384.rank → Nat) = fun _ => 0 := by decide

/-- What the point leaves in the four blocks. -/
theorem outs : Update (gblk x0 x1) x2 x3 x4 (out0_5 (F := Ideal) x0 x1 x2 x3 x4)
    (out0_6 (F := Ideal) x0 x1 x2 x3 x4) (out0_7 (F := Ideal) x0 x1 x2 x3 x4) (out0_8 (F := Ideal) x0 x1 x2 x3 x4) := by
  intro p q
  unfold out0_5 out0_6 out0_7 out0_8
  simp only [View.canon_unit_zero (S := S1024x384) zero2, View.ld_unit_zero (S := S1024x384) zero2]
  rw [← grad_apply x0 x1 x2 x3 x4]
  exact ⟨rfl, rfl, rfl, rfl⟩
end Block

section Array
open Cert.Kernel7Ideal Cert.Kernel7Ideal.Gen
variable (m : (ℓ : Loc nD τ sig) → Buf (Elt Ideal) ℓ) (c : Dev nD)

/-- The one grid point. -/
def pt : Fin cfg0.N := ⟨0, lt_of_lt_of_eq Nat.one_pos N_0.symm⟩

/-- Every window stands at the start of its array. -/
theorem index_all : ∀ t : Fin grid0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0) ∧ (win0_7.index t 0 = 0 ∧ win0_7.index t 1 = 0)
    ∧ (win0_8.index t 0 = 0 ∧ win0_8.index t 1 = 0) := by decide +kernel

/-- An index of a block that starts where its array does. -/
theorem place {r s : Nat} (n : Fin 2 → Nat) (hn : n 0 = 0 ∧ n 1 = 0) (y x : (⟨2, ![r, s]⟩ : Shape).Idx)
    (h0 : (x 0).val = n 0 * r + 1 * (y 0).val) (h1 : (x 1).val = n 1 * s + 1 * (y 1).val) : x = y := by
  funext a
  apply Fin.ext
  match a with
  | ⟨0, _⟩ => show (x 0).val = (y 0).val; rw [h0, hn.1]; omega
  | ⟨1, _⟩ => show (x 1).val = (y 1).val; rw [h1, hn.2]; omega

theorem iblk_0 : (iblk m c 0 pt : FVec Ideal S1024x8 .f32) = (V m c main_v0 : FVec Ideal S1024x8 .f32) :=
  funext fun y => congrArg (V m c main_v0) (place _ (index_all pt).1 y _ rfl rfl)

theorem iblk_1 : (iblk m c 1 pt : FVec Ideal S8x384 .f32) = (V m c main_arg1 : FVec Ideal S8x384 .f32) :=
  funext fun y => congrArg (V m c main_arg1) (place _ (index_all pt).2.1 y _ rfl rfl)

theorem iblk_2 : (iblk m c 2 pt : FVec Ideal S1024x384 .f32) = (V m c main_arg2 : FVec Ideal S1024x384 .f32) :=
  funext fun y => congrArg (V m c main_arg2) (place _ (index_all pt).2.2.1 y _ rfl rfl)

theorem iblk_3 : (iblk m c 3 pt : FVec Ideal S1024x384 .f32) = (V m c main_arg3 : FVec Ideal S1024x384 .f32) :=
  funext fun y => congrArg (V m c main_arg3) (place _ (index_all pt).2.2.2.1 y _ rfl rfl)

theorem iblk_4 : (iblk m c 4 pt : FVec Ideal S1024x384 .f32) = (V m c main_arg4 : FVec Ideal S1024x384 .f32) :=
  funext fun y => congrArg (V m c main_arg4) (place _ (index_all pt).2.2.2.2.1 y _ rfl rfl)

/-- The first window's array is the conditioning, transposed. -/
theorem V_v0 : (V m c main_v0 : FVec Ideal S1024x8 .f32)
    = transpose S1024x8 [1, 0] (m ((c : Thread nD τ).loc main_arg0) : FVec Ideal S8x1024 .f32) transposes_S8x1024_S1024x8_1_0 := by
  show StableHlo.after hostOps0 (fun b => m (c, b)) _ = _
  after_results_simp

/-- The four arrays: the gradient, the change of the weight and the two moments. -/
theorem final : Update (gada (m ((c : Thread nD τ).loc main_arg0) : FVec Ideal S8x1024 .f32) (m ((c : Thread nD τ).loc main_arg1) : FVec Ideal S8x384 .f32))
    (m ((c : Thread nD τ).loc main_arg2)) (m ((c : Thread nD τ).loc main_arg3)) (m ((c : Thread nD τ).loc main_arg4))
    ((dats m 0 c).arrAt 5 cfg0.N) ((dats m 0 c).arrAt 6 cfg0.N) ((dats m 0 c).arrAt 7 cfg0.N) ((dats m 0 c).arrAt 8 cfg0.N) := by
  refine (outs (iblk m c 0 pt) (iblk m c 1 pt) (iblk m c 2 pt) (iblk m c 3 pt) (iblk m c 4 pt)).cast (funext fun p => funext fun q => ?_)
    ((iblk_2 m c).trans (V_main_arg2 m c)) ((iblk_3 m c).trans (V_main_arg3 m c)) ((iblk_4 m c).trans (V_main_arg4 m c))
    (funext fun y => (congrArg ((dats m 0 c).arrAt 5 cfg0.N) (place _ (index_all pt).2.2.2.2.2.1 y _ rfl rfl).symm).trans
      (congrFun ((Value.blocks5 m c pt (flush0_5 _)).trans (Value.flushed5 m c pt)) y))
    (funext fun y => (congrArg ((dats m 0 c).arrAt 6 cfg0.N) (place _ (index_all pt).2.2.2.2.2.2.1 y _ rfl rfl).symm).trans
      (congrFun ((Value.blocks6 m c pt (flush0_6 _)).trans (Value.flushed6 m c pt)) y))
    (funext fun y => (congrArg ((dats m 0 c).arrAt 7 cfg0.N) (place _ (index_all pt).2.2.2.2.2.2.2.1 y _ rfl rfl).symm).trans
      (congrFun ((Value.blocks7 m c pt (flush0_7 _)).trans (Value.flushed7 m c pt)) y))
    (funext fun y => (congrArg ((dats m 0 c).arrAt 8 cfg0.N) (place _ (index_all pt).2.2.2.2.2.2.2.2 y _ rfl rfl).symm).trans
      (congrFun ((Value.blocks8 m c pt (flush0_8 _)).trans (Value.flushed8 m c pt)) y))
  rw [iblk_0, iblk_1, V_v0, V_main_arg1]
  refine Finset.sum_congr rfl fun k _ => congrArg (fun a : EReal => a * _) ?_
  exact transpose_apply [1, 0] _ transposes_S8x1024_S1024x8_1_0 (ix2 p k) (ix2 k p) fun b => match b with
    | ⟨0, _⟩ => rfl
    | ⟨1, _⟩ => rfl
end Array

section Reference
open Cert.Reference7Ideal Cert.Reference7Ideal.Gen Cert.Reference7Ideal.Read
variable (x0 : FVec Ideal S8x1024 .f32) (x1 : FVec Ideal S8x384 .f32) (x2 x3 x4 : FVec Ideal S1024x384 .f32) (p : Fin 1024) (q : Fin 384)

theorem ref_g : val_main_v2 (F := Ideal) x0 x1 (ix2 p q) = gada x0 x1 p q := by
  rw [val_main_v2_apply, val_main_v1_apply]
  refine Finset.sum_congr rfl fun k _ => (mul_comm _ _).trans (congrArg₂ (fun a b : EReal => a * b) (congrArg x0 (funext fun a => Fin.ext ?_))
    (congrArg x1 (funext fun a => Fin.ext ?_)))
  · match a with
    | ⟨0, _⟩ => rfl
    | ⟨1, _⟩ => rfl
  · match a with
    | ⟨0, _⟩ => rfl
    | ⟨1, _⟩ => rfl

/-- The reference's four results. -/
theorem ref : Update (gada x0 x1) x2 x3 x4 (val_main_v2 (F := Ideal) x0 x1) (val_main_v26 (F := Ideal) x0 x1 x2 x3 x4) (val_main_v7 (F := Ideal) x0 x1 x3)
    (val_main_v13 (F := Ideal) x0 x1 x4) := by
  intro p q
  rw [← ref_g]
  exact ⟨rfl, rfl, rfl, rfl⟩

/-- The reference runs, keeps its arguments and declares no semaphore. -/
theorem reference_frame : Cert.quiescent_Reference7Ideal := fun m g _ =>
  (θ_run defs _ _).mono (fun r h => ⟨fun c => (h c).2.2.2.2, sem_eq_zero_of_no_sems (by decide) r.2⟩) (Value.run (F := Ideal) m g)
end Reference

open Cert.Reference7Ideal.Read

/-- The kernel's four results are the reference's, whatever the inputs. -/
theorem algebraic : Cert.algebraic_Kernel7Ideal_Reference7Ideal := by
  intro m g m' g' _ hagree
  refine ⟨_, _, _, _, Cert.Kernel7Ideal.Value.run_blocks m g,
    (θ_run Cert.Reference7Ideal.defs _ _).mono (fun r h c => ?_) (Cert.Reference7Ideal.Value.run (F := Ideal) m' g')⟩
  obtain ⟨a0, a1, a2, a3, a4⟩ := hagree c
  obtain ⟨e0, e1, e2, e3⟩ := (final m c).unique (ref _ _ _ _ _) (congrArg₂ gada a0 a1) a2 a3 a4
  exact ⟨((h c).1.trans (val_main_v2_eq _ _)).trans e0, ((h c).2.1.trans (val_main_v26_eq _ _ _ _ _)).trans e1,
    ((h c).2.2.1.trans (val_main_v7_eq _ _ _)).trans e2, ((h c).2.2.2.1.trans (val_main_v13_eq _ _ _)).trans e3, (h c).2.2.2.2⟩

end Cert.Ada
end
end
-- ==== Proof.AdamResult.lean ====
module

public import proofs.«01_k».proof.Defs
public import proofs.«01_k».proof.Proof.AdamStep
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read

@[expose] public section
set_option maxRecDepth 16384

/-! The update of the input projection: what the four arrays hold after the grid of four blocks of rows, the reference's four
results, and the claims. -/

noncomputable section
namespace Cert.Adam
open Idealize.ShloMosaic Idealize.ShloMosaic.TcCoe Idealize.ShloMosaic.Tactic Idealize.SL.Sem Idealize.ShloMosaic.StableHlo
open Idealize.ShloMosaic.ValueIdx

section Block
open Cert.Kernel8Ideal Cert.Kernel8Ideal.Gen
variable (x0 : FVec Ideal S4x256x1024 .bf16) (x1 x2 x3 : FVec Ideal S256x1024 .f32)

theorem zero2 : (![0, 0] : Fin S256x1024.rank → Nat) = fun _ => 0 := by decide

/-- What a point leaves in the four blocks. -/
theorem outs : Step x0 x1 x2 x3 (out0_4 (F := Ideal) x0 x1 x2 x3) (out0_5 (F := Ideal) x0 x1 x2 x3) (out0_6 (F := Ideal) x0 x1 x2 x3)
    (out0_7 (F := Ideal) x0 x1 x2 x3) := by
  intro p q
  unfold out0_4 out0_5 out0_6 out0_7 k0_pay1 k0_pay2 k0_pay3 k0_pay4 k0_pay5
  simp only [View.canon_unit_zero (S := S256x1024) zero2, View.ld_unit_zero (S := S256x1024) zero2, same]
  rw [← four x0 shapeCasts_S1x256x1024_S256x1024]
  exact ⟨rfl, rfl, rfl, rfl⟩
end Block

section Array
open Cert.Kernel8Ideal Cert.Kernel8Ideal.Gen
variable (m : (ℓ : Loc nD τ sig) → Buf (Elt Ideal) ℓ) (c : Dev nD)

/-- Grid point `z`. -/
def pt (z : Fin 4) : Fin cfg0.N := ⟨z.val, lt_of_lt_of_eq z.isLt N_0.symm⟩

theorem rows : 1024 = 4 * 256 := rfl

/-- Where the windows stand at each point. -/
theorem index_g : ∀ t : Fin grid0.N, win0_0.index t 0 = 0 ∧ win0_0.index t 1 = t.val ∧ win0_0.index t 2 = 0 := by decide +kernel
theorem index_row : ∀ t : Fin grid0.N, (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) := by decide +kernel

/-- The four arrays: the gradient, the change of the weight and the two moments. -/
theorem final : Step (V m c main_arg0 : FVec Ideal S4x1024x1024 .bf16) (V m c main_arg1 : FVec Ideal S1024x1024 .f32) (V m c main_arg2 : FVec Ideal S1024x1024 .f32)
    (V m c main_arg3 : FVec Ideal S1024x1024 .f32) ((dats m 0 c).arrAt 4 cfg0.N) ((dats m 0 c).arrAt 5 cfg0.N) ((dats m 0 c).arrAt 6 cfg0.N)
    ((dats m 0 c).arrAt 7 cfg0.N) :=
  Step.blocks rows (fun z => outs (iblk m c 0 (pt z)) (iblk m c 1 (pt z)) (iblk m c 2 (pt z)) (iblk m c 3 (pt z)))
    (fun z k p q => congrArg (V m c main_arg0) (place_share rows z k p q _ (index_g (pt z)) _ rfl rfl rfl))
    (fun z p q => congrArg (V m c main_arg1) (place rows z p q _ (index_row (pt z)).1 _ rfl rfl))
    (fun z p q => congrArg (V m c main_arg2) (place rows z p q _ (index_row (pt z)).2.1 _ rfl rfl))
    (fun z p q => congrArg (V m c main_arg3) (place rows z p q _ (index_row (pt z)).2.2.1 _ rfl rfl))
    (fun z p q => (congrArg ((dats m 0 c).arrAt 4 cfg0.N) (place rows z p q _ (index_row (pt z)).2.2.2.1 _ rfl rfl).symm).trans
      (congrFun ((Value.blocks4 m c (pt z) (flush0_4 _)).trans (Value.flushed4 m c (pt z))) (ix2 p q)))
    (fun z p q => (congrArg ((dats m 0 c).arrAt 5 cfg0.N) (place rows z p q _ (index_row (pt z)).2.2.2.2.1 _ rfl rfl).symm).trans
      (congrFun ((Value.blocks5 m c (pt z) (flush0_5 _)).trans (Value.flushed5 m c (pt z))) (ix2 p q)))
    (fun z p q => (congrArg ((dats m 0 c).arrAt 6 cfg0.N) (place rows z p q _ (index_row (pt z)).2.2.2.2.2.1 _ rfl rfl).symm).trans
      (congrFun ((Value.blocks6 m c (pt z) (flush0_6 _)).trans (Value.flushed6 m c (pt z))) (ix2 p q)))
    (fun z p q => (congrArg ((dats m 0 c).arrAt 7 cfg0.N) (place rows z p q _ (index_row (pt z)).2.2.2.2.2.2 _ rfl rfl).symm).trans
      (congrFun ((Value.blocks7 m c (pt z) (flush0_7 _)).trans (Value.flushed7 m c (pt z))) (ix2 p q)))
end Array

section Reference
open Cert.Reference8Ideal Cert.Reference8Ideal.Read
variable (x0 : FVec Ideal S4x1024x1024 .bf16) (x1 x2 x3 : FVec Ideal S1024x1024 .f32)

/-- The reference's four results. -/
theorem ref : Step x0 x1 x2 x3 (val_main_v1 (F := Ideal) x0) (val_main_v25 (F := Ideal) x0 x1 x2 x3) (val_main_v6 (F := Ideal) x0 x2)
    (val_main_v12 (F := Ideal) x0 x3) := by
  intro p q
  have g : val_main_v1 (F := Ideal) x0 (ix2 p q) = gsum x0 p q := by
    rw [val_main_v1_apply, val_main_cst_apply]
    exact ref_sum x0 p q _ (fun _ => rfl) (fun _ => rfl) fun _ => rfl
  rw [← g]
  exact ⟨rfl, rfl, rfl, rfl⟩

/-- The reference runs, keeps its arguments and declares no semaphore. -/
theorem reference_frame : Cert.quiescent_Reference8Ideal := by
  intro m g _
  exact (θ_run defs _ _).mono (fun r h => ⟨fun c => (h c).2.2.2.2, sem_eq_zero_of_no_sems (by decide) r.2⟩) (Value.run (F := Ideal) m g)
end Reference

open Cert.Kernel8Ideal Cert.Kernel8Ideal.Gen Cert.Reference8Ideal.Read

/-- The kernel's four results are the reference's, whatever the inputs. -/
theorem algebraic : Cert.algebraic_Kernel8Ideal_Reference8Ideal := by
  intro m g m' g' _ hagree
  refine ⟨fun c => (dats m 0 c).arrAt 4 cfg0.N, fun c => (dats m 0 c).arrAt 5 cfg0.N,
    fun c => (dats m 0 c).arrAt 6 cfg0.N, fun c => (dats m 0 c).arrAt 7 cfg0.N,
    Cert.Kernel8Ideal.Value.run_blocks m g,
    (θ_run Cert.Reference8Ideal.defs _ _).mono (fun r h c => ?_) (Cert.Reference8Ideal.Value.run (F := Ideal) m' g')⟩
  obtain ⟨a0, a1, a2, a3⟩ := hagree c
  obtain ⟨e0, e1, e2, e3⟩ := (final m c).unique (ref _ _ _ _) a0 a1 a2 a3
  exact ⟨((h c).1.trans (val_main_v1_eq _)).trans e0, ((h c).2.1.trans (val_main_v25_eq _ _ _ _)).trans e1,
    ((h c).2.2.1.trans (val_main_v6_eq _ _)).trans e2, ((h c).2.2.2.1.trans (val_main_v12_eq _ _)).trans e3, (h c).2.2.2.2⟩

end Cert.Adam
end
end
-- ==== Proof.BranchResult.lean ====
module

public import proofs.«01_k».proof.Defs
public import proofs.«01_k».proof.Proof.AdamStep
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read

@[expose] public section
set_option maxRecDepth 16384

/-! The updates of a branch projection's weight and of the pool's weight: what the four arrays hold after the grid of two blocks of rows, the reference's four
results, and the claims. -/

noncomputable section
open Idealize.ShloMosaic Idealize.ShloMosaic.TcCoe Idealize.ShloMosaic.Tactic Idealize.SL.Sem Idealize.ShloMosaic.StableHlo
open Idealize.ShloMosaic.ValueIdx
open Cert.Adam (gsum four ref_sum Step row place place_share)

/-! ### A branch projection -/

namespace Cert.Branch

section Block
open Cert.Kernel9Ideal Cert.Kernel9Ideal.Gen
variable (x0 : FVec Ideal S4x256x128 .bf16) (x1 x2 x3 : FVec Ideal S256x128 .f32)

theorem zero2 : (![0, 0] : Fin S256x128.rank → Nat) = fun _ => 0 := by decide

/-- What a point leaves in the four blocks. -/
theorem outs : Step x0 x1 x2 x3 (out0_4 (F := Ideal) x0 x1 x2 x3) (out0_5 (F := Ideal) x0 x1 x2 x3) (out0_6 (F := Ideal) x0 x1 x2 x3)
    (out0_7 (F := Ideal) x0 x1 x2 x3) := by
  intro p q
  unfold out0_4 out0_5 out0_6 out0_7
  simp only [View.canon_unit_zero (S := S256x128) zero2, View.ld_unit_zero (S := S256x128) zero2]
  rw [← four x0 shapeCasts_S1x256x128_S256x128]
  exact ⟨rfl, rfl, rfl, rfl⟩
end Block

section Array
open Cert.Kernel9Ideal Cert.Kernel9Ideal.Gen
variable (m : (ℓ : Loc nD τ sig) → Buf (Elt Ideal) ℓ) (c : Dev nD)

/-- Grid point `z`. -/
def pt (z : Fin 2) : Fin cfg0.N := ⟨z.val, lt_of_lt_of_eq z.isLt N_0.symm⟩

theorem rows : 512 = 2 * 256 := rfl

/-- Where the windows stand at each point. -/
theorem index_g : ∀ t : Fin grid0.N, win0_0.index t 0 = 0 ∧ win0_0.index t 1 = t.val ∧ win0_0.index t 2 = 0 := by decide +kernel
theorem index_row : ∀ t : Fin grid0.N, (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) := by decide +kernel

/-- The four arrays: the gradient, the change of the weight and the two moments. -/
theorem final : Step (V m c main_arg0 : FVec Ideal S4x512x128 .bf16) (V m c main_arg1 : FVec Ideal S512x128 .f32) (V m c main_arg2 : FVec Ideal S512x128 .f32)
    (V m c main_arg3 : FVec Ideal S512x128 .f32) ((dats m 0 c).arrAt 4 cfg0.N) ((dats m 0 c).arrAt 5 cfg0.N) ((dats m 0 c).arrAt 6 cfg0.N)
    ((dats m 0 c).arrAt 7 cfg0.N) :=
  Step.blocks rows (fun z => outs (iblk m c 0 (pt z)) (iblk m c 1 (pt z)) (iblk m c 2 (pt z)) (iblk m c 3 (pt z)))
    (fun z k p q => congrArg (V m c main_arg0) (place_share rows z k p q _ (index_g (pt z)) _ rfl rfl rfl))
    (fun z p q => congrArg (V m c main_arg1) (place rows z p q _ (index_row (pt z)).1 _ rfl rfl))
    (fun z p q => congrArg (V m c main_arg2) (place rows z p q _ (index_row (pt z)).2.1 _ rfl rfl))
    (fun z p q => congrArg (V m c main_arg3) (place rows z p q _ (index_row (pt z)).2.2.1 _ rfl rfl))
    (fun z p q => (congrArg ((dats m 0 c).arrAt 4 cfg0.N) (place rows z p q _ (index_row (pt z)).2.2.2.1 _ rfl rfl).symm).trans
      (congrFun ((Value.blocks4 m c (pt z) (flush0_4 _)).trans (Value.flushed4 m c (pt z))) (ix2 p q)))
    (fun z p q => (congrArg ((dats m 0 c).arrAt 5 cfg0.N) (place rows z p q _ (index_row (pt z)).2.2.2.2.1 _ rfl rfl).symm).trans
      (congrFun ((Value.blocks5 m c (pt z) (flush0_5 _)).trans (Value.flushed5 m c (pt z))) (ix2 p q)))
    (fun z p q => (congrArg ((dats m 0 c).arrAt 6 cfg0.N) (place rows z p q _ (index_row (pt z)).2.2.2.2.2.1 _ rfl rfl).symm).trans
      (congrFun ((Value.blocks6 m c (pt z) (flush0_6 _)).trans (Value.flushed6 m c (pt z))) (ix2 p q)))
    (fun z p q => (congrArg ((dats m 0 c).arrAt 7 cfg0.N) (place rows z p q _ (index_row (pt z)).2.2.2.2.2.2 _ rfl rfl).symm).trans
      (congrFun ((Value.blocks7 m c (pt z) (flush0_7 _)).trans (Value.flushed7 m c (pt z))) (ix2 p q)))
end Array

section Reference
open Cert.Reference9Ideal Cert.Reference9Ideal.Read
variable (x0 : FVec Ideal S4x512x128 .bf16) (x1 x2 x3 : FVec Ideal S512x128 .f32)

/-- The reference's four results. -/
theorem ref : Step x0 x1 x2 x3 (val_main_v1 (F := Ideal) x0) (val_main_v25 (F := Ideal) x0 x1 x2 x3) (val_main_v6 (F := Ideal) x0 x2)
    (val_main_v12 (F := Ideal) x0 x3) := by
  intro p q
  have g : val_main_v1 (F := Ideal) x0 (ix2 p q) = gsum x0 p q := by
    rw [val_main_v1_apply, val_main_cst_apply]
    exact ref_sum x0 p q _ (fun _ => rfl) (fun _ => rfl) fun _ => rfl
  rw [← g]
  exact ⟨rfl, rfl, rfl, rfl⟩

/-- The reference runs, keeps its arguments and declares no semaphore. -/
theorem reference_frame : Cert.quiescent_Reference9Ideal := by
  intro m g _
  exact (θ_run defs _ _).mono (fun r h => ⟨fun c => (h c).2.2.2.2, sem_eq_zero_of_no_sems (by decide) r.2⟩) (Value.run (F := Ideal) m g)
end Reference

open Cert.Kernel9Ideal Cert.Kernel9Ideal.Gen Cert.Reference9Ideal.Read

/-- The kernel's four results are the reference's, whatever the inputs. -/
theorem algebraic : Cert.algebraic_Kernel9Ideal_Reference9Ideal := by
  intro m g m' g' _ hagree
  refine ⟨fun c => (dats m 0 c).arrAt 4 cfg0.N, fun c => (dats m 0 c).arrAt 5 cfg0.N,
    fun c => (dats m 0 c).arrAt 6 cfg0.N, fun c => (dats m 0 c).arrAt 7 cfg0.N,
    Cert.Kernel9Ideal.Value.run_blocks m g,
    (θ_run Cert.Reference9Ideal.defs _ _).mono (fun r h c => ?_) (Cert.Reference9Ideal.Value.run (F := Ideal) m' g')⟩
  obtain ⟨a0, a1, a2, a3⟩ := hagree c
  obtain ⟨e0, e1, e2, e3⟩ := (final m c).unique (ref _ _ _ _) a0 a1 a2 a3
  exact ⟨((h c).1.trans (val_main_v1_eq _)).trans e0, ((h c).2.1.trans (val_main_v25_eq _ _ _ _)).trans e1,
    ((h c).2.2.1.trans (val_main_v6_eq _ _)).trans e2, ((h c).2.2.2.1.trans (val_main_v12_eq _ _)).trans e3, (h c).2.2.2.2⟩
end Cert.Branch

/-! ### The pool's weight -/

namespace Cert.PoolW

section Block
open Cert.Kernel14Ideal Cert.Kernel14Ideal.Gen
variable (x0 : FVec Ideal S4x256x128 .f32) (x1 x2 x3 : FVec Ideal S256x128 .f32)

theorem zero2 : (![0, 0] : Fin S256x128.rank → Nat) = fun _ => 0 := by decide

/-- What a point leaves in the four blocks. -/
theorem outs : Step x0 x1 x2 x3 (out0_4 (F := Ideal) x0 x1 x2 x3) (out0_5 (F := Ideal) x0 x1 x2 x3) (out0_6 (F := Ideal) x0 x1 x2 x3)
    (out0_7 (F := Ideal) x0 x1 x2 x3) := by
  intro p q
  unfold out0_4 out0_5 out0_6 out0_7
  simp only [View.canon_unit_zero (S := S256x128) zero2, View.ld_unit_zero (S := S256x128) zero2]
  rw [← four x0 shapeCasts_S1x256x128_S256x128]
  exact ⟨rfl, rfl, rfl, rfl⟩
end Block

section Array
open Cert.Kernel14Ideal Cert.Kernel14Ideal.Gen
variable (m : (ℓ : Loc nD τ sig) → Buf (Elt Ideal) ℓ) (c : Dev nD)

/-- Grid point `z`. -/
def pt (z : Fin 2) : Fin cfg0.N := ⟨z.val, lt_of_lt_of_eq z.isLt N_0.symm⟩

theorem rows : 512 = 2 * 256 := rfl

/-- Where the windows stand at each point. -/
theorem index_g : ∀ t : Fin grid0.N, win0_0.index t 0 = 0 ∧ win0_0.index t 1 = t.val ∧ win0_0.index t 2 = 0 := by decide +kernel
theorem index_row : ∀ t : Fin grid0.N, (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) := by decide +kernel

/-- The four arrays: the gradient, the change of the weight and the two moments. -/
theorem final : Step (V m c main_arg0 : FVec Ideal S4x512x128 .f32) (V m c main_arg1 : FVec Ideal S512x128 .f32) (V m c main_arg2 : FVec Ideal S512x128 .f32)
    (V m c main_arg3 : FVec Ideal S512x128 .f32) ((dats m 0 c).arrAt 4 cfg0.N) ((dats m 0 c).arrAt 5 cfg0.N) ((dats m 0 c).arrAt 6 cfg0.N)
    ((dats m 0 c).arrAt 7 cfg0.N) :=
  Step.blocks rows (fun z => outs (iblk m c 0 (pt z)) (iblk m c 1 (pt z)) (iblk m c 2 (pt z)) (iblk m c 3 (pt z)))
    (fun z k p q => congrArg (V m c main_arg0) (place_share rows z k p q _ (index_g (pt z)) _ rfl rfl rfl))
    (fun z p q => congrArg (V m c main_arg1) (place rows z p q _ (index_row (pt z)).1 _ rfl rfl))
    (fun z p q => congrArg (V m c main_arg2) (place rows z p q _ (index_row (pt z)).2.1 _ rfl rfl))
    (fun z p q => congrArg (V m c main_arg3) (place rows z p q _ (index_row (pt z)).2.2.1 _ rfl rfl))
    (fun z p q => (congrArg ((dats m 0 c).arrAt 4 cfg0.N) (place rows z p q _ (index_row (pt z)).2.2.2.1 _ rfl rfl).symm).trans
      (congrFun ((Value.blocks4 m c (pt z) (flush0_4 _)).trans (Value.flushed4 m c (pt z))) (ix2 p q)))
    (fun z p q => (congrArg ((dats m 0 c).arrAt 5 cfg0.N) (place rows z p q _ (index_row (pt z)).2.2.2.2.1 _ rfl rfl).symm).trans
      (congrFun ((Value.blocks5 m c (pt z) (flush0_5 _)).trans (Value.flushed5 m c (pt z))) (ix2 p q)))
    (fun z p q => (congrArg ((dats m 0 c).arrAt 6 cfg0.N) (place rows z p q _ (index_row (pt z)).2.2.2.2.2.1 _ rfl rfl).symm).trans
      (congrFun ((Value.blocks6 m c (pt z) (flush0_6 _)).trans (Value.flushed6 m c (pt z))) (ix2 p q)))
    (fun z p q => (congrArg ((dats m 0 c).arrAt 7 cfg0.N) (place rows z p q _ (index_row (pt z)).2.2.2.2.2.2 _ rfl rfl).symm).trans
      (congrFun ((Value.blocks7 m c (pt z) (flush0_7 _)).trans (Value.flushed7 m c (pt z))) (ix2 p q)))
end Array

section Reference
open Cert.Reference14Ideal Cert.Reference14Ideal.Read
variable (x0 : FVec Ideal S4x512x128 .f32) (x1 x2 x3 : FVec Ideal S512x128 .f32)

/-- The reference's four results. -/
theorem ref : Step x0 x1 x2 x3 (val_main_v0 (F := Ideal) x0) (val_main_v24 (F := Ideal) x0 x1 x2 x3) (val_main_v5 (F := Ideal) x0 x2)
    (val_main_v11 (F := Ideal) x0 x3) := by
  intro p q
  have g : val_main_v0 (F := Ideal) x0 (ix2 p q) = gsum x0 p q := by
    rw [val_main_v0_apply, val_main_cst_apply]
    exact ref_sum x0 p q _ (fun _ => rfl) (fun _ => rfl) fun _ => rfl
  rw [← g]
  exact ⟨rfl, rfl, rfl, rfl⟩

/-- The reference runs, keeps its arguments and declares no semaphore. -/
theorem reference_frame : Cert.quiescent_Reference14Ideal := by
  intro m g _
  exact (θ_run defs _ _).mono (fun r h => ⟨fun c => (h c).2.2.2.2, sem_eq_zero_of_no_sems (by decide) r.2⟩) (Value.run (F := Ideal) m g)
end Reference

open Cert.Kernel14Ideal Cert.Kernel14Ideal.Gen Cert.Reference14Ideal.Read

/-- The kernel's four results are the reference's, whatever the inputs. -/
theorem algebraic : Cert.algebraic_Kernel14Ideal_Reference14Ideal := by
  intro m g m' g' _ hagree
  refine ⟨fun c => (dats m 0 c).arrAt 4 cfg0.N, fun c => (dats m 0 c).arrAt 5 cfg0.N,
    fun c => (dats m 0 c).arrAt 6 cfg0.N, fun c => (dats m 0 c).arrAt 7 cfg0.N,
    Cert.Kernel14Ideal.Value.run_blocks m g,
    (θ_run Cert.Reference14Ideal.defs _ _).mono (fun r h c => ?_) (Cert.Reference14Ideal.Value.run (F := Ideal) m' g')⟩
  obtain ⟨a0, a1, a2, a3⟩ := hagree c
  obtain ⟨e0, e1, e2, e3⟩ := (final m c).unique (ref _ _ _ _) a0 a1 a2 a3
  exact ⟨((h c).1.trans (val_main_v0_eq _)).trans e0, ((h c).2.1.trans (val_main_v24_eq _ _ _ _)).trans e1,
    ((h c).2.2.1.trans (val_main_v5_eq _ _)).trans e2, ((h c).2.2.2.1.trans (val_main_v11_eq _ _)).trans e3, (h c).2.2.2.2⟩
end Cert.PoolW
end
end
-- ==== Proof.SmallResult.lean ====
module

public import proofs.«01_k».proof.Defs
public import proofs.«01_k».proof.Proof.AdamStep
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read

@[expose] public section
set_option maxRecDepth 16384

/-! The updates of the weights that fit one block, whose whole call is one grid point: what the four arrays end holding, the
reference's four results, and the claims; and the loss, the sum of the chips' losses. -/

noncomputable section
open Idealize.ShloMosaic Idealize.ShloMosaic.TcCoe Idealize.ShloMosaic.Tactic Idealize.SL.Sem Idealize.ShloMosaic.StableHlo
open Idealize.ShloMosaic.ValueIdx
open Cert.Adam (gsum four eight ref_sum same Step)

/-! ### The out-projection -/

namespace Cert.Wout
open Cert.Kernel10Ideal Cert.Kernel10Ideal.Gen Cert.Kernel10Ideal.Value Cert.Reference10Ideal.Read
variable (x0 : FVec Ideal ⟨3, ![4, 128, 1024]⟩ .bf16) (x1 x2 x3 : FVec Ideal ⟨2, ![128, 1024]⟩ .f32)

/-- What the call leaves in the four arrays. -/
theorem outs : Step x0 x1 x2 x3 (G4 (F := Ideal) x0 x1 x2 x3) (G5 (F := Ideal) x0 x1 x2 x3) (G6 (F := Ideal) x0 x1 x2 x3) (G7 (F := Ideal) x0 x1 x2 x3) := by
  intro p q
  rw [← four x0 shapeCasts_S1x128x1024_S128x1024]
  exact ⟨rfl, rfl, rfl, rfl⟩

/-- The reference's four results. -/
theorem ref : Step x0 x1 x2 x3 (val_main_v1 (F := Ideal) x0) (val_main_v25 (F := Ideal) x0 x1 x2 x3) (val_main_v6 (F := Ideal) x0 x2)
    (val_main_v12 (F := Ideal) x0 x3) := by
  intro p q
  have g : val_main_v1 (F := Ideal) x0 (ix2 p q) = gsum x0 p q := by
    rw [val_main_v1_apply, val_main_cst_apply]
    exact ref_sum x0 p q _ (fun _ => rfl) (fun _ => rfl) fun _ => rfl
  rw [← g]
  exact ⟨rfl, rfl, rfl, rfl⟩

/-- The reference runs, keeps its arguments and declares no semaphore. -/
theorem reference_frame : Cert.quiescent_Reference10Ideal := fun m g _ =>
  (θ_run Cert.Reference10Ideal.defs _ _).mono (fun r h => ⟨fun c => (h c).2.2.2.2, sem_eq_zero_of_no_sems (by decide) r.2⟩)
    (Cert.Reference10Ideal.Value.run (F := Ideal) m g)

/-- The kernel's results are the reference's, whatever the inputs. -/
theorem algebraic : Cert.algebraic_Kernel10Ideal_Reference10Ideal := by
  intro m g m' g' _ hagree
  refine ⟨_, _, _, _, run (F := Ideal) m g,
    (θ_run Cert.Reference10Ideal.defs _ _).mono (fun r h c => ?_) (Cert.Reference10Ideal.Value.run (F := Ideal) m' g')⟩
  obtain ⟨a0, a1, a2, a3⟩ := hagree c
  obtain ⟨e0, e1, e2, e3⟩ := (outs _ _ _ _).unique (ref _ _ _ _) a0 a1 a2 a3
  exact ⟨((h c).1.trans (val_main_v1_eq _)).trans e0, ((h c).2.1.trans (val_main_v25_eq _ _ _ _)).trans e1,
    ((h c).2.2.1.trans (val_main_v6_eq _ _)).trans e2, ((h c).2.2.2.1.trans (val_main_v12_eq _ _)).trans e3, (h c).2.2.2.2⟩
end Cert.Wout

/-! ### The norm's scale -/

namespace Cert.NormG
open Cert.Kernel11Ideal Cert.Kernel11Ideal.Gen Cert.Kernel11Ideal.Value Cert.Reference11Ideal.Read
variable (x0 : FVec Ideal ⟨3, ![8, 1, 1024]⟩ .f32) (x1 x2 x3 : FVec Ideal ⟨2, ![1, 1024]⟩ .f32)

/-- What the call leaves in the four arrays. -/
theorem outs : Step x0 x1 x2 x3 (G4 (F := Ideal) x0 x1 x2 x3) (G5 (F := Ideal) x0 x1 x2 x3) (G6 (F := Ideal) x0 x1 x2 x3) (G7 (F := Ideal) x0 x1 x2 x3) := by
  intro p q
  unfold G4 G5 G6 G7 k0_pay3 k0_pay4 k0_pay5 k0_pay6 k0_pay9 k0_pay10 k0_pay7 k0_pay8
  rw [View.ld_unit_zero (S := S1x1024) (by decide)]
  simp only [same]
  rw [← eight x0 shapeCasts_S1x1x1024_S1x1024]
  exact ⟨rfl, rfl, rfl, rfl⟩

/-- The reference's four results. -/
theorem ref : Step x0 x1 x2 x3 (val_main_v0 (F := Ideal) x0) (val_main_v24 (F := Ideal) x0 x1 x2 x3) (val_main_v5 (F := Ideal) x0 x2)
    (val_main_v11 (F := Ideal) x0 x3) := by
  intro p q
  have g : val_main_v0 (F := Ideal) x0 (ix2 p q) = gsum x0 p q := by
    rw [val_main_v0_apply, val_main_cst_apply]
    exact ref_sum x0 p q _ (fun _ => rfl) (fun _ => rfl) fun _ => rfl
  rw [← g]
  exact ⟨rfl, rfl, rfl, rfl⟩

/-- The reference runs, keeps its arguments and declares no semaphore. -/
theorem reference_frame : Cert.quiescent_Reference11Ideal := fun m g _ =>
  (θ_run Cert.Reference11Ideal.defs _ _).mono (fun r h => ⟨fun c => (h c).2.2.2.2, sem_eq_zero_of_no_sems (by decide) r.2⟩)
    (Cert.Reference11Ideal.Value.run (F := Ideal) m g)

/-- The kernel's results are the reference's, whatever the inputs. -/
theorem algebraic : Cert.algebraic_Kernel11Ideal_Reference11Ideal := by
  intro m g m' g' _ hagree
  refine ⟨_, _, _, _, run (F := Ideal) m g,
    (θ_run Cert.Reference11Ideal.defs _ _).mono (fun r h c => ?_) (Cert.Reference11Ideal.Value.run (F := Ideal) m' g')⟩
  obtain ⟨a0, a1, a2, a3⟩ := hagree c
  obtain ⟨e0, e1, e2, e3⟩ := (outs _ _ _ _).unique (ref _ _ _ _) a0 a1 a2 a3
  exact ⟨((h c).1.trans (val_main_v0_eq _)).trans e0, ((h c).2.1.trans (val_main_v24_eq _ _ _ _)).trans e1,
    ((h c).2.2.1.trans (val_main_v5_eq _ _)).trans e2, ((h c).2.2.2.1.trans (val_main_v11_eq _ _)).trans e3, (h c).2.2.2.2⟩
end Cert.NormG
/-! ### The conditioning's bias -/

namespace Cert.BAda
open Cert.Kernel12Ideal Cert.Kernel12Ideal.Gen Cert.Kernel12Ideal.Value Cert.Reference12Ideal.Read
variable (x0 : FVec Ideal ⟨3, ![8, 1, 3072]⟩ .f32) (x1 x2 x3 : FVec Ideal ⟨2, ![1, 3072]⟩ .f32)

/-- What the call leaves in the four arrays. -/
theorem outs : Step x0 x1 x2 x3 (G4 (F := Ideal) x0 x1 x2 x3) (G5 (F := Ideal) x0 x1 x2 x3) (G6 (F := Ideal) x0 x1 x2 x3) (G7 (F := Ideal) x0 x1 x2 x3) := by
  intro p q
  unfold G4 G5 G6 G7 k0_pay3 k0_pay4 k0_pay5 k0_pay6 k0_pay9 k0_pay10 k0_pay7 k0_pay8
  rw [View.ld_unit_zero (S := S1x3072) (by decide)]
  simp only [same]
  rw [← eight x0 shapeCasts_S1x1x3072_S1x3072]
  exact ⟨rfl, rfl, rfl, rfl⟩

/-- The reference's four results. -/
theorem ref : Step x0 x1 x2 x3 (val_main_v0 (F := Ideal) x0) (val_main_v24 (F := Ideal) x0 x1 x2 x3) (val_main_v5 (F := Ideal) x0 x2)
    (val_main_v11 (F := Ideal) x0 x3) := by
  intro p q
  have g : val_main_v0 (F := Ideal) x0 (ix2 p q) = gsum x0 p q := by
    rw [val_main_v0_apply, val_main_cst_apply]
    exact ref_sum x0 p q _ (fun _ => rfl) (fun _ => rfl) fun _ => rfl
  rw [← g]
  exact ⟨rfl, rfl, rfl, rfl⟩

/-- The reference runs, keeps its arguments and declares no semaphore. -/
theorem reference_frame : Cert.quiescent_Reference12Ideal := fun m g _ =>
  (θ_run Cert.Reference12Ideal.defs _ _).mono (fun r h => ⟨fun c => (h c).2.2.2.2, sem_eq_zero_of_no_sems (by decide) r.2⟩)
    (Cert.Reference12Ideal.Value.run (F := Ideal) m g)

/-- The kernel's results are the reference's, whatever the inputs. -/
theorem algebraic : Cert.algebraic_Kernel12Ideal_Reference12Ideal := by
  intro m g m' g' _ hagree
  refine ⟨_, _, _, _, run (F := Ideal) m g,
    (θ_run Cert.Reference12Ideal.defs _ _).mono (fun r h c => ?_) (Cert.Reference12Ideal.Value.run (F := Ideal) m' g')⟩
  obtain ⟨a0, a1, a2, a3⟩ := hagree c
  obtain ⟨e0, e1, e2, e3⟩ := (outs _ _ _ _).unique (ref _ _ _ _) a0 a1 a2 a3
  exact ⟨((h c).1.trans (val_main_v0_eq _)).trans e0, ((h c).2.1.trans (val_main_v24_eq _ _ _ _)).trans e1,
    ((h c).2.2.1.trans (val_main_v5_eq _ _)).trans e2, ((h c).2.2.2.1.trans (val_main_v11_eq _ _)).trans e3, (h c).2.2.2.2⟩
end Cert.BAda

/-! ### The relative position's bias -/

namespace Cert.RelBias
open Cert.Kernel13Ideal Cert.Kernel13Ideal.Gen Cert.Kernel13Ideal.Value Cert.Reference13Ideal.Read
variable (x0 : FVec Ideal ⟨3, ![8, 24, 32]⟩ .f32) (x1 x2 x3 : FVec Ideal ⟨2, ![24, 32]⟩ .f32)

/-- What the call leaves in the four arrays. -/
theorem outs : Step x0 x1 x2 x3 (G4 (F := Ideal) x0 x1 x2 x3) (G5 (F := Ideal) x0 x1 x2 x3) (G6 (F := Ideal) x0 x1 x2 x3) (G7 (F := Ideal) x0 x1 x2 x3) := by
  intro p q
  unfold G4 G5 G6 G7 k0_pay3 k0_pay4 k0_pay5 k0_pay6 k0_pay9 k0_pay10 k0_pay7 k0_pay8
  rw [View.ld_unit_zero (S := S24x32) (by decide)]
  simp only [same]
  rw [← eight x0 shapeCasts_S1x24x32_S24x32]
  exact ⟨rfl, rfl, rfl, rfl⟩

/-- The reference's four results. -/
theorem ref : Step x0 x1 x2 x3 (val_main_v0 (F := Ideal) x0) (val_main_v24 (F := Ideal) x0 x1 x2 x3) (val_main_v5 (F := Ideal) x0 x2)
    (val_main_v11 (F := Ideal) x0 x3) := by
  intro p q
  have g : val_main_v0 (F := Ideal) x0 (ix2 p q) = gsum x0 p q := by
    rw [val_main_v0_apply, val_main_cst_apply]
    exact ref_sum x0 p q _ (fun _ => rfl) (fun _ => rfl) fun _ => rfl
  rw [← g]
  exact ⟨rfl, rfl, rfl, rfl⟩

/-- The reference runs, keeps its arguments and declares no semaphore. -/
theorem reference_frame : Cert.quiescent_Reference13Ideal := fun m g _ =>
  (θ_run Cert.Reference13Ideal.defs _ _).mono (fun r h => ⟨fun c => (h c).2.2.2.2, sem_eq_zero_of_no_sems (by decide) r.2⟩)
    (Cert.Reference13Ideal.Value.run (F := Ideal) m g)

/-- The kernel's results are the reference's, whatever the inputs. -/
theorem algebraic : Cert.algebraic_Kernel13Ideal_Reference13Ideal := by
  intro m g m' g' _ hagree
  refine ⟨_, _, _, _, run (F := Ideal) m g,
    (θ_run Cert.Reference13Ideal.defs _ _).mono (fun r h c => ?_) (Cert.Reference13Ideal.Value.run (F := Ideal) m' g')⟩
  obtain ⟨a0, a1, a2, a3⟩ := hagree c
  obtain ⟨e0, e1, e2, e3⟩ := (outs _ _ _ _).unique (ref _ _ _ _) a0 a1 a2 a3
  exact ⟨((h c).1.trans (val_main_v0_eq _)).trans e0, ((h c).2.1.trans (val_main_v24_eq _ _ _ _)).trans e1,
    ((h c).2.2.1.trans (val_main_v5_eq _ _)).trans e2, ((h c).2.2.2.1.trans (val_main_v11_eq _ _)).trans e3, (h c).2.2.2.2⟩
end Cert.RelBias

/-! ### The pool's scale -/

namespace Cert.PoolScale
open Cert.Kernel15Ideal Cert.Kernel15Ideal.Gen Cert.Kernel15Ideal.Value Cert.Reference15Ideal.Read
variable (x0 : FVec Ideal ⟨3, ![4, 1, 512]⟩ .f32) (x1 x2 x3 : FVec Ideal ⟨2, ![1, 512]⟩ .f32)

/-- What the call leaves in the four arrays. -/
theorem outs : Step x0 x1 x2 x3 (G4 (F := Ideal) x0 x1 x2 x3) (G5 (F := Ideal) x0 x1 x2 x3) (G6 (F := Ideal) x0 x1 x2 x3) (G7 (F := Ideal) x0 x1 x2 x3) := by
  intro p q
  rw [← four x0 shapeCasts_S1x1x512_S1x512]
  exact ⟨rfl, rfl, rfl, rfl⟩

/-- The reference's four results. -/
theorem ref : Step x0 x1 x2 x3 (val_main_v0 (F := Ideal) x0) (val_main_v24 (F := Ideal) x0 x1 x2 x3) (val_main_v5 (F := Ideal) x0 x2)
    (val_main_v11 (F := Ideal) x0 x3) := by
  intro p q
  have g : val_main_v0 (F := Ideal) x0 (ix2 p q) = gsum x0 p q := by
    rw [val_main_v0_apply, val_main_cst_apply]
    exact ref_sum x0 p q _ (fun _ => rfl) (fun _ => rfl) fun _ => rfl
  rw [← g]
  exact ⟨rfl, rfl, rfl, rfl⟩

/-- The reference runs, keeps its arguments and declares no semaphore. -/
theorem reference_frame : Cert.quiescent_Reference15Ideal := fun m g _ =>
  (θ_run Cert.Reference15Ideal.defs _ _).mono (fun r h => ⟨fun c => (h c).2.2.2.2, sem_eq_zero_of_no_sems (by decide) r.2⟩)
    (Cert.Reference15Ideal.Value.run (F := Ideal) m g)

/-- The kernel's results are the reference's, whatever the inputs. -/
theorem algebraic : Cert.algebraic_Kernel15Ideal_Reference15Ideal := by
  intro m g m' g' _ hagree
  refine ⟨_, _, _, _, run (F := Ideal) m g,
    (θ_run Cert.Reference15Ideal.defs _ _).mono (fun r h c => ?_) (Cert.Reference15Ideal.Value.run (F := Ideal) m' g')⟩
  obtain ⟨a0, a1, a2, a3⟩ := hagree c
  obtain ⟨e0, e1, e2, e3⟩ := (outs _ _ _ _).unique (ref _ _ _ _) a0 a1 a2 a3
  exact ⟨((h c).1.trans (val_main_v0_eq _)).trans e0, ((h c).2.1.trans (val_main_v24_eq _ _ _ _)).trans e1,
    ((h c).2.2.1.trans (val_main_v5_eq _ _)).trans e2, ((h c).2.2.2.1.trans (val_main_v11_eq _ _)).trans e3, (h c).2.2.2.2⟩
end Cert.PoolScale

/-! ### The final norm's scale -/

namespace Cert.FinalG
open Cert.Kernel16Ideal Cert.Kernel16Ideal.Gen Cert.Kernel16Ideal.Value Cert.Reference16Ideal.Read
variable (x0 : FVec Ideal ⟨3, ![4, 1, 1024]⟩ .f32) (x1 x2 x3 : FVec Ideal ⟨2, ![1, 1024]⟩ .f32)

/-- What the call leaves in the four arrays. -/
theorem outs : Step x0 x1 x2 x3 (G4 (F := Ideal) x0 x1 x2 x3) (G5 (F := Ideal) x0 x1 x2 x3) (G6 (F := Ideal) x0 x1 x2 x3) (G7 (F := Ideal) x0 x1 x2 x3) := by
  intro p q
  rw [← four x0 shapeCasts_S1x1x1024_S1x1024]
  exact ⟨rfl, rfl, rfl, rfl⟩

/-- The reference's four results. -/
theorem ref : Step x0 x1 x2 x3 (val_main_v0 (F := Ideal) x0) (val_main_v24 (F := Ideal) x0 x1 x2 x3) (val_main_v5 (F := Ideal) x0 x2)
    (val_main_v11 (F := Ideal) x0 x3) := by
  intro p q
  have g : val_main_v0 (F := Ideal) x0 (ix2 p q) = gsum x0 p q := by
    rw [val_main_v0_apply, val_main_cst_apply]
    exact ref_sum x0 p q _ (fun _ => rfl) (fun _ => rfl) fun _ => rfl
  rw [← g]
  exact ⟨rfl, rfl, rfl, rfl⟩

/-- The reference runs, keeps its arguments and declares no semaphore. -/
theorem reference_frame : Cert.quiescent_Reference16Ideal := fun m g _ =>
  (θ_run Cert.Reference16Ideal.defs _ _).mono (fun r h => ⟨fun c => (h c).2.2.2.2, sem_eq_zero_of_no_sems (by decide) r.2⟩)
    (Cert.Reference16Ideal.Value.run (F := Ideal) m g)

/-- The kernel's results are the reference's, whatever the inputs. -/
theorem algebraic : Cert.algebraic_Kernel16Ideal_Reference16Ideal := by
  intro m g m' g' _ hagree
  refine ⟨_, _, _, _, run (F := Ideal) m g,
    (θ_run Cert.Reference16Ideal.defs _ _).mono (fun r h c => ?_) (Cert.Reference16Ideal.Value.run (F := Ideal) m' g')⟩
  obtain ⟨a0, a1, a2, a3⟩ := hagree c
  obtain ⟨e0, e1, e2, e3⟩ := (outs _ _ _ _).unique (ref _ _ _ _) a0 a1 a2 a3
  exact ⟨((h c).1.trans (val_main_v0_eq _)).trans e0, ((h c).2.1.trans (val_main_v24_eq _ _ _ _)).trans e1,
    ((h c).2.2.1.trans (val_main_v5_eq _ _)).trans e2, ((h c).2.2.2.1.trans (val_main_v11_eq _ _)).trans e3, (h c).2.2.2.2⟩
end Cert.FinalG

/-! ### The loss -/

namespace Cert.Loss
open Cert.Kernel17Ideal Cert.Kernel17Ideal.Gen Cert.Kernel17Ideal.Value Cert.Reference17Ideal.Read

/-- Both programs add up the four chips' losses. -/
theorem loss_eq (x : FVec Ideal ⟨3, ![4, 1, 128]⟩ .f32) : val_main_v0 (F := Ideal) x = G1 (F := Ideal) x := by
  refine Cert.Adam.by_entries (r := 1) (n := 128) _ _ fun p q => ?_
  rw [val_main_v0_apply, val_main_cst_apply]
  exact (ref_sum x p q _ (fun _ => rfl) (fun _ => rfl) fun _ => rfl).trans (four x shapeCasts_S1x1x128_S1x128 p q).symm

/-- The reference runs, keeps its arguments and declares no semaphore. -/
theorem reference_frame : Cert.quiescent_Reference17Ideal := fun m g _ =>
  (θ_run Cert.Reference17Ideal.defs _ _).mono (fun r h => ⟨fun c => (h c).2, sem_eq_zero_of_no_sems (by decide) r.2⟩)
    (Cert.Reference17Ideal.Value.run (F := Ideal) m g)

/-- The kernel's results are the reference's, whatever the inputs. -/
theorem algebraic : Cert.algebraic_Kernel17Ideal_Reference17Ideal := by
  intro m g m' g' _ hagree
  refine ⟨_, run (F := Ideal) m g,
    (θ_run Cert.Reference17Ideal.defs _ _).mono (fun r h c => ?_) (Cert.Reference17Ideal.Value.run (F := Ideal) m' g')⟩
  exact ⟨((h c).1.trans (val_main_v0_eq _)).trans ((loss_eq _).trans (congrArg (G1 (F := Ideal)) (hagree c))), (h c).2⟩
end Cert.Loss
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Result
public import proofs.«01_k».proof.Proof.DhResult
public import proofs.«01_k».proof.Proof.DwResult
public import proofs.«01_k».proof.Proof.ProjResult
public import proofs.«01_k».proof.Proof.GatesResult
public import proofs.«01_k».proof.Proof.NormResult
public import proofs.«01_k».proof.Proof.AdaResult
public import proofs.«01_k».proof.Proof.AdamResult
public import proofs.«01_k».proof.Proof.BranchResult
public import proofs.«01_k».proof.Proof.SmallResult
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Attn.pre_facts, Cert.Gates.pre_facts,
    fun m ρ _ => Cert.Kernel.Gen.frame m ρ,
    fun m ρ _ => Cert.KernelIdeal.Gen.frame m ρ,
    fun m ρ _ => Cert.KernelIdeal.Gen.frame m ρ,
    fun m ρ _ => Cert.Attn.reference_frame m ρ trivial,
    fun m ρ _ => Cert.Attn.reference_frame m ρ trivial,
    fun m ρ _ => Cert.Kernel2.Gen.frame m ρ,
    fun m ρ _ => Cert.Kernel2Ideal.Gen.frame m ρ,
    fun m ρ _ => Cert.Dh.reference_frame m ρ trivial,
    fun m ρ _ => Cert.Kernel3.Gen.frame m ρ,
    fun m ρ _ => Cert.Kernel3Ideal.Gen.frame m ρ,
    fun m ρ _ => Cert.Dw.reference_frame m ρ trivial,
    fun m ρ _ => Cert.Kernel4.Gen.frame m ρ,
    fun m ρ _ => Cert.Kernel4Ideal.Gen.frame m ρ,
    fun m ρ _ => Cert.Proj.reference_frame m ρ trivial,
    fun m ρ _ => Cert.Kernel5.Gen.frame m ρ,
    fun m ρ _ => Cert.Kernel5Ideal.Gen.frame m ρ,
    fun m ρ _ => Cert.Kernel5Ideal.Gen.frame m ρ,
    fun m ρ _ => Cert.Gates.reference_frame m ρ trivial,
    fun m ρ _ => Cert.Gates.reference_frame m ρ trivial,
    fun m ρ _ => Cert.Kernel6.Gen.frame m ρ,
    fun m ρ _ => Cert.Kernel6Ideal.Gen.frame m ρ,
    fun m ρ _ => Cert.Norm.reference_frame m ρ trivial,
    fun m ρ _ => Cert.Kernel7.Gen.frame m ρ,
    fun m ρ _ => Cert.Kernel7Ideal.Gen.frame m ρ,
    fun m ρ _ => Cert.Ada.reference_frame m ρ trivial,
    fun m ρ _ => Cert.Kernel8.Gen.frame m ρ,
    fun m ρ _ => Cert.Kernel8Ideal.Gen.frame m ρ,
    fun m ρ _ => Cert.Adam.reference_frame m ρ trivial,
    fun m ρ _ => Cert.Kernel9.Gen.frame m ρ,
    fun m ρ _ => Cert.Kernel9Ideal.Gen.frame m ρ,
    fun m ρ _ => Cert.Branch.reference_frame m ρ trivial,
    fun m ρ _ => Cert.Kernel10.Gen.frame m ρ,
    fun m ρ _ => Cert.Kernel10Ideal.Gen.frame m ρ,
    fun m ρ _ => Cert.Wout.reference_frame m ρ trivial,
    fun m ρ _ => Cert.Kernel11.Gen.frame m ρ,
    fun m ρ _ => Cert.Kernel11Ideal.Gen.frame m ρ,
    fun m ρ _ => Cert.NormG.reference_frame m ρ trivial,
    fun m ρ _ => Cert.Kernel12.Gen.frame m ρ,
    fun m ρ _ => Cert.Kernel12Ideal.Gen.frame m ρ,
    fun m ρ _ => Cert.BAda.reference_frame m ρ trivial,
    fun m ρ _ => Cert.Kernel13.Gen.frame m ρ,
    fun m ρ _ => Cert.Kernel13Ideal.Gen.frame m ρ,
    fun m ρ _ => Cert.RelBias.reference_frame m ρ trivial,
    fun m ρ _ => Cert.Kernel14.Gen.frame m ρ,
    fun m ρ _ => Cert.Kernel14Ideal.Gen.frame m ρ,
    fun m ρ _ => Cert.PoolW.reference_frame m ρ trivial,
    fun m ρ _ => Cert.Kernel15.Gen.frame m ρ,
    fun m ρ _ => Cert.Kernel15Ideal.Gen.frame m ρ,
    fun m ρ _ => Cert.PoolScale.reference_frame m ρ trivial,
    fun m ρ _ => Cert.Kernel16.Gen.frame m ρ,
    fun m ρ _ => Cert.Kernel16Ideal.Gen.frame m ρ,
    fun m ρ _ => Cert.FinalG.reference_frame m ρ trivial,
    fun m ρ _ => Cert.Kernel17.Gen.frame m ρ,
    fun m ρ _ => Cert.Kernel17Ideal.Gen.frame m ρ,
    fun m ρ _ => Cert.Loss.reference_frame m ρ trivial,
    trivial,
    Cert.Attn.algebraic Cert.Attn.pre_facts,
    trivial,
    Cert.Dh.algebraic,
    trivial,
    Cert.Dw.algebraic,
    trivial,
    Cert.Proj.algebraic,
    trivial,
    Cert.Gates.algebraic Cert.Gates.pre_facts,
    trivial,
    Cert.Norm.algebraic,
    trivial,
    Cert.Ada.algebraic,
    trivial,
    Cert.Adam.algebraic,
    trivial,
    Cert.Branch.algebraic,
    trivial,
    Cert.Wout.algebraic,
    trivial,
    Cert.NormG.algebraic,
    trivial,
    Cert.BAda.algebraic,
    trivial,
    Cert.RelBias.algebraic,
    trivial,
    Cert.PoolW.algebraic,
    trivial,
    Cert.PoolScale.algebraic,
    trivial,
    Cert.FinalG.algebraic,
    trivial,
    Cert.Loss.algebraic⟩

end Cert.Proof

end
